-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_NormGrad1 (m : (ℓ : Loc Cert.NormGrad1.nD Cert.NormGrad1.τ Cert.NormGrad1.sig) → Buf (Elt Bits) ℓ) : Prop :=
  True

def Pre_NormGrad1Ideal (m : (ℓ : Loc Cert.NormGrad1Ideal.nD Cert.NormGrad1Ideal.τ Cert.NormGrad1Ideal.sig) → Buf (Elt Ideal) ℓ) : Prop :=
  True

def Pre_RNormGrad1Ideal (m : (ℓ : Loc Cert.RNormGrad1Ideal.nD Cert.RNormGrad1Ideal.τ Cert.RNormGrad1Ideal.sig) → Buf (Elt Ideal) ℓ) : Prop :=
  True

def Pre_NormGrad2 (m : (ℓ : Loc Cert.NormGrad2.nD Cert.NormGrad2.τ Cert.NormGrad2.sig) → Buf (Elt Bits) ℓ) : Prop :=
  True

def Pre_NormGrad2Ideal (m : (ℓ : Loc Cert.NormGrad2Ideal.nD Cert.NormGrad2Ideal.τ Cert.NormGrad2Ideal.sig) → Buf (Elt Ideal) ℓ) : Prop :=
  True

def Pre_RNormGrad2Ideal (m : (ℓ : Loc Cert.RNormGrad2Ideal.nD Cert.RNormGrad2Ideal.τ Cert.RNormGrad2Ideal.sig) → Buf (Elt Ideal) ℓ) : Prop :=
  True

def Pre_NormGrad3 (m : (ℓ : Loc Cert.NormGrad3.nD Cert.NormGrad3.τ Cert.NormGrad3.sig) → Buf (Elt Bits) ℓ) : Prop :=
  True

def Pre_NormGrad3Ideal (m : (ℓ : Loc Cert.NormGrad3Ideal.nD Cert.NormGrad3Ideal.τ Cert.NormGrad3Ideal.sig) → Buf (Elt Ideal) ℓ) : Prop :=
  True

def Pre_RNormGrad3Ideal (m : (ℓ : Loc Cert.RNormGrad3Ideal.nD Cert.RNormGrad3Ideal.τ Cert.RNormGrad3Ideal.sig) → Buf (Elt Ideal) ℓ) : Prop :=
  True

def Pre_InGrad1 (m : (ℓ : Loc Cert.InGrad1.nD Cert.InGrad1.τ Cert.InGrad1.sig) → Buf (Elt Bits) ℓ) : Prop :=
  True

def Pre_InGrad1Ideal (m : (ℓ : Loc Cert.InGrad1Ideal.nD Cert.InGrad1Ideal.τ Cert.InGrad1Ideal.sig) → Buf (Elt Ideal) ℓ) : Prop :=
  True

def Pre_RInGrad1Ideal (m : (ℓ : Loc Cert.RInGrad1Ideal.nD Cert.RInGrad1Ideal.τ Cert.RInGrad1Ideal.sig) → Buf (Elt Ideal) ℓ) : Prop :=
  True

def Pre_InGrad2 (m : (ℓ : Loc Cert.InGrad2.nD Cert.InGrad2.τ Cert.InGrad2.sig) → Buf (Elt Bits) ℓ) : Prop :=
  True

def Pre_InGrad2Ideal (m : (ℓ : Loc Cert.InGrad2Ideal.nD Cert.InGrad2Ideal.τ Cert.InGrad2Ideal.sig) → Buf (Elt Ideal) ℓ) : Prop :=
  True

def Pre_RInGrad2Ideal (m : (ℓ : Loc Cert.RInGrad2Ideal.nD Cert.RInGrad2Ideal.τ Cert.RInGrad2Ideal.sig) → Buf (Elt Ideal) ℓ) : Prop :=
  True

def Pre_InGrad3 (m : (ℓ : Loc Cert.InGrad3.nD Cert.InGrad3.τ Cert.InGrad3.sig) → Buf (Elt Bits) ℓ) : Prop :=
  True

def Pre_InGrad3Ideal (m : (ℓ : Loc Cert.InGrad3Ideal.nD Cert.InGrad3Ideal.τ Cert.InGrad3Ideal.sig) → Buf (Elt Ideal) ℓ) : Prop :=
  True

def Pre_RInGrad3Ideal (m : (ℓ : Loc Cert.RInGrad3Ideal.nD Cert.RInGrad3Ideal.τ Cert.RInGrad3Ideal.sig) → Buf (Elt Ideal) ℓ) : Prop :=
  True

def Pre_OutGrad1 (m : (ℓ : Loc Cert.OutGrad1.nD Cert.OutGrad1.τ Cert.OutGrad1.sig) → Buf (Elt Bits) ℓ) : Prop :=
  True

def Pre_OutGrad1Ideal (m : (ℓ : Loc Cert.OutGrad1Ideal.nD Cert.OutGrad1Ideal.τ Cert.OutGrad1Ideal.sig) → Buf (Elt Ideal) ℓ) : Prop :=
  True

def Pre_ROutGrad1Ideal (m : (ℓ : Loc Cert.ROutGrad1Ideal.nD Cert.ROutGrad1Ideal.τ Cert.ROutGrad1Ideal.sig) → Buf (Elt Ideal) ℓ) : Prop :=
  True

def Pre_OutGrad3 (m : (ℓ : Loc Cert.OutGrad3.nD Cert.OutGrad3.τ Cert.OutGrad3.sig) → Buf (Elt Bits) ℓ) : Prop :=
  True

def Pre_OutGrad3Ideal (m : (ℓ : Loc Cert.OutGrad3Ideal.nD Cert.OutGrad3Ideal.τ Cert.OutGrad3Ideal.sig) → Buf (Elt Ideal) ℓ) : Prop :=
  True

def Pre_ROutGrad3Ideal (m : (ℓ : Loc Cert.ROutGrad3Ideal.nD Cert.ROutGrad3Ideal.τ Cert.ROutGrad3Ideal.sig) → Buf (Elt Ideal) ℓ) : Prop :=
  True

def Pre_GluGrad3 (m : (ℓ : Loc Cert.GluGrad3.nD Cert.GluGrad3.τ Cert.GluGrad3.sig) → Buf (Elt Bits) ℓ) : Prop :=
  True

def Pre_GluGrad3Ideal (m : (ℓ : Loc Cert.GluGrad3Ideal.nD Cert.GluGrad3Ideal.τ Cert.GluGrad3Ideal.sig) → Buf (Elt Ideal) ℓ) : Prop :=
  True

def Pre_RGluGrad3Ideal (m : (ℓ : Loc Cert.RGluGrad3Ideal.nD Cert.RGluGrad3Ideal.τ Cert.RGluGrad3Ideal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_ROut1Ideal (m : (ℓ : Loc Cert.ROut1Ideal.nD Cert.ROut1Ideal.τ Cert.ROut1Ideal.sig) → Buf (Elt Ideal) ℓ) : Prop :=
  True

def Pre_Out3 (m : (ℓ : Loc Cert.Out3.nD Cert.Out3.τ Cert.Out3.sig) → Buf (Elt Bits) ℓ) : Prop :=
  True

def Pre_Out3Ideal (m : (ℓ : Loc Cert.Out3Ideal.nD Cert.Out3Ideal.τ Cert.Out3Ideal.sig) → Buf (Elt Ideal) ℓ) : Prop :=
  True

def Pre_ROut3Ideal (m : (ℓ : Loc Cert.ROut3Ideal.nD Cert.ROut3Ideal.τ Cert.ROut3Ideal.sig) → Buf (Elt Ideal) ℓ) : Prop :=
  True

def Pre_YgGrad3 (m : (ℓ : Loc Cert.YgGrad3.nD Cert.YgGrad3.τ Cert.YgGrad3.sig) → Buf (Elt Bits) ℓ) : Prop :=
  True

def Pre_YgGrad3Ideal (m : (ℓ : Loc Cert.YgGrad3Ideal.nD Cert.YgGrad3Ideal.τ Cert.YgGrad3Ideal.sig) → Buf (Elt Ideal) ℓ) : Prop :=
  True

def Pre_RYgGrad3Ideal (m : (ℓ : Loc Cert.RYgGrad3Ideal.nD Cert.RYgGrad3Ideal.τ Cert.RYgGrad3Ideal.sig) → Buf (Elt Ideal) ℓ) : Prop :=
  True

def Pre_In1 (m : (ℓ : Loc Cert.In1.nD Cert.In1.τ Cert.In1.sig) → Buf (Elt Bits) ℓ) : Prop :=
  True

def Pre_In1Ideal (m : (ℓ : Loc Cert.In1Ideal.nD Cert.In1Ideal.τ Cert.In1Ideal.sig) → Buf (Elt Ideal) ℓ) : Prop :=
  True

def Pre_RIn1Ideal (m : (ℓ : Loc Cert.RIn1Ideal.nD Cert.RIn1Ideal.τ Cert.RIn1Ideal.sig) → Buf (Elt Ideal) ℓ) : Prop :=
  True

def Pre_In2 (m : (ℓ : Loc Cert.In2.nD Cert.In2.τ Cert.In2.sig) → Buf (Elt Bits) ℓ) : Prop :=
  True

def Pre_In2Ideal (m : (ℓ : Loc Cert.In2Ideal.nD Cert.In2Ideal.τ Cert.In2Ideal.sig) → Buf (Elt Ideal) ℓ) : Prop :=
  True

def Pre_RIn2Ideal (m : (ℓ : Loc Cert.RIn2Ideal.nD Cert.RIn2Ideal.τ Cert.RIn2Ideal.sig) → Buf (Elt Ideal) ℓ) : Prop :=
  True

def Pre_In3 (m : (ℓ : Loc Cert.In3.nD Cert.In3.τ Cert.In3.sig) → Buf (Elt Bits) ℓ) : Prop :=
  True

def Pre_In3Ideal (m : (ℓ : Loc Cert.In3Ideal.nD Cert.In3Ideal.τ Cert.In3Ideal.sig) → Buf (Elt Ideal) ℓ) : Prop :=
  True

def Pre_RIn3Ideal (m : (ℓ : Loc Cert.RIn3Ideal.nD Cert.RIn3Ideal.τ Cert.RIn3Ideal.sig) → Buf (Elt Ideal) ℓ) : Prop :=
  True

def Pre_MixedGrad2 (m : (ℓ : Loc Cert.MixedGrad2.nD Cert.MixedGrad2.τ Cert.MixedGrad2.sig) → Buf (Elt Bits) ℓ) : Prop :=
  True

def Pre_MixedGrad2Ideal (m : (ℓ : Loc Cert.MixedGrad2Ideal.nD Cert.MixedGrad2Ideal.τ Cert.MixedGrad2Ideal.sig) → Buf (Elt Ideal) ℓ) : Prop :=
  True

def Pre_RMixedGrad2Ideal (m : (ℓ : Loc Cert.RMixedGrad2Ideal.nD Cert.RMixedGrad2Ideal.τ Cert.RMixedGrad2Ideal.sig) → Buf (Elt Ideal) ℓ) : Prop :=
  True

def Pre_GrpGrad2 (m : (ℓ : Loc Cert.GrpGrad2.nD Cert.GrpGrad2.τ Cert.GrpGrad2.sig) → Buf (Elt Bits) ℓ) : Prop :=
  True

def Pre_GrpGrad2Ideal (m : (ℓ : Loc Cert.GrpGrad2Ideal.nD Cert.GrpGrad2Ideal.τ Cert.GrpGrad2Ideal.sig) → Buf (Elt Ideal) ℓ) : Prop :=
  True

def Pre_RGrpGrad2Ideal (m : (ℓ : Loc Cert.RGrpGrad2Ideal.nD Cert.RGrpGrad2Ideal.τ Cert.RGrpGrad2Ideal.sig) → Buf (Elt Ideal) ℓ) : Prop :=
  True

def Pre_Grp2 (m : (ℓ : Loc Cert.Grp2.nD Cert.Grp2.τ Cert.Grp2.sig) → Buf (Elt Bits) ℓ) : Prop :=
  True

def Pre_Grp2Ideal (m : (ℓ : Loc Cert.Grp2Ideal.nD Cert.Grp2Ideal.τ Cert.Grp2Ideal.sig) → Buf (Elt Ideal) ℓ) : Prop :=
  True

def Pre_RGrp2Ideal (m : (ℓ : Loc Cert.RGrp2Ideal.nD Cert.RGrp2Ideal.τ Cert.RGrp2Ideal.sig) → Buf (Elt Ideal) ℓ) : Prop :=
  True

def Pre_Glu3 (m : (ℓ : Loc Cert.Glu3.nD Cert.Glu3.τ Cert.Glu3.sig) → Buf (Elt Bits) ℓ) : Prop :=
  True

def Pre_Glu3Ideal (m : (ℓ : Loc Cert.Glu3Ideal.nD Cert.Glu3Ideal.τ Cert.Glu3Ideal.sig) → Buf (Elt Ideal) ℓ) : Prop :=
  True

def Pre_RGlu3Ideal (m : (ℓ : Loc Cert.RGlu3Ideal.nD Cert.RGlu3Ideal.τ Cert.RGlu3Ideal.sig) → Buf (Elt Ideal) ℓ) : Prop :=
  True

def Pre_PoolGate2 (m : (ℓ : Loc Cert.PoolGate2.nD Cert.PoolGate2.τ Cert.PoolGate2.sig) → Buf (Elt Bits) ℓ) : Prop :=
  True

def Pre_PoolGate2Ideal (m : (ℓ : Loc Cert.PoolGate2Ideal.nD Cert.PoolGate2Ideal.τ Cert.PoolGate2Ideal.sig) → Buf (Elt Ideal) ℓ) : Prop :=
  True

def Pre_RPoolGate2Ideal (m : (ℓ : Loc Cert.RPoolGate2Ideal.nD Cert.RPoolGate2Ideal.τ Cert.RPoolGate2Ideal.sig) → Buf (Elt Ideal) ℓ) : Prop :=
  True

def Pre_GateGrad3 (m : (ℓ : Loc Cert.GateGrad3.nD Cert.GateGrad3.τ Cert.GateGrad3.sig) → Buf (Elt Bits) ℓ) : Prop :=
  True

def Pre_GateGrad3Ideal (m : (ℓ : Loc Cert.GateGrad3Ideal.nD Cert.GateGrad3Ideal.τ Cert.GateGrad3Ideal.sig) → Buf (Elt Ideal) ℓ) : Prop :=
  True

def Pre_RGateGrad3Ideal (m : (ℓ : Loc Cert.RGateGrad3Ideal.nD Cert.RGateGrad3Ideal.τ Cert.RGateGrad3Ideal.sig) → Buf (Elt Ideal) ℓ) : Prop :=
  True

def Pre_Conv1 (m : (ℓ : Loc Cert.Conv1.nD Cert.Conv1.τ Cert.Conv1.sig) → Buf (Elt Bits) ℓ) : Prop :=
  True

def Pre_Conv1Ideal (m : (ℓ : Loc Cert.Conv1Ideal.nD Cert.Conv1Ideal.τ Cert.Conv1Ideal.sig) → Buf (Elt Ideal) ℓ) : Prop :=
  True

def Pre_RConv1Ideal (m : (ℓ : Loc Cert.RConv1Ideal.nD Cert.RConv1Ideal.τ Cert.RConv1Ideal.sig) → Buf (Elt Ideal) ℓ) : Prop :=
  True

def Pre_Pool2 (m : (ℓ : Loc Cert.Pool2.nD Cert.Pool2.τ Cert.Pool2.sig) → Buf (Elt Bits) ℓ) : Prop :=
  True

def Pre_Pool2Ideal (m : (ℓ : Loc Cert.Pool2Ideal.nD Cert.Pool2Ideal.τ Cert.Pool2Ideal.sig) → Buf (Elt Ideal) ℓ) : Prop :=
  True

def Pre_Pool2Ideal_projection_finite [hPre_projection_finite : Cert.Pre_projection_finite.Facts] (m : (ℓ : Loc Cert.Pool2Ideal.nD Cert.Pool2Ideal.τ Cert.Pool2Ideal.sig) → Buf (Elt Ideal) ℓ) : Prop :=
  ∀ c : Dev Cert.Pool2Ideal.nD,
    (Cert.Pre_projection_finite.fn (F := Ideal) (m ((c.tc : Thread Cert.Pool2Ideal.nD Cert.Pool2Ideal.τ).loc Cert.Pool2Ideal.main_arg0))) = (fun _ => 1#1)

def Pre_RPool2Ideal (m : (ℓ : Loc Cert.RPool2Ideal.nD Cert.RPool2Ideal.τ Cert.RPool2Ideal.sig) → Buf (Elt Ideal) ℓ) : Prop :=
  True

def Pre_RPool2Ideal_projection_finite [hPre_projection_finite : Cert.Pre_projection_finite.Facts] (m : (ℓ : Loc Cert.RPool2Ideal.nD Cert.RPool2Ideal.τ Cert.RPool2Ideal.sig) → Buf (Elt Ideal) ℓ) : Prop :=
  ∀ c : Dev Cert.RPool2Ideal.nD,
    (Cert.Pre_projection_finite.fn (F := Ideal) (m ((c.tc : Thread Cert.RPool2Ideal.nD Cert.RPool2Ideal.τ).loc Cert.RPool2Ideal.main_arg0))) = (fun _ => 1#1)

def Pre_PoolGrad2 (m : (ℓ : Loc Cert.PoolGrad2.nD Cert.PoolGrad2.τ Cert.PoolGrad2.sig) → Buf (Elt Bits) ℓ) : Prop :=
  True

def Pre_PoolGrad2Ideal (m : (ℓ : Loc Cert.PoolGrad2Ideal.nD Cert.PoolGrad2Ideal.τ Cert.PoolGrad2Ideal.sig) → Buf (Elt Ideal) ℓ) : Prop :=
  True

def Pre_PoolGrad2Ideal_gradient_finite [hPre_gradient_finite : Cert.Pre_gradient_finite.Facts] (m : (ℓ : Loc Cert.PoolGrad2Ideal.nD Cert.PoolGrad2Ideal.τ Cert.PoolGrad2Ideal.sig) → Buf (Elt Ideal) ℓ) : Prop :=
  ∀ c : Dev Cert.PoolGrad2Ideal.nD,
    (Cert.Pre_gradient_finite.fn (F := Ideal) (m ((c.tc : Thread Cert.PoolGrad2Ideal.nD Cert.PoolGrad2Ideal.τ).loc Cert.PoolGrad2Ideal.main_arg0)) (m ((c.tc : Thread Cert.PoolGrad2Ideal.nD Cert.PoolGrad2Ideal.τ).loc Cert.PoolGrad2Ideal.main_arg1))) = (fun _ => 1#1)

def Pre_RPoolGrad2Ideal (m : (ℓ : Loc Cert.RPoolGrad2Ideal.nD Cert.RPoolGrad2Ideal.τ Cert.RPoolGrad2Ideal.sig) → Buf (Elt Ideal) ℓ) : Prop :=
  True

def Pre_RPoolGrad2Ideal_gradient_finite [hPre_gradient_finite : Cert.Pre_gradient_finite.Facts] (m : (ℓ : Loc Cert.RPoolGrad2Ideal.nD Cert.RPoolGrad2Ideal.τ Cert.RPoolGrad2Ideal.sig) → Buf (Elt Ideal) ℓ) : Prop :=
  ∀ c : Dev Cert.RPoolGrad2Ideal.nD,
    (Cert.Pre_gradient_finite.fn (F := Ideal) (m ((c.tc : Thread Cert.RPoolGrad2Ideal.nD Cert.RPoolGrad2Ideal.τ).loc Cert.RPoolGrad2Ideal.main_arg0)) (m ((c.tc : Thread Cert.RPoolGrad2Ideal.nD Cert.RPoolGrad2Ideal.τ).loc Cert.RPoolGrad2Ideal.main_arg1))) = (fun _ => 1#1)

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_RAdamwInIdeal (m : (ℓ : Loc Cert.RAdamwInIdeal.nD Cert.RAdamwInIdeal.τ Cert.RAdamwInIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_RLossIdeal (m : (ℓ : Loc Cert.RLossIdeal.nD Cert.RLossIdeal.τ Cert.RLossIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_NormGrad1 [hNormGrad1 : Cert.NormGrad1.Facts] : Prop :=
  ∀ (m : (ℓ : Loc Cert.NormGrad1.nD Cert.NormGrad1.τ Cert.NormGrad1.sig) → Buf (Elt Bits) ℓ) (g : Dev Cert.NormGrad1.nD → PrngReg), Pre_NormGrad1 m →
    θ_run (Cert.NormGrad1.defs (F := Bits)) (onTc (τ := Cert.NormGrad1.τ) (Cert.NormGrad1.main (F := Bits))) ⟨m, fun _ => 0, g⟩ (fun r => (∀ c : Dev Cert.NormGrad1.nD,
      r.2.mem ((c.tc : Thread Cert.NormGrad1.nD Cert.NormGrad1.τ).loc Cert.NormGrad1.main_arg0) = m ((c.tc : Thread Cert.NormGrad1.nD Cert.NormGrad1.τ).loc Cert.NormGrad1.main_arg0)
      ∧ r.2.mem ((c.tc : Thread Cert.NormGrad1.nD Cert.NormGrad1.τ).loc Cert.NormGrad1.main_arg1) = m ((c.tc : Thread Cert.NormGrad1.nD Cert.NormGrad1.τ).loc Cert.NormGrad1.main_arg1)
      ∧ r.2.mem ((c.tc : Thread Cert.NormGrad1.nD Cert.NormGrad1.τ).loc Cert.NormGrad1.main_arg2) = m ((c.tc : Thread Cert.NormGrad1.nD Cert.NormGrad1.τ).loc Cert.NormGrad1.main_arg2)
      ∧ r.2.mem ((c.tc : Thread Cert.NormGrad1.nD Cert.NormGrad1.τ).loc Cert.NormGrad1.main_arg3) = m ((c.tc : Thread Cert.NormGrad1.nD Cert.NormGrad1.τ).loc Cert.NormGrad1.main_arg3)
      ∧ r.2.mem ((c.tc : Thread Cert.NormGrad1.nD Cert.NormGrad1.τ).loc Cert.NormGrad1.main_arg4) = m ((c.tc : Thread Cert.NormGrad1.nD Cert.NormGrad1.τ).loc Cert.NormGrad1.main_arg4))
      ∧ r.2.sem = fun _ => 0)

def quiescent_NormGrad1Ideal [hNormGrad1Ideal : Cert.NormGrad1Ideal.Facts] : Prop :=
  ∀ (m : (ℓ : Loc Cert.NormGrad1Ideal.nD Cert.NormGrad1Ideal.τ Cert.NormGrad1Ideal.sig) → Buf (Elt Ideal) ℓ) (g : Dev Cert.NormGrad1Ideal.nD → PrngReg), Pre_NormGrad1Ideal m →
    θ_run (Cert.NormGrad1Ideal.defs (F := Ideal)) (onTc (τ := Cert.NormGrad1Ideal.τ) (Cert.NormGrad1Ideal.main (F := Ideal))) ⟨m, fun _ => 0, g⟩ (fun r => (∀ c : Dev Cert.NormGrad1Ideal.nD,
      r.2.mem ((c.tc : Thread Cert.NormGrad1Ideal.nD Cert.NormGrad1Ideal.τ).loc Cert.NormGrad1Ideal.main_arg0) = m ((c.tc : Thread Cert.NormGrad1Ideal.nD Cert.NormGrad1Ideal.τ).loc Cert.NormGrad1Ideal.main_arg0)
      ∧ r.2.mem ((c.tc : Thread Cert.NormGrad1Ideal.nD Cert.NormGrad1Ideal.τ).loc Cert.NormGrad1Ideal.main_arg1) = m ((c.tc : Thread Cert.NormGrad1Ideal.nD Cert.NormGrad1Ideal.τ).loc Cert.NormGrad1Ideal.main_arg1)
      ∧ r.2.mem ((c.tc : Thread Cert.NormGrad1Ideal.nD Cert.NormGrad1Ideal.τ).loc Cert.NormGrad1Ideal.main_arg2) = m ((c.tc : Thread Cert.NormGrad1Ideal.nD Cert.NormGrad1Ideal.τ).loc Cert.NormGrad1Ideal.main_arg2)
      ∧ r.2.mem ((c.tc : Thread Cert.NormGrad1Ideal.nD Cert.NormGrad1Ideal.τ).loc Cert.NormGrad1Ideal.main_arg3) = m ((c.tc : Thread Cert.NormGrad1Ideal.nD Cert.NormGrad1Ideal.τ).loc Cert.NormGrad1Ideal.main_arg3)
      ∧ r.2.mem ((c.tc : Thread Cert.NormGrad1Ideal.nD Cert.NormGrad1Ideal.τ).loc Cert.NormGrad1Ideal.main_arg4) = m ((c.tc : Thread Cert.NormGrad1Ideal.nD Cert.NormGrad1Ideal.τ).loc Cert.NormGrad1Ideal.main_arg4))
      ∧ r.2.sem = fun _ => 0)

def quiescent_RNormGrad1Ideal [hRNormGrad1Ideal : Cert.RNormGrad1Ideal.Facts] : Prop :=
  ∀ (m : (ℓ : Loc Cert.RNormGrad1Ideal.nD Cert.RNormGrad1Ideal.τ Cert.RNormGrad1Ideal.sig) → Buf (Elt Ideal) ℓ) (g : Dev Cert.RNormGrad1Ideal.nD → PrngReg), Pre_RNormGrad1Ideal m →
    θ_run (Cert.RNormGrad1Ideal.defs (F := Ideal)) (onTc (τ := Cert.RNormGrad1Ideal.τ) (Cert.RNormGrad1Ideal.main (F := Ideal))) ⟨m, fun _ => 0, g⟩ (fun r => (∀ c : Dev Cert.RNormGrad1Ideal.nD,
      r.2.mem ((c.tc : Thread Cert.RNormGrad1Ideal.nD Cert.RNormGrad1Ideal.τ).loc Cert.RNormGrad1Ideal.main_arg0) = m ((c.tc : Thread Cert.RNormGrad1Ideal.nD Cert.RNormGrad1Ideal.τ).loc Cert.RNormGrad1Ideal.main_arg0)
      ∧ r.2.mem ((c.tc : Thread Cert.RNormGrad1Ideal.nD Cert.RNormGrad1Ideal.τ).loc Cert.RNormGrad1Ideal.main_arg1) = m ((c.tc : Thread Cert.RNormGrad1Ideal.nD Cert.RNormGrad1Ideal.τ).loc Cert.RNormGrad1Ideal.main_arg1)
      ∧ r.2.mem ((c.tc : Thread Cert.RNormGrad1Ideal.nD Cert.RNormGrad1Ideal.τ).loc Cert.RNormGrad1Ideal.main_arg2) = m ((c.tc : Thread Cert.RNormGrad1Ideal.nD Cert.RNormGrad1Ideal.τ).loc Cert.RNormGrad1Ideal.main_arg2)
      ∧ r.2.mem ((c.tc : Thread Cert.RNormGrad1Ideal.nD Cert.RNormGrad1Ideal.τ).loc Cert.RNormGrad1Ideal.main_arg3) = m ((c.tc : Thread Cert.RNormGrad1Ideal.nD Cert.RNormGrad1Ideal.τ).loc Cert.RNormGrad1Ideal.main_arg3)
      ∧ r.2.mem ((c.tc : Thread Cert.RNormGrad1Ideal.nD Cert.RNormGrad1Ideal.τ).loc Cert.RNormGrad1Ideal.main_arg4) = m ((c.tc : Thread Cert.RNormGrad1Ideal.nD Cert.RNormGrad1Ideal.τ).loc Cert.RNormGrad1Ideal.main_arg4))
      ∧ r.2.sem = fun _ => 0)

def quiescent_NormGrad2 [hNormGrad2 : Cert.NormGrad2.Facts] : Prop :=
  ∀ (m : (ℓ : Loc Cert.NormGrad2.nD Cert.NormGrad2.τ Cert.NormGrad2.sig) → Buf (Elt Bits) ℓ) (g : Dev Cert.NormGrad2.nD → PrngReg), Pre_NormGrad2 m →
    θ_run (Cert.NormGrad2.defs (F := Bits)) (onTc (τ := Cert.NormGrad2.τ) (Cert.NormGrad2.main (F := Bits))) ⟨m, fun _ => 0, g⟩ (fun r => (∀ c : Dev Cert.NormGrad2.nD,
      r.2.mem ((c.tc : Thread Cert.NormGrad2.nD Cert.NormGrad2.τ).loc Cert.NormGrad2.main_arg0) = m ((c.tc : Thread Cert.NormGrad2.nD Cert.NormGrad2.τ).loc Cert.NormGrad2.main_arg0)
      ∧ r.2.mem ((c.tc : Thread Cert.NormGrad2.nD Cert.NormGrad2.τ).loc Cert.NormGrad2.main_arg1) = m ((c.tc : Thread Cert.NormGrad2.nD Cert.NormGrad2.τ).loc Cert.NormGrad2.main_arg1)
      ∧ r.2.mem ((c.tc : Thread Cert.NormGrad2.nD Cert.NormGrad2.τ).loc Cert.NormGrad2.main_arg2) = m ((c.tc : Thread Cert.NormGrad2.nD Cert.NormGrad2.τ).loc Cert.NormGrad2.main_arg2)
      ∧ r.2.mem ((c.tc : Thread Cert.NormGrad2.nD Cert.NormGrad2.τ).loc Cert.NormGrad2.main_arg3) = m ((c.tc : Thread Cert.NormGrad2.nD Cert.NormGrad2.τ).loc Cert.NormGrad2.main_arg3)
      ∧ r.2.mem ((c.tc : Thread Cert.NormGrad2.nD Cert.NormGrad2.τ).loc Cert.NormGrad2.main_arg4) = m ((c.tc : Thread Cert.NormGrad2.nD Cert.NormGrad2.τ).loc Cert.NormGrad2.main_arg4))
      ∧ r.2.sem = fun _ => 0)

def quiescent_NormGrad2Ideal [hNormGrad2Ideal : Cert.NormGrad2Ideal.Facts] : Prop :=
  ∀ (m : (ℓ : Loc Cert.NormGrad2Ideal.nD Cert.NormGrad2Ideal.τ Cert.NormGrad2Ideal.sig) → Buf (Elt Ideal) ℓ) (g : Dev Cert.NormGrad2Ideal.nD → PrngReg), Pre_NormGrad2Ideal m →
    θ_run (Cert.NormGrad2Ideal.defs (F := Ideal)) (onTc (τ := Cert.NormGrad2Ideal.τ) (Cert.NormGrad2Ideal.main (F := Ideal))) ⟨m, fun _ => 0, g⟩ (fun r => (∀ c : Dev Cert.NormGrad2Ideal.nD,
      r.2.mem ((c.tc : Thread Cert.NormGrad2Ideal.nD Cert.NormGrad2Ideal.τ).loc Cert.NormGrad2Ideal.main_arg0) = m ((c.tc : Thread Cert.NormGrad2Ideal.nD Cert.NormGrad2Ideal.τ).loc Cert.NormGrad2Ideal.main_arg0)
      ∧ r.2.mem ((c.tc : Thread Cert.NormGrad2Ideal.nD Cert.NormGrad2Ideal.τ).loc Cert.NormGrad2Ideal.main_arg1) = m ((c.tc : Thread Cert.NormGrad2Ideal.nD Cert.NormGrad2Ideal.τ).loc Cert.NormGrad2Ideal.main_arg1)
      ∧ r.2.mem ((c.tc : Thread Cert.NormGrad2Ideal.nD Cert.NormGrad2Ideal.τ).loc Cert.NormGrad2Ideal.main_arg2) = m ((c.tc : Thread Cert.NormGrad2Ideal.nD Cert.NormGrad2Ideal.τ).loc Cert.NormGrad2Ideal.main_arg2)
      ∧ r.2.mem ((c.tc : Thread Cert.NormGrad2Ideal.nD Cert.NormGrad2Ideal.τ).loc Cert.NormGrad2Ideal.main_arg3) = m ((c.tc : Thread Cert.NormGrad2Ideal.nD Cert.NormGrad2Ideal.τ).loc Cert.NormGrad2Ideal.main_arg3)
      ∧ r.2.mem ((c.tc : Thread Cert.NormGrad2Ideal.nD Cert.NormGrad2Ideal.τ).loc Cert.NormGrad2Ideal.main_arg4) = m ((c.tc : Thread Cert.NormGrad2Ideal.nD Cert.NormGrad2Ideal.τ).loc Cert.NormGrad2Ideal.main_arg4))
      ∧ r.2.sem = fun _ => 0)

def quiescent_RNormGrad2Ideal [hRNormGrad2Ideal : Cert.RNormGrad2Ideal.Facts] : Prop :=
  ∀ (m : (ℓ : Loc Cert.RNormGrad2Ideal.nD Cert.RNormGrad2Ideal.τ Cert.RNormGrad2Ideal.sig) → Buf (Elt Ideal) ℓ) (g : Dev Cert.RNormGrad2Ideal.nD → PrngReg), Pre_RNormGrad2Ideal m →
    θ_run (Cert.RNormGrad2Ideal.defs (F := Ideal)) (onTc (τ := Cert.RNormGrad2Ideal.τ) (Cert.RNormGrad2Ideal.main (F := Ideal))) ⟨m, fun _ => 0, g⟩ (fun r => (∀ c : Dev Cert.RNormGrad2Ideal.nD,
      r.2.mem ((c.tc : Thread Cert.RNormGrad2Ideal.nD Cert.RNormGrad2Ideal.τ).loc Cert.RNormGrad2Ideal.main_arg0) = m ((c.tc : Thread Cert.RNormGrad2Ideal.nD Cert.RNormGrad2Ideal.τ).loc Cert.RNormGrad2Ideal.main_arg0)
      ∧ r.2.mem ((c.tc : Thread Cert.RNormGrad2Ideal.nD Cert.RNormGrad2Ideal.τ).loc Cert.RNormGrad2Ideal.main_arg1) = m ((c.tc : Thread Cert.RNormGrad2Ideal.nD Cert.RNormGrad2Ideal.τ).loc Cert.RNormGrad2Ideal.main_arg1)
      ∧ r.2.mem ((c.tc : Thread Cert.RNormGrad2Ideal.nD Cert.RNormGrad2Ideal.τ).loc Cert.RNormGrad2Ideal.main_arg2) = m ((c.tc : Thread Cert.RNormGrad2Ideal.nD Cert.RNormGrad2Ideal.τ).loc Cert.RNormGrad2Ideal.main_arg2)
      ∧ r.2.mem ((c.tc : Thread Cert.RNormGrad2Ideal.nD Cert.RNormGrad2Ideal.τ).loc Cert.RNormGrad2Ideal.main_arg3) = m ((c.tc : Thread Cert.RNormGrad2Ideal.nD Cert.RNormGrad2Ideal.τ).loc Cert.RNormGrad2Ideal.main_arg3)
      ∧ r.2.mem ((c.tc : Thread Cert.RNormGrad2Ideal.nD Cert.RNormGrad2Ideal.τ).loc Cert.RNormGrad2Ideal.main_arg4) = m ((c.tc : Thread Cert.RNormGrad2Ideal.nD Cert.RNormGrad2Ideal.τ).loc Cert.RNormGrad2Ideal.main_arg4))
      ∧ r.2.sem = fun _ => 0)

def quiescent_NormGrad3 [hNormGrad3 : Cert.NormGrad3.Facts] : Prop :=
  ∀ (m : (ℓ : Loc Cert.NormGrad3.nD Cert.NormGrad3.τ Cert.NormGrad3.sig) → Buf (Elt Bits) ℓ) (g : Dev Cert.NormGrad3.nD → PrngReg), Pre_NormGrad3 m →
    θ_run (Cert.NormGrad3.defs (F := Bits)) (onTc (τ := Cert.NormGrad3.τ) (Cert.NormGrad3.main (F := Bits))) ⟨m, fun _ => 0, g⟩ (fun r => (∀ c : Dev Cert.NormGrad3.nD,
      r.2.mem ((c.tc : Thread Cert.NormGrad3.nD Cert.NormGrad3.τ).loc Cert.NormGrad3.main_arg0) = m ((c.tc : Thread Cert.NormGrad3.nD Cert.NormGrad3.τ).loc Cert.NormGrad3.main_arg0)
      ∧ r.2.mem ((c.tc : Thread Cert.NormGrad3.nD Cert.NormGrad3.τ).loc Cert.NormGrad3.main_arg1) = m ((c.tc : Thread Cert.NormGrad3.nD Cert.NormGrad3.τ).loc Cert.NormGrad3.main_arg1)
      ∧ r.2.mem ((c.tc : Thread Cert.NormGrad3.nD Cert.NormGrad3.τ).loc Cert.NormGrad3.main_arg2) = m ((c.tc : Thread Cert.NormGrad3.nD Cert.NormGrad3.τ).loc Cert.NormGrad3.main_arg2)
      ∧ r.2.mem ((c.tc : Thread Cert.NormGrad3.nD Cert.NormGrad3.τ).loc Cert.NormGrad3.main_arg3) = m ((c.tc : Thread Cert.NormGrad3.nD Cert.NormGrad3.τ).loc Cert.NormGrad3.main_arg3)
      ∧ r.2.mem ((c.tc : Thread Cert.NormGrad3.nD Cert.NormGrad3.τ).loc Cert.NormGrad3.main_arg4) = m ((c.tc : Thread Cert.NormGrad3.nD Cert.NormGrad3.τ).loc Cert.NormGrad3.main_arg4))
      ∧ r.2.sem = fun _ => 0)

def quiescent_NormGrad3Ideal [hNormGrad3Ideal : Cert.NormGrad3Ideal.Facts] : Prop :=
  ∀ (m : (ℓ : Loc Cert.NormGrad3Ideal.nD Cert.NormGrad3Ideal.τ Cert.NormGrad3Ideal.sig) → Buf (Elt Ideal) ℓ) (g : Dev Cert.NormGrad3Ideal.nD → PrngReg), Pre_NormGrad3Ideal m →
    θ_run (Cert.NormGrad3Ideal.defs (F := Ideal)) (onTc (τ := Cert.NormGrad3Ideal.τ) (Cert.NormGrad3Ideal.main (F := Ideal))) ⟨m, fun _ => 0, g⟩ (fun r => (∀ c : Dev Cert.NormGrad3Ideal.nD,
      r.2.mem ((c.tc : Thread Cert.NormGrad3Ideal.nD Cert.NormGrad3Ideal.τ).loc Cert.NormGrad3Ideal.main_arg0) = m ((c.tc : Thread Cert.NormGrad3Ideal.nD Cert.NormGrad3Ideal.τ).loc Cert.NormGrad3Ideal.main_arg0)
      ∧ r.2.mem ((c.tc : Thread Cert.NormGrad3Ideal.nD Cert.NormGrad3Ideal.τ).loc Cert.NormGrad3Ideal.main_arg1) = m ((c.tc : Thread Cert.NormGrad3Ideal.nD Cert.NormGrad3Ideal.τ).loc Cert.NormGrad3Ideal.main_arg1)
      ∧ r.2.mem ((c.tc : Thread Cert.NormGrad3Ideal.nD Cert.NormGrad3Ideal.τ).loc Cert.NormGrad3Ideal.main_arg2) = m ((c.tc : Thread Cert.NormGrad3Ideal.nD Cert.NormGrad3Ideal.τ).loc Cert.NormGrad3Ideal.main_arg2)
      ∧ r.2.mem ((c.tc : Thread Cert.NormGrad3Ideal.nD Cert.NormGrad3Ideal.τ).loc Cert.NormGrad3Ideal.main_arg3) = m ((c.tc : Thread Cert.NormGrad3Ideal.nD Cert.NormGrad3Ideal.τ).loc Cert.NormGrad3Ideal.main_arg3)
      ∧ r.2.mem ((c.tc : Thread Cert.NormGrad3Ideal.nD Cert.NormGrad3Ideal.τ).loc Cert.NormGrad3Ideal.main_arg4) = m ((c.tc : Thread Cert.NormGrad3Ideal.nD Cert.NormGrad3Ideal.τ).loc Cert.NormGrad3Ideal.main_arg4))
      ∧ r.2.sem = fun _ => 0)

def quiescent_RNormGrad3Ideal [hRNormGrad3Ideal : Cert.RNormGrad3Ideal.Facts] : Prop :=
  ∀ (m : (ℓ : Loc Cert.RNormGrad3Ideal.nD Cert.RNormGrad3Ideal.τ Cert.RNormGrad3Ideal.sig) → Buf (Elt Ideal) ℓ) (g : Dev Cert.RNormGrad3Ideal.nD → PrngReg), Pre_RNormGrad3Ideal m →
    θ_run (Cert.RNormGrad3Ideal.defs (F := Ideal)) (onTc (τ := Cert.RNormGrad3Ideal.τ) (Cert.RNormGrad3Ideal.main (F := Ideal))) ⟨m, fun _ => 0, g⟩ (fun r => (∀ c : Dev Cert.RNormGrad3Ideal.nD,
      r.2.mem ((c.tc : Thread Cert.RNormGrad3Ideal.nD Cert.RNormGrad3Ideal.τ).loc Cert.RNormGrad3Ideal.main_arg0) = m ((c.tc : Thread Cert.RNormGrad3Ideal.nD Cert.RNormGrad3Ideal.τ).loc Cert.RNormGrad3Ideal.main_arg0)
      ∧ r.2.mem ((c.tc : Thread Cert.RNormGrad3Ideal.nD Cert.RNormGrad3Ideal.τ).loc Cert.RNormGrad3Ideal.main_arg1) = m ((c.tc : Thread Cert.RNormGrad3Ideal.nD Cert.RNormGrad3Ideal.τ).loc Cert.RNormGrad3Ideal.main_arg1)
      ∧ r.2.mem ((c.tc : Thread Cert.RNormGrad3Ideal.nD Cert.RNormGrad3Ideal.τ).loc Cert.RNormGrad3Ideal.main_arg2) = m ((c.tc : Thread Cert.RNormGrad3Ideal.nD Cert.RNormGrad3Ideal.τ).loc Cert.RNormGrad3Ideal.main_arg2)
      ∧ r.2.mem ((c.tc : Thread Cert.RNormGrad3Ideal.nD Cert.RNormGrad3Ideal.τ).loc Cert.RNormGrad3Ideal.main_arg3) = m ((c.tc : Thread Cert.RNormGrad3Ideal.nD Cert.RNormGrad3Ideal.τ).loc Cert.RNormGrad3Ideal.main_arg3)
      ∧ r.2.mem ((c.tc : Thread Cert.RNormGrad3Ideal.nD Cert.RNormGrad3Ideal.τ).loc Cert.RNormGrad3Ideal.main_arg4) = m ((c.tc : Thread Cert.RNormGrad3Ideal.nD Cert.RNormGrad3Ideal.τ).loc Cert.RNormGrad3Ideal.main_arg4))
      ∧ r.2.sem = fun _ => 0)

def quiescent_InGrad1 [hInGrad1 : Cert.InGrad1.Facts] : Prop :=
  ∀ (m : (ℓ : Loc Cert.InGrad1.nD Cert.InGrad1.τ Cert.InGrad1.sig) → Buf (Elt Bits) ℓ) (g : Dev Cert.InGrad1.nD → PrngReg), Pre_InGrad1 m →
    θ_run (Cert.InGrad1.defs (F := Bits)) (onTc (τ := Cert.InGrad1.τ) (Cert.InGrad1.main (F := Bits))) ⟨m, fun _ => 0, g⟩ (fun r => (∀ c : Dev Cert.InGrad1.nD,
      r.2.mem ((c.tc : Thread Cert.InGrad1.nD Cert.InGrad1.τ).loc Cert.InGrad1.main_arg0) = m ((c.tc : Thread Cert.InGrad1.nD Cert.InGrad1.τ).loc Cert.InGrad1.main_arg0)
      ∧ r.2.mem ((c.tc : Thread Cert.InGrad1.nD Cert.InGrad1.τ).loc Cert.InGrad1.main_arg1) = m ((c.tc : Thread Cert.InGrad1.nD Cert.InGrad1.τ).loc Cert.InGrad1.main_arg1))
      ∧ r.2.sem = fun _ => 0)

def quiescent_InGrad1Ideal [hInGrad1Ideal : Cert.InGrad1Ideal.Facts] : Prop :=
  ∀ (m : (ℓ : Loc Cert.InGrad1Ideal.nD Cert.InGrad1Ideal.τ Cert.InGrad1Ideal.sig) → Buf (Elt Ideal) ℓ) (g : Dev Cert.InGrad1Ideal.nD → PrngReg), Pre_InGrad1Ideal m →
    θ_run (Cert.InGrad1Ideal.defs (F := Ideal)) (onTc (τ := Cert.InGrad1Ideal.τ) (Cert.InGrad1Ideal.main (F := Ideal))) ⟨m, fun _ => 0, g⟩ (fun r => (∀ c : Dev Cert.InGrad1Ideal.nD,
      r.2.mem ((c.tc : Thread Cert.InGrad1Ideal.nD Cert.InGrad1Ideal.τ).loc Cert.InGrad1Ideal.main_arg0) = m ((c.tc : Thread Cert.InGrad1Ideal.nD Cert.InGrad1Ideal.τ).loc Cert.InGrad1Ideal.main_arg0)
      ∧ r.2.mem ((c.tc : Thread Cert.InGrad1Ideal.nD Cert.InGrad1Ideal.τ).loc Cert.InGrad1Ideal.main_arg1) = m ((c.tc : Thread Cert.InGrad1Ideal.nD Cert.InGrad1Ideal.τ).loc Cert.InGrad1Ideal.main_arg1))
      ∧ r.2.sem = fun _ => 0)

def quiescent_RInGrad1Ideal [hRInGrad1Ideal : Cert.RInGrad1Ideal.Facts] : Prop :=
  ∀ (m : (ℓ : Loc Cert.RInGrad1Ideal.nD Cert.RInGrad1Ideal.τ Cert.RInGrad1Ideal.sig) → Buf (Elt Ideal) ℓ) (g : Dev Cert.RInGrad1Ideal.nD → PrngReg), Pre_RInGrad1Ideal m →
    θ_run (Cert.RInGrad1Ideal.defs (F := Ideal)) (onTc (τ := Cert.RInGrad1Ideal.τ) (Cert.RInGrad1Ideal.main (F := Ideal))) ⟨m, fun _ => 0, g⟩ (fun r => (∀ c : Dev Cert.RInGrad1Ideal.nD,
      r.2.mem ((c.tc : Thread Cert.RInGrad1Ideal.nD Cert.RInGrad1Ideal.τ).loc Cert.RInGrad1Ideal.main_arg0) = m ((c.tc : Thread Cert.RInGrad1Ideal.nD Cert.RInGrad1Ideal.τ).loc Cert.RInGrad1Ideal.main_arg0)
      ∧ r.2.mem ((c.tc : Thread Cert.RInGrad1Ideal.nD Cert.RInGrad1Ideal.τ).loc Cert.RInGrad1Ideal.main_arg1) = m ((c.tc : Thread Cert.RInGrad1Ideal.nD Cert.RInGrad1Ideal.τ).loc Cert.RInGrad1Ideal.main_arg1))
      ∧ r.2.sem = fun _ => 0)

def quiescent_InGrad2 [hInGrad2 : Cert.InGrad2.Facts] : Prop :=
  ∀ (m : (ℓ : Loc Cert.InGrad2.nD Cert.InGrad2.τ Cert.InGrad2.sig) → Buf (Elt Bits) ℓ) (g : Dev Cert.InGrad2.nD → PrngReg), Pre_InGrad2 m →
    θ_run (Cert.InGrad2.defs (F := Bits)) (onTc (τ := Cert.InGrad2.τ) (Cert.InGrad2.main (F := Bits))) ⟨m, fun _ => 0, g⟩ (fun r => (∀ c : Dev Cert.InGrad2.nD,
      r.2.mem ((c.tc : Thread Cert.InGrad2.nD Cert.InGrad2.τ).loc Cert.InGrad2.main_arg0) = m ((c.tc : Thread Cert.InGrad2.nD Cert.InGrad2.τ).loc Cert.InGrad2.main_arg0)
      ∧ r.2.mem ((c.tc : Thread Cert.InGrad2.nD Cert.InGrad2.τ).loc Cert.InGrad2.main_arg1) = m ((c.tc : Thread Cert.InGrad2.nD Cert.InGrad2.τ).loc Cert.InGrad2.main_arg1))
      ∧ r.2.sem = fun _ => 0)

def quiescent_InGrad2Ideal [hInGrad2Ideal : Cert.InGrad2Ideal.Facts] : Prop :=
  ∀ (m : (ℓ : Loc Cert.InGrad2Ideal.nD Cert.InGrad2Ideal.τ Cert.InGrad2Ideal.sig) → Buf (Elt Ideal) ℓ) (g : Dev Cert.InGrad2Ideal.nD → PrngReg), Pre_InGrad2Ideal m →
    θ_run (Cert.InGrad2Ideal.defs (F := Ideal)) (onTc (τ := Cert.InGrad2Ideal.τ) (Cert.InGrad2Ideal.main (F := Ideal))) ⟨m, fun _ => 0, g⟩ (fun r => (∀ c : Dev Cert.InGrad2Ideal.nD,
      r.2.mem ((c.tc : Thread Cert.InGrad2Ideal.nD Cert.InGrad2Ideal.τ).loc Cert.InGrad2Ideal.main_arg0) = m ((c.tc : Thread Cert.InGrad2Ideal.nD Cert.InGrad2Ideal.τ).loc Cert.InGrad2Ideal.main_arg0)
      ∧ r.2.mem ((c.tc : Thread Cert.InGrad2Ideal.nD Cert.InGrad2Ideal.τ).loc Cert.InGrad2Ideal.main_arg1) = m ((c.tc : Thread Cert.InGrad2Ideal.nD Cert.InGrad2Ideal.τ).loc Cert.InGrad2Ideal.main_arg1))
      ∧ r.2.sem = fun _ => 0)

def quiescent_RInGrad2Ideal [hRInGrad2Ideal : Cert.RInGrad2Ideal.Facts] : Prop :=
  ∀ (m : (ℓ : Loc Cert.RInGrad2Ideal.nD Cert.RInGrad2Ideal.τ Cert.RInGrad2Ideal.sig) → Buf (Elt Ideal) ℓ) (g : Dev Cert.RInGrad2Ideal.nD → PrngReg), Pre_RInGrad2Ideal m →
    θ_run (Cert.RInGrad2Ideal.defs (F := Ideal)) (onTc (τ := Cert.RInGrad2Ideal.τ) (Cert.RInGrad2Ideal.main (F := Ideal))) ⟨m, fun _ => 0, g⟩ (fun r => (∀ c : Dev Cert.RInGrad2Ideal.nD,
      r.2.mem ((c.tc : Thread Cert.RInGrad2Ideal.nD Cert.RInGrad2Ideal.τ).loc Cert.RInGrad2Ideal.main_arg0) = m ((c.tc : Thread Cert.RInGrad2Ideal.nD Cert.RInGrad2Ideal.τ).loc Cert.RInGrad2Ideal.main_arg0)
      ∧ r.2.mem ((c.tc : Thread Cert.RInGrad2Ideal.nD Cert.RInGrad2Ideal.τ).loc Cert.RInGrad2Ideal.main_arg1) = m ((c.tc : Thread Cert.RInGrad2Ideal.nD Cert.RInGrad2Ideal.τ).loc Cert.RInGrad2Ideal.main_arg1))
      ∧ r.2.sem = fun _ => 0)

def quiescent_InGrad3 [hInGrad3 : Cert.InGrad3.Facts] : Prop :=
  ∀ (m : (ℓ : Loc Cert.InGrad3.nD Cert.InGrad3.τ Cert.InGrad3.sig) → Buf (Elt Bits) ℓ) (g : Dev Cert.InGrad3.nD → PrngReg), Pre_InGrad3 m →
    θ_run (Cert.InGrad3.defs (F := Bits)) (onTc (τ := Cert.InGrad3.τ) (Cert.InGrad3.main (F := Bits))) ⟨m, fun _ => 0, g⟩ (fun r => (∀ c : Dev Cert.InGrad3.nD,
      r.2.mem ((c.tc : Thread Cert.InGrad3.nD Cert.InGrad3.τ).loc Cert.InGrad3.main_arg0) = m ((c.tc : Thread Cert.InGrad3.nD Cert.InGrad3.τ).loc Cert.InGrad3.main_arg0)
      ∧ r.2.mem ((c.tc : Thread Cert.InGrad3.nD Cert.InGrad3.τ).loc Cert.InGrad3.main_arg1) = m ((c.tc : Thread Cert.InGrad3.nD Cert.InGrad3.τ).loc Cert.InGrad3.main_arg1))
      ∧ r.2.sem = fun _ => 0)

def quiescent_InGrad3Ideal [hInGrad3Ideal : Cert.InGrad3Ideal.Facts] : Prop :=
  ∀ (m : (ℓ : Loc Cert.InGrad3Ideal.nD Cert.InGrad3Ideal.τ Cert.InGrad3Ideal.sig) → Buf (Elt Ideal) ℓ) (g : Dev Cert.InGrad3Ideal.nD → PrngReg), Pre_InGrad3Ideal m →
    θ_run (Cert.InGrad3Ideal.defs (F := Ideal)) (onTc (τ := Cert.InGrad3Ideal.τ) (Cert.InGrad3Ideal.main (F := Ideal))) ⟨m, fun _ => 0, g⟩ (fun r => (∀ c : Dev Cert.InGrad3Ideal.nD,
      r.2.mem ((c.tc : Thread Cert.InGrad3Ideal.nD Cert.InGrad3Ideal.τ).loc Cert.InGrad3Ideal.main_arg0) = m ((c.tc : Thread Cert.InGrad3Ideal.nD Cert.InGrad3Ideal.τ).loc Cert.InGrad3Ideal.main_arg0)
      ∧ r.2.mem ((c.tc : Thread Cert.InGrad3Ideal.nD Cert.InGrad3Ideal.τ).loc Cert.InGrad3Ideal.main_arg1) = m ((c.tc : Thread Cert.InGrad3Ideal.nD Cert.InGrad3Ideal.τ).loc Cert.InGrad3Ideal.main_arg1))
      ∧ r.2.sem = fun _ => 0)

def quiescent_RInGrad3Ideal [hRInGrad3Ideal : Cert.RInGrad3Ideal.Facts] : Prop :=
  ∀ (m : (ℓ : Loc Cert.RInGrad3Ideal.nD Cert.RInGrad3Ideal.τ Cert.RInGrad3Ideal.sig) → Buf (Elt Ideal) ℓ) (g : Dev Cert.RInGrad3Ideal.nD → PrngReg), Pre_RInGrad3Ideal m →
    θ_run (Cert.RInGrad3Ideal.defs (F := Ideal)) (onTc (τ := Cert.RInGrad3Ideal.τ) (Cert.RInGrad3Ideal.main (F := Ideal))) ⟨m, fun _ => 0, g⟩ (fun r => (∀ c : Dev Cert.RInGrad3Ideal.nD,
      r.2.mem ((c.tc : Thread Cert.RInGrad3Ideal.nD Cert.RInGrad3Ideal.τ).loc Cert.RInGrad3Ideal.main_arg0) = m ((c.tc : Thread Cert.RInGrad3Ideal.nD Cert.RInGrad3Ideal.τ).loc Cert.RInGrad3Ideal.main_arg0)
      ∧ r.2.mem ((c.tc : Thread Cert.RInGrad3Ideal.nD Cert.RInGrad3Ideal.τ).loc Cert.RInGrad3Ideal.main_arg1) = m ((c.tc : Thread Cert.RInGrad3Ideal.nD Cert.RInGrad3Ideal.τ).loc Cert.RInGrad3Ideal.main_arg1))
      ∧ r.2.sem = fun _ => 0)

def quiescent_OutGrad1 [hOutGrad1 : Cert.OutGrad1.Facts] : Prop :=
  ∀ (m : (ℓ : Loc Cert.OutGrad1.nD Cert.OutGrad1.τ Cert.OutGrad1.sig) → Buf (Elt Bits) ℓ) (g : Dev Cert.OutGrad1.nD → PrngReg), Pre_OutGrad1 m →
    θ_run (Cert.OutGrad1.defs (F := Bits)) (onTc (τ := Cert.OutGrad1.τ) (Cert.OutGrad1.main (F := Bits))) ⟨m, fun _ => 0, g⟩ (fun r => (∀ c : Dev Cert.OutGrad1.nD,
      r.2.mem ((c.tc : Thread Cert.OutGrad1.nD Cert.OutGrad1.τ).loc Cert.OutGrad1.main_arg0) = m ((c.tc : Thread Cert.OutGrad1.nD Cert.OutGrad1.τ).loc Cert.OutGrad1.main_arg0)
      ∧ r.2.mem ((c.tc : Thread Cert.OutGrad1.nD Cert.OutGrad1.τ).loc Cert.OutGrad1.main_arg1) = m ((c.tc : Thread Cert.OutGrad1.nD Cert.OutGrad1.τ).loc Cert.OutGrad1.main_arg1))
      ∧ r.2.sem = fun _ => 0)

def quiescent_OutGrad1Ideal [hOutGrad1Ideal : Cert.OutGrad1Ideal.Facts] : Prop :=
  ∀ (m : (ℓ : Loc Cert.OutGrad1Ideal.nD Cert.OutGrad1Ideal.τ Cert.OutGrad1Ideal.sig) → Buf (Elt Ideal) ℓ) (g : Dev Cert.OutGrad1Ideal.nD → PrngReg), Pre_OutGrad1Ideal m →
    θ_run (Cert.OutGrad1Ideal.defs (F := Ideal)) (onTc (τ := Cert.OutGrad1Ideal.τ) (Cert.OutGrad1Ideal.main (F := Ideal))) ⟨m, fun _ => 0, g⟩ (fun r => (∀ c : Dev Cert.OutGrad1Ideal.nD,
      r.2.mem ((c.tc : Thread Cert.OutGrad1Ideal.nD Cert.OutGrad1Ideal.τ).loc Cert.OutGrad1Ideal.main_arg0) = m ((c.tc : Thread Cert.OutGrad1Ideal.nD Cert.OutGrad1Ideal.τ).loc Cert.OutGrad1Ideal.main_arg0)
      ∧ r.2.mem ((c.tc : Thread Cert.OutGrad1Ideal.nD Cert.OutGrad1Ideal.τ).loc Cert.OutGrad1Ideal.main_arg1) = m ((c.tc : Thread Cert.OutGrad1Ideal.nD Cert.OutGrad1Ideal.τ).loc Cert.OutGrad1Ideal.main_arg1))
      ∧ r.2.sem = fun _ => 0)

def quiescent_ROutGrad1Ideal [hROutGrad1Ideal : Cert.ROutGrad1Ideal.Facts] : Prop :=
  ∀ (m : (ℓ : Loc Cert.ROutGrad1Ideal.nD Cert.ROutGrad1Ideal.τ Cert.ROutGrad1Ideal.sig) → Buf (Elt Ideal) ℓ) (g : Dev Cert.ROutGrad1Ideal.nD → PrngReg), Pre_ROutGrad1Ideal m →
    θ_run (Cert.ROutGrad1Ideal.defs (F := Ideal)) (onTc (τ := Cert.ROutGrad1Ideal.τ) (Cert.ROutGrad1Ideal.main (F := Ideal))) ⟨m, fun _ => 0, g⟩ (fun r => (∀ c : Dev Cert.ROutGrad1Ideal.nD,
      r.2.mem ((c.tc : Thread Cert.ROutGrad1Ideal.nD Cert.ROutGrad1Ideal.τ).loc Cert.ROutGrad1Ideal.main_arg0) = m ((c.tc : Thread Cert.ROutGrad1Ideal.nD Cert.ROutGrad1Ideal.τ).loc Cert.ROutGrad1Ideal.main_arg0)
      ∧ r.2.mem ((c.tc : Thread Cert.ROutGrad1Ideal.nD Cert.ROutGrad1Ideal.τ).loc Cert.ROutGrad1Ideal.main_arg1) = m ((c.tc : Thread Cert.ROutGrad1Ideal.nD Cert.ROutGrad1Ideal.τ).loc Cert.ROutGrad1Ideal.main_arg1))
      ∧ r.2.sem = fun _ => 0)

def quiescent_OutGrad3 [hOutGrad3 : Cert.OutGrad3.Facts] : Prop :=
  ∀ (m : (ℓ : Loc Cert.OutGrad3.nD Cert.OutGrad3.τ Cert.OutGrad3.sig) → Buf (Elt Bits) ℓ) (g : Dev Cert.OutGrad3.nD → PrngReg), Pre_OutGrad3 m →
    θ_run (Cert.OutGrad3.defs (F := Bits)) (onTc (τ := Cert.OutGrad3.τ) (Cert.OutGrad3.main (F := Bits))) ⟨m, fun _ => 0, g⟩ (fun r => (∀ c : Dev Cert.OutGrad3.nD,
      r.2.mem ((c.tc : Thread Cert.OutGrad3.nD Cert.OutGrad3.τ).loc Cert.OutGrad3.main_arg0) = m ((c.tc : Thread Cert.OutGrad3.nD Cert.OutGrad3.τ).loc Cert.OutGrad3.main_arg0)
      ∧ r.2.mem ((c.tc : Thread Cert.OutGrad3.nD Cert.OutGrad3.τ).loc Cert.OutGrad3.main_arg1) = m ((c.tc : Thread Cert.OutGrad3.nD Cert.OutGrad3.τ).loc Cert.OutGrad3.main_arg1))
      ∧ r.2.sem = fun _ => 0)

def quiescent_OutGrad3Ideal [hOutGrad3Ideal : Cert.OutGrad3Ideal.Facts] : Prop :=
  ∀ (m : (ℓ : Loc Cert.OutGrad3Ideal.nD Cert.OutGrad3Ideal.τ Cert.OutGrad3Ideal.sig) → Buf (Elt Ideal) ℓ) (g : Dev Cert.OutGrad3Ideal.nD → PrngReg), Pre_OutGrad3Ideal m →
    θ_run (Cert.OutGrad3Ideal.defs (F := Ideal)) (onTc (τ := Cert.OutGrad3Ideal.τ) (Cert.OutGrad3Ideal.main (F := Ideal))) ⟨m, fun _ => 0, g⟩ (fun r => (∀ c : Dev Cert.OutGrad3Ideal.nD,
      r.2.mem ((c.tc : Thread Cert.OutGrad3Ideal.nD Cert.OutGrad3Ideal.τ).loc Cert.OutGrad3Ideal.main_arg0) = m ((c.tc : Thread Cert.OutGrad3Ideal.nD Cert.OutGrad3Ideal.τ).loc Cert.OutGrad3Ideal.main_arg0)
      ∧ r.2.mem ((c.tc : Thread Cert.OutGrad3Ideal.nD Cert.OutGrad3Ideal.τ).loc Cert.OutGrad3Ideal.main_arg1) = m ((c.tc : Thread Cert.OutGrad3Ideal.nD Cert.OutGrad3Ideal.τ).loc Cert.OutGrad3Ideal.main_arg1))
      ∧ r.2.sem = fun _ => 0)

def quiescent_ROutGrad3Ideal [hROutGrad3Ideal : Cert.ROutGrad3Ideal.Facts] : Prop :=
  ∀ (m : (ℓ : Loc Cert.ROutGrad3Ideal.nD Cert.ROutGrad3Ideal.τ Cert.ROutGrad3Ideal.sig) → Buf (Elt Ideal) ℓ) (g : Dev Cert.ROutGrad3Ideal.nD → PrngReg), Pre_ROutGrad3Ideal m →
    θ_run (Cert.ROutGrad3Ideal.defs (F := Ideal)) (onTc (τ := Cert.ROutGrad3Ideal.τ) (Cert.ROutGrad3Ideal.main (F := Ideal))) ⟨m, fun _ => 0, g⟩ (fun r => (∀ c : Dev Cert.ROutGrad3Ideal.nD,
      r.2.mem ((c.tc : Thread Cert.ROutGrad3Ideal.nD Cert.ROutGrad3Ideal.τ).loc Cert.ROutGrad3Ideal.main_arg0) = m ((c.tc : Thread Cert.ROutGrad3Ideal.nD Cert.ROutGrad3Ideal.τ).loc Cert.ROutGrad3Ideal.main_arg0)
      ∧ r.2.mem ((c.tc : Thread Cert.ROutGrad3Ideal.nD Cert.ROutGrad3Ideal.τ).loc Cert.ROutGrad3Ideal.main_arg1) = m ((c.tc : Thread Cert.ROutGrad3Ideal.nD Cert.ROutGrad3Ideal.τ).loc Cert.ROutGrad3Ideal.main_arg1))
      ∧ r.2.sem = fun _ => 0)

def quiescent_GluGrad3 [hGluGrad3 : Cert.GluGrad3.Facts] : Prop :=
  ∀ (m : (ℓ : Loc Cert.GluGrad3.nD Cert.GluGrad3.τ Cert.GluGrad3.sig) → Buf (Elt Bits) ℓ) (g : Dev Cert.GluGrad3.nD → PrngReg), Pre_GluGrad3 m →
    θ_run (Cert.GluGrad3.defs (F := Bits)) (onTc (τ := Cert.GluGrad3.τ) (Cert.GluGrad3.main (F := Bits))) ⟨m, fun _ => 0, g⟩ (fun r => (∀ c : Dev Cert.GluGrad3.nD,
      r.2.mem ((c.tc : Thread Cert.GluGrad3.nD Cert.GluGrad3.τ).loc Cert.GluGrad3.main_arg0) = m ((c.tc : Thread Cert.GluGrad3.nD Cert.GluGrad3.τ).loc Cert.GluGrad3.main_arg0)
      ∧ r.2.mem ((c.tc : Thread Cert.GluGrad3.nD Cert.GluGrad3.τ).loc Cert.GluGrad3.main_arg1) = m ((c.tc : Thread Cert.GluGrad3.nD Cert.GluGrad3.τ).loc Cert.GluGrad3.main_arg1))
      ∧ r.2.sem = fun _ => 0)

def quiescent_GluGrad3Ideal [hGluGrad3Ideal : Cert.GluGrad3Ideal.Facts] : Prop :=
  ∀ (m : (ℓ : Loc Cert.GluGrad3Ideal.nD Cert.GluGrad3Ideal.τ Cert.GluGrad3Ideal.sig) → Buf (Elt Ideal) ℓ) (g : Dev Cert.GluGrad3Ideal.nD → PrngReg), Pre_GluGrad3Ideal m →
    θ_run (Cert.GluGrad3Ideal.defs (F := Ideal)) (onTc (τ := Cert.GluGrad3Ideal.τ) (Cert.GluGrad3Ideal.main (F := Ideal))) ⟨m, fun _ => 0, g⟩ (fun r => (∀ c : Dev Cert.GluGrad3Ideal.nD,
      r.2.mem ((c.tc : Thread Cert.GluGrad3Ideal.nD Cert.GluGrad3Ideal.τ).loc Cert.GluGrad3Ideal.main_arg0) = m ((c.tc : Thread Cert.GluGrad3Ideal.nD Cert.GluGrad3Ideal.τ).loc Cert.GluGrad3Ideal.main_arg0)
      ∧ r.2.mem ((c.tc : Thread Cert.GluGrad3Ideal.nD Cert.GluGrad3Ideal.τ).loc Cert.GluGrad3Ideal.main_arg1) = m ((c.tc : Thread Cert.GluGrad3Ideal.nD Cert.GluGrad3Ideal.τ).loc Cert.GluGrad3Ideal.main_arg1))
      ∧ r.2.sem = fun _ => 0)

def quiescent_RGluGrad3Ideal [hRGluGrad3Ideal : Cert.RGluGrad3Ideal.Facts] : Prop :=
  ∀ (m : (ℓ : Loc Cert.RGluGrad3Ideal.nD Cert.RGluGrad3Ideal.τ Cert.RGluGrad3Ideal.sig) → Buf (Elt Ideal) ℓ) (g : Dev Cert.RGluGrad3Ideal.nD → PrngReg), Pre_RGluGrad3Ideal m →
    θ_run (Cert.RGluGrad3Ideal.defs (F := Ideal)) (onTc (τ := Cert.RGluGrad3Ideal.τ) (Cert.RGluGrad3Ideal.main (F := Ideal))) ⟨m, fun _ => 0, g⟩ (fun r => (∀ c : Dev Cert.RGluGrad3Ideal.nD,
      r.2.mem ((c.tc : Thread Cert.RGluGrad3Ideal.nD Cert.RGluGrad3Ideal.τ).loc Cert.RGluGrad3Ideal.main_arg0) = m ((c.tc : Thread Cert.RGluGrad3Ideal.nD Cert.RGluGrad3Ideal.τ).loc Cert.RGluGrad3Ideal.main_arg0)
      ∧ r.2.mem ((c.tc : Thread Cert.RGluGrad3Ideal.nD Cert.RGluGrad3Ideal.τ).loc Cert.RGluGrad3Ideal.main_arg1) = m ((c.tc : Thread Cert.RGluGrad3Ideal.nD Cert.RGluGrad3Ideal.τ).loc Cert.RGluGrad3Ideal.main_arg1))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1)
      ∧ r.2.mem ((c.tc : Thread Cert.Out1.nD Cert.Out1.τ).loc Cert.Out1.main_arg2) = m ((c.tc : Thread Cert.Out1.nD Cert.Out1.τ).loc Cert.Out1.main_arg2))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2))
      ∧ r.2.sem = fun _ => 0)

def quiescent_ROut1Ideal [hROut1Ideal : Cert.ROut1Ideal.Facts] : Prop :=
  ∀ (m : (ℓ : Loc Cert.ROut1Ideal.nD Cert.ROut1Ideal.τ Cert.ROut1Ideal.sig) → Buf (Elt Ideal) ℓ) (g : Dev Cert.ROut1Ideal.nD → PrngReg), Pre_ROut1Ideal m →
    θ_run (Cert.ROut1Ideal.defs (F := Ideal)) (onTc (τ := Cert.ROut1Ideal.τ) (Cert.ROut1Ideal.main (F := Ideal))) ⟨m, fun _ => 0, g⟩ (fun r => (∀ c : Dev Cert.ROut1Ideal.nD,
      r.2.mem ((c.tc : Thread Cert.ROut1Ideal.nD Cert.ROut1Ideal.τ).loc Cert.ROut1Ideal.main_arg0) = m ((c.tc : Thread Cert.ROut1Ideal.nD Cert.ROut1Ideal.τ).loc Cert.ROut1Ideal.main_arg0)
      ∧ r.2.mem ((c.tc : Thread Cert.ROut1Ideal.nD Cert.ROut1Ideal.τ).loc Cert.ROut1Ideal.main_arg1) = m ((c.tc : Thread Cert.ROut1Ideal.nD Cert.ROut1Ideal.τ).loc Cert.ROut1Ideal.main_arg1)
      ∧ r.2.mem ((c.tc : Thread Cert.ROut1Ideal.nD Cert.ROut1Ideal.τ).loc Cert.ROut1Ideal.main_arg2) = m ((c.tc : Thread Cert.ROut1Ideal.nD Cert.ROut1Ideal.τ).loc Cert.ROut1Ideal.main_arg2))
      ∧ r.2.sem = fun _ => 0)

def quiescent_Out3 [hOut3 : Cert.Out3.Facts] : Prop :=
  ∀ (m : (ℓ : Loc Cert.Out3.nD Cert.Out3.τ Cert.Out3.sig) → Buf (Elt Bits) ℓ) (g : Dev Cert.Out3.nD → PrngReg), Pre_Out3 m →
    θ_run (Cert.Out3.defs (F := Bits)) (onTc (τ := Cert.Out3.τ) (Cert.Out3.main (F := Bits))) ⟨m, fun _ => 0, g⟩ (fun r => (∀ c : Dev Cert.Out3.nD,
      r.2.mem ((c.tc : Thread Cert.Out3.nD Cert.Out3.τ).loc Cert.Out3.main_arg0) = m ((c.tc : Thread Cert.Out3.nD Cert.Out3.τ).loc Cert.Out3.main_arg0)
      ∧ r.2.mem ((c.tc : Thread Cert.Out3.nD Cert.Out3.τ).loc Cert.Out3.main_arg1) = m ((c.tc : Thread Cert.Out3.nD Cert.Out3.τ).loc Cert.Out3.main_arg1)
      ∧ r.2.mem ((c.tc : Thread Cert.Out3.nD Cert.Out3.τ).loc Cert.Out3.main_arg2) = m ((c.tc : Thread Cert.Out3.nD Cert.Out3.τ).loc Cert.Out3.main_arg2))
      ∧ r.2.sem = fun _ => 0)

def quiescent_Out3Ideal [hOut3Ideal : Cert.Out3Ideal.Facts] : Prop :=
  ∀ (m : (ℓ : Loc Cert.Out3Ideal.nD Cert.Out3Ideal.τ Cert.Out3Ideal.sig) → Buf (Elt Ideal) ℓ) (g : Dev Cert.Out3Ideal.nD → PrngReg), Pre_Out3Ideal m →
    θ_run (Cert.Out3Ideal.defs (F := Ideal)) (onTc (τ := Cert.Out3Ideal.τ) (Cert.Out3Ideal.main (F := Ideal))) ⟨m, fun _ => 0, g⟩ (fun r => (∀ c : Dev Cert.Out3Ideal.nD,
      r.2.mem ((c.tc : Thread Cert.Out3Ideal.nD Cert.Out3Ideal.τ).loc Cert.Out3Ideal.main_arg0) = m ((c.tc : Thread Cert.Out3Ideal.nD Cert.Out3Ideal.τ).loc Cert.Out3Ideal.main_arg0)
      ∧ r.2.mem ((c.tc : Thread Cert.Out3Ideal.nD Cert.Out3Ideal.τ).loc Cert.Out3Ideal.main_arg1) = m ((c.tc : Thread Cert.Out3Ideal.nD Cert.Out3Ideal.τ).loc Cert.Out3Ideal.main_arg1)
      ∧ r.2.mem ((c.tc : Thread Cert.Out3Ideal.nD Cert.Out3Ideal.τ).loc Cert.Out3Ideal.main_arg2) = m ((c.tc : Thread Cert.Out3Ideal.nD Cert.Out3Ideal.τ).loc Cert.Out3Ideal.main_arg2))
      ∧ r.2.sem = fun _ => 0)

def quiescent_ROut3Ideal [hROut3Ideal : Cert.ROut3Ideal.Facts] : Prop :=
  ∀ (m : (ℓ : Loc Cert.ROut3Ideal.nD Cert.ROut3Ideal.τ Cert.ROut3Ideal.sig) → Buf (Elt Ideal) ℓ) (g : Dev Cert.ROut3Ideal.nD → PrngReg), Pre_ROut3Ideal m →
    θ_run (Cert.ROut3Ideal.defs (F := Ideal)) (onTc (τ := Cert.ROut3Ideal.τ) (Cert.ROut3Ideal.main (F := Ideal))) ⟨m, fun _ => 0, g⟩ (fun r => (∀ c : Dev Cert.ROut3Ideal.nD,
      r.2.mem ((c.tc : Thread Cert.ROut3Ideal.nD Cert.ROut3Ideal.τ).loc Cert.ROut3Ideal.main_arg0) = m ((c.tc : Thread Cert.ROut3Ideal.nD Cert.ROut3Ideal.τ).loc Cert.ROut3Ideal.main_arg0)
      ∧ r.2.mem ((c.tc : Thread Cert.ROut3Ideal.nD Cert.ROut3Ideal.τ).loc Cert.ROut3Ideal.main_arg1) = m ((c.tc : Thread Cert.ROut3Ideal.nD Cert.ROut3Ideal.τ).loc Cert.ROut3Ideal.main_arg1)
      ∧ r.2.mem ((c.tc : Thread Cert.ROut3Ideal.nD Cert.ROut3Ideal.τ).loc Cert.ROut3Ideal.main_arg2) = m ((c.tc : Thread Cert.ROut3Ideal.nD Cert.ROut3Ideal.τ).loc Cert.ROut3Ideal.main_arg2))
      ∧ r.2.sem = fun _ => 0)

def quiescent_YgGrad3 [hYgGrad3 : Cert.YgGrad3.Facts] : Prop :=
  ∀ (m : (ℓ : Loc Cert.YgGrad3.nD Cert.YgGrad3.τ Cert.YgGrad3.sig) → Buf (Elt Bits) ℓ) (g : Dev Cert.YgGrad3.nD → PrngReg), Pre_YgGrad3 m →
    θ_run (Cert.YgGrad3.defs (F := Bits)) (onTc (τ := Cert.YgGrad3.τ) (Cert.YgGrad3.main (F := Bits))) ⟨m, fun _ => 0, g⟩ (fun r => (∀ c : Dev Cert.YgGrad3.nD,
      r.2.mem ((c.tc : Thread Cert.YgGrad3.nD Cert.YgGrad3.τ).loc Cert.YgGrad3.main_arg0) = m ((c.tc : Thread Cert.YgGrad3.nD Cert.YgGrad3.τ).loc Cert.YgGrad3.main_arg0)
      ∧ r.2.mem ((c.tc : Thread Cert.YgGrad3.nD Cert.YgGrad3.τ).loc Cert.YgGrad3.main_arg1) = m ((c.tc : Thread Cert.YgGrad3.nD Cert.YgGrad3.τ).loc Cert.YgGrad3.main_arg1))
      ∧ r.2.sem = fun _ => 0)

def quiescent_YgGrad3Ideal [hYgGrad3Ideal : Cert.YgGrad3Ideal.Facts] : Prop :=
  ∀ (m : (ℓ : Loc Cert.YgGrad3Ideal.nD Cert.YgGrad3Ideal.τ Cert.YgGrad3Ideal.sig) → Buf (Elt Ideal) ℓ) (g : Dev Cert.YgGrad3Ideal.nD → PrngReg), Pre_YgGrad3Ideal m →
    θ_run (Cert.YgGrad3Ideal.defs (F := Ideal)) (onTc (τ := Cert.YgGrad3Ideal.τ) (Cert.YgGrad3Ideal.main (F := Ideal))) ⟨m, fun _ => 0, g⟩ (fun r => (∀ c : Dev Cert.YgGrad3Ideal.nD,
      r.2.mem ((c.tc : Thread Cert.YgGrad3Ideal.nD Cert.YgGrad3Ideal.τ).loc Cert.YgGrad3Ideal.main_arg0) = m ((c.tc : Thread Cert.YgGrad3Ideal.nD Cert.YgGrad3Ideal.τ).loc Cert.YgGrad3Ideal.main_arg0)
      ∧ r.2.mem ((c.tc : Thread Cert.YgGrad3Ideal.nD Cert.YgGrad3Ideal.τ).loc Cert.YgGrad3Ideal.main_arg1) = m ((c.tc : Thread Cert.YgGrad3Ideal.nD Cert.YgGrad3Ideal.τ).loc Cert.YgGrad3Ideal.main_arg1))
      ∧ r.2.sem = fun _ => 0)

def quiescent_RYgGrad3Ideal [hRYgGrad3Ideal : Cert.RYgGrad3Ideal.Facts] : Prop :=
  ∀ (m : (ℓ : Loc Cert.RYgGrad3Ideal.nD Cert.RYgGrad3Ideal.τ Cert.RYgGrad3Ideal.sig) → Buf (Elt Ideal) ℓ) (g : Dev Cert.RYgGrad3Ideal.nD → PrngReg), Pre_RYgGrad3Ideal m →
    θ_run (Cert.RYgGrad3Ideal.defs (F := Ideal)) (onTc (τ := Cert.RYgGrad3Ideal.τ) (Cert.RYgGrad3Ideal.main (F := Ideal))) ⟨m, fun _ => 0, g⟩ (fun r => (∀ c : Dev Cert.RYgGrad3Ideal.nD,
      r.2.mem ((c.tc : Thread Cert.RYgGrad3Ideal.nD Cert.RYgGrad3Ideal.τ).loc Cert.RYgGrad3Ideal.main_arg0) = m ((c.tc : Thread Cert.RYgGrad3Ideal.nD Cert.RYgGrad3Ideal.τ).loc Cert.RYgGrad3Ideal.main_arg0)
      ∧ r.2.mem ((c.tc : Thread Cert.RYgGrad3Ideal.nD Cert.RYgGrad3Ideal.τ).loc Cert.RYgGrad3Ideal.main_arg1) = m ((c.tc : Thread Cert.RYgGrad3Ideal.nD Cert.RYgGrad3Ideal.τ).loc Cert.RYgGrad3Ideal.main_arg1))
      ∧ r.2.sem = fun _ => 0)

def quiescent_In1 [hIn1 : Cert.In1.Facts] : Prop :=
  ∀ (m : (ℓ : Loc Cert.In1.nD Cert.In1.τ Cert.In1.sig) → Buf (Elt Bits) ℓ) (g : Dev Cert.In1.nD → PrngReg), Pre_In1 m →
    θ_run (Cert.In1.defs (F := Bits)) (onTc (τ := Cert.In1.τ) (Cert.In1.main (F := Bits))) ⟨m, fun _ => 0, g⟩ (fun r => (∀ c : Dev Cert.In1.nD,
      r.2.mem ((c.tc : Thread Cert.In1.nD Cert.In1.τ).loc Cert.In1.main_arg0) = m ((c.tc : Thread Cert.In1.nD Cert.In1.τ).loc Cert.In1.main_arg0)
      ∧ r.2.mem ((c.tc : Thread Cert.In1.nD Cert.In1.τ).loc Cert.In1.main_arg1) = m ((c.tc : Thread Cert.In1.nD Cert.In1.τ).loc Cert.In1.main_arg1)
      ∧ r.2.mem ((c.tc : Thread Cert.In1.nD Cert.In1.τ).loc Cert.In1.main_arg2) = m ((c.tc : Thread Cert.In1.nD Cert.In1.τ).loc Cert.In1.main_arg2))
      ∧ r.2.sem = fun _ => 0)

def quiescent_In1Ideal [hIn1Ideal : Cert.In1Ideal.Facts] : Prop :=
  ∀ (m : (ℓ : Loc Cert.In1Ideal.nD Cert.In1Ideal.τ Cert.In1Ideal.sig) → Buf (Elt Ideal) ℓ) (g : Dev Cert.In1Ideal.nD → PrngReg), Pre_In1Ideal m →
    θ_run (Cert.In1Ideal.defs (F := Ideal)) (onTc (τ := Cert.In1Ideal.τ) (Cert.In1Ideal.main (F := Ideal))) ⟨m, fun _ => 0, g⟩ (fun r => (∀ c : Dev Cert.In1Ideal.nD,
      r.2.mem ((c.tc : Thread Cert.In1Ideal.nD Cert.In1Ideal.τ).loc Cert.In1Ideal.main_arg0) = m ((c.tc : Thread Cert.In1Ideal.nD Cert.In1Ideal.τ).loc Cert.In1Ideal.main_arg0)
      ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
      ∧ r.2.mem ((c.tc : Thread Cert.In1Ideal.nD Cert.In1Ideal.τ).loc Cert.In1Ideal.main_arg2) = m ((c.tc : Thread Cert.In1Ideal.nD Cert.In1Ideal.τ).loc Cert.In1Ideal.main_arg2))
      ∧ r.2.sem = fun _ => 0)

def quiescent_RIn1Ideal [hRIn1Ideal : Cert.RIn1Ideal.Facts] : Prop :=
  ∀ (m : (ℓ : Loc Cert.RIn1Ideal.nD Cert.RIn1Ideal.τ Cert.RIn1Ideal.sig) → Buf (Elt Ideal) ℓ) (g : Dev Cert.RIn1Ideal.nD → PrngReg), Pre_RIn1Ideal m →
    θ_run (Cert.RIn1Ideal.defs (F := Ideal)) (onTc (τ := Cert.RIn1Ideal.τ) (Cert.RIn1Ideal.main (F := Ideal))) ⟨m, fun _ => 0, g⟩ (fun r => (∀ c : Dev Cert.RIn1Ideal.nD,
      r.2.mem ((c.tc : Thread Cert.RIn1Ideal.nD Cert.RIn1Ideal.τ).loc Cert.RIn1Ideal.main_arg0) = m ((c.tc : Thread Cert.RIn1Ideal.nD Cert.RIn1Ideal.τ).loc Cert.RIn1Ideal.main_arg0)
      ∧ r.2.mem ((c.tc : Thread Cert.RIn1Ideal.nD Cert.RIn1Ideal.τ).loc Cert.RIn1Ideal.main_arg1) = m ((c.tc : Thread Cert.RIn1Ideal.nD Cert.RIn1Ideal.τ).loc Cert.RIn1Ideal.main_arg1)
      ∧ r.2.mem ((c.tc : Thread Cert.RIn1Ideal.nD Cert.RIn1Ideal.τ).loc Cert.RIn1Ideal.main_arg2) = m ((c.tc : Thread Cert.RIn1Ideal.nD Cert.RIn1Ideal.τ).loc Cert.RIn1Ideal.main_arg2))
      ∧ r.2.sem = fun _ => 0)

def quiescent_In2 [hIn2 : Cert.In2.Facts] : Prop :=
  ∀ (m : (ℓ : Loc Cert.In2.nD Cert.In2.τ Cert.In2.sig) → Buf (Elt Bits) ℓ) (g : Dev Cert.In2.nD → PrngReg), Pre_In2 m →
    θ_run (Cert.In2.defs (F := Bits)) (onTc (τ := Cert.In2.τ) (Cert.In2.main (F := Bits))) ⟨m, fun _ => 0, g⟩ (fun r => (∀ c : Dev Cert.In2.nD,
      r.2.mem ((c.tc : Thread Cert.In2.nD Cert.In2.τ).loc Cert.In2.main_arg0) = m ((c.tc : Thread Cert.In2.nD Cert.In2.τ).loc Cert.In2.main_arg0)
      ∧ r.2.mem ((c.tc : Thread Cert.In2.nD Cert.In2.τ).loc Cert.In2.main_arg1) = m ((c.tc : Thread Cert.In2.nD Cert.In2.τ).loc Cert.In2.main_arg1)
      ∧ r.2.mem ((c.tc : Thread Cert.In2.nD Cert.In2.τ).loc Cert.In2.main_arg2) = m ((c.tc : Thread Cert.In2.nD Cert.In2.τ).loc Cert.In2.main_arg2))
      ∧ r.2.sem = fun _ => 0)

def quiescent_In2Ideal [hIn2Ideal : Cert.In2Ideal.Facts] : Prop :=
  ∀ (m : (ℓ : Loc Cert.In2Ideal.nD Cert.In2Ideal.τ Cert.In2Ideal.sig) → Buf (Elt Ideal) ℓ) (g : Dev Cert.In2Ideal.nD → PrngReg), Pre_In2Ideal m →
    θ_run (Cert.In2Ideal.defs (F := Ideal)) (onTc (τ := Cert.In2Ideal.τ) (Cert.In2Ideal.main (F := Ideal))) ⟨m, fun _ => 0, g⟩ (fun r => (∀ c : Dev Cert.In2Ideal.nD,
      r.2.mem ((c.tc : Thread Cert.In2Ideal.nD Cert.In2Ideal.τ).loc Cert.In2Ideal.main_arg0) = m ((c.tc : Thread Cert.In2Ideal.nD Cert.In2Ideal.τ).loc Cert.In2Ideal.main_arg0)
      ∧ r.2.mem ((c.tc : Thread Cert.In2Ideal.nD Cert.In2Ideal.τ).loc Cert.In2Ideal.main_arg1) = m ((c.tc : Thread Cert.In2Ideal.nD Cert.In2Ideal.τ).loc Cert.In2Ideal.main_arg1)
      ∧ r.2.mem ((c.tc : Thread Cert.In2Ideal.nD Cert.In2Ideal.τ).loc Cert.In2Ideal.main_arg2) = m ((c.tc : Thread Cert.In2Ideal.nD Cert.In2Ideal.τ).loc Cert.In2Ideal.main_arg2))
      ∧ r.2.sem = fun _ => 0)

def quiescent_RIn2Ideal [hRIn2Ideal : Cert.RIn2Ideal.Facts] : Prop :=
  ∀ (m : (ℓ : Loc Cert.RIn2Ideal.nD Cert.RIn2Ideal.τ Cert.RIn2Ideal.sig) → Buf (Elt Ideal) ℓ) (g : Dev Cert.RIn2Ideal.nD → PrngReg), Pre_RIn2Ideal m →
    θ_run (Cert.RIn2Ideal.defs (F := Ideal)) (onTc (τ := Cert.RIn2Ideal.τ) (Cert.RIn2Ideal.main (F := Ideal))) ⟨m, fun _ => 0, g⟩ (fun r => (∀ c : Dev Cert.RIn2Ideal.nD,
      r.2.mem ((c.tc : Thread Cert.RIn2Ideal.nD Cert.RIn2Ideal.τ).loc Cert.RIn2Ideal.main_arg0) = m ((c.tc : Thread Cert.RIn2Ideal.nD Cert.RIn2Ideal.τ).loc Cert.RIn2Ideal.main_arg0)
      ∧ r.2.mem ((c.tc : Thread Cert.RIn2Ideal.nD Cert.RIn2Ideal.τ).loc Cert.RIn2Ideal.main_arg1) = m ((c.tc : Thread Cert.RIn2Ideal.nD Cert.RIn2Ideal.τ).loc Cert.RIn2Ideal.main_arg1)
      ∧ r.2.mem ((c.tc : Thread Cert.RIn2Ideal.nD Cert.RIn2Ideal.τ).loc Cert.RIn2Ideal.main_arg2) = m ((c.tc : Thread Cert.RIn2Ideal.nD Cert.RIn2Ideal.τ).loc Cert.RIn2Ideal.main_arg2))
      ∧ r.2.sem = fun _ => 0)

def quiescent_In3 [hIn3 : Cert.In3.Facts] : Prop :=
  ∀ (m : (ℓ : Loc Cert.In3.nD Cert.In3.τ Cert.In3.sig) → Buf (Elt Bits) ℓ) (g : Dev Cert.In3.nD → PrngReg), Pre_In3 m →
    θ_run (Cert.In3.defs (F := Bits)) (onTc (τ := Cert.In3.τ) (Cert.In3.main (F := Bits))) ⟨m, fun _ => 0, g⟩ (fun r => (∀ c : Dev Cert.In3.nD,
      r.2.mem ((c.tc : Thread Cert.In3.nD Cert.In3.τ).loc Cert.In3.main_arg0) = m ((c.tc : Thread Cert.In3.nD Cert.In3.τ).loc Cert.In3.main_arg0)
      ∧ r.2.mem ((c.tc : Thread Cert.In3.nD Cert.In3.τ).loc Cert.In3.main_arg1) = m ((c.tc : Thread Cert.In3.nD Cert.In3.τ).loc Cert.In3.main_arg1)
      ∧ r.2.mem ((c.tc : Thread Cert.In3.nD Cert.In3.τ).loc Cert.In3.main_arg2) = m ((c.tc : Thread Cert.In3.nD Cert.In3.τ).loc Cert.In3.main_arg2))
      ∧ r.2.sem = fun _ => 0)

def quiescent_In3Ideal [hIn3Ideal : Cert.In3Ideal.Facts] : Prop :=
  ∀ (m : (ℓ : Loc Cert.In3Ideal.nD Cert.In3Ideal.τ Cert.In3Ideal.sig) → Buf (Elt Ideal) ℓ) (g : Dev Cert.In3Ideal.nD → PrngReg), Pre_In3Ideal m →
    θ_run (Cert.In3Ideal.defs (F := Ideal)) (onTc (τ := Cert.In3Ideal.τ) (Cert.In3Ideal.main (F := Ideal))) ⟨m, fun _ => 0, g⟩ (fun r => (∀ c : Dev Cert.In3Ideal.nD,
      r.2.mem ((c.tc : Thread Cert.In3Ideal.nD Cert.In3Ideal.τ).loc Cert.In3Ideal.main_arg0) = m ((c.tc : Thread Cert.In3Ideal.nD Cert.In3Ideal.τ).loc Cert.In3Ideal.main_arg0)
      ∧ r.2.mem ((c.tc : Thread Cert.In3Ideal.nD Cert.In3Ideal.τ).loc Cert.In3Ideal.main_arg1) = m ((c.tc : Thread Cert.In3Ideal.nD Cert.In3Ideal.τ).loc Cert.In3Ideal.main_arg1)
      ∧ r.2.mem ((c.tc : Thread Cert.In3Ideal.nD Cert.In3Ideal.τ).loc Cert.In3Ideal.main_arg2) = m ((c.tc : Thread Cert.In3Ideal.nD Cert.In3Ideal.τ).loc Cert.In3Ideal.main_arg2))
      ∧ r.2.sem = fun _ => 0)

def quiescent_RIn3Ideal [hRIn3Ideal : Cert.RIn3Ideal.Facts] : Prop :=
  ∀ (m : (ℓ : Loc Cert.RIn3Ideal.nD Cert.RIn3Ideal.τ Cert.RIn3Ideal.sig) → Buf (Elt Ideal) ℓ) (g : Dev Cert.RIn3Ideal.nD → PrngReg), Pre_RIn3Ideal m →
    θ_run (Cert.RIn3Ideal.defs (F := Ideal)) (onTc (τ := Cert.RIn3Ideal.τ) (Cert.RIn3Ideal.main (F := Ideal))) ⟨m, fun _ => 0, g⟩ (fun r => (∀ c : Dev Cert.RIn3Ideal.nD,
      r.2.mem ((c.tc : Thread Cert.RIn3Ideal.nD Cert.RIn3Ideal.τ).loc Cert.RIn3Ideal.main_arg0) = m ((c.tc : Thread Cert.RIn3Ideal.nD Cert.RIn3Ideal.τ).loc Cert.RIn3Ideal.main_arg0)
      ∧ r.2.mem ((c.tc : Thread Cert.RIn3Ideal.nD Cert.RIn3Ideal.τ).loc Cert.RIn3Ideal.main_arg1) = m ((c.tc : Thread Cert.RIn3Ideal.nD Cert.RIn3Ideal.τ).loc Cert.RIn3Ideal.main_arg1)
      ∧ r.2.mem ((c.tc : Thread Cert.RIn3Ideal.nD Cert.RIn3Ideal.τ).loc Cert.RIn3Ideal.main_arg2) = m ((c.tc : Thread Cert.RIn3Ideal.nD Cert.RIn3Ideal.τ).loc Cert.RIn3Ideal.main_arg2))
      ∧ r.2.sem = fun _ => 0)

def quiescent_MixedGrad2 [hMixedGrad2 : Cert.MixedGrad2.Facts] : Prop :=
  ∀ (m : (ℓ : Loc Cert.MixedGrad2.nD Cert.MixedGrad2.τ Cert.MixedGrad2.sig) → Buf (Elt Bits) ℓ) (g : Dev Cert.MixedGrad2.nD → PrngReg), Pre_MixedGrad2 m →
    θ_run (Cert.MixedGrad2.defs (F := Bits)) (onTc (τ := Cert.MixedGrad2.τ) (Cert.MixedGrad2.main (F := Bits))) ⟨m, fun _ => 0, g⟩ (fun r => (∀ c : Dev Cert.MixedGrad2.nD,
      r.2.mem ((c.tc : Thread Cert.MixedGrad2.nD Cert.MixedGrad2.τ).loc Cert.MixedGrad2.main_arg0) = m ((c.tc : Thread Cert.MixedGrad2.nD Cert.MixedGrad2.τ).loc Cert.MixedGrad2.main_arg0)
      ∧ r.2.mem ((c.tc : Thread Cert.MixedGrad2.nD Cert.MixedGrad2.τ).loc Cert.MixedGrad2.main_arg1) = m ((c.tc : Thread Cert.MixedGrad2.nD Cert.MixedGrad2.τ).loc Cert.MixedGrad2.main_arg1))
      ∧ r.2.sem = fun _ => 0)

def quiescent_MixedGrad2Ideal [hMixedGrad2Ideal : Cert.MixedGrad2Ideal.Facts] : Prop :=
  ∀ (m : (ℓ : Loc Cert.MixedGrad2Ideal.nD Cert.MixedGrad2Ideal.τ Cert.MixedGrad2Ideal.sig) → Buf (Elt Ideal) ℓ) (g : Dev Cert.MixedGrad2Ideal.nD → PrngReg), Pre_MixedGrad2Ideal m →
    θ_run (Cert.MixedGrad2Ideal.defs (F := Ideal)) (onTc (τ := Cert.MixedGrad2Ideal.τ) (Cert.MixedGrad2Ideal.main (F := Ideal))) ⟨m, fun _ => 0, g⟩ (fun r => (∀ c : Dev Cert.MixedGrad2Ideal.nD,
      r.2.mem ((c.tc : Thread Cert.MixedGrad2Ideal.nD Cert.MixedGrad2Ideal.τ).loc Cert.MixedGrad2Ideal.main_arg0) = m ((c.tc : Thread Cert.MixedGrad2Ideal.nD Cert.MixedGrad2Ideal.τ).loc Cert.MixedGrad2Ideal.main_arg0)
      ∧ r.2.mem ((c.tc : Thread Cert.MixedGrad2Ideal.nD Cert.MixedGrad2Ideal.τ).loc Cert.MixedGrad2Ideal.main_arg1) = m ((c.tc : Thread Cert.MixedGrad2Ideal.nD Cert.MixedGrad2Ideal.τ).loc Cert.MixedGrad2Ideal.main_arg1))
      ∧ r.2.sem = fun _ => 0)

def quiescent_RMixedGrad2Ideal [hRMixedGrad2Ideal : Cert.RMixedGrad2Ideal.Facts] : Prop :=
  ∀ (m : (ℓ : Loc Cert.RMixedGrad2Ideal.nD Cert.RMixedGrad2Ideal.τ Cert.RMixedGrad2Ideal.sig) → Buf (Elt Ideal) ℓ) (g : Dev Cert.RMixedGrad2Ideal.nD → PrngReg), Pre_RMixedGrad2Ideal m →
    θ_run (Cert.RMixedGrad2Ideal.defs (F := Ideal)) (onTc (τ := Cert.RMixedGrad2Ideal.τ) (Cert.RMixedGrad2Ideal.main (F := Ideal))) ⟨m, fun _ => 0, g⟩ (fun r => (∀ c : Dev Cert.RMixedGrad2Ideal.nD,
      r.2.mem ((c.tc : Thread Cert.RMixedGrad2Ideal.nD Cert.RMixedGrad2Ideal.τ).loc Cert.RMixedGrad2Ideal.main_arg0) = m ((c.tc : Thread Cert.RMixedGrad2Ideal.nD Cert.RMixedGrad2Ideal.τ).loc Cert.RMixedGrad2Ideal.main_arg0)
      ∧ r.2.mem ((c.tc : Thread Cert.RMixedGrad2Ideal.nD Cert.RMixedGrad2Ideal.τ).loc Cert.RMixedGrad2Ideal.main_arg1) = m ((c.tc : Thread Cert.RMixedGrad2Ideal.nD Cert.RMixedGrad2Ideal.τ).loc Cert.RMixedGrad2Ideal.main_arg1))
      ∧ r.2.sem = fun _ => 0)

def quiescent_GrpGrad2 [hGrpGrad2 : Cert.GrpGrad2.Facts] : Prop :=
  ∀ (m : (ℓ : Loc Cert.GrpGrad2.nD Cert.GrpGrad2.τ Cert.GrpGrad2.sig) → Buf (Elt Bits) ℓ) (g : Dev Cert.GrpGrad2.nD → PrngReg), Pre_GrpGrad2 m →
    θ_run (Cert.GrpGrad2.defs (F := Bits)) (onTc (τ := Cert.GrpGrad2.τ) (Cert.GrpGrad2.main (F := Bits))) ⟨m, fun _ => 0, g⟩ (fun r => (∀ c : Dev Cert.GrpGrad2.nD,
      r.2.mem ((c.tc : Thread Cert.GrpGrad2.nD Cert.GrpGrad2.τ).loc Cert.GrpGrad2.main_arg0) = m ((c.tc : Thread Cert.GrpGrad2.nD Cert.GrpGrad2.τ).loc Cert.GrpGrad2.main_arg0)
      ∧ r.2.mem ((c.tc : Thread Cert.GrpGrad2.nD Cert.GrpGrad2.τ).loc Cert.GrpGrad2.main_arg1) = m ((c.tc : Thread Cert.GrpGrad2.nD Cert.GrpGrad2.τ).loc Cert.GrpGrad2.main_arg1))
      ∧ r.2.sem = fun _ => 0)

def quiescent_GrpGrad2Ideal [hGrpGrad2Ideal : Cert.GrpGrad2Ideal.Facts] : Prop :=
  ∀ (m : (ℓ : Loc Cert.GrpGrad2Ideal.nD Cert.GrpGrad2Ideal.τ Cert.GrpGrad2Ideal.sig) → Buf (Elt Ideal) ℓ) (g : Dev Cert.GrpGrad2Ideal.nD → PrngReg), Pre_GrpGrad2Ideal m →
    θ_run (Cert.GrpGrad2Ideal.defs (F := Ideal)) (onTc (τ := Cert.GrpGrad2Ideal.τ) (Cert.GrpGrad2Ideal.main (F := Ideal))) ⟨m, fun _ => 0, g⟩ (fun r => (∀ c : Dev Cert.GrpGrad2Ideal.nD,
      r.2.mem ((c.tc : Thread Cert.GrpGrad2Ideal.nD Cert.GrpGrad2Ideal.τ).loc Cert.GrpGrad2Ideal.main_arg0) = m ((c.tc : Thread Cert.GrpGrad2Ideal.nD Cert.GrpGrad2Ideal.τ).loc Cert.GrpGrad2Ideal.main_arg0)
      ∧ r.2.mem ((c.tc : Thread Cert.GrpGrad2Ideal.nD Cert.GrpGrad2Ideal.τ).loc Cert.GrpGrad2Ideal.main_arg1) = m ((c.tc : Thread Cert.GrpGrad2Ideal.nD Cert.GrpGrad2Ideal.τ).loc Cert.GrpGrad2Ideal.main_arg1))
      ∧ r.2.sem = fun _ => 0)

def quiescent_RGrpGrad2Ideal [hRGrpGrad2Ideal : Cert.RGrpGrad2Ideal.Facts] : Prop :=
  ∀ (m : (ℓ : Loc Cert.RGrpGrad2Ideal.nD Cert.RGrpGrad2Ideal.τ Cert.RGrpGrad2Ideal.sig) → Buf (Elt Ideal) ℓ) (g : Dev Cert.RGrpGrad2Ideal.nD → PrngReg), Pre_RGrpGrad2Ideal m →
    θ_run (Cert.RGrpGrad2Ideal.defs (F := Ideal)) (onTc (τ := Cert.RGrpGrad2Ideal.τ) (Cert.RGrpGrad2Ideal.main (F := Ideal))) ⟨m, fun _ => 0, g⟩ (fun r => (∀ c : Dev Cert.RGrpGrad2Ideal.nD,
      r.2.mem ((c.tc : Thread Cert.RGrpGrad2Ideal.nD Cert.RGrpGrad2Ideal.τ).loc Cert.RGrpGrad2Ideal.main_arg0) = m ((c.tc : Thread Cert.RGrpGrad2Ideal.nD Cert.RGrpGrad2Ideal.τ).loc Cert.RGrpGrad2Ideal.main_arg0)
      ∧ r.2.mem ((c.tc : Thread Cert.RGrpGrad2Ideal.nD Cert.RGrpGrad2Ideal.τ).loc Cert.RGrpGrad2Ideal.main_arg1) = m ((c.tc : Thread Cert.RGrpGrad2Ideal.nD Cert.RGrpGrad2Ideal.τ).loc Cert.RGrpGrad2Ideal.main_arg1))
      ∧ r.2.sem = fun _ => 0)

def quiescent_Grp2 [hGrp2 : Cert.Grp2.Facts] : Prop :=
  ∀ (m : (ℓ : Loc Cert.Grp2.nD Cert.Grp2.τ Cert.Grp2.sig) → Buf (Elt Bits) ℓ) (g : Dev Cert.Grp2.nD → PrngReg), Pre_Grp2 m →
    θ_run (Cert.Grp2.defs (F := Bits)) (onTc (τ := Cert.Grp2.τ) (Cert.Grp2.main (F := Bits))) ⟨m, fun _ => 0, g⟩ (fun r => (∀ c : Dev Cert.Grp2.nD,
      r.2.mem ((c.tc : Thread Cert.Grp2.nD Cert.Grp2.τ).loc Cert.Grp2.main_arg0) = m ((c.tc : Thread Cert.Grp2.nD Cert.Grp2.τ).loc Cert.Grp2.main_arg0)
      ∧ r.2.mem ((c.tc : Thread Cert.Grp2.nD Cert.Grp2.τ).loc Cert.Grp2.main_arg1) = m ((c.tc : Thread Cert.Grp2.nD Cert.Grp2.τ).loc Cert.Grp2.main_arg1)
      ∧ r.2.mem ((c.tc : Thread Cert.Grp2.nD Cert.Grp2.τ).loc Cert.Grp2.main_arg2) = m ((c.tc : Thread Cert.Grp2.nD Cert.Grp2.τ).loc Cert.Grp2.main_arg2)
      ∧ r.2.mem ((c.tc : Thread Cert.Grp2.nD Cert.Grp2.τ).loc Cert.Grp2.main_arg3) = m ((c.tc : Thread Cert.Grp2.nD Cert.Grp2.τ).loc Cert.Grp2.main_arg3)
      ∧ r.2.mem ((c.tc : Thread Cert.Grp2.nD Cert.Grp2.τ).loc Cert.Grp2.main_arg4) = m ((c.tc : Thread Cert.Grp2.nD Cert.Grp2.τ).loc Cert.Grp2.main_arg4))
      ∧ r.2.sem = fun _ => 0)

def quiescent_Grp2Ideal [hGrp2Ideal : Cert.Grp2Ideal.Facts] : Prop :=
  ∀ (m : (ℓ : Loc Cert.Grp2Ideal.nD Cert.Grp2Ideal.τ Cert.Grp2Ideal.sig) → Buf (Elt Ideal) ℓ) (g : Dev Cert.Grp2Ideal.nD → PrngReg), Pre_Grp2Ideal m →
    θ_run (Cert.Grp2Ideal.defs (F := Ideal)) (onTc (τ := Cert.Grp2Ideal.τ) (Cert.Grp2Ideal.main (F := Ideal))) ⟨m, fun _ => 0, g⟩ (fun r => (∀ c : Dev Cert.Grp2Ideal.nD,
      r.2.mem ((c.tc : Thread Cert.Grp2Ideal.nD Cert.Grp2Ideal.τ).loc Cert.Grp2Ideal.main_arg0) = m ((c.tc : Thread Cert.Grp2Ideal.nD Cert.Grp2Ideal.τ).loc Cert.Grp2Ideal.main_arg0)
      ∧ r.2.mem ((c.tc : Thread Cert.Grp2Ideal.nD Cert.Grp2Ideal.τ).loc Cert.Grp2Ideal.main_arg1) = m ((c.tc : Thread Cert.Grp2Ideal.nD Cert.Grp2Ideal.τ).loc Cert.Grp2Ideal.main_arg1)
      ∧ r.2.mem ((c.tc : Thread Cert.Grp2Ideal.nD Cert.Grp2Ideal.τ).loc Cert.Grp2Ideal.main_arg2) = m ((c.tc : Thread Cert.Grp2Ideal.nD Cert.Grp2Ideal.τ).loc Cert.Grp2Ideal.main_arg2)
      ∧ r.2.mem ((c.tc : Thread Cert.Grp2Ideal.nD Cert.Grp2Ideal.τ).loc Cert.Grp2Ideal.main_arg3) = m ((c.tc : Thread Cert.Grp2Ideal.nD Cert.Grp2Ideal.τ).loc Cert.Grp2Ideal.main_arg3)
      ∧ r.2.mem ((c.tc : Thread Cert.Grp2Ideal.nD Cert.Grp2Ideal.τ).loc Cert.Grp2Ideal.main_arg4) = m ((c.tc : Thread Cert.Grp2Ideal.nD Cert.Grp2Ideal.τ).loc Cert.Grp2Ideal.main_arg4))
      ∧ r.2.sem = fun _ => 0)

def quiescent_RGrp2Ideal [hRGrp2Ideal : Cert.RGrp2Ideal.Facts] : Prop :=
  ∀ (m : (ℓ : Loc Cert.RGrp2Ideal.nD Cert.RGrp2Ideal.τ Cert.RGrp2Ideal.sig) → Buf (Elt Ideal) ℓ) (g : Dev Cert.RGrp2Ideal.nD → PrngReg), Pre_RGrp2Ideal m →
    θ_run (Cert.RGrp2Ideal.defs (F := Ideal)) (onTc (τ := Cert.RGrp2Ideal.τ) (Cert.RGrp2Ideal.main (F := Ideal))) ⟨m, fun _ => 0, g⟩ (fun r => (∀ c : Dev Cert.RGrp2Ideal.nD,
      r.2.mem ((c.tc : Thread Cert.RGrp2Ideal.nD Cert.RGrp2Ideal.τ).loc Cert.RGrp2Ideal.main_arg0) = m ((c.tc : Thread Cert.RGrp2Ideal.nD Cert.RGrp2Ideal.τ).loc Cert.RGrp2Ideal.main_arg0)
      ∧ r.2.mem ((c.tc : Thread Cert.RGrp2Ideal.nD Cert.RGrp2Ideal.τ).loc Cert.RGrp2Ideal.main_arg1) = m ((c.tc : Thread Cert.RGrp2Ideal.nD Cert.RGrp2Ideal.τ).loc Cert.RGrp2Ideal.main_arg1)
      ∧ r.2.mem ((c.tc : Thread Cert.RGrp2Ideal.nD Cert.RGrp2Ideal.τ).loc Cert.RGrp2Ideal.main_arg2) = m ((c.tc : Thread Cert.RGrp2Ideal.nD Cert.RGrp2Ideal.τ).loc Cert.RGrp2Ideal.main_arg2)
      ∧ r.2.mem ((c.tc : Thread Cert.RGrp2Ideal.nD Cert.RGrp2Ideal.τ).loc Cert.RGrp2Ideal.main_arg3) = m ((c.tc : Thread Cert.RGrp2Ideal.nD Cert.RGrp2Ideal.τ).loc Cert.RGrp2Ideal.main_arg3)
      ∧ r.2.mem ((c.tc : Thread Cert.RGrp2Ideal.nD Cert.RGrp2Ideal.τ).loc Cert.RGrp2Ideal.main_arg4) = m ((c.tc : Thread Cert.RGrp2Ideal.nD Cert.RGrp2Ideal.τ).loc Cert.RGrp2Ideal.main_arg4))
      ∧ r.2.sem = fun _ => 0)

def quiescent_Glu3 [hGlu3 : Cert.Glu3.Facts] : Prop :=
  ∀ (m : (ℓ : Loc Cert.Glu3.nD Cert.Glu3.τ Cert.Glu3.sig) → Buf (Elt Bits) ℓ) (g : Dev Cert.Glu3.nD → PrngReg), Pre_Glu3 m →
    θ_run (Cert.Glu3.defs (F := Bits)) (onTc (τ := Cert.Glu3.τ) (Cert.Glu3.main (F := Bits))) ⟨m, fun _ => 0, g⟩ (fun r => (∀ c : Dev Cert.Glu3.nD,
      r.2.mem ((c.tc : Thread Cert.Glu3.nD Cert.Glu3.τ).loc Cert.Glu3.main_arg0) = m ((c.tc : Thread Cert.Glu3.nD Cert.Glu3.τ).loc Cert.Glu3.main_arg0)
      ∧ r.2.mem ((c.tc : Thread Cert.Glu3.nD Cert.Glu3.τ).loc Cert.Glu3.main_arg1) = m ((c.tc : Thread Cert.Glu3.nD Cert.Glu3.τ).loc Cert.Glu3.main_arg1)
      ∧ r.2.mem ((c.tc : Thread Cert.Glu3.nD Cert.Glu3.τ).loc Cert.Glu3.main_arg2) = m ((c.tc : Thread Cert.Glu3.nD Cert.Glu3.τ).loc Cert.Glu3.main_arg2)
      ∧ r.2.mem ((c.tc : Thread Cert.Glu3.nD Cert.Glu3.τ).loc Cert.Glu3.main_arg3) = m ((c.tc : Thread Cert.Glu3.nD Cert.Glu3.τ).loc Cert.Glu3.main_arg3))
      ∧ r.2.sem = fun _ => 0)

def quiescent_Glu3Ideal [hGlu3Ideal : Cert.Glu3Ideal.Facts] : Prop :=
  ∀ (m : (ℓ : Loc Cert.Glu3Ideal.nD Cert.Glu3Ideal.τ Cert.Glu3Ideal.sig) → Buf (Elt Ideal) ℓ) (g : Dev Cert.Glu3Ideal.nD → PrngReg), Pre_Glu3Ideal m →
    θ_run (Cert.Glu3Ideal.defs (F := Ideal)) (onTc (τ := Cert.Glu3Ideal.τ) (Cert.Glu3Ideal.main (F := Ideal))) ⟨m, fun _ => 0, g⟩ (fun r => (∀ c : Dev Cert.Glu3Ideal.nD,
      r.2.mem ((c.tc : Thread Cert.Glu3Ideal.nD Cert.Glu3Ideal.τ).loc Cert.Glu3Ideal.main_arg0) = m ((c.tc : Thread Cert.Glu3Ideal.nD Cert.Glu3Ideal.τ).loc Cert.Glu3Ideal.main_arg0)
      ∧ r.2.mem ((c.tc : Thread Cert.Glu3Ideal.nD Cert.Glu3Ideal.τ).loc Cert.Glu3Ideal.main_arg1) = m ((c.tc : Thread Cert.Glu3Ideal.nD Cert.Glu3Ideal.τ).loc Cert.Glu3Ideal.main_arg1)
      ∧ r.2.mem ((c.tc : Thread Cert.Glu3Ideal.nD Cert.Glu3Ideal.τ).loc Cert.Glu3Ideal.main_arg2) = m ((c.tc : Thread Cert.Glu3Ideal.nD Cert.Glu3Ideal.τ).loc Cert.Glu3Ideal.main_arg2)
      ∧ r.2.mem ((c.tc : Thread Cert.Glu3Ideal.nD Cert.Glu3Ideal.τ).loc Cert.Glu3Ideal.main_arg3) = m ((c.tc : Thread Cert.Glu3Ideal.nD Cert.Glu3Ideal.τ).loc Cert.Glu3Ideal.main_arg3))
      ∧ r.2.sem = fun _ => 0)

def quiescent_RGlu3Ideal [hRGlu3Ideal : Cert.RGlu3Ideal.Facts] : Prop :=
  ∀ (m : (ℓ : Loc Cert.RGlu3Ideal.nD Cert.RGlu3Ideal.τ Cert.RGlu3Ideal.sig) → Buf (Elt Ideal) ℓ) (g : Dev Cert.RGlu3Ideal.nD → PrngReg), Pre_RGlu3Ideal m →
    θ_run (Cert.RGlu3Ideal.defs (F := Ideal)) (onTc (τ := Cert.RGlu3Ideal.τ) (Cert.RGlu3Ideal.main (F := Ideal))) ⟨m, fun _ => 0, g⟩ (fun r => (∀ c : Dev Cert.RGlu3Ideal.nD,
      r.2.mem ((c.tc : Thread Cert.RGlu3Ideal.nD Cert.RGlu3Ideal.τ).loc Cert.RGlu3Ideal.main_arg0) = m ((c.tc : Thread Cert.RGlu3Ideal.nD Cert.RGlu3Ideal.τ).loc Cert.RGlu3Ideal.main_arg0)
      ∧ r.2.mem ((c.tc : Thread Cert.RGlu3Ideal.nD Cert.RGlu3Ideal.τ).loc Cert.RGlu3Ideal.main_arg1) = m ((c.tc : Thread Cert.RGlu3Ideal.nD Cert.RGlu3Ideal.τ).loc Cert.RGlu3Ideal.main_arg1)
      ∧ r.2.mem ((c.tc : Thread Cert.RGlu3Ideal.nD Cert.RGlu3Ideal.τ).loc Cert.RGlu3Ideal.main_arg2) = m ((c.tc : Thread Cert.RGlu3Ideal.nD Cert.RGlu3Ideal.τ).loc Cert.RGlu3Ideal.main_arg2)
      ∧ r.2.mem ((c.tc : Thread Cert.RGlu3Ideal.nD Cert.RGlu3Ideal.τ).loc Cert.RGlu3Ideal.main_arg3) = m ((c.tc : Thread Cert.RGlu3Ideal.nD Cert.RGlu3Ideal.τ).loc Cert.RGlu3Ideal.main_arg3))
      ∧ r.2.sem = fun _ => 0)

def quiescent_PoolGate2 [hPoolGate2 : Cert.PoolGate2.Facts] : Prop :=
  ∀ (m : (ℓ : Loc Cert.PoolGate2.nD Cert.PoolGate2.τ Cert.PoolGate2.sig) → Buf (Elt Bits) ℓ) (g : Dev Cert.PoolGate2.nD → PrngReg), Pre_PoolGate2 m →
    θ_run (Cert.PoolGate2.defs (F := Bits)) (onTc (τ := Cert.PoolGate2.τ) (Cert.PoolGate2.main (F := Bits))) ⟨m, fun _ => 0, g⟩ (fun r => (∀ c : Dev Cert.PoolGate2.nD,
      r.2.mem ((c.tc : Thread Cert.PoolGate2.nD Cert.PoolGate2.τ).loc Cert.PoolGate2.main_arg0) = m ((c.tc : Thread Cert.PoolGate2.nD Cert.PoolGate2.τ).loc Cert.PoolGate2.main_arg0)
      ∧ r.2.mem ((c.tc : Thread Cert.PoolGate2.nD Cert.PoolGate2.τ).loc Cert.PoolGate2.main_arg1) = m ((c.tc : Thread Cert.PoolGate2.nD Cert.PoolGate2.τ).loc Cert.PoolGate2.main_arg1)
      ∧ r.2.mem ((c.tc : Thread Cert.PoolGate2.nD Cert.PoolGate2.τ).loc Cert.PoolGate2.main_arg2) = m ((c.tc : Thread Cert.PoolGate2.nD Cert.PoolGate2.τ).loc Cert.PoolGate2.main_arg2)
      ∧ r.2.mem ((c.tc : Thread Cert.PoolGate2.nD Cert.PoolGate2.τ).loc Cert.PoolGate2.main_arg3) = m ((c.tc : Thread Cert.PoolGate2.nD Cert.PoolGate2.τ).loc Cert.PoolGate2.main_arg3)
      ∧ r.2.mem ((c.tc : Thread Cert.PoolGate2.nD Cert.PoolGate2.τ).loc Cert.PoolGate2.main_arg4) = m ((c.tc : Thread Cert.PoolGate2.nD Cert.PoolGate2.τ).loc Cert.PoolGate2.main_arg4))
      ∧ r.2.sem = fun _ => 0)

def quiescent_PoolGate2Ideal [hPoolGate2Ideal : Cert.PoolGate2Ideal.Facts] : Prop :=
  ∀ (m : (ℓ : Loc Cert.PoolGate2Ideal.nD Cert.PoolGate2Ideal.τ Cert.PoolGate2Ideal.sig) → Buf (Elt Ideal) ℓ) (g : Dev Cert.PoolGate2Ideal.nD → PrngReg), Pre_PoolGate2Ideal m →
    θ_run (Cert.PoolGate2Ideal.defs (F := Ideal)) (onTc (τ := Cert.PoolGate2Ideal.τ) (Cert.PoolGate2Ideal.main (F := Ideal))) ⟨m, fun _ => 0, g⟩ (fun r => (∀ c : Dev Cert.PoolGate2Ideal.nD,
      r.2.mem ((c.tc : Thread Cert.PoolGate2Ideal.nD Cert.PoolGate2Ideal.τ).loc Cert.PoolGate2Ideal.main_arg0) = m ((c.tc : Thread Cert.PoolGate2Ideal.nD Cert.PoolGate2Ideal.τ).loc Cert.PoolGate2Ideal.main_arg0)
      ∧ r.2.mem ((c.tc : Thread Cert.PoolGate2Ideal.nD Cert.PoolGate2Ideal.τ).loc Cert.PoolGate2Ideal.main_arg1) = m ((c.tc : Thread Cert.PoolGate2Ideal.nD Cert.PoolGate2Ideal.τ).loc Cert.PoolGate2Ideal.main_arg1)
      ∧ r.2.mem ((c.tc : Thread Cert.PoolGate2Ideal.nD Cert.PoolGate2Ideal.τ).loc Cert.PoolGate2Ideal.main_arg2) = m ((c.tc : Thread Cert.PoolGate2Ideal.nD Cert.PoolGate2Ideal.τ).loc Cert.PoolGate2Ideal.main_arg2)
      ∧ r.2.mem ((c.tc : Thread Cert.PoolGate2Ideal.nD Cert.PoolGate2Ideal.τ).loc Cert.PoolGate2Ideal.main_arg3) = m ((c.tc : Thread Cert.PoolGate2Ideal.nD Cert.PoolGate2Ideal.τ).loc Cert.PoolGate2Ideal.main_arg3)
      ∧ r.2.mem ((c.tc : Thread Cert.PoolGate2Ideal.nD Cert.PoolGate2Ideal.τ).loc Cert.PoolGate2Ideal.main_arg4) = m ((c.tc : Thread Cert.PoolGate2Ideal.nD Cert.PoolGate2Ideal.τ).loc Cert.PoolGate2Ideal.main_arg4))
      ∧ r.2.sem = fun _ => 0)

def quiescent_RPoolGate2Ideal [hRPoolGate2Ideal : Cert.RPoolGate2Ideal.Facts] : Prop :=
  ∀ (m : (ℓ : Loc Cert.RPoolGate2Ideal.nD Cert.RPoolGate2Ideal.τ Cert.RPoolGate2Ideal.sig) → Buf (Elt Ideal) ℓ) (g : Dev Cert.RPoolGate2Ideal.nD → PrngReg), Pre_RPoolGate2Ideal m →
    θ_run (Cert.RPoolGate2Ideal.defs (F := Ideal)) (onTc (τ := Cert.RPoolGate2Ideal.τ) (Cert.RPoolGate2Ideal.main (F := Ideal))) ⟨m, fun _ => 0, g⟩ (fun r => (∀ c : Dev Cert.RPoolGate2Ideal.nD,
      r.2.mem ((c.tc : Thread Cert.RPoolGate2Ideal.nD Cert.RPoolGate2Ideal.τ).loc Cert.RPoolGate2Ideal.main_arg0) = m ((c.tc : Thread Cert.RPoolGate2Ideal.nD Cert.RPoolGate2Ideal.τ).loc Cert.RPoolGate2Ideal.main_arg0)
      ∧ r.2.mem ((c.tc : Thread Cert.RPoolGate2Ideal.nD Cert.RPoolGate2Ideal.τ).loc Cert.RPoolGate2Ideal.main_arg1) = m ((c.tc : Thread Cert.RPoolGate2Ideal.nD Cert.RPoolGate2Ideal.τ).loc Cert.RPoolGate2Ideal.main_arg1)
      ∧ r.2.mem ((c.tc : Thread Cert.RPoolGate2Ideal.nD Cert.RPoolGate2Ideal.τ).loc Cert.RPoolGate2Ideal.main_arg2) = m ((c.tc : Thread Cert.RPoolGate2Ideal.nD Cert.RPoolGate2Ideal.τ).loc Cert.RPoolGate2Ideal.main_arg2)
      ∧ r.2.mem ((c.tc : Thread Cert.RPoolGate2Ideal.nD Cert.RPoolGate2Ideal.τ).loc Cert.RPoolGate2Ideal.main_arg3) = m ((c.tc : Thread Cert.RPoolGate2Ideal.nD Cert.RPoolGate2Ideal.τ).loc Cert.RPoolGate2Ideal.main_arg3)
      ∧ r.2.mem ((c.tc : Thread Cert.RPoolGate2Ideal.nD Cert.RPoolGate2Ideal.τ).loc Cert.RPoolGate2Ideal.main_arg4) = m ((c.tc : Thread Cert.RPoolGate2Ideal.nD Cert.RPoolGate2Ideal.τ).loc Cert.RPoolGate2Ideal.main_arg4))
      ∧ r.2.sem = fun _ => 0)

def quiescent_GateGrad3 [hGateGrad3 : Cert.GateGrad3.Facts] : Prop :=
  ∀ (m : (ℓ : Loc Cert.GateGrad3.nD Cert.GateGrad3.τ Cert.GateGrad3.sig) → Buf (Elt Bits) ℓ) (g : Dev Cert.GateGrad3.nD → PrngReg), Pre_GateGrad3 m →
    θ_run (Cert.GateGrad3.defs (F := Bits)) (onTc (τ := Cert.GateGrad3.τ) (Cert.GateGrad3.main (F := Bits))) ⟨m, fun _ => 0, g⟩ (fun r => (∀ c : Dev Cert.GateGrad3.nD,
      r.2.mem ((c.tc : Thread Cert.GateGrad3.nD Cert.GateGrad3.τ).loc Cert.GateGrad3.main_arg0) = m ((c.tc : Thread Cert.GateGrad3.nD Cert.GateGrad3.τ).loc Cert.GateGrad3.main_arg0)
      ∧ r.2.mem ((c.tc : Thread Cert.GateGrad3.nD Cert.GateGrad3.τ).loc Cert.GateGrad3.main_arg1) = m ((c.tc : Thread Cert.GateGrad3.nD Cert.GateGrad3.τ).loc Cert.GateGrad3.main_arg1)
      ∧ r.2.mem ((c.tc : Thread Cert.GateGrad3.nD Cert.GateGrad3.τ).loc Cert.GateGrad3.main_arg2) = m ((c.tc : Thread Cert.GateGrad3.nD Cert.GateGrad3.τ).loc Cert.GateGrad3.main_arg2)
      ∧ r.2.mem ((c.tc : Thread Cert.GateGrad3.nD Cert.GateGrad3.τ).loc Cert.GateGrad3.main_arg3) = m ((c.tc : Thread Cert.GateGrad3.nD Cert.GateGrad3.τ).loc Cert.GateGrad3.main_arg3)
      ∧ r.2.mem ((c.tc : Thread Cert.GateGrad3.nD Cert.GateGrad3.τ).loc Cert.GateGrad3.main_arg4) = m ((c.tc : Thread Cert.GateGrad3.nD Cert.GateGrad3.τ).loc Cert.GateGrad3.main_arg4))
      ∧ r.2.sem = fun _ => 0)

def quiescent_GateGrad3Ideal [hGateGrad3Ideal : Cert.GateGrad3Ideal.Facts] : Prop :=
  ∀ (m : (ℓ : Loc Cert.GateGrad3Ideal.nD Cert.GateGrad3Ideal.τ Cert.GateGrad3Ideal.sig) → Buf (Elt Ideal) ℓ) (g : Dev Cert.GateGrad3Ideal.nD → PrngReg), Pre_GateGrad3Ideal m →
    θ_run (Cert.GateGrad3Ideal.defs (F := Ideal)) (onTc (τ := Cert.GateGrad3Ideal.τ) (Cert.GateGrad3Ideal.main (F := Ideal))) ⟨m, fun _ => 0, g⟩ (fun r => (∀ c : Dev Cert.GateGrad3Ideal.nD,
      r.2.mem ((c.tc : Thread Cert.GateGrad3Ideal.nD Cert.GateGrad3Ideal.τ).loc Cert.GateGrad3Ideal.main_arg0) = m ((c.tc : Thread Cert.GateGrad3Ideal.nD Cert.GateGrad3Ideal.τ).loc Cert.GateGrad3Ideal.main_arg0)
      ∧ r.2.mem ((c.tc : Thread Cert.GateGrad3Ideal.nD Cert.GateGrad3Ideal.τ).loc Cert.GateGrad3Ideal.main_arg1) = m ((c.tc : Thread Cert.GateGrad3Ideal.nD Cert.GateGrad3Ideal.τ).loc Cert.GateGrad3Ideal.main_arg1)
      ∧ r.2.mem ((c.tc : Thread Cert.GateGrad3Ideal.nD Cert.GateGrad3Ideal.τ).loc Cert.GateGrad3Ideal.main_arg2) = m ((c.tc : Thread Cert.GateGrad3Ideal.nD Cert.GateGrad3Ideal.τ).loc Cert.GateGrad3Ideal.main_arg2)
      ∧ r.2.mem ((c.tc : Thread Cert.GateGrad3Ideal.nD Cert.GateGrad3Ideal.τ).loc Cert.GateGrad3Ideal.main_arg3) = m ((c.tc : Thread Cert.GateGrad3Ideal.nD Cert.GateGrad3Ideal.τ).loc Cert.GateGrad3Ideal.main_arg3)
      ∧ r.2.mem ((c.tc : Thread Cert.GateGrad3Ideal.nD Cert.GateGrad3Ideal.τ).loc Cert.GateGrad3Ideal.main_arg4) = m ((c.tc : Thread Cert.GateGrad3Ideal.nD Cert.GateGrad3Ideal.τ).loc Cert.GateGrad3Ideal.main_arg4))
      ∧ r.2.sem = fun _ => 0)

def quiescent_RGateGrad3Ideal [hRGateGrad3Ideal : Cert.RGateGrad3Ideal.Facts] : Prop :=
  ∀ (m : (ℓ : Loc Cert.RGateGrad3Ideal.nD Cert.RGateGrad3Ideal.τ Cert.RGateGrad3Ideal.sig) → Buf (Elt Ideal) ℓ) (g : Dev Cert.RGateGrad3Ideal.nD → PrngReg), Pre_RGateGrad3Ideal m →
    θ_run (Cert.RGateGrad3Ideal.defs (F := Ideal)) (onTc (τ := Cert.RGateGrad3Ideal.τ) (Cert.RGateGrad3Ideal.main (F := Ideal))) ⟨m, fun _ => 0, g⟩ (fun r => (∀ c : Dev Cert.RGateGrad3Ideal.nD,
      r.2.mem ((c.tc : Thread Cert.RGateGrad3Ideal.nD Cert.RGateGrad3Ideal.τ).loc Cert.RGateGrad3Ideal.main_arg0) = m ((c.tc : Thread Cert.RGateGrad3Ideal.nD Cert.RGateGrad3Ideal.τ).loc Cert.RGateGrad3Ideal.main_arg0)
      ∧ r.2.mem ((c.tc : Thread Cert.RGateGrad3Ideal.nD Cert.RGateGrad3Ideal.τ).loc Cert.RGateGrad3Ideal.main_arg1) = m ((c.tc : Thread Cert.RGateGrad3Ideal.nD Cert.RGateGrad3Ideal.τ).loc Cert.RGateGrad3Ideal.main_arg1)
      ∧ r.2.mem ((c.tc : Thread Cert.RGateGrad3Ideal.nD Cert.RGateGrad3Ideal.τ).loc Cert.RGateGrad3Ideal.main_arg2) = m ((c.tc : Thread Cert.RGateGrad3Ideal.nD Cert.RGateGrad3Ideal.τ).loc Cert.RGateGrad3Ideal.main_arg2)
      ∧ r.2.mem ((c.tc : Thread Cert.RGateGrad3Ideal.nD Cert.RGateGrad3Ideal.τ).loc Cert.RGateGrad3Ideal.main_arg3) = m ((c.tc : Thread Cert.RGateGrad3Ideal.nD Cert.RGateGrad3Ideal.τ).loc Cert.RGateGrad3Ideal.main_arg3)
      ∧ r.2.mem ((c.tc : Thread Cert.RGateGrad3Ideal.nD Cert.RGateGrad3Ideal.τ).loc Cert.RGateGrad3Ideal.main_arg4) = m ((c.tc : Thread Cert.RGateGrad3Ideal.nD Cert.RGateGrad3Ideal.τ).loc Cert.RGateGrad3Ideal.main_arg4))
      ∧ r.2.sem = fun _ => 0)

def quiescent_Conv1 [hConv1 : Cert.Conv1.Facts] : Prop :=
  ∀ (m : (ℓ : Loc Cert.Conv1.nD Cert.Conv1.τ Cert.Conv1.sig) → Buf (Elt Bits) ℓ) (g : Dev Cert.Conv1.nD → PrngReg), Pre_Conv1 m →
    θ_run (Cert.Conv1.defs (F := Bits)) (onTc (τ := Cert.Conv1.τ) (Cert.Conv1.main (F := Bits))) ⟨m, fun _ => 0, g⟩ (fun r => (∀ c : Dev Cert.Conv1.nD,
      r.2.mem ((c.tc : Thread Cert.Conv1.nD Cert.Conv1.τ).loc Cert.Conv1.main_arg0) = m ((c.tc : Thread Cert.Conv1.nD Cert.Conv1.τ).loc Cert.Conv1.main_arg0)
      ∧ r.2.mem ((c.tc : Thread Cert.Conv1.nD Cert.Conv1.τ).loc Cert.Conv1.main_arg1) = m ((c.tc : Thread Cert.Conv1.nD Cert.Conv1.τ).loc Cert.Conv1.main_arg1)
      ∧ r.2.mem ((c.tc : Thread Cert.Conv1.nD Cert.Conv1.τ).loc Cert.Conv1.main_arg2) = m ((c.tc : Thread Cert.Conv1.nD Cert.Conv1.τ).loc Cert.Conv1.main_arg2))
      ∧ r.2.sem = fun _ => 0)

def quiescent_Conv1Ideal [hConv1Ideal : Cert.Conv1Ideal.Facts] : Prop :=
  ∀ (m : (ℓ : Loc Cert.Conv1Ideal.nD Cert.Conv1Ideal.τ Cert.Conv1Ideal.sig) → Buf (Elt Ideal) ℓ) (g : Dev Cert.Conv1Ideal.nD → PrngReg), Pre_Conv1Ideal m →
    θ_run (Cert.Conv1Ideal.defs (F := Ideal)) (onTc (τ := Cert.Conv1Ideal.τ) (Cert.Conv1Ideal.main (F := Ideal))) ⟨m, fun _ => 0, g⟩ (fun r => (∀ c : Dev Cert.Conv1Ideal.nD,
      r.2.mem ((c.tc : Thread Cert.Conv1Ideal.nD Cert.Conv1Ideal.τ).loc Cert.Conv1Ideal.main_arg0) = m ((c.tc : Thread Cert.Conv1Ideal.nD Cert.Conv1Ideal.τ).loc Cert.Conv1Ideal.main_arg0)
      ∧ r.2.mem ((c.tc : Thread Cert.Conv1Ideal.nD Cert.Conv1Ideal.τ).loc Cert.Conv1Ideal.main_arg1) = m ((c.tc : Thread Cert.Conv1Ideal.nD Cert.Conv1Ideal.τ).loc Cert.Conv1Ideal.main_arg1)
      ∧ r.2.mem ((c.tc : Thread Cert.Conv1Ideal.nD Cert.Conv1Ideal.τ).loc Cert.Conv1Ideal.main_arg2) = m ((c.tc : Thread Cert.Conv1Ideal.nD Cert.Conv1Ideal.τ).loc Cert.Conv1Ideal.main_arg2))
      ∧ r.2.sem = fun _ => 0)

def quiescent_RConv1Ideal [hRConv1Ideal : Cert.RConv1Ideal.Facts] : Prop :=
  ∀ (m : (ℓ : Loc Cert.RConv1Ideal.nD Cert.RConv1Ideal.τ Cert.RConv1Ideal.sig) → Buf (Elt Ideal) ℓ) (g : Dev Cert.RConv1Ideal.nD → PrngReg), Pre_RConv1Ideal m →
    θ_run (Cert.RConv1Ideal.defs (F := Ideal)) (onTc (τ := Cert.RConv1Ideal.τ) (Cert.RConv1Ideal.main (F := Ideal))) ⟨m, fun _ => 0, g⟩ (fun r => (∀ c : Dev Cert.RConv1Ideal.nD,
      r.2.mem ((c.tc : Thread Cert.RConv1Ideal.nD Cert.RConv1Ideal.τ).loc Cert.RConv1Ideal.main_arg0) = m ((c.tc : Thread Cert.RConv1Ideal.nD Cert.RConv1Ideal.τ).loc Cert.RConv1Ideal.main_arg0)
      ∧ r.2.mem ((c.tc : Thread Cert.RConv1Ideal.nD Cert.RConv1Ideal.τ).loc Cert.RConv1Ideal.main_arg1) = m ((c.tc : Thread Cert.RConv1Ideal.nD Cert.RConv1Ideal.τ).loc Cert.RConv1Ideal.main_arg1)
      ∧ r.2.mem ((c.tc : Thread Cert.RConv1Ideal.nD Cert.RConv1Ideal.τ).loc Cert.RConv1Ideal.main_arg2) = m ((c.tc : Thread Cert.RConv1Ideal.nD Cert.RConv1Ideal.τ).loc Cert.RConv1Ideal.main_arg2))
      ∧ r.2.sem = fun _ => 0)

def quiescent_Pool2 [hPool2 : Cert.Pool2.Facts] : Prop :=
  ∀ (m : (ℓ : Loc Cert.Pool2.nD Cert.Pool2.τ Cert.Pool2.sig) → Buf (Elt Bits) ℓ) (g : Dev Cert.Pool2.nD → PrngReg), Pre_Pool2 m →
    θ_run (Cert.Pool2.defs (F := Bits)) (onTc (τ := Cert.Pool2.τ) (Cert.Pool2.main (F := Bits))) ⟨m, fun _ => 0, g⟩ (fun r => (∀ c : Dev Cert.Pool2.nD,
      r.2.mem ((c.tc : Thread Cert.Pool2.nD Cert.Pool2.τ).loc Cert.Pool2.main_arg0) = m ((c.tc : Thread Cert.Pool2.nD Cert.Pool2.τ).loc Cert.Pool2.main_arg0))
      ∧ r.2.sem = fun _ => 0)

def quiescent_Pool2Ideal [hPool2Ideal : Cert.Pool2Ideal.Facts] : Prop :=
  ∀ (m : (ℓ : Loc Cert.Pool2Ideal.nD Cert.Pool2Ideal.τ Cert.Pool2Ideal.sig) → Buf (Elt Ideal) ℓ) (g : Dev Cert.Pool2Ideal.nD → PrngReg), Pre_Pool2Ideal m →
    θ_run (Cert.Pool2Ideal.defs (F := Ideal)) (onTc (τ := Cert.Pool2Ideal.τ) (Cert.Pool2Ideal.main (F := Ideal))) ⟨m, fun _ => 0, g⟩ (fun r => (∀ c : Dev Cert.Pool2Ideal.nD,
      r.2.mem ((c.tc : Thread Cert.Pool2Ideal.nD Cert.Pool2Ideal.τ).loc Cert.Pool2Ideal.main_arg0) = m ((c.tc : Thread Cert.Pool2Ideal.nD Cert.Pool2Ideal.τ).loc Cert.Pool2Ideal.main_arg0))
      ∧ r.2.sem = fun _ => 0)

def quiescent_Pool2Ideal_pre_projection_finite [hPool2Ideal : Cert.Pool2Ideal.Facts] [hPre_projection_finite : Cert.Pre_projection_finite.Facts] : Prop :=
  ∀ (m : (ℓ : Loc Cert.Pool2Ideal.nD Cert.Pool2Ideal.τ Cert.Pool2Ideal.sig) → Buf (Elt Ideal) ℓ) (g : Dev Cert.Pool2Ideal.nD → PrngReg), Pre_Pool2Ideal_projection_finite m →
    θ_run (Cert.Pool2Ideal.defs (F := Ideal)) (onTc (τ := Cert.Pool2Ideal.τ) (Cert.Pool2Ideal.main (F := Ideal))) ⟨m, fun _ => 0, g⟩ (fun r => (∀ c : Dev Cert.Pool2Ideal.nD,
      r.2.mem ((c.tc : Thread Cert.Pool2Ideal.nD Cert.Pool2Ideal.τ).loc Cert.Pool2Ideal.main_arg0) = m ((c.tc : Thread Cert.Pool2Ideal.nD Cert.Pool2Ideal.τ).loc Cert.Pool2Ideal.main_arg0))
      ∧ r.2.sem = fun _ => 0)

def quiescent_RPool2Ideal [hRPool2Ideal : Cert.RPool2Ideal.Facts] : Prop :=
  ∀ (m : (ℓ : Loc Cert.RPool2Ideal.nD Cert.RPool2Ideal.τ Cert.RPool2Ideal.sig) → Buf (Elt Ideal) ℓ) (g : Dev Cert.RPool2Ideal.nD → PrngReg), Pre_RPool2Ideal m →
    θ_run (Cert.RPool2Ideal.defs (F := Ideal)) (onTc (τ := Cert.RPool2Ideal.τ) (Cert.RPool2Ideal.main (F := Ideal))) ⟨m, fun _ => 0, g⟩ (fun r => (∀ c : Dev Cert.RPool2Ideal.nD,
      r.2.mem ((c.tc : Thread Cert.RPool2Ideal.nD Cert.RPool2Ideal.τ).loc Cert.RPool2Ideal.main_arg0) = m ((c.tc : Thread Cert.RPool2Ideal.nD Cert.RPool2Ideal.τ).loc Cert.RPool2Ideal.main_arg0))
      ∧ r.2.sem = fun _ => 0)

def quiescent_RPool2Ideal_pre_projection_finite [hRPool2Ideal : Cert.RPool2Ideal.Facts] [hPre_projection_finite : Cert.Pre_projection_finite.Facts] : Prop :=
  ∀ (m : (ℓ : Loc Cert.RPool2Ideal.nD Cert.RPool2Ideal.τ Cert.RPool2Ideal.sig) → Buf (Elt Ideal) ℓ) (g : Dev Cert.RPool2Ideal.nD → PrngReg), Pre_RPool2Ideal_projection_finite m →
    θ_run (Cert.RPool2Ideal.defs (F := Ideal)) (onTc (τ := Cert.RPool2Ideal.τ) (Cert.RPool2Ideal.main (F := Ideal))) ⟨m, fun _ => 0, g⟩ (fun r => (∀ c : Dev Cert.RPool2Ideal.nD,
      r.2.mem ((c.tc : Thread Cert.RPool2Ideal.nD Cert.RPool2Ideal.τ).loc Cert.RPool2Ideal.main_arg0) = m ((c.tc : Thread Cert.RPool2Ideal.nD Cert.RPool2Ideal.τ).loc Cert.RPool2Ideal.main_arg0))
      ∧ r.2.sem = fun _ => 0)

def quiescent_PoolGrad2 [hPoolGrad2 : Cert.PoolGrad2.Facts] : Prop :=
  ∀ (m : (ℓ : Loc Cert.PoolGrad2.nD Cert.PoolGrad2.τ Cert.PoolGrad2.sig) → Buf (Elt Bits) ℓ) (g : Dev Cert.PoolGrad2.nD → PrngReg), Pre_PoolGrad2 m →
    θ_run (Cert.PoolGrad2.defs (F := Bits)) (onTc (τ := Cert.PoolGrad2.τ) (Cert.PoolGrad2.main (F := Bits))) ⟨m, fun _ => 0, g⟩ (fun r => (∀ c : Dev Cert.PoolGrad2.nD,
      r.2.mem ((c.tc : Thread Cert.PoolGrad2.nD Cert.PoolGrad2.τ).loc Cert.PoolGrad2.main_arg0) = m ((c.tc : Thread Cert.PoolGrad2.nD Cert.PoolGrad2.τ).loc Cert.PoolGrad2.main_arg0)
      ∧ r.2.mem ((c.tc : Thread Cert.PoolGrad2.nD Cert.PoolGrad2.τ).loc Cert.PoolGrad2.main_arg1) = m ((c.tc : Thread Cert.PoolGrad2.nD Cert.PoolGrad2.τ).loc Cert.PoolGrad2.main_arg1))
      ∧ r.2.sem = fun _ => 0)

def quiescent_PoolGrad2Ideal [hPoolGrad2Ideal : Cert.PoolGrad2Ideal.Facts] : Prop :=
  ∀ (m : (ℓ : Loc Cert.PoolGrad2Ideal.nD Cert.PoolGrad2Ideal.τ Cert.PoolGrad2Ideal.sig) → Buf (Elt Ideal) ℓ) (g : Dev Cert.PoolGrad2Ideal.nD → PrngReg), Pre_PoolGrad2Ideal m →
    θ_run (Cert.PoolGrad2Ideal.defs (F := Ideal)) (onTc (τ := Cert.PoolGrad2Ideal.τ) (Cert.PoolGrad2Ideal.main (F := Ideal))) ⟨m, fun _ => 0, g⟩ (fun r => (∀ c : Dev Cert.PoolGrad2Ideal.nD,
      r.2.mem ((c.tc : Thread Cert.PoolGrad2Ideal.nD Cert.PoolGrad2Ideal.τ).loc Cert.PoolGrad2Ideal.main_arg0) = m ((c.tc : Thread Cert.PoolGrad2Ideal.nD Cert.PoolGrad2Ideal.τ).loc Cert.PoolGrad2Ideal.main_arg0)
      ∧ r.2.mem ((c.tc : Thread Cert.PoolGrad2Ideal.nD Cert.PoolGrad2Ideal.τ).loc Cert.PoolGrad2Ideal.main_arg1) = m ((c.tc : Thread Cert.PoolGrad2Ideal.nD Cert.PoolGrad2Ideal.τ).loc Cert.PoolGrad2Ideal.main_arg1))
      ∧ r.2.sem = fun _ => 0)

def quiescent_PoolGrad2Ideal_pre_gradient_finite [hPoolGrad2Ideal : Cert.PoolGrad2Ideal.Facts] [hPre_gradient_finite : Cert.Pre_gradient_finite.Facts] : Prop :=
  ∀ (m : (ℓ : Loc Cert.PoolGrad2Ideal.nD Cert.PoolGrad2Ideal.τ Cert.PoolGrad2Ideal.sig) → Buf (Elt Ideal) ℓ) (g : Dev Cert.PoolGrad2Ideal.nD → PrngReg), Pre_PoolGrad2Ideal_gradient_finite m →
    θ_run (Cert.PoolGrad2Ideal.defs (F := Ideal)) (onTc (τ := Cert.PoolGrad2Ideal.τ) (Cert.PoolGrad2Ideal.main (F := Ideal))) ⟨m, fun _ => 0, g⟩ (fun r => (∀ c : Dev Cert.PoolGrad2Ideal.nD,
      r.2.mem ((c.tc : Thread Cert.PoolGrad2Ideal.nD Cert.PoolGrad2Ideal.τ).loc Cert.PoolGrad2Ideal.main_arg0) = m ((c.tc : Thread Cert.PoolGrad2Ideal.nD Cert.PoolGrad2Ideal.τ).loc Cert.PoolGrad2Ideal.main_arg0)
      ∧ r.2.mem ((c.tc : Thread Cert.PoolGrad2Ideal.nD Cert.PoolGrad2Ideal.τ).loc Cert.PoolGrad2Ideal.main_arg1) = m ((c.tc : Thread Cert.PoolGrad2Ideal.nD Cert.PoolGrad2Ideal.τ).loc Cert.PoolGrad2Ideal.main_arg1))
      ∧ r.2.sem = fun _ => 0)

def quiescent_RPoolGrad2Ideal [hRPoolGrad2Ideal : Cert.RPoolGrad2Ideal.Facts] : Prop :=
  ∀ (m : (ℓ : Loc Cert.RPoolGrad2Ideal.nD Cert.RPoolGrad2Ideal.τ Cert.RPoolGrad2Ideal.sig) → Buf (Elt Ideal) ℓ) (g : Dev Cert.RPoolGrad2Ideal.nD → PrngReg), Pre_RPoolGrad2Ideal m →
    θ_run (Cert.RPoolGrad2Ideal.defs (F := Ideal)) (onTc (τ := Cert.RPoolGrad2Ideal.τ) (Cert.RPoolGrad2Ideal.main (F := Ideal))) ⟨m, fun _ => 0, g⟩ (fun r => (∀ c : Dev Cert.RPoolGrad2Ideal.nD,
      r.2.mem ((c.tc : Thread Cert.RPoolGrad2Ideal.nD Cert.RPoolGrad2Ideal.τ).loc Cert.RPoolGrad2Ideal.main_arg0) = m ((c.tc : Thread Cert.RPoolGrad2Ideal.nD Cert.RPoolGrad2Ideal.τ).loc Cert.RPoolGrad2Ideal.main_arg0)
      ∧ r.2.mem ((c.tc : Thread Cert.RPoolGrad2Ideal.nD Cert.RPoolGrad2Ideal.τ).loc Cert.RPoolGrad2Ideal.main_arg1) = m ((c.tc : Thread Cert.RPoolGrad2Ideal.nD Cert.RPoolGrad2Ideal.τ).loc Cert.RPoolGrad2Ideal.main_arg1))
      ∧ r.2.sem = fun _ => 0)

def quiescent_RPoolGrad2Ideal_pre_gradient_finite [hRPoolGrad2Ideal : Cert.RPoolGrad2Ideal.Facts] [hPre_gradient_finite : Cert.Pre_gradient_finite.Facts] : Prop :=
  ∀ (m : (ℓ : Loc Cert.RPoolGrad2Ideal.nD Cert.RPoolGrad2Ideal.τ Cert.RPoolGrad2Ideal.sig) → Buf (Elt Ideal) ℓ) (g : Dev Cert.RPoolGrad2Ideal.nD → PrngReg), Pre_RPoolGrad2Ideal_gradient_finite m →
    θ_run (Cert.RPoolGrad2Ideal.defs (F := Ideal)) (onTc (τ := Cert.RPoolGrad2Ideal.τ) (Cert.RPoolGrad2Ideal.main (F := Ideal))) ⟨m, fun _ => 0, g⟩ (fun r => (∀ c : Dev Cert.RPoolGrad2Ideal.nD,
      r.2.mem ((c.tc : Thread Cert.RPoolGrad2Ideal.nD Cert.RPoolGrad2Ideal.τ).loc Cert.RPoolGrad2Ideal.main_arg0) = m ((c.tc : Thread Cert.RPoolGrad2Ideal.nD Cert.RPoolGrad2Ideal.τ).loc Cert.RPoolGrad2Ideal.main_arg0)
      ∧ r.2.mem ((c.tc : Thread Cert.RPoolGrad2Ideal.nD Cert.RPoolGrad2Ideal.τ).loc Cert.RPoolGrad2Ideal.main_arg1) = m ((c.tc : Thread Cert.RPoolGrad2Ideal.nD Cert.RPoolGrad2Ideal.τ).loc Cert.RPoolGrad2Ideal.main_arg1))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_RAdamwInIdeal [hRAdamwInIdeal : Cert.RAdamwInIdeal.Facts] : Prop :=
  ∀ (m : (ℓ : Loc Cert.RAdamwInIdeal.nD Cert.RAdamwInIdeal.τ Cert.RAdamwInIdeal.sig) → Buf (Elt Ideal) ℓ) (g : Dev Cert.RAdamwInIdeal.nD → PrngReg), Pre_RAdamwInIdeal m →
    θ_run (Cert.RAdamwInIdeal.defs (F := Ideal)) (onTc (τ := Cert.RAdamwInIdeal.τ) (Cert.RAdamwInIdeal.main (F := Ideal))) ⟨m, fun _ => 0, g⟩ (fun r => (∀ c : Dev Cert.RAdamwInIdeal.nD,
      r.2.mem ((c.tc : Thread Cert.RAdamwInIdeal.nD Cert.RAdamwInIdeal.τ).loc Cert.RAdamwInIdeal.main_arg0) = m ((c.tc : Thread Cert.RAdamwInIdeal.nD Cert.RAdamwInIdeal.τ).loc Cert.RAdamwInIdeal.main_arg0)
      ∧ r.2.mem ((c.tc : Thread Cert.RAdamwInIdeal.nD Cert.RAdamwInIdeal.τ).loc Cert.RAdamwInIdeal.main_arg1) = m ((c.tc : Thread Cert.RAdamwInIdeal.nD Cert.RAdamwInIdeal.τ).loc Cert.RAdamwInIdeal.main_arg1)
      ∧ r.2.mem ((c.tc : Thread Cert.RAdamwInIdeal.nD Cert.RAdamwInIdeal.τ).loc Cert.RAdamwInIdeal.main_arg2) = m ((c.tc : Thread Cert.RAdamwInIdeal.nD Cert.RAdamwInIdeal.τ).loc Cert.RAdamwInIdeal.main_arg2)
      ∧ r.2.mem ((c.tc : Thread Cert.RAdamwInIdeal.nD Cert.RAdamwInIdeal.τ).loc Cert.RAdamwInIdeal.main_arg3) = m ((c.tc : Thread Cert.RAdamwInIdeal.nD Cert.RAdamwInIdeal.τ).loc Cert.RAdamwInIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1)
      ∧ r.2.mem ((c.tc : Thread Cert.RLossIdeal.nD Cert.RLossIdeal.τ).loc Cert.RLossIdeal.main_arg2) = m ((c.tc : Thread Cert.RLossIdeal.nD Cert.RLossIdeal.τ).loc Cert.RLossIdeal.main_arg2))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_NormGrad1_NormGrad1Ideal : Prop :=
  True

def algebraic_NormGrad1Ideal_RNormGrad1Ideal [hNormGrad1Ideal : Cert.NormGrad1Ideal.Facts] [hRNormGrad1Ideal : Cert.RNormGrad1Ideal.Facts] : Prop :=
  ∀ (m : (ℓ : Loc Cert.NormGrad1Ideal.nD Cert.NormGrad1Ideal.τ Cert.NormGrad1Ideal.sig) → Buf (Elt Ideal) ℓ) (g : Dev Cert.NormGrad1Ideal.nD → PrngReg)
    (m' : (ℓ : Loc Cert.RNormGrad1Ideal.nD Cert.RNormGrad1Ideal.τ Cert.RNormGrad1Ideal.sig) → Buf (Elt Ideal) ℓ) (g' : Dev Cert.RNormGrad1Ideal.nD → PrngReg), Pre_NormGrad1Ideal m →
    (∀ c : Dev Cert.NormGrad1Ideal.nD,
      m' ((c.tc : Thread Cert.RNormGrad1Ideal.nD Cert.RNormGrad1Ideal.τ).loc Cert.RNormGrad1Ideal.main_arg0) = m ((c.tc : Thread Cert.NormGrad1Ideal.nD Cert.NormGrad1Ideal.τ).loc Cert.NormGrad1Ideal.main_arg0)
      ∧ m' ((c.tc : Thread Cert.RNormGrad1Ideal.nD Cert.RNormGrad1Ideal.τ).loc Cert.RNormGrad1Ideal.main_arg1) = m ((c.tc : Thread Cert.NormGrad1Ideal.nD Cert.NormGrad1Ideal.τ).loc Cert.NormGrad1Ideal.main_arg1)
      ∧ m' ((c.tc : Thread Cert.RNormGrad1Ideal.nD Cert.RNormGrad1Ideal.τ).loc Cert.RNormGrad1Ideal.main_arg2) = m ((c.tc : Thread Cert.NormGrad1Ideal.nD Cert.NormGrad1Ideal.τ).loc Cert.NormGrad1Ideal.main_arg2)
      ∧ m' ((c.tc : Thread Cert.RNormGrad1Ideal.nD Cert.RNormGrad1Ideal.τ).loc Cert.RNormGrad1Ideal.main_arg3) = m ((c.tc : Thread Cert.NormGrad1Ideal.nD Cert.NormGrad1Ideal.τ).loc Cert.NormGrad1Ideal.main_arg3)
      ∧ m' ((c.tc : Thread Cert.RNormGrad1Ideal.nD Cert.RNormGrad1Ideal.τ).loc Cert.RNormGrad1Ideal.main_arg4) = m ((c.tc : Thread Cert.NormGrad1Ideal.nD Cert.NormGrad1Ideal.τ).loc Cert.NormGrad1Ideal.main_arg4)) →
    ∃ (v0 : (c : Dev Cert.NormGrad1Ideal.nD) → Buf (Elt Ideal) ((c.tc : Thread Cert.NormGrad1Ideal.nD Cert.NormGrad1Ideal.τ).loc Cert.NormGrad1Ideal.main_v4_0)) (v1 : (c : Dev Cert.NormGrad1Ideal.nD) → Buf (Elt Ideal) ((c.tc : Thread Cert.NormGrad1Ideal.nD Cert.NormGrad1Ideal.τ).loc Cert.NormGrad1Ideal.main_v4_1)),
      θ_run (Cert.NormGrad1Ideal.defs (F := Ideal)) (onTc (τ := Cert.NormGrad1Ideal.τ) (Cert.NormGrad1Ideal.main (F := Ideal))) ⟨m, fun _ => 0, g⟩ (fun r => ∀ c : Dev Cert.NormGrad1Ideal.nD,
          r.2.mem ((c.tc : Thread Cert.NormGrad1Ideal.nD Cert.NormGrad1Ideal.τ).loc Cert.NormGrad1Ideal.main_v4_0) = v0 c
          ∧ r.2.mem ((c.tc : Thread Cert.NormGrad1Ideal.nD Cert.NormGrad1Ideal.τ).loc Cert.NormGrad1Ideal.main_v4_1) = v1 c
          ∧ r.2.mem ((c.tc : Thread Cert.NormGrad1Ideal.nD Cert.NormGrad1Ideal.τ).loc Cert.NormGrad1Ideal.main_arg0) = m ((c.tc : Thread Cert.NormGrad1Ideal.nD Cert.NormGrad1Ideal.τ).loc Cert.NormGrad1Ideal.main_arg0)
          ∧ r.2.mem ((c.tc : Thread Cert.NormGrad1Ideal.nD Cert.NormGrad1Ideal.τ).loc Cert.NormGrad1Ideal.main_arg1) = m ((c.tc : Thread Cert.NormGrad1Ideal.nD Cert.NormGrad1Ideal.τ).loc Cert.NormGrad1Ideal.main_arg1)
          ∧ r.2.mem ((c.tc : Thread Cert.NormGrad1Ideal.nD Cert.NormGrad1Ideal.τ).loc Cert.NormGrad1Ideal.main_arg2) = m ((c.tc : Thread Cert.NormGrad1Ideal.nD Cert.NormGrad1Ideal.τ).loc Cert.NormGrad1Ideal.main_arg2)
          ∧ r.2.mem ((c.tc : Thread Cert.NormGrad1Ideal.nD Cert.NormGrad1Ideal.τ).loc Cert.NormGrad1Ideal.main_arg3) = m ((c.tc : Thread Cert.NormGrad1Ideal.nD Cert.NormGrad1Ideal.τ).loc Cert.NormGrad1Ideal.main_arg3)
          ∧ r.2.mem ((c.tc : Thread Cert.NormGrad1Ideal.nD Cert.NormGrad1Ideal.τ).loc Cert.NormGrad1Ideal.main_arg4) = m ((c.tc : Thread Cert.NormGrad1Ideal.nD Cert.NormGrad1Ideal.τ).loc Cert.NormGrad1Ideal.main_arg4))
      ∧ θ_run (Cert.RNormGrad1Ideal.defs (F := Ideal)) (onTc (τ := Cert.RNormGrad1Ideal.τ) (Cert.RNormGrad1Ideal.main (F := Ideal))) ⟨m', fun _ => 0, g'⟩ (fun r => ∀ c : Dev Cert.RNormGrad1Ideal.nD,
          r.2.mem ((c.tc : Thread Cert.RNormGrad1Ideal.nD Cert.RNormGrad1Ideal.τ).loc Cert.RNormGrad1Ideal.main_v39) = v0 c
          ∧ r.2.mem ((c.tc : Thread Cert.RNormGrad1Ideal.nD Cert.RNormGrad1Ideal.τ).loc Cert.RNormGrad1Ideal.main_v40) = v1 c
          ∧ r.2.mem ((c.tc : Thread Cert.RNormGrad1Ideal.nD Cert.RNormGrad1Ideal.τ).loc Cert.RNormGrad1Ideal.main_arg0) = m' ((c.tc : Thread Cert.RNormGrad1Ideal.nD Cert.RNormGrad1Ideal.τ).loc Cert.RNormGrad1Ideal.main_arg0)
          ∧ r.2.mem ((c.tc : Thread Cert.RNormGrad1Ideal.nD Cert.RNormGrad1Ideal.τ).loc Cert.RNormGrad1Ideal.main_arg1) = m' ((c.tc : Thread Cert.RNormGrad1Ideal.nD Cert.RNormGrad1Ideal.τ).loc Cert.RNormGrad1Ideal.main_arg1)
          ∧ r.2.mem ((c.tc : Thread Cert.RNormGrad1Ideal.nD Cert.RNormGrad1Ideal.τ).loc Cert.RNormGrad1Ideal.main_arg2) = m' ((c.tc : Thread Cert.RNormGrad1Ideal.nD Cert.RNormGrad1Ideal.τ).loc Cert.RNormGrad1Ideal.main_arg2)
          ∧ r.2.mem ((c.tc : Thread Cert.RNormGrad1Ideal.nD Cert.RNormGrad1Ideal.τ).loc Cert.RNormGrad1Ideal.main_arg3) = m' ((c.tc : Thread Cert.RNormGrad1Ideal.nD Cert.RNormGrad1Ideal.τ).loc Cert.RNormGrad1Ideal.main_arg3)
          ∧ r.2.mem ((c.tc : Thread Cert.RNormGrad1Ideal.nD Cert.RNormGrad1Ideal.τ).loc Cert.RNormGrad1Ideal.main_arg4) = m' ((c.tc : Thread Cert.RNormGrad1Ideal.nD Cert.RNormGrad1Ideal.τ).loc Cert.RNormGrad1Ideal.main_arg4))

def preserves_NormGrad2_NormGrad2Ideal : Prop :=
  True

def algebraic_NormGrad2Ideal_RNormGrad2Ideal [hNormGrad2Ideal : Cert.NormGrad2Ideal.Facts] [hRNormGrad2Ideal : Cert.RNormGrad2Ideal.Facts] : Prop :=
  ∀ (m : (ℓ : Loc Cert.NormGrad2Ideal.nD Cert.NormGrad2Ideal.τ Cert.NormGrad2Ideal.sig) → Buf (Elt Ideal) ℓ) (g : Dev Cert.NormGrad2Ideal.nD → PrngReg)
    (m' : (ℓ : Loc Cert.RNormGrad2Ideal.nD Cert.RNormGrad2Ideal.τ Cert.RNormGrad2Ideal.sig) → Buf (Elt Ideal) ℓ) (g' : Dev Cert.RNormGrad2Ideal.nD → PrngReg), Pre_NormGrad2Ideal m →
    (∀ c : Dev Cert.NormGrad2Ideal.nD,
      m' ((c.tc : Thread Cert.RNormGrad2Ideal.nD Cert.RNormGrad2Ideal.τ).loc Cert.RNormGrad2Ideal.main_arg0) = m ((c.tc : Thread Cert.NormGrad2Ideal.nD Cert.NormGrad2Ideal.τ).loc Cert.NormGrad2Ideal.main_arg0)
      ∧ m' ((c.tc : Thread Cert.RNormGrad2Ideal.nD Cert.RNormGrad2Ideal.τ).loc Cert.RNormGrad2Ideal.main_arg1) = m ((c.tc : Thread Cert.NormGrad2Ideal.nD Cert.NormGrad2Ideal.τ).loc Cert.NormGrad2Ideal.main_arg1)
      ∧ m' ((c.tc : Thread Cert.RNormGrad2Ideal.nD Cert.RNormGrad2Ideal.τ).loc Cert.RNormGrad2Ideal.main_arg2) = m ((c.tc : Thread Cert.NormGrad2Ideal.nD Cert.NormGrad2Ideal.τ).loc Cert.NormGrad2Ideal.main_arg2)
      ∧ m' ((c.tc : Thread Cert.RNormGrad2Ideal.nD Cert.RNormGrad2Ideal.τ).loc Cert.RNormGrad2Ideal.main_arg3) = m ((c.tc : Thread Cert.NormGrad2Ideal.nD Cert.NormGrad2Ideal.τ).loc Cert.NormGrad2Ideal.main_arg3)
      ∧ m' ((c.tc : Thread Cert.RNormGrad2Ideal.nD Cert.RNormGrad2Ideal.τ).loc Cert.RNormGrad2Ideal.main_arg4) = m ((c.tc : Thread Cert.NormGrad2Ideal.nD Cert.NormGrad2Ideal.τ).loc Cert.NormGrad2Ideal.main_arg4)) →
    ∃ (v0 : (c : Dev Cert.NormGrad2Ideal.nD) → Buf (Elt Ideal) ((c.tc : Thread Cert.NormGrad2Ideal.nD Cert.NormGrad2Ideal.τ).loc Cert.NormGrad2Ideal.main_v4_0)) (v1 : (c : Dev Cert.NormGrad2Ideal.nD) → Buf (Elt Ideal) ((c.tc : Thread Cert.NormGrad2Ideal.nD Cert.NormGrad2Ideal.τ).loc Cert.NormGrad2Ideal.main_v4_1)),
      θ_run (Cert.NormGrad2Ideal.defs (F := Ideal)) (onTc (τ := Cert.NormGrad2Ideal.τ) (Cert.NormGrad2Ideal.main (F := Ideal))) ⟨m, fun _ => 0, g⟩ (fun r => ∀ c : Dev Cert.NormGrad2Ideal.nD,
          r.2.mem ((c.tc : Thread Cert.NormGrad2Ideal.nD Cert.NormGrad2Ideal.τ).loc Cert.NormGrad2Ideal.main_v4_0) = v0 c
          ∧ r.2.mem ((c.tc : Thread Cert.NormGrad2Ideal.nD Cert.NormGrad2Ideal.τ).loc Cert.NormGrad2Ideal.main_v4_1) = v1 c
          ∧ r.2.mem ((c.tc : Thread Cert.NormGrad2Ideal.nD Cert.NormGrad2Ideal.τ).loc Cert.NormGrad2Ideal.main_arg0) = m ((c.tc : Thread Cert.NormGrad2Ideal.nD Cert.NormGrad2Ideal.τ).loc Cert.NormGrad2Ideal.main_arg0)
          ∧ r.2.mem ((c.tc : Thread Cert.NormGrad2Ideal.nD Cert.NormGrad2Ideal.τ).loc Cert.NormGrad2Ideal.main_arg1) = m ((c.tc : Thread Cert.NormGrad2Ideal.nD Cert.NormGrad2Ideal.τ).loc Cert.NormGrad2Ideal.main_arg1)
          ∧ r.2.mem ((c.tc : Thread Cert.NormGrad2Ideal.nD Cert.NormGrad2Ideal.τ).loc Cert.NormGrad2Ideal.main_arg2) = m ((c.tc : Thread Cert.NormGrad2Ideal.nD Cert.NormGrad2Ideal.τ).loc Cert.NormGrad2Ideal.main_arg2)
          ∧ r.2.mem ((c.tc : Thread Cert.NormGrad2Ideal.nD Cert.NormGrad2Ideal.τ).loc Cert.NormGrad2Ideal.main_arg3) = m ((c.tc : Thread Cert.NormGrad2Ideal.nD Cert.NormGrad2Ideal.τ).loc Cert.NormGrad2Ideal.main_arg3)
          ∧ r.2.mem ((c.tc : Thread Cert.NormGrad2Ideal.nD Cert.NormGrad2Ideal.τ).loc Cert.NormGrad2Ideal.main_arg4) = m ((c.tc : Thread Cert.NormGrad2Ideal.nD Cert.NormGrad2Ideal.τ).loc Cert.NormGrad2Ideal.main_arg4))
      ∧ θ_run (Cert.RNormGrad2Ideal.defs (F := Ideal)) (onTc (τ := Cert.RNormGrad2Ideal.τ) (Cert.RNormGrad2Ideal.main (F := Ideal))) ⟨m', fun _ => 0, g'⟩ (fun r => ∀ c : Dev Cert.RNormGrad2Ideal.nD,
          r.2.mem ((c.tc : Thread Cert.RNormGrad2Ideal.nD Cert.RNormGrad2Ideal.τ).loc Cert.RNormGrad2Ideal.main_v39) = v0 c
          ∧ r.2.mem ((c.tc : Thread Cert.RNormGrad2Ideal.nD Cert.RNormGrad2Ideal.τ).loc Cert.RNormGrad2Ideal.main_v40) = v1 c
          ∧ r.2.mem ((c.tc : Thread Cert.RNormGrad2Ideal.nD Cert.RNormGrad2Ideal.τ).loc Cert.RNormGrad2Ideal.main_arg0) = m' ((c.tc : Thread Cert.RNormGrad2Ideal.nD Cert.RNormGrad2Ideal.τ).loc Cert.RNormGrad2Ideal.main_arg0)
          ∧ r.2.mem ((c.tc : Thread Cert.RNormGrad2Ideal.nD Cert.RNormGrad2Ideal.τ).loc Cert.RNormGrad2Ideal.main_arg1) = m' ((c.tc : Thread Cert.RNormGrad2Ideal.nD Cert.RNormGrad2Ideal.τ).loc Cert.RNormGrad2Ideal.main_arg1)
          ∧ r.2.mem ((c.tc : Thread Cert.RNormGrad2Ideal.nD Cert.RNormGrad2Ideal.τ).loc Cert.RNormGrad2Ideal.main_arg2) = m' ((c.tc : Thread Cert.RNormGrad2Ideal.nD Cert.RNormGrad2Ideal.τ).loc Cert.RNormGrad2Ideal.main_arg2)
          ∧ r.2.mem ((c.tc : Thread Cert.RNormGrad2Ideal.nD Cert.RNormGrad2Ideal.τ).loc Cert.RNormGrad2Ideal.main_arg3) = m' ((c.tc : Thread Cert.RNormGrad2Ideal.nD Cert.RNormGrad2Ideal.τ).loc Cert.RNormGrad2Ideal.main_arg3)
          ∧ r.2.mem ((c.tc : Thread Cert.RNormGrad2Ideal.nD Cert.RNormGrad2Ideal.τ).loc Cert.RNormGrad2Ideal.main_arg4) = m' ((c.tc : Thread Cert.RNormGrad2Ideal.nD Cert.RNormGrad2Ideal.τ).loc Cert.RNormGrad2Ideal.main_arg4))

def preserves_NormGrad3_NormGrad3Ideal : Prop :=
  True

def algebraic_NormGrad3Ideal_RNormGrad3Ideal [hNormGrad3Ideal : Cert.NormGrad3Ideal.Facts] [hRNormGrad3Ideal : Cert.RNormGrad3Ideal.Facts] : Prop :=
  ∀ (m : (ℓ : Loc Cert.NormGrad3Ideal.nD Cert.NormGrad3Ideal.τ Cert.NormGrad3Ideal.sig) → Buf (Elt Ideal) ℓ) (g : Dev Cert.NormGrad3Ideal.nD → PrngReg)
    (m' : (ℓ : Loc Cert.RNormGrad3Ideal.nD Cert.RNormGrad3Ideal.τ Cert.RNormGrad3Ideal.sig) → Buf (Elt Ideal) ℓ) (g' : Dev Cert.RNormGrad3Ideal.nD → PrngReg), Pre_NormGrad3Ideal m →
    (∀ c : Dev Cert.NormGrad3Ideal.nD,
      m' ((c.tc : Thread Cert.RNormGrad3Ideal.nD Cert.RNormGrad3Ideal.τ).loc Cert.RNormGrad3Ideal.main_arg0) = m ((c.tc : Thread Cert.NormGrad3Ideal.nD Cert.NormGrad3Ideal.τ).loc Cert.NormGrad3Ideal.main_arg0)
      ∧ m' ((c.tc : Thread Cert.RNormGrad3Ideal.nD Cert.RNormGrad3Ideal.τ).loc Cert.RNormGrad3Ideal.main_arg1) = m ((c.tc : Thread Cert.NormGrad3Ideal.nD Cert.NormGrad3Ideal.τ).loc Cert.NormGrad3Ideal.main_arg1)
      ∧ m' ((c.tc : Thread Cert.RNormGrad3Ideal.nD Cert.RNormGrad3Ideal.τ).loc Cert.RNormGrad3Ideal.main_arg2) = m ((c.tc : Thread Cert.NormGrad3Ideal.nD Cert.NormGrad3Ideal.τ).loc Cert.NormGrad3Ideal.main_arg2)
      ∧ m' ((c.tc : Thread Cert.RNormGrad3Ideal.nD Cert.RNormGrad3Ideal.τ).loc Cert.RNormGrad3Ideal.main_arg3) = m ((c.tc : Thread Cert.NormGrad3Ideal.nD Cert.NormGrad3Ideal.τ).loc Cert.NormGrad3Ideal.main_arg3)
      ∧ m' ((c.tc : Thread Cert.RNormGrad3Ideal.nD Cert.RNormGrad3Ideal.τ).loc Cert.RNormGrad3Ideal.main_arg4) = m ((c.tc : Thread Cert.NormGrad3Ideal.nD Cert.NormGrad3Ideal.τ).loc Cert.NormGrad3Ideal.main_arg4)) →
    ∃ (v0 : (c : Dev Cert.NormGrad3Ideal.nD) → Buf (Elt Ideal) ((c.tc : Thread Cert.NormGrad3Ideal.nD Cert.NormGrad3Ideal.τ).loc Cert.NormGrad3Ideal.main_v4_0)) (v1 : (c : Dev Cert.NormGrad3Ideal.nD) → Buf (Elt Ideal) ((c.tc : Thread Cert.NormGrad3Ideal.nD Cert.NormGrad3Ideal.τ).loc Cert.NormGrad3Ideal.main_v4_1)),
      θ_run (Cert.NormGrad3Ideal.defs (F := Ideal)) (onTc (τ := Cert.NormGrad3Ideal.τ) (Cert.NormGrad3Ideal.main (F := Ideal))) ⟨m, fun _ => 0, g⟩ (fun r => ∀ c : Dev Cert.NormGrad3Ideal.nD,
          r.2.mem ((c.tc : Thread Cert.NormGrad3Ideal.nD Cert.NormGrad3Ideal.τ).loc Cert.NormGrad3Ideal.main_v4_0) = v0 c
          ∧ r.2.mem ((c.tc : Thread Cert.NormGrad3Ideal.nD Cert.NormGrad3Ideal.τ).loc Cert.NormGrad3Ideal.main_v4_1) = v1 c
          ∧ r.2.mem ((c.tc : Thread Cert.NormGrad3Ideal.nD Cert.NormGrad3Ideal.τ).loc Cert.NormGrad3Ideal.main_arg0) = m ((c.tc : Thread Cert.NormGrad3Ideal.nD Cert.NormGrad3Ideal.τ).loc Cert.NormGrad3Ideal.main_arg0)
          ∧ r.2.mem ((c.tc : Thread Cert.NormGrad3Ideal.nD Cert.NormGrad3Ideal.τ).loc Cert.NormGrad3Ideal.main_arg1) = m ((c.tc : Thread Cert.NormGrad3Ideal.nD Cert.NormGrad3Ideal.τ).loc Cert.NormGrad3Ideal.main_arg1)
          ∧ r.2.mem ((c.tc : Thread Cert.NormGrad3Ideal.nD Cert.NormGrad3Ideal.τ).loc Cert.NormGrad3Ideal.main_arg2) = m ((c.tc : Thread Cert.NormGrad3Ideal.nD Cert.NormGrad3Ideal.τ).loc Cert.NormGrad3Ideal.main_arg2)
          ∧ r.2.mem ((c.tc : Thread Cert.NormGrad3Ideal.nD Cert.NormGrad3Ideal.τ).loc Cert.NormGrad3Ideal.main_arg3) = m ((c.tc : Thread Cert.NormGrad3Ideal.nD Cert.NormGrad3Ideal.τ).loc Cert.NormGrad3Ideal.main_arg3)
          ∧ r.2.mem ((c.tc : Thread Cert.NormGrad3Ideal.nD Cert.NormGrad3Ideal.τ).loc Cert.NormGrad3Ideal.main_arg4) = m ((c.tc : Thread Cert.NormGrad3Ideal.nD Cert.NormGrad3Ideal.τ).loc Cert.NormGrad3Ideal.main_arg4))
      ∧ θ_run (Cert.RNormGrad3Ideal.defs (F := Ideal)) (onTc (τ := Cert.RNormGrad3Ideal.τ) (Cert.RNormGrad3Ideal.main (F := Ideal))) ⟨m', fun _ => 0, g'⟩ (fun r => ∀ c : Dev Cert.RNormGrad3Ideal.nD,
          r.2.mem ((c.tc : Thread Cert.RNormGrad3Ideal.nD Cert.RNormGrad3Ideal.τ).loc Cert.RNormGrad3Ideal.main_v39) = v0 c
          ∧ r.2.mem ((c.tc : Thread Cert.RNormGrad3Ideal.nD Cert.RNormGrad3Ideal.τ).loc Cert.RNormGrad3Ideal.main_v40) = v1 c
          ∧ r.2.mem ((c.tc : Thread Cert.RNormGrad3Ideal.nD Cert.RNormGrad3Ideal.τ).loc Cert.RNormGrad3Ideal.main_arg0) = m' ((c.tc : Thread Cert.RNormGrad3Ideal.nD Cert.RNormGrad3Ideal.τ).loc Cert.RNormGrad3Ideal.main_arg0)
          ∧ r.2.mem ((c.tc : Thread Cert.RNormGrad3Ideal.nD Cert.RNormGrad3Ideal.τ).loc Cert.RNormGrad3Ideal.main_arg1) = m' ((c.tc : Thread Cert.RNormGrad3Ideal.nD Cert.RNormGrad3Ideal.τ).loc Cert.RNormGrad3Ideal.main_arg1)
          ∧ r.2.mem ((c.tc : Thread Cert.RNormGrad3Ideal.nD Cert.RNormGrad3Ideal.τ).loc Cert.RNormGrad3Ideal.main_arg2) = m' ((c.tc : Thread Cert.RNormGrad3Ideal.nD Cert.RNormGrad3Ideal.τ).loc Cert.RNormGrad3Ideal.main_arg2)
          ∧ r.2.mem ((c.tc : Thread Cert.RNormGrad3Ideal.nD Cert.RNormGrad3Ideal.τ).loc Cert.RNormGrad3Ideal.main_arg3) = m' ((c.tc : Thread Cert.RNormGrad3Ideal.nD Cert.RNormGrad3Ideal.τ).loc Cert.RNormGrad3Ideal.main_arg3)
          ∧ r.2.mem ((c.tc : Thread Cert.RNormGrad3Ideal.nD Cert.RNormGrad3Ideal.τ).loc Cert.RNormGrad3Ideal.main_arg4) = m' ((c.tc : Thread Cert.RNormGrad3Ideal.nD Cert.RNormGrad3Ideal.τ).loc Cert.RNormGrad3Ideal.main_arg4))

def preserves_InGrad1_InGrad1Ideal : Prop :=
  True

def algebraic_InGrad1Ideal_RInGrad1Ideal [hInGrad1Ideal : Cert.InGrad1Ideal.Facts] [hRInGrad1Ideal : Cert.RInGrad1Ideal.Facts] : Prop :=
  ∀ (m : (ℓ : Loc Cert.InGrad1Ideal.nD Cert.InGrad1Ideal.τ Cert.InGrad1Ideal.sig) → Buf (Elt Ideal) ℓ) (g : Dev Cert.InGrad1Ideal.nD → PrngReg)
    (m' : (ℓ : Loc Cert.RInGrad1Ideal.nD Cert.RInGrad1Ideal.τ Cert.RInGrad1Ideal.sig) → Buf (Elt Ideal) ℓ) (g' : Dev Cert.RInGrad1Ideal.nD → PrngReg), Pre_InGrad1Ideal m →
    (∀ c : Dev Cert.InGrad1Ideal.nD,
      m' ((c.tc : Thread Cert.RInGrad1Ideal.nD Cert.RInGrad1Ideal.τ).loc Cert.RInGrad1Ideal.main_arg0) = m ((c.tc : Thread Cert.InGrad1Ideal.nD Cert.InGrad1Ideal.τ).loc Cert.InGrad1Ideal.main_arg0)
      ∧ m' ((c.tc : Thread Cert.RInGrad1Ideal.nD Cert.RInGrad1Ideal.τ).loc Cert.RInGrad1Ideal.main_arg1) = m ((c.tc : Thread Cert.InGrad1Ideal.nD Cert.InGrad1Ideal.τ).loc Cert.InGrad1Ideal.main_arg1)) →
    ∃ (v0 : (c : Dev Cert.InGrad1Ideal.nD) → Buf (Elt Ideal) ((c.tc : Thread Cert.InGrad1Ideal.nD Cert.InGrad1Ideal.τ).loc Cert.InGrad1Ideal.main_v0)),
      θ_run (Cert.InGrad1Ideal.defs (F := Ideal)) (onTc (τ := Cert.InGrad1Ideal.τ) (Cert.InGrad1Ideal.main (F := Ideal))) ⟨m, fun _ => 0, g⟩ (fun r => ∀ c : Dev Cert.InGrad1Ideal.nD,
          r.2.mem ((c.tc : Thread Cert.InGrad1Ideal.nD Cert.InGrad1Ideal.τ).loc Cert.InGrad1Ideal.main_v0) = v0 c
          ∧ r.2.mem ((c.tc : Thread Cert.InGrad1Ideal.nD Cert.InGrad1Ideal.τ).loc Cert.InGrad1Ideal.main_arg0) = m ((c.tc : Thread Cert.InGrad1Ideal.nD Cert.InGrad1Ideal.τ).loc Cert.InGrad1Ideal.main_arg0)
          ∧ r.2.mem ((c.tc : Thread Cert.InGrad1Ideal.nD Cert.InGrad1Ideal.τ).loc Cert.InGrad1Ideal.main_arg1) = m ((c.tc : Thread Cert.InGrad1Ideal.nD Cert.InGrad1Ideal.τ).loc Cert.InGrad1Ideal.main_arg1))
      ∧ θ_run (Cert.RInGrad1Ideal.defs (F := Ideal)) (onTc (τ := Cert.RInGrad1Ideal.τ) (Cert.RInGrad1Ideal.main (F := Ideal))) ⟨m', fun _ => 0, g'⟩ (fun r => ∀ c : Dev Cert.RInGrad1Ideal.nD,
          r.2.mem ((c.tc : Thread Cert.RInGrad1Ideal.nD Cert.RInGrad1Ideal.τ).loc Cert.RInGrad1Ideal.main_v7) = v0 c
          ∧ r.2.mem ((c.tc : Thread Cert.RInGrad1Ideal.nD Cert.RInGrad1Ideal.τ).loc Cert.RInGrad1Ideal.main_arg0) = m' ((c.tc : Thread Cert.RInGrad1Ideal.nD Cert.RInGrad1Ideal.τ).loc Cert.RInGrad1Ideal.main_arg0)
          ∧ r.2.mem ((c.tc : Thread Cert.RInGrad1Ideal.nD Cert.RInGrad1Ideal.τ).loc Cert.RInGrad1Ideal.main_arg1) = m' ((c.tc : Thread Cert.RInGrad1Ideal.nD Cert.RInGrad1Ideal.τ).loc Cert.RInGrad1Ideal.main_arg1))

def preserves_InGrad2_InGrad2Ideal : Prop :=
  True

def algebraic_InGrad2Ideal_RInGrad2Ideal [hInGrad2Ideal : Cert.InGrad2Ideal.Facts] [hRInGrad2Ideal : Cert.RInGrad2Ideal.Facts] : Prop :=
  ∀ (m : (ℓ : Loc Cert.InGrad2Ideal.nD Cert.InGrad2Ideal.τ Cert.InGrad2Ideal.sig) → Buf (Elt Ideal) ℓ) (g : Dev Cert.InGrad2Ideal.nD → PrngReg)
    (m' : (ℓ : Loc Cert.RInGrad2Ideal.nD Cert.RInGrad2Ideal.τ Cert.RInGrad2Ideal.sig) → Buf (Elt Ideal) ℓ) (g' : Dev Cert.RInGrad2Ideal.nD → PrngReg), Pre_InGrad2Ideal m →
    (∀ c : Dev Cert.InGrad2Ideal.nD,
      m' ((c.tc : Thread Cert.RInGrad2Ideal.nD Cert.RInGrad2Ideal.τ).loc Cert.RInGrad2Ideal.main_arg0) = m ((c.tc : Thread Cert.InGrad2Ideal.nD Cert.InGrad2Ideal.τ).loc Cert.InGrad2Ideal.main_arg0)
      ∧ m' ((c.tc : Thread Cert.RInGrad2Ideal.nD Cert.RInGrad2Ideal.τ).loc Cert.RInGrad2Ideal.main_arg1) = m ((c.tc : Thread Cert.InGrad2Ideal.nD Cert.InGrad2Ideal.τ).loc Cert.InGrad2Ideal.main_arg1)) →
    ∃ (v0 : (c : Dev Cert.InGrad2Ideal.nD) → Buf (Elt Ideal) ((c.tc : Thread Cert.InGrad2Ideal.nD Cert.InGrad2Ideal.τ).loc Cert.InGrad2Ideal.main_v0)),
      θ_run (Cert.InGrad2Ideal.defs (F := Ideal)) (onTc (τ := Cert.InGrad2Ideal.τ) (Cert.InGrad2Ideal.main (F := Ideal))) ⟨m, fun _ => 0, g⟩ (fun r => ∀ c : Dev Cert.InGrad2Ideal.nD,
          r.2.mem ((c.tc : Thread Cert.InGrad2Ideal.nD Cert.InGrad2Ideal.τ).loc Cert.InGrad2Ideal.main_v0) = v0 c
          ∧ r.2.mem ((c.tc : Thread Cert.InGrad2Ideal.nD Cert.InGrad2Ideal.τ).loc Cert.InGrad2Ideal.main_arg0) = m ((c.tc : Thread Cert.InGrad2Ideal.nD Cert.InGrad2Ideal.τ).loc Cert.InGrad2Ideal.main_arg0)
          ∧ r.2.mem ((c.tc : Thread Cert.InGrad2Ideal.nD Cert.InGrad2Ideal.τ).loc Cert.InGrad2Ideal.main_arg1) = m ((c.tc : Thread Cert.InGrad2Ideal.nD Cert.InGrad2Ideal.τ).loc Cert.InGrad2Ideal.main_arg1))
      ∧ θ_run (Cert.RInGrad2Ideal.defs (F := Ideal)) (onTc (τ := Cert.RInGrad2Ideal.τ) (Cert.RInGrad2Ideal.main (F := Ideal))) ⟨m', fun _ => 0, g'⟩ (fun r => ∀ c : Dev Cert.RInGrad2Ideal.nD,
          r.2.mem ((c.tc : Thread Cert.RInGrad2Ideal.nD Cert.RInGrad2Ideal.τ).loc Cert.RInGrad2Ideal.main_v7) = v0 c
          ∧ r.2.mem ((c.tc : Thread Cert.RInGrad2Ideal.nD Cert.RInGrad2Ideal.τ).loc Cert.RInGrad2Ideal.main_arg0) = m' ((c.tc : Thread Cert.RInGrad2Ideal.nD Cert.RInGrad2Ideal.τ).loc Cert.RInGrad2Ideal.main_arg0)
          ∧ r.2.mem ((c.tc : Thread Cert.RInGrad2Ideal.nD Cert.RInGrad2Ideal.τ).loc Cert.RInGrad2Ideal.main_arg1) = m' ((c.tc : Thread Cert.RInGrad2Ideal.nD Cert.RInGrad2Ideal.τ).loc Cert.RInGrad2Ideal.main_arg1))

def preserves_InGrad3_InGrad3Ideal : Prop :=
  True

def algebraic_InGrad3Ideal_RInGrad3Ideal [hInGrad3Ideal : Cert.InGrad3Ideal.Facts] [hRInGrad3Ideal : Cert.RInGrad3Ideal.Facts] : Prop :=
  ∀ (m : (ℓ : Loc Cert.InGrad3Ideal.nD Cert.InGrad3Ideal.τ Cert.InGrad3Ideal.sig) → Buf (Elt Ideal) ℓ) (g : Dev Cert.InGrad3Ideal.nD → PrngReg)
    (m' : (ℓ : Loc Cert.RInGrad3Ideal.nD Cert.RInGrad3Ideal.τ Cert.RInGrad3Ideal.sig) → Buf (Elt Ideal) ℓ) (g' : Dev Cert.RInGrad3Ideal.nD → PrngReg), Pre_InGrad3Ideal m →
    (∀ c : Dev Cert.InGrad3Ideal.nD,
      m' ((c.tc : Thread Cert.RInGrad3Ideal.nD Cert.RInGrad3Ideal.τ).loc Cert.RInGrad3Ideal.main_arg0) = m ((c.tc : Thread Cert.InGrad3Ideal.nD Cert.InGrad3Ideal.τ).loc Cert.InGrad3Ideal.main_arg0)
      ∧ m' ((c.tc : Thread Cert.RInGrad3Ideal.nD Cert.RInGrad3Ideal.τ).loc Cert.RInGrad3Ideal.main_arg1) = m ((c.tc : Thread Cert.InGrad3Ideal.nD Cert.InGrad3Ideal.τ).loc Cert.InGrad3Ideal.main_arg1)) →
    ∃ (v0 : (c : Dev Cert.InGrad3Ideal.nD) → Buf (Elt Ideal) ((c.tc : Thread Cert.InGrad3Ideal.nD Cert.InGrad3Ideal.τ).loc Cert.InGrad3Ideal.main_v0)),
      θ_run (Cert.InGrad3Ideal.defs (F := Ideal)) (onTc (τ := Cert.InGrad3Ideal.τ) (Cert.InGrad3Ideal.main (F := Ideal))) ⟨m, fun _ => 0, g⟩ (fun r => ∀ c : Dev Cert.InGrad3Ideal.nD,
          r.2.mem ((c.tc : Thread Cert.InGrad3Ideal.nD Cert.InGrad3Ideal.τ).loc Cert.InGrad3Ideal.main_v0) = v0 c
          ∧ r.2.mem ((c.tc : Thread Cert.InGrad3Ideal.nD Cert.InGrad3Ideal.τ).loc Cert.InGrad3Ideal.main_arg0) = m ((c.tc : Thread Cert.InGrad3Ideal.nD Cert.InGrad3Ideal.τ).loc Cert.InGrad3Ideal.main_arg0)
          ∧ r.2.mem ((c.tc : Thread Cert.InGrad3Ideal.nD Cert.InGrad3Ideal.τ).loc Cert.InGrad3Ideal.main_arg1) = m ((c.tc : Thread Cert.InGrad3Ideal.nD Cert.InGrad3Ideal.τ).loc Cert.InGrad3Ideal.main_arg1))
      ∧ θ_run (Cert.RInGrad3Ideal.defs (F := Ideal)) (onTc (τ := Cert.RInGrad3Ideal.τ) (Cert.RInGrad3Ideal.main (F := Ideal))) ⟨m', fun _ => 0, g'⟩ (fun r => ∀ c : Dev Cert.RInGrad3Ideal.nD,
          r.2.mem ((c.tc : Thread Cert.RInGrad3Ideal.nD Cert.RInGrad3Ideal.τ).loc Cert.RInGrad3Ideal.main_v7) = v0 c
          ∧ r.2.mem ((c.tc : Thread Cert.RInGrad3Ideal.nD Cert.RInGrad3Ideal.τ).loc Cert.RInGrad3Ideal.main_arg0) = m' ((c.tc : Thread Cert.RInGrad3Ideal.nD Cert.RInGrad3Ideal.τ).loc Cert.RInGrad3Ideal.main_arg0)
          ∧ r.2.mem ((c.tc : Thread Cert.RInGrad3Ideal.nD Cert.RInGrad3Ideal.τ).loc Cert.RInGrad3Ideal.main_arg1) = m' ((c.tc : Thread Cert.RInGrad3Ideal.nD Cert.RInGrad3Ideal.τ).loc Cert.RInGrad3Ideal.main_arg1))

def preserves_OutGrad1_OutGrad1Ideal : Prop :=
  True

def algebraic_OutGrad1Ideal_ROutGrad1Ideal [hOutGrad1Ideal : Cert.OutGrad1Ideal.Facts] [hROutGrad1Ideal : Cert.ROutGrad1Ideal.Facts] : Prop :=
  ∀ (m : (ℓ : Loc Cert.OutGrad1Ideal.nD Cert.OutGrad1Ideal.τ Cert.OutGrad1Ideal.sig) → Buf (Elt Ideal) ℓ) (g : Dev Cert.OutGrad1Ideal.nD → PrngReg)
    (m' : (ℓ : Loc Cert.ROutGrad1Ideal.nD Cert.ROutGrad1Ideal.τ Cert.ROutGrad1Ideal.sig) → Buf (Elt Ideal) ℓ) (g' : Dev Cert.ROutGrad1Ideal.nD → PrngReg), Pre_OutGrad1Ideal m →
    (∀ c : Dev Cert.OutGrad1Ideal.nD,
      m' ((c.tc : Thread Cert.ROutGrad1Ideal.nD Cert.ROutGrad1Ideal.τ).loc Cert.ROutGrad1Ideal.main_arg0) = m ((c.tc : Thread Cert.OutGrad1Ideal.nD Cert.OutGrad1Ideal.τ).loc Cert.OutGrad1Ideal.main_arg0)
      ∧ m' ((c.tc : Thread Cert.ROutGrad1Ideal.nD Cert.ROutGrad1Ideal.τ).loc Cert.ROutGrad1Ideal.main_arg1) = m ((c.tc : Thread Cert.OutGrad1Ideal.nD Cert.OutGrad1Ideal.τ).loc Cert.OutGrad1Ideal.main_arg1)) →
    ∃ (v0 : (c : Dev Cert.OutGrad1Ideal.nD) → Buf (Elt Ideal) ((c.tc : Thread Cert.OutGrad1Ideal.nD Cert.OutGrad1Ideal.τ).loc Cert.OutGrad1Ideal.main_v0)),
      θ_run (Cert.OutGrad1Ideal.defs (F := Ideal)) (onTc (τ := Cert.OutGrad1Ideal.τ) (Cert.OutGrad1Ideal.main (F := Ideal))) ⟨m, fun _ => 0, g⟩ (fun r => ∀ c : Dev Cert.OutGrad1Ideal.nD,
          r.2.mem ((c.tc : Thread Cert.OutGrad1Ideal.nD Cert.OutGrad1Ideal.τ).loc Cert.OutGrad1Ideal.main_v0) = v0 c
          ∧ r.2.mem ((c.tc : Thread Cert.OutGrad1Ideal.nD Cert.OutGrad1Ideal.τ).loc Cert.OutGrad1Ideal.main_arg0) = m ((c.tc : Thread Cert.OutGrad1Ideal.nD Cert.OutGrad1Ideal.τ).loc Cert.OutGrad1Ideal.main_arg0)
          ∧ r.2.mem ((c.tc : Thread Cert.OutGrad1Ideal.nD Cert.OutGrad1Ideal.τ).loc Cert.OutGrad1Ideal.main_arg1) = m ((c.tc : Thread Cert.OutGrad1Ideal.nD Cert.OutGrad1Ideal.τ).loc Cert.OutGrad1Ideal.main_arg1))
      ∧ θ_run (Cert.ROutGrad1Ideal.defs (F := Ideal)) (onTc (τ := Cert.ROutGrad1Ideal.τ) (Cert.ROutGrad1Ideal.main (F := Ideal))) ⟨m', fun _ => 0, g'⟩ (fun r => ∀ c : Dev Cert.ROutGrad1Ideal.nD,
          r.2.mem ((c.tc : Thread Cert.ROutGrad1Ideal.nD Cert.ROutGrad1Ideal.τ).loc Cert.ROutGrad1Ideal.main_v5) = v0 c
          ∧ r.2.mem ((c.tc : Thread Cert.ROutGrad1Ideal.nD Cert.ROutGrad1Ideal.τ).loc Cert.ROutGrad1Ideal.main_arg0) = m' ((c.tc : Thread Cert.ROutGrad1Ideal.nD Cert.ROutGrad1Ideal.τ).loc Cert.ROutGrad1Ideal.main_arg0)
          ∧ r.2.mem ((c.tc : Thread Cert.ROutGrad1Ideal.nD Cert.ROutGrad1Ideal.τ).loc Cert.ROutGrad1Ideal.main_arg1) = m' ((c.tc : Thread Cert.ROutGrad1Ideal.nD Cert.ROutGrad1Ideal.τ).loc Cert.ROutGrad1Ideal.main_arg1))

def preserves_OutGrad3_OutGrad3Ideal : Prop :=
  True

def algebraic_OutGrad3Ideal_ROutGrad3Ideal [hOutGrad3Ideal : Cert.OutGrad3Ideal.Facts] [hROutGrad3Ideal : Cert.ROutGrad3Ideal.Facts] : Prop :=
  ∀ (m : (ℓ : Loc Cert.OutGrad3Ideal.nD Cert.OutGrad3Ideal.τ Cert.OutGrad3Ideal.sig) → Buf (Elt Ideal) ℓ) (g : Dev Cert.OutGrad3Ideal.nD → PrngReg)
    (m' : (ℓ : Loc Cert.ROutGrad3Ideal.nD Cert.ROutGrad3Ideal.τ Cert.ROutGrad3Ideal.sig) → Buf (Elt Ideal) ℓ) (g' : Dev Cert.ROutGrad3Ideal.nD → PrngReg), Pre_OutGrad3Ideal m →
    (∀ c : Dev Cert.OutGrad3Ideal.nD,
      m' ((c.tc : Thread Cert.ROutGrad3Ideal.nD Cert.ROutGrad3Ideal.τ).loc Cert.ROutGrad3Ideal.main_arg0) = m ((c.tc : Thread Cert.OutGrad3Ideal.nD Cert.OutGrad3Ideal.τ).loc Cert.OutGrad3Ideal.main_arg0)
      ∧ m' ((c.tc : Thread Cert.ROutGrad3Ideal.nD Cert.ROutGrad3Ideal.τ).loc Cert.ROutGrad3Ideal.main_arg1) = m ((c.tc : Thread Cert.OutGrad3Ideal.nD Cert.OutGrad3Ideal.τ).loc Cert.OutGrad3Ideal.main_arg1)) →
    ∃ (v0 : (c : Dev Cert.OutGrad3Ideal.nD) → Buf (Elt Ideal) ((c.tc : Thread Cert.OutGrad3Ideal.nD Cert.OutGrad3Ideal.τ).loc Cert.OutGrad3Ideal.main_v0)),
      θ_run (Cert.OutGrad3Ideal.defs (F := Ideal)) (onTc (τ := Cert.OutGrad3Ideal.τ) (Cert.OutGrad3Ideal.main (F := Ideal))) ⟨m, fun _ => 0, g⟩ (fun r => ∀ c : Dev Cert.OutGrad3Ideal.nD,
          r.2.mem ((c.tc : Thread Cert.OutGrad3Ideal.nD Cert.OutGrad3Ideal.τ).loc Cert.OutGrad3Ideal.main_v0) = v0 c
          ∧ r.2.mem ((c.tc : Thread Cert.OutGrad3Ideal.nD Cert.OutGrad3Ideal.τ).loc Cert.OutGrad3Ideal.main_arg0) = m ((c.tc : Thread Cert.OutGrad3Ideal.nD Cert.OutGrad3Ideal.τ).loc Cert.OutGrad3Ideal.main_arg0)
          ∧ r.2.mem ((c.tc : Thread Cert.OutGrad3Ideal.nD Cert.OutGrad3Ideal.τ).loc Cert.OutGrad3Ideal.main_arg1) = m ((c.tc : Thread Cert.OutGrad3Ideal.nD Cert.OutGrad3Ideal.τ).loc Cert.OutGrad3Ideal.main_arg1))
      ∧ θ_run (Cert.ROutGrad3Ideal.defs (F := Ideal)) (onTc (τ := Cert.ROutGrad3Ideal.τ) (Cert.ROutGrad3Ideal.main (F := Ideal))) ⟨m', fun _ => 0, g'⟩ (fun r => ∀ c : Dev Cert.ROutGrad3Ideal.nD,
          r.2.mem ((c.tc : Thread Cert.ROutGrad3Ideal.nD Cert.ROutGrad3Ideal.τ).loc Cert.ROutGrad3Ideal.main_v5) = v0 c
          ∧ r.2.mem ((c.tc : Thread Cert.ROutGrad3Ideal.nD Cert.ROutGrad3Ideal.τ).loc Cert.ROutGrad3Ideal.main_arg0) = m' ((c.tc : Thread Cert.ROutGrad3Ideal.nD Cert.ROutGrad3Ideal.τ).loc Cert.ROutGrad3Ideal.main_arg0)
          ∧ r.2.mem ((c.tc : Thread Cert.ROutGrad3Ideal.nD Cert.ROutGrad3Ideal.τ).loc Cert.ROutGrad3Ideal.main_arg1) = m' ((c.tc : Thread Cert.ROutGrad3Ideal.nD Cert.ROutGrad3Ideal.τ).loc Cert.ROutGrad3Ideal.main_arg1))

def preserves_GluGrad3_GluGrad3Ideal : Prop :=
  True

def algebraic_GluGrad3Ideal_RGluGrad3Ideal [hGluGrad3Ideal : Cert.GluGrad3Ideal.Facts] [hRGluGrad3Ideal : Cert.RGluGrad3Ideal.Facts] : Prop :=
  ∀ (m : (ℓ : Loc Cert.GluGrad3Ideal.nD Cert.GluGrad3Ideal.τ Cert.GluGrad3Ideal.sig) → Buf (Elt Ideal) ℓ) (g : Dev Cert.GluGrad3Ideal.nD → PrngReg)
    (m' : (ℓ : Loc Cert.RGluGrad3Ideal.nD Cert.RGluGrad3Ideal.τ Cert.RGluGrad3Ideal.sig) → Buf (Elt Ideal) ℓ) (g' : Dev Cert.RGluGrad3Ideal.nD → PrngReg), Pre_GluGrad3Ideal m →
    (∀ c : Dev Cert.GluGrad3Ideal.nD,
      m' ((c.tc : Thread Cert.RGluGrad3Ideal.nD Cert.RGluGrad3Ideal.τ).loc Cert.RGluGrad3Ideal.main_arg0) = m ((c.tc : Thread Cert.GluGrad3Ideal.nD Cert.GluGrad3Ideal.τ).loc Cert.GluGrad3Ideal.main_arg0)
      ∧ m' ((c.tc : Thread Cert.RGluGrad3Ideal.nD Cert.RGluGrad3Ideal.τ).loc Cert.RGluGrad3Ideal.main_arg1) = m ((c.tc : Thread Cert.GluGrad3Ideal.nD Cert.GluGrad3Ideal.τ).loc Cert.GluGrad3Ideal.main_arg1)) →
    ∃ (v0 : (c : Dev Cert.GluGrad3Ideal.nD) → Buf (Elt Ideal) ((c.tc : Thread Cert.GluGrad3Ideal.nD Cert.GluGrad3Ideal.τ).loc Cert.GluGrad3Ideal.main_v0)),
      θ_run (Cert.GluGrad3Ideal.defs (F := Ideal)) (onTc (τ := Cert.GluGrad3Ideal.τ) (Cert.GluGrad3Ideal.main (F := Ideal))) ⟨m, fun _ => 0, g⟩ (fun r => ∀ c : Dev Cert.GluGrad3Ideal.nD,
          r.2.mem ((c.tc : Thread Cert.GluGrad3Ideal.nD Cert.GluGrad3Ideal.τ).loc Cert.GluGrad3Ideal.main_v0) = v0 c
          ∧ r.2.mem ((c.tc : Thread Cert.GluGrad3Ideal.nD Cert.GluGrad3Ideal.τ).loc Cert.GluGrad3Ideal.main_arg0) = m ((c.tc : Thread Cert.GluGrad3Ideal.nD Cert.GluGrad3Ideal.τ).loc Cert.GluGrad3Ideal.main_arg0)
          ∧ r.2.mem ((c.tc : Thread Cert.GluGrad3Ideal.nD Cert.GluGrad3Ideal.τ).loc Cert.GluGrad3Ideal.main_arg1) = m ((c.tc : Thread Cert.GluGrad3Ideal.nD Cert.GluGrad3Ideal.τ).loc Cert.GluGrad3Ideal.main_arg1))
      ∧ θ_run (Cert.RGluGrad3Ideal.defs (F := Ideal)) (onTc (τ := Cert.RGluGrad3Ideal.τ) (Cert.RGluGrad3Ideal.main (F := Ideal))) ⟨m', fun _ => 0, g'⟩ (fun r => ∀ c : Dev Cert.RGluGrad3Ideal.nD,
          r.2.mem ((c.tc : Thread Cert.RGluGrad3Ideal.nD Cert.RGluGrad3Ideal.τ).loc Cert.RGluGrad3Ideal.main_v6) = v0 c
          ∧ r.2.mem ((c.tc : Thread Cert.RGluGrad3Ideal.nD Cert.RGluGrad3Ideal.τ).loc Cert.RGluGrad3Ideal.main_arg0) = m' ((c.tc : Thread Cert.RGluGrad3Ideal.nD Cert.RGluGrad3Ideal.τ).loc Cert.RGluGrad3Ideal.main_arg0)
          ∧ r.2.mem ((c.tc : Thread Cert.RGluGrad3Ideal.nD Cert.RGluGrad3Ideal.τ).loc Cert.RGluGrad3Ideal.main_arg1) = m' ((c.tc : Thread Cert.RGluGrad3Ideal.nD Cert.RGluGrad3Ideal.τ).loc Cert.RGluGrad3Ideal.main_arg1))

def preserves_Out1_Out1Ideal : Prop :=
  True

def algebraic_Out1Ideal_ROut1Ideal [hOut1Ideal : Cert.Out1Ideal.Facts] [hROut1Ideal : Cert.ROut1Ideal.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.ROut1Ideal.nD Cert.ROut1Ideal.τ Cert.ROut1Ideal.sig) → Buf (Elt Ideal) ℓ) (g' : Dev Cert.ROut1Ideal.nD → PrngReg), Pre_Out1Ideal m →
    (∀ c : Dev Cert.Out1Ideal.nD,
      m' ((c.tc : Thread Cert.ROut1Ideal.nD Cert.ROut1Ideal.τ).loc Cert.ROut1Ideal.main_arg0) = m ((c.tc : Thread Cert.Out1Ideal.nD Cert.Out1Ideal.τ).loc Cert.Out1Ideal.main_arg0)
      ∧ m' ((c.tc : Thread Cert.ROut1Ideal.nD Cert.ROut1Ideal.τ).loc Cert.ROut1Ideal.main_arg1) = m ((c.tc : Thread Cert.Out1Ideal.nD Cert.Out1Ideal.τ).loc Cert.Out1Ideal.main_arg1)
      ∧ m' ((c.tc : Thread Cert.ROut1Ideal.nD Cert.ROut1Ideal.τ).loc Cert.ROut1Ideal.main_arg2) = m ((c.tc : Thread Cert.Out1Ideal.nD Cert.Out1Ideal.τ).loc Cert.Out1Ideal.main_arg2)) →
    ∃ (v0 : (c : Dev Cert.Out1Ideal.nD) → Buf (Elt Ideal) ((c.tc : Thread Cert.Out1Ideal.nD Cert.Out1Ideal.τ).loc Cert.Out1Ideal.main_v2)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v2) = v0 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
          ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2))
      ∧ θ_run (Cert.ROut1Ideal.defs (F := Ideal)) (onTc (τ := Cert.ROut1Ideal.τ) (Cert.ROut1Ideal.main (F := Ideal))) ⟨m', fun _ => 0, g'⟩ (fun r => ∀ c : Dev Cert.ROut1Ideal.nD,
          r.2.mem ((c.tc : Thread Cert.ROut1Ideal.nD Cert.ROut1Ideal.τ).loc Cert.ROut1Ideal.main_v2) = v0 c
          ∧ r.2.mem ((c.tc : Thread Cert.ROut1Ideal.nD Cert.ROut1Ideal.τ).loc Cert.ROut1Ideal.main_arg0) = m' ((c.tc : Thread Cert.ROut1Ideal.nD Cert.ROut1Ideal.τ).loc Cert.ROut1Ideal.main_arg0)
          ∧ r.2.mem ((c.tc : Thread Cert.ROut1Ideal.nD Cert.ROut1Ideal.τ).loc Cert.ROut1Ideal.main_arg1) = m' ((c.tc : Thread Cert.ROut1Ideal.nD Cert.ROut1Ideal.τ).loc Cert.ROut1Ideal.main_arg1)
          ∧ r.2.mem ((c.tc : Thread Cert.ROut1Ideal.nD Cert.ROut1Ideal.τ).loc Cert.ROut1Ideal.main_arg2) = m' ((c.tc : Thread Cert.ROut1Ideal.nD Cert.ROut1Ideal.τ).loc Cert.ROut1Ideal.main_arg2))

def preserves_Out3_Out3Ideal : Prop :=
  True

def algebraic_Out3Ideal_ROut3Ideal [hOut3Ideal : Cert.Out3Ideal.Facts] [hROut3Ideal : Cert.ROut3Ideal.Facts] : Prop :=
  ∀ (m : (ℓ : Loc Cert.Out3Ideal.nD Cert.Out3Ideal.τ Cert.Out3Ideal.sig) → Buf (Elt Ideal) ℓ) (g : Dev Cert.Out3Ideal.nD → PrngReg)
    (m' : (ℓ : Loc Cert.ROut3Ideal.nD Cert.ROut3Ideal.τ Cert.ROut3Ideal.sig) → Buf (Elt Ideal) ℓ) (g' : Dev Cert.ROut3Ideal.nD → PrngReg), Pre_Out3Ideal m →
    (∀ c : Dev Cert.Out3Ideal.nD,
      m' ((c.tc : Thread Cert.ROut3Ideal.nD Cert.ROut3Ideal.τ).loc Cert.ROut3Ideal.main_arg0) = m ((c.tc : Thread Cert.Out3Ideal.nD Cert.Out3Ideal.τ).loc Cert.Out3Ideal.main_arg0)
      ∧ m' ((c.tc : Thread Cert.ROut3Ideal.nD Cert.ROut3Ideal.τ).loc Cert.ROut3Ideal.main_arg1) = m ((c.tc : Thread Cert.Out3Ideal.nD Cert.Out3Ideal.τ).loc Cert.Out3Ideal.main_arg1)
      ∧ m' ((c.tc : Thread Cert.ROut3Ideal.nD Cert.ROut3Ideal.τ).loc Cert.ROut3Ideal.main_arg2) = m ((c.tc : Thread Cert.Out3Ideal.nD Cert.Out3Ideal.τ).loc Cert.Out3Ideal.main_arg2)) →
    ∃ (v0 : (c : Dev Cert.Out3Ideal.nD) → Buf (Elt Ideal) ((c.tc : Thread Cert.Out3Ideal.nD Cert.Out3Ideal.τ).loc Cert.Out3Ideal.main_v2)),
      θ_run (Cert.Out3Ideal.defs (F := Ideal)) (onTc (τ := Cert.Out3Ideal.τ) (Cert.Out3Ideal.main (F := Ideal))) ⟨m, fun _ => 0, g⟩ (fun r => ∀ c : Dev Cert.Out3Ideal.nD,
          r.2.mem ((c.tc : Thread Cert.Out3Ideal.nD Cert.Out3Ideal.τ).loc Cert.Out3Ideal.main_v2) = v0 c
          ∧ r.2.mem ((c.tc : Thread Cert.Out3Ideal.nD Cert.Out3Ideal.τ).loc Cert.Out3Ideal.main_arg0) = m ((c.tc : Thread Cert.Out3Ideal.nD Cert.Out3Ideal.τ).loc Cert.Out3Ideal.main_arg0)
          ∧ r.2.mem ((c.tc : Thread Cert.Out3Ideal.nD Cert.Out3Ideal.τ).loc Cert.Out3Ideal.main_arg1) = m ((c.tc : Thread Cert.Out3Ideal.nD Cert.Out3Ideal.τ).loc Cert.Out3Ideal.main_arg1)
          ∧ r.2.mem ((c.tc : Thread Cert.Out3Ideal.nD Cert.Out3Ideal.τ).loc Cert.Out3Ideal.main_arg2) = m ((c.tc : Thread Cert.Out3Ideal.nD Cert.Out3Ideal.τ).loc Cert.Out3Ideal.main_arg2))
      ∧ θ_run (Cert.ROut3Ideal.defs (F := Ideal)) (onTc (τ := Cert.ROut3Ideal.τ) (Cert.ROut3Ideal.main (F := Ideal))) ⟨m', fun _ => 0, g'⟩ (fun r => ∀ c : Dev Cert.ROut3Ideal.nD,
          r.2.mem ((c.tc : Thread Cert.ROut3Ideal.nD Cert.ROut3Ideal.τ).loc Cert.ROut3Ideal.main_v2) = v0 c
          ∧ r.2.mem ((c.tc : Thread Cert.ROut3Ideal.nD Cert.ROut3Ideal.τ).loc Cert.ROut3Ideal.main_arg0) = m' ((c.tc : Thread Cert.ROut3Ideal.nD Cert.ROut3Ideal.τ).loc Cert.ROut3Ideal.main_arg0)
          ∧ r.2.mem ((c.tc : Thread Cert.ROut3Ideal.nD Cert.ROut3Ideal.τ).loc Cert.ROut3Ideal.main_arg1) = m' ((c.tc : Thread Cert.ROut3Ideal.nD Cert.ROut3Ideal.τ).loc Cert.ROut3Ideal.main_arg1)
          ∧ r.2.mem ((c.tc : Thread Cert.ROut3Ideal.nD Cert.ROut3Ideal.τ).loc Cert.ROut3Ideal.main_arg2) = m' ((c.tc : Thread Cert.ROut3Ideal.nD Cert.ROut3Ideal.τ).loc Cert.ROut3Ideal.main_arg2))

def preserves_YgGrad3_YgGrad3Ideal : Prop :=
  True

def algebraic_YgGrad3Ideal_RYgGrad3Ideal [hYgGrad3Ideal : Cert.YgGrad3Ideal.Facts] [hRYgGrad3Ideal : Cert.RYgGrad3Ideal.Facts] : Prop :=
  ∀ (m : (ℓ : Loc Cert.YgGrad3Ideal.nD Cert.YgGrad3Ideal.τ Cert.YgGrad3Ideal.sig) → Buf (Elt Ideal) ℓ) (g : Dev Cert.YgGrad3Ideal.nD → PrngReg)
    (m' : (ℓ : Loc Cert.RYgGrad3Ideal.nD Cert.RYgGrad3Ideal.τ Cert.RYgGrad3Ideal.sig) → Buf (Elt Ideal) ℓ) (g' : Dev Cert.RYgGrad3Ideal.nD → PrngReg), Pre_YgGrad3Ideal m →
    (∀ c : Dev Cert.YgGrad3Ideal.nD,
      m' ((c.tc : Thread Cert.RYgGrad3Ideal.nD Cert.RYgGrad3Ideal.τ).loc Cert.RYgGrad3Ideal.main_arg0) = m ((c.tc : Thread Cert.YgGrad3Ideal.nD Cert.YgGrad3Ideal.τ).loc Cert.YgGrad3Ideal.main_arg0)
      ∧ m' ((c.tc : Thread Cert.RYgGrad3Ideal.nD Cert.RYgGrad3Ideal.τ).loc Cert.RYgGrad3Ideal.main_arg1) = m ((c.tc : Thread Cert.YgGrad3Ideal.nD Cert.YgGrad3Ideal.τ).loc Cert.YgGrad3Ideal.main_arg1)) →
    ∃ (v0 : (c : Dev Cert.YgGrad3Ideal.nD) → Buf (Elt Ideal) ((c.tc : Thread Cert.YgGrad3Ideal.nD Cert.YgGrad3Ideal.τ).loc Cert.YgGrad3Ideal.main_v2)),
      θ_run (Cert.YgGrad3Ideal.defs (F := Ideal)) (onTc (τ := Cert.YgGrad3Ideal.τ) (Cert.YgGrad3Ideal.main (F := Ideal))) ⟨m, fun _ => 0, g⟩ (fun r => ∀ c : Dev Cert.YgGrad3Ideal.nD,
          r.2.mem ((c.tc : Thread Cert.YgGrad3Ideal.nD Cert.YgGrad3Ideal.τ).loc Cert.YgGrad3Ideal.main_v2) = v0 c
          ∧ r.2.mem ((c.tc : Thread Cert.YgGrad3Ideal.nD Cert.YgGrad3Ideal.τ).loc Cert.YgGrad3Ideal.main_arg0) = m ((c.tc : Thread Cert.YgGrad3Ideal.nD Cert.YgGrad3Ideal.τ).loc Cert.YgGrad3Ideal.main_arg0)
          ∧ r.2.mem ((c.tc : Thread Cert.YgGrad3Ideal.nD Cert.YgGrad3Ideal.τ).loc Cert.YgGrad3Ideal.main_arg1) = m ((c.tc : Thread Cert.YgGrad3Ideal.nD Cert.YgGrad3Ideal.τ).loc Cert.YgGrad3Ideal.main_arg1))
      ∧ θ_run (Cert.RYgGrad3Ideal.defs (F := Ideal)) (onTc (τ := Cert.RYgGrad3Ideal.τ) (Cert.RYgGrad3Ideal.main (F := Ideal))) ⟨m', fun _ => 0, g'⟩ (fun r => ∀ c : Dev Cert.RYgGrad3Ideal.nD,
          r.2.mem ((c.tc : Thread Cert.RYgGrad3Ideal.nD Cert.RYgGrad3Ideal.τ).loc Cert.RYgGrad3Ideal.main_v3) = v0 c
          ∧ r.2.mem ((c.tc : Thread Cert.RYgGrad3Ideal.nD Cert.RYgGrad3Ideal.τ).loc Cert.RYgGrad3Ideal.main_arg0) = m' ((c.tc : Thread Cert.RYgGrad3Ideal.nD Cert.RYgGrad3Ideal.τ).loc Cert.RYgGrad3Ideal.main_arg0)
          ∧ r.2.mem ((c.tc : Thread Cert.RYgGrad3Ideal.nD Cert.RYgGrad3Ideal.τ).loc Cert.RYgGrad3Ideal.main_arg1) = m' ((c.tc : Thread Cert.RYgGrad3Ideal.nD Cert.RYgGrad3Ideal.τ).loc Cert.RYgGrad3Ideal.main_arg1))

def preserves_In1_In1Ideal : Prop :=
  True

def algebraic_In1Ideal_RIn1Ideal [hIn1Ideal : Cert.In1Ideal.Facts] [hRIn1Ideal : Cert.RIn1Ideal.Facts] : Prop :=
  ∀ (m : (ℓ : Loc Cert.In1Ideal.nD Cert.In1Ideal.τ Cert.In1Ideal.sig) → Buf (Elt Ideal) ℓ) (g : Dev Cert.In1Ideal.nD → PrngReg)
    (m' : (ℓ : Loc Cert.RIn1Ideal.nD Cert.RIn1Ideal.τ Cert.RIn1Ideal.sig) → Buf (Elt Ideal) ℓ) (g' : Dev Cert.RIn1Ideal.nD → PrngReg), Pre_In1Ideal m →
    (∀ c : Dev Cert.In1Ideal.nD,
      m' ((c.tc : Thread Cert.RIn1Ideal.nD Cert.RIn1Ideal.τ).loc Cert.RIn1Ideal.main_arg0) = m ((c.tc : Thread Cert.In1Ideal.nD Cert.In1Ideal.τ).loc Cert.In1Ideal.main_arg0)
      ∧ m' ((c.tc : Thread Cert.RIn1Ideal.nD Cert.RIn1Ideal.τ).loc Cert.RIn1Ideal.main_arg1) = m ((c.tc : Thread Cert.In1Ideal.nD Cert.In1Ideal.τ).loc Cert.In1Ideal.main_arg1)
      ∧ m' ((c.tc : Thread Cert.RIn1Ideal.nD Cert.RIn1Ideal.τ).loc Cert.RIn1Ideal.main_arg2) = m ((c.tc : Thread Cert.In1Ideal.nD Cert.In1Ideal.τ).loc Cert.In1Ideal.main_arg2)) →
    ∃ (v0 : (c : Dev Cert.In1Ideal.nD) → Buf (Elt Ideal) ((c.tc : Thread Cert.In1Ideal.nD Cert.In1Ideal.τ).loc Cert.In1Ideal.main_v4_0)) (v1 : (c : Dev Cert.In1Ideal.nD) → Buf (Elt Ideal) ((c.tc : Thread Cert.In1Ideal.nD Cert.In1Ideal.τ).loc Cert.In1Ideal.main_v4_1)),
      θ_run (Cert.In1Ideal.defs (F := Ideal)) (onTc (τ := Cert.In1Ideal.τ) (Cert.In1Ideal.main (F := Ideal))) ⟨m, fun _ => 0, g⟩ (fun r => ∀ c : Dev Cert.In1Ideal.nD,
          r.2.mem ((c.tc : Thread Cert.In1Ideal.nD Cert.In1Ideal.τ).loc Cert.In1Ideal.main_v4_0) = v0 c
          ∧ r.2.mem ((c.tc : Thread Cert.In1Ideal.nD Cert.In1Ideal.τ).loc Cert.In1Ideal.main_v4_1) = v1 c
          ∧ r.2.mem ((c.tc : Thread Cert.In1Ideal.nD Cert.In1Ideal.τ).loc Cert.In1Ideal.main_arg0) = m ((c.tc : Thread Cert.In1Ideal.nD Cert.In1Ideal.τ).loc Cert.In1Ideal.main_arg0)
          ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
          ∧ r.2.mem ((c.tc : Thread Cert.In1Ideal.nD Cert.In1Ideal.τ).loc Cert.In1Ideal.main_arg2) = m ((c.tc : Thread Cert.In1Ideal.nD Cert.In1Ideal.τ).loc Cert.In1Ideal.main_arg2))
      ∧ θ_run (Cert.RIn1Ideal.defs (F := Ideal)) (onTc (τ := Cert.RIn1Ideal.τ) (Cert.RIn1Ideal.main (F := Ideal))) ⟨m', fun _ => 0, g'⟩ (fun r => ∀ c : Dev Cert.RIn1Ideal.nD,
          r.2.mem ((c.tc : Thread Cert.RIn1Ideal.nD Cert.RIn1Ideal.τ).loc Cert.RIn1Ideal.main_v13) = v0 c
          ∧ r.2.mem ((c.tc : Thread Cert.RIn1Ideal.nD Cert.RIn1Ideal.τ).loc Cert.RIn1Ideal.main_v14) = v1 c
          ∧ r.2.mem ((c.tc : Thread Cert.RIn1Ideal.nD Cert.RIn1Ideal.τ).loc Cert.RIn1Ideal.main_arg0) = m' ((c.tc : Thread Cert.RIn1Ideal.nD Cert.RIn1Ideal.τ).loc Cert.RIn1Ideal.main_arg0)
          ∧ r.2.mem ((c.tc : Thread Cert.RIn1Ideal.nD Cert.RIn1Ideal.τ).loc Cert.RIn1Ideal.main_arg1) = m' ((c.tc : Thread Cert.RIn1Ideal.nD Cert.RIn1Ideal.τ).loc Cert.RIn1Ideal.main_arg1)
          ∧ r.2.mem ((c.tc : Thread Cert.RIn1Ideal.nD Cert.RIn1Ideal.τ).loc Cert.RIn1Ideal.main_arg2) = m' ((c.tc : Thread Cert.RIn1Ideal.nD Cert.RIn1Ideal.τ).loc Cert.RIn1Ideal.main_arg2))

def preserves_In2_In2Ideal : Prop :=
  True

def algebraic_In2Ideal_RIn2Ideal [hIn2Ideal : Cert.In2Ideal.Facts] [hRIn2Ideal : Cert.RIn2Ideal.Facts] : Prop :=
  ∀ (m : (ℓ : Loc Cert.In2Ideal.nD Cert.In2Ideal.τ Cert.In2Ideal.sig) → Buf (Elt Ideal) ℓ) (g : Dev Cert.In2Ideal.nD → PrngReg)
    (m' : (ℓ : Loc Cert.RIn2Ideal.nD Cert.RIn2Ideal.τ Cert.RIn2Ideal.sig) → Buf (Elt Ideal) ℓ) (g' : Dev Cert.RIn2Ideal.nD → PrngReg), Pre_In2Ideal m →
    (∀ c : Dev Cert.In2Ideal.nD,
      m' ((c.tc : Thread Cert.RIn2Ideal.nD Cert.RIn2Ideal.τ).loc Cert.RIn2Ideal.main_arg0) = m ((c.tc : Thread Cert.In2Ideal.nD Cert.In2Ideal.τ).loc Cert.In2Ideal.main_arg0)
      ∧ m' ((c.tc : Thread Cert.RIn2Ideal.nD Cert.RIn2Ideal.τ).loc Cert.RIn2Ideal.main_arg1) = m ((c.tc : Thread Cert.In2Ideal.nD Cert.In2Ideal.τ).loc Cert.In2Ideal.main_arg1)
      ∧ m' ((c.tc : Thread Cert.RIn2Ideal.nD Cert.RIn2Ideal.τ).loc Cert.RIn2Ideal.main_arg2) = m ((c.tc : Thread Cert.In2Ideal.nD Cert.In2Ideal.τ).loc Cert.In2Ideal.main_arg2)) →
    ∃ (v0 : (c : Dev Cert.In2Ideal.nD) → Buf (Elt Ideal) ((c.tc : Thread Cert.In2Ideal.nD Cert.In2Ideal.τ).loc Cert.In2Ideal.main_v4_0)) (v1 : (c : Dev Cert.In2Ideal.nD) → Buf (Elt Ideal) ((c.tc : Thread Cert.In2Ideal.nD Cert.In2Ideal.τ).loc Cert.In2Ideal.main_v4_1)),
      θ_run (Cert.In2Ideal.defs (F := Ideal)) (onTc (τ := Cert.In2Ideal.τ) (Cert.In2Ideal.main (F := Ideal))) ⟨m, fun _ => 0, g⟩ (fun r => ∀ c : Dev Cert.In2Ideal.nD,
          r.2.mem ((c.tc : Thread Cert.In2Ideal.nD Cert.In2Ideal.τ).loc Cert.In2Ideal.main_v4_0) = v0 c
          ∧ r.2.mem ((c.tc : Thread Cert.In2Ideal.nD Cert.In2Ideal.τ).loc Cert.In2Ideal.main_v4_1) = v1 c
          ∧ r.2.mem ((c.tc : Thread Cert.In2Ideal.nD Cert.In2Ideal.τ).loc Cert.In2Ideal.main_arg0) = m ((c.tc : Thread Cert.In2Ideal.nD Cert.In2Ideal.τ).loc Cert.In2Ideal.main_arg0)
          ∧ r.2.mem ((c.tc : Thread Cert.In2Ideal.nD Cert.In2Ideal.τ).loc Cert.In2Ideal.main_arg1) = m ((c.tc : Thread Cert.In2Ideal.nD Cert.In2Ideal.τ).loc Cert.In2Ideal.main_arg1)
          ∧ r.2.mem ((c.tc : Thread Cert.In2Ideal.nD Cert.In2Ideal.τ).loc Cert.In2Ideal.main_arg2) = m ((c.tc : Thread Cert.In2Ideal.nD Cert.In2Ideal.τ).loc Cert.In2Ideal.main_arg2))
      ∧ θ_run (Cert.RIn2Ideal.defs (F := Ideal)) (onTc (τ := Cert.RIn2Ideal.τ) (Cert.RIn2Ideal.main (F := Ideal))) ⟨m', fun _ => 0, g'⟩ (fun r => ∀ c : Dev Cert.RIn2Ideal.nD,
          r.2.mem ((c.tc : Thread Cert.RIn2Ideal.nD Cert.RIn2Ideal.τ).loc Cert.RIn2Ideal.main_v13) = v0 c
          ∧ r.2.mem ((c.tc : Thread Cert.RIn2Ideal.nD Cert.RIn2Ideal.τ).loc Cert.RIn2Ideal.main_v14) = v1 c
          ∧ r.2.mem ((c.tc : Thread Cert.RIn2Ideal.nD Cert.RIn2Ideal.τ).loc Cert.RIn2Ideal.main_arg0) = m' ((c.tc : Thread Cert.RIn2Ideal.nD Cert.RIn2Ideal.τ).loc Cert.RIn2Ideal.main_arg0)
          ∧ r.2.mem ((c.tc : Thread Cert.RIn2Ideal.nD Cert.RIn2Ideal.τ).loc Cert.RIn2Ideal.main_arg1) = m' ((c.tc : Thread Cert.RIn2Ideal.nD Cert.RIn2Ideal.τ).loc Cert.RIn2Ideal.main_arg1)
          ∧ r.2.mem ((c.tc : Thread Cert.RIn2Ideal.nD Cert.RIn2Ideal.τ).loc Cert.RIn2Ideal.main_arg2) = m' ((c.tc : Thread Cert.RIn2Ideal.nD Cert.RIn2Ideal.τ).loc Cert.RIn2Ideal.main_arg2))

def preserves_In3_In3Ideal : Prop :=
  True

def algebraic_In3Ideal_RIn3Ideal [hIn3Ideal : Cert.In3Ideal.Facts] [hRIn3Ideal : Cert.RIn3Ideal.Facts] : Prop :=
  ∀ (m : (ℓ : Loc Cert.In3Ideal.nD Cert.In3Ideal.τ Cert.In3Ideal.sig) → Buf (Elt Ideal) ℓ) (g : Dev Cert.In3Ideal.nD → PrngReg)
    (m' : (ℓ : Loc Cert.RIn3Ideal.nD Cert.RIn3Ideal.τ Cert.RIn3Ideal.sig) → Buf (Elt Ideal) ℓ) (g' : Dev Cert.RIn3Ideal.nD → PrngReg), Pre_In3Ideal m →
    (∀ c : Dev Cert.In3Ideal.nD,
      m' ((c.tc : Thread Cert.RIn3Ideal.nD Cert.RIn3Ideal.τ).loc Cert.RIn3Ideal.main_arg0) = m ((c.tc : Thread Cert.In3Ideal.nD Cert.In3Ideal.τ).loc Cert.In3Ideal.main_arg0)
      ∧ m' ((c.tc : Thread Cert.RIn3Ideal.nD Cert.RIn3Ideal.τ).loc Cert.RIn3Ideal.main_arg1) = m ((c.tc : Thread Cert.In3Ideal.nD Cert.In3Ideal.τ).loc Cert.In3Ideal.main_arg1)
      ∧ m' ((c.tc : Thread Cert.RIn3Ideal.nD Cert.RIn3Ideal.τ).loc Cert.RIn3Ideal.main_arg2) = m ((c.tc : Thread Cert.In3Ideal.nD Cert.In3Ideal.τ).loc Cert.In3Ideal.main_arg2)) →
    ∃ (v0 : (c : Dev Cert.In3Ideal.nD) → Buf (Elt Ideal) ((c.tc : Thread Cert.In3Ideal.nD Cert.In3Ideal.τ).loc Cert.In3Ideal.main_v4_0)) (v1 : (c : Dev Cert.In3Ideal.nD) → Buf (Elt Ideal) ((c.tc : Thread Cert.In3Ideal.nD Cert.In3Ideal.τ).loc Cert.In3Ideal.main_v4_1)),
      θ_run (Cert.In3Ideal.defs (F := Ideal)) (onTc (τ := Cert.In3Ideal.τ) (Cert.In3Ideal.main (F := Ideal))) ⟨m, fun _ => 0, g⟩ (fun r => ∀ c : Dev Cert.In3Ideal.nD,
          r.2.mem ((c.tc : Thread Cert.In3Ideal.nD Cert.In3Ideal.τ).loc Cert.In3Ideal.main_v4_0) = v0 c
          ∧ r.2.mem ((c.tc : Thread Cert.In3Ideal.nD Cert.In3Ideal.τ).loc Cert.In3Ideal.main_v4_1) = v1 c
          ∧ r.2.mem ((c.tc : Thread Cert.In3Ideal.nD Cert.In3Ideal.τ).loc Cert.In3Ideal.main_arg0) = m ((c.tc : Thread Cert.In3Ideal.nD Cert.In3Ideal.τ).loc Cert.In3Ideal.main_arg0)
          ∧ r.2.mem ((c.tc : Thread Cert.In3Ideal.nD Cert.In3Ideal.τ).loc Cert.In3Ideal.main_arg1) = m ((c.tc : Thread Cert.In3Ideal.nD Cert.In3Ideal.τ).loc Cert.In3Ideal.main_arg1)
          ∧ r.2.mem ((c.tc : Thread Cert.In3Ideal.nD Cert.In3Ideal.τ).loc Cert.In3Ideal.main_arg2) = m ((c.tc : Thread Cert.In3Ideal.nD Cert.In3Ideal.τ).loc Cert.In3Ideal.main_arg2))
      ∧ θ_run (Cert.RIn3Ideal.defs (F := Ideal)) (onTc (τ := Cert.RIn3Ideal.τ) (Cert.RIn3Ideal.main (F := Ideal))) ⟨m', fun _ => 0, g'⟩ (fun r => ∀ c : Dev Cert.RIn3Ideal.nD,
          r.2.mem ((c.tc : Thread Cert.RIn3Ideal.nD Cert.RIn3Ideal.τ).loc Cert.RIn3Ideal.main_v13) = v0 c
          ∧ r.2.mem ((c.tc : Thread Cert.RIn3Ideal.nD Cert.RIn3Ideal.τ).loc Cert.RIn3Ideal.main_v14) = v1 c
          ∧ r.2.mem ((c.tc : Thread Cert.RIn3Ideal.nD Cert.RIn3Ideal.τ).loc Cert.RIn3Ideal.main_arg0) = m' ((c.tc : Thread Cert.RIn3Ideal.nD Cert.RIn3Ideal.τ).loc Cert.RIn3Ideal.main_arg0)
          ∧ r.2.mem ((c.tc : Thread Cert.RIn3Ideal.nD Cert.RIn3Ideal.τ).loc Cert.RIn3Ideal.main_arg1) = m' ((c.tc : Thread Cert.RIn3Ideal.nD Cert.RIn3Ideal.τ).loc Cert.RIn3Ideal.main_arg1)
          ∧ r.2.mem ((c.tc : Thread Cert.RIn3Ideal.nD Cert.RIn3Ideal.τ).loc Cert.RIn3Ideal.main_arg2) = m' ((c.tc : Thread Cert.RIn3Ideal.nD Cert.RIn3Ideal.τ).loc Cert.RIn3Ideal.main_arg2))

def preserves_MixedGrad2_MixedGrad2Ideal : Prop :=
  True

def algebraic_MixedGrad2Ideal_RMixedGrad2Ideal [hMixedGrad2Ideal : Cert.MixedGrad2Ideal.Facts] [hRMixedGrad2Ideal : Cert.RMixedGrad2Ideal.Facts] : Prop :=
  ∀ (m : (ℓ : Loc Cert.MixedGrad2Ideal.nD Cert.MixedGrad2Ideal.τ Cert.MixedGrad2Ideal.sig) → Buf (Elt Ideal) ℓ) (g : Dev Cert.MixedGrad2Ideal.nD → PrngReg)
    (m' : (ℓ : Loc Cert.RMixedGrad2Ideal.nD Cert.RMixedGrad2Ideal.τ Cert.RMixedGrad2Ideal.sig) → Buf (Elt Ideal) ℓ) (g' : Dev Cert.RMixedGrad2Ideal.nD → PrngReg), Pre_MixedGrad2Ideal m →
    (∀ c : Dev Cert.MixedGrad2Ideal.nD,
      m' ((c.tc : Thread Cert.RMixedGrad2Ideal.nD Cert.RMixedGrad2Ideal.τ).loc Cert.RMixedGrad2Ideal.main_arg0) = m ((c.tc : Thread Cert.MixedGrad2Ideal.nD Cert.MixedGrad2Ideal.τ).loc Cert.MixedGrad2Ideal.main_arg0)
      ∧ m' ((c.tc : Thread Cert.RMixedGrad2Ideal.nD Cert.RMixedGrad2Ideal.τ).loc Cert.RMixedGrad2Ideal.main_arg1) = m ((c.tc : Thread Cert.MixedGrad2Ideal.nD Cert.MixedGrad2Ideal.τ).loc Cert.MixedGrad2Ideal.main_arg1)) →
    ∃ (v0 : (c : Dev Cert.MixedGrad2Ideal.nD) → Buf (Elt Ideal) ((c.tc : Thread Cert.MixedGrad2Ideal.nD Cert.MixedGrad2Ideal.τ).loc Cert.MixedGrad2Ideal.main_v3)),
      θ_run (Cert.MixedGrad2Ideal.defs (F := Ideal)) (onTc (τ := Cert.MixedGrad2Ideal.τ) (Cert.MixedGrad2Ideal.main (F := Ideal))) ⟨m, fun _ => 0, g⟩ (fun r => ∀ c : Dev Cert.MixedGrad2Ideal.nD,
          r.2.mem ((c.tc : Thread Cert.MixedGrad2Ideal.nD Cert.MixedGrad2Ideal.τ).loc Cert.MixedGrad2Ideal.main_v3) = v0 c
          ∧ r.2.mem ((c.tc : Thread Cert.MixedGrad2Ideal.nD Cert.MixedGrad2Ideal.τ).loc Cert.MixedGrad2Ideal.main_arg0) = m ((c.tc : Thread Cert.MixedGrad2Ideal.nD Cert.MixedGrad2Ideal.τ).loc Cert.MixedGrad2Ideal.main_arg0)
          ∧ r.2.mem ((c.tc : Thread Cert.MixedGrad2Ideal.nD Cert.MixedGrad2Ideal.τ).loc Cert.MixedGrad2Ideal.main_arg1) = m ((c.tc : Thread Cert.MixedGrad2Ideal.nD Cert.MixedGrad2Ideal.τ).loc Cert.MixedGrad2Ideal.main_arg1))
      ∧ θ_run (Cert.RMixedGrad2Ideal.defs (F := Ideal)) (onTc (τ := Cert.RMixedGrad2Ideal.τ) (Cert.RMixedGrad2Ideal.main (F := Ideal))) ⟨m', fun _ => 0, g'⟩ (fun r => ∀ c : Dev Cert.RMixedGrad2Ideal.nD,
          r.2.mem ((c.tc : Thread Cert.RMixedGrad2Ideal.nD Cert.RMixedGrad2Ideal.τ).loc Cert.RMixedGrad2Ideal.main_v8) = v0 c
          ∧ r.2.mem ((c.tc : Thread Cert.RMixedGrad2Ideal.nD Cert.RMixedGrad2Ideal.τ).loc Cert.RMixedGrad2Ideal.main_arg0) = m' ((c.tc : Thread Cert.RMixedGrad2Ideal.nD Cert.RMixedGrad2Ideal.τ).loc Cert.RMixedGrad2Ideal.main_arg0)
          ∧ r.2.mem ((c.tc : Thread Cert.RMixedGrad2Ideal.nD Cert.RMixedGrad2Ideal.τ).loc Cert.RMixedGrad2Ideal.main_arg1) = m' ((c.tc : Thread Cert.RMixedGrad2Ideal.nD Cert.RMixedGrad2Ideal.τ).loc Cert.RMixedGrad2Ideal.main_arg1))

def preserves_GrpGrad2_GrpGrad2Ideal : Prop :=
  True

def algebraic_GrpGrad2Ideal_RGrpGrad2Ideal [hGrpGrad2Ideal : Cert.GrpGrad2Ideal.Facts] [hRGrpGrad2Ideal : Cert.RGrpGrad2Ideal.Facts] : Prop :=
  ∀ (m : (ℓ : Loc Cert.GrpGrad2Ideal.nD Cert.GrpGrad2Ideal.τ Cert.GrpGrad2Ideal.sig) → Buf (Elt Ideal) ℓ) (g : Dev Cert.GrpGrad2Ideal.nD → PrngReg)
    (m' : (ℓ : Loc Cert.RGrpGrad2Ideal.nD Cert.RGrpGrad2Ideal.τ Cert.RGrpGrad2Ideal.sig) → Buf (Elt Ideal) ℓ) (g' : Dev Cert.RGrpGrad2Ideal.nD → PrngReg), Pre_GrpGrad2Ideal m →
    (∀ c : Dev Cert.GrpGrad2Ideal.nD,
      m' ((c.tc : Thread Cert.RGrpGrad2Ideal.nD Cert.RGrpGrad2Ideal.τ).loc Cert.RGrpGrad2Ideal.main_arg0) = m ((c.tc : Thread Cert.GrpGrad2Ideal.nD Cert.GrpGrad2Ideal.τ).loc Cert.GrpGrad2Ideal.main_arg0)
      ∧ m' ((c.tc : Thread Cert.RGrpGrad2Ideal.nD Cert.RGrpGrad2Ideal.τ).loc Cert.RGrpGrad2Ideal.main_arg1) = m ((c.tc : Thread Cert.GrpGrad2Ideal.nD Cert.GrpGrad2Ideal.τ).loc Cert.GrpGrad2Ideal.main_arg1)) →
    ∃ (v0 : (c : Dev Cert.GrpGrad2Ideal.nD) → Buf (Elt Ideal) ((c.tc : Thread Cert.GrpGrad2Ideal.nD Cert.GrpGrad2Ideal.τ).loc Cert.GrpGrad2Ideal.main_v0)),
      θ_run (Cert.GrpGrad2Ideal.defs (F := Ideal)) (onTc (τ := Cert.GrpGrad2Ideal.τ) (Cert.GrpGrad2Ideal.main (F := Ideal))) ⟨m, fun _ => 0, g⟩ (fun r => ∀ c : Dev Cert.GrpGrad2Ideal.nD,
          r.2.mem ((c.tc : Thread Cert.GrpGrad2Ideal.nD Cert.GrpGrad2Ideal.τ).loc Cert.GrpGrad2Ideal.main_v0) = v0 c
          ∧ r.2.mem ((c.tc : Thread Cert.GrpGrad2Ideal.nD Cert.GrpGrad2Ideal.τ).loc Cert.GrpGrad2Ideal.main_arg0) = m ((c.tc : Thread Cert.GrpGrad2Ideal.nD Cert.GrpGrad2Ideal.τ).loc Cert.GrpGrad2Ideal.main_arg0)
          ∧ r.2.mem ((c.tc : Thread Cert.GrpGrad2Ideal.nD Cert.GrpGrad2Ideal.τ).loc Cert.GrpGrad2Ideal.main_arg1) = m ((c.tc : Thread Cert.GrpGrad2Ideal.nD Cert.GrpGrad2Ideal.τ).loc Cert.GrpGrad2Ideal.main_arg1))
      ∧ θ_run (Cert.RGrpGrad2Ideal.defs (F := Ideal)) (onTc (τ := Cert.RGrpGrad2Ideal.τ) (Cert.RGrpGrad2Ideal.main (F := Ideal))) ⟨m', fun _ => 0, g'⟩ (fun r => ∀ c : Dev Cert.RGrpGrad2Ideal.nD,
          r.2.mem ((c.tc : Thread Cert.RGrpGrad2Ideal.nD Cert.RGrpGrad2Ideal.τ).loc Cert.RGrpGrad2Ideal.main_v11) = v0 c
          ∧ r.2.mem ((c.tc : Thread Cert.RGrpGrad2Ideal.nD Cert.RGrpGrad2Ideal.τ).loc Cert.RGrpGrad2Ideal.main_arg0) = m' ((c.tc : Thread Cert.RGrpGrad2Ideal.nD Cert.RGrpGrad2Ideal.τ).loc Cert.RGrpGrad2Ideal.main_arg0)
          ∧ r.2.mem ((c.tc : Thread Cert.RGrpGrad2Ideal.nD Cert.RGrpGrad2Ideal.τ).loc Cert.RGrpGrad2Ideal.main_arg1) = m' ((c.tc : Thread Cert.RGrpGrad2Ideal.nD Cert.RGrpGrad2Ideal.τ).loc Cert.RGrpGrad2Ideal.main_arg1))

def preserves_Grp2_Grp2Ideal : Prop :=
  True

def algebraic_Grp2Ideal_RGrp2Ideal [hGrp2Ideal : Cert.Grp2Ideal.Facts] [hRGrp2Ideal : Cert.RGrp2Ideal.Facts] : Prop :=
  ∀ (m : (ℓ : Loc Cert.Grp2Ideal.nD Cert.Grp2Ideal.τ Cert.Grp2Ideal.sig) → Buf (Elt Ideal) ℓ) (g : Dev Cert.Grp2Ideal.nD → PrngReg)
    (m' : (ℓ : Loc Cert.RGrp2Ideal.nD Cert.RGrp2Ideal.τ Cert.RGrp2Ideal.sig) → Buf (Elt Ideal) ℓ) (g' : Dev Cert.RGrp2Ideal.nD → PrngReg), Pre_Grp2Ideal m →
    (∀ c : Dev Cert.Grp2Ideal.nD,
      m' ((c.tc : Thread Cert.RGrp2Ideal.nD Cert.RGrp2Ideal.τ).loc Cert.RGrp2Ideal.main_arg0) = m ((c.tc : Thread Cert.Grp2Ideal.nD Cert.Grp2Ideal.τ).loc Cert.Grp2Ideal.main_arg0)
      ∧ m' ((c.tc : Thread Cert.RGrp2Ideal.nD Cert.RGrp2Ideal.τ).loc Cert.RGrp2Ideal.main_arg1) = m ((c.tc : Thread Cert.Grp2Ideal.nD Cert.Grp2Ideal.τ).loc Cert.Grp2Ideal.main_arg1)
      ∧ m' ((c.tc : Thread Cert.RGrp2Ideal.nD Cert.RGrp2Ideal.τ).loc Cert.RGrp2Ideal.main_arg2) = m ((c.tc : Thread Cert.Grp2Ideal.nD Cert.Grp2Ideal.τ).loc Cert.Grp2Ideal.main_arg2)
      ∧ m' ((c.tc : Thread Cert.RGrp2Ideal.nD Cert.RGrp2Ideal.τ).loc Cert.RGrp2Ideal.main_arg3) = m ((c.tc : Thread Cert.Grp2Ideal.nD Cert.Grp2Ideal.τ).loc Cert.Grp2Ideal.main_arg3)
      ∧ m' ((c.tc : Thread Cert.RGrp2Ideal.nD Cert.RGrp2Ideal.τ).loc Cert.RGrp2Ideal.main_arg4) = m ((c.tc : Thread Cert.Grp2Ideal.nD Cert.Grp2Ideal.τ).loc Cert.Grp2Ideal.main_arg4)) →
    ∃ (v0 : (c : Dev Cert.Grp2Ideal.nD) → Buf (Elt Ideal) ((c.tc : Thread Cert.Grp2Ideal.nD Cert.Grp2Ideal.τ).loc Cert.Grp2Ideal.main_v5_0)) (v1 : (c : Dev Cert.Grp2Ideal.nD) → Buf (Elt Ideal) ((c.tc : Thread Cert.Grp2Ideal.nD Cert.Grp2Ideal.τ).loc Cert.Grp2Ideal.main_v5_1)),
      θ_run (Cert.Grp2Ideal.defs (F := Ideal)) (onTc (τ := Cert.Grp2Ideal.τ) (Cert.Grp2Ideal.main (F := Ideal))) ⟨m, fun _ => 0, g⟩ (fun r => ∀ c : Dev Cert.Grp2Ideal.nD,
          r.2.mem ((c.tc : Thread Cert.Grp2Ideal.nD Cert.Grp2Ideal.τ).loc Cert.Grp2Ideal.main_v5_0) = v0 c
          ∧ r.2.mem ((c.tc : Thread Cert.Grp2Ideal.nD Cert.Grp2Ideal.τ).loc Cert.Grp2Ideal.main_v5_1) = v1 c
          ∧ r.2.mem ((c.tc : Thread Cert.Grp2Ideal.nD Cert.Grp2Ideal.τ).loc Cert.Grp2Ideal.main_arg0) = m ((c.tc : Thread Cert.Grp2Ideal.nD Cert.Grp2Ideal.τ).loc Cert.Grp2Ideal.main_arg0)
          ∧ r.2.mem ((c.tc : Thread Cert.Grp2Ideal.nD Cert.Grp2Ideal.τ).loc Cert.Grp2Ideal.main_arg1) = m ((c.tc : Thread Cert.Grp2Ideal.nD Cert.Grp2Ideal.τ).loc Cert.Grp2Ideal.main_arg1)
          ∧ r.2.mem ((c.tc : Thread Cert.Grp2Ideal.nD Cert.Grp2Ideal.τ).loc Cert.Grp2Ideal.main_arg2) = m ((c.tc : Thread Cert.Grp2Ideal.nD Cert.Grp2Ideal.τ).loc Cert.Grp2Ideal.main_arg2)
          ∧ r.2.mem ((c.tc : Thread Cert.Grp2Ideal.nD Cert.Grp2Ideal.τ).loc Cert.Grp2Ideal.main_arg3) = m ((c.tc : Thread Cert.Grp2Ideal.nD Cert.Grp2Ideal.τ).loc Cert.Grp2Ideal.main_arg3)
          ∧ r.2.mem ((c.tc : Thread Cert.Grp2Ideal.nD Cert.Grp2Ideal.τ).loc Cert.Grp2Ideal.main_arg4) = m ((c.tc : Thread Cert.Grp2Ideal.nD Cert.Grp2Ideal.τ).loc Cert.Grp2Ideal.main_arg4))
      ∧ θ_run (Cert.RGrp2Ideal.defs (F := Ideal)) (onTc (τ := Cert.RGrp2Ideal.τ) (Cert.RGrp2Ideal.main (F := Ideal))) ⟨m', fun _ => 0, g'⟩ (fun r => ∀ c : Dev Cert.RGrp2Ideal.nD,
          r.2.mem ((c.tc : Thread Cert.RGrp2Ideal.nD Cert.RGrp2Ideal.τ).loc Cert.RGrp2Ideal.main_v9) = v0 c
          ∧ r.2.mem ((c.tc : Thread Cert.RGrp2Ideal.nD Cert.RGrp2Ideal.τ).loc Cert.RGrp2Ideal.main_v15) = v1 c
          ∧ r.2.mem ((c.tc : Thread Cert.RGrp2Ideal.nD Cert.RGrp2Ideal.τ).loc Cert.RGrp2Ideal.main_arg0) = m' ((c.tc : Thread Cert.RGrp2Ideal.nD Cert.RGrp2Ideal.τ).loc Cert.RGrp2Ideal.main_arg0)
          ∧ r.2.mem ((c.tc : Thread Cert.RGrp2Ideal.nD Cert.RGrp2Ideal.τ).loc Cert.RGrp2Ideal.main_arg1) = m' ((c.tc : Thread Cert.RGrp2Ideal.nD Cert.RGrp2Ideal.τ).loc Cert.RGrp2Ideal.main_arg1)
          ∧ r.2.mem ((c.tc : Thread Cert.RGrp2Ideal.nD Cert.RGrp2Ideal.τ).loc Cert.RGrp2Ideal.main_arg2) = m' ((c.tc : Thread Cert.RGrp2Ideal.nD Cert.RGrp2Ideal.τ).loc Cert.RGrp2Ideal.main_arg2)
          ∧ r.2.mem ((c.tc : Thread Cert.RGrp2Ideal.nD Cert.RGrp2Ideal.τ).loc Cert.RGrp2Ideal.main_arg3) = m' ((c.tc : Thread Cert.RGrp2Ideal.nD Cert.RGrp2Ideal.τ).loc Cert.RGrp2Ideal.main_arg3)
          ∧ r.2.mem ((c.tc : Thread Cert.RGrp2Ideal.nD Cert.RGrp2Ideal.τ).loc Cert.RGrp2Ideal.main_arg4) = m' ((c.tc : Thread Cert.RGrp2Ideal.nD Cert.RGrp2Ideal.τ).loc Cert.RGrp2Ideal.main_arg4))

def preserves_Glu3_Glu3Ideal : Prop :=
  True

def algebraic_Glu3Ideal_RGlu3Ideal [hGlu3Ideal : Cert.Glu3Ideal.Facts] [hRGlu3Ideal : Cert.RGlu3Ideal.Facts] : Prop :=
  ∀ (m : (ℓ : Loc Cert.Glu3Ideal.nD Cert.Glu3Ideal.τ Cert.Glu3Ideal.sig) → Buf (Elt Ideal) ℓ) (g : Dev Cert.Glu3Ideal.nD → PrngReg)
    (m' : (ℓ : Loc Cert.RGlu3Ideal.nD Cert.RGlu3Ideal.τ Cert.RGlu3Ideal.sig) → Buf (Elt Ideal) ℓ) (g' : Dev Cert.RGlu3Ideal.nD → PrngReg), Pre_Glu3Ideal m →
    (∀ c : Dev Cert.Glu3Ideal.nD,
      m' ((c.tc : Thread Cert.RGlu3Ideal.nD Cert.RGlu3Ideal.τ).loc Cert.RGlu3Ideal.main_arg0) = m ((c.tc : Thread Cert.Glu3Ideal.nD Cert.Glu3Ideal.τ).loc Cert.Glu3Ideal.main_arg0)
      ∧ m' ((c.tc : Thread Cert.RGlu3Ideal.nD Cert.RGlu3Ideal.τ).loc Cert.RGlu3Ideal.main_arg1) = m ((c.tc : Thread Cert.Glu3Ideal.nD Cert.Glu3Ideal.τ).loc Cert.Glu3Ideal.main_arg1)
      ∧ m' ((c.tc : Thread Cert.RGlu3Ideal.nD Cert.RGlu3Ideal.τ).loc Cert.RGlu3Ideal.main_arg2) = m ((c.tc : Thread Cert.Glu3Ideal.nD Cert.Glu3Ideal.τ).loc Cert.Glu3Ideal.main_arg2)
      ∧ m' ((c.tc : Thread Cert.RGlu3Ideal.nD Cert.RGlu3Ideal.τ).loc Cert.RGlu3Ideal.main_arg3) = m ((c.tc : Thread Cert.Glu3Ideal.nD Cert.Glu3Ideal.τ).loc Cert.Glu3Ideal.main_arg3)) →
    ∃ (v0 : (c : Dev Cert.Glu3Ideal.nD) → Buf (Elt Ideal) ((c.tc : Thread Cert.Glu3Ideal.nD Cert.Glu3Ideal.τ).loc Cert.Glu3Ideal.main_v17_0)) (v1 : (c : Dev Cert.Glu3Ideal.nD) → Buf (Elt Ideal) ((c.tc : Thread Cert.Glu3Ideal.nD Cert.Glu3Ideal.τ).loc Cert.Glu3Ideal.main_v17_1)),
      θ_run (Cert.Glu3Ideal.defs (F := Ideal)) (onTc (τ := Cert.Glu3Ideal.τ) (Cert.Glu3Ideal.main (F := Ideal))) ⟨m, fun _ => 0, g⟩ (fun r => ∀ c : Dev Cert.Glu3Ideal.nD,
          r.2.mem ((c.tc : Thread Cert.Glu3Ideal.nD Cert.Glu3Ideal.τ).loc Cert.Glu3Ideal.main_v17_0) = v0 c
          ∧ r.2.mem ((c.tc : Thread Cert.Glu3Ideal.nD Cert.Glu3Ideal.τ).loc Cert.Glu3Ideal.main_v17_1) = v1 c
          ∧ r.2.mem ((c.tc : Thread Cert.Glu3Ideal.nD Cert.Glu3Ideal.τ).loc Cert.Glu3Ideal.main_arg0) = m ((c.tc : Thread Cert.Glu3Ideal.nD Cert.Glu3Ideal.τ).loc Cert.Glu3Ideal.main_arg0)
          ∧ r.2.mem ((c.tc : Thread Cert.Glu3Ideal.nD Cert.Glu3Ideal.τ).loc Cert.Glu3Ideal.main_arg1) = m ((c.tc : Thread Cert.Glu3Ideal.nD Cert.Glu3Ideal.τ).loc Cert.Glu3Ideal.main_arg1)
          ∧ r.2.mem ((c.tc : Thread Cert.Glu3Ideal.nD Cert.Glu3Ideal.τ).loc Cert.Glu3Ideal.main_arg2) = m ((c.tc : Thread Cert.Glu3Ideal.nD Cert.Glu3Ideal.τ).loc Cert.Glu3Ideal.main_arg2)
          ∧ r.2.mem ((c.tc : Thread Cert.Glu3Ideal.nD Cert.Glu3Ideal.τ).loc Cert.Glu3Ideal.main_arg3) = m ((c.tc : Thread Cert.Glu3Ideal.nD Cert.Glu3Ideal.τ).loc Cert.Glu3Ideal.main_arg3))
      ∧ θ_run (Cert.RGlu3Ideal.defs (F := Ideal)) (onTc (τ := Cert.RGlu3Ideal.τ) (Cert.RGlu3Ideal.main (F := Ideal))) ⟨m', fun _ => 0, g'⟩ (fun r => ∀ c : Dev Cert.RGlu3Ideal.nD,
          r.2.mem ((c.tc : Thread Cert.RGlu3Ideal.nD Cert.RGlu3Ideal.τ).loc Cert.RGlu3Ideal.main_v18) = v0 c
          ∧ r.2.mem ((c.tc : Thread Cert.RGlu3Ideal.nD Cert.RGlu3Ideal.τ).loc Cert.RGlu3Ideal.main_v28) = v1 c
          ∧ r.2.mem ((c.tc : Thread Cert.RGlu3Ideal.nD Cert.RGlu3Ideal.τ).loc Cert.RGlu3Ideal.main_arg0) = m' ((c.tc : Thread Cert.RGlu3Ideal.nD Cert.RGlu3Ideal.τ).loc Cert.RGlu3Ideal.main_arg0)
          ∧ r.2.mem ((c.tc : Thread Cert.RGlu3Ideal.nD Cert.RGlu3Ideal.τ).loc Cert.RGlu3Ideal.main_arg1) = m' ((c.tc : Thread Cert.RGlu3Ideal.nD Cert.RGlu3Ideal.τ).loc Cert.RGlu3Ideal.main_arg1)
          ∧ r.2.mem ((c.tc : Thread Cert.RGlu3Ideal.nD Cert.RGlu3Ideal.τ).loc Cert.RGlu3Ideal.main_arg2) = m' ((c.tc : Thread Cert.RGlu3Ideal.nD Cert.RGlu3Ideal.τ).loc Cert.RGlu3Ideal.main_arg2)
          ∧ r.2.mem ((c.tc : Thread Cert.RGlu3Ideal.nD Cert.RGlu3Ideal.τ).loc Cert.RGlu3Ideal.main_arg3) = m' ((c.tc : Thread Cert.RGlu3Ideal.nD Cert.RGlu3Ideal.τ).loc Cert.RGlu3Ideal.main_arg3))

def preserves_PoolGate2_PoolGate2Ideal : Prop :=
  True

def algebraic_PoolGate2Ideal_RPoolGate2Ideal [hPoolGate2Ideal : Cert.PoolGate2Ideal.Facts] [hRPoolGate2Ideal : Cert.RPoolGate2Ideal.Facts] : Prop :=
  ∀ (m : (ℓ : Loc Cert.PoolGate2Ideal.nD Cert.PoolGate2Ideal.τ Cert.PoolGate2Ideal.sig) → Buf (Elt Ideal) ℓ) (g : Dev Cert.PoolGate2Ideal.nD → PrngReg)
    (m' : (ℓ : Loc Cert.RPoolGate2Ideal.nD Cert.RPoolGate2Ideal.τ Cert.RPoolGate2Ideal.sig) → Buf (Elt Ideal) ℓ) (g' : Dev Cert.RPoolGate2Ideal.nD → PrngReg), Pre_PoolGate2Ideal m →
    (∀ c : Dev Cert.PoolGate2Ideal.nD,
      m' ((c.tc : Thread Cert.RPoolGate2Ideal.nD Cert.RPoolGate2Ideal.τ).loc Cert.RPoolGate2Ideal.main_arg0) = m ((c.tc : Thread Cert.PoolGate2Ideal.nD Cert.PoolGate2Ideal.τ).loc Cert.PoolGate2Ideal.main_arg0)
      ∧ m' ((c.tc : Thread Cert.RPoolGate2Ideal.nD Cert.RPoolGate2Ideal.τ).loc Cert.RPoolGate2Ideal.main_arg1) = m ((c.tc : Thread Cert.PoolGate2Ideal.nD Cert.PoolGate2Ideal.τ).loc Cert.PoolGate2Ideal.main_arg1)
      ∧ m' ((c.tc : Thread Cert.RPoolGate2Ideal.nD Cert.RPoolGate2Ideal.τ).loc Cert.RPoolGate2Ideal.main_arg2) = m ((c.tc : Thread Cert.PoolGate2Ideal.nD Cert.PoolGate2Ideal.τ).loc Cert.PoolGate2Ideal.main_arg2)
      ∧ m' ((c.tc : Thread Cert.RPoolGate2Ideal.nD Cert.RPoolGate2Ideal.τ).loc Cert.RPoolGate2Ideal.main_arg3) = m ((c.tc : Thread Cert.PoolGate2Ideal.nD Cert.PoolGate2Ideal.τ).loc Cert.PoolGate2Ideal.main_arg3)
      ∧ m' ((c.tc : Thread Cert.RPoolGate2Ideal.nD Cert.RPoolGate2Ideal.τ).loc Cert.RPoolGate2Ideal.main_arg4) = m ((c.tc : Thread Cert.PoolGate2Ideal.nD Cert.PoolGate2Ideal.τ).loc Cert.PoolGate2Ideal.main_arg4)) →
    ∃ (v0 : (c : Dev Cert.PoolGate2Ideal.nD) → Buf (Elt Ideal) ((c.tc : Thread Cert.PoolGate2Ideal.nD Cert.PoolGate2Ideal.τ).loc Cert.PoolGate2Ideal.main_v3_0)) (v1 : (c : Dev Cert.PoolGate2Ideal.nD) → Buf (Elt Ideal) ((c.tc : Thread Cert.PoolGate2Ideal.nD Cert.PoolGate2Ideal.τ).loc Cert.PoolGate2Ideal.main_v4)) (v2 : (c : Dev Cert.PoolGate2Ideal.nD) → Buf (Elt Ideal) ((c.tc : Thread Cert.PoolGate2Ideal.nD Cert.PoolGate2Ideal.τ).loc Cert.PoolGate2Ideal.main_v3_2)) (v3 : (c : Dev Cert.PoolGate2Ideal.nD) → Buf (Elt Ideal) ((c.tc : Thread Cert.PoolGate2Ideal.nD Cert.PoolGate2Ideal.τ).loc Cert.PoolGate2Ideal.main_v3_3)),
      θ_run (Cert.PoolGate2Ideal.defs (F := Ideal)) (onTc (τ := Cert.PoolGate2Ideal.τ) (Cert.PoolGate2Ideal.main (F := Ideal))) ⟨m, fun _ => 0, g⟩ (fun r => ∀ c : Dev Cert.PoolGate2Ideal.nD,
          r.2.mem ((c.tc : Thread Cert.PoolGate2Ideal.nD Cert.PoolGate2Ideal.τ).loc Cert.PoolGate2Ideal.main_v3_0) = v0 c
          ∧ r.2.mem ((c.tc : Thread Cert.PoolGate2Ideal.nD Cert.PoolGate2Ideal.τ).loc Cert.PoolGate2Ideal.main_v4) = v1 c
          ∧ r.2.mem ((c.tc : Thread Cert.PoolGate2Ideal.nD Cert.PoolGate2Ideal.τ).loc Cert.PoolGate2Ideal.main_v3_2) = v2 c
          ∧ r.2.mem ((c.tc : Thread Cert.PoolGate2Ideal.nD Cert.PoolGate2Ideal.τ).loc Cert.PoolGate2Ideal.main_v3_3) = v3 c
          ∧ r.2.mem ((c.tc : Thread Cert.PoolGate2Ideal.nD Cert.PoolGate2Ideal.τ).loc Cert.PoolGate2Ideal.main_arg0) = m ((c.tc : Thread Cert.PoolGate2Ideal.nD Cert.PoolGate2Ideal.τ).loc Cert.PoolGate2Ideal.main_arg0)
          ∧ r.2.mem ((c.tc : Thread Cert.PoolGate2Ideal.nD Cert.PoolGate2Ideal.τ).loc Cert.PoolGate2Ideal.main_arg1) = m ((c.tc : Thread Cert.PoolGate2Ideal.nD Cert.PoolGate2Ideal.τ).loc Cert.PoolGate2Ideal.main_arg1)
          ∧ r.2.mem ((c.tc : Thread Cert.PoolGate2Ideal.nD Cert.PoolGate2Ideal.τ).loc Cert.PoolGate2Ideal.main_arg2) = m ((c.tc : Thread Cert.PoolGate2Ideal.nD Cert.PoolGate2Ideal.τ).loc Cert.PoolGate2Ideal.main_arg2)
          ∧ r.2.mem ((c.tc : Thread Cert.PoolGate2Ideal.nD Cert.PoolGate2Ideal.τ).loc Cert.PoolGate2Ideal.main_arg3) = m ((c.tc : Thread Cert.PoolGate2Ideal.nD Cert.PoolGate2Ideal.τ).loc Cert.PoolGate2Ideal.main_arg3)
          ∧ r.2.mem ((c.tc : Thread Cert.PoolGate2Ideal.nD Cert.PoolGate2Ideal.τ).loc Cert.PoolGate2Ideal.main_arg4) = m ((c.tc : Thread Cert.PoolGate2Ideal.nD Cert.PoolGate2Ideal.τ).loc Cert.PoolGate2Ideal.main_arg4))
      ∧ θ_run (Cert.RPoolGate2Ideal.defs (F := Ideal)) (onTc (τ := Cert.RPoolGate2Ideal.τ) (Cert.RPoolGate2Ideal.main (F := Ideal))) ⟨m', fun _ => 0, g'⟩ (fun r => ∀ c : Dev Cert.RPoolGate2Ideal.nD,
          r.2.mem ((c.tc : Thread Cert.RPoolGate2Ideal.nD Cert.RPoolGate2Ideal.τ).loc Cert.RPoolGate2Ideal.main_v18) = v0 c
          ∧ r.2.mem ((c.tc : Thread Cert.RPoolGate2Ideal.nD Cert.RPoolGate2Ideal.τ).loc Cert.RPoolGate2Ideal.main_v19) = v1 c
          ∧ r.2.mem ((c.tc : Thread Cert.RPoolGate2Ideal.nD Cert.RPoolGate2Ideal.τ).loc Cert.RPoolGate2Ideal.main_v20) = v2 c
          ∧ r.2.mem ((c.tc : Thread Cert.RPoolGate2Ideal.nD Cert.RPoolGate2Ideal.τ).loc Cert.RPoolGate2Ideal.main_v22) = v3 c
          ∧ r.2.mem ((c.tc : Thread Cert.RPoolGate2Ideal.nD Cert.RPoolGate2Ideal.τ).loc Cert.RPoolGate2Ideal.main_arg0) = m' ((c.tc : Thread Cert.RPoolGate2Ideal.nD Cert.RPoolGate2Ideal.τ).loc Cert.RPoolGate2Ideal.main_arg0)
          ∧ r.2.mem ((c.tc : Thread Cert.RPoolGate2Ideal.nD Cert.RPoolGate2Ideal.τ).loc Cert.RPoolGate2Ideal.main_arg1) = m' ((c.tc : Thread Cert.RPoolGate2Ideal.nD Cert.RPoolGate2Ideal.τ).loc Cert.RPoolGate2Ideal.main_arg1)
          ∧ r.2.mem ((c.tc : Thread Cert.RPoolGate2Ideal.nD Cert.RPoolGate2Ideal.τ).loc Cert.RPoolGate2Ideal.main_arg2) = m' ((c.tc : Thread Cert.RPoolGate2Ideal.nD Cert.RPoolGate2Ideal.τ).loc Cert.RPoolGate2Ideal.main_arg2)
          ∧ r.2.mem ((c.tc : Thread Cert.RPoolGate2Ideal.nD Cert.RPoolGate2Ideal.τ).loc Cert.RPoolGate2Ideal.main_arg3) = m' ((c.tc : Thread Cert.RPoolGate2Ideal.nD Cert.RPoolGate2Ideal.τ).loc Cert.RPoolGate2Ideal.main_arg3)
          ∧ r.2.mem ((c.tc : Thread Cert.RPoolGate2Ideal.nD Cert.RPoolGate2Ideal.τ).loc Cert.RPoolGate2Ideal.main_arg4) = m' ((c.tc : Thread Cert.RPoolGate2Ideal.nD Cert.RPoolGate2Ideal.τ).loc Cert.RPoolGate2Ideal.main_arg4))

def preserves_GateGrad3_GateGrad3Ideal : Prop :=
  True

def algebraic_GateGrad3Ideal_RGateGrad3Ideal [hGateGrad3Ideal : Cert.GateGrad3Ideal.Facts] [hRGateGrad3Ideal : Cert.RGateGrad3Ideal.Facts] : Prop :=
  ∀ (m : (ℓ : Loc Cert.GateGrad3Ideal.nD Cert.GateGrad3Ideal.τ Cert.GateGrad3Ideal.sig) → Buf (Elt Ideal) ℓ) (g : Dev Cert.GateGrad3Ideal.nD → PrngReg)
    (m' : (ℓ : Loc Cert.RGateGrad3Ideal.nD Cert.RGateGrad3Ideal.τ Cert.RGateGrad3Ideal.sig) → Buf (Elt Ideal) ℓ) (g' : Dev Cert.RGateGrad3Ideal.nD → PrngReg), Pre_GateGrad3Ideal m →
    (∀ c : Dev Cert.GateGrad3Ideal.nD,
      m' ((c.tc : Thread Cert.RGateGrad3Ideal.nD Cert.RGateGrad3Ideal.τ).loc Cert.RGateGrad3Ideal.main_arg0) = m ((c.tc : Thread Cert.GateGrad3Ideal.nD Cert.GateGrad3Ideal.τ).loc Cert.GateGrad3Ideal.main_arg0)
      ∧ m' ((c.tc : Thread Cert.RGateGrad3Ideal.nD Cert.RGateGrad3Ideal.τ).loc Cert.RGateGrad3Ideal.main_arg1) = m ((c.tc : Thread Cert.GateGrad3Ideal.nD Cert.GateGrad3Ideal.τ).loc Cert.GateGrad3Ideal.main_arg1)
      ∧ m' ((c.tc : Thread Cert.RGateGrad3Ideal.nD Cert.RGateGrad3Ideal.τ).loc Cert.RGateGrad3Ideal.main_arg2) = m ((c.tc : Thread Cert.GateGrad3Ideal.nD Cert.GateGrad3Ideal.τ).loc Cert.GateGrad3Ideal.main_arg2)
      ∧ m' ((c.tc : Thread Cert.RGateGrad3Ideal.nD Cert.RGateGrad3Ideal.τ).loc Cert.RGateGrad3Ideal.main_arg3) = m ((c.tc : Thread Cert.GateGrad3Ideal.nD Cert.GateGrad3Ideal.τ).loc Cert.GateGrad3Ideal.main_arg3)
      ∧ m' ((c.tc : Thread Cert.RGateGrad3Ideal.nD Cert.RGateGrad3Ideal.τ).loc Cert.RGateGrad3Ideal.main_arg4) = m ((c.tc : Thread Cert.GateGrad3Ideal.nD Cert.GateGrad3Ideal.τ).loc Cert.GateGrad3Ideal.main_arg4)) →
    ∃ (v0 : (c : Dev Cert.GateGrad3Ideal.nD) → Buf (Elt Ideal) ((c.tc : Thread Cert.GateGrad3Ideal.nD Cert.GateGrad3Ideal.τ).loc Cert.GateGrad3Ideal.main_v2_0)) (v1 : (c : Dev Cert.GateGrad3Ideal.nD) → Buf (Elt Ideal) ((c.tc : Thread Cert.GateGrad3Ideal.nD Cert.GateGrad3Ideal.τ).loc Cert.GateGrad3Ideal.main_v2_1)) (v2 : (c : Dev Cert.GateGrad3Ideal.nD) → Buf (Elt Ideal) ((c.tc : Thread Cert.GateGrad3Ideal.nD Cert.GateGrad3Ideal.τ).loc Cert.GateGrad3Ideal.main_v3)) (v3 : (c : Dev Cert.GateGrad3Ideal.nD) → Buf (Elt Ideal) ((c.tc : Thread Cert.GateGrad3Ideal.nD Cert.GateGrad3Ideal.τ).loc Cert.GateGrad3Ideal.main_v2_3)),
      θ_run (Cert.GateGrad3Ideal.defs (F := Ideal)) (onTc (τ := Cert.GateGrad3Ideal.τ) (Cert.GateGrad3Ideal.main (F := Ideal))) ⟨m, fun _ => 0, g⟩ (fun r => ∀ c : Dev Cert.GateGrad3Ideal.nD,
          r.2.mem ((c.tc : Thread Cert.GateGrad3Ideal.nD Cert.GateGrad3Ideal.τ).loc Cert.GateGrad3Ideal.main_v2_0) = v0 c
          ∧ r.2.mem ((c.tc : Thread Cert.GateGrad3Ideal.nD Cert.GateGrad3Ideal.τ).loc Cert.GateGrad3Ideal.main_v2_1) = v1 c
          ∧ r.2.mem ((c.tc : Thread Cert.GateGrad3Ideal.nD Cert.GateGrad3Ideal.τ).loc Cert.GateGrad3Ideal.main_v3) = v2 c
          ∧ r.2.mem ((c.tc : Thread Cert.GateGrad3Ideal.nD Cert.GateGrad3Ideal.τ).loc Cert.GateGrad3Ideal.main_v2_3) = v3 c
          ∧ r.2.mem ((c.tc : Thread Cert.GateGrad3Ideal.nD Cert.GateGrad3Ideal.τ).loc Cert.GateGrad3Ideal.main_arg0) = m ((c.tc : Thread Cert.GateGrad3Ideal.nD Cert.GateGrad3Ideal.τ).loc Cert.GateGrad3Ideal.main_arg0)
          ∧ r.2.mem ((c.tc : Thread Cert.GateGrad3Ideal.nD Cert.GateGrad3Ideal.τ).loc Cert.GateGrad3Ideal.main_arg1) = m ((c.tc : Thread Cert.GateGrad3Ideal.nD Cert.GateGrad3Ideal.τ).loc Cert.GateGrad3Ideal.main_arg1)
          ∧ r.2.mem ((c.tc : Thread Cert.GateGrad3Ideal.nD Cert.GateGrad3Ideal.τ).loc Cert.GateGrad3Ideal.main_arg2) = m ((c.tc : Thread Cert.GateGrad3Ideal.nD Cert.GateGrad3Ideal.τ).loc Cert.GateGrad3Ideal.main_arg2)
          ∧ r.2.mem ((c.tc : Thread Cert.GateGrad3Ideal.nD Cert.GateGrad3Ideal.τ).loc Cert.GateGrad3Ideal.main_arg3) = m ((c.tc : Thread Cert.GateGrad3Ideal.nD Cert.GateGrad3Ideal.τ).loc Cert.GateGrad3Ideal.main_arg3)
          ∧ r.2.mem ((c.tc : Thread Cert.GateGrad3Ideal.nD Cert.GateGrad3Ideal.τ).loc Cert.GateGrad3Ideal.main_arg4) = m ((c.tc : Thread Cert.GateGrad3Ideal.nD Cert.GateGrad3Ideal.τ).loc Cert.GateGrad3Ideal.main_arg4))
      ∧ θ_run (Cert.RGateGrad3Ideal.defs (F := Ideal)) (onTc (τ := Cert.RGateGrad3Ideal.τ) (Cert.RGateGrad3Ideal.main (F := Ideal))) ⟨m', fun _ => 0, g'⟩ (fun r => ∀ c : Dev Cert.RGateGrad3Ideal.nD,
          r.2.mem ((c.tc : Thread Cert.RGateGrad3Ideal.nD Cert.RGateGrad3Ideal.τ).loc Cert.RGateGrad3Ideal.main_v54) = v0 c
          ∧ r.2.mem ((c.tc : Thread Cert.RGateGrad3Ideal.nD Cert.RGateGrad3Ideal.τ).loc Cert.RGateGrad3Ideal.main_v55) = v1 c
          ∧ r.2.mem ((c.tc : Thread Cert.RGateGrad3Ideal.nD Cert.RGateGrad3Ideal.τ).loc Cert.RGateGrad3Ideal.main_v56) = v2 c
          ∧ r.2.mem ((c.tc : Thread Cert.RGateGrad3Ideal.nD Cert.RGateGrad3Ideal.τ).loc Cert.RGateGrad3Ideal.main_v58) = v3 c
          ∧ r.2.mem ((c.tc : Thread Cert.RGateGrad3Ideal.nD Cert.RGateGrad3Ideal.τ).loc Cert.RGateGrad3Ideal.main_arg0) = m' ((c.tc : Thread Cert.RGateGrad3Ideal.nD Cert.RGateGrad3Ideal.τ).loc Cert.RGateGrad3Ideal.main_arg0)
          ∧ r.2.mem ((c.tc : Thread Cert.RGateGrad3Ideal.nD Cert.RGateGrad3Ideal.τ).loc Cert.RGateGrad3Ideal.main_arg1) = m' ((c.tc : Thread Cert.RGateGrad3Ideal.nD Cert.RGateGrad3Ideal.τ).loc Cert.RGateGrad3Ideal.main_arg1)
          ∧ r.2.mem ((c.tc : Thread Cert.RGateGrad3Ideal.nD Cert.RGateGrad3Ideal.τ).loc Cert.RGateGrad3Ideal.main_arg2) = m' ((c.tc : Thread Cert.RGateGrad3Ideal.nD Cert.RGateGrad3Ideal.τ).loc Cert.RGateGrad3Ideal.main_arg2)
          ∧ r.2.mem ((c.tc : Thread Cert.RGateGrad3Ideal.nD Cert.RGateGrad3Ideal.τ).loc Cert.RGateGrad3Ideal.main_arg3) = m' ((c.tc : Thread Cert.RGateGrad3Ideal.nD Cert.RGateGrad3Ideal.τ).loc Cert.RGateGrad3Ideal.main_arg3)
          ∧ r.2.mem ((c.tc : Thread Cert.RGateGrad3Ideal.nD Cert.RGateGrad3Ideal.τ).loc Cert.RGateGrad3Ideal.main_arg4) = m' ((c.tc : Thread Cert.RGateGrad3Ideal.nD Cert.RGateGrad3Ideal.τ).loc Cert.RGateGrad3Ideal.main_arg4))

def preserves_Conv1_Conv1Ideal : Prop :=
  True

def algebraic_Conv1Ideal_RConv1Ideal [hConv1Ideal : Cert.Conv1Ideal.Facts] [hRConv1Ideal : Cert.RConv1Ideal.Facts] : Prop :=
  ∀ (m : (ℓ : Loc Cert.Conv1Ideal.nD Cert.Conv1Ideal.τ Cert.Conv1Ideal.sig) → Buf (Elt Ideal) ℓ) (g : Dev Cert.Conv1Ideal.nD → PrngReg)
    (m' : (ℓ : Loc Cert.RConv1Ideal.nD Cert.RConv1Ideal.τ Cert.RConv1Ideal.sig) → Buf (Elt Ideal) ℓ) (g' : Dev Cert.RConv1Ideal.nD → PrngReg), Pre_Conv1Ideal m →
    (∀ c : Dev Cert.Conv1Ideal.nD,
      m' ((c.tc : Thread Cert.RConv1Ideal.nD Cert.RConv1Ideal.τ).loc Cert.RConv1Ideal.main_arg0) = m ((c.tc : Thread Cert.Conv1Ideal.nD Cert.Conv1Ideal.τ).loc Cert.Conv1Ideal.main_arg0)
      ∧ m' ((c.tc : Thread Cert.RConv1Ideal.nD Cert.RConv1Ideal.τ).loc Cert.RConv1Ideal.main_arg1) = m ((c.tc : Thread Cert.Conv1Ideal.nD Cert.Conv1Ideal.τ).loc Cert.Conv1Ideal.main_arg1)
      ∧ m' ((c.tc : Thread Cert.RConv1Ideal.nD Cert.RConv1Ideal.τ).loc Cert.RConv1Ideal.main_arg2) = m ((c.tc : Thread Cert.Conv1Ideal.nD Cert.Conv1Ideal.τ).loc Cert.Conv1Ideal.main_arg2)) →
    ∃ (v0 : (c : Dev Cert.Conv1Ideal.nD) → Buf (Elt Ideal) ((c.tc : Thread Cert.Conv1Ideal.nD Cert.Conv1Ideal.τ).loc Cert.Conv1Ideal.main_v1)),
      θ_run (Cert.Conv1Ideal.defs (F := Ideal)) (onTc (τ := Cert.Conv1Ideal.τ) (Cert.Conv1Ideal.main (F := Ideal))) ⟨m, fun _ => 0, g⟩ (fun r => ∀ c : Dev Cert.Conv1Ideal.nD,
          r.2.mem ((c.tc : Thread Cert.Conv1Ideal.nD Cert.Conv1Ideal.τ).loc Cert.Conv1Ideal.main_v1) = v0 c
          ∧ r.2.mem ((c.tc : Thread Cert.Conv1Ideal.nD Cert.Conv1Ideal.τ).loc Cert.Conv1Ideal.main_arg0) = m ((c.tc : Thread Cert.Conv1Ideal.nD Cert.Conv1Ideal.τ).loc Cert.Conv1Ideal.main_arg0)
          ∧ r.2.mem ((c.tc : Thread Cert.Conv1Ideal.nD Cert.Conv1Ideal.τ).loc Cert.Conv1Ideal.main_arg1) = m ((c.tc : Thread Cert.Conv1Ideal.nD Cert.Conv1Ideal.τ).loc Cert.Conv1Ideal.main_arg1)
          ∧ r.2.mem ((c.tc : Thread Cert.Conv1Ideal.nD Cert.Conv1Ideal.τ).loc Cert.Conv1Ideal.main_arg2) = m ((c.tc : Thread Cert.Conv1Ideal.nD Cert.Conv1Ideal.τ).loc Cert.Conv1Ideal.main_arg2))
      ∧ θ_run (Cert.RConv1Ideal.defs (F := Ideal)) (onTc (τ := Cert.RConv1Ideal.τ) (Cert.RConv1Ideal.main (F := Ideal))) ⟨m', fun _ => 0, g'⟩ (fun r => ∀ c : Dev Cert.RConv1Ideal.nD,
          r.2.mem ((c.tc : Thread Cert.RConv1Ideal.nD Cert.RConv1Ideal.τ).loc Cert.RConv1Ideal.main_v36) = v0 c
          ∧ r.2.mem ((c.tc : Thread Cert.RConv1Ideal.nD Cert.RConv1Ideal.τ).loc Cert.RConv1Ideal.main_arg0) = m' ((c.tc : Thread Cert.RConv1Ideal.nD Cert.RConv1Ideal.τ).loc Cert.RConv1Ideal.main_arg0)
          ∧ r.2.mem ((c.tc : Thread Cert.RConv1Ideal.nD Cert.RConv1Ideal.τ).loc Cert.RConv1Ideal.main_arg1) = m' ((c.tc : Thread Cert.RConv1Ideal.nD Cert.RConv1Ideal.τ).loc Cert.RConv1Ideal.main_arg1)
          ∧ r.2.mem ((c.tc : Thread Cert.RConv1Ideal.nD Cert.RConv1Ideal.τ).loc Cert.RConv1Ideal.main_arg2) = m' ((c.tc : Thread Cert.RConv1Ideal.nD Cert.RConv1Ideal.τ).loc Cert.RConv1Ideal.main_arg2))

def preserves_Pool2_Pool2Ideal : Prop :=
  True

def algebraic_Pool2Ideal_RPool2Ideal_pre_projection_finite [hPool2Ideal : Cert.Pool2Ideal.Facts] [hRPool2Ideal : Cert.RPool2Ideal.Facts] [hPre_projection_finite : Cert.Pre_projection_finite.Facts] : Prop :=
  ∀ (m : (ℓ : Loc Cert.Pool2Ideal.nD Cert.Pool2Ideal.τ Cert.Pool2Ideal.sig) → Buf (Elt Ideal) ℓ) (g : Dev Cert.Pool2Ideal.nD → PrngReg)
    (m' : (ℓ : Loc Cert.RPool2Ideal.nD Cert.RPool2Ideal.τ Cert.RPool2Ideal.sig) → Buf (Elt Ideal) ℓ) (g' : Dev Cert.RPool2Ideal.nD → PrngReg), Pre_Pool2Ideal_projection_finite m →
    (∀ c : Dev Cert.Pool2Ideal.nD,
      m' ((c.tc : Thread Cert.RPool2Ideal.nD Cert.RPool2Ideal.τ).loc Cert.RPool2Ideal.main_arg0) = m ((c.tc : Thread Cert.Pool2Ideal.nD Cert.Pool2Ideal.τ).loc Cert.Pool2Ideal.main_arg0)) →
    ∃ (v0 : (c : Dev Cert.Pool2Ideal.nD) → Buf (Elt Ideal) ((c.tc : Thread Cert.Pool2Ideal.nD Cert.Pool2Ideal.τ).loc Cert.Pool2Ideal.main_v0)),
      θ_run (Cert.Pool2Ideal.defs (F := Ideal)) (onTc (τ := Cert.Pool2Ideal.τ) (Cert.Pool2Ideal.main (F := Ideal))) ⟨m, fun _ => 0, g⟩ (fun r => ∀ c : Dev Cert.Pool2Ideal.nD,
          r.2.mem ((c.tc : Thread Cert.Pool2Ideal.nD Cert.Pool2Ideal.τ).loc Cert.Pool2Ideal.main_v0) = v0 c
          ∧ r.2.mem ((c.tc : Thread Cert.Pool2Ideal.nD Cert.Pool2Ideal.τ).loc Cert.Pool2Ideal.main_arg0) = m ((c.tc : Thread Cert.Pool2Ideal.nD Cert.Pool2Ideal.τ).loc Cert.Pool2Ideal.main_arg0))
      ∧ θ_run (Cert.RPool2Ideal.defs (F := Ideal)) (onTc (τ := Cert.RPool2Ideal.τ) (Cert.RPool2Ideal.main (F := Ideal))) ⟨m', fun _ => 0, g'⟩ (fun r => ∀ c : Dev Cert.RPool2Ideal.nD,
          r.2.mem ((c.tc : Thread Cert.RPool2Ideal.nD Cert.RPool2Ideal.τ).loc Cert.RPool2Ideal.main_v65) = v0 c
          ∧ r.2.mem ((c.tc : Thread Cert.RPool2Ideal.nD Cert.RPool2Ideal.τ).loc Cert.RPool2Ideal.main_arg0) = m' ((c.tc : Thread Cert.RPool2Ideal.nD Cert.RPool2Ideal.τ).loc Cert.RPool2Ideal.main_arg0))

def preserves_PoolGrad2_PoolGrad2Ideal : Prop :=
  True

def algebraic_PoolGrad2Ideal_RPoolGrad2Ideal_pre_gradient_finite [hPoolGrad2Ideal : Cert.PoolGrad2Ideal.Facts] [hRPoolGrad2Ideal : Cert.RPoolGrad2Ideal.Facts] [hPre_gradient_finite : Cert.Pre_gradient_finite.Facts] : Prop :=
  ∀ (m : (ℓ : Loc Cert.PoolGrad2Ideal.nD Cert.PoolGrad2Ideal.τ Cert.PoolGrad2Ideal.sig) → Buf (Elt Ideal) ℓ) (g : Dev Cert.PoolGrad2Ideal.nD → PrngReg)
    (m' : (ℓ : Loc Cert.RPoolGrad2Ideal.nD Cert.RPoolGrad2Ideal.τ Cert.RPoolGrad2Ideal.sig) → Buf (Elt Ideal) ℓ) (g' : Dev Cert.RPoolGrad2Ideal.nD → PrngReg), Pre_PoolGrad2Ideal_gradient_finite m →
    (∀ c : Dev Cert.PoolGrad2Ideal.nD,
      m' ((c.tc : Thread Cert.RPoolGrad2Ideal.nD Cert.RPoolGrad2Ideal.τ).loc Cert.RPoolGrad2Ideal.main_arg0) = m ((c.tc : Thread Cert.PoolGrad2Ideal.nD Cert.PoolGrad2Ideal.τ).loc Cert.PoolGrad2Ideal.main_arg0)
      ∧ m' ((c.tc : Thread Cert.RPoolGrad2Ideal.nD Cert.RPoolGrad2Ideal.τ).loc Cert.RPoolGrad2Ideal.main_arg1) = m ((c.tc : Thread Cert.PoolGrad2Ideal.nD Cert.PoolGrad2Ideal.τ).loc Cert.PoolGrad2Ideal.main_arg1)) →
    ∃ (v0 : (c : Dev Cert.PoolGrad2Ideal.nD) → Buf (Elt Ideal) ((c.tc : Thread Cert.PoolGrad2Ideal.nD Cert.PoolGrad2Ideal.τ).loc Cert.PoolGrad2Ideal.main_v0)),
      θ_run (Cert.PoolGrad2Ideal.defs (F := Ideal)) (onTc (τ := Cert.PoolGrad2Ideal.τ) (Cert.PoolGrad2Ideal.main (F := Ideal))) ⟨m, fun _ => 0, g⟩ (fun r => ∀ c : Dev Cert.PoolGrad2Ideal.nD,
          r.2.mem ((c.tc : Thread Cert.PoolGrad2Ideal.nD Cert.PoolGrad2Ideal.τ).loc Cert.PoolGrad2Ideal.main_v0) = v0 c
          ∧ r.2.mem ((c.tc : Thread Cert.PoolGrad2Ideal.nD Cert.PoolGrad2Ideal.τ).loc Cert.PoolGrad2Ideal.main_arg0) = m ((c.tc : Thread Cert.PoolGrad2Ideal.nD Cert.PoolGrad2Ideal.τ).loc Cert.PoolGrad2Ideal.main_arg0)
          ∧ r.2.mem ((c.tc : Thread Cert.PoolGrad2Ideal.nD Cert.PoolGrad2Ideal.τ).loc Cert.PoolGrad2Ideal.main_arg1) = m ((c.tc : Thread Cert.PoolGrad2Ideal.nD Cert.PoolGrad2Ideal.τ).loc Cert.PoolGrad2Ideal.main_arg1))
      ∧ θ_run (Cert.RPoolGrad2Ideal.defs (F := Ideal)) (onTc (τ := Cert.RPoolGrad2Ideal.τ) (Cert.RPoolGrad2Ideal.main (F := Ideal))) ⟨m', fun _ => 0, g'⟩ (fun r => ∀ c : Dev Cert.RPoolGrad2Ideal.nD,
          r.2.mem ((c.tc : Thread Cert.RPoolGrad2Ideal.nD Cert.RPoolGrad2Ideal.τ).loc Cert.RPoolGrad2Ideal.main_v80) = v0 c
          ∧ r.2.mem ((c.tc : Thread Cert.RPoolGrad2Ideal.nD Cert.RPoolGrad2Ideal.τ).loc Cert.RPoolGrad2Ideal.main_arg0) = m' ((c.tc : Thread Cert.RPoolGrad2Ideal.nD Cert.RPoolGrad2Ideal.τ).loc Cert.RPoolGrad2Ideal.main_arg0)
          ∧ r.2.mem ((c.tc : Thread Cert.RPoolGrad2Ideal.nD Cert.RPoolGrad2Ideal.τ).loc Cert.RPoolGrad2Ideal.main_arg1) = m' ((c.tc : Thread Cert.RPoolGrad2Ideal.nD Cert.RPoolGrad2Ideal.τ).loc Cert.RPoolGrad2Ideal.main_arg1))

def preserves_AdamwIn_AdamwInIdeal : Prop :=
  True

def algebraic_AdamwInIdeal_RAdamwInIdeal [hAdamwInIdeal : Cert.AdamwInIdeal.Facts] [hRAdamwInIdeal : Cert.RAdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.RAdamwInIdeal.nD Cert.RAdamwInIdeal.τ Cert.RAdamwInIdeal.sig) → Buf (Elt Ideal) ℓ) (g' : Dev Cert.RAdamwInIdeal.nD → PrngReg), Pre_AdamwInIdeal m →
    (∀ c : Dev Cert.AdamwInIdeal.nD,
      m' ((c.tc : Thread Cert.RAdamwInIdeal.nD Cert.RAdamwInIdeal.τ).loc Cert.RAdamwInIdeal.main_arg0) = m ((c.tc : Thread Cert.AdamwInIdeal.nD Cert.AdamwInIdeal.τ).loc Cert.AdamwInIdeal.main_arg0)
      ∧ m' ((c.tc : Thread Cert.RAdamwInIdeal.nD Cert.RAdamwInIdeal.τ).loc Cert.RAdamwInIdeal.main_arg1) = m ((c.tc : Thread Cert.AdamwInIdeal.nD Cert.AdamwInIdeal.τ).loc Cert.AdamwInIdeal.main_arg1)
      ∧ m' ((c.tc : Thread Cert.RAdamwInIdeal.nD Cert.RAdamwInIdeal.τ).loc Cert.RAdamwInIdeal.main_arg2) = m ((c.tc : Thread Cert.AdamwInIdeal.nD Cert.AdamwInIdeal.τ).loc Cert.AdamwInIdeal.main_arg2)
      ∧ m' ((c.tc : Thread Cert.RAdamwInIdeal.nD Cert.RAdamwInIdeal.τ).loc Cert.RAdamwInIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.RAdamwInIdeal.defs (F := Ideal)) (onTc (τ := Cert.RAdamwInIdeal.τ) (Cert.RAdamwInIdeal.main (F := Ideal))) ⟨m', fun _ => 0, g'⟩ (fun r => ∀ c : Dev Cert.RAdamwInIdeal.nD,
          r.2.mem ((c.tc : Thread Cert.RAdamwInIdeal.nD Cert.RAdamwInIdeal.τ).loc Cert.RAdamwInIdeal.main_v23) = v0 c
          ∧ r.2.mem ((c.tc : Thread Cert.RAdamwInIdeal.nD Cert.RAdamwInIdeal.τ).loc Cert.RAdamwInIdeal.main_v4) = v1 c
          ∧ r.2.mem ((c.tc : Thread Cert.RAdamwInIdeal.nD Cert.RAdamwInIdeal.τ).loc Cert.RAdamwInIdeal.main_v10) = v2 c
          ∧ r.2.mem ((c.tc : Thread Cert.RAdamwInIdeal.nD Cert.RAdamwInIdeal.τ).loc Cert.RAdamwInIdeal.main_arg0) = m' ((c.tc : Thread Cert.RAdamwInIdeal.nD Cert.RAdamwInIdeal.τ).loc Cert.RAdamwInIdeal.main_arg0)
          ∧ r.2.mem ((c.tc : Thread Cert.RAdamwInIdeal.nD Cert.RAdamwInIdeal.τ).loc Cert.RAdamwInIdeal.main_arg1) = m' ((c.tc : Thread Cert.RAdamwInIdeal.nD Cert.RAdamwInIdeal.τ).loc Cert.RAdamwInIdeal.main_arg1)
          ∧ r.2.mem ((c.tc : Thread Cert.RAdamwInIdeal.nD Cert.RAdamwInIdeal.τ).loc Cert.RAdamwInIdeal.main_arg2) = m' ((c.tc : Thread Cert.RAdamwInIdeal.nD Cert.RAdamwInIdeal.τ).loc Cert.RAdamwInIdeal.main_arg2)
          ∧ r.2.mem ((c.tc : Thread Cert.RAdamwInIdeal.nD Cert.RAdamwInIdeal.τ).loc Cert.RAdamwInIdeal.main_arg3) = m' ((c.tc : Thread Cert.RAdamwInIdeal.nD Cert.RAdamwInIdeal.τ).loc Cert.RAdamwInIdeal.main_arg3))

def preserves_Loss_LossIdeal : Prop :=
  True

def algebraic_LossIdeal_RLossIdeal [hLossIdeal : Cert.LossIdeal.Facts] [hRLossIdeal : Cert.RLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.RLossIdeal.nD Cert.RLossIdeal.τ Cert.RLossIdeal.sig) → Buf (Elt Ideal) ℓ) (g' : Dev Cert.RLossIdeal.nD → PrngReg), Pre_LossIdeal m →
    (∀ c : Dev Cert.LossIdeal.nD,
      m' ((c.tc : Thread Cert.RLossIdeal.nD Cert.RLossIdeal.τ).loc Cert.RLossIdeal.main_arg0) = m ((c.tc : Thread Cert.LossIdeal.nD Cert.LossIdeal.τ).loc Cert.LossIdeal.main_arg0)
      ∧ m' ((c.tc : Thread Cert.RLossIdeal.nD Cert.RLossIdeal.τ).loc Cert.RLossIdeal.main_arg1) = m ((c.tc : Thread Cert.LossIdeal.nD Cert.LossIdeal.τ).loc Cert.LossIdeal.main_arg1)
      ∧ m' ((c.tc : Thread Cert.RLossIdeal.nD Cert.RLossIdeal.τ).loc Cert.RLossIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v4_0)) (v1 : (c : Dev Cert.LossIdeal.nD) → Buf (Elt Ideal) ((c.tc : Thread Cert.LossIdeal.nD Cert.LossIdeal.τ).loc Cert.LossIdeal.main_v4_1)) (v2 : (c : Dev Cert.LossIdeal.nD) → Buf (Elt Ideal) ((c.tc : Thread Cert.LossIdeal.nD Cert.LossIdeal.τ).loc Cert.LossIdeal.main_v4_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4_0) = v0 c
          ∧ r.2.mem ((c.tc : Thread Cert.LossIdeal.nD Cert.LossIdeal.τ).loc Cert.LossIdeal.main_v4_1) = v1 c
          ∧ r.2.mem ((c.tc : Thread Cert.LossIdeal.nD Cert.LossIdeal.τ).loc Cert.LossIdeal.main_v4_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v52) = v0 c
          ∧ r.2.mem ((c.tc : Thread Cert.RLossIdeal.nD Cert.RLossIdeal.τ).loc Cert.RLossIdeal.main_v53) = v1 c
          ∧ r.2.mem ((c.tc : Thread Cert.RLossIdeal.nD Cert.RLossIdeal.τ).loc Cert.RLossIdeal.main_v55) = v2 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1)
          ∧ r.2.mem ((c.tc : Thread Cert.RLossIdeal.nD Cert.RLossIdeal.τ).loc Cert.RLossIdeal.main_arg2) = m' ((c.tc : Thread Cert.RLossIdeal.nD Cert.RLossIdeal.τ).loc Cert.RLossIdeal.main_arg2))

def Claim : Prop :=
  ∃ (hKernel : Cert.Kernel.Facts) (hKernelIdeal : Cert.KernelIdeal.Facts) (hReferenceIdeal : Cert.ReferenceIdeal.Facts) (hNormGrad1 : Cert.NormGrad1.Facts) (hNormGrad1Ideal : Cert.NormGrad1Ideal.Facts) (hRNormGrad1Ideal : Cert.RNormGrad1Ideal.Facts) (hNormGrad2 : Cert.NormGrad2.Facts) (hNormGrad2Ideal : Cert.NormGrad2Ideal.Facts) (hRNormGrad2Ideal : Cert.RNormGrad2Ideal.Facts) (hNormGrad3 : Cert.NormGrad3.Facts) (hNormGrad3Ideal : Cert.NormGrad3Ideal.Facts) (hRNormGrad3Ideal : Cert.RNormGrad3Ideal.Facts) (hInGrad1 : Cert.InGrad1.Facts) (hInGrad1Ideal : Cert.InGrad1Ideal.Facts) (hRInGrad1Ideal : Cert.RInGrad1Ideal.Facts) (hInGrad2 : Cert.InGrad2.Facts) (hInGrad2Ideal : Cert.InGrad2Ideal.Facts) (hRInGrad2Ideal : Cert.RInGrad2Ideal.Facts) (hInGrad3 : Cert.InGrad3.Facts) (hInGrad3Ideal : Cert.InGrad3Ideal.Facts) (hRInGrad3Ideal : Cert.RInGrad3Ideal.Facts) (hOutGrad1 : Cert.OutGrad1.Facts) (hOutGrad1Ideal : Cert.OutGrad1Ideal.Facts) (hROutGrad1Ideal : Cert.ROutGrad1Ideal.Facts) (hOutGrad3 : Cert.OutGrad3.Facts) (hOutGrad3Ideal : Cert.OutGrad3Ideal.Facts) (hROutGrad3Ideal : Cert.ROutGrad3Ideal.Facts) (hGluGrad3 : Cert.GluGrad3.Facts) (hGluGrad3Ideal : Cert.GluGrad3Ideal.Facts) (hRGluGrad3Ideal : Cert.RGluGrad3Ideal.Facts) (hOut1 : Cert.Out1.Facts) (hOut1Ideal : Cert.Out1Ideal.Facts) (hROut1Ideal : Cert.ROut1Ideal.Facts) (hOut3 : Cert.Out3.Facts) (hOut3Ideal : Cert.Out3Ideal.Facts) (hROut3Ideal : Cert.ROut3Ideal.Facts) (hYgGrad3 : Cert.YgGrad3.Facts) (hYgGrad3Ideal : Cert.YgGrad3Ideal.Facts) (hRYgGrad3Ideal : Cert.RYgGrad3Ideal.Facts) (hIn1 : Cert.In1.Facts) (hIn1Ideal : Cert.In1Ideal.Facts) (hRIn1Ideal : Cert.RIn1Ideal.Facts) (hIn2 : Cert.In2.Facts) (hIn2Ideal : Cert.In2Ideal.Facts) (hRIn2Ideal : Cert.RIn2Ideal.Facts) (hIn3 : Cert.In3.Facts) (hIn3Ideal : Cert.In3Ideal.Facts) (hRIn3Ideal : Cert.RIn3Ideal.Facts) (hMixedGrad2 : Cert.MixedGrad2.Facts) (hMixedGrad2Ideal : Cert.MixedGrad2Ideal.Facts) (hRMixedGrad2Ideal : Cert.RMixedGrad2Ideal.Facts) (hGrpGrad2 : Cert.GrpGrad2.Facts) (hGrpGrad2Ideal : Cert.GrpGrad2Ideal.Facts) (hRGrpGrad2Ideal : Cert.RGrpGrad2Ideal.Facts) (hGrp2 : Cert.Grp2.Facts) (hGrp2Ideal : Cert.Grp2Ideal.Facts) (hRGrp2Ideal : Cert.RGrp2Ideal.Facts) (hGlu3 : Cert.Glu3.Facts) (hGlu3Ideal : Cert.Glu3Ideal.Facts) (hRGlu3Ideal : Cert.RGlu3Ideal.Facts) (hPoolGate2 : Cert.PoolGate2.Facts) (hPoolGate2Ideal : Cert.PoolGate2Ideal.Facts) (hRPoolGate2Ideal : Cert.RPoolGate2Ideal.Facts) (hGateGrad3 : Cert.GateGrad3.Facts) (hGateGrad3Ideal : Cert.GateGrad3Ideal.Facts) (hRGateGrad3Ideal : Cert.RGateGrad3Ideal.Facts) (hConv1 : Cert.Conv1.Facts) (hConv1Ideal : Cert.Conv1Ideal.Facts) (hRConv1Ideal : Cert.RConv1Ideal.Facts) (hPool2 : Cert.Pool2.Facts) (hPool2Ideal : Cert.Pool2Ideal.Facts) (hRPool2Ideal : Cert.RPool2Ideal.Facts) (hPoolGrad2 : Cert.PoolGrad2.Facts) (hPoolGrad2Ideal : Cert.PoolGrad2Ideal.Facts) (hRPoolGrad2Ideal : Cert.RPoolGrad2Ideal.Facts) (hAdamwIn : Cert.AdamwIn.Facts) (hAdamwInIdeal : Cert.AdamwInIdeal.Facts) (hRAdamwInIdeal : Cert.RAdamwInIdeal.Facts) (hLoss : Cert.Loss.Facts) (hLossIdeal : Cert.LossIdeal.Facts) (hRLossIdeal : Cert.RLossIdeal.Facts) (hPre_all_finite : Cert.Pre_all_finite.Facts) (hPre_projection_finite : Cert.Pre_projection_finite.Facts) (hPre_gradient_finite : Cert.Pre_gradient_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_NormGrad1 (hNormGrad1 := hNormGrad1)
    ∧ quiescent_NormGrad1Ideal (hNormGrad1Ideal := hNormGrad1Ideal)
    ∧ quiescent_RNormGrad1Ideal (hRNormGrad1Ideal := hRNormGrad1Ideal)
    ∧ quiescent_NormGrad2 (hNormGrad2 := hNormGrad2)
    ∧ quiescent_NormGrad2Ideal (hNormGrad2Ideal := hNormGrad2Ideal)
    ∧ quiescent_RNormGrad2Ideal (hRNormGrad2Ideal := hRNormGrad2Ideal)
    ∧ quiescent_NormGrad3 (hNormGrad3 := hNormGrad3)
    ∧ quiescent_NormGrad3Ideal (hNormGrad3Ideal := hNormGrad3Ideal)
    ∧ quiescent_RNormGrad3Ideal (hRNormGrad3Ideal := hRNormGrad3Ideal)
    ∧ quiescent_InGrad1 (hInGrad1 := hInGrad1)
    ∧ quiescent_InGrad1Ideal (hInGrad1Ideal := hInGrad1Ideal)
    ∧ quiescent_RInGrad1Ideal (hRInGrad1Ideal := hRInGrad1Ideal)
    ∧ quiescent_InGrad2 (hInGrad2 := hInGrad2)
    ∧ quiescent_InGrad2Ideal (hInGrad2Ideal := hInGrad2Ideal)
    ∧ quiescent_RInGrad2Ideal (hRInGrad2Ideal := hRInGrad2Ideal)
    ∧ quiescent_InGrad3 (hInGrad3 := hInGrad3)
    ∧ quiescent_InGrad3Ideal (hInGrad3Ideal := hInGrad3Ideal)
    ∧ quiescent_RInGrad3Ideal (hRInGrad3Ideal := hRInGrad3Ideal)
    ∧ quiescent_OutGrad1 (hOutGrad1 := hOutGrad1)
    ∧ quiescent_OutGrad1Ideal (hOutGrad1Ideal := hOutGrad1Ideal)
    ∧ quiescent_ROutGrad1Ideal (hROutGrad1Ideal := hROutGrad1Ideal)
    ∧ quiescent_OutGrad3 (hOutGrad3 := hOutGrad3)
    ∧ quiescent_OutGrad3Ideal (hOutGrad3Ideal := hOutGrad3Ideal)
    ∧ quiescent_ROutGrad3Ideal (hROutGrad3Ideal := hROutGrad3Ideal)
    ∧ quiescent_GluGrad3 (hGluGrad3 := hGluGrad3)
    ∧ quiescent_GluGrad3Ideal (hGluGrad3Ideal := hGluGrad3Ideal)
    ∧ quiescent_RGluGrad3Ideal (hRGluGrad3Ideal := hRGluGrad3Ideal)
    ∧ quiescent_Out1 (hOut1 := hOut1)
    ∧ quiescent_Out1Ideal (hOut1Ideal := hOut1Ideal)
    ∧ quiescent_ROut1Ideal (hROut1Ideal := hROut1Ideal)
    ∧ quiescent_Out3 (hOut3 := hOut3)
    ∧ quiescent_Out3Ideal (hOut3Ideal := hOut3Ideal)
    ∧ quiescent_ROut3Ideal (hROut3Ideal := hROut3Ideal)
    ∧ quiescent_YgGrad3 (hYgGrad3 := hYgGrad3)
    ∧ quiescent_YgGrad3Ideal (hYgGrad3Ideal := hYgGrad3Ideal)
    ∧ quiescent_RYgGrad3Ideal (hRYgGrad3Ideal := hRYgGrad3Ideal)
    ∧ quiescent_In1 (hIn1 := hIn1)
    ∧ quiescent_In1Ideal (hIn1Ideal := hIn1Ideal)
    ∧ quiescent_RIn1Ideal (hRIn1Ideal := hRIn1Ideal)
    ∧ quiescent_In2 (hIn2 := hIn2)
    ∧ quiescent_In2Ideal (hIn2Ideal := hIn2Ideal)
    ∧ quiescent_RIn2Ideal (hRIn2Ideal := hRIn2Ideal)
    ∧ quiescent_In3 (hIn3 := hIn3)
    ∧ quiescent_In3Ideal (hIn3Ideal := hIn3Ideal)
    ∧ quiescent_RIn3Ideal (hRIn3Ideal := hRIn3Ideal)
    ∧ quiescent_MixedGrad2 (hMixedGrad2 := hMixedGrad2)
    ∧ quiescent_MixedGrad2Ideal (hMixedGrad2Ideal := hMixedGrad2Ideal)
    ∧ quiescent_RMixedGrad2Ideal (hRMixedGrad2Ideal := hRMixedGrad2Ideal)
    ∧ quiescent_GrpGrad2 (hGrpGrad2 := hGrpGrad2)
    ∧ quiescent_GrpGrad2Ideal (hGrpGrad2Ideal := hGrpGrad2Ideal)
    ∧ quiescent_RGrpGrad2Ideal (hRGrpGrad2Ideal := hRGrpGrad2Ideal)
    ∧ quiescent_Grp2 (hGrp2 := hGrp2)
    ∧ quiescent_Grp2Ideal (hGrp2Ideal := hGrp2Ideal)
    ∧ quiescent_RGrp2Ideal (hRGrp2Ideal := hRGrp2Ideal)
    ∧ quiescent_Glu3 (hGlu3 := hGlu3)
    ∧ quiescent_Glu3Ideal (hGlu3Ideal := hGlu3Ideal)
    ∧ quiescent_RGlu3Ideal (hRGlu3Ideal := hRGlu3Ideal)
    ∧ quiescent_PoolGate2 (hPoolGate2 := hPoolGate2)
    ∧ quiescent_PoolGate2Ideal (hPoolGate2Ideal := hPoolGate2Ideal)
    ∧ quiescent_RPoolGate2Ideal (hRPoolGate2Ideal := hRPoolGate2Ideal)
    ∧ quiescent_GateGrad3 (hGateGrad3 := hGateGrad3)
    ∧ quiescent_GateGrad3Ideal (hGateGrad3Ideal := hGateGrad3Ideal)
    ∧ quiescent_RGateGrad3Ideal (hRGateGrad3Ideal := hRGateGrad3Ideal)
    ∧ quiescent_Conv1 (hConv1 := hConv1)
    ∧ quiescent_Conv1Ideal (hConv1Ideal := hConv1Ideal)
    ∧ quiescent_RConv1Ideal (hRConv1Ideal := hRConv1Ideal)
    ∧ quiescent_Pool2 (hPool2 := hPool2)
    ∧ quiescent_Pool2Ideal (hPool2Ideal := hPool2Ideal)
    ∧ quiescent_Pool2Ideal_pre_projection_finite (hPool2Ideal := hPool2Ideal) (hPre_projection_finite := hPre_projection_finite)
    ∧ quiescent_RPool2Ideal (hRPool2Ideal := hRPool2Ideal)
    ∧ quiescent_RPool2Ideal_pre_projection_finite (hRPool2Ideal := hRPool2Ideal) (hPre_projection_finite := hPre_projection_finite)
    ∧ quiescent_PoolGrad2 (hPoolGrad2 := hPoolGrad2)
    ∧ quiescent_PoolGrad2Ideal (hPoolGrad2Ideal := hPoolGrad2Ideal)
    ∧ quiescent_PoolGrad2Ideal_pre_gradient_finite (hPoolGrad2Ideal := hPoolGrad2Ideal) (hPre_gradient_finite := hPre_gradient_finite)
    ∧ quiescent_RPoolGrad2Ideal (hRPoolGrad2Ideal := hRPoolGrad2Ideal)
    ∧ quiescent_RPoolGrad2Ideal_pre_gradient_finite (hRPoolGrad2Ideal := hRPoolGrad2Ideal) (hPre_gradient_finite := hPre_gradient_finite)
    ∧ quiescent_AdamwIn (hAdamwIn := hAdamwIn)
    ∧ quiescent_AdamwInIdeal (hAdamwInIdeal := hAdamwInIdeal)
    ∧ quiescent_RAdamwInIdeal (hRAdamwInIdeal := hRAdamwInIdeal)
    ∧ quiescent_Loss (hLoss := hLoss)
    ∧ quiescent_LossIdeal (hLossIdeal := hLossIdeal)
    ∧ quiescent_RLossIdeal (hRLossIdeal := hRLossIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_NormGrad1_NormGrad1Ideal
    ∧ algebraic_NormGrad1Ideal_RNormGrad1Ideal (hNormGrad1Ideal := hNormGrad1Ideal) (hRNormGrad1Ideal := hRNormGrad1Ideal)
    ∧ preserves_NormGrad2_NormGrad2Ideal
    ∧ algebraic_NormGrad2Ideal_RNormGrad2Ideal (hNormGrad2Ideal := hNormGrad2Ideal) (hRNormGrad2Ideal := hRNormGrad2Ideal)
    ∧ preserves_NormGrad3_NormGrad3Ideal
    ∧ algebraic_NormGrad3Ideal_RNormGrad3Ideal (hNormGrad3Ideal := hNormGrad3Ideal) (hRNormGrad3Ideal := hRNormGrad3Ideal)
    ∧ preserves_InGrad1_InGrad1Ideal
    ∧ algebraic_InGrad1Ideal_RInGrad1Ideal (hInGrad1Ideal := hInGrad1Ideal) (hRInGrad1Ideal := hRInGrad1Ideal)
    ∧ preserves_InGrad2_InGrad2Ideal
    ∧ algebraic_InGrad2Ideal_RInGrad2Ideal (hInGrad2Ideal := hInGrad2Ideal) (hRInGrad2Ideal := hRInGrad2Ideal)
    ∧ preserves_InGrad3_InGrad3Ideal
    ∧ algebraic_InGrad3Ideal_RInGrad3Ideal (hInGrad3Ideal := hInGrad3Ideal) (hRInGrad3Ideal := hRInGrad3Ideal)
    ∧ preserves_OutGrad1_OutGrad1Ideal
    ∧ algebraic_OutGrad1Ideal_ROutGrad1Ideal (hOutGrad1Ideal := hOutGrad1Ideal) (hROutGrad1Ideal := hROutGrad1Ideal)
    ∧ preserves_OutGrad3_OutGrad3Ideal
    ∧ algebraic_OutGrad3Ideal_ROutGrad3Ideal (hOutGrad3Ideal := hOutGrad3Ideal) (hROutGrad3Ideal := hROutGrad3Ideal)
    ∧ preserves_GluGrad3_GluGrad3Ideal
    ∧ algebraic_GluGrad3Ideal_RGluGrad3Ideal (hGluGrad3Ideal := hGluGrad3Ideal) (hRGluGrad3Ideal := hRGluGrad3Ideal)
    ∧ preserves_Out1_Out1Ideal
    ∧ algebraic_Out1Ideal_ROut1Ideal (hOut1Ideal := hOut1Ideal) (hROut1Ideal := hROut1Ideal)
    ∧ preserves_Out3_Out3Ideal
    ∧ algebraic_Out3Ideal_ROut3Ideal (hOut3Ideal := hOut3Ideal) (hROut3Ideal := hROut3Ideal)
    ∧ preserves_YgGrad3_YgGrad3Ideal
    ∧ algebraic_YgGrad3Ideal_RYgGrad3Ideal (hYgGrad3Ideal := hYgGrad3Ideal) (hRYgGrad3Ideal := hRYgGrad3Ideal)
    ∧ preserves_In1_In1Ideal
    ∧ algebraic_In1Ideal_RIn1Ideal (hIn1Ideal := hIn1Ideal) (hRIn1Ideal := hRIn1Ideal)
    ∧ preserves_In2_In2Ideal
    ∧ algebraic_In2Ideal_RIn2Ideal (hIn2Ideal := hIn2Ideal) (hRIn2Ideal := hRIn2Ideal)
    ∧ preserves_In3_In3Ideal
    ∧ algebraic_In3Ideal_RIn3Ideal (hIn3Ideal := hIn3Ideal) (hRIn3Ideal := hRIn3Ideal)
    ∧ preserves_MixedGrad2_MixedGrad2Ideal
    ∧ algebraic_MixedGrad2Ideal_RMixedGrad2Ideal (hMixedGrad2Ideal := hMixedGrad2Ideal) (hRMixedGrad2Ideal := hRMixedGrad2Ideal)
    ∧ preserves_GrpGrad2_GrpGrad2Ideal
    ∧ algebraic_GrpGrad2Ideal_RGrpGrad2Ideal (hGrpGrad2Ideal := hGrpGrad2Ideal) (hRGrpGrad2Ideal := hRGrpGrad2Ideal)
    ∧ preserves_Grp2_Grp2Ideal
    ∧ algebraic_Grp2Ideal_RGrp2Ideal (hGrp2Ideal := hGrp2Ideal) (hRGrp2Ideal := hRGrp2Ideal)
    ∧ preserves_Glu3_Glu3Ideal
    ∧ algebraic_Glu3Ideal_RGlu3Ideal (hGlu3Ideal := hGlu3Ideal) (hRGlu3Ideal := hRGlu3Ideal)
    ∧ preserves_PoolGate2_PoolGate2Ideal
    ∧ algebraic_PoolGate2Ideal_RPoolGate2Ideal (hPoolGate2Ideal := hPoolGate2Ideal) (hRPoolGate2Ideal := hRPoolGate2Ideal)
    ∧ preserves_GateGrad3_GateGrad3Ideal
    ∧ algebraic_GateGrad3Ideal_RGateGrad3Ideal (hGateGrad3Ideal := hGateGrad3Ideal) (hRGateGrad3Ideal := hRGateGrad3Ideal)
    ∧ preserves_Conv1_Conv1Ideal
    ∧ algebraic_Conv1Ideal_RConv1Ideal (hConv1Ideal := hConv1Ideal) (hRConv1Ideal := hRConv1Ideal)
    ∧ preserves_Pool2_Pool2Ideal
    ∧ algebraic_Pool2Ideal_RPool2Ideal_pre_projection_finite (hPool2Ideal := hPool2Ideal) (hRPool2Ideal := hRPool2Ideal) (hPre_projection_finite := hPre_projection_finite)
    ∧ preserves_PoolGrad2_PoolGrad2Ideal
    ∧ algebraic_PoolGrad2Ideal_RPoolGrad2Ideal_pre_gradient_finite (hPoolGrad2Ideal := hPoolGrad2Ideal) (hRPoolGrad2Ideal := hRPoolGrad2Ideal) (hPre_gradient_finite := hPre_gradient_finite)
    ∧ preserves_AdamwIn_AdamwInIdeal
    ∧ algebraic_AdamwInIdeal_RAdamwInIdeal (hAdamwInIdeal := hAdamwInIdeal) (hRAdamwInIdeal := hRAdamwInIdeal)
    ∧ preserves_Loss_LossIdeal
    ∧ algebraic_LossIdeal_RLossIdeal (hLossIdeal := hLossIdeal) (hRLossIdeal := hRLossIdeal)
-- ==== Pre_all_finite.lean ====
abbrev S4352x8192 : Shape := ⟨2, ![4352, 8192]⟩
abbrev S3x2048 : Shape := ⟨2, ![3, 2048]⟩
abbrev S2048 : Shape := ⟨1, ![2048]⟩
abbrev S2048x1024 : Shape := ⟨2, ![2048, 1024]⟩
abbrev S4352x1024 : Shape := ⟨2, ![4352, 1024]⟩
abbrev S_ : Shape := ⟨0, ![]⟩

class Facts : Prop where
  bcast_S_S4352x8192 : S_.BroadcastsInDim S4352x8192 (![] : Fin 0 → Fin S4352x8192.rank)
  bcast_S_S3x2048 : S_.BroadcastsInDim S3x2048 (![] : Fin 0 → Fin S3x2048.rank)
  bcast_S_S2048 : S_.BroadcastsInDim S2048 (![] : Fin 0 → Fin S2048.rank)
  bcast_S_S2048x1024 : S_.BroadcastsInDim S2048x1024 (![] : Fin 0 → Fin S2048x1024.rank)
  bcast_S_S4352x1024 : S_.BroadcastsInDim S4352x1024 (![] : Fin 0 → Fin S4352x1024.rank)

variable [Facts]

def fn {F : FTy → Type} [FloatOps F] (main_arg0 : FVec F S4352x8192 .f32) (main_arg1 : FVec F S3x2048 .f32) (main_arg2 : FVec F S2048 .f32) (main_arg3 : FVec F S2048x1024 .f32) (main_arg4 : FVec F S4352x1024 .f32) : IVec S4352x8192 1 × IVec S3x2048 1 × IVec S2048 1 × IVec S2048x1024 1 × IVec S4352x1024 1 :=
  let main_v0 : FVec F S4352x8192 .f32 := Host.absf main_arg0
  let main_cst : FVec F S_ .f32 := constant S_ .f32 0x7F800000#32
  let main_v1 : FVec F S4352x8192 .f32 := broadcastInDim S4352x8192 ![] bcast_S_S4352x8192 main_cst
  let main_v2 : IVec S4352x8192 1 := cmpf .olt main_v0 main_v1
  let main_v3 : FVec F S3x2048 .f32 := Host.absf main_arg1
  let main_cst_0 : FVec F S_ .f32 := constant S_ .f32 0x7F800000#32
  let main_v4 : FVec F S3x2048 .f32 := broadcastInDim S3x2048 ![] bcast_S_S3x2048 main_cst_0
  let main_v5 : IVec S3x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S4352x1024 .f32 := Host.absf main_arg4
  let main_cst_3 : FVec F S_ .f32 := constant S_ .f32 0x7F800000#32
  let main_v13 : FVec F S4352x1024 .f32 := broadcastInDim S4352x1024 ![] bcast_S_S4352x1024 main_cst_3
  let main_v14 : IVec S4352x1024 1 := cmpf .olt main_v12 main_v13
  (main_v2, main_v5, main_v8, main_v11, main_v14)
-- ==== Pre_gradient_finite.lean ====
abbrev S4352x2048 : Shape := ⟨2, ![4352, 2048]⟩
abbrev S4352x4096 : Shape := ⟨2, ![4352, 4096]⟩
abbrev S_ : Shape := ⟨0, ![]⟩

class Facts : Prop where
  bcast_S_S4352x2048 : S_.BroadcastsInDim S4352x2048 (![] : Fin 0 → Fin S4352x2048.rank)

variable [Facts]

def fn {F : FTy → Type} [FloatOps F] (main_arg0 : FVec F S4352x2048 .f32) (main_arg1 : FVec F S4352x4096 .bf16) : IVec S4352x2048 1 :=
  let main_v0 : FVec F S4352x2048 .f32 := Host.absf main_arg0
  let main_cst : FVec F S_ .f32 := constant S_ .f32 0x7F800000#32
  let main_v1 : FVec F S4352x2048 .f32 := broadcastInDim S4352x2048 ![] bcast_S_S4352x2048 main_cst
  let main_v2 : IVec S4352x2048 1 := cmpf .olt main_v0 main_v1
  main_v2
-- ==== Pre_projection_finite.lean ====
abbrev S4352x4096 : Shape := ⟨2, ![4352, 4096]⟩
abbrev S4352x2048 : Shape := ⟨2, ![4352, 2048]⟩
abbrev S_ : Shape := ⟨0, ![]⟩

class Facts : Prop where
  slices_S4352x4096_S4352x2048_0_0 : S4352x4096.Slices ![0, 0] S4352x2048
  slices_S4352x4096_S4352x2048_0_2048 : S4352x4096.Slices ![0, 2048] S4352x2048
  bcast_S_S4352x2048 : S_.BroadcastsInDim S4352x2048 (![] : Fin 0 → Fin S4352x2048.rank)

variable [Facts]

def fn {F : FTy → Type} [FloatOps F] (main_arg0 : FVec F S4352x4096 .f32) : IVec S4352x2048 1 :=
  let main_v0 : FVec F S4352x2048 .f32 := (extractStridedSlice S4352x2048 ![0, 0] · slices_S4352x4096_S4352x2048_0_0) main_arg0
  let main_v1 : FVec F S4352x2048 .f32 := (extractStridedSlice S4352x2048 ![0, 2048] · slices_S4352x4096_S4352x2048_0_2048) main_arg0
  let main_v2 : FVec F S4352x2048 .f32 := Host.absf main_v0
  let main_cst : FVec F S_ .f32 := constant S_ .f32 0x7F800000#32
  let main_v3 : FVec F S4352x2048 .f32 := broadcastInDim S4352x2048 ![] bcast_S_S4352x2048 main_cst
  let main_v4 : IVec S4352x2048 1 := cmpf .olt main_v2 main_v3
  main_v4
-- ==== Kernel.lean ====
abbrev S4352x8192 : Shape := ⟨2, ![4352, 8192]⟩
abbrev S3x2048 : Shape := ⟨2, ![3, 2048]⟩
abbrev S2048 : Shape := ⟨1, ![2048]⟩
abbrev S2048x1024 : Shape := ⟨2, ![2048, 1024]⟩
abbrev S4352x1024 : Shape := ⟨2, ![4352, 1024]⟩
abbrev S1x2048x1024 : Shape := ⟨3, ![1, 2048, 1024]⟩
abbrev S1x2048 : Shape := ⟨2, ![1, 2048]⟩
abbrev S272x1024 : Shape := ⟨2, ![272, 1024]⟩
abbrev S272x8192 : Shape := ⟨2, ![272, 8192]⟩
abbrev S8x2048 : Shape := ⟨2, ![8, 2048]⟩
abbrev S8x1024 : Shape := ⟨2, ![8, 1024]⟩
abbrev S1x512x1024 : Shape := ⟨3, ![1, 512, 1024]⟩
abbrev S512x1024 : Shape := ⟨2, ![512, 1024]⟩
abbrev S272x512 : Shape := ⟨2, ![272, 512]⟩
abbrev S8x512 : Shape := ⟨2, ![8, 512]⟩
abbrev S3x512 : Shape := ⟨2, ![3, 512]⟩
abbrev S280x512 : Shape := ⟨2, ![280, 512]⟩
abbrev S1x512 : Shape := ⟨2, ![1, 512]⟩
abbrev S512 : Shape := ⟨1, ![512]⟩

abbrev nBuf : Space → Nat
  | .hbm => 11
  | .vmem => 21
  | .smem => 0
  | _ => 0

abbrev bufTy : (tb : Table) → Fin (tcTables nBuf tb) → BufTy
  | .hbm, ⟨0, _⟩ => ⟨S4352x8192, .f32⟩
  | .hbm, ⟨1, _⟩ => ⟨S3x2048, .f32⟩
  | .hbm, ⟨2, _⟩ => ⟨S2048, .f32⟩
  | .hbm, ⟨3, _⟩ => ⟨S2048x1024, .f32⟩
  | .hbm, ⟨4, _⟩ => ⟨S4352x1024, .f32⟩
  | .hbm, ⟨5, _⟩ => ⟨S2048x1024, .bf16⟩
  | .hbm, ⟨6, _⟩ => ⟨S1x2048x1024, .bf16⟩
  | .hbm, ⟨7, _⟩ => ⟨S1x2048, .f32⟩
  | .hbm, ⟨8, _⟩ => ⟨S4352x8192, .bf16⟩
  | .hbm, ⟨9, _⟩ => ⟨S3x2048, .f32⟩
  | .hbm, ⟨10, _⟩ => ⟨S1x2048, .f32⟩
  | .local _ .vmem, ⟨0, _⟩ => ⟨S272x1024, .f32⟩
  | .local _ .vmem, ⟨1, _⟩ => ⟨S272x1024, .f32⟩
  | .local _ .vmem, ⟨2, _⟩ => ⟨S272x8192, .f32⟩
  | .local _ .vmem, ⟨3, _⟩ => ⟨S272x8192, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S8x1024, .f32⟩
  | .local _ .vmem, ⟨9, _⟩ => ⟨S8x1024, .f32⟩
  | .local _ .vmem, ⟨10, _⟩ => ⟨S8x2048, .f32⟩
  | .local _ .vmem, ⟨11, _⟩ => ⟨S8x2048, .f32⟩
  | .local _ .vmem, ⟨12, _⟩ => ⟨S8x2048, .f32⟩
  | .local _ .vmem, ⟨13, _⟩ => ⟨S8x2048, .f32⟩
  | .local _ .vmem, ⟨14, _⟩ => ⟨S1x2048x1024, .bf16⟩
  | .local _ .vmem, ⟨15, _⟩ => ⟨S3x2048, .f32⟩
  | .local _ .vmem, ⟨16, _⟩ => ⟨S1x2048, .f32⟩
  | .local _ .vmem, ⟨17, _⟩ => ⟨S272x8192, .bf16⟩
  | .local _ .vmem, ⟨18, _⟩ => ⟨S272x8192, .bf16⟩
  | .local _ .vmem, ⟨19, _⟩ => ⟨S3x2048, .f32⟩
  | .local _ .vmem, ⟨20, _⟩ => ⟨S1x2048, .f32⟩
  | _, _ => ⟨S4352x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_40 : BitVec 32 := 0#32
  let v103 : BitVec 1 := Scalar.cmpi .eq arg0 c0_i32_40
  let v104 : BitVec 32 := Scalar.extui v103
  let c0_i32_41 : BitVec 32 := 0#32
  let v105 : BitVec 1 := Scalar.cmpi .ne v104 c0_i32_41
  v105

def k0_cond2 (i : grid0.Coords) : BitVec 1 :=
  let arg0 : BitVec 32 := BitVec.ofNat 32 (i 0).val
  let c0_i32_42 : BitVec 32 := 0#32
  let v106 : BitVec 1 := Scalar.cmpi .sgt arg0 c0_i32_42
  let v107 : BitVec 32 := Scalar.extui v106
  let c0_i32_43 : BitVec 32 := 0#32
  let v108 : BitVec 1 := Scalar.cmpi .ne v107 c0_i32_43
  v108

def k0_cond3 (i : grid0.Coords) : BitVec 1 :=
  let arg0 : BitVec 32 := BitVec.ofNat 32 (i 0).val
  let c0_i32_87 : BitVec 32 := 0#32
  let v208 : BitVec 1 := Scalar.cmpi .eq arg0 c0_i32_87
  let v209 : BitVec 32 := Scalar.extui v208
  let c0_i32_88 : BitVec 32 := 0#32
  let v210 : BitVec 1 := Scalar.cmpi .ne v209 c0_i32_88
  v210

def k0_cond4 (i : grid0.Coords) : BitVec 1 :=
  let arg0 : BitVec 32 := BitVec.ofNat 32 (i 0).val
  let c0_i32_89 : BitVec 32 := 0#32
  let v211 : BitVec 1 := Scalar.cmpi .sgt arg0 c0_i32_89
  let v212 : BitVec 32 := Scalar.extui v211
  let c0_i32_90 : BitVec 32 := 0#32
  let v213 : BitVec 1 := Scalar.cmpi .ne v212 c0_i32_90
  v213

def k0_cond5 (i : grid0.Coords) : BitVec 1 :=
  let arg0 : BitVec 32 := BitVec.ofNat 32 (i 0).val
  let c0_i32_134 : BitVec 32 := 0#32
  let v313 : BitVec 1 := Scalar.cmpi .eq arg0 c0_i32_134
  let v314 : BitVec 32 := Scalar.extui v313
  let c0_i32_135 : BitVec 32 := 0#32
  let v315 : BitVec 1 := Scalar.cmpi .ne v314 c0_i32_135
  v315

def k0_cond6 (i : grid0.Coords) : BitVec 1 :=
  let arg0 : BitVec 32 := BitVec.ofNat 32 (i 0).val
  let c0_i32_136 : BitVec 32 := 0#32
  let v316 : BitVec 1 := Scalar.cmpi .sgt arg0 c0_i32_136
  let v317 : BitVec 32 := Scalar.extui v316
  let c0_i32_137 : BitVec 32 := 0#32
  let v318 : BitVec 1 := Scalar.cmpi .ne v317 c0_i32_137
  v318

def k0_cond7 (i : grid0.Coords) : BitVec 1 :=
  let arg0 : BitVec 32 := BitVec.ofNat 32 (i 0).val
  let c0_i32_181 : BitVec 32 := 0#32
  let v418 : BitVec 1 := Scalar.cmpi .eq arg0 c0_i32_181
  let v419 : BitVec 32 := Scalar.extui v418
  let c0_i32_182 : BitVec 32 := 0#32
  let v420 : BitVec 1 := Scalar.cmpi .ne v419 c0_i32_182
  v420

def k0_cond8 (i : grid0.Coords) : BitVec 1 :=
  let arg0 : BitVec 32 := BitVec.ofNat 32 (i 0).val
  let c0_i32_183 : BitVec 32 := 0#32
  let v421 : BitVec 1 := Scalar.cmpi .sgt arg0 c0_i32_183
  let v422 : BitVec 32 := Scalar.extui v421
  let c0_i32_184 : BitVec 32 := 0#32
  let v423 : BitVec 1 := Scalar.cmpi .ne v422 c0_i32_184
  v423

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_3 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c34_i32 : BitVec 32 := 34#32
  let v1 : BitVec 32 := Scalar.muli v0 c34_i32
  let c543_i32 : BitVec 32 := 543#32
  let v2 : BitVec 32 := Scalar.minsi v1 c543_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c34_i32 : BitVec 32 := 34#32
  let v1 : BitVec 32 := Scalar.muli v0 c34_i32
  let c543_i32 : BitVec 32 := 543#32
  let v2 : BitVec 32 := Scalar.minsi v1 c543_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c34_i32 : BitVec 32 := 34#32
  let v1 : BitVec 32 := Scalar.muli v0 c34_i32
  let c543_i32 : BitVec 32 := 543#32
  let v2 : BitVec 32 := Scalar.minsi v1 c543_i32
  let c3_i32 : BitVec 32 := 3#32
  let c0_i32 : BitVec 32 := 0#32
  ![v2.toNat, c3_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S272x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4352x8192 : Shape := ⟨2, ![4352, 8192]⟩
abbrev S3x2048 : Shape := ⟨2, ![3, 2048]⟩
abbrev S2048 : Shape := ⟨1, ![2048]⟩
abbrev S2048x1024 : Shape := ⟨2, ![2048, 1024]⟩
abbrev S4352x1024 : Shape := ⟨2, ![4352, 1024]⟩
abbrev S4352x2048 : Shape := ⟨2, ![4352, 2048]⟩
abbrev S1x2048 : Shape := ⟨2, ![1, 2048]⟩
abbrev S2x2048 : Shape := ⟨2, ![2, 2048]⟩
abbrev S_ : Shape := ⟨0, ![]⟩
abbrev S4350x2048 : Shape := ⟨2, ![4350, 2048]⟩
abbrev S4351x2048 : Shape := ⟨2, ![4351, 2048]⟩
abbrev S1024x2048 : Shape := ⟨2, ![1024, 2048]⟩

abbrev nBuf : Space → Nat
  | .hbm => 126
  | .vmem => 0
  | .smem => 0
  | _ => 0

abbrev bufTy : (tb : Table) → Fin (tcTables nBuf tb) → BufTy
  | .hbm, ⟨0, _⟩ => ⟨S4352x8192, .f32⟩
  | .hbm, ⟨1, _⟩ => ⟨S3x2048, .f32⟩
  | .hbm, ⟨2, _⟩ => ⟨S2048, .f32⟩
  | .hbm, ⟨3, _⟩ => ⟨S2048x1024, .f32⟩
  | .hbm, ⟨4, _⟩ => ⟨S4352x1024, .f32⟩
  | .hbm, ⟨5, _⟩ => ⟨S4352x2048, .f32⟩
  | .hbm, ⟨6, _⟩ => ⟨S4352x2048, .f32⟩
  | .hbm, ⟨7, _⟩ => ⟨S4352x2048, .f32⟩
  | .hbm, ⟨8, _⟩ => ⟨S4352x2048, .f32⟩
  | .hbm, ⟨9, _⟩ => ⟨S4352x2048, .f32⟩
  | .hbm, ⟨10, _⟩ => ⟨S1x2048, .f32⟩
  | .hbm, ⟨11, _⟩ => ⟨S2048, .f32⟩
  | .hbm, ⟨12, _⟩ => ⟨S2x2048, .f32⟩
  | .hbm, ⟨13, _⟩ => ⟨S_, .f32⟩
  | .hbm, ⟨14, _⟩ => ⟨S2x2048, .f32⟩
  | .hbm, ⟨15, _⟩ => ⟨S4350x2048, .f32⟩
  | .hbm, ⟨16, _⟩ => ⟨S4352x2048, .f32⟩
  | .hbm, ⟨17, _⟩ => ⟨S_, .f32⟩
  | .hbm, ⟨18, _⟩ => ⟨S2x2048, .f32⟩
  | .hbm, ⟨19, _⟩ => ⟨S1x2048, .f32⟩
  | .hbm, ⟨20, _⟩ => ⟨S4352x2048, .f32⟩
  | .hbm, ⟨21, _⟩ => ⟨S4352x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S_, .f32⟩
  | .hbm, ⟨26, _⟩ => ⟨S1x2048, .f32⟩
  | .hbm, ⟨27, _⟩ => ⟨S4351x2048, .f32⟩
  | .hbm, ⟨28, _⟩ => ⟨S4352x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S4352x2048, .f32⟩
  | .hbm, ⟨33, _⟩ => ⟨S4352x2048, .f32⟩
  | .hbm, ⟨34, _⟩ => ⟨S4352x2048, .f32⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S4352x2048, .f32⟩
  | .hbm, ⟨39, _⟩ => ⟨S4352x2048, .f32⟩
  | .hbm, ⟨40, _⟩ => ⟨S4352x2048, .f32⟩
  | .hbm, ⟨41, _⟩ => ⟨S1x2048, .f32⟩
  | .hbm, ⟨42, _⟩ => ⟨S4352x2048, .f32⟩
  | .hbm, ⟨43, _⟩ => ⟨S4352x2048, .f32⟩
  | .hbm, ⟨44, _⟩ => ⟨S4352x2048, .f32⟩
  | .hbm, ⟨45, _⟩ => ⟨S4352x2048, .f32⟩
  | .hbm, ⟨46, _⟩ => ⟨S4352x2048, .f32⟩
  | .hbm, ⟨47, _⟩ => ⟨S_, .f32⟩
  | .hbm, ⟨48, _⟩ => ⟨S4352x2048, .f32⟩
  | .hbm, ⟨49, _⟩ => ⟨S4352x2048, .f32⟩
  | .hbm, ⟨50, _⟩ => ⟨S_, .f32⟩
  | .hbm, ⟨51, _⟩ => ⟨S4352x2048, .f32⟩
  | .hbm, ⟨52, _⟩ => ⟨S4352x2048, .f32⟩
  | .hbm, ⟨53, _⟩ => ⟨S_, .f32⟩
  | .hbm, ⟨54, _⟩ => ⟨S4352x2048, .f32⟩
  | .hbm, ⟨55, _⟩ => ⟨S4352x2048, .f32⟩
  | .hbm, ⟨56, _⟩ => ⟨S4352x2048, .f32⟩
  | .hbm, ⟨57, _⟩ => ⟨S4352x2048, .f32⟩
  | .hbm, ⟨58, _⟩ => ⟨S4352x2048, .f32⟩
  | .hbm, ⟨59, _⟩ => ⟨S4352x1024, .f32⟩
  | .hbm, ⟨60, _⟩ => ⟨S1024x2048, .f32⟩
  | .hbm, ⟨61, _⟩ => ⟨S2048x1024, .f32⟩
  | .hbm, ⟨62, _⟩ => ⟨S4352x2048, .f32⟩
  | .hbm, ⟨63, _⟩ => ⟨S4352x2048, .f32⟩
  | .hbm, ⟨64, _⟩ => ⟨S4352x2048, .f32⟩
  | .hbm, ⟨65, _⟩ => ⟨S4352x2048, .f32⟩
  | .hbm, ⟨66, _⟩ => ⟨S4352x2048, .f32⟩
  | .hbm, ⟨67, _⟩ => ⟨S4352x2048, .f32⟩
  | .hbm, ⟨68, _⟩ => ⟨S4352x2048, .f32⟩
  | .hbm, ⟨69, _⟩ => ⟨S4352x2048, .f32⟩
  | .hbm, ⟨70, _⟩ => ⟨S4352x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S_, .f32⟩
  | .hbm, ⟨75, _⟩ => ⟨S2048, .f32⟩
  | .hbm, ⟨76, _⟩ => ⟨S4352x2048, .f32⟩
  | .hbm, ⟨77, _⟩ => ⟨S4352x2048, .f32⟩
  | .hbm, ⟨78, _⟩ => ⟨S4352x2048, .f32⟩
  | .hbm, ⟨79, _⟩ => ⟨S_, .f32⟩
  | .hbm, ⟨80, _⟩ => ⟨S2048, .f32⟩
  | .hbm, ⟨81, _⟩ => ⟨S1x2048, .f32⟩
  | .hbm, ⟨82, _⟩ => ⟨S_, .f32⟩
  | .hbm, ⟨83, _⟩ => ⟨S2048, .f32⟩
  | .hbm, ⟨84, _⟩ => ⟨S1x2048, .f32⟩
  | .hbm, ⟨85, _⟩ => ⟨S_, .f32⟩
  | .hbm, ⟨86, _⟩ => ⟨S3x2048, .f32⟩
  | .hbm, ⟨87, _⟩ => ⟨S4352x2048, .f32⟩
  | .hbm, ⟨88, _⟩ => ⟨S4352x2048, .f32⟩
  | .hbm, ⟨89, _⟩ => ⟨S4352x2048, .f32⟩
  | .hbm, ⟨90, _⟩ => ⟨S_, .f32⟩
  | .hbm, ⟨91, _⟩ => ⟨S2048, .f32⟩
  | .hbm, ⟨92, _⟩ => ⟨S1x2048, .f32⟩
  | .hbm, ⟨93, _⟩ => ⟨S_, .f32⟩
  | .hbm, ⟨94, _⟩ => ⟨S2048, .f32⟩
  | .hbm, ⟨95, _⟩ => ⟨S1x2048, .f32⟩
  | .hbm, ⟨96, _⟩ => ⟨S4351x2048, .f32⟩
  | .hbm, ⟨97, _⟩ => ⟨S_, .f32⟩
  | .hbm, ⟨98, _⟩ => ⟨S4352x2048, .f32⟩
  | .hbm, ⟨99, _⟩ => ⟨S4352x2048, .f32⟩
  | .hbm, ⟨100, _⟩ => ⟨S1x2048, .f32⟩
  | .hbm, ⟨101, _⟩ => ⟨S_, .f32⟩
  | .hbm, ⟨102, _⟩ => ⟨S3x2048, .f32⟩
  | .hbm, ⟨103, _⟩ => ⟨S3x2048, .f32⟩
  | .hbm, ⟨104, _⟩ => ⟨S4352x2048, .f32⟩
  | .hbm, ⟨105, _⟩ => ⟨S4352x2048, .f32⟩
  | .hbm, ⟨106, _⟩ => ⟨S4352x2048, .f32⟩
  | .hbm, ⟨107, _⟩ => ⟨S_, .f32⟩
  | .hbm, ⟨108, _⟩ => ⟨S2048, .f32⟩
  | .hbm, ⟨109, _⟩ => ⟨S1x2048, .f32⟩
  | .hbm, ⟨110, _⟩ => ⟨S_, .f32⟩
  | .hbm, ⟨111, _⟩ => ⟨S2048, .f32⟩
  | .hbm, ⟨112, _⟩ => ⟨S2x2048, .f32⟩
  | .hbm, ⟨113, _⟩ => ⟨S4350x2048, .f32⟩
  | .hbm, ⟨114, _⟩ => ⟨S_, .f32⟩
  | .hbm, ⟨115, _⟩ => ⟨S4352x2048, .f32⟩
  | .hbm, ⟨116, _⟩ => ⟨S4352x2048, .f32⟩
  | .hbm, ⟨117, _⟩ => ⟨S1x2048, .f32⟩
  | .hbm, ⟨118, _⟩ => ⟨S_, .f32⟩
  | .hbm, ⟨119, _⟩ => ⟨S3x2048, .f32⟩
  | .hbm, ⟨120, _⟩ => ⟨S3x2048, .f32⟩
  | .hbm, ⟨121, _⟩ => ⟨S4352x2048, .f32⟩
  | .hbm, ⟨122, _⟩ => ⟨S4352x2048, .f32⟩
  | .hbm, ⟨123, _⟩ => ⟨S4352x8192, .f32⟩
  | .hbm, ⟨124, _⟩ => ⟨S4352x8192, .bf16⟩
  | .hbm, ⟨125, _⟩ => ⟨S1x2048, .f32⟩
  | _, _ => ⟨S4352x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v36_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v36_1 : Ref sig .tc := ⟨.hbm, 56, rfl⟩
abbrev main_v36_0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_3 : Ref sig .tc := ⟨.hbm, 71, rfl⟩
abbrev main_v47 : Ref sig .tc := ⟨.hbm, 72, rfl⟩
abbrev main_v48 : Ref sig .tc := ⟨.hbm, 73, rfl⟩
abbrev main_cst_4 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_5 : Ref sig .tc := ⟨.hbm, 79, rfl⟩
abbrev main_v53 : Ref sig .tc := ⟨.hbm, 80, rfl⟩
abbrev main_v54 : Ref sig .tc := ⟨.hbm, 81, rfl⟩
abbrev main_cst_6 : Ref sig .tc := ⟨.hbm, 82, rfl⟩
abbrev main_v55 : Ref sig .tc := ⟨.hbm, 83, rfl⟩
abbrev main_v56 : Ref sig .tc := ⟨.hbm, 84, rfl⟩
abbrev main_cst_7 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_8 : Ref sig .tc := ⟨.hbm, 90, rfl⟩
abbrev main_v61 : Ref sig .tc := ⟨.hbm, 91, rfl⟩
abbrev main_v62 : Ref sig .tc := ⟨.hbm, 92, rfl⟩
abbrev main_cst_9 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_10 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_11 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_12 : Ref sig .tc := ⟨.hbm, 107, rfl⟩
abbrev main_v74 : Ref sig .tc := ⟨.hbm, 108, rfl⟩
abbrev main_v75 : Ref sig .tc := ⟨.hbm, 109, rfl⟩
abbrev main_cst_13 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_14 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_15 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩

abbrev nD : Nat := 1
abbrev τ : Topo := Topo.v7x

variable {F : FTy → Type} [FloatOps F]
-- ==== NormGrad1.lean ====
abbrev S4352x1024 : Shape := ⟨2, ![4352, 1024]⟩
abbrev S1024 : Shape := ⟨1, ![1024]⟩
abbrev S1024x8192 : Shape := ⟨2, ![1024, 8192]⟩
abbrev S4352x8192 : Shape := ⟨2, ![4352, 8192]⟩
abbrev S1024x4x2048 : Shape := ⟨3, ![1024, 4, 2048]⟩
abbrev S4x1024x2048 : Shape := ⟨3, ![4, 1024, 2048]⟩
abbrev S1x1024 : Shape := ⟨2, ![1, 1024]⟩
abbrev S1088x1024 : Shape := ⟨2, ![1088, 1024]⟩
abbrev S1x1024x1024 : Shape := ⟨3, ![1, 1024, 1024]⟩
abbrev S1024x1024 : Shape := ⟨2, ![1024, 1024]⟩
abbrev S1088 : Shape := ⟨1, ![1088]⟩
abbrev S1088x1 : Shape := ⟨2, ![1088, 1]⟩

abbrev nBuf : Space → Nat
  | .hbm => 11
  | .vmem => 12
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x8192, .f32⟩
  | .hbm, ⟨3, _⟩ => ⟨S4352x8192, .bf16⟩
  | .hbm, ⟨4, _⟩ => ⟨S4352x1024, .f32⟩
  | .hbm, ⟨5, _⟩ => ⟨S1024x8192, .bf16⟩
  | .hbm, ⟨6, _⟩ => ⟨S1024x4x2048, .bf16⟩
  | .hbm, ⟨7, _⟩ => ⟨S4x1024x2048, .bf16⟩
  | .hbm, ⟨8, _⟩ => ⟨S1x1024, .f32⟩
  | .hbm, ⟨9, _⟩ => ⟨S4352x1024, .f32⟩
  | .hbm, ⟨10, _⟩ => ⟨S1x1024, .f32⟩
  | .local _ .vmem, ⟨0, _⟩ => ⟨S1088x1024, .bf16⟩
  | .local _ .vmem, ⟨1, _⟩ => ⟨S1088x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1x1024, .f32⟩
  | .local _ .vmem, ⟨7, _⟩ => ⟨S1088x1024, .f32⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_26 : BitVec 32 := 0#32
  let v54 : BitVec 1 := Scalar.cmpi .eq arg0 c0_i32_26
  let v55 : BitVec 32 := Scalar.extui v54
  let c0_i32_27 : BitVec 32 := 0#32
  let v56 : BitVec 1 := Scalar.cmpi .ne v55 c0_i32_27
  v56

def k0_cond5 (i : grid0.Coords) : BitVec 1 :=
  let arg0 : BitVec 32 := BitVec.ofNat 32 (i 0).val
  let c0_i32_28 : BitVec 32 := 0#32
  let v57 : BitVec 1 := Scalar.cmpi .sgt arg0 c0_i32_28
  let v58 : BitVec 32 := Scalar.extui v57
  let c0_i32_29 : BitVec 32 := 0#32
  let v59 : BitVec 1 := Scalar.cmpi .ne v58 c0_i32_29
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormGrad1Ideal.lean ====
abbrev S4352x1024 : Shape := ⟨2, ![4352, 1024]⟩
abbrev S1024 : Shape := ⟨1, ![1024]⟩
abbrev S1024x8192 : Shape := ⟨2, ![1024, 8192]⟩
abbrev S4352x8192 : Shape := ⟨2, ![4352, 8192]⟩
abbrev S1024x4x2048 : Shape := ⟨3, ![1024, 4, 2048]⟩
abbrev S4x1024x2048 : Shape := ⟨3, ![4, 1024, 2048]⟩
abbrev S1x1024 : Shape := ⟨2, ![1, 1024]⟩
abbrev S1088x1024 : Shape := ⟨2, ![1088, 1024]⟩
abbrev S1x1024x1024 : Shape := ⟨3, ![1, 1024, 1024]⟩
abbrev S1024x1024 : Shape := ⟨2, ![1024, 1024]⟩
abbrev S1088 : Shape := ⟨1, ![1088]⟩
abbrev S1088x1 : Shape := ⟨2, ![1088, 1]⟩

abbrev nBuf : Space → Nat
  | .hbm => 11
  | .vmem => 12
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x8192, .f32⟩
  | .hbm, ⟨3, _⟩ => ⟨S4352x8192, .bf16⟩
  | .hbm, ⟨4, _⟩ => ⟨S4352x1024, .f32⟩
  | .hbm, ⟨5, _⟩ => ⟨S1024x8192, .bf16⟩
  | .hbm, ⟨6, _⟩ => ⟨S1024x4x2048, .bf16⟩
  | .hbm, ⟨7, _⟩ => ⟨S4x1024x2048, .bf16⟩
  | .hbm, ⟨8, _⟩ => ⟨S1x1024, .f32⟩
  | .hbm, ⟨9, _⟩ => ⟨S4352x1024, .f32⟩
  | .hbm, ⟨10, _⟩ => ⟨S1x1024, .f32⟩
  | .local _ .vmem, ⟨0, _⟩ => ⟨S1088x1024, .bf16⟩
  | .local _ .vmem, ⟨1, _⟩ => ⟨S1088x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1x1024, .f32⟩
  | .local _ .vmem, ⟨7, _⟩ => ⟨S1088x1024, .f32⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_26 : BitVec 32 := 0#32
  let v54 : BitVec 1 := Scalar.cmpi .eq arg0 c0_i32_26
  let v55 : BitVec 32 := Scalar.extui v54
  let c0_i32_27 : BitVec 32 := 0#32
  let v56 : BitVec 1 := Scalar.cmpi .ne v55 c0_i32_27
  v56

def k0_cond5 (i : grid0.Coords) : BitVec 1 :=
  let arg0 : BitVec 32 := BitVec.ofNat 32 (i 0).val
  let c0_i32_28 : BitVec 32 := 0#32
  let v57 : BitVec 1 := Scalar.cmpi .sgt arg0 c0_i32_28
  let v58 : BitVec 32 := Scalar.extui v57
  let c0_i32_29 : BitVec 32 := 0#32
  let v59 : BitVec 1 := Scalar.cmpi .ne v58 c0_i32_29
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== RNormGrad1Ideal.lean ====
abbrev S4352x1024 : Shape := ⟨2, ![4352, 1024]⟩
abbrev S1024 : Shape := ⟨1, ![1024]⟩
abbrev S1024x8192 : Shape := ⟨2, ![1024, 8192]⟩
abbrev S4352x8192 : Shape := ⟨2, ![4352, 8192]⟩
abbrev S_ : Shape := ⟨0, ![]⟩
abbrev S4352 : Shape := ⟨1, ![4352]⟩
abbrev S4352x1 : Shape := ⟨2, ![4352, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x8192, .f32⟩
  | .hbm, ⟨3, _⟩ => ⟨S4352x8192, .bf16⟩
  | .hbm, ⟨4, _⟩ => ⟨S4352x1024, .f32⟩
  | .hbm, ⟨5, _⟩ => ⟨S4352x1024, .f32⟩
  | .hbm, ⟨6, _⟩ => ⟨S_, .f32⟩
  | .hbm, ⟨7, _⟩ => ⟨S4352, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S_, .f32⟩
  | .hbm, ⟨13, _⟩ => ⟨S4352x1, .f32⟩
  | .hbm, ⟨14, _⟩ => ⟨S4352x1, .f32⟩
  | .hbm, ⟨15, _⟩ => ⟨S4352x1, .f32⟩
  | .hbm, ⟨16, _⟩ => ⟨S4352x1, .f32⟩
  | .hbm, ⟨17, _⟩ => ⟨S_, .f32⟩
  | .hbm, ⟨18, _⟩ => ⟨S4352x1, .f32⟩
  | .hbm, ⟨19, _⟩ => ⟨S4352x1, .f32⟩
  | .hbm, ⟨20, _⟩ => ⟨S4352x1024, .f32⟩
  | .hbm, ⟨21, _⟩ => ⟨S4352x1024, .f32⟩
  | .hbm, ⟨22, _⟩ => ⟨S1x1024, .f32⟩
  | .hbm, ⟨23, _⟩ => ⟨S4352x1024, .f32⟩
  | .hbm, ⟨24, _⟩ => ⟨S4352x1024, .f32⟩
  | .hbm, ⟨25, _⟩ => ⟨S4352x8192, .f32⟩
  | .hbm, ⟨26, _⟩ => ⟨S4352x8192, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4352x1024, .f32⟩
  | .hbm, ⟨33, _⟩ => ⟨S4352x1024, .f32⟩
  | .hbm, ⟨34, _⟩ => ⟨S_, .f32⟩
  | .hbm, ⟨35, _⟩ => ⟨S1024, .f32⟩
  | .hbm, ⟨36, _⟩ => ⟨S4352x1024, .f32⟩
  | .hbm, ⟨37, _⟩ => ⟨S_, .f32⟩
  | .hbm, ⟨38, _⟩ => ⟨S4352, .f32⟩
  | .hbm, ⟨39, _⟩ => ⟨S4352x1, .f32⟩
  | .hbm, ⟨40, _⟩ => ⟨S4352x1024, .f32⟩
  | .hbm, ⟨41, _⟩ => ⟨S4352x1024, .f32⟩
  | .hbm, ⟨42, _⟩ => ⟨S4352x1, .f32⟩
  | .hbm, ⟨43, _⟩ => ⟨S_, .f32⟩
  | .hbm, ⟨44, _⟩ => ⟨S4352x1, .f32⟩
  | .hbm, ⟨45, _⟩ => ⟨S4352x1, .f32⟩
  | .hbm, ⟨46, _⟩ => ⟨S_, .f32⟩
  | .hbm, ⟨47, _⟩ => ⟨S4352, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S4352x1024, .f32⟩
  | .hbm, ⟨52, _⟩ => ⟨S4352x1024, .f32⟩
  | .hbm, ⟨53, _⟩ => ⟨S4352x1024, .f32⟩
  | .hbm, ⟨54, _⟩ => ⟨S1x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== NormGrad2.lean ====
abbrev S4352x1024 : Shape := ⟨2, ![4352, 1024]⟩
abbrev S1024 : Shape := ⟨1, ![1024]⟩
abbrev S1024x4096 : Shape := ⟨2, ![1024, 4096]⟩
abbrev S4352x4096 : Shape := ⟨2, ![4352, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S1088x1024 : Shape := ⟨2, ![1088, 1024]⟩
abbrev S1x1024x1024 : Shape := ⟨3, ![1, 1024, 1024]⟩
abbrev S1024x1024 : Shape := ⟨2, ![1024, 1024]⟩
abbrev S1088 : Shape := ⟨1, ![1088]⟩
abbrev S1088x1 : Shape := ⟨2, ![1088, 1]⟩

abbrev nBuf : Space → Nat
  | .hbm => 11
  | .vmem => 12
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x4096, .f32⟩
  | .hbm, ⟨3, _⟩ => ⟨S4352x4096, .bf16⟩
  | .hbm, ⟨4, _⟩ => ⟨S4352x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S1x1024, .f32⟩
  | .hbm, ⟨9, _⟩ => ⟨S4352x1024, .f32⟩
  | .hbm, ⟨10, _⟩ => ⟨S1x1024, .f32⟩
  | .local _ .vmem, ⟨0, _⟩ => ⟨S1088x1024, .bf16⟩
  | .local _ .vmem, ⟨1, _⟩ => ⟨S1088x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1x1024, .f32⟩
  | .local _ .vmem, ⟨7, _⟩ => ⟨S1088x1024, .f32⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_26 : BitVec 32 := 0#32
  let v54 : BitVec 1 := Scalar.cmpi .eq arg0 c0_i32_26
  let v55 : BitVec 32 := Scalar.extui v54
  let c0_i32_27 : BitVec 32 := 0#32
  let v56 : BitVec 1 := Scalar.cmpi .ne v55 c0_i32_27
  v56

def k0_cond5 (i : grid0.Coords) : BitVec 1 :=
  let arg0 : BitVec 32 := BitVec.ofNat 32 (i 0).val
  let c0_i32_28 : BitVec 32 := 0#32
  let v57 : BitVec 1 := Scalar.cmpi .sgt arg0 c0_i32_28
  let v58 : BitVec 32 := Scalar.extui v57
  let c0_i32_29 : BitVec 32 := 0#32
  let v59 : BitVec 1 := Scalar.cmpi .ne v58 c0_i32_29
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormGrad2Ideal.lean ====
abbrev S4352x1024 : Shape := ⟨2, ![4352, 1024]⟩
abbrev S1024 : Shape := ⟨1, ![1024]⟩
abbrev S1024x4096 : Shape := ⟨2, ![1024, 4096]⟩
abbrev S4352x4096 : Shape := ⟨2, ![4352, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S1088x1024 : Shape := ⟨2, ![1088, 1024]⟩
abbrev S1x1024x1024 : Shape := ⟨3, ![1, 1024, 1024]⟩
abbrev S1024x1024 : Shape := ⟨2, ![1024, 1024]⟩
abbrev S1088 : Shape := ⟨1, ![1088]⟩
abbrev S1088x1 : Shape := ⟨2, ![1088, 1]⟩

abbrev nBuf : Space → Nat
  | .hbm => 11
  | .vmem => 12
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x4096, .f32⟩
  | .hbm, ⟨3, _⟩ => ⟨S4352x4096, .bf16⟩
  | .hbm, ⟨4, _⟩ => ⟨S4352x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S1x1024, .f32⟩
  | .hbm, ⟨9, _⟩ => ⟨S4352x1024, .f32⟩
  | .hbm, ⟨10, _⟩ => ⟨S1x1024, .f32⟩
  | .local _ .vmem, ⟨0, _⟩ => ⟨S1088x1024, .bf16⟩
  | .local _ .vmem, ⟨1, _⟩ => ⟨S1088x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1x1024, .f32⟩
  | .local _ .vmem, ⟨7, _⟩ => ⟨S1088x1024, .f32⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_26 : BitVec 32 := 0#32
  let v54 : BitVec 1 := Scalar.cmpi .eq arg0 c0_i32_26
  let v55 : BitVec 32 := Scalar.extui v54
  let c0_i32_27 : BitVec 32 := 0#32
  let v56 : BitVec 1 := Scalar.cmpi .ne v55 c0_i32_27
  v56

def k0_cond5 (i : grid0.Coords) : BitVec 1 :=
  let arg0 : BitVec 32 := BitVec.ofNat 32 (i 0).val
  let c0_i32_28 : BitVec 32 := 0#32
  let v57 : BitVec 1 := Scalar.cmpi .sgt arg0 c0_i32_28
  let v58 : BitVec 32 := Scalar.extui v57
  let c0_i32_29 : BitVec 32 := 0#32
  let v59 : BitVec 1 := Scalar.cmpi .ne v58 c0_i32_29
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== RNormGrad2Ideal.lean ====
abbrev S4352x1024 : Shape := ⟨2, ![4352, 1024]⟩
abbrev S1024 : Shape := ⟨1, ![1024]⟩
abbrev S1024x4096 : Shape := ⟨2, ![1024, 4096]⟩
abbrev S4352x4096 : Shape := ⟨2, ![4352, 4096]⟩
abbrev S_ : Shape := ⟨0, ![]⟩
abbrev S4352 : Shape := ⟨1, ![4352]⟩
abbrev S4352x1 : Shape := ⟨2, ![4352, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x4096, .f32⟩
  | .hbm, ⟨3, _⟩ => ⟨S4352x4096, .bf16⟩
  | .hbm, ⟨4, _⟩ => ⟨S4352x1024, .f32⟩
  | .hbm, ⟨5, _⟩ => ⟨S4352x1024, .f32⟩
  | .hbm, ⟨6, _⟩ => ⟨S_, .f32⟩
  | .hbm, ⟨7, _⟩ => ⟨S4352, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S_, .f32⟩
  | .hbm, ⟨13, _⟩ => ⟨S4352x1, .f32⟩
  | .hbm, ⟨14, _⟩ => ⟨S4352x1, .f32⟩
  | .hbm, ⟨15, _⟩ => ⟨S4352x1, .f32⟩
  | .hbm, ⟨16, _⟩ => ⟨S4352x1, .f32⟩
  | .hbm, ⟨17, _⟩ => ⟨S_, .f32⟩
  | .hbm, ⟨18, _⟩ => ⟨S4352x1, .f32⟩
  | .hbm, ⟨19, _⟩ => ⟨S4352x1, .f32⟩
  | .hbm, ⟨20, _⟩ => ⟨S4352x1024, .f32⟩
  | .hbm, ⟨21, _⟩ => ⟨S4352x1024, .f32⟩
  | .hbm, ⟨22, _⟩ => ⟨S1x1024, .f32⟩
  | .hbm, ⟨23, _⟩ => ⟨S4352x1024, .f32⟩
  | .hbm, ⟨24, _⟩ => ⟨S4352x1024, .f32⟩
  | .hbm, ⟨25, _⟩ => ⟨S4352x4096, .f32⟩
  | .hbm, ⟨26, _⟩ => ⟨S4352x4096, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4352x1024, .f32⟩
  | .hbm, ⟨33, _⟩ => ⟨S4352x1024, .f32⟩
  | .hbm, ⟨34, _⟩ => ⟨S_, .f32⟩
  | .hbm, ⟨35, _⟩ => ⟨S1024, .f32⟩
  | .hbm, ⟨36, _⟩ => ⟨S4352x1024, .f32⟩
  | .hbm, ⟨37, _⟩ => ⟨S_, .f32⟩
  | .hbm, ⟨38, _⟩ => ⟨S4352, .f32⟩
  | .hbm, ⟨39, _⟩ => ⟨S4352x1, .f32⟩
  | .hbm, ⟨40, _⟩ => ⟨S4352x1024, .f32⟩
  | .hbm, ⟨41, _⟩ => ⟨S4352x1024, .f32⟩
  | .hbm, ⟨42, _⟩ => ⟨S4352x1, .f32⟩
  | .hbm, ⟨43, _⟩ => ⟨S_, .f32⟩
  | .hbm, ⟨44, _⟩ => ⟨S4352x1, .f32⟩
  | .hbm, ⟨45, _⟩ => ⟨S4352x1, .f32⟩
  | .hbm, ⟨46, _⟩ => ⟨S_, .f32⟩
  | .hbm, ⟨47, _⟩ => ⟨S4352, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S4352x1024, .f32⟩
  | .hbm, ⟨52, _⟩ => ⟨S4352x1024, .f32⟩
  | .hbm, ⟨53, _⟩ => ⟨S4352x1024, .f32⟩
  | .hbm, ⟨54, _⟩ => ⟨S1x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== NormGrad3.lean ====
abbrev S4352x1024 : Shape := ⟨2, ![4352, 1024]⟩
abbrev S1024 : Shape := ⟨1, ![1024]⟩
abbrev S1024x2048 : Shape := ⟨2, ![1024, 2048]⟩
abbrev S4352x2048 : Shape := ⟨2, ![4352, 2048]⟩
abbrev S1024x4x512 : Shape := ⟨3, ![1024, 4, 512]⟩
abbrev S4x1024x512 : Shape := ⟨3, ![4, 1024, 512]⟩
abbrev S1x1024 : Shape := ⟨2, ![1, 1024]⟩
abbrev S1088x512 : Shape := ⟨2, ![1088, 512]⟩
abbrev S1x1024x512 : Shape := ⟨3, ![1, 1024, 512]⟩
abbrev S1088x1024 : Shape := ⟨2, ![1088, 1024]⟩
abbrev S1024x512 : Shape := ⟨2, ![1024, 512]⟩
abbrev S1088 : Shape := ⟨1, ![1088]⟩
abbrev S1088x1 : Shape := ⟨2, ![1088, 1]⟩

abbrev nBuf : Space → Nat
  | .hbm => 11
  | .vmem => 12
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x2048, .f32⟩
  | .hbm, ⟨3, _⟩ => ⟨S4352x2048, .bf16⟩
  | .hbm, ⟨4, _⟩ => ⟨S4352x1024, .f32⟩
  | .hbm, ⟨5, _⟩ => ⟨S1024x2048, .bf16⟩
  | .hbm, ⟨6, _⟩ => ⟨S1024x4x512, .bf16⟩
  | .hbm, ⟨7, _⟩ => ⟨S4x1024x512, .bf16⟩
  | .hbm, ⟨8, _⟩ => ⟨S1x1024, .f32⟩
  | .hbm, ⟨9, _⟩ => ⟨S4352x1024, .f32⟩
  | .hbm, ⟨10, _⟩ => ⟨S1x1024, .f32⟩
  | .local _ .vmem, ⟨0, _⟩ => ⟨S1088x512, .bf16⟩
  | .local _ .vmem, ⟨1, _⟩ => ⟨S1088x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1088x1024, .f32⟩
  | .local _ .vmem, ⟨5, _⟩ => ⟨S1088x1024, .f32⟩
  | .local _ .vmem, ⟨6, _⟩ => ⟨S1x1024, .f32⟩
  | .local _ .vmem, ⟨7, _⟩ => ⟨S1088x1024, .f32⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_26 : BitVec 32 := 0#32
  let v54 : BitVec 1 := Scalar.cmpi .eq arg0 c0_i32_26
  let v55 : BitVec 32 := Scalar.extui v54
  let c0_i32_27 : BitVec 32 := 0#32
  let v56 : BitVec 1 := Scalar.cmpi .ne v55 c0_i32_27
  v56

def k0_cond5 (i : grid0.Coords) : BitVec 1 :=
  let arg0 : BitVec 32 := BitVec.ofNat 32 (i 0).val
  let c0_i32_28 : BitVec 32 := 0#32
  let v57 : BitVec 1 := Scalar.cmpi .sgt arg0 c0_i32_28
  let v58 : BitVec 32 := Scalar.extui v57
  let c0_i32_29 : BitVec 32 := 0#32
  let v59 : BitVec 1 := Scalar.cmpi .ne v58 c0_i32_29
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== RNormGrad3Ideal.lean ====
abbrev S4352x1024 : Shape := ⟨2, ![4352, 1024]⟩
abbrev S1024 : Shape := ⟨1, ![1024]⟩
abbrev S1024x2048 : Shape := ⟨2, ![1024, 2048]⟩
abbrev S4352x2048 : Shape := ⟨2, ![4352, 2048]⟩
abbrev S_ : Shape := ⟨0, ![]⟩
abbrev S4352 : Shape := ⟨1, ![4352]⟩
abbrev S4352x1 : Shape := ⟨2, ![4352, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x2048, .f32⟩
  | .hbm, ⟨3, _⟩ => ⟨S4352x2048, .bf16⟩
  | .hbm, ⟨4, _⟩ => ⟨S4352x1024, .f32⟩
  | .hbm, ⟨5, _⟩ => ⟨S4352x1024, .f32⟩
  | .hbm, ⟨6, _⟩ => ⟨S_, .f32⟩
  | .hbm, ⟨7, _⟩ => ⟨S4352, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S_, .f32⟩
  | .hbm, ⟨13, _⟩ => ⟨S4352x1, .f32⟩
  | .hbm, ⟨14, _⟩ => ⟨S4352x1, .f32⟩
  | .hbm, ⟨15, _⟩ => ⟨S4352x1, .f32⟩
  | .hbm, ⟨16, _⟩ => ⟨S4352x1, .f32⟩
  | .hbm, ⟨17, _⟩ => ⟨S_, .f32⟩
  | .hbm, ⟨18, _⟩ => ⟨S4352x1, .f32⟩
  | .hbm, ⟨19, _⟩ => ⟨S4352x1, .f32⟩
  | .hbm, ⟨20, _⟩ => ⟨S4352x1024, .f32⟩
  | .hbm, ⟨21, _⟩ => ⟨S4352x1024, .f32⟩
  | .hbm, ⟨22, _⟩ => ⟨S1x1024, .f32⟩
  | .hbm, ⟨23, _⟩ => ⟨S4352x1024, .f32⟩
  | .hbm, ⟨24, _⟩ => ⟨S4352x1024, .f32⟩
  | .hbm, ⟨25, _⟩ => ⟨S4352x2048, .f32⟩
  | .hbm, ⟨26, _⟩ => ⟨S4352x2048, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4352x1024, .f32⟩
  | .hbm, ⟨33, _⟩ => ⟨S4352x1024, .f32⟩
  | .hbm, ⟨34, _⟩ => ⟨S_, .f32⟩
  | .hbm, ⟨35, _⟩ => ⟨S1024, .f32⟩
  | .hbm, ⟨36, _⟩ => ⟨S4352x1024, .f32⟩
  | .hbm, ⟨37, _⟩ => ⟨S_, .f32⟩
  | .hbm, ⟨38, _⟩ => ⟨S4352, .f32⟩
  | .hbm, ⟨39, _⟩ => ⟨S4352x1, .f32⟩
  | .hbm, ⟨40, _⟩ => ⟨S4352x1024, .f32⟩
  | .hbm, ⟨41, _⟩ => ⟨S4352x1024, .f32⟩
  | .hbm, ⟨42, _⟩ => ⟨S4352x1, .f32⟩
  | .hbm, ⟨43, _⟩ => ⟨S_, .f32⟩
  | .hbm, ⟨44, _⟩ => ⟨S4352x1, .f32⟩
  | .hbm, ⟨45, _⟩ => ⟨S4352x1, .f32⟩
  | .hbm, ⟨46, _⟩ => ⟨S_, .f32⟩
  | .hbm, ⟨47, _⟩ => ⟨S4352, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S4352x1024, .f32⟩
  | .hbm, ⟨52, _⟩ => ⟨S4352x1024, .f32⟩
  | .hbm, ⟨53, _⟩ => ⟨S4352x1024, .f32⟩
  | .hbm, ⟨54, _⟩ => ⟨S1x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== InGrad1.lean ====
abbrev S4352x1024 : Shape := ⟨2, ![4352, 1024]⟩
abbrev S4352x8192 : Shape := ⟨2, ![4352, 8192]⟩
abbrev S4x1024x2048 : Shape := ⟨3, ![4, 1024, 2048]⟩
abbrev S4352x512 : Shape := ⟨2, ![4352, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x8192, .bf16⟩
  | .hbm, ⟨2, _⟩ => ⟨S4x1024x2048, .f32⟩
  | .local _ .vmem, ⟨0, _⟩ => ⟨S4352x1024, .bf16⟩
  | .local _ .vmem, ⟨1, _⟩ => ⟨S4352x512, .bf16⟩
  | .local _ .vmem, ⟨2, _⟩ => ⟨S4352x512, .bf16⟩
  | .local _ .vmem, ⟨3, _⟩ => ⟨S1x1024x512, .f32⟩
  | .local _ .vmem, ⟨4, _⟩ => ⟨S1x1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGrad1Ideal.lean ====
abbrev S4352x1024 : Shape := ⟨2, ![4352, 1024]⟩
abbrev S4352x8192 : Shape := ⟨2, ![4352, 8192]⟩
abbrev S4x1024x2048 : Shape := ⟨3, ![4, 1024, 2048]⟩
abbrev S4352x512 : Shape := ⟨2, ![4352, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x8192, .bf16⟩
  | .hbm, ⟨2, _⟩ => ⟨S4x1024x2048, .f32⟩
  | .local _ .vmem, ⟨0, _⟩ => ⟨S4352x1024, .bf16⟩
  | .local _ .vmem, ⟨1, _⟩ => ⟨S4352x512, .bf16⟩
  | .local _ .vmem, ⟨2, _⟩ => ⟨S4352x512, .bf16⟩
  | .local _ .vmem, ⟨3, _⟩ => ⟨S1x1024x512, .f32⟩
  | .local _ .vmem, ⟨4, _⟩ => ⟨S1x1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RInGrad1Ideal.lean ====
abbrev S4352x1024 : Shape := ⟨2, ![4352, 1024]⟩
abbrev S4352x8192 : Shape := ⟨2, ![4352, 8192]⟩
abbrev S_ : Shape := ⟨0, ![]⟩
abbrev S1024x8192 : Shape := ⟨2, ![1024, 8192]⟩
abbrev S8192x1024 : Shape := ⟨2, ![8192, 1024]⟩
abbrev S1024x4x2048 : Shape := ⟨3, ![1024, 4, 2048]⟩
abbrev S4x1024x2048 : Shape := ⟨3, ![4, 1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x8192, .bf16⟩
  | .hbm, ⟨2, _⟩ => ⟨S4352x1024, .f32⟩
  | .hbm, ⟨3, _⟩ => ⟨S4352x8192, .f32⟩
  | .hbm, ⟨4, _⟩ => ⟨S_, .f32⟩
  | .hbm, ⟨5, _⟩ => ⟨S1024x8192, .f32⟩
  | .hbm, ⟨6, _⟩ => ⟨S4352x8192, .f32⟩
  | .hbm, ⟨7, _⟩ => ⟨S8192x1024, .f32⟩
  | .hbm, ⟨8, _⟩ => ⟨S1024x8192, .f32⟩
  | .hbm, ⟨9, _⟩ => ⟨S1024x4x2048, .f32⟩
  | .hbm, ⟨10, _⟩ => ⟨S4x1024x2048, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InGrad2.lean ====
abbrev S4352x1024 : Shape := ⟨2, ![4352, 1024]⟩
abbrev S4352x4096 : Shape := ⟨2, ![4352, 4096]⟩
abbrev S4x1024x1024 : Shape := ⟨3, ![4, 1024, 1024]⟩
abbrev S4352x512 : Shape := ⟨2, ![4352, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x4096, .bf16⟩
  | .hbm, ⟨2, _⟩ => ⟨S4x1024x1024, .f32⟩
  | .local _ .vmem, ⟨0, _⟩ => ⟨S4352x1024, .bf16⟩
  | .local _ .vmem, ⟨1, _⟩ => ⟨S4352x512, .bf16⟩
  | .local _ .vmem, ⟨2, _⟩ => ⟨S4352x512, .bf16⟩
  | .local _ .vmem, ⟨3, _⟩ => ⟨S1x1024x512, .f32⟩
  | .local _ .vmem, ⟨4, _⟩ => ⟨S1x1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGrad2Ideal.lean ====
abbrev S4352x1024 : Shape := ⟨2, ![4352, 1024]⟩
abbrev S4352x4096 : Shape := ⟨2, ![4352, 4096]⟩
abbrev S4x1024x1024 : Shape := ⟨3, ![4, 1024, 1024]⟩
abbrev S4352x512 : Shape := ⟨2, ![4352, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x4096, .bf16⟩
  | .hbm, ⟨2, _⟩ => ⟨S4x1024x1024, .f32⟩
  | .local _ .vmem, ⟨0, _⟩ => ⟨S4352x1024, .bf16⟩
  | .local _ .vmem, ⟨1, _⟩ => ⟨S4352x512, .bf16⟩
  | .local _ .vmem, ⟨2, _⟩ => ⟨S4352x512, .bf16⟩
  | .local _ .vmem, ⟨3, _⟩ => ⟨S1x1024x512, .f32⟩
  | .local _ .vmem, ⟨4, _⟩ => ⟨S1x1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RInGrad2Ideal.lean ====
abbrev S4352x1024 : Shape := ⟨2, ![4352, 1024]⟩
abbrev S4352x4096 : Shape := ⟨2, ![4352, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x4096, .bf16⟩
  | .hbm, ⟨2, _⟩ => ⟨S4352x1024, .f32⟩
  | .hbm, ⟨3, _⟩ => ⟨S4352x4096, .f32⟩
  | .hbm, ⟨4, _⟩ => ⟨S_, .f32⟩
  | .hbm, ⟨5, _⟩ => ⟨S1024x4096, .f32⟩
  | .hbm, ⟨6, _⟩ => ⟨S4352x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InGrad3.lean ====
abbrev S4352x1024 : Shape := ⟨2, ![4352, 1024]⟩
abbrev S4352x2048 : Shape := ⟨2, ![4352, 2048]⟩
abbrev S4x1024x512 : Shape := ⟨3, ![4, 1024, 512]⟩
abbrev S4352x512 : Shape := ⟨2, ![4352, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S4x1024x512, .f32⟩
  | .local _ .vmem, ⟨0, _⟩ => ⟨S4352x1024, .bf16⟩
  | .local _ .vmem, ⟨1, _⟩ => ⟨S4352x512, .bf16⟩
  | .local _ .vmem, ⟨2, _⟩ => ⟨S4352x512, .bf16⟩
  | .local _ .vmem, ⟨3, _⟩ => ⟨S1x1024x512, .f32⟩
  | .local _ .vmem, ⟨4, _⟩ => ⟨S1x1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RInGrad3Ideal.lean ====
abbrev S4352x1024 : Shape := ⟨2, ![4352, 1024]⟩
abbrev S4352x2048 : Shape := ⟨2, ![4352, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S4352x1024, .f32⟩
  | .hbm, ⟨3, _⟩ => ⟨S4352x2048, .f32⟩
  | .hbm, ⟨4, _⟩ => ⟨S_, .f32⟩
  | .hbm, ⟨5, _⟩ => ⟨S1024x2048, .f32⟩
  | .hbm, ⟨6, _⟩ => ⟨S4352x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutGrad1.lean ====
abbrev S4352x2048 : Shape := ⟨2, ![4352, 2048]⟩
abbrev S4352x1024 : Shape := ⟨2, ![4352, 1024]⟩
abbrev S1x2048x1024 : Shape := ⟨3, ![1, 2048, 1024]⟩
abbrev S2176x1024 : Shape := ⟨2, ![2176, 1024]⟩
abbrev S2176x512 : Shape := ⟨2, ![2176, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .f32⟩
  | .hbm, ⟨2, _⟩ => ⟨S1x2048x1024, .f32⟩
  | .local _ .vmem, ⟨0, _⟩ => ⟨S2176x1024, .bf16⟩
  | .local _ .vmem, ⟨1, _⟩ => ⟨S2176x1024, .bf16⟩
  | .local _ .vmem, ⟨2, _⟩ => ⟨S2176x512, .f32⟩
  | .local _ .vmem, ⟨3, _⟩ => ⟨S2176x512, .f32⟩
  | .local _ .vmem, ⟨4, _⟩ => ⟨S1x1024x512, .f32⟩
  | .local _ .vmem, ⟨5, _⟩ => ⟨S1x1024x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGrad1Ideal.lean ====
abbrev S4352x2048 : Shape := ⟨2, ![4352, 2048]⟩
abbrev S4352x1024 : Shape := ⟨2, ![4352, 1024]⟩
abbrev S1x2048x1024 : Shape := ⟨3, ![1, 2048, 1024]⟩
abbrev S2176x1024 : Shape := ⟨2, ![2176, 1024]⟩
abbrev S2176x512 : Shape := ⟨2, ![2176, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .f32⟩
  | .hbm, ⟨2, _⟩ => ⟨S1x2048x1024, .f32⟩
  | .local _ .vmem, ⟨0, _⟩ => ⟨S2176x1024, .bf16⟩
  | .local _ .vmem, ⟨1, _⟩ => ⟨S2176x1024, .bf16⟩
  | .local _ .vmem, ⟨2, _⟩ => ⟨S2176x512, .f32⟩
  | .local _ .vmem, ⟨3, _⟩ => ⟨S2176x512, .f32⟩
  | .local _ .vmem, ⟨4, _⟩ => ⟨S1x1024x512, .f32⟩
  | .local _ .vmem, ⟨5, _⟩ => ⟨S1x1024x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ROutGrad1Ideal.lean ====
abbrev S4352x2048 : Shape := ⟨2, ![4352, 2048]⟩
abbrev S4352x1024 : Shape := ⟨2, ![4352, 1024]⟩
abbrev S_ : Shape := ⟨0, ![]⟩
abbrev S2048x1024 : Shape := ⟨2, ![2048, 1024]⟩
abbrev S1024x2048 : Shape := ⟨2, ![1024, 2048]⟩
abbrev S1x2048x1024 : Shape := ⟨3, ![1, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .f32⟩
  | .hbm, ⟨2, _⟩ => ⟨S4352x2048, .f32⟩
  | .hbm, ⟨3, _⟩ => ⟨S_, .f32⟩
  | .hbm, ⟨4, _⟩ => ⟨S2048x1024, .f32⟩
  | .hbm, ⟨5, _⟩ => ⟨S4352x1024, .f32⟩
  | .hbm, ⟨6, _⟩ => ⟨S1024x2048, .f32⟩
  | .hbm, ⟨7, _⟩ => ⟨S2048x1024, .f32⟩
  | .hbm, ⟨8, _⟩ => ⟨S1x2048x1024, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutGrad3.lean ====
abbrev S4352x1024 : Shape := ⟨2, ![4352, 1024]⟩
abbrev S1x1024x1024 : Shape := ⟨3, ![1, 1024, 1024]⟩
abbrev S2176x1024 : Shape := ⟨2, ![2176, 1024]⟩
abbrev S2176x512 : Shape := ⟨2, ![2176, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .f32⟩
  | .hbm, ⟨2, _⟩ => ⟨S1x1024x1024, .f32⟩
  | .local _ .vmem, ⟨0, _⟩ => ⟨S2176x1024, .bf16⟩
  | .local _ .vmem, ⟨1, _⟩ => ⟨S2176x1024, .bf16⟩
  | .local _ .vmem, ⟨2, _⟩ => ⟨S2176x512, .f32⟩
  | .local _ .vmem, ⟨3, _⟩ => ⟨S2176x512, .f32⟩
  | .local _ .vmem, ⟨4, _⟩ => ⟨S1x1024x512, .f32⟩
  | .local _ .vmem, ⟨5, _⟩ => ⟨S1x1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGrad3Ideal.lean ====
abbrev S4352x1024 : Shape := ⟨2, ![4352, 1024]⟩
abbrev S1x1024x1024 : Shape := ⟨3, ![1, 1024, 1024]⟩
abbrev S2176x1024 : Shape := ⟨2, ![2176, 1024]⟩
abbrev S2176x512 : Shape := ⟨2, ![2176, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .f32⟩
  | .hbm, ⟨2, _⟩ => ⟨S1x1024x1024, .f32⟩
  | .local _ .vmem, ⟨0, _⟩ => ⟨S2176x1024, .bf16⟩
  | .local _ .vmem, ⟨1, _⟩ => ⟨S2176x1024, .bf16⟩
  | .local _ .vmem, ⟨2, _⟩ => ⟨S2176x512, .f32⟩
  | .local _ .vmem, ⟨3, _⟩ => ⟨S2176x512, .f32⟩
  | .local _ .vmem, ⟨4, _⟩ => ⟨S1x1024x512, .f32⟩
  | .local _ .vmem, ⟨5, _⟩ => ⟨S1x1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ROutGrad3Ideal.lean ====
abbrev S4352x1024 : Shape := ⟨2, ![4352, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .f32⟩
  | .hbm, ⟨2, _⟩ => ⟨S4352x1024, .f32⟩
  | .hbm, ⟨3, _⟩ => ⟨S_, .f32⟩
  | .hbm, ⟨4, _⟩ => ⟨S1024x1024, .f32⟩
  | .hbm, ⟨5, _⟩ => ⟨S4352x1024, .f32⟩
  | .hbm, ⟨6, _⟩ => ⟨S1024x1024, .f32⟩
  | .hbm, ⟨7, _⟩ => ⟨S1024x1024, .f32⟩
  | .hbm, ⟨8, _⟩ => ⟨S1x1024x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GluGrad3.lean ====
abbrev S4352x1024 : Shape := ⟨2, ![4352, 1024]⟩
abbrev S1x1024x1024 : Shape := ⟨3, ![1, 1024, 1024]⟩
abbrev S4352x512 : Shape := ⟨2, ![4352, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1x1024x1024, .f32⟩
  | .local _ .vmem, ⟨0, _⟩ => ⟨S4352x1024, .bf16⟩
  | .local _ .vmem, ⟨1, _⟩ => ⟨S4352x512, .bf16⟩
  | .local _ .vmem, ⟨2, _⟩ => ⟨S4352x512, .bf16⟩
  | .local _ .vmem, ⟨3, _⟩ => ⟨S1x1024x512, .f32⟩
  | .local _ .vmem, ⟨4, _⟩ => ⟨S1x1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RGluGrad3Ideal.lean ====
abbrev S4352x1024 : Shape := ⟨2, ![4352, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .f32⟩
  | .hbm, ⟨3, _⟩ => ⟨S4352x1024, .f32⟩
  | .hbm, ⟨4, _⟩ => ⟨S_, .f32⟩
  | .hbm, ⟨5, _⟩ => ⟨S1024x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Out1.lean ====
abbrev S4352x2048 : Shape := ⟨2, ![4352, 2048]⟩
abbrev S2048x1024 : Shape := ⟨2, ![2048, 1024]⟩
abbrev S4352x1024 : Shape := ⟨2, ![4352, 1024]⟩
abbrev S1x2048x1024 : Shape := ⟨3, ![1, 2048, 1024]⟩
abbrev S1088x2048 : Shape := ⟨2, ![1088, 2048]⟩
abbrev S1088x1024 : Shape := ⟨2, ![1088, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x1024, .f32⟩
  | .hbm, ⟨2, _⟩ => ⟨S4352x1024, .f32⟩
  | .hbm, ⟨3, _⟩ => ⟨S2048x1024, .bf16⟩
  | .hbm, ⟨4, _⟩ => ⟨S1x2048x1024, .bf16⟩
  | .hbm, ⟨5, _⟩ => ⟨S4352x1024, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .bf16⟩
  | .local _ .vmem, ⟨3, _⟩ => ⟨S1088x1024, .f32⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Out1Ideal.lean ====
abbrev S4352x2048 : Shape := ⟨2, ![4352, 2048]⟩
abbrev S2048x1024 : Shape := ⟨2, ![2048, 1024]⟩
abbrev S4352x1024 : Shape := ⟨2, ![4352, 1024]⟩
abbrev S1x2048x1024 : Shape := ⟨3, ![1, 2048, 1024]⟩
abbrev S1088x2048 : Shape := ⟨2, ![1088, 2048]⟩
abbrev S1088x1024 : Shape := ⟨2, ![1088, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x1024, .f32⟩
  | .hbm, ⟨2, _⟩ => ⟨S4352x1024, .f32⟩
  | .hbm, ⟨3, _⟩ => ⟨S2048x1024, .bf16⟩
  | .hbm, ⟨4, _⟩ => ⟨S1x2048x1024, .bf16⟩
  | .hbm, ⟨5, _⟩ => ⟨S4352x1024, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .bf16⟩
  | .local _ .vmem, ⟨3, _⟩ => ⟨S1088x1024, .f32⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ROut1Ideal.lean ====
abbrev S4352x2048 : Shape := ⟨2, ![4352, 2048]⟩
abbrev S2048x1024 : Shape := ⟨2, ![2048, 1024]⟩
abbrev S4352x1024 : Shape := ⟨2, ![4352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x1024, .f32⟩
  | .hbm, ⟨2, _⟩ => ⟨S4352x1024, .f32⟩
  | .hbm, ⟨3, _⟩ => ⟨S4352x2048, .f32⟩
  | .hbm, ⟨4, _⟩ => ⟨S4352x1024, .f32⟩
  | .hbm, ⟨5, _⟩ => ⟨S4352x1024, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Out3.lean ====
abbrev S4352x1024 : Shape := ⟨2, ![4352, 1024]⟩
abbrev S1024x1024 : Shape := ⟨2, ![1024, 1024]⟩
abbrev S1x1024x1024 : Shape := ⟨3, ![1, 1024, 1024]⟩
abbrev S1088x1024 : Shape := ⟨2, ![1088, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .f32⟩
  | .hbm, ⟨2, _⟩ => ⟨S4352x1024, .f32⟩
  | .hbm, ⟨3, _⟩ => ⟨S1024x1024, .bf16⟩
  | .hbm, ⟨4, _⟩ => ⟨S1x1024x1024, .bf16⟩
  | .hbm, ⟨5, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1x1024x1024, .bf16⟩
  | .local _ .vmem, ⟨3, _⟩ => ⟨S1088x1024, .f32⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ROut3Ideal.lean ====
abbrev S4352x1024 : Shape := ⟨2, ![4352, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .f32⟩
  | .hbm, ⟨2, _⟩ => ⟨S4352x1024, .f32⟩
  | .hbm, ⟨3, _⟩ => ⟨S4352x1024, .f32⟩
  | .hbm, ⟨4, _⟩ => ⟨S4352x1024, .f32⟩
  | .hbm, ⟨5, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== YgGrad3.lean ====
abbrev S1024x1024 : Shape := ⟨2, ![1024, 1024]⟩
abbrev S4352x1024 : Shape := ⟨2, ![4352, 1024]⟩
abbrev S1x1024x1024 : Shape := ⟨3, ![1, 1024, 1024]⟩
abbrev S2176x1024 : Shape := ⟨2, ![2176, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4352x1024, .bf16⟩
  | .hbm, ⟨2, _⟩ => ⟨S1024x1024, .bf16⟩
  | .hbm, ⟨3, _⟩ => ⟨S1x1024x1024, .bf16⟩
  | .hbm, ⟨4, _⟩ => ⟨S4352x1024, .f32⟩
  | .local _ .vmem, ⟨0, _⟩ => ⟨S2176x1024, .bf16⟩
  | .local _ .vmem, ⟨1, _⟩ => ⟨S2176x1024, .bf16⟩
  | .local _ .vmem, ⟨2, _⟩ => ⟨S1x1024x1024, .bf16⟩
  | .local _ .vmem, ⟨3, _⟩ => ⟨S2176x1024, .f32⟩
  | .local _ .vmem, ⟨4, _⟩ => ⟨S2176x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RYgGrad3Ideal.lean ====
abbrev S1024x1024 : Shape := ⟨2, ![1024, 1024]⟩
abbrev S4352x1024 : Shape := ⟨2, ![4352, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4352x1024, .bf16⟩
  | .hbm, ⟨2, _⟩ => ⟨S4352x1024, .f32⟩
  | .hbm, ⟨3, _⟩ => ⟨S_, .f32⟩
  | .hbm, ⟨4, _⟩ => ⟨S4352x1024, .f32⟩
  | .hbm, ⟨5, _⟩ => ⟨S4352x1024, .f32⟩
  | .hbm, ⟨6, _⟩ => ⟨S4352x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== In1.lean ====
abbrev S4352x1024 : Shape := ⟨2, ![4352, 1024]⟩
abbrev S1024 : Shape := ⟨1, ![1024]⟩
abbrev S1024x8192 : Shape := ⟨2, ![1024, 8192]⟩
abbrev S1x1024 : Shape := ⟨2, ![1, 1024]⟩
abbrev S1024x4x2048 : Shape := ⟨3, ![1024, 4, 2048]⟩
abbrev S4x1024x2048 : Shape := ⟨3, ![4, 1024, 2048]⟩
abbrev S4352x8192 : Shape := ⟨2, ![4352, 8192]⟩
abbrev S1088x1024 : Shape := ⟨2, ![1088, 1024]⟩
abbrev S1x1024x1024 : Shape := ⟨3, ![1, 1024, 1024]⟩
abbrev S1088 : Shape := ⟨1, ![1088]⟩
abbrev S1088x1 : Shape := ⟨2, ![1088, 1]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x8192, .f32⟩
  | .hbm, ⟨3, _⟩ => ⟨S1x1024, .f32⟩
  | .hbm, ⟨4, _⟩ => ⟨S1024x8192, .bf16⟩
  | .hbm, ⟨5, _⟩ => ⟨S1024x4x2048, .bf16⟩
  | .hbm, ⟨6, _⟩ => ⟨S4x1024x2048, .bf16⟩
  | .hbm, ⟨7, _⟩ => ⟨S4352x8192, .f32⟩
  | .hbm, ⟨8, _⟩ => ⟨S4352x1024, .bf16⟩
  | .local _ .vmem, ⟨0, _⟩ => ⟨S1088x1024, .f32⟩
  | .local _ .vmem, ⟨1, _⟩ => ⟨S1088x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1088x1024, .f32⟩
  | .local _ .vmem, ⟨6, _⟩ => ⟨S1088x1024, .f32⟩
  | .local _ .vmem, ⟨7, _⟩ => ⟨S1088x1024, .bf16⟩
  | .local _ .vmem, ⟨8, _⟩ => ⟨S1088x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== In1Ideal.lean ====
abbrev S4352x1024 : Shape := ⟨2, ![4352, 1024]⟩
abbrev S1024 : Shape := ⟨1, ![1024]⟩
abbrev S1024x8192 : Shape := ⟨2, ![1024, 8192]⟩
abbrev S1x1024 : Shape := ⟨2, ![1, 1024]⟩
abbrev S1024x4x2048 : Shape := ⟨3, ![1024, 4, 2048]⟩
abbrev S4x1024x2048 : Shape := ⟨3, ![4, 1024, 2048]⟩
abbrev S4352x8192 : Shape := ⟨2, ![4352, 8192]⟩
abbrev S1088x1024 : Shape := ⟨2, ![1088, 1024]⟩
abbrev S1x1024x1024 : Shape := ⟨3, ![1, 1024, 1024]⟩
abbrev S1088 : Shape := ⟨1, ![1088]⟩
abbrev S1088x1 : Shape := ⟨2, ![1088, 1]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x8192, .f32⟩
  | .hbm, ⟨3, _⟩ => ⟨S1x1024, .f32⟩
  | .hbm, ⟨4, _⟩ => ⟨S1024x8192, .bf16⟩
  | .hbm, ⟨5, _⟩ => ⟨S1024x4x2048, .bf16⟩
  | .hbm, ⟨6, _⟩ => ⟨S4x1024x2048, .bf16⟩
  | .hbm, ⟨7, _⟩ => ⟨S4352x8192, .f32⟩
  | .hbm, ⟨8, _⟩ => ⟨S4352x1024, .bf16⟩
  | .local _ .vmem, ⟨0, _⟩ => ⟨S1088x1024, .f32⟩
  | .local _ .vmem, ⟨1, _⟩ => ⟨S1088x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1088x1024, .f32⟩
  | .local _ .vmem, ⟨6, _⟩ => ⟨S1088x1024, .f32⟩
  | .local _ .vmem, ⟨7, _⟩ => ⟨S1088x1024, .bf16⟩
  | .local _ .vmem, ⟨8, _⟩ => ⟨S1088x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== RIn1Ideal.lean ====
abbrev S4352x1024 : Shape := ⟨2, ![4352, 1024]⟩
abbrev S1024 : Shape := ⟨1, ![1024]⟩
abbrev S1024x8192 : Shape := ⟨2, ![1024, 8192]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x8192 : Shape := ⟨2, ![4352, 8192]⟩

abbrev nBuf : Space → Nat
  | .hbm => 21
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x8192, .f32⟩
  | .hbm, ⟨3, _⟩ => ⟨S4352x1024, .f32⟩
  | .hbm, ⟨4, _⟩ => ⟨S_, .f32⟩
  | .hbm, ⟨5, _⟩ => ⟨S4352, .f32⟩
  | .hbm, ⟨6, _⟩ => ⟨S4352x1, .f32⟩
  | .hbm, ⟨7, _⟩ => ⟨S_, .f32⟩
  | .hbm, ⟨8, _⟩ => ⟨S4352x1, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S4352x1, .f32⟩
  | .hbm, ⟨14, _⟩ => ⟨S4352x1024, .f32⟩
  | .hbm, ⟨15, _⟩ => ⟨S4352x1024, .f32⟩
  | .hbm, ⟨16, _⟩ => ⟨S1x1024, .f32⟩
  | .hbm, ⟨17, _⟩ => ⟨S4352x1024, .f32⟩
  | .hbm, ⟨18, _⟩ => ⟨S4352x1024, .f32⟩
  | .hbm, ⟨19, _⟩ => ⟨S4352x8192, .f32⟩
  | .hbm, ⟨20, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== In2.lean ====
abbrev S4352x1024 : Shape := ⟨2, ![4352, 1024]⟩
abbrev S1024 : Shape := ⟨1, ![1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S4352x4096 : Shape := ⟨2, ![4352, 4096]⟩
abbrev S1088x1024 : Shape := ⟨2, ![1088, 1024]⟩
abbrev S1x1024x1024 : Shape := ⟨3, ![1, 1024, 1024]⟩
abbrev S1088 : Shape := ⟨1, ![1088]⟩
abbrev S1088x1 : Shape := ⟨2, ![1088, 1]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S1024x4x1024, .bf16⟩
  | .hbm, ⟨6, _⟩ => ⟨S4x1024x1024, .bf16⟩
  | .hbm, ⟨7, _⟩ => ⟨S4352x4096, .f32⟩
  | .hbm, ⟨8, _⟩ => ⟨S4352x1024, .bf16⟩
  | .local _ .vmem, ⟨0, _⟩ => ⟨S1088x1024, .f32⟩
  | .local _ .vmem, ⟨1, _⟩ => ⟨S1088x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1088x1024, .f32⟩
  | .local _ .vmem, ⟨6, _⟩ => ⟨S1088x1024, .f32⟩
  | .local _ .vmem, ⟨7, _⟩ => ⟨S1088x1024, .bf16⟩
  | .local _ .vmem, ⟨8, _⟩ => ⟨S1088x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== In2Ideal.lean ====
abbrev S4352x1024 : Shape := ⟨2, ![4352, 1024]⟩
abbrev S1024 : Shape := ⟨1, ![1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S4352x4096 : Shape := ⟨2, ![4352, 4096]⟩
abbrev S1088x1024 : Shape := ⟨2, ![1088, 1024]⟩
abbrev S1x1024x1024 : Shape := ⟨3, ![1, 1024, 1024]⟩
abbrev S1088 : Shape := ⟨1, ![1088]⟩
abbrev S1088x1 : Shape := ⟨2, ![1088, 1]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S1024x4x1024, .bf16⟩
  | .hbm, ⟨6, _⟩ => ⟨S4x1024x1024, .bf16⟩
  | .hbm, ⟨7, _⟩ => ⟨S4352x4096, .f32⟩
  | .hbm, ⟨8, _⟩ => ⟨S4352x1024, .bf16⟩
  | .local _ .vmem, ⟨0, _⟩ => ⟨S1088x1024, .f32⟩
  | .local _ .vmem, ⟨1, _⟩ => ⟨S1088x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1088x1024, .f32⟩
  | .local _ .vmem, ⟨6, _⟩ => ⟨S1088x1024, .f32⟩
  | .local _ .vmem, ⟨7, _⟩ => ⟨S1088x1024, .bf16⟩
  | .local _ .vmem, ⟨8, _⟩ => ⟨S1088x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== RIn2Ideal.lean ====
abbrev S4352x1024 : Shape := ⟨2, ![4352, 1024]⟩
abbrev S1024 : Shape := ⟨1, ![1024]⟩
abbrev S1024x4096 : Shape := ⟨2, ![1024, 4096]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x4096 : Shape := ⟨2, ![4352, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x4096, .f32⟩
  | .hbm, ⟨3, _⟩ => ⟨S4352x1024, .f32⟩
  | .hbm, ⟨4, _⟩ => ⟨S_, .f32⟩
  | .hbm, ⟨5, _⟩ => ⟨S4352, .f32⟩
  | .hbm, ⟨6, _⟩ => ⟨S4352x1, .f32⟩
  | .hbm, ⟨7, _⟩ => ⟨S_, .f32⟩
  | .hbm, ⟨8, _⟩ => ⟨S4352x1, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S4352x1, .f32⟩
  | .hbm, ⟨14, _⟩ => ⟨S4352x1024, .f32⟩
  | .hbm, ⟨15, _⟩ => ⟨S4352x1024, .f32⟩
  | .hbm, ⟨16, _⟩ => ⟨S1x1024, .f32⟩
  | .hbm, ⟨17, _⟩ => ⟨S4352x1024, .f32⟩
  | .hbm, ⟨18, _⟩ => ⟨S4352x1024, .f32⟩
  | .hbm, ⟨19, _⟩ => ⟨S4352x4096, .f32⟩
  | .hbm, ⟨20, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== In3.lean ====
abbrev S4352x1024 : Shape := ⟨2, ![4352, 1024]⟩
abbrev S1024 : Shape := ⟨1, ![1024]⟩
abbrev S1024x2048 : Shape := ⟨2, ![1024, 2048]⟩
abbrev S1x1024 : Shape := ⟨2, ![1, 1024]⟩
abbrev S1024x4x512 : Shape := ⟨3, ![1024, 4, 512]⟩
abbrev S4x1024x512 : Shape := ⟨3, ![4, 1024, 512]⟩
abbrev S4352x2048 : Shape := ⟨2, ![4352, 2048]⟩
abbrev S1088x1024 : Shape := ⟨2, ![1088, 1024]⟩
abbrev S1x1024x512 : Shape := ⟨3, ![1, 1024, 512]⟩
abbrev S1088x512 : Shape := ⟨2, ![1088, 512]⟩
abbrev S1088 : Shape := ⟨1, ![1088]⟩
abbrev S1088x1 : Shape := ⟨2, ![1088, 1]⟩
abbrev S1024x512 : Shape := ⟨2, ![1024, 512]⟩

abbrev nBuf : Space → Nat
  | .hbm => 9
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x2048, .bf16⟩
  | .hbm, ⟨5, _⟩ => ⟨S1024x4x512, .bf16⟩
  | .hbm, ⟨6, _⟩ => ⟨S4x1024x512, .bf16⟩
  | .hbm, ⟨7, _⟩ => ⟨S4352x2048, .f32⟩
  | .hbm, ⟨8, _⟩ => ⟨S4352x1024, .bf16⟩
  | .local _ .vmem, ⟨0, _⟩ => ⟨S1088x1024, .f32⟩
  | .local _ .vmem, ⟨1, _⟩ => ⟨S1088x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1088x512, .f32⟩
  | .local _ .vmem, ⟨6, _⟩ => ⟨S1088x512, .f32⟩
  | .local _ .vmem, ⟨7, _⟩ => ⟨S1088x1024, .bf16⟩
  | .local _ .vmem, ⟨8, _⟩ => ⟨S1088x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== RIn3Ideal.lean ====
abbrev S4352x1024 : Shape := ⟨2, ![4352, 1024]⟩
abbrev S1024 : Shape := ⟨1, ![1024]⟩
abbrev S1024x2048 : Shape := ⟨2, ![1024, 2048]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x2048 : Shape := ⟨2, ![4352, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x2048, .f32⟩
  | .hbm, ⟨3, _⟩ => ⟨S4352x1024, .f32⟩
  | .hbm, ⟨4, _⟩ => ⟨S_, .f32⟩
  | .hbm, ⟨5, _⟩ => ⟨S4352, .f32⟩
  | .hbm, ⟨6, _⟩ => ⟨S4352x1, .f32⟩
  | .hbm, ⟨7, _⟩ => ⟨S_, .f32⟩
  | .hbm, ⟨8, _⟩ => ⟨S4352x1, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S4352x1, .f32⟩
  | .hbm, ⟨14, _⟩ => ⟨S4352x1024, .f32⟩
  | .hbm, ⟨15, _⟩ => ⟨S4352x1024, .f32⟩
  | .hbm, ⟨16, _⟩ => ⟨S1x1024, .f32⟩
  | .hbm, ⟨17, _⟩ => ⟨S4352x1024, .f32⟩
  | .hbm, ⟨18, _⟩ => ⟨S4352x1024, .f32⟩
  | .hbm, ⟨19, _⟩ => ⟨S4352x2048, .f32⟩
  | .hbm, ⟨20, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MixedGrad2.lean ====
abbrev S4x512x512 : Shape := ⟨3, ![4, 512, 512]⟩
abbrev S4352x2048 : Shape := ⟨2, ![4352, 2048]⟩
abbrev S4x4x128x512 : Shape := ⟨4, ![4, 4, 128, 512]⟩
abbrev S1088x512 : Shape := ⟨2, ![1088, 512]⟩
abbrev S4x1x128x512 : Shape := ⟨4, ![4, 1, 128, 512]⟩
abbrev S4x128x512 : Shape := ⟨3, ![4, 128, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x512x512, .f32⟩
  | .hbm, ⟨1, _⟩ => ⟨S4352x2048, .bf16⟩
  | .hbm, ⟨2, _⟩ => ⟨S4x512x512, .bf16⟩
  | .hbm, ⟨3, _⟩ => ⟨S4x4x128x512, .bf16⟩
  | .hbm, ⟨4, _⟩ => ⟨S4x4x128x512, .bf16⟩
  | .hbm, ⟨5, _⟩ => ⟨S4352x2048, .f32⟩
  | .local _ .vmem, ⟨0, _⟩ => ⟨S1088x512, .bf16⟩
  | .local _ .vmem, ⟨1, _⟩ => ⟨S1088x512, .bf16⟩
  | .local _ .vmem, ⟨2, _⟩ => ⟨S4x1x128x512, .bf16⟩
  | .local _ .vmem, ⟨3, _⟩ => ⟨S4x1x128x512, .bf16⟩
  | .local _ .vmem, ⟨4, _⟩ => ⟨S1088x512, .f32⟩
  | .local _ .vmem, ⟨5, _⟩ => ⟨S1088x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RMixedGrad2Ideal.lean ====
abbrev S4x512x512 : Shape := ⟨3, ![4, 512, 512]⟩
abbrev S4352x2048 : Shape := ⟨2, ![4352, 2048]⟩
abbrev S4352x4x512 : Shape := ⟨3, ![4352, 4, 512]⟩
abbrev S_ : Shape := ⟨0, ![]⟩
abbrev S4x512x4352 : Shape := ⟨3, ![4, 512, 4352]⟩
abbrev S4x4352x512 : Shape := ⟨3, ![4, 4352, 512]⟩

abbrev nBuf : Space → Nat
  | .hbm => 12
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4352x2048, .bf16⟩
  | .hbm, ⟨2, _⟩ => ⟨S4352x2048, .f32⟩
  | .hbm, ⟨3, _⟩ => ⟨S4352x4x512, .f32⟩
  | .hbm, ⟨4, _⟩ => ⟨S_, .f32⟩
  | .hbm, ⟨5, _⟩ => ⟨S4352x4x512, .f32⟩
  | .hbm, ⟨6, _⟩ => ⟨S4x512x4352, .f32⟩
  | .hbm, ⟨7, _⟩ => ⟨S4352x4x512, .f32⟩
  | .hbm, ⟨8, _⟩ => ⟨S4x512x4352, .f32⟩
  | .hbm, ⟨9, _⟩ => ⟨S4x4352x512, .f32⟩
  | .hbm, ⟨10, _⟩ => ⟨S4352x4x512, .f32⟩
  | .hbm, ⟨11, _⟩ => ⟨S4352x2048, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GrpGrad2.lean ====
abbrev S4352x2048 : Shape := ⟨2, ![4352, 2048]⟩
abbrev S4x4x128x512 : Shape := ⟨4, ![4, 4, 128, 512]⟩
abbrev S1088x512 : Shape := ⟨2, ![1088, 512]⟩
abbrev S4x1x128x512 : Shape := ⟨4, ![4, 1, 128, 512]⟩
abbrev S512x512 : Shape := ⟨2, ![512, 512]⟩
abbrev S4x128x512 : Shape := ⟨3, ![4, 128, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S4x4x128x512, .f32⟩
  | .local _ .vmem, ⟨0, _⟩ => ⟨S1088x512, .bf16⟩
  | .local _ .vmem, ⟨1, _⟩ => ⟨S1088x512, .bf16⟩
  | .local _ .vmem, ⟨2, _⟩ => ⟨S1088x512, .bf16⟩
  | .local _ .vmem, ⟨3, _⟩ => ⟨S1088x512, .bf16⟩
  | .local _ .vmem, ⟨4, _⟩ => ⟨S4x1x128x512, .f32⟩
  | .local _ .vmem, ⟨5, _⟩ => ⟨S4x1x128x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1088x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RGrpGrad2Ideal.lean ====
abbrev S4352x2048 : Shape := ⟨2, ![4352, 2048]⟩
abbrev S_ : Shape := ⟨0, ![]⟩
abbrev S4x512x512 : Shape := ⟨3, ![4, 512, 512]⟩
abbrev S4352x4x512 : Shape := ⟨3, ![4352, 4, 512]⟩
abbrev S4x512x4352 : Shape := ⟨3, ![4, 512, 4352]⟩
abbrev S4x4x128x512 : Shape := ⟨4, ![4, 4, 128, 512]⟩

abbrev nBuf : Space → Nat
  | .hbm => 15
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S_, .f32⟩
  | .hbm, ⟨3, _⟩ => ⟨S4x512x512, .f32⟩
  | .hbm, ⟨4, _⟩ => ⟨S4352x2048, .f32⟩
  | .hbm, ⟨5, _⟩ => ⟨S4352x4x512, .f32⟩
  | .hbm, ⟨6, _⟩ => ⟨S4x512x4352, .f32⟩
  | .hbm, ⟨7, _⟩ => ⟨S4352x4x512, .f32⟩
  | .hbm, ⟨8, _⟩ => ⟨S4352x2048, .f32⟩
  | .hbm, ⟨9, _⟩ => ⟨S4352x4x512, .f32⟩
  | .hbm, ⟨10, _⟩ => ⟨S4x512x4352, .f32⟩
  | .hbm, ⟨11, _⟩ => ⟨S4x512x512, .f32⟩
  | .hbm, ⟨12, _⟩ => ⟨S4x512x512, .f32⟩
  | .hbm, ⟨13, _⟩ => ⟨S4x4x128x512, .f32⟩
  | .hbm, ⟨14, _⟩ => ⟨S4x4x128x512, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Grp2.lean ====
abbrev S4352x2048 : Shape := ⟨2, ![4352, 2048]⟩
abbrev S4x512x512 : Shape := ⟨3, ![4, 512, 512]⟩
abbrev S4x512 : Shape := ⟨2, ![4, 512]⟩
abbrev S4352x4096 : Shape := ⟨2, ![4352, 4096]⟩
abbrev S2048 : Shape := ⟨1, ![2048]⟩
abbrev S4x4x128x512 : Shape := ⟨4, ![4, 4, 128, 512]⟩
abbrev S1x2048 : Shape := ⟨2, ![1, 2048]⟩
abbrev S1088x512 : Shape := ⟨2, ![1088, 512]⟩
abbrev S4x1x128x512 : Shape := ⟨4, ![4, 1, 128, 512]⟩
abbrev S1x512 : Shape := ⟨2, ![1, 512]⟩
abbrev S4x128x512 : Shape := ⟨3, ![4, 128, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S4352x2048, .bf16⟩
  | .hbm, ⟨1, _⟩ => ⟨S4x512x512, .f32⟩
  | .hbm, ⟨2, _⟩ => ⟨S4x512, .f32⟩
  | .hbm, ⟨3, _⟩ => ⟨S4352x4096, .f32⟩
  | .hbm, ⟨4, _⟩ => ⟨S2048, .f32⟩
  | .hbm, ⟨5, _⟩ => ⟨S4x512x512, .bf16⟩
  | .hbm, ⟨6, _⟩ => ⟨S4x4x128x512, .bf16⟩
  | .hbm, ⟨7, _⟩ => ⟨S4x4x128x512, .bf16⟩
  | .hbm, ⟨8, _⟩ => ⟨S1x2048, .f32⟩
  | .hbm, ⟨9, _⟩ => ⟨S1x2048, .f32⟩
  | .hbm, ⟨10, _⟩ => ⟨S4352x2048, .f32⟩
  | .hbm, ⟨11, _⟩ => ⟨S4352x2048, .bf16⟩
  | .local _ .vmem, ⟨0, _⟩ => ⟨S1088x512, .bf16⟩
  | .local _ .vmem, ⟨1, _⟩ => ⟨S1088x512, .bf16⟩
  | .local _ .vmem, ⟨2, _⟩ => ⟨S4x1x128x512, .bf16⟩
  | .local _ .vmem, ⟨3, _⟩ => ⟨S4x1x128x512, .bf16⟩
  | .local _ .vmem, ⟨4, _⟩ => ⟨S1x512, .f32⟩
  | .local _ .vmem, ⟨5, _⟩ => ⟨S1x512, .f32⟩
  | .local _ .vmem, ⟨6, _⟩ => ⟨S1088x512, .f32⟩
  | .local _ .vmem, ⟨7, _⟩ => ⟨S1088x512, .f32⟩
  | .local _ .vmem, ⟨8, _⟩ => ⟨S1x512, .f32⟩
  | .local _ .vmem, ⟨9, _⟩ => ⟨S1x512, .f32⟩
  | .local _ .vmem, ⟨10, _⟩ => ⟨S1088x512, .f32⟩
  | .local _ .vmem, ⟨11, _⟩ => ⟨S1088x512, .f32⟩
  | .local _ .vmem, ⟨12, _⟩ => ⟨S1088x512, .bf16⟩
  | .local _ .vmem, ⟨13, _⟩ => ⟨S1088x512, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1088x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1088x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RGrp2Ideal.lean ====
abbrev S4352x2048 : Shape := ⟨2, ![4352, 2048]⟩
abbrev S4x512x512 : Shape := ⟨3, ![4, 512, 512]⟩
abbrev S4x512 : Shape := ⟨2, ![4, 512]⟩
abbrev S4352x4096 : Shape := ⟨2, ![4352, 4096]⟩
abbrev S2048 : Shape := ⟨1, ![2048]⟩
abbrev S4352x4x512 : Shape := ⟨3, ![4352, 4, 512]⟩
abbrev S4x512x4352 : Shape := ⟨3, ![4, 512, 4352]⟩
abbrev S1x4x512 : Shape := ⟨3, ![1, 4, 512]⟩
abbrev S1x2048 : Shape := ⟨2, ![1, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4x512x512, .f32⟩
  | .hbm, ⟨2, _⟩ => ⟨S4x512, .f32⟩
  | .hbm, ⟨3, _⟩ => ⟨S4352x4096, .f32⟩
  | .hbm, ⟨4, _⟩ => ⟨S2048, .f32⟩
  | .hbm, ⟨5, _⟩ => ⟨S4352x2048, .f32⟩
  | .hbm, ⟨6, _⟩ => ⟨S4352x2048, .f32⟩
  | .hbm, ⟨7, _⟩ => ⟨S4352x2048, .f32⟩
  | .hbm, ⟨8, _⟩ => ⟨S4352x4x512, .f32⟩
  | .hbm, ⟨9, _⟩ => ⟨S4x512x4352, .f32⟩
  | .hbm, ⟨10, _⟩ => ⟨S4352x4x512, .f32⟩
  | .hbm, ⟨11, _⟩ => ⟨S1x4x512, .f32⟩
  | .hbm, ⟨12, _⟩ => ⟨S4352x4x512, .f32⟩
  | .hbm, ⟨13, _⟩ => ⟨S4352x4x512, .f32⟩
  | .hbm, ⟨14, _⟩ => ⟨S4352x2048, .f32⟩
  | .hbm, ⟨15, _⟩ => ⟨S1x2048, .f32⟩
  | .hbm, ⟨16, _⟩ => ⟨S4352x2048, .f32⟩
  | .hbm, ⟨17, _⟩ => ⟨S4352x2048, .f32⟩
  | .hbm, ⟨18, _⟩ => ⟨S4352x2048, .f32⟩
  | .hbm, ⟨19, _⟩ => ⟨S4352x2048, .f32⟩
  | .hbm, ⟨20, _⟩ => ⟨S_, .f32⟩
  | .hbm, ⟨21, _⟩ => ⟨S4352x2048, .f32⟩
  | .hbm, ⟨22, _⟩ => ⟨S4352x2048, .f32⟩
  | .hbm, ⟨23, _⟩ => ⟨S_, .f32⟩
  | .hbm, ⟨24, _⟩ => ⟨S4352x2048, .f32⟩
  | .hbm, ⟨25, _⟩ => ⟨S4352x2048, .f32⟩
  | .hbm, ⟨26, _⟩ => ⟨S4352x2048, .f32⟩
  | .hbm, ⟨27, _⟩ => ⟨S4352x2048, .f32⟩
  | .hbm, ⟨28, _⟩ => ⟨S4352x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Glu3.lean ====
abbrev S4352x1024 : Shape := ⟨2, ![4352, 1024]⟩
abbrev S1024x1024 : Shape := ⟨2, ![1024, 1024]⟩
abbrev S1024 : Shape := ⟨1, ![1024]⟩
abbrev S4352x2048 : Shape := ⟨2, ![4352, 2048]⟩
abbrev S_ : Shape := ⟨0, ![]⟩
abbrev S1x1024x1024 : Shape := ⟨3, ![1, 1024, 1024]⟩
abbrev S1x1024 : Shape := ⟨2, ![1, 1024]⟩
abbrev S1088x1024 : Shape := ⟨2, ![1088, 1024]⟩

abbrev nBuf : Space → Nat
  | .hbm => 27
  | .vmem => 12
  | .smem => 0
  | _ => 0

abbrev bufTy : (tb : Table) → Fin (tcTables nBuf tb) → BufTy
  | .hbm, ⟨0, _⟩ => ⟨S4352x1024, .f32⟩
  | .hbm, ⟨1, _⟩ => ⟨S1024x1024, .f32⟩
  | .hbm, ⟨2, _⟩ => ⟨S1024, .f32⟩
  | .hbm, ⟨3, _⟩ => ⟨S4352x2048, .f32⟩
  | .hbm, ⟨4, _⟩ => ⟨S4352x1024, .f32⟩
  | .hbm, ⟨5, _⟩ => ⟨S4352x1024, .f32⟩
  | .hbm, ⟨6, _⟩ => ⟨S_, .f32⟩
  | .hbm, ⟨7, _⟩ => ⟨S4352x1024, .f32⟩
  | .hbm, ⟨8, _⟩ => ⟨S4352x1024, .f32⟩
  | .hbm, ⟨9, _⟩ => ⟨S4352x1024, .f32⟩
  | .hbm, ⟨10, _⟩ => ⟨S_, .f32⟩
  | .hbm, ⟨11, _⟩ => ⟨S4352x1024, .f32⟩
  | .hbm, ⟨12, _⟩ => ⟨S4352x1024, .f32⟩
  | .hbm, ⟨13, _⟩ => ⟨S4352x1024, .f32⟩
  | .hbm, ⟨14, _⟩ => ⟨S_, .f32⟩
  | .hbm, ⟨15, _⟩ => ⟨S4352x1024, .f32⟩
  | .hbm, ⟨16, _⟩ => ⟨S4352x1024, .f32⟩
  | .hbm, ⟨17, _⟩ => ⟨S_, .f32⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S4352x1024, .bf16⟩
  | .hbm, ⟨22, _⟩ => ⟨S1024x1024, .bf16⟩
  | .hbm, ⟨23, _⟩ => ⟨S1x1024x1024, .bf16⟩
  | .hbm, ⟨24, _⟩ => ⟨S1x1024, .f32⟩
  | .hbm, ⟨25, _⟩ => ⟨S4352x1024, .f32⟩
  | .hbm, ⟨26, _⟩ => ⟨S4352x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1x1024x1024, .bf16⟩
  | .local _ .vmem, ⟨3, _⟩ => ⟨S1x1024, .f32⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | .local _ .vmem, ⟨9, _⟩ => ⟨S1088x1024, .f32⟩
  | .local _ .vmem, ⟨10, _⟩ => ⟨S1088x1024, .bf16⟩
  | .local _ .vmem, ⟨11, _⟩ => ⟨S1088x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1088x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RGlu3Ideal.lean ====
abbrev S4352x1024 : Shape := ⟨2, ![4352, 1024]⟩
abbrev S1024x1024 : Shape := ⟨2, ![1024, 1024]⟩
abbrev S1024 : Shape := ⟨1, ![1024]⟩
abbrev S4352x2048 : Shape := ⟨2, ![4352, 2048]⟩
abbrev S_ : Shape := ⟨0, ![]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x1024, .f32⟩
  | .hbm, ⟨2, _⟩ => ⟨S1024, .f32⟩
  | .hbm, ⟨3, _⟩ => ⟨S4352x2048, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S4352x1024, .f32⟩
  | .hbm, ⟨8, _⟩ => ⟨S_, .f32⟩
  | .hbm, ⟨9, _⟩ => ⟨S4352x1024, .f32⟩
  | .hbm, ⟨10, _⟩ => ⟨S4352x1024, .f32⟩
  | .hbm, ⟨11, _⟩ => ⟨S4352x1024, .f32⟩
  | .hbm, ⟨12, _⟩ => ⟨S_, .f32⟩
  | .hbm, ⟨13, _⟩ => ⟨S4352x1024, .f32⟩
  | .hbm, ⟨14, _⟩ => ⟨S4352x1024, .f32⟩
  | .hbm, ⟨15, _⟩ => ⟨S4352x1024, .f32⟩
  | .hbm, ⟨16, _⟩ => ⟨S_, .f32⟩
  | .hbm, ⟨17, _⟩ => ⟨S4352x1024, .f32⟩
  | .hbm, ⟨18, _⟩ => ⟨S4352x1024, .f32⟩
  | .hbm, ⟨19, _⟩ => ⟨S_, .f32⟩
  | .hbm, ⟨20, _⟩ => ⟨S4352x1024, .f32⟩
  | .hbm, ⟨21, _⟩ => ⟨S4352x1024, .f32⟩
  | .hbm, ⟨22, _⟩ => ⟨S4352x1024, .f32⟩
  | .hbm, ⟨23, _⟩ => ⟨S4352x1024, .f32⟩
  | .hbm, ⟨24, _⟩ => ⟨S1x1024, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S4352x1024, .f32⟩
  | .hbm, ⟨31, _⟩ => ⟨S4352x1024, .f32⟩
  | .hbm, ⟨32, _⟩ => ⟨S_, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S4352x1024, .f32⟩
  | .hbm, ⟨38, _⟩ => ⟨S_, .f32⟩
  | .hbm, ⟨39, _⟩ => ⟨S4352x1024, .f32⟩
  | .hbm, ⟨40, _⟩ => ⟨S4352x1024, .f32⟩
  | .hbm, ⟨41, _⟩ => ⟨S_, .f32⟩
  | .hbm, ⟨42, _⟩ => ⟨S4352x1024, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== PoolGate2.lean ====
abbrev S4352x2048 : Shape := ⟨2, ![4352, 2048]⟩
abbrev S4352x4096 : Shape := ⟨2, ![4352, 4096]⟩
abbrev S2048 : Shape := ⟨1, ![2048]⟩
abbrev S2048x1024 : Shape := ⟨2, ![2048, 1024]⟩
abbrev S4352x1024 : Shape := ⟨2, ![4352, 1024]⟩
abbrev S1x2048x1024 : Shape := ⟨3, ![1, 2048, 1024]⟩
abbrev S1x2048 : Shape := ⟨2, ![1, 2048]⟩
abbrev S1088x1024 : Shape := ⟨2, ![1088, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 13
  | .vmem => 18
  | .smem => 0
  | _ => 0

abbrev bufTy : (tb : Table) → Fin (tcTables nBuf tb) → BufTy
  | .hbm, ⟨0, _⟩ => ⟨S4352x2048, .f32⟩
  | .hbm, ⟨1, _⟩ => ⟨S4352x4096, .f32⟩
  | .hbm, ⟨2, _⟩ => ⟨S2048, .f32⟩
  | .hbm, ⟨3, _⟩ => ⟨S2048x1024, .f32⟩
  | .hbm, ⟨4, _⟩ => ⟨S4352x1024, .f32⟩
  | .hbm, ⟨5, _⟩ => ⟨S2048x1024, .bf16⟩
  | .hbm, ⟨6, _⟩ => ⟨S1x2048x1024, .bf16⟩
  | .hbm, ⟨7, _⟩ => ⟨S1x2048, .f32⟩
  | .hbm, ⟨8, _⟩ => ⟨S4352x2048, .bf16⟩
  | .hbm, ⟨9, _⟩ => ⟨S4352x4096, .bf16⟩
  | .hbm, ⟨10, _⟩ => ⟨S1x2048, .f32⟩
  | .hbm, ⟨11, _⟩ => ⟨S1x2048, .f32⟩
  | .hbm, ⟨12, _⟩ => ⟨S4352x2048, .bf16⟩
  | .local _ .vmem, ⟨0, _⟩ => ⟨S1088x1024, .f32⟩
  | .local _ .vmem, ⟨1, _⟩ => ⟨S1088x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1x1024, .f32⟩
  | .local _ .vmem, ⟨9, _⟩ => ⟨S1x1024, .f32⟩
  | .local _ .vmem, ⟨10, _⟩ => ⟨S1088x1024, .bf16⟩
  | .local _ .vmem, ⟨11, _⟩ => ⟨S1088x1024, .bf16⟩
  | .local _ .vmem, ⟨12, _⟩ => ⟨S1088x1024, .bf16⟩
  | .local _ .vmem, ⟨13, _⟩ => ⟨S1088x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v33 : BitVec 1 := Scalar.cmpi .eq arg1 c0_i32
  let v34 : BitVec 32 := Scalar.extui v33
  let c0_i32_17 : BitVec 32 := 0#32
  let v35 : BitVec 1 := Scalar.cmpi .ne v34 c0_i32_17
  v35

def k0_cond2 (i : grid0.Coords) : BitVec 1 :=
  let arg1 : BitVec 32 := BitVec.ofNat 32 (i 1).val
  let c0_i32_18 : BitVec 32 := 0#32
  let v36 : BitVec 1 := Scalar.cmpi .sgt arg1 c0_i32_18
  let v37 : BitVec 32 := Scalar.extui v36
  let c0_i32_19 : BitVec 32 := 0#32
  let v38 : BitVec 1 := Scalar.cmpi .ne v37 c0_i32_19
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1088x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1088x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RPoolGate2Ideal.lean ====
abbrev S4352x2048 : Shape := ⟨2, ![4352, 2048]⟩
abbrev S4352x4096 : Shape := ⟨2, ![4352, 4096]⟩
abbrev S2048 : Shape := ⟨1, ![2048]⟩
abbrev S2048x1024 : Shape := ⟨2, ![2048, 1024]⟩
abbrev S4352x1024 : Shape := ⟨2, ![4352, 1024]⟩
abbrev S1x2048 : Shape := ⟨2, ![1, 2048]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x4096, .f32⟩
  | .hbm, ⟨2, _⟩ => ⟨S2048, .f32⟩
  | .hbm, ⟨3, _⟩ => ⟨S2048x1024, .f32⟩
  | .hbm, ⟨4, _⟩ => ⟨S4352x1024, .f32⟩
  | .hbm, ⟨5, _⟩ => ⟨S4352x2048, .f32⟩
  | .hbm, ⟨6, _⟩ => ⟨S4352x2048, .f32⟩
  | .hbm, ⟨7, _⟩ => ⟨S1x2048, .f32⟩
  | .hbm, ⟨8, _⟩ => ⟨S4352x2048, .f32⟩
  | .hbm, ⟨9, _⟩ => ⟨S4352x2048, .f32⟩
  | .hbm, ⟨10, _⟩ => ⟨S4352x2048, .f32⟩
  | .hbm, ⟨11, _⟩ => ⟨S4352x2048, .f32⟩
  | .hbm, ⟨12, _⟩ => ⟨S_, .f32⟩
  | .hbm, ⟨13, _⟩ => ⟨S4352x2048, .f32⟩
  | .hbm, ⟨14, _⟩ => ⟨S4352x2048, .f32⟩
  | .hbm, ⟨15, _⟩ => ⟨S_, .f32⟩
  | .hbm, ⟨16, _⟩ => ⟨S4352x2048, .f32⟩
  | .hbm, ⟨17, _⟩ => ⟨S4352x2048, .f32⟩
  | .hbm, ⟨18, _⟩ => ⟨S_, .f32⟩
  | .hbm, ⟨19, _⟩ => ⟨S4352x2048, .f32⟩
  | .hbm, ⟨20, _⟩ => ⟨S4352x2048, .f32⟩
  | .hbm, ⟨21, _⟩ => ⟨S4352x2048, .f32⟩
  | .hbm, ⟨22, _⟩ => ⟨S4352x2048, .f32⟩
  | .hbm, ⟨23, _⟩ => ⟨S4352x2048, .f32⟩
  | .hbm, ⟨24, _⟩ => ⟨S4352x1024, .f32⟩
  | .hbm, ⟨25, _⟩ => ⟨S4352x2048, .f32⟩
  | .hbm, ⟨26, _⟩ => ⟨S4352x2048, .f32⟩
  | .hbm, ⟨27, _⟩ => ⟨S4352x2048, .f32⟩
  | .hbm, ⟨28, _⟩ => ⟨S4352x2048, .f32⟩
  | .hbm, ⟨29, _⟩ => ⟨S4352x2048, .f32⟩
  | .hbm, ⟨30, _⟩ => ⟨S4352x2048, .f32⟩
  | .hbm, ⟨31, _⟩ => ⟨S4352x2048, .f32⟩
  | .hbm, ⟨32, _⟩ => ⟨S4352x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S4352x2048, .f32⟩
  | .hbm, ⟨37, _⟩ => ⟨S4352x2048, .f32⟩
  | .hbm, ⟨38, _⟩ => ⟨S_, .f32⟩
  | .hbm, ⟨39, _⟩ => ⟨S2048, .f32⟩
  | .hbm, ⟨40, _⟩ => ⟨S4352x2048, .bf16⟩
  | .hbm, ⟨41, _⟩ => ⟨S4352x2048, .bf16⟩
  | .hbm, ⟨42, _⟩ => ⟨S1x2048, .f32⟩
  | .hbm, ⟨43, _⟩ => ⟨S_, .f32⟩
  | .hbm, ⟨44, _⟩ => ⟨S2048, .f32⟩
  | .hbm, ⟨45, _⟩ => ⟨S1x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩

abbrev nD : Nat := 1
abbrev τ : Topo := Topo.v7x

variable {F : FTy → Type} [FloatOps F]
-- ==== GateGrad3.lean ====
abbrev S4352x1024 : Shape := ⟨2, ![4352, 1024]⟩
abbrev S4352x2048 : Shape := ⟨2, ![4352, 2048]⟩
abbrev S1024x1024 : Shape := ⟨2, ![1024, 1024]⟩
abbrev S1x1024x1024 : Shape := ⟨3, ![1, 1024, 1024]⟩
abbrev S1x1024 : Shape := ⟨2, ![1, 1024]⟩
abbrev S544x1024 : Shape := ⟨2, ![544, 1024]⟩
abbrev S1024 : Shape := ⟨1, ![1024]⟩

abbrev nBuf : Space → Nat
  | .hbm => 12
  | .vmem => 16
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x2048, .f32⟩
  | .hbm, ⟨3, _⟩ => ⟨S1024x1024, .f32⟩
  | .hbm, ⟨4, _⟩ => ⟨S4352x1024, .f32⟩
  | .hbm, ⟨5, _⟩ => ⟨S1024x1024, .bf16⟩
  | .hbm, ⟨6, _⟩ => ⟨S1x1024x1024, .bf16⟩
  | .hbm, ⟨7, _⟩ => ⟨S4352x1024, .f32⟩
  | .hbm, ⟨8, _⟩ => ⟨S4352x1024, .bf16⟩
  | .hbm, ⟨9, _⟩ => ⟨S4352x2048, .bf16⟩
  | .hbm, ⟨10, _⟩ => ⟨S1x1024, .f32⟩
  | .hbm, ⟨11, _⟩ => ⟨S4352x1024, .bf16⟩
  | .local _ .vmem, ⟨0, _⟩ => ⟨S544x1024, .f32⟩
  | .local _ .vmem, ⟨1, _⟩ => ⟨S544x1024, .f32⟩
  | .local _ .vmem, ⟨2, _⟩ => ⟨S1x1024x1024, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .bf16⟩
  | .local _ .vmem, ⟨12, _⟩ => ⟨S544x1024, .bf16⟩
  | .local _ .vmem, ⟨13, _⟩ => ⟨S544x1024, .bf16⟩
  | .local _ .vmem, ⟨14, _⟩ => ⟨S544x1024, .bf16⟩
  | .local _ .vmem, ⟨15, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v67 : BitVec 1 := Scalar.cmpi .eq arg0 c0_i32
  let v68 : BitVec 32 := Scalar.extui v67
  let c0_i32_29 : BitVec 32 := 0#32
  let v69 : BitVec 1 := Scalar.cmpi .ne v68 c0_i32_29
  v69

def k0_cond2 (i : grid0.Coords) : BitVec 1 :=
  let arg0 : BitVec 32 := BitVec.ofNat 32 (i 0).val
  let c0_i32_30 : BitVec 32 := 0#32
  let v70 : BitVec 1 := Scalar.cmpi .sgt arg0 c0_i32_30
  let v71 : BitVec 32 := Scalar.extui v70
  let c0_i32_31 : BitVec 32 := 0#32
  let v72 : BitVec 1 := Scalar.cmpi .ne v71 c0_i32_31
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RGateGrad3Ideal.lean ====
abbrev S4352x1024 : Shape := ⟨2, ![4352, 1024]⟩
abbrev S4352x2048 : Shape := ⟨2, ![4352, 2048]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x2048, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S4352x1024, .f32⟩
  | .hbm, ⟨8, _⟩ => ⟨S4352x1024, .f32⟩
  | .hbm, ⟨9, _⟩ => ⟨S4352x1024, .f32⟩
  | .hbm, ⟨10, _⟩ => ⟨S_, .f32⟩
  | .hbm, ⟨11, _⟩ => ⟨S4352x1024, .f32⟩
  | .hbm, ⟨12, _⟩ => ⟨S4352x1024, .f32⟩
  | .hbm, ⟨13, _⟩ => ⟨S_, .f32⟩
  | .hbm, ⟨14, _⟩ => ⟨S4352x1024, .f32⟩
  | .hbm, ⟨15, _⟩ => ⟨S4352x1024, .f32⟩
  | .hbm, ⟨16, _⟩ => ⟨S4352x1024, .f32⟩
  | .hbm, ⟨17, _⟩ => ⟨S_, .f32⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S_, .f32⟩
  | .hbm, ⟨22, _⟩ => ⟨S4352x1024, .f32⟩
  | .hbm, ⟨23, _⟩ => ⟨S4352x1024, .f32⟩
  | .hbm, ⟨24, _⟩ => ⟨S_, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S_, .f32⟩
  | .hbm, ⟨29, _⟩ => ⟨S4352x1024, .f32⟩
  | .hbm, ⟨30, _⟩ => ⟨S4352x1024, .f32⟩
  | .hbm, ⟨31, _⟩ => ⟨S_, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S_, .f32⟩
  | .hbm, ⟨38, _⟩ => ⟨S4352x1024, .f32⟩
  | .hbm, ⟨39, _⟩ => ⟨S4352x1024, .f32⟩
  | .hbm, ⟨40, _⟩ => ⟨S_, .f32⟩
  | .hbm, ⟨41, _⟩ => ⟨S4352x1024, .f32⟩
  | .hbm, ⟨42, _⟩ => ⟨S4352x1024, .f32⟩
  | .hbm, ⟨43, _⟩ => ⟨S_, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S4352x1024, .f32⟩
  | .hbm, ⟨49, _⟩ => ⟨S4352x1024, .f32⟩
  | .hbm, ⟨50, _⟩ => ⟨S_, .f32⟩
  | .hbm, ⟨51, _⟩ => ⟨S4352x1024, .f32⟩
  | .hbm, ⟨52, _⟩ => ⟨S4352x1024, .f32⟩
  | .hbm, ⟨53, _⟩ => ⟨S_, .f32⟩
  | .hbm, ⟨54, _⟩ => ⟨S4352x1024, .f32⟩
  | .hbm, ⟨55, _⟩ => ⟨S4352x1024, .f32⟩
  | .hbm, ⟨56, _⟩ => ⟨S_, .f32⟩
  | .hbm, ⟨57, _⟩ => ⟨S4352x1024, .f32⟩
  | .hbm, ⟨58, _⟩ => ⟨S4352x1024, .f32⟩
  | .hbm, ⟨59, _⟩ => ⟨S4352x1024, .f32⟩
  | .hbm, ⟨60, _⟩ => ⟨S4352x1024, .f32⟩
  | .hbm, ⟨61, _⟩ => ⟨S4352x1024, .f32⟩
  | .hbm, ⟨62, _⟩ => ⟨S4352x1024, .f32⟩
  | .hbm, ⟨63, _⟩ => ⟨S4352x1024, .f32⟩
  | .hbm, ⟨64, _⟩ => ⟨S4352x1024, .f32⟩
  | .hbm, ⟨65, _⟩ => ⟨S4352x1024, .f32⟩
  | .hbm, ⟨66, _⟩ => ⟨S4352x1024, .f32⟩
  | .hbm, ⟨67, _⟩ => ⟨S4352x1024, .f32⟩
  | .hbm, ⟨68, _⟩ => ⟨S4352x1024, .f32⟩
  | .hbm, ⟨69, _⟩ => ⟨S4352x1024, .f32⟩
  | .hbm, ⟨70, _⟩ => ⟨S4352x1024, .f32⟩
  | .hbm, ⟨71, _⟩ => ⟨S4352x1024, .f32⟩
  | .hbm, ⟨72, _⟩ => ⟨S4352x1024, .f32⟩
  | .hbm, ⟨73, _⟩ => ⟨S4352x1024, .f32⟩
  | .hbm, ⟨74, _⟩ => ⟨S4352x1024, .f32⟩
  | .hbm, ⟨75, _⟩ => ⟨S_, .f32⟩
  | .hbm, ⟨76, _⟩ => ⟨S4352x1024, .f32⟩
  | .hbm, ⟨77, _⟩ => ⟨S4352x1024, .f32⟩
  | .hbm, ⟨78, _⟩ => ⟨S4352x1024, .f32⟩
  | .hbm, ⟨79, _⟩ => ⟨S_, .f32⟩
  | .hbm, ⟨80, _⟩ => ⟨S4352x1024, .f32⟩
  | .hbm, ⟨81, _⟩ => ⟨S4352x1024, .f32⟩
  | .hbm, ⟨82, _⟩ => ⟨S4352x1024, .f32⟩
  | .hbm, ⟨83, _⟩ => ⟨S_, .f32⟩
  | .hbm, ⟨84, _⟩ => ⟨S4352x1024, .f32⟩
  | .hbm, ⟨85, _⟩ => ⟨S4352x1024, .f32⟩
  | .hbm, ⟨86, _⟩ => ⟨S4352x1024, .f32⟩
  | .hbm, ⟨87, _⟩ => ⟨S4352x1024, .f32⟩
  | .hbm, ⟨88, _⟩ => ⟨S4352x1024, .bf16⟩
  | .hbm, ⟨89, _⟩ => ⟨S4352x1024, .bf16⟩
  | .hbm, ⟨90, _⟩ => ⟨S_, .f32⟩
  | .hbm, ⟨91, _⟩ => ⟨S1024, .f32⟩
  | .hbm, ⟨92, _⟩ => ⟨S1x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v33_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v33_1 : Ref sig .tc := ⟨.hbm, 59, rfl⟩
abbrev main_v33_0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_12 : Ref sig .tc := ⟨.hbm, 90, rfl⟩
abbrev main_v57 : Ref sig .tc := ⟨.hbm, 91, rfl⟩
abbrev main_v58 : Ref sig .tc := ⟨.hbm, 92, rfl⟩

abbrev nD : Nat := 1
abbrev τ : Topo := Topo.v7x

variable {F : FTy → Type} [FloatOps F]
-- ==== Conv1.lean ====
abbrev S4352x8192 : Shape := ⟨2, ![4352, 8192]⟩
abbrev S3x2048 : Shape := ⟨2, ![3, 2048]⟩
abbrev S2048 : Shape := ⟨1, ![2048]⟩
abbrev S1x2048 : Shape := ⟨2, ![1, 2048]⟩
abbrev S4352x2048 : Shape := ⟨2, ![4352, 2048]⟩
abbrev S272x8192 : Shape := ⟨2, ![272, 8192]⟩
abbrev S8x2048 : Shape := ⟨2, ![8, 2048]⟩
abbrev S272x2048 : Shape := ⟨2, ![272, 2048]⟩
abbrev S280x2048 : Shape := ⟨2, ![280, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4352x8192, .f32⟩
  | .hbm, ⟨1, _⟩ => ⟨S3x2048, .f32⟩
  | .hbm, ⟨2, _⟩ => ⟨S2048, .f32⟩
  | .hbm, ⟨3, _⟩ => ⟨S1x2048, .f32⟩
  | .hbm, ⟨4, _⟩ => ⟨S4352x2048, .bf16⟩
  | .local _ .vmem, ⟨0, _⟩ => ⟨S272x8192, .f32⟩
  | .local _ .vmem, ⟨1, _⟩ => ⟨S272x8192, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S3x2048, .f32⟩
  | .local _ .vmem, ⟨7, _⟩ => ⟨S1x2048, .f32⟩
  | .local _ .vmem, ⟨8, _⟩ => ⟨S272x2048, .bf16⟩
  | .local _ .vmem, ⟨9, _⟩ => ⟨S272x2048, .bf16⟩
  | _, _ => ⟨S4352x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S272x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RConv1Ideal.lean ====
abbrev S4352x8192 : Shape := ⟨2, ![4352, 8192]⟩
abbrev S3x2048 : Shape := ⟨2, ![3, 2048]⟩
abbrev S2048 : Shape := ⟨1, ![2048]⟩
abbrev S4352x2048 : Shape := ⟨2, ![4352, 2048]⟩
abbrev S1x2048 : Shape := ⟨2, ![1, 2048]⟩
abbrev S2x2048 : Shape := ⟨2, ![2, 2048]⟩
abbrev S_ : Shape := ⟨0, ![]⟩
abbrev S4350x2048 : Shape := ⟨2, ![4350, 2048]⟩
abbrev S4351x2048 : Shape := ⟨2, ![4351, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4352x8192, .f32⟩
  | .hbm, ⟨1, _⟩ => ⟨S3x2048, .f32⟩
  | .hbm, ⟨2, _⟩ => ⟨S2048, .f32⟩
  | .hbm, ⟨3, _⟩ => ⟨S4352x2048, .f32⟩
  | .hbm, ⟨4, _⟩ => ⟨S4352x2048, .f32⟩
  | .hbm, ⟨5, _⟩ => ⟨S4352x2048, .f32⟩
  | .hbm, ⟨6, _⟩ => ⟨S4352x2048, .f32⟩
  | .hbm, ⟨7, _⟩ => ⟨S4352x2048, .f32⟩
  | .hbm, ⟨8, _⟩ => ⟨S1x2048, .f32⟩
  | .hbm, ⟨9, _⟩ => ⟨S2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S4350x2048, .f32⟩
  | .hbm, ⟨14, _⟩ => ⟨S4352x2048, .f32⟩
  | .hbm, ⟨15, _⟩ => ⟨S1x2048, .f32⟩
  | .hbm, ⟨16, _⟩ => ⟨S4352x2048, .f32⟩
  | .hbm, ⟨17, _⟩ => ⟨S4352x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S4351x2048, .f32⟩
  | .hbm, ⟨24, _⟩ => ⟨S4352x2048, .f32⟩
  | .hbm, ⟨25, _⟩ => ⟨S1x2048, .f32⟩
  | .hbm, ⟨26, _⟩ => ⟨S4352x2048, .f32⟩
  | .hbm, ⟨27, _⟩ => ⟨S4352x2048, .f32⟩
  | .hbm, ⟨28, _⟩ => ⟨S4352x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S4352x2048, .f32⟩
  | .hbm, ⟨33, _⟩ => ⟨S4352x2048, .f32⟩
  | .hbm, ⟨34, _⟩ => ⟨S4352x2048, .f32⟩
  | .hbm, ⟨35, _⟩ => ⟨S1x2048, .f32⟩
  | .hbm, ⟨36, _⟩ => ⟨S4352x2048, .f32⟩
  | .hbm, ⟨37, _⟩ => ⟨S4352x2048, .f32⟩
  | .hbm, ⟨38, _⟩ => ⟨S4352x2048, .f32⟩
  | .hbm, ⟨39, _⟩ => ⟨S4352x2048, .f32⟩
  | .hbm, ⟨40, _⟩ => ⟨S4352x2048, .f32⟩
  | .hbm, ⟨41, _⟩ => ⟨S_, .f32⟩
  | .hbm, ⟨42, _⟩ => ⟨S4352x2048, .f32⟩
  | .hbm, ⟨43, _⟩ => ⟨S4352x2048, .f32⟩
  | .hbm, ⟨44, _⟩ => ⟨S_, .f32⟩
  | .hbm, ⟨45, _⟩ => ⟨S4352x2048, .f32⟩
  | .hbm, ⟨46, _⟩ => ⟨S4352x2048, .f32⟩
  | .hbm, ⟨47, _⟩ => ⟨S4352x2048, .f32⟩
  | .hbm, ⟨48, _⟩ => ⟨S4352x2048, .f32⟩
  | .hbm, ⟨49, _⟩ => ⟨S4352x2048, .bf16⟩
  | _, _ => ⟨S4352x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Pool2.lean ====
abbrev S4352x4096 : Shape := ⟨2, ![4352, 4096]⟩
abbrev S4352x2048 : Shape := ⟨2, ![4352, 2048]⟩
abbrev S272x2048 : Shape := ⟨2, ![272, 2048]⟩
abbrev S16x2048 : Shape := ⟨2, ![16, 2048]⟩
abbrev S288x2048 : Shape := ⟨2, ![288, 2048]⟩
abbrev S288x512 : Shape := ⟨2, ![288, 512]⟩
abbrev S272x512 : Shape := ⟨2, ![272, 512]⟩
abbrev S272x1 : Shape := ⟨2, ![272, 1]⟩

abbrev nBuf : Space → Nat
  | .hbm => 2
  | .vmem => 6
  | .smem => 0
  | _ => 0

abbrev bufTy : (tb : Table) → Fin (tcTables nBuf tb) → BufTy
  | .hbm, ⟨0, _⟩ => ⟨S4352x4096, .f32⟩
  | .hbm, ⟨1, _⟩ => ⟨S4352x2048, .bf16⟩
  | .local _ .vmem, ⟨0, _⟩ => ⟨S272x2048, .f32⟩
  | .local _ .vmem, ⟨1, _⟩ => ⟨S272x2048, .f32⟩
  | .local _ .vmem, ⟨2, _⟩ => ⟨S16x2048, .f32⟩
  | .local _ .vmem, ⟨3, _⟩ => ⟨S16x2048, .f32⟩
  | .local _ .vmem, ⟨4, _⟩ => ⟨S272x2048, .bf16⟩
  | .local _ .vmem, ⟨5, _⟩ => ⟨S272x2048, .bf16⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c17_i32 : BitVec 32 := 17#32
  let v0 : BitVec 32 := Scalar.muli arg0 c17_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RPool2Ideal.lean ====
abbrev S4352x4096 : Shape := ⟨2, ![4352, 4096]⟩
abbrev S4352x2048 : Shape := ⟨2, ![4352, 2048]⟩
abbrev S4352x4x512 : Shape := ⟨3, ![4352, 4, 512]⟩
abbrev S_ : Shape := ⟨0, ![]⟩
abbrev S4352 : Shape := ⟨1, ![4352]⟩
abbrev S4352x1 : Shape := ⟨2, ![4352, 1]⟩
abbrev S4352x1x512 : Shape := ⟨3, ![4352, 1, 512]⟩
abbrev S4352x512 : Shape := ⟨2, ![4352, 512]⟩
abbrev S2x512 : Shape := ⟨2, ![2, 512]⟩
abbrev S4350x512 : Shape := ⟨2, ![4350, 512]⟩
abbrev S4x512 : Shape := ⟨2, ![4, 512]⟩
abbrev S4348x512 : Shape := ⟨2, ![4348, 512]⟩
abbrev S8x512 : Shape := ⟨2, ![8, 512]⟩
abbrev S4344x512 : Shape := ⟨2, ![4344, 512]⟩
abbrev S16x512 : Shape := ⟨2, ![16, 512]⟩
abbrev S4336x512 : Shape := ⟨2, ![4336, 512]⟩

abbrev nBuf : Space → Nat
  | .hbm => 78
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4352x2048, .f32⟩
  | .hbm, ⟨2, _⟩ => ⟨S4352x2048, .f32⟩
  | .hbm, ⟨3, _⟩ => ⟨S4352x4x512, .f32⟩
  | .hbm, ⟨4, _⟩ => ⟨S_, .f32⟩
  | .hbm, ⟨5, _⟩ => ⟨S_, .f32⟩
  | .hbm, ⟨6, _⟩ => ⟨S4352x4x512, .f32⟩
  | .hbm, ⟨7, _⟩ => ⟨S4352, .f32⟩
  | .hbm, ⟨8, _⟩ => ⟨S_, .f32⟩
  | .hbm, ⟨9, _⟩ => ⟨S4352, .f32⟩
  | .hbm, ⟨10, _⟩ => ⟨S4352, .f32⟩
  | .hbm, ⟨11, _⟩ => ⟨S4352x1, .f32⟩
  | .hbm, ⟨12, _⟩ => ⟨S4352x1x512, .f32⟩
  | .hbm, ⟨13, _⟩ => ⟨S4352x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S4350x512, .f32⟩
  | .hbm, ⟨18, _⟩ => ⟨S4352x512, .f32⟩
  | .hbm, ⟨19, _⟩ => ⟨S4352x512, .f32⟩
  | .hbm, ⟨20, _⟩ => ⟨S_, .f32⟩
  | .hbm, ⟨21, _⟩ => ⟨S4352x1, .f32⟩
  | .hbm, ⟨22, _⟩ => ⟨S4352x1, .f32⟩
  | .hbm, ⟨23, _⟩ => ⟨S4352x512, .f32⟩
  | .hbm, ⟨24, _⟩ => ⟨S4352x512, .f32⟩
  | .hbm, ⟨25, _⟩ => ⟨S4352x1x512, .f32⟩
  | .hbm, ⟨26, _⟩ => ⟨S4352x512, .f32⟩
  | .hbm, ⟨27, _⟩ => ⟨S4352x512, .f32⟩
  | .hbm, ⟨28, _⟩ => ⟨S4352x1x512, .f32⟩
  | .hbm, ⟨29, _⟩ => ⟨S4352x512, .f32⟩
  | .hbm, ⟨30, _⟩ => ⟨S4x512, .f32⟩
  | .hbm, ⟨31, _⟩ => ⟨S_, .f32⟩
  | .hbm, ⟨32, _⟩ => ⟨S4x512, .f32⟩
  | .hbm, ⟨33, _⟩ => ⟨S4348x512, .f32⟩
  | .hbm, ⟨34, _⟩ => ⟨S4352x512, .f32⟩
  | .hbm, ⟨35, _⟩ => ⟨S4352x512, .f32⟩
  | .hbm, ⟨36, _⟩ => ⟨S_, .f32⟩
  | .hbm, ⟨37, _⟩ => ⟨S4352x1, .f32⟩
  | .hbm, ⟨38, _⟩ => ⟨S4352x1, .f32⟩
  | .hbm, ⟨39, _⟩ => ⟨S4352x512, .f32⟩
  | .hbm, ⟨40, _⟩ => ⟨S4352x512, .f32⟩
  | .hbm, ⟨41, _⟩ => ⟨S4352x1x512, .f32⟩
  | .hbm, ⟨42, _⟩ => ⟨S4352x512, .f32⟩
  | .hbm, ⟨43, _⟩ => ⟨S4352x512, .f32⟩
  | .hbm, ⟨44, _⟩ => ⟨S4352x1x512, .f32⟩
  | .hbm, ⟨45, _⟩ => ⟨S4352x512, .f32⟩
  | .hbm, ⟨46, _⟩ => ⟨S8x512, .f32⟩
  | .hbm, ⟨47, _⟩ => ⟨S_, .f32⟩
  | .hbm, ⟨48, _⟩ => ⟨S8x512, .f32⟩
  | .hbm, ⟨49, _⟩ => ⟨S4344x512, .f32⟩
  | .hbm, ⟨50, _⟩ => ⟨S4352x512, .f32⟩
  | .hbm, ⟨51, _⟩ => ⟨S4352x512, .f32⟩
  | .hbm, ⟨52, _⟩ => ⟨S_, .f32⟩
  | .hbm, ⟨53, _⟩ => ⟨S4352x1, .f32⟩
  | .hbm, ⟨54, _⟩ => ⟨S4352x1, .f32⟩
  | .hbm, ⟨55, _⟩ => ⟨S4352x512, .f32⟩
  | .hbm, ⟨56, _⟩ => ⟨S4352x512, .f32⟩
  | .hbm, ⟨57, _⟩ => ⟨S4352x1x512, .f32⟩
  | .hbm, ⟨58, _⟩ => ⟨S4352x512, .f32⟩
  | .hbm, ⟨59, _⟩ => ⟨S4352x512, .f32⟩
  | .hbm, ⟨60, _⟩ => ⟨S4352x1x512, .f32⟩
  | .hbm, ⟨61, _⟩ => ⟨S4352x512, .f32⟩
  | .hbm, ⟨62, _⟩ => ⟨S16x512, .f32⟩
  | .hbm, ⟨63, _⟩ => ⟨S_, .f32⟩
  | .hbm, ⟨64, _⟩ => ⟨S16x512, .f32⟩
  | .hbm, ⟨65, _⟩ => ⟨S4336x512, .f32⟩
  | .hbm, ⟨66, _⟩ => ⟨S4352x512, .f32⟩
  | .hbm, ⟨67, _⟩ => ⟨S4352x512, .f32⟩
  | .hbm, ⟨68, _⟩ => ⟨S_, .f32⟩
  | .hbm, ⟨69, _⟩ => ⟨S4352x1, .f32⟩
  | .hbm, ⟨70, _⟩ => ⟨S4352x1, .f32⟩
  | .hbm, ⟨71, _⟩ => ⟨S4352x512, .f32⟩
  | .hbm, ⟨72, _⟩ => ⟨S4352x512, .f32⟩
  | .hbm, ⟨73, _⟩ => ⟨S4352x1x512, .f32⟩
  | .hbm, ⟨74, _⟩ => ⟨S4352x512, .f32⟩
  | .hbm, ⟨75, _⟩ => ⟨S4352x512, .f32⟩
  | .hbm, ⟨76, _⟩ => ⟨S4352x2048, .f32⟩
  | .hbm, ⟨77, _⟩ => ⟨S4352x2048, .bf16⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_call0_cst : Ref sig .tc := ⟨.hbm, 4, rfl⟩
abbrev main_call0_call0_v0 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_6 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_7 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩

abbrev nD : Nat := 1
abbrev τ : Topo := Topo.v7x

variable {F : FTy → Type} [FloatOps F]
-- ==== PoolGrad2.lean ====
abbrev S4352x2048 : Shape := ⟨2, ![4352, 2048]⟩
abbrev S4352x4096 : Shape := ⟨2, ![4352, 4096]⟩
abbrev S272x2048 : Shape := ⟨2, ![272, 2048]⟩
abbrev S16x2048 : Shape := ⟨2, ![16, 2048]⟩
abbrev S272x512 : Shape := ⟨2, ![272, 512]⟩
abbrev S272x1 : Shape := ⟨2, ![272, 1]⟩
abbrev S16x512 : Shape := ⟨2, ![16, 512]⟩
abbrev S16x1 : Shape := ⟨2, ![16, 1]⟩
abbrev S288x512 : Shape := ⟨2, ![288, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S4352x4096, .bf16⟩
  | .hbm, ⟨2, _⟩ => ⟨S4352x4096, .bf16⟩
  | .local _ .vmem, ⟨0, _⟩ => ⟨S272x2048, .f32⟩
  | .local _ .vmem, ⟨1, _⟩ => ⟨S272x2048, .f32⟩
  | .local _ .vmem, ⟨2, _⟩ => ⟨S16x2048, .f32⟩
  | .local _ .vmem, ⟨3, _⟩ => ⟨S16x2048, .f32⟩
  | .local _ .vmem, ⟨4, _⟩ => ⟨S272x2048, .bf16⟩
  | .local _ .vmem, ⟨5, _⟩ => ⟨S272x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c17_i32 : BitVec 32 := 17#32
  let v1 : BitVec 32 := Scalar.muli v0 c17_i32
  let c271_i32 : BitVec 32 := 271#32
  let v2 : BitVec 32 := Scalar.minsi v1 c271_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RPoolGrad2Ideal.lean ====
abbrev S4352x2048 : Shape := ⟨2, ![4352, 2048]⟩
abbrev S4352x4096 : Shape := ⟨2, ![4352, 4096]⟩
abbrev S4352 : Shape := ⟨1, ![4352]⟩
abbrev S_ : Shape := ⟨0, ![]⟩
abbrev S4352x1 : Shape := ⟨2, ![4352, 1]⟩
abbrev S2x512 : Shape := ⟨2, ![2, 512]⟩
abbrev S4x512 : Shape := ⟨2, ![4, 512]⟩
abbrev S8x512 : Shape := ⟨2, ![8, 512]⟩
abbrev S16x512 : Shape := ⟨2, ![16, 512]⟩
abbrev S4352x512 : Shape := ⟨2, ![4352, 512]⟩
abbrev S4352x1x512 : Shape := ⟨3, ![4352, 1, 512]⟩
abbrev S4352x4x512 : Shape := ⟨3, ![4352, 4, 512]⟩
abbrev S4336x512 : Shape := ⟨2, ![4336, 512]⟩
abbrev S4344x512 : Shape := ⟨2, ![4344, 512]⟩
abbrev S4348x512 : Shape := ⟨2, ![4348, 512]⟩
abbrev S4350x512 : Shape := ⟨2, ![4350, 512]⟩

abbrev nBuf : Space → Nat
  | .hbm => 106
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x4096, .bf16⟩
  | .hbm, ⟨2, _⟩ => ⟨S4352x2048, .bf16⟩
  | .hbm, ⟨3, _⟩ => ⟨S4352x2048, .bf16⟩
  | .hbm, ⟨4, _⟩ => ⟨S4352, .f32⟩
  | .hbm, ⟨5, _⟩ => ⟨S_, .f32⟩
  | .hbm, ⟨6, _⟩ => ⟨S4352, .f32⟩
  | .hbm, ⟨7, _⟩ => ⟨S4352, .f32⟩
  | .hbm, ⟨8, _⟩ => ⟨S4352x1, .f32⟩
  | .hbm, ⟨9, _⟩ => ⟨S_, .f32⟩
  | .hbm, ⟨10, _⟩ => ⟨S2x512, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S_, .f32⟩
  | .hbm, ⟨15, _⟩ => ⟨S4x512, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S_, .f32⟩
  | .hbm, ⟨20, _⟩ => ⟨S8x512, .f32⟩
  | .hbm, ⟨21, _⟩ => ⟨S_, .f32⟩
  | .hbm, ⟨22, _⟩ => ⟨S4352x1, .f32⟩
  | .hbm, ⟨23, _⟩ => ⟨S4352x1, .f32⟩
  | .hbm, ⟨24, _⟩ => ⟨S_, .f32⟩
  | .hbm, ⟨25, _⟩ => ⟨S16x512, .f32⟩
  | .hbm, ⟨26, _⟩ => ⟨S_, .f32⟩
  | .hbm, ⟨27, _⟩ => ⟨S4352x1, .f32⟩
  | .hbm, ⟨28, _⟩ => ⟨S4352x1, .f32⟩
  | .hbm, ⟨29, _⟩ => ⟨S4352x512, .f32⟩
  | .hbm, ⟨30, _⟩ => ⟨S4352x512, .f32⟩
  | .hbm, ⟨31, _⟩ => ⟨S4352x512, .f32⟩
  | .hbm, ⟨32, _⟩ => ⟨S4352x512, .f32⟩
  | .hbm, ⟨33, _⟩ => ⟨S4352x512, .f32⟩
  | .hbm, ⟨34, _⟩ => ⟨S4352x1x512, .f32⟩
  | .hbm, ⟨35, _⟩ => ⟨S_, .f32⟩
  | .hbm, ⟨36, _⟩ => ⟨S4352x4x512, .f32⟩
  | .hbm, ⟨37, _⟩ => ⟨S4352x512, .f32⟩
  | .hbm, ⟨38, _⟩ => ⟨S4352x512, .f32⟩
  | .hbm, ⟨39, _⟩ => ⟨S4352x512, .f32⟩
  | .hbm, ⟨40, _⟩ => ⟨S16x512, .f32⟩
  | .hbm, ⟨41, _⟩ => ⟨S4336x512, .f32⟩
  | .hbm, ⟨42, _⟩ => ⟨S_, .f32⟩
  | .hbm, ⟨43, _⟩ => ⟨S4352x512, .f32⟩
  | .hbm, ⟨44, _⟩ => ⟨S4352x512, .f32⟩
  | .hbm, ⟨45, _⟩ => ⟨S4352x1x512, .f32⟩
  | .hbm, ⟨46, _⟩ => ⟨S_, .f32⟩
  | .hbm, ⟨47, _⟩ => ⟨S4352x4x512, .f32⟩
  | .hbm, ⟨48, _⟩ => ⟨S4352x512, .f32⟩
  | .hbm, ⟨49, _⟩ => ⟨S4352x1x512, .f32⟩
  | .hbm, ⟨50, _⟩ => ⟨S_, .f32⟩
  | .hbm, ⟨51, _⟩ => ⟨S4352x4x512, .f32⟩
  | .hbm, ⟨52, _⟩ => ⟨S4352x4x512, .f32⟩
  | .hbm, ⟨53, _⟩ => ⟨S4352x512, .f32⟩
  | .hbm, ⟨54, _⟩ => ⟨S4352x512, .f32⟩
  | .hbm, ⟨55, _⟩ => ⟨S4352x512, .f32⟩
  | .hbm, ⟨56, _⟩ => ⟨S8x512, .f32⟩
  | .hbm, ⟨57, _⟩ => ⟨S4344x512, .f32⟩
  | .hbm, ⟨58, _⟩ => ⟨S_, .f32⟩
  | .hbm, ⟨59, _⟩ => ⟨S4352x512, .f32⟩
  | .hbm, ⟨60, _⟩ => ⟨S4352x512, .f32⟩
  | .hbm, ⟨61, _⟩ => ⟨S4352x1x512, .f32⟩
  | .hbm, ⟨62, _⟩ => ⟨S_, .f32⟩
  | .hbm, ⟨63, _⟩ => ⟨S4352x4x512, .f32⟩
  | .hbm, ⟨64, _⟩ => ⟨S4352x4x512, .f32⟩
  | .hbm, ⟨65, _⟩ => ⟨S4352x512, .f32⟩
  | .hbm, ⟨66, _⟩ => ⟨S4352x1x512, .f32⟩
  | .hbm, ⟨67, _⟩ => ⟨S_, .f32⟩
  | .hbm, ⟨68, _⟩ => ⟨S4352x4x512, .f32⟩
  | .hbm, ⟨69, _⟩ => ⟨S4352x4x512, .f32⟩
  | .hbm, ⟨70, _⟩ => ⟨S4352x512, .f32⟩
  | .hbm, ⟨71, _⟩ => ⟨S4352x512, .f32⟩
  | .hbm, ⟨72, _⟩ => ⟨S4352x512, .f32⟩
  | .hbm, ⟨73, _⟩ => ⟨S4x512, .f32⟩
  | .hbm, ⟨74, _⟩ => ⟨S4348x512, .f32⟩
  | .hbm, ⟨75, _⟩ => ⟨S_, .f32⟩
  | .hbm, ⟨76, _⟩ => ⟨S4352x512, .f32⟩
  | .hbm, ⟨77, _⟩ => ⟨S4352x512, .f32⟩
  | .hbm, ⟨78, _⟩ => ⟨S4352x1x512, .f32⟩
  | .hbm, ⟨79, _⟩ => ⟨S_, .f32⟩
  | .hbm, ⟨80, _⟩ => ⟨S4352x4x512, .f32⟩
  | .hbm, ⟨81, _⟩ => ⟨S4352x4x512, .f32⟩
  | .hbm, ⟨82, _⟩ => ⟨S4352x512, .f32⟩
  | .hbm, ⟨83, _⟩ => ⟨S4352x1x512, .f32⟩
  | .hbm, ⟨84, _⟩ => ⟨S_, .f32⟩
  | .hbm, ⟨85, _⟩ => ⟨S4352x4x512, .f32⟩
  | .hbm, ⟨86, _⟩ => ⟨S4352x4x512, .f32⟩
  | .hbm, ⟨87, _⟩ => ⟨S4352x512, .f32⟩
  | .hbm, ⟨88, _⟩ => ⟨S4352x512, .f32⟩
  | .hbm, ⟨89, _⟩ => ⟨S4352x512, .f32⟩
  | .hbm, ⟨90, _⟩ => ⟨S2x512, .f32⟩
  | .hbm, ⟨91, _⟩ => ⟨S4350x512, .f32⟩
  | .hbm, ⟨92, _⟩ => ⟨S_, .f32⟩
  | .hbm, ⟨93, _⟩ => ⟨S4352x512, .f32⟩
  | .hbm, ⟨94, _⟩ => ⟨S4352x512, .f32⟩
  | .hbm, ⟨95, _⟩ => ⟨S4352x1x512, .f32⟩
  | .hbm, ⟨96, _⟩ => ⟨S_, .f32⟩
  | .hbm, ⟨97, _⟩ => ⟨S4352x4x512, .f32⟩
  | .hbm, ⟨98, _⟩ => ⟨S4352x4x512, .f32⟩
  | .hbm, ⟨99, _⟩ => ⟨S_, .f32⟩
  | .hbm, ⟨100, _⟩ => ⟨S_, .f32⟩
  | .hbm, ⟨101, _⟩ => ⟨S4352x4x512, .f32⟩
  | .hbm, ⟨102, _⟩ => ⟨S4352x4x512, .f32⟩
  | .hbm, ⟨103, _⟩ => ⟨S4352x2048, .f32⟩
  | .hbm, ⟨104, _⟩ => ⟨S4352x2048, .bf16⟩
  | .hbm, ⟨105, _⟩ => ⟨S4352x4096, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_9 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_11 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_12 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_13 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_14 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_15 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_16 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_17 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_18 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_19 : Ref sig .tc := ⟨.hbm, 96, rfl⟩
abbrev main_v74 : Ref sig .tc := ⟨.hbm, 97, rfl⟩
abbrev main_v75 : Ref sig .tc := ⟨.hbm, 98, rfl⟩
abbrev main_call1_call0_cst : Ref sig .tc := ⟨.hbm, 99, rfl⟩
abbrev main_call1_call0_v0 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== AdamwIn.lean ====
abbrev S1024x512 : Shape := ⟨2, ![1024, 512]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RAdamwInIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Loss.lean ====
abbrev S4352x1024 : Shape := ⟨2, ![4352, 1024]⟩
abbrev S1024 : Shape := ⟨1, ![1024]⟩
abbrev S4096x1024 : Shape := ⟨2, ![4096, 1024]⟩
abbrev S_ : Shape := ⟨0, ![]⟩
abbrev S16x1024 : Shape := ⟨2, ![16, 1024]⟩
abbrev S240x1024 : Shape := ⟨2, ![240, 1024]⟩
abbrev S1x1024 : Shape := ⟨2, ![1, 1024]⟩
abbrev S272x1024 : Shape := ⟨2, ![272, 1024]⟩
abbrev S272 : Shape := ⟨1, ![272]⟩
abbrev S272x1 : Shape := ⟨2, ![272, 1]⟩

abbrev nBuf : Space → Nat
  | .hbm => 12
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S16x1024, .f32⟩
  | .hbm, ⟨5, _⟩ => ⟨S_, .f32⟩
  | .hbm, ⟨6, _⟩ => ⟨S240x1024, .f32⟩
  | .hbm, ⟨7, _⟩ => ⟨S4352x1024, .f32⟩
  | .hbm, ⟨8, _⟩ => ⟨S1x1024, .f32⟩
  | .hbm, ⟨9, _⟩ => ⟨S4352x1024, .f32⟩
  | .hbm, ⟨10, _⟩ => ⟨S1x1024, .f32⟩
  | .hbm, ⟨11, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S1x1024, .f32⟩
  | .local _ .vmem, ⟨5, _⟩ => ⟨S272x1024, .f32⟩
  | .local _ .vmem, ⟨6, _⟩ => ⟨S272x1024, .f32⟩
  | .local _ .vmem, ⟨7, _⟩ => ⟨S1x1024, .f32⟩
  | .local _ .vmem, ⟨8, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v60 : BitVec 1 := Scalar.cmpi .eq arg0 c0_i32
  let v61 : BitVec 32 := Scalar.extui v60
  let c0_i32_17 : BitVec 32 := 0#32
  let v62 : BitVec 1 := Scalar.cmpi .ne v61 c0_i32_17
  v62

def k0_cond2 (i : grid0.Coords) : BitVec 1 :=
  let arg0 : BitVec 32 := BitVec.ofNat 32 (i 0).val
  let c0_i32_18 : BitVec 32 := 0#32
  let v63 : BitVec 1 := Scalar.cmpi .sgt arg0 c0_i32_18
  let v64 : BitVec 32 := Scalar.extui v63
  let c0_i32_19 : BitVec 32 := 0#32
  let v65 : BitVec 1 := Scalar.cmpi .ne v64 c0_i32_19
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RLossIdeal.lean ====
abbrev S4352x1024 : Shape := ⟨2, ![4352, 1024]⟩
abbrev S1024 : Shape := ⟨1, ![1024]⟩
abbrev S4096x1024 : Shape := ⟨2, ![4096, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4096 : Shape := ⟨1, ![4096]⟩

abbrev nBuf : Space → Nat
  | .hbm => 78
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S4096x1024, .f32⟩
  | .hbm, ⟨3, _⟩ => ⟨S4352x1024, .f32⟩
  | .hbm, ⟨4, _⟩ => ⟨S_, .f32⟩
  | .hbm, ⟨5, _⟩ => ⟨S4352, .f32⟩
  | .hbm, ⟨6, _⟩ => ⟨S4352x1, .f32⟩
  | .hbm, ⟨7, _⟩ => ⟨S_, .f32⟩
  | .hbm, ⟨8, _⟩ => ⟨S4352x1, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S4352x1024, .f32⟩
  | .hbm, ⟨19, _⟩ => ⟨S4352x1024, .f32⟩
  | .hbm, ⟨20, _⟩ => ⟨S1x1024, .f32⟩
  | .hbm, ⟨21, _⟩ => ⟨S4352x1024, .f32⟩
  | .hbm, ⟨22, _⟩ => ⟨S4352x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4352x1024, .f32⟩
  | .hbm, ⟨49, _⟩ => ⟨S4352x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4352x1024, .f32⟩
  | .hbm, ⟨54, _⟩ => ⟨S4352x1024, .f32⟩
  | .hbm, ⟨55, _⟩ => ⟨S_, .f32⟩
  | .hbm, ⟨56, _⟩ => ⟨S1024, .f32⟩
  | .hbm, ⟨57, _⟩ => ⟨S4352x1024, .f32⟩
  | .hbm, ⟨58, _⟩ => ⟨S_, .f32⟩
  | .hbm, ⟨59, _⟩ => ⟨S4352, .f32⟩
  | .hbm, ⟨60, _⟩ => ⟨S4352x1, .f32⟩
  | .hbm, ⟨61, _⟩ => ⟨S4352x1024, .f32⟩
  | .hbm, ⟨62, _⟩ => ⟨S4352x1024, .f32⟩
  | .hbm, ⟨63, _⟩ => ⟨S4352x1, .f32⟩
  | .hbm, ⟨64, _⟩ => ⟨S_, .f32⟩
  | .hbm, ⟨65, _⟩ => ⟨S4352x1, .f32⟩
  | .hbm, ⟨66, _⟩ => ⟨S4352x1, .f32⟩
  | .hbm, ⟨67, _⟩ => ⟨S_, .f32⟩
  | .hbm, ⟨68, _⟩ => ⟨S4352, .f32⟩
  | .hbm, ⟨69, _⟩ => ⟨S4352x1024, .f32⟩
  | .hbm, ⟨70, _⟩ => ⟨S4352x1024, .f32⟩
  | .hbm, ⟨71, _⟩ => ⟨S4352x1024, .f32⟩
  | .hbm, ⟨72, _⟩ => ⟨S4352x1024, .f32⟩
  | .hbm, ⟨73, _⟩ => ⟨S4352x1024, .f32⟩
  | .hbm, ⟨74, _⟩ => ⟨S1x1024, .f32⟩
  | .hbm, ⟨75, _⟩ => ⟨S_, .f32⟩
  | .hbm, ⟨76, _⟩ => ⟨S1024, .f32⟩
  | .hbm, ⟨77, _⟩ => ⟨S1x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_17 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Proof.Mats.lean ====
/-
  Arrays read at natural numbers: a matrix is a function of its row and its column.
-/
module

public import Idealize.ShloMosaic.PureOps.Ideal
public import Idealize.ShloMosaic.Lib.Pointwise

@[expose] public section

noncomputable section

namespace Cert.Mats

open Idealize.ShloMosaic

/-- A matrix by its row and column. -/
abbrev Mat := ℕ → ℕ → EReal

/-- A two-dimensional array read at natural numbers, zero outside. -/
def at2 {m n : ℕ} (A : (⟨2, ![m, n]⟩ : Shape).Idx → EReal) : Mat := fun r c =>
  if h : r < m ∧ c < n then A (ix2 ⟨r, h.1⟩ ⟨c, h.2⟩) else 0

/-- A one-dimensional array as the matrix of one row. -/
def at1 {n : ℕ} (A : (⟨1, ![n]⟩ : Shape).Idx → EReal) : Mat := fun _ c =>
  if h : c < n then A (ix1 ⟨c, h⟩) else 0

theorem at2_eq {m n : ℕ} (A : (⟨2, ![m, n]⟩ : Shape).Idx → EReal) (r c : ℕ) (hr : r < m) (hc : c < n) :
    at2 A r c = A (ix2 ⟨r, hr⟩ ⟨c, hc⟩) := dif_pos ⟨hr, hc⟩

theorem at1_eq {n : ℕ} (A : (⟨1, ![n]⟩ : Shape).Idx → EReal) (r c : ℕ) (hc : c < n) :
    at1 A r c = A (ix1 ⟨c, hc⟩) := dif_pos hc

/-- An element of an array is the matrix's at its coordinates. -/
theorem of_ix2 {m n : ℕ} (A : (⟨2, ![m, n]⟩ : Shape).Idx → EReal) (r : Fin m) (c : Fin n) :
    A (ix2 r c) = at2 A r.val c.val := (at2_eq A r.val c.val r.isLt c.isLt).symm

theorem of_ix1 {n : ℕ} (A : (⟨1, ![n]⟩ : Shape).Idx → EReal) (c : Fin n) :
    A (ix1 c) = at1 A 0 c.val := (at1_eq A 0 c.val c.isLt).symm

end Cert.Mats

end
-- ==== Proof.Spec.lean ====
/-
  The mathematics of the short convolution's backward pass, in natural-number coordinates.

  A matrix is a function of its row and its column. The layer's input projection `p` holds four column
  groups of 2048: the output gate `bg`, the two factors `cg` and `v` of the convolved product, and `z`, whose
  silu multiplies the layer's output before the last product. Everything below is one row and one column of
  what the layer's gradient needs.
-/
module

public import proofs.«01_k».proof.Proof.Mats

@[expose] public section

noncomputable section

namespace Cert.Conv

open Idealize.ShloMosaic Cert.Mats

/-- The number of rows of the sequence. -/
abbrev rows : ℕ := 4352

/-- The gradient of the layer's output before its last product: `dh` against the rows of `wo`. -/
def dy (dh wo : Mat) (r e : ℕ) : EReal := ∑ k : Fin 1024, dh r k * wo e k

/-- The product that the convolution reads. -/
def hc (p : Mat) (r e : ℕ) : EReal := p r (2048 + e) * p r (4096 + e)

/-- That product `k` rows earlier, zero before the sequence begins. -/
def late (p : Mat) (k r e : ℕ) : EReal := if k ≤ r then hc p (r - k) e else 0

/-- The convolution of three taps, with its offset. -/
def conv (p w b : Mat) (r e : ℕ) : EReal :=
  w 0 e * late p 2 r e + w 1 e * late p 1 r e + w 2 e * hc p r e + b 0 e

/-- The gate's silu. -/
def sz (p : Mat) (r e : ℕ) : EReal := p r (6144 + e) * Ideal.logistic (p r (6144 + e))

/-- The gradient that reaches the convolution's result. -/
def dconv (dh p wo : Mat) (r e : ℕ) : EReal := dy dh wo r e * p r e * sz p r e

/-- That gradient `k` rows later, zero past the sequence's end. -/
def early (dh p wo : Mat) (k r e : ℕ) : EReal := if r + k < rows then dconv dh p wo (r + k) e else 0

/-- The gradient of the convolved product. -/
def dhc (dh p wo w : Mat) (r e : ℕ) : EReal :=
  w 2 e * dconv dh p wo r e + w 1 e * early dh p wo 1 r e + w 0 e * early dh p wo 2 r e

/-- The gradient of the output gate. -/
def dbg (dh p wo w b : Mat) (r e : ℕ) : EReal := dy dh wo r e * conv p w b r e * sz p r e

/-- The gradient of `z`, the silu's derivative in one piece. -/
def dz (dh p wo w b : Mat) (r e : ℕ) : EReal :=
  dy dh wo r e * p r e * conv p w b r e
    * (Ideal.logistic (p r (6144 + e))
      * (1 + p r (6144 + e) * (1 - Ideal.logistic (p r (6144 + e)))))

/-- The gradient of the input projection, its four column groups side by side. -/
def dp (dh p wo w b : Mat) (r c : ℕ) : EReal :=
  if c < 2048 then dbg dh p wo w b r c
  else if c < 4096 then dhc dh p wo w r (c - 2048) * p r (4096 + (c - 2048))
  else if c < 6144 then dhc dh p wo w r (c - 4096) * p r (2048 + (c - 4096))
  else dz dh p wo w b r (c - 6144)

/-- One row's part of the gradient of tap `k`. -/
def dwRow (dh p wo : Mat) (k e r : ℕ) : EReal := dconv dh p wo r e * late p (2 - k) r e

/-- The gradient of tap `k`: the sum over the rows. -/
def dw (dh p wo : Mat) (k e : ℕ) : EReal := ∑ r ∈ Finset.range rows, dwRow dh p wo k e r

/-- The gradient of the offset. -/
def db (dh p wo : Mat) (e : ℕ) : EReal := ∑ r ∈ Finset.range rows, dconv dh p wo r e

theorem late_zero (p : Mat) (r e : ℕ) : late p 0 r e = hc p r e := by simp [late]

end Cert.Conv

end
-- ==== Proof.Block.lean ====
/-
  One grid point of the kernel, read at one row and column.

  The body treats 512 columns at a time. The lemmas take the values that it loads for such a strip as variables,
  with what they are in terms of the whole matrices (`Loads`), and say what each intermediate value of the body is.
-/
module

public import proofs.«01_k».proof.Proof.Gen.KernelIdeal.Skeleton
public import proofs.«01_k».proof.Proof.Spec
public import Idealize.ShloMosaic.Lib.Pointwise
public import Idealize.ShloMosaic.Lib.WordCmp

@[expose] public section

set_option maxRecDepth 16384

noncomputable section

namespace Cert.Conv

open Cert.KernelIdeal Cert.KernelIdeal.Gen Idealize.ShloMosaic Idealize.ShloMosaic.TcCoe Cert.Mats

/-- What the body loads at grid point `t` for the strip of columns beginning at `c0`. The rows above (`cgh`, `vh`)
    are said only where there is a point before, the rows below (`dhn`, `bgn`, `zn`) only where there is one after. -/
structure Loads (dh p wo w b : Mat) (t c0 : ℕ)
    (xdh : Vec Ideal S272x1024 .f32) (xbg xcg xv xz : Vec Ideal S272x512 .f32) (xcgh xvh : Vec Ideal S8x512 .f32)
    (xdhn : Vec Ideal S8x1024 .f32) (xbgn xzn : Vec Ideal S8x512 .f32) (xwo : Vec Ideal S1x512x1024 .bf16)
    (xw : Vec Ideal S3x512 .f32) (xb : Vec Ideal S1x512 .f32) : Prop where
  ht : t < 16
  hdh : ∀ (r : Fin 272) (k : Fin 1024), xdh (ix2 r k) = dh (272 * t + r) k
  hbg : ∀ (r : Fin 272) (c : Fin 512), xbg (ix2 r c) = p (272 * t + r) (c0 + c)
  hcg : ∀ (r : Fin 272) (c : Fin 512), xcg (ix2 r c) = p (272 * t + r) (2048 + (c0 + c))
  hv : ∀ (r : Fin 272) (c : Fin 512), xv (ix2 r c) = p (272 * t + r) (4096 + (c0 + c))
  hz : ∀ (r : Fin 272) (c : Fin 512), xz (ix2 r c) = p (272 * t + r) (6144 + (c0 + c))
  hcgh : 0 < t → ∀ (r : Fin 8) (c : Fin 512), xcgh (ix2 r c) = p (272 * t - 8 + r) (2048 + (c0 + c))
  hvh : 0 < t → ∀ (r : Fin 8) (c : Fin 512), xvh (ix2 r c) = p (272 * t - 8 + r) (4096 + (c0 + c))
  hdhn : t < 15 → ∀ (r : Fin 8) (k : Fin 1024), xdhn (ix2 r k) = dh (272 * t + 272 + r) k
  hbgn : t < 15 → ∀ (r : Fin 8) (c : Fin 512), xbgn (ix2 r c) = p (272 * t + 272 + r) (c0 + c)
  hzn : t < 15 → ∀ (r : Fin 8) (c : Fin 512), xzn (ix2 r c) = p (272 * t + 272 + r) (6144 + (c0 + c))
  hwo : ∀ (c : Fin 512) (k : Fin 1024), xwo (ix3 0 c k) = wo (c0 + c) k
  hw : ∀ (k : Fin 3) (c : Fin 512), xw (ix2 k c) = w k (c0 + c)
  hb : ∀ (c : Fin 512), xb (ix2 0 c) = b 0 (c0 + c)

section
variable {dh p wo w b : Mat} {t c0 : ℕ}
    {xdh : Vec Ideal S272x1024 .f32} {xbg xcg xv xz : Vec Ideal S272x512 .f32} {xcgh xvh : Vec Ideal S8x512 .f32}
    {xdhn : Vec Ideal S8x1024 .f32} {xbgn xzn : Vec Ideal S8x512 .f32} {xwo : Vec Ideal S1x512x1024 .bf16}
    {xw : Vec Ideal S3x512 .f32} {xb : Vec Ideal S1x512 .f32}
    (h : Loads dh p wo w b t c0 xdh xbg xcg xv xz xcgh xvh xdhn xbgn xzn xwo xw xb)
    (i : grid0.Coords) (hi : (i 0).val = t)
include h

theorem pay_dy (r : Fin 272) (c : Fin 512) : k0_pay6 xdh xwo (ix2 r c) = dy dh wo (272 * t + r) (c0 + c) := by
  pointwise [k0_pay6, k0_pay3, k0_pay5]
  simp only [h.hdh, h.hwo, dy]

theorem pay_dyn (hn : t < 15) (r : Fin 8) (c : Fin 512) :
    k0_pay7 xdhn xwo (ix2 r c) = dy dh wo (272 * t + 272 + r) (c0 + c) := by
  pointwise [k0_pay7, k0_pay4, k0_pay5]
  simp only [h.hdhn hn, h.hwo, dy]

theorem pay_hc (r : Fin 272) (c : Fin 512) : k0_pay8 xcg xv (ix2 r c) = hc p (272 * t + r) (c0 + c) := by
  pointwise [k0_pay8]
  simp only [h.hcg, h.hv, hc]

omit h in
/-- The body's test for a point before. -/
theorem sgt_zero {n : ℕ} (hn : n < 16) {α : Type} (x y : α) :
    Scalar.select (Scalar.cmpi CmpIPredicate.sgt (BitVec.ofNat 32 n) 0#32) x y = if 0 < n then x else y := by
  have : ∀ n : Fin 16, Scalar.cmpi CmpIPredicate.sgt (BitVec.ofNat 32 n.val) 0#32 = if 0 < n.val then 1#1 else 0#1 := by decide
  rw [this ⟨n, hn⟩]
  split <;> simp_all [Scalar.select]

omit h in
/-- The body's test for a point after. -/
theorem slt_last {n : ℕ} (hn : n < 16) {α : Type} (x y : α) :
    Scalar.select (Scalar.cmpi CmpIPredicate.slt (BitVec.ofNat 32 n) 15#32) x y = if n < 15 then x else y := by
  have : ∀ n : Fin 16, Scalar.cmpi CmpIPredicate.slt (BitVec.ofNat 32 n.val) 15#32 = if n.val < 15 then 1#1 else 0#1 := by decide
  rw [this ⟨n, hn⟩]
  split <;> simp_all [Scalar.select]

include hi

/-- The rows above and the strip's own rows, at row `j` of the 280: the row eight before. -/
theorem pay_ext (j : Fin 280) (c : Fin 512) :
    k0_pay9 i xcg xv xcgh xvh (ix2 j c) = if 8 ≤ 272 * t + j then hc p (272 * t + j - 8) (c0 + c) else 0 := by
  have ht := h.ht
  pointwise [k0_pay9, k0_pay8]
  rw [hi]
  split
  · rename_i hj
    rw [sgt_zero ht]
    by_cases h0 : 0 < t
    · rw [if_pos h0, if_pos (by omega), h.hcgh h0, h.hvh h0, hc]
      rw [show 272 * t - 8 + (j : ℕ) = 272 * t + j - 8 by omega]
    · rw [if_neg h0, if_neg (by omega)]
  · rename_i hj
    simp only [h.hcg, h.hv]
    rw [if_pos (by omega), hc]
    rw [show 272 * t + ((j : ℕ) - 8) = 272 * t + j - 8 by omega]

theorem pay_late2 (r : Fin 272) (c : Fin 512) :
    k0_pay10 i xcg xv xcgh xvh (ix2 r c) = late p 2 (272 * t + r) (c0 + c) := by
  pointwise [k0_pay10]
  rw [pay_ext h i hi, late]
  have : (8 + (r : ℕ) + 280 - 2) % 280 = r + 6 := by omega
  simp only [this]
  rw [show 272 * t + (r + 6) - 8 = 272 * t + r - 2 by omega]
  exact if_congr (by omega) rfl rfl

theorem pay_late1 (r : Fin 272) (c : Fin 512) :
    k0_pay11 i xcg xv xcgh xvh (ix2 r c) = late p 1 (272 * t + r) (c0 + c) := by
  pointwise [k0_pay11]
  rw [pay_ext h i hi, late]
  have : (8 + (r : ℕ) + 280 - 1) % 280 = r + 7 := by omega
  simp only [this]
  rw [show 272 * t + (r + 7) - 8 = 272 * t + r - 1 by omega]
  exact if_congr (by omega) rfl rfl

theorem pay_conv (r : Fin 272) (c : Fin 512) :
    k0_pay13 xw (k0_pay8 xcg xv) (k0_pay12 i xcg xv xw xcgh xvh) xb (ix2 r c) = conv p w b (272 * t + r) (c0 + c) := by
  pointwise [k0_pay13, k0_pay12]
  rw [pay_late2 h i hi, pay_late1 h i hi, pay_hc h, h.hw, h.hw, h.hw, h.hb, conv]
  rfl

omit hi

theorem pay_sz (r : Fin 272) (c : Fin 512) : k0_pay14 xz (ix2 r c) = sz p (272 * t + r) (c0 + c) := by
  pointwise [k0_pay14]
  rw [h.hz, sz]

theorem pay_dconv (r : Fin 272) (c : Fin 512) :
    k0_pay15 (k0_pay6 xdh xwo) xbg xz (ix2 r c) = dconv dh p wo (272 * t + r) (c0 + c) := by
  pointwise [k0_pay15]
  rw [pay_dy h, pay_sz h, h.hbg, dconv]

theorem pay_dhc (r : Fin 272) (c : Fin 512) :
    k0_pay16 (BitVec.ofNat 32 t) (k0_pay6 xdh xwo) (k0_pay7 xdhn xwo) xbg xz xw xbgn xzn (ix2 r c)
      = dhc dh p wo w (272 * t + r) (c0 + c) := by
  have ht := h.ht
  have e1 : (↑r + 280 - 279) % 280 = (r : ℕ) + 1 := by omega
  have e2 : (↑r + 280 - 278) % 280 = (r : ℕ) + 2 := by omega
  have below : t < 15 → ∀ j : Fin 8, k0_pay7 xdhn xwo (ix2 j c) * xbgn (ix2 j c) * (xzn (ix2 j c) * Ideal.logistic (xzn (ix2 j c)))
      = dconv dh p wo (272 * t + 272 + j) (c0 + c) := by
    intro h15 j
    rw [pay_dyn h h15, h.hbgn h15, h.hzn h15, dconv, sz]
  have step : ∀ (k : ℕ) (hk : k ≤ 2) (a : EReal) (b' : ¬ (r : ℕ) + k < 272 → EReal),
      (a = dconv dh p wo (272 * t + (r + k)) (c0 + c)) →
      (∀ hn, t < 15 → b' hn = dconv dh p wo (272 * t + (r + k)) (c0 + c)) →
      (if hlt : (r : ℕ) + k < 272 then a else if t < 15 then b' hlt else 0) = early dh p wo k (272 * t + r) (c0 + c) := by
    intro k hk a b' ha hb'
    rw [early, Nat.add_assoc]
    split
    · rename_i hlt
      rw [if_pos (by simp only [rows]; omega), ha]
    · rename_i hlt
      split
      · rename_i h15
        rw [if_pos (by simp only [rows]; omega), hb' hlt h15]
      · rw [if_neg (by simp only [rows]; omega)]
  pointwise [k0_pay16]
  simp only [pay_dconv h, h.hw, e1, e2, slt_last ht]
  rw [step 1 (by omega) _ _ rfl ?_, step 2 (by omega) _ _ rfl ?_]
  · rfl
  · intro hn h15
    rw [below h15]
    congr 1
    dsimp only
    omega
  · intro hn h15
    rw [below h15]
    congr 1
    dsimp only
    omega

theorem pay_dbg (hi : (i 0).val = t) (r : Fin 272) (c : Fin 512) :
    k0_pay24 (k0_pay17 (k0_pay6 xdh xwo) xz xw (k0_pay8 xcg xv) (k0_pay12 i xcg xv xw xcgh xvh) xb) (ix2 r c)
      = dbg dh p wo w b (272 * t + r) (c0 + c) := by
  pointwise [k0_pay24, k0_pay17]
  rw [pay_dy h, pay_conv h i hi, pay_sz h, dbg]

theorem pay_dcg (r : Fin 272) (c : Fin 512) :
    k0_pay25 (k0_pay18 (BitVec.ofNat 32 t) (k0_pay6 xdh xwo) (k0_pay7 xdhn xwo) xbg xv xz xw xbgn xzn) (ix2 r c)
      = dhc dh p wo w (272 * t + r) (c0 + c) * p (272 * t + r) (4096 + (c0 + c)) := by
  pointwise [k0_pay25, k0_pay18]
  rw [pay_dhc h, h.hv]

theorem pay_dv (r : Fin 272) (c : Fin 512) :
    k0_pay26 (k0_pay19 (BitVec.ofNat 32 t) (k0_pay6 xdh xwo) (k0_pay7 xdhn xwo) xbg xcg xz xw xbgn xzn) (ix2 r c)
      = dhc dh p wo w (272 * t + r) (c0 + c) * p (272 * t + r) (2048 + (c0 + c)) := by
  pointwise [k0_pay26, k0_pay19]
  rw [pay_dhc h, h.hcg]

theorem pay_dz (hi : (i 0).val = t) (r : Fin 272) (c : Fin 512) :
    k0_pay27 (k0_pay20 (k0_pay6 xdh xwo) xbg xw (k0_pay8 xcg xv) (k0_pay12 i xcg xv xw xcgh xvh) xb)
        (k0_pay21 xz) (k0_pay22 xz) k0_pay23 (ix2 r c)
      = dz dh p wo w b (272 * t + r) (c0 + c) := by
  pointwise [k0_pay27, k0_pay20, k0_pay21, k0_pay22, k0_pay23]
  rw [pay_dy h, pay_conv h i hi, h.hbg, h.hz, dz]

theorem pay_dw (hi : (i 0).val = t) (k : Fin 3) (c : Fin 512) :
    k0_pay28 (k0_pay8 xcg xv) (k0_pay10 i xcg xv xcgh xvh) (k0_pay11 i xcg xv xcgh xvh)
        (k0_pay15 (k0_pay6 xdh xwo) xbg xz) (ix2 k c)
      = ∑ r : Fin 272, dwRow dh p wo k (c0 + c) (272 * t + r) := by
  pointwise [k0_pay28]
  simp only [pay_dconv h, pay_late1 h i hi, pay_late2 h i hi, pay_hc h, dwRow]
  fin_vals k with hk
  all_goals simp only [hk, Nat.reduceSub, Nat.reduceLT, ↓reduceDIte, late_zero]

theorem pay_db (c : Fin 512) :
    k0_pay29 (k0_pay15 (k0_pay6 xdh xwo) xbg xz) (ix2 0 c)
      = ∑ r : Fin 272, dconv dh p wo (272 * t + r) (c0 + c) := by
  pointwise [k0_pay29]
  simp only [pay_dconv h]

end

end Cert.Conv

end
-- ==== Proof.Blocks.lean ====
/-
  What a grid point's staged blocks are in terms of the whole matrices, and the strips of 512 columns that the
  body loads from them.
-/
module

public import proofs.«01_k».proof.Proof.Block
public import Idealize.ShloMosaic.Lib.Pipeline.ValueKit.Tiles

@[expose] public section

set_option maxRecDepth 16384

noncomputable section

namespace Cert.Conv

open Cert.KernelIdeal Cert.KernelIdeal.Gen Idealize.ShloMosaic Idealize.ShloMosaic.TcCoe Cert.Mats

/-- The blocks staged at grid point `t`. The rows above are said only where there is a point before, the rows
    below only where there is one after. -/
structure Blocks (dh p wo w b : Mat) (t : ℕ)
    (x0 : Vec Ideal S272x1024 .f32) (x1 : Vec Ideal S272x8192 .f32) (x2 x3 : Vec Ideal S8x2048 .f32)
    (x4 : Vec Ideal S8x1024 .f32) (x5 x6 : Vec Ideal S8x2048 .f32) (x7 : Vec Ideal S1x2048x1024 .bf16)
    (x8 : Vec Ideal S3x2048 .f32) (x9 : Vec Ideal S1x2048 .f32) : Prop where
  ht : t < 16
  h0 : ∀ (r : Fin 272) (k : Fin 1024), x0 (ix2 r k) = dh (272 * t + r) k
  h1 : ∀ (r : Fin 272) (c : Fin 8192), x1 (ix2 r c) = p (272 * t + r) c
  h2 : 0 < t → ∀ (r : Fin 8) (c : Fin 2048), x2 (ix2 r c) = p (272 * t - 8 + r) (2048 + c)
  h3 : 0 < t → ∀ (r : Fin 8) (c : Fin 2048), x3 (ix2 r c) = p (272 * t - 8 + r) (4096 + c)
  h4 : t < 15 → ∀ (r : Fin 8) (k : Fin 1024), x4 (ix2 r k) = dh (272 * t + 272 + r) k
  h5 : t < 15 → ∀ (r : Fin 8) (c : Fin 2048), x5 (ix2 r c) = p (272 * t + 272 + r) c
  h6 : t < 15 → ∀ (r : Fin 8) (c : Fin 2048), x6 (ix2 r c) = p (272 * t + 272 + r) (6144 + c)
  h7 : ∀ (c : Fin 2048) (k : Fin 1024), x7 (ix3 0 c k) = wo c k
  h8 : ∀ (k : Fin 3) (c : Fin 2048), x8 (ix2 k c) = w k c
  h9 : ∀ (c : Fin 2048), x9 (ix2 0 c) = b 0 c

/-- A load of a part of a matrix, at a row and a column. -/
theorem ld2 {m n m' n' : ℕ} {α : EltTy → Type} {e : EltTy} (X : (⟨2, ![m, n]⟩ : Shape).Idx → α e) (o0 o1 : ℕ)
    (inb : ∀ a, (![o0, o1] : Fin 2 → ℕ) a + (![m', n'] : Fin 2 → ℕ) a ≤ (⟨2, ![m, n]⟩ : Shape).size a)
    (r : Fin m') (c : Fin n') (hr : o0 + r < m) (hc : o1 + c < n) :
    View.ld X (Rect.unit ![o0, o1] ![m', n'] inb) (ix2 r c) = X (ix2 ⟨o0 + r, hr⟩ ⟨o1 + c, hc⟩) :=
  View.ld_unit_apply_of X _ _ inb _ _ (Fin.forall_fin_two.2 ⟨rfl, rfl⟩)

/-- A load of a part of a stack of matrices, at its first member. -/
theorem ld3 {m n m' n' : ℕ} {α : EltTy → Type} {e : EltTy} (X : (⟨3, ![1, m, n]⟩ : Shape).Idx → α e) (o0 o1 : ℕ)
    (inb : ∀ a, (![0, o0, o1] : Fin 3 → ℕ) a + (![1, m', n'] : Fin 3 → ℕ) a ≤ (⟨3, ![1, m, n]⟩ : Shape).size a)
    (r : Fin m') (c : Fin n') (hr : o0 + r < m) (hc : o1 + c < n) :
    View.ld X (Rect.unit ![0, o0, o1] ![1, m', n'] inb) (ix3 0 r c) = X (ix3 0 ⟨o0 + r, hr⟩ ⟨o1 + c, hc⟩) :=
  View.ld_unit_apply_of X _ _ inb _ _ (by intro a; fin_cases a <;> rfl)

variable {dh p wo w b : Mat} {t : ℕ}
    {x0 : Vec Ideal S272x1024 .f32} {x1 : Vec Ideal S272x8192 .f32} {x2 x3 : Vec Ideal S8x2048 .f32}
    {x4 : Vec Ideal S8x1024 .f32} {x5 x6 : Vec Ideal S8x2048 .f32} {x7 : Vec Ideal S1x2048x1024 .bf16}
    {x8 : Vec Ideal S3x2048 .f32} {x9 : Vec Ideal S1x2048 .f32}

/-- The strip of columns beginning at `c0`. -/
theorem Blocks.loads (h : Blocks dh p wo w b t x0 x1 x2 x3 x4 x5 x6 x7 x8 x9) (c0 : ℕ) (hc0 : c0 + 512 ≤ 2048)
    (i0 i1 i2 i3 i4 i5 i6 i7 i8 i9 i10 i11 i12) :
    Loads dh p wo w b t c0 (View.ld x0 (Rect.unit ![0, 0] ![272, 1024] i0))
      (View.ld x1 (Rect.unit ![0, c0] ![272, 512] i1))
      (View.ld x1 (Rect.unit ![0, 2048 + c0] ![272, 512] i2))
      (View.ld x1 (Rect.unit ![0, 4096 + c0] ![272, 512] i3))
      (View.ld x1 (Rect.unit ![0, 6144 + c0] ![272, 512] i4))
      (View.ld x2 (Rect.unit ![0, c0] ![8, 512] i5))
      (View.ld x3 (Rect.unit ![0, c0] ![8, 512] i6))
      (View.ld x4 (Rect.unit ![0, 0] ![8, 1024] i7))
      (View.ld x5 (Rect.unit ![0, c0] ![8, 512] i8))
      (View.ld x6 (Rect.unit ![0, c0] ![8, 512] i9))
      (View.ld x7 (Rect.unit ![0, c0, 0] ![1, 512, 1024] i10))
      (View.ld x8 (Rect.unit ![0, c0] ![3, 512] i11))
      (View.ld x9 (Rect.unit ![0, c0] ![1, 512] i12)) where
  ht := h.ht
  hdh r k := by rw [ld2 x0 0 0 i0 r k (by omega) (by omega), h.h0]; simp
  hbg r c := by rw [ld2 x1 0 c0 i1 r c (by omega) (by omega), h.h1]; simp
  hcg r c := by rw [ld2 x1 0 (2048 + c0) i2 r c (by omega) (by omega), h.h1]; simp [Nat.add_assoc]
  hv r c := by rw [ld2 x1 0 (4096 + c0) i3 r c (by omega) (by omega), h.h1]; simp [Nat.add_assoc]
  hz r c := by rw [ld2 x1 0 (6144 + c0) i4 r c (by omega) (by omega), h.h1]; simp [Nat.add_assoc]
  hcgh ht r c := by rw [ld2 x2 0 c0 i5 r c (by omega) (by omega), h.h2 ht]; simp
  hvh ht r c := by rw [ld2 x3 0 c0 i6 r c (by omega) (by omega), h.h3 ht]; simp
  hdhn ht r c := by rw [ld2 x4 0 0 i7 r c (by omega) (by omega), h.h4 ht]; simp
  hbgn ht r c := by rw [ld2 x5 0 c0 i8 r c (by omega) (by omega), h.h5 ht]; simp
  hzn ht r c := by rw [ld2 x6 0 c0 i9 r c (by omega) (by omega), h.h6 ht]; simp
  hwo r c := by rw [ld3 x7 c0 0 i10 r c (by omega) (by omega), h.h7]; simp
  hw r c := by rw [ld2 x8 0 c0 i11 r c (by omega) (by omega), h.h8]; simp
  hb c := by rw [ld2 x9 0 c0 i12 0 c (by omega) (by omega)]; exact h.h9 _

end Cert.Conv

end
-- ==== Proof.Arrays.lean ====
/-
  The arrays as the region finds them, and the block of each that a grid point stages.
-/
module

public import proofs.«01_k».proof.Proof.Mats
public import proofs.«01_k».proof.Proof.Blocks
public import proofs.«01_k».proof.Proof.Gen.KernelIdeal.Frame
public import Idealize.ShloMosaic.Lib.Pipeline.ValueKit

@[expose] public section

set_option maxRecDepth 16384

noncomputable section

namespace Cert.Conv

open Cert.KernelIdeal Cert.KernelIdeal.Gen Idealize.ShloMosaic Idealize.ShloMosaic.TcCoe Cert.Mats

variable (m : (ℓ : Loc nD τ sig) → Buf (Elt Ideal) ℓ)

/-- The gradient that comes into the call. -/
abbrev Dh (c : Dev nD) : Mat := at2 (m := 4352) (n := 1024) (m ((c : Thread nD τ).loc main_arg4))
/-- The input projection. -/
abbrev Pp (c : Dev nD) : Mat := at2 (m := 4352) (n := 8192) (m ((c : Thread nD τ).loc main_arg0))
/-- The output weights. -/
abbrev Wo (c : Dev nD) : Mat := at2 (m := 2048) (n := 1024) (m ((c : Thread nD τ).loc main_arg3))
/-- The taps. -/
abbrev Ww (c : Dev nD) : Mat := at2 (m := 3) (n := 2048) (m ((c : Thread nD τ).loc main_arg1))
/-- The offset. -/
abbrev Bb (c : Dev nD) : Mat := at1 (n := 2048) (m ((c : Thread nD τ).loc main_arg2))

theorem coord (t : Fin cfg0.N) : (grid0.coords t 0).val = t.val :=
  (by decide +kernel : ∀ t : Fin grid0.N, (grid0.coords t 0).val = t.val) t

theorem idx0 (t : Fin cfg0.N) : win0_0.index t = ![t.val, 0] :=
  (by decide +kernel : ∀ t : Fin grid0.N, win0_0.index t = ![t.val, 0]) t
theorem idx1 (t : Fin cfg0.N) : win0_1.index t = ![t.val, 0] :=
  (by decide +kernel : ∀ t : Fin grid0.N, win0_1.index t = ![t.val, 0]) t
theorem idx2 (t : Fin cfg0.N) : win0_2.index t = ![t.val * 34 - 1, 1] :=
  (by decide +kernel : ∀ t : Fin grid0.N, win0_2.index t = ![t.val * 34 - 1, 1]) t
theorem idx3 (t : Fin cfg0.N) : win0_3.index t = ![t.val * 34 - 1, 2] :=
  (by decide +kernel : ∀ t : Fin grid0.N, win0_3.index t = ![t.val * 34 - 1, 2]) t
theorem idx4 (t : Fin cfg0.N) : win0_4.index t = ![min (t.val * 34 + 34) 543, 0] :=
  (by decide +kernel : ∀ t : Fin grid0.N, win0_4.index t = ![min (t.val * 34 + 34) 543, 0]) t
theorem idx5 (t : Fin cfg0.N) : win0_5.index t = ![min (t.val * 34 + 34) 543, 0] :=
  (by decide +kernel : ∀ t : Fin grid0.N, win0_5.index t = ![min (t.val * 34 + 34) 543, 0]) t
theorem idx6 (t : Fin cfg0.N) : win0_6.index t = ![min (t.val * 34 + 34) 543, 3] :=
  (by decide +kernel : ∀ t : Fin grid0.N, win0_6.index t = ![min (t.val * 34 + 34) 543, 3]) t
theorem idx7 (t : Fin cfg0.N) : win0_7.index t = ![0, 0, 0] :=
  (by decide +kernel : ∀ t : Fin grid0.N, win0_7.index t = ![0, 0, 0]) t
theorem idx8 (t : Fin cfg0.N) : win0_8.index t = ![0, 0] :=
  (by decide +kernel : ∀ t : Fin grid0.N, win0_8.index t = ![0, 0]) t
theorem idx9 (t : Fin cfg0.N) : win0_9.index t = ![0, 0] :=
  (by decide +kernel : ∀ t : Fin grid0.N, win0_9.index t = ![0, 0]) t
theorem idx10 (t : Fin cfg0.N) : win0_10.index t = ![t.val, 0] :=
  (by decide +kernel : ∀ t : Fin grid0.N, win0_10.index t = ![t.val, 0]) t

/-- The blocks staged at a grid point are the parts of the argument arrays that the body's mathematics reads. -/
theorem blocks (c : Dev nD) (t : Fin cfg0.N) :
    Blocks (Dh m c) (Pp m c) (Wo m c) (Ww m c) (Bb m c) t.val (iblk m c 0 t) (iblk m c 1 t) (iblk m c 2 t)
      (iblk m c 3 t) (iblk m c 4 t) (iblk m c 5 t) (iblk m c 6 t) (iblk m c 7 t) (iblk m c 8 t) (iblk m c 9 t) := by
  have ht : t.val < 16 := t.isLt
  refine ⟨ht, ?_, ?_, ?_, ?_, ?_, ?_, ?_, ?_, ?_, ?_⟩
  · intro r k
    refine Eq.trans ?_ (at2_eq _ _ _ (by omega) (by omega)).symm
    blk_ext [iblk, V_main_arg4, idx0]
  · intro r k
    refine Eq.trans ?_ (at2_eq _ _ _ (by omega) (by omega)).symm
    blk_ext [iblk, V_main_arg0, idx1]
  · intro h0 r k
    refine Eq.trans ?_ (at2_eq _ _ _ (by omega) (by omega)).symm
    blk_ext [iblk, V_main_arg0, idx2]
  · intro h0 r k
    refine Eq.trans ?_ (at2_eq _ _ _ (by omega) (by omega)).symm
    blk_ext [iblk, V_main_arg0, idx3]
  · intro h0 r k
    refine Eq.trans ?_ (at2_eq _ _ _ (by omega) (by omega)).symm
    blk_ext [iblk, V_main_arg4, idx4]
  · intro h0 r k
    refine Eq.trans ?_ (at2_eq _ _ _ (by omega) (by omega)).symm
    blk_ext [iblk, V_main_arg0, idx5]
  · intro h0 r k
    refine Eq.trans ?_ (at2_eq _ _ _ (by omega) (by omega)).symm
    blk_ext [iblk, V_main_arg0, idx6]
  · intro r k
    refine Eq.trans ?_ (at2_eq _ _ _ (by omega) (by omega)).symm
    blk_ext! [iblk, idx7]
  · intro r k
    refine Eq.trans ?_ (at2_eq _ _ _ (by omega) (by omega)).symm
    blk_ext [iblk, V_main_arg1, idx8]
  · intro k
    refine Eq.trans ?_ (at1_eq _ _ _ (by omega)).symm
    blk_ext! [iblk, idx9]

end Cert.Conv

end
-- ==== Proof.Strips.lean ====
/-
  One store of the body, read where it lands: the strip's part of each result.
-/
module

public import proofs.«01_k».proof.Proof.Blocks

@[expose] public section

set_option maxRecDepth 16384

noncomputable section

namespace Cert.Conv

open Cert.KernelIdeal Cert.KernelIdeal.Gen Idealize.ShloMosaic Idealize.ShloMosaic.TcCoe Cert.Mats

/-- A store of a part of a matrix that spans its rows: where it holds a row and a column it has the value `v`, if its
    payload has that value at that row and at the column counted from the part's first. -/
theorem tile2 {m n n' : ℕ} {α : EltTy → Type} {e : EltTy} (o : ℕ) (w : (⟨2, ![m, n']⟩ : Shape).Idx → α e) (v : α e)
    (r : Fin m) (c : Fin n) (hv : ∀ c' : Fin n', (c : ℕ) = o + c' → w (ix2 r c') = v) :
    View.TileAt (S := (⟨2, ![m, n]⟩ : Shape)) (ix2 r c) ![0, o] ![m, n'] w v := by
  intro x hx
  have e0 : (r : ℕ) = 0 + (x 0 : ℕ) := hx 0
  have e1 : (c : ℕ) = o + (x 1 : ℕ) := hx 1
  have : x = ix2 r (x 1) := by
    rw [eq_ix2 x]
    congr 1
    exact Fin.ext (by omega)
  rw [this]
  exact hv _ e1

section
variable {dh p wo w b : Mat} {c0 : ℕ}
    {xdh : Vec Ideal S272x1024 .f32} {xbg xcg xv xz : Vec Ideal S272x512 .f32} {xcgh xvh : Vec Ideal S8x512 .f32}
    {xdhn : Vec Ideal S8x1024 .f32} {xbgn xzn : Vec Ideal S8x512 .f32} {xwo : Vec Ideal S1x512x1024 .bf16}
    {xw : Vec Ideal S3x512 .f32} {xb : Vec Ideal S1x512 .f32}
    (i : grid0.Coords)
    (h : Loads dh p wo w b (i 0).val c0 xdh xbg xcg xv xz xcgh xvh xdhn xbgn xzn xwo xw xb) (hc0 : c0 + 512 ≤ 2048)
include h hc0

theorem tile_dbg (r : Fin 272) (c' : Fin 8192) :
    View.TileAt (S := S272x8192) (Val := Elt Ideal) (e := .bf16) (ix2 r c') ![0, c0] ![272, 512]
      (k0_pay24 (k0_pay17 (k0_pay6 xdh xwo) xz xw (k0_pay8 xcg xv) (k0_pay12 i xcg xv xw xcgh xvh) xb))
      (dp dh p wo w b (272 * (i 0).val + r) c') := by
  refine tile2 (α := Elt Ideal) _ _ _ _ _ fun c hc => ?_
  rw [pay_dbg h i rfl, dp, if_pos (by omega), hc]

theorem tile_dcg (r : Fin 272) (c' : Fin 8192) :
    View.TileAt (S := S272x8192) (Val := Elt Ideal) (e := .bf16) (ix2 r c') ![0, 2048 + c0] ![272, 512]
      (k0_pay25 (k0_pay18 (BitVec.ofNat 32 (i 0).val) (k0_pay6 xdh xwo) (k0_pay7 xdhn xwo) xbg xv xz xw xbgn xzn))
      (dp dh p wo w b (272 * (i 0).val + r) c') := by
  refine tile2 (α := Elt Ideal) _ _ _ _ _ fun c hc => ?_
  rw [pay_dcg h, dp, if_neg (by omega), if_pos (by omega), hc, Nat.add_assoc, Nat.add_sub_cancel_left]

theorem tile_dv (r : Fin 272) (c' : Fin 8192) :
    View.TileAt (S := S272x8192) (Val := Elt Ideal) (e := .bf16) (ix2 r c') ![0, 4096 + c0] ![272, 512]
      (k0_pay26 (k0_pay19 (BitVec.ofNat 32 (i 0).val) (k0_pay6 xdh xwo) (k0_pay7 xdhn xwo) xbg xcg xz xw xbgn xzn))
      (dp dh p wo w b (272 * (i 0).val + r) c') := by
  refine tile2 (α := Elt Ideal) _ _ _ _ _ fun c hc => ?_
  rw [pay_dv h, dp, if_neg (by omega), if_neg (by omega), if_pos (by omega), hc, Nat.add_assoc, Nat.add_sub_cancel_left]

theorem tile_dz (r : Fin 272) (c' : Fin 8192) :
    View.TileAt (S := S272x8192) (Val := Elt Ideal) (e := .bf16) (ix2 r c') ![0, 6144 + c0] ![272, 512]
      (k0_pay27 (k0_pay20 (k0_pay6 xdh xwo) xbg xw (k0_pay8 xcg xv) (k0_pay12 i xcg xv xw xcgh xvh) xb)
        (k0_pay21 xz) (k0_pay22 xz) k0_pay23)
      (dp dh p wo w b (272 * (i 0).val + r) c') := by
  refine tile2 (α := Elt Ideal) _ _ _ _ _ fun c hc => ?_
  rw [pay_dz h i rfl, dp, if_neg (by omega), if_neg (by omega), if_neg (by omega), hc, Nat.add_assoc,
    Nat.add_sub_cancel_left]

theorem tile_dw (k : Fin 3) (e : Fin 2048) :
    View.TileAt (S := S3x2048) (Val := Elt Ideal) (e := .f32) (ix2 k e) ![0, c0] ![3, 512]
      (k0_pay28 (k0_pay8 xcg xv) (k0_pay10 i xcg xv xcgh xvh) (k0_pay11 i xcg xv xcgh xvh)
        (k0_pay15 (k0_pay6 xdh xwo) xbg xz))
      (∑ r : Fin 272, dwRow dh p wo k e (272 * (i 0).val + r)) := by
  refine tile2 (α := Elt Ideal) _ _ _ _ _ fun c hc => ?_
  rw [pay_dw h i rfl, hc]

theorem tile_db (e : Fin 2048) :
    View.TileAt (S := S1x2048) (Val := Elt Ideal) (e := .f32) (ix2 0 e) ![0, c0] ![1, 512] (k0_pay29 (k0_pay15 (k0_pay6 xdh xwo) xbg xz))
      (∑ r : Fin 272, dconv dh p wo (272 * (i 0).val + r) e) := by
  refine tile2 (α := Elt Ideal) _ _ _ _ _ fun c hc => ?_
  rw [pay_db h, hc]

theorem tile_dw_add (k : Fin 3) (e : Fin 2048) (xo : Vec Ideal S3x2048 .f32) (inb) :
    View.TileAt (S := S3x2048) (Val := Elt Ideal) (e := .f32) (ix2 k e) ![0, c0] ![3, 512]
      (k0_pay30 (k0_pay8 xcg xv) (k0_pay10 i xcg xv xcgh xvh) (k0_pay11 i xcg xv xcgh xvh)
        (k0_pay15 (k0_pay6 xdh xwo) xbg xz) (View.ld xo (Rect.unit ![0, c0] ![3, 512] inb)))
      (xo (ix2 k e) + ∑ r : Fin 272, dwRow dh p wo k e (272 * (i 0).val + r)) := by
  refine tile2 (α := Elt Ideal) _ _ _ _ _ fun c hc => ?_
  unfold k0_pay30
  dsimp only
  rw [shapeCast_self, addf_apply, pay_dw h i rfl, ld2 xo 0 c0 inb k c (by omega) (by omega), hc]
  congr 2
  idx_ext

theorem tile_db_add (e : Fin 2048) (xo : Vec Ideal S1x2048 .f32) (inb) :
    View.TileAt (S := S1x2048) (Val := Elt Ideal) (e := .f32) (ix2 0 e) ![0, c0] ![1, 512]
      (k0_pay31 (k0_pay15 (k0_pay6 xdh xwo) xbg xz) (View.ld xo (Rect.unit ![0, c0] ![1, 512] inb)))
      (xo (ix2 0 e) + ∑ r : Fin 272, dconv dh p wo (272 * (i 0).val + r) e) := by
  refine tile2 (α := Elt Ideal) _ _ _ _ _ fun c hc => ?_
  unfold k0_pay31
  dsimp only
  rw [shapeCast_self, addf_apply, pay_db h, ld2 xo 0 c0 inb 0 c (by omega) (by omega), hc]
  congr 2
  idx_ext

end

end Cert.Conv

end
-- ==== Proof.Outs.lean ====
/-
  What the body leaves in its three output windows at one grid point: the point's rows of the gradient of the input
  projection, and the running gradients of the taps and of the offset.
-/
module

public import proofs.«01_k».proof.Proof.Strips
public import proofs.«01_k».proof.Proof.Gen.KernelIdeal.Frame

@[expose] public section

set_option maxRecDepth 16384

noncomputable section

namespace Cert.Conv

open Cert.KernelIdeal Cert.KernelIdeal.Gen Idealize.ShloMosaic Idealize.ShloMosaic.TcCoe Cert.Mats

variable {dh p wo w b : Mat}
    {x0 : Vec Ideal S272x1024 .f32} {x1 : Vec Ideal S272x8192 .f32} {x2 x3 : Vec Ideal S8x2048 .f32}
    {x4 : Vec Ideal S8x1024 .f32} {x5 x6 : Vec Ideal S8x2048 .f32} {x7 : Vec Ideal S1x2048x1024 .bf16}
    {x8 : Vec Ideal S3x2048 .f32} {x9 : Vec Ideal S1x2048 .f32}

theorem out_dp_A (c : Dev nD) (i : grid0.Coords)
    (arg1 : Memref sig .tc .vmem S272x1024 .f32) (harg1 : arg1.IsWhole)
    (arg2 : Memref sig .tc .vmem S272x8192 .f32) (harg2 : arg2.IsWhole)
    (arg3 : Memref sig .tc .vmem S8x2048 .f32) (harg3 : arg3.IsWhole)
    (arg4 : Memref sig .tc .vmem S8x2048 .f32) (harg4 : arg4.IsWhole)
    (arg5 : Memref sig .tc .vmem S8x1024 .f32) (harg5 : arg5.IsWhole)
    (arg6 : Memref sig .tc .vmem S8x2048 .f32) (harg6 : arg6.IsWhole)
    (arg7 : Memref sig .tc .vmem S8x2048 .f32) (harg7 : arg7.IsWhole)
    (arg8 : Memref sig .tc .vmem S1x2048x1024 .bf16) (harg8 : arg8.IsWhole)
    (arg9 : Memref sig .tc .vmem S3x2048 .f32) (harg9 : arg9.IsWhole)
    (arg10 : Memref sig .tc .vmem S1x2048 .f32) (harg10 : arg10.IsWhole)
    (arg11 : Memref sig .tc .vmem S272x8192 .bf16) (harg11 : arg11.IsWhole)
    (arg12 : Memref sig .tc .vmem S3x2048 .f32) (harg12 : arg12.IsWhole)
    (arg13 : Memref sig .tc .vmem S1x2048 .f32) (harg13 : arg13.IsWhole)
    (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
    (h : Blocks dh p wo w b (i 0).val x0 x1 x2 x3 x4 x5 x6 x7 x8 x9) (r : Fin 272) (c' : Fin 8192) :
    out0_A_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9 (ix2 r c') = dp dh p wo w b (272 * (i 0).val + r) c' := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9)]
  refine View.canon_eq_of_allAt _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9 _) ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  refine View.allAt_cons_unit _ _ _ _ _ (by have := tile_dz i (Blocks.loads h 1536 (by omega) (by decide) (by decide) (by decide) (by decide) (by decide) (by decide) (by decide) (by decide) (by decide) (by decide) (by decide) (by decide) (by decide)) (by omega) r c'; exact this) ?_
  refine View.allAt_cons_unit _ _ _ _ _ (by have := tile_dv i (Blocks.loads h 1536 (by omega) (by decide) (by decide) (by decide) (by decide) (by decide) (by decide) (by decide) (by decide) (by decide) (by decide) (by decide) (by decide) (by decide)) (by omega) r c'; exact this) ?_
  refine View.allAt_cons_unit _ _ _ _ _ (by have := tile_dcg i (Blocks.loads h 1536 (by omega) (by decide) (by decide) (by decide) (by decide) (by decide) (by decide) (by decide) (by decide) (by decide) (by decide) (by decide) (by decide) (by decide)) (by omega) r c'; exact this) ?_
  refine View.allAt_cons_unit _ _ _ _ _ (by have := tile_dbg i (Blocks.loads h 1536 (by omega) (by decide) (by decide) (by decide) (by decide) (by decide) (by decide) (by decide) (by decide) (by decide) (by decide) (by decide) (by decide) (by decide)) (by omega) r c'; exact this) ?_
  refine View.allAt_cons_unit _ _ _ _ _ (by have := tile_dz i (Blocks.loads h 1024 (by omega) (by decide) (by decide) (by decide) (by decide) (by decide) (by decide) (by decide) (by decide) (by decide) (by decide) (by decide) (by decide) (by decide)) (by omega) r c'; exact this) ?_
  refine View.allAt_cons_unit _ _ _ _ _ (by have := tile_dv i (Blocks.loads h 1024 (by omega) (by decide) (by decide) (by decide) (by decide) (by decide) (by decide) (by decide) (by decide) (by decide) (by decide) (by decide) (by decide) (by decide)) (by omega) r c'; exact this) ?_
  refine View.allAt_cons_unit _ _ _ _ _ (by have := tile_dcg i (Blocks.loads h 1024 (by omega) (by decide) (by decide) (by decide) (by decide) (by decide) (by decide) (by decide) (by decide) (by decide) (by decide) (by decide) (by decide) (by decide)) (by omega) r c'; exact this) ?_
  refine View.allAt_cons_unit _ _ _ _ _ (by have := tile_dbg i (Blocks.loads h 1024 (by omega) (by decide) (by decide) (by decide) (by decide) (by decide) (by decide) (by decide) (by decide) (by decide) (by decide) (by decide) (by decide) (by decide)) (by omega) r c'; exact this) ?_
  refine View.allAt_cons_unit _ _ _ _ _ (by have := tile_dz i (Blocks.loads h 512 (by omega) (by decide) (by decide) (by decide) (by decide) (by decide) (by decide) (by decide) (by decide) (by decide) (by decide) (by decide) (by decide) (by decide)) (by omega) r c'; exact this) ?_
  refine View.allAt_cons_unit _ _ _ _ _ (by have := tile_dv i (Blocks.loads h 512 (by omega) (by decide) (by decide) (by decide) (by decide) (by decide) (by decide) (by decide) (by decide) (by decide) (by decide) (by decide) (by decide) (by decide)) (by omega) r c'; exact this) ?_
  refine View.allAt_cons_unit _ _ _ _ _ (by have := tile_dcg i (Blocks.loads h 512 (by omega) (by decide) (by decide) (by decide) (by decide) (by decide) (by decide) (by decide) (by decide) (by decide) (by decide) (by decide) (by decide) (by decide)) (by omega) r c'; exact this) ?_
  refine View.allAt_cons_unit _ _ _ _ _ (by have := tile_dbg i (Blocks.loads h 512 (by omega) (by decide) (by decide) (by decide) (by decide) (by decide) (by decide) (by decide) (by decide) (by decide) (by decide) (by decide) (by decide) (by decide)) (by omega) r c'; exact this) ?_
  refine View.allAt_cons_unit _ _ _ _ _ (by have := tile_dz i (Blocks.loads h 0 (by omega) (by decide) (by decide) (by decide) (by decide) (by decide) (by decide) (by decide) (by decide) (by decide) (by decide) (by decide) (by decide) (by decide)) (by omega) r c'; exact this) ?_
  refine View.allAt_cons_unit _ _ _ _ _ (by have := tile_dv i (Blocks.loads h 0 (by omega) (by decide) (by decide) (by decide) (by decide) (by decide) (by decide) (by decide) (by decide) (by decide) (by decide) (by decide) (by decide) (by decide)) (by omega) r c'; exact this) ?_
  refine View.allAt_cons_unit _ _ _ _ _ (by have := tile_dcg i (Blocks.loads h 0 (by omega) (by decide) (by decide) (by decide) (by decide) (by decide) (by decide) (by decide) (by decide) (by decide) (by decide) (by decide) (by decide) (by decide)) (by omega) r c'; exact this) ?_
  refine View.allAt_cons_unit _ _ _ _ _ (by have := tile_dbg i (Blocks.loads h 0 (by omega) (by decide) (by decide) (by decide) (by decide) (by decide) (by decide) (by decide) (by decide) (by decide) (by decide) (by decide) (by decide) (by decide)) (by omega) r c'; exact this) ?_
  exact View.allAt_nil _ _

theorem out_dw_A (c : Dev nD) (i : grid0.Coords)
    (arg1 : Memref sig .tc .vmem S272x1024 .f32) (harg1 : arg1.IsWhole)
    (arg2 : Memref sig .tc .vmem S272x8192 .f32) (harg2 : arg2.IsWhole)
    (arg3 : Memref sig .tc .vmem S8x2048 .f32) (harg3 : arg3.IsWhole)
    (arg4 : Memref sig .tc .vmem S8x2048 .f32) (harg4 : arg4.IsWhole)
    (arg5 : Memref sig .tc .vmem S8x1024 .f32) (harg5 : arg5.IsWhole)
    (arg6 : Memref sig .tc .vmem S8x2048 .f32) (harg6 : arg6.IsWhole)
    (arg7 : Memref sig .tc .vmem S8x2048 .f32) (harg7 : arg7.IsWhole)
    (arg8 : Memref sig .tc .vmem S1x2048x1024 .bf16) (harg8 : arg8.IsWhole)
    (arg9 : Memref sig .tc .vmem S3x2048 .f32) (harg9 : arg9.IsWhole)
    (arg10 : Memref sig .tc .vmem S1x2048 .f32) (harg10 : arg10.IsWhole)
    (arg11 : Memref sig .tc .vmem S272x8192 .bf16) (harg11 : arg11.IsWhole)
    (arg12 : Memref sig .tc .vmem S3x2048 .f32) (harg12 : arg12.IsWhole)
    (arg13 : Memref sig .tc .vmem S1x2048 .f32) (harg13 : arg13.IsWhole)
    (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
    (h : Blocks dh p wo w b (i 0).val x0 x1 x2 x3 x4 x5 x6 x7 x8 x9) (k : Fin 3) (e : Fin 2048) :
    out0_A_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9 (ix2 k e) = ∑ r : Fin 272, dwRow dh p wo k e (272 * (i 0).val + r) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9)]
  refine View.canon_eq_of_allAt _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9 _) ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  refine View.allAt_cons_unit _ _ _ _ _ (by have := tile_dw i (Blocks.loads h 1536 (by omega) (by decide) (by decide) (by decide) (by decide) (by decide) (by decide) (by decide) (by decide) (by decide) (by decide) (by decide) (by decide) (by decide)) (by omega) k e; exact this) ?_
  refine View.allAt_cons_unit _ _ _ _ _ (by have := tile_dw i (Blocks.loads h 1024 (by omega) (by decide) (by decide) (by decide) (by decide) (by decide) (by decide) (by decide) (by decide) (by decide) (by decide) (by decide) (by decide) (by decide)) (by omega) k e; exact this) ?_
  refine View.allAt_cons_unit _ _ _ _ _ (by have := tile_dw i (Blocks.loads h 512 (by omega) (by decide) (by decide) (by decide) (by decide) (by decide) (by decide) (by decide) (by decide) (by decide) (by decide) (by decide) (by decide) (by decide)) (by omega) k e; exact this) ?_
  refine View.allAt_cons_unit _ _ _ _ _ (by have := tile_dw i (Blocks.loads h 0 (by omega) (by decide) (by decide) (by decide) (by decide) (by decide) (by decide) (by decide) (by decide) (by decide) (by decide) (by decide) (by decide) (by decide)) (by omega) k e; exact this) ?_
  exact View.allAt_nil _ _

theorem out_db_A (c : Dev nD) (i : grid0.Coords)
    (arg1 : Memref sig .tc .vmem S272x1024 .f32) (harg1 : arg1.IsWhole)
    (arg2 : Memref sig .tc .vmem S272x8192 .f32) (harg2 : arg2.IsWhole)
    (arg3 : Memref sig .tc .vmem S8x2048 .f32) (harg3 : arg3.IsWhole)
    (arg4 : Memref sig .tc .vmem S8x2048 .f32) (harg4 : arg4.IsWhole)
    (arg5 : Memref sig .tc .vmem S8x1024 .f32) (harg5 : arg5.IsWhole)
    (arg6 : Memref sig .tc .vmem S8x2048 .f32) (harg6 : arg6.IsWhole)
    (arg7 : Memref sig .tc .vmem S8x2048 .f32) (harg7 : arg7.IsWhole)
    (arg8 : Memref sig .tc .vmem S1x2048x1024 .bf16) (harg8 : arg8.IsWhole)
    (arg9 : Memref sig .tc .vmem S3x2048 .f32) (harg9 : arg9.IsWhole)
    (arg10 : Memref sig .tc .vmem S1x2048 .f32) (harg10 : arg10.IsWhole)
    (arg11 : Memref sig .tc .vmem S272x8192 .bf16) (harg11 : arg11.IsWhole)
    (arg12 : Memref sig .tc .vmem S3x2048 .f32) (harg12 : arg12.IsWhole)
    (arg13 : Memref sig .tc .vmem S1x2048 .f32) (harg13 : arg13.IsWhole)
    (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
    (h : Blocks dh p wo w b (i 0).val x0 x1 x2 x3 x4 x5 x6 x7 x8 x9) (e : Fin 2048) :
    out0_A_12 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9 (ix2 0 e) = ∑ r : Fin 272, dconv dh p wo (272 * (i 0).val + r) e := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9)]
  refine View.canon_eq_of_allAt _ _ _ (cover0_A_12 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9 _) ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  refine View.allAt_cons_unit _ _ _ _ _ (by have := tile_db i (Blocks.loads h 1536 (by omega) (by decide) (by decide) (by decide) (by decide) (by decide) (by decide) (by decide) (by decide) (by decide) (by decide) (by decide) (by decide) (by decide)) (by omega) e; exact this) ?_
  refine View.allAt_cons_unit _ _ _ _ _ (by have := tile_db i (Blocks.loads h 1024 (by omega) (by decide) (by decide) (by decide) (by decide) (by decide) (by decide) (by decide) (by decide) (by decide) (by decide) (by decide) (by decide) (by decide)) (by omega) e; exact this) ?_
  refine View.allAt_cons_unit _ _ _ _ _ (by have := tile_db i (Blocks.loads h 512 (by omega) (by decide) (by decide) (by decide) (by decide) (by decide) (by decide) (by decide) (by decide) (by decide) (by decide) (by decide) (by decide) (by decide)) (by omega) e; exact this) ?_
  refine View.allAt_cons_unit _ _ _ _ _ (by have := tile_db i (Blocks.loads h 0 (by omega) (by decide) (by decide) (by decide) (by decide) (by decide) (by decide) (by decide) (by decide) (by decide) (by decide) (by decide) (by decide) (by decide)) (by omega) e; exact this) ?_
  exact View.allAt_nil _ _

theorem out_dp_B (c : Dev nD) (i : grid0.Coords)
    (arg1 : Memref sig .tc .vmem S272x1024 .f32) (harg1 : arg1.IsWhole)
    (arg2 : Memref sig .tc .vmem S272x8192 .f32) (harg2 : arg2.IsWhole)
    (arg3 : Memref sig .tc .vmem S8x2048 .f32) (harg3 : arg3.IsWhole)
    (arg4 : Memref sig .tc .vmem S8x2048 .f32) (harg4 : arg4.IsWhole)
    (arg5 : Memref sig .tc .vmem S8x1024 .f32) (harg5 : arg5.IsWhole)
    (arg6 : Memref sig .tc .vmem S8x2048 .f32) (harg6 : arg6.IsWhole)
    (arg7 : Memref sig .tc .vmem S8x2048 .f32) (harg7 : arg7.IsWhole)
    (arg8 : Memref sig .tc .vmem S1x2048x1024 .bf16) (harg8 : arg8.IsWhole)
    (arg9 : Memref sig .tc .vmem S3x2048 .f32) (harg9 : arg9.IsWhole)
    (arg10 : Memref sig .tc .vmem S1x2048 .f32) (harg10 : arg10.IsWhole)
    (arg11 : Memref sig .tc .vmem S272x8192 .bf16) (harg11 : arg11.IsWhole)
    (arg12 : Memref sig .tc .vmem S3x2048 .f32) (harg12 : arg12.IsWhole)
    (arg13 : Memref sig .tc .vmem S1x2048 .f32) (harg13 : arg13.IsWhole)
    (hc0 : ¬cond0_0 i) (hc1 : cond0_1 i) (hc2 : ¬cond0_2 i) (hc3 : cond0_3 i) (hc4 : ¬cond0_4 i) (hc5 : cond0_5 i) (hc6 : ¬cond0_6 i) (hc7 : cond0_7 i)
    (xo11 : Vec Ideal S3x2048 .f32) (xo12 : Vec Ideal S1x2048 .f32)
    (h : Blocks dh p wo w b (i 0).val x0 x1 x2 x3 x4 x5 x6 x7 x8 x9) (r : Fin 272) (c' : Fin 8192) :
    out0_B_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9 xo11 xo12 (ix2 r c') = dp dh p wo w b (272 * (i 0).val + r) c' := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9 xo11 xo12)]
  refine View.canon_eq_of_allAt _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9 xo11 xo12 _) ?_
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  refine View.allAt_cons_unit _ _ _ _ _ (by have := tile_dz i (Blocks.loads h 1536 (by omega) (by decide) (by decide) (by decide) (by decide) (by decide) (by decide) (by decide) (by decide) (by decide) (by decide) (by decide) (by decide) (by decide)) (by omega) r c'; exact this) ?_
  refine View.allAt_cons_unit _ _ _ _ _ (by have := tile_dv i (Blocks.loads h 1536 (by omega) (by decide) (by decide) (by decide) (by decide) (by decide) (by decide) (by decide) (by decide) (by decide) (by decide) (by decide) (by decide) (by decide)) (by omega) r c'; exact this) ?_
  refine View.allAt_cons_unit _ _ _ _ _ (by have := tile_dcg i (Blocks.loads h 1536 (by omega) (by decide) (by decide) (by decide) (by decide) (by decide) (by decide) (by decide) (by decide) (by decide) (by decide) (by decide) (by decide) (by decide)) (by omega) r c'; exact this) ?_
  refine View.allAt_cons_unit _ _ _ _ _ (by have := tile_dbg i (Blocks.loads h 1536 (by omega) (by decide) (by decide) (by decide) (by decide) (by decide) (by decide) (by decide) (by decide) (by decide) (by decide) (by decide) (by decide) (by decide)) (by omega) r c'; exact this) ?_
  refine View.allAt_cons_unit _ _ _ _ _ (by have := tile_dz i (Blocks.loads h 1024 (by omega) (by decide) (by decide) (by decide) (by decide) (by decide) (by decide) (by decide) (by decide) (by decide) (by decide) (by decide) (by decide) (by decide)) (by omega) r c'; exact this) ?_
  refine View.allAt_cons_unit _ _ _ _ _ (by have := tile_dv i (Blocks.loads h 1024 (by omega) (by decide) (by decide) (by decide) (by decide) (by decide) (by decide) (by decide) (by decide) (by decide) (by decide) (by decide) (by decide) (by decide)) (by omega) r c'; exact this) ?_
  refine View.allAt_cons_unit _ _ _ _ _ (by have := tile_dcg i (Blocks.loads h 1024 (by omega) (by decide) (by decide) (by decide) (by decide) (by decide) (by decide) (by decide) (by decide) (by decide) (by decide) (by decide) (by decide) (by decide)) (by omega) r c'; exact this) ?_
  refine View.allAt_cons_unit _ _ _ _ _ (by have := tile_dbg i (Blocks.loads h 1024 (by omega) (by decide) (by decide) (by decide) (by decide) (by decide) (by decide) (by decide) (by decide) (by decide) (by decide) (by decide) (by decide) (by decide)) (by omega) r c'; exact this) ?_
  refine View.allAt_cons_unit _ _ _ _ _ (by have := tile_dz i (Blocks.loads h 512 (by omega) (by decide) (by decide) (by decide) (by decide) (by decide) (by decide) (by decide) (by decide) (by decide) (by decide) (by decide) (by decide) (by decide)) (by omega) r c'; exact this) ?_
  refine View.allAt_cons_unit _ _ _ _ _ (by have := tile_dv i (Blocks.loads h 512 (by omega) (by decide) (by decide) (by decide) (by decide) (by decide) (by decide) (by decide) (by decide) (by decide) (by decide) (by decide) (by decide) (by decide)) (by omega) r c'; exact this) ?_
  refine View.allAt_cons_unit _ _ _ _ _ (by have := tile_dcg i (Blocks.loads h 512 (by omega) (by decide) (by decide) (by decide) (by decide) (by decide) (by decide) (by decide) (by decide) (by decide) (by decide) (by decide) (by decide) (by decide)) (by omega) r c'; exact this) ?_
  refine View.allAt_cons_unit _ _ _ _ _ (by have := tile_dbg i (Blocks.loads h 512 (by omega) (by decide) (by decide) (by decide) (by decide) (by decide) (by decide) (by decide) (by decide) (by decide) (by decide) (by decide) (by decide) (by decide)) (by omega) r c'; exact this) ?_
  refine View.allAt_cons_unit _ _ _ _ _ (by have := tile_dz i (Blocks.loads h 0 (by omega) (by decide) (by decide) (by decide) (by decide) (by decide) (by decide) (by decide) (by decide) (by decide) (by decide) (by decide) (by decide) (by decide)) (by omega) r c'; exact this) ?_
  refine View.allAt_cons_unit _ _ _ _ _ (by have := tile_dv i (Blocks.loads h 0 (by omega) (by decide) (by decide) (by decide) (by decide) (by decide) (by decide) (by decide) (by decide) (by decide) (by decide) (by decide) (by decide) (by decide)) (by omega) r c'; exact this) ?_
  refine View.allAt_cons_unit _ _ _ _ _ (by have := tile_dcg i (Blocks.loads h 0 (by omega) (by decide) (by decide) (by decide) (by decide) (by decide) (by decide) (by decide) (by decide) (by decide) (by decide) (by decide) (by decide) (by decide)) (by omega) r c'; exact this) ?_
  refine View.allAt_cons_unit _ _ _ _ _ (by have := tile_dbg i (Blocks.loads h 0 (by omega) (by decide) (by decide) (by decide) (by decide) (by decide) (by decide) (by decide) (by decide) (by decide) (by decide) (by decide) (by decide) (by decide)) (by omega) r c'; exact this) ?_
  exact View.allAt_nil _ _

theorem out_dw_B (c : Dev nD) (i : grid0.Coords)
    (arg1 : Memref sig .tc .vmem S272x1024 .f32) (harg1 : arg1.IsWhole)
    (arg2 : Memref sig .tc .vmem S272x8192 .f32) (harg2 : arg2.IsWhole)
    (arg3 : Memref sig .tc .vmem S8x2048 .f32) (harg3 : arg3.IsWhole)
    (arg4 : Memref sig .tc .vmem S8x2048 .f32) (harg4 : arg4.IsWhole)
    (arg5 : Memref sig .tc .vmem S8x1024 .f32) (harg5 : arg5.IsWhole)
    (arg6 : Memref sig .tc .vmem S8x2048 .f32) (harg6 : arg6.IsWhole)
    (arg7 : Memref sig .tc .vmem S8x2048 .f32) (harg7 : arg7.IsWhole)
    (arg8 : Memref sig .tc .vmem S1x2048x1024 .bf16) (harg8 : arg8.IsWhole)
    (arg9 : Memref sig .tc .vmem S3x2048 .f32) (harg9 : arg9.IsWhole)
    (arg10 : Memref sig .tc .vmem S1x2048 .f32) (harg10 : arg10.IsWhole)
    (arg11 : Memref sig .tc .vmem S272x8192 .bf16) (harg11 : arg11.IsWhole)
    (arg12 : Memref sig .tc .vmem S3x2048 .f32) (harg12 : arg12.IsWhole)
    (arg13 : Memref sig .tc .vmem S1x2048 .f32) (harg13 : arg13.IsWhole)
    (hc0 : ¬cond0_0 i) (hc1 : cond0_1 i) (hc2 : ¬cond0_2 i) (hc3 : cond0_3 i) (hc4 : ¬cond0_4 i) (hc5 : cond0_5 i) (hc6 : ¬cond0_6 i) (hc7 : cond0_7 i)
    (xo11 : Vec Ideal S3x2048 .f32) (xo12 : Vec Ideal S1x2048 .f32)
    (h : Blocks dh p wo w b (i 0).val x0 x1 x2 x3 x4 x5 x6 x7 x8 x9) (k : Fin 3) (e : Fin 2048) :
    out0_B_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9 xo11 xo12 (ix2 k e) = xo11 (ix2 k e) + ∑ r : Fin 272, dwRow dh p wo k e (272 * (i 0).val + r) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9 xo11 xo12)]
  refine View.canon_eq_of_allAt _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9 xo11 xo12 _) ?_
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  refine View.allAt_cons_unit _ _ _ _ _ (by have := tile_dw_add i (Blocks.loads h 1536 (by omega) (by decide) (by decide) (by decide) (by decide) (by decide) (by decide) (by decide) (by decide) (by decide) (by decide) (by decide) (by decide) (by decide)) (by omega) k e xo11 (by decide); exact this) ?_
  refine View.allAt_cons_unit _ _ _ _ _ (by have := tile_dw_add i (Blocks.loads h 1024 (by omega) (by decide) (by decide) (by decide) (by decide) (by decide) (by decide) (by decide) (by decide) (by decide) (by decide) (by decide) (by decide) (by decide)) (by omega) k e xo11 (by decide); exact this) ?_
  refine View.allAt_cons_unit _ _ _ _ _ (by have := tile_dw_add i (Blocks.loads h 512 (by omega) (by decide) (by decide) (by decide) (by decide) (by decide) (by decide) (by decide) (by decide) (by decide) (by decide) (by decide) (by decide) (by decide)) (by omega) k e xo11 (by decide); exact this) ?_
  refine View.allAt_cons_unit _ _ _ _ _ (by have := tile_dw_add i (Blocks.loads h 0 (by omega) (by decide) (by decide) (by decide) (by decide) (by decide) (by decide) (by decide) (by decide) (by decide) (by decide) (by decide) (by decide) (by decide)) (by omega) k e xo11 (by decide); exact this) ?_
  exact View.allAt_nil _ _

theorem out_db_B (c : Dev nD) (i : grid0.Coords)
    (arg1 : Memref sig .tc .vmem S272x1024 .f32) (harg1 : arg1.IsWhole)
    (arg2 : Memref sig .tc .vmem S272x8192 .f32) (harg2 : arg2.IsWhole)
    (arg3 : Memref sig .tc .vmem S8x2048 .f32) (harg3 : arg3.IsWhole)
    (arg4 : Memref sig .tc .vmem S8x2048 .f32) (harg4 : arg4.IsWhole)
    (arg5 : Memref sig .tc .vmem S8x1024 .f32) (harg5 : arg5.IsWhole)
    (arg6 : Memref sig .tc .vmem S8x2048 .f32) (harg6 : arg6.IsWhole)
    (arg7 : Memref sig .tc .vmem S8x2048 .f32) (harg7 : arg7.IsWhole)
    (arg8 : Memref sig .tc .vmem S1x2048x1024 .bf16) (harg8 : arg8.IsWhole)
    (arg9 : Memref sig .tc .vmem S3x2048 .f32) (harg9 : arg9.IsWhole)
    (arg10 : Memref sig .tc .vmem S1x2048 .f32) (harg10 : arg10.IsWhole)
    (arg11 : Memref sig .tc .vmem S272x8192 .bf16) (harg11 : arg11.IsWhole)
    (arg12 : Memref sig .tc .vmem S3x2048 .f32) (harg12 : arg12.IsWhole)
    (arg13 : Memref sig .tc .vmem S1x2048 .f32) (harg13 : arg13.IsWhole)
    (hc0 : ¬cond0_0 i) (hc1 : cond0_1 i) (hc2 : ¬cond0_2 i) (hc3 : cond0_3 i) (hc4 : ¬cond0_4 i) (hc5 : cond0_5 i) (hc6 : ¬cond0_6 i) (hc7 : cond0_7 i)
    (xo11 : Vec Ideal S3x2048 .f32) (xo12 : Vec Ideal S1x2048 .f32)
    (h : Blocks dh p wo w b (i 0).val x0 x1 x2 x3 x4 x5 x6 x7 x8 x9) (e : Fin 2048) :
    out0_B_12 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9 xo11 xo12 (ix2 0 e) = xo12 (ix2 0 e) + ∑ r : Fin 272, dconv dh p wo (272 * (i 0).val + r) e := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9 xo11 xo12)]
  refine View.canon_eq_of_allAt _ _ _ (cover0_B_12 c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 x9 xo11 xo12 _) ?_
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  refine View.allAt_cons_unit _ _ _ _ _ (by have := tile_db_add i (Blocks.loads h 1536 (by omega) (by decide) (by decide) (by decide) (by decide) (by decide) (by decide) (by decide) (by decide) (by decide) (by decide) (by decide) (by decide) (by decide)) (by omega) e xo12 (by decide); exact this) ?_
  refine View.allAt_cons_unit _ _ _ _ _ (by have := tile_db_add i (Blocks.loads h 1024 (by omega) (by decide) (by decide) (by decide) (by decide) (by decide) (by decide) (by decide) (by decide) (by decide) (by decide) (by decide) (by decide) (by decide)) (by omega) e xo12 (by decide); exact this) ?_
  refine View.allAt_cons_unit _ _ _ _ _ (by have := tile_db_add i (Blocks.loads h 512 (by omega) (by decide) (by decide) (by decide) (by decide) (by decide) (by decide) (by decide) (by decide) (by decide) (by decide) (by decide) (by decide) (by decide)) (by omega) e xo12 (by decide); exact this) ?_
  refine View.allAt_cons_unit _ _ _ _ _ (by have := tile_db_add i (Blocks.loads h 0 (by omega) (by decide) (by decide) (by decide) (by decide) (by decide) (by decide) (by decide) (by decide) (by decide) (by decide) (by decide) (by decide) (by decide)) (by omega) e xo12 (by decide); exact this) ?_
  exact View.allAt_nil _ _

end Cert.Conv

end
-- ==== Proof.Finals.lean ====
/-
  The three result arrays after the run, element by element.
-/
module

public import proofs.«01_k».proof.Proof.Arrays
public import proofs.«01_k».proof.Proof.Outs
public import proofs.«01_k».proof.Proof.Gen.KernelIdeal.Value

@[expose] public section

set_option maxRecDepth 16384

noncomputable section

namespace Cert.Conv

open Cert.KernelIdeal Cert.KernelIdeal.Gen Idealize.ShloMosaic Idealize.ShloMosaic.TcCoe Cert.Mats

variable (m : (ℓ : Loc nD τ sig) → Buf (Elt Ideal) ℓ)

/-- The same blocks, the point named by its grid coordinate. -/
theorem blocks' (c : Dev nD) (t : Fin cfg0.N) :
    Blocks (Dh m c) (Pp m c) (Wo m c) (Ww m c) (Bb m c) (grid0.coords t 0).val (iblk m c 0 t) (iblk m c 1 t)
      (iblk m c 2 t) (iblk m c 3 t) (iblk m c 4 t) (iblk m c 5 t) (iblk m c 6 t) (iblk m c 7 t) (iblk m c 8 t)
      (iblk m c 9 t) := by rw [coord]; exact blocks m c t

/-- A point's rows of the gradient of the input projection. -/
theorem left_dp (c : Dev nD) (t : Fin cfg0.N) (r : Fin 272) (e : Fin 8192) :
    (outsAt0 m c t.val t.isLt).1 (ix2 r e)
      = dp (Dh m c) (Pp m c) (Wo m c) (Ww m c) (Bb m c) (272 * t.val + r) e := by
  have ht : t.val < 16 := t.isLt
  by_cases h : t.val = 0
  · rw [outsAt0_A m c t (by omega) (by omega) (by omega) (by omega) (by omega) (by omega) (by omega) (by omega)]
    dsimp only
    rw [out_dp_A c (grid0.coords t) _ _ _ _ _ _ _ _ _ _ _ _ _ _ _ _ _ _ _ _ _ _ _ _ _ _ _ _ _ _ _ _ _ _ (blocks' m c t)]
    rw [coord]
  · rw [outsAt0_B m c t (by omega) (by omega) (by omega) (by omega) (by omega) (by omega) (by omega) (by omega)]
    dsimp only
    rw [out_dp_B c (grid0.coords t) _ _ _ _ _ _ _ _ _ _ _ _ _ _ _ _ _ _ _ _ _ _ _ _ _ _ _ _ _ _ _ _ _ _ _ _ (blocks' m c t)]
    rw [coord]

/-- What stands in the taps' window after point `n`: the sum over the rows so far. -/
theorem left_dw (c : Dev nD) (k : Fin 3) (e : Fin 2048) : ∀ (n : ℕ) (h : n < cfg0.N),
    (outsAt0 m c n h).2.1 (ix2 k e)
      = ∑ r ∈ Finset.range (272 * (n + 1)), dwRow (Dh m c) (Pp m c) (Wo m c) k e r
  | 0, h => by
    have hA := outsAt0_A m c ⟨0, h⟩ rfl (by simp) rfl (by simp) rfl (by simp) rfl (by simp)
    dsimp only at hA
    rw [hA]
    dsimp only
    rw [out_dw_A c (grid0.coords ⟨0, h⟩) _ _ _ _ _ _ _ _ _ _ _ _ _ _ _ _ _ _ _ _ _ _ _ _ _ _ _ _ _ _ _ _ _ _ (blocks' m c ⟨0, h⟩)]
    rw [coord, Finset.sum_range]
    simp
  | n + 1, h => by
    have hN : n + 1 < 16 := h
    have hB := outsAt0_B m c ⟨n + 1, h⟩ (by simp only []; omega) (by simp only []; omega) (by simp only []; omega)
      (by simp only []; omega) (by simp only []; omega) (by simp only []; omega) (by simp only []; omega)
      (by simp only []; omega)
    dsimp only at hB
    rw [hB]
    dsimp only
    rw [out_dw_B c (grid0.coords ⟨n + 1, h⟩) _ _ _ _ _ _ _ _ _ _ _ _ _ _ _ _ _ _ _ _ _ _ _ _ _ _ _ _ _ _ _ _ _ _ _ _ (blocks' m c ⟨n + 1, h⟩)]
    rw [coord, show 272 * (n + 1 + 1) = 272 * (n + 1) + 272 by omega, Finset.sum_range_add,
      ← left_dw c k e n (by omega), Finset.sum_range (n := 272)]
    rfl

/-- What stands in the offset's window after point `n`. -/
theorem left_db (c : Dev nD) (e : Fin 2048) : ∀ (n : ℕ) (h : n < cfg0.N),
    (outsAt0 m c n h).2.2 (ix2 0 e)
      = ∑ r ∈ Finset.range (272 * (n + 1)), dconv (Dh m c) (Pp m c) (Wo m c) r e
  | 0, h => by
    have hA := outsAt0_A m c ⟨0, h⟩ rfl (by simp) rfl (by simp) rfl (by simp) rfl (by simp)
    dsimp only at hA
    rw [hA]
    dsimp only
    rw [out_db_A c (grid0.coords ⟨0, h⟩) _ _ _ _ _ _ _ _ _ _ _ _ _ _ _ _ _ _ _ _ _ _ _ _ _ _ _ _ _ _ _ _ _ _ (blocks' m c ⟨0, h⟩)]
    rw [coord, Finset.sum_range]
    simp
  | n + 1, h => by
    have hN : n + 1 < 16 := h
    have hB := outsAt0_B m c ⟨n + 1, h⟩ (by simp only []; omega) (by simp only []; omega) (by simp only []; omega)
      (by simp only []; omega) (by simp only []; omega) (by simp only []; omega) (by simp only []; omega)
      (by simp only []; omega)
    dsimp only at hB
    rw [hB]
    dsimp only
    rw [out_db_B c (grid0.coords ⟨n + 1, h⟩) _ _ _ _ _ _ _ _ _ _ _ _ _ _ _ _ _ _ _ _ _ _ _ _ _ _ _ _ _ _ _ _ _ _ _ _ (blocks' m c ⟨n + 1, h⟩)]
    rw [coord, show 272 * (n + 1 + 1) = 272 * (n + 1) + 272 by omega, Finset.sum_range_add,
      ← left_db c e n (by omega), Finset.sum_range (n := 272)]
    rfl

/-- The gradient of the input projection after the run. -/
theorem final_dp (c : Dev nD) : (dats m 0 c).arrAt 10 cfg0.N
    = (fun j => dp (Dh m c) (Pp m c) (Wo m c) (Ww m c) (Bb m c) (j 0).val (j 1).val : S4352x8192.Idx → EReal) := by
  refine (dats m 0 c).arrAt_eq_of_covers 10 _ (by decide +kernel) fun t hf y => ?_
  blk_simp
  rw [after0_10, show y = ix2 (y 0) (y 1) from by idx_ext]
  refine (left_dp m c t (y 0) (y 1)).trans ?_
  blk_simp [idx10]
  simp [Nat.mul_comm]

/-- The gradient of the taps after the run. -/
theorem final_dw (c : Dev nD) : (dats m 0 c).arrAt 11 cfg0.N
    = (fun j => dw (Dh m c) (Pp m c) (Wo m c) (j 0).val (j 1).val : S3x2048.Idx → EReal) := by
  refine (dats m 0 c).arrAt_eq_of_after_last 11 t0_15 (by decide +kernel) _ fun j => ?_
  blk_simp
  rw [after0_11, show j = ix2 (j 0) (j 1) from by idx_ext]
  exact left_dw m c (j 0) (j 1) 15 t0_15.isLt

/-- The gradient of the offset after the run. -/
theorem final_db (c : Dev nD) : (dats m 0 c).arrAt 12 cfg0.N
    = (fun j => db (Dh m c) (Pp m c) (Wo m c) (j 1).val : S1x2048.Idx → EReal) := by
  refine (dats m 0 c).arrAt_eq_of_after_last 12 t0_15 (by decide +kernel) _ fun j => ?_
  blk_simp
  rw [after0_12, show j = ix2 0 (j 1) from by idx_ext]
  exact left_db m c (j 1) 15 t0_15.isLt

end Cert.Conv

end
-- ==== Proof.Reals.lean ====
/-
  Extended reals that are real numbers: closure under the operations the gradients use.
-/
module

public import proofs.«01_k».proof.Proof.Mats

@[expose] public section

noncomputable section

namespace Cert.Mats

open Idealize.ShloMosaic

/-- The extended real is a real number. -/
def IsR (x : EReal) : Prop := ∃ y : ℝ, x = (y : EReal)

theorem IsR.coe (y : ℝ) : IsR (y : EReal) := ⟨y, rfl⟩
theorem IsR.zero : IsR 0 := ⟨0, by simp⟩
theorem IsR.one : IsR 1 := ⟨1, by simp⟩

theorem IsR.add {x y : EReal} (hx : IsR x) (hy : IsR y) : IsR (x + y) := by
  obtain ⟨a, rfl⟩ := hx
  obtain ⟨b, rfl⟩ := hy
  exact ⟨a + b, by push_cast; rfl⟩

theorem IsR.mul {x y : EReal} (hx : IsR x) (hy : IsR y) : IsR (x * y) := by
  obtain ⟨a, rfl⟩ := hx
  obtain ⟨b, rfl⟩ := hy
  exact ⟨a * b, by push_cast; rfl⟩

theorem IsR.sum {ι : Type} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

theorem IsR.logistic {x : EReal} (hx : IsR x) : IsR (Ideal.logistic x) := by
  obtain ⟨a, rfl⟩ := hx
  exact ⟨_, Ideal.logistic_coe a⟩

/-- A number whose magnitude is below the infinite one is real. -/
theorem IsR.of_abs_lt {x : EReal} (h : max x (-x) < ⊤) : IsR x := by
  induction x with
  | bot => simp at h
  | top => simp at h
  | coe a => exact ⟨a, rfl⟩

/-- The derivative of the silu, in one piece and in two. -/
theorem silu_grad {ct z s : EReal} (hct : IsR ct) (hz : IsR z) (hs : IsR s) :
    ct * s + z * ct * (s * (1 - s)) = ct * (s * (1 + z * (1 - s))) := by
  obtain ⟨c, rfl⟩ := hct
  obtain ⟨a, rfl⟩ := hz
  obtain ⟨b, rfl⟩ := hs
  norm_cast
  congr 1
  ring

theorem at2_isR {m n : ℕ} {A : (⟨2, ![m, n]⟩ : Shape).Idx → EReal} (h : ∀ i, IsR (A i)) (r c : ℕ) : IsR (at2 A r c) := by
  unfold at2
  split
  · exact h _
  · exact IsR.zero

theorem at1_isR {n : ℕ} {A : (⟨1, ![n]⟩ : Shape).Idx → EReal} (h : ∀ i, IsR (A i)) (r c : ℕ) : IsR (at1 A r c) := by
  unfold at1
  split
  · exact h _
  · exact IsR.zero

end Cert.Mats

end
-- ==== Proof.RefA.lean ====
/-
  The reference's stages at a row and a column: the forward values and the gradients up to the convolution's result.
-/
module

public import proofs.«01_k».proof.Proof.Spec
public import proofs.«01_k».proof.Proof.Reals
public import proofs.«01_k».proof.Proof.Gen.ReferenceIdeal.Read

@[expose] public section

set_option maxRecDepth 16384

noncomputable section

namespace Cert.Conv.Ref

open Cert.ReferenceIdeal Cert.ReferenceIdeal.Read Idealize.ShloMosaic Cert.Mats

variable (x0 : FVec Ideal S4352x8192 .f32) (x1 : FVec Ideal S3x2048 .f32) (x2 : FVec Ideal S2048 .f32)
  (x3 : FVec Ideal S2048x1024 .f32) (x4 : FVec Ideal S4352x1024 .f32)

theorem hc_at (r : Fin 4352) (e : Fin 2048) : val_main_v4 (F := Ideal) x0 (ix2 r e) = hc (at2 x0) r e := by
  pointwise [val_main_v4, val_main_v1, val_main_v2]
  simp only [of_ix2 x0, hc]

theorem late2_at (r : Fin 4352) (e : Fin 2048) : val_main_v10 (F := Ideal) x0 (ix2 r e) = late (at2 x0) 2 r e := by
  pointwise [val_main_v10, val_main_v8, val_main_cst, val_main_v9]
  simp only [hc_at, late]
  split <;> rename_i h
  · rw [if_neg (by omega)]
  · rw [if_pos (by omega)]

theorem late1_at (r : Fin 4352) (e : Fin 2048) : val_main_v20 (F := Ideal) x0 (ix2 r e) = late (at2 x0) 1 r e := by
  pointwise [val_main_v20, val_main_v18, val_main_cst_1, val_main_v19]
  simp only [hc_at, late]
  split <;> rename_i h
  · rw [if_neg (by omega)]
  · rw [if_pos (by omega)]

theorem conv_at (r : Fin 4352) (e : Fin 2048) :
    val_main_v34 (F := Ideal) x0 x1 x2 (ix2 r e) = conv (at2 x0) (at2 x1) (at1 x2) r e := by
  pointwise [val_main_v34, val_main_v31, val_main_v25, val_main_v14, val_main_v24, val_main_v30, val_main_v13, val_main_v12,
    val_main_v6, val_main_v5, val_main_v23, val_main_v22, val_main_v16, val_main_v15, val_main_v29, val_main_v28,
    val_main_v27, val_main_v26, val_main_v33, val_main_v32]
  simp only [hc_at, late1_at, late2_at, conv, of_ix2 x0, of_ix2 x1, of_ix1 x2]
  rfl

theorem sig_at (r : Fin 4352) (e : Fin 2048) :
    val_main_v36_2 (F := Ideal) x0 (ix2 r e) = Ideal.logistic (at2 x0 r (6144 + e)) := by
  pointwise [val_main_v36_2, val_main_call0_v4, val_main_call0_cst_0, val_main_call0_v3, val_main_call0_v2, val_main_call0_cst, val_main_call0_v1, val_main_call0_v0, val_main_v3]
  simp only [of_ix2 x0, Ideal.logistic]

theorem sz_at (r : Fin 4352) (e : Fin 2048) : val_main_v36_0 (F := Ideal) x0 (ix2 r e) = sz (at2 x0) r e := by
  pointwise [val_main_v36_0, val_main_v3]
  simp only [of_ix2 x0, sig_at, sz]

theorem dy_at (r : Fin 4352) (e : Fin 2048) :
    val_main_v41 (F := Ideal) x3 x4 (ix2 r e) = dy (at2 x4) (at2 x3) r e := by
  pointwise [val_main_v41]
  simp only [of_ix2 x3, of_ix2 x4, dy]

theorem dconv_at (r : Fin 4352) (e : Fin 2048) :
    val_main_v45 (F := Ideal) x0 x3 x4 (ix2 r e) = dconv (at2 x4) (at2 x0) (at2 x3) r e := by
  pointwise [val_main_v45, val_main_v43, val_main_v0]
  simp only [of_ix2 x0, of_ix2 x3, of_ix2 x4, sz_at, dy_at, dconv]
  rw [mul_left_comm, mul_assoc]

theorem dbg_at (r : Fin 4352) (e : Fin 2048) :
    val_main_v46 (F := Ideal) x0 x1 x2 x3 x4 (ix2 r e) = dbg (at2 x4) (at2 x0) (at2 x3) (at2 x1) (at1 x2) r e := by
  pointwise [val_main_v46, val_main_v43]
  simp only [sz_at, dy_at, conv_at, dbg]
  rw [mul_right_comm]

theorem early1_at (r : Fin 4352) (e : Fin 2048) :
    val_main_v66 (F := Ideal) x0 x1 x3 x4 (ix2 r e) = at2 x1 1 e * early (at2 x4) (at2 x0) (at2 x3) 1 r e := by
  pointwise [val_main_v66, val_main_v65, val_main_cst_10, val_main_v59, val_main_v58, val_main_v22, val_main_v16, val_main_v15]
  simp only [dconv_at, early, of_ix2 x1, rows]
  split <;> rename_i h
  · rw [if_pos (by omega), Nat.add_comm 1 (r : ℕ)]
    rfl
  · rw [if_neg (by omega), mul_zero]

theorem early2_at (r : Fin 4352) (e : Fin 2048) :
    val_main_v79 (F := Ideal) x0 x1 x3 x4 (ix2 r e) = at2 x1 0 e * early (at2 x4) (at2 x0) (at2 x3) 2 r e := by
  pointwise [val_main_v79, val_main_v78, val_main_cst_14, val_main_v72, val_main_v71, val_main_v12, val_main_v6, val_main_v5]
  simp only [dconv_at, early, of_ix2 x1, rows]
  split <;> rename_i h
  · rw [if_pos (by omega), Nat.add_comm 2 (r : ℕ)]
    rfl
  · rw [if_neg (by omega), mul_zero]

theorem dhc_at (r : Fin 4352) (e : Fin 2048) :
    val_main_v80 (F := Ideal) x0 x1 x3 x4 (ix2 r e) = dhc (at2 x4) (at2 x0) (at2 x3) (at2 x1) r e := by
  pointwise [val_main_v80, val_main_v67, val_main_v51, val_main_v50, val_main_v28, val_main_v27, val_main_v26]
  simp only [early1_at, early2_at, dconv_at, dhc, of_ix2 x0, of_ix2 x1, of_ix2 x3, of_ix2 x4]
  rfl

/-- The gradient of `z`, where the arguments are real. -/
theorem dz_at (h0 : ∀ i, IsR (x0 i)) (h1 : ∀ i, IsR (x1 i)) (h2 : ∀ i, IsR (x2 i)) (h3 : ∀ i, IsR (x3 i))
    (h4 : ∀ i, IsR (x4 i)) (r : Fin 4352) (e : Fin 2048) :
    val_main_v44 (F := Ideal) x0 x1 x2 x3 x4 (ix2 r e) = dz (at2 x4) (at2 x0) (at2 x3) (at2 x1) (at1 x2) r e := by
  pointwise [val_main_v44, val_main_call1_v1, val_main_call1_v2, val_main_call1_v0, val_main_v42, val_main_v35, val_main_v36_1,
    val_main_call0_v7, val_main_call0_v6, val_main_call0_cst_1, val_main_v3, val_main_v0]
  simp only [conv_at, dy_at, sig_at, of_ix2 x0, of_ix2 x1, of_ix2 x3, of_ix2 x4]
  have hz : IsR (at2 x0 r (6144 + e)) := at2_isR h0 _ _
  have hdy : IsR (dy (at2 x4) (at2 x3) r e) := IsR.sum _ _ fun k _ => (at2_isR h4 _ _).mul (at2_isR h3 _ _)
  have hhc : ∀ r e, IsR (hc (at2 x0) r e) := fun r e => (at2_isR h0 _ _).mul (at2_isR h0 _ _)
  have hl : ∀ k r e, IsR (late (at2 x0) k r e) := fun k r e => by
    unfold late; split
    · exact hhc _ _
    · exact IsR.zero
  have hconv : IsR (conv (at2 x0) (at2 x1) (at1 x2) r e) :=
    ((((at2_isR h1 _ _).mul (hl _ _ _)).add ((at2_isR h1 _ _).mul (hl _ _ _))).add
      ((at2_isR h1 _ _).mul (hhc _ _))).add (at1_isR h2 _ _)
  rw [silu_grad (((at2_isR h0 _ _).mul hconv).mul hdy) hz hz.logistic]
  unfold dz
  rw [mul_comm _ (dy _ _ _ _), ← mul_assoc (dy _ _ _ _)]

theorem dcg_at (r : Fin 4352) (e : Fin 2048) : val_main_v85 (F := Ideal) x0 x1 x3 x4 (ix2 r e)
    = dhc (at2 x4) (at2 x0) (at2 x3) (at2 x1) r e * at2 x0 r (4096 + e) := by
  pointwise [val_main_v85, val_main_v2]
  simp only [dhc_at, of_ix2 x0]

theorem dv_at (r : Fin 4352) (e : Fin 2048) : val_main_v84 (F := Ideal) x0 x1 x3 x4 (ix2 r e)
    = dhc (at2 x4) (at2 x0) (at2 x3) (at2 x1) r e * at2 x0 r (2048 + e) := by
  pointwise [val_main_v84, val_main_v1]
  simp only [dhc_at, of_ix2 x0]
  rw [mul_comm]

/-- The gradient of the input projection. -/
theorem dp_at (h0 : ∀ i, IsR (x0 i)) (h1 : ∀ i, IsR (x1 i)) (h2 : ∀ i, IsR (x2 i)) (h3 : ∀ i, IsR (x3 i))
    (h4 : ∀ i, IsR (x4 i)) (r : Fin 4352) (c : Fin 8192) :
    val_main_v87 (F := Ideal) x0 x1 x2 x3 x4 (ix2 r c) = dp (at2 x4) (at2 x0) (at2 x3) (at2 x1) (at1 x2) r c := by
  pointwise [val_main_v87, val_main_v86]
  simp only [dz_at x0 x1 x2 x3 x4 h0 h1 h2 h3 h4, dbg_at, dcg_at, dv_at, dp, Nat.sub_sub, Nat.reduceAdd]
  split
  · rfl
  · repeat' split
    all_goals first | omega | rfl

/-- The gradient of the taps. -/
theorem dw_at (k : Fin 3) (e : Fin 2048) :
    val_main_v83 (F := Ideal) x0 x3 x4 (ix2 k e) = dw (at2 x4) (at2 x0) (at2 x3) k e := by
  pointwise [val_main_v83, val_main_v70, val_main_v57, val_main_cst_7, val_main_v56, val_main_v55, val_main_cst_6, val_main_v54,
    val_main_v53, val_main_cst_5, val_main_v52, val_main_v69, val_main_cst_11, val_main_v68, val_main_v63, val_main_cst_9,
    val_main_v62, val_main_v61, val_main_cst_8, val_main_v60, val_main_v82, val_main_cst_15, val_main_v81, val_main_v76,
    val_main_cst_13, val_main_v75, val_main_v74, val_main_cst_12, val_main_v73]
  simp only [hc_at, late1_at, late2_at, dconv_at]
  unfold dw
  rw [Finset.sum_range]
  fin_cases k <;> simp [dwRow, late_zero]

/-- The gradient of the offset. -/
theorem db_at (e : Fin 2048) :
    val_main_v88 (F := Ideal) x0 x3 x4 (ix2 0 e) = db (at2 x4) (at2 x0) (at2 x3) e := by
  pointwise [val_main_v88, val_main_v49, val_main_v48, val_main_v47, val_main_cst_3, val_main_cst_4]
  simp only [dconv_at, db]
  rw [Finset.sum_range]
  simp

end Cert.Conv.Ref

end
-- ==== Proof.ConvClaim.lean ====
/-
  The backward pass of the short convolution: the kernel's run and the reference's run end with the same three arrays.
-/
module

public import proofs.«01_k».proof.Defs
public import proofs.«01_k».proof.Proof.Finals
public import proofs.«01_k».proof.Proof.RefA
public import proofs.«01_k».proof.Proof.Gen.KernelIdeal.Value
public import proofs.«01_k».proof.Proof.Gen.ReferenceIdeal.Run
public import proofs.«01_k».proof.Proof.Gen.Pre_all_finite

@[expose] public section

set_option maxRecDepth 16384

noncomputable section

namespace Cert.Conv

open Idealize.ShloMosaic Idealize.ShloMosaic.TcCoe Idealize.SL.Sem Cert.Mats

/-- A mask that is set at an index says the entry there is a real number. -/
theorem isR_of_mask {s : Shape} (x : FVec Ideal s .f32) (b : FVec Ideal s .f32) (hb : ∀ i, b i = (⊤ : EReal)) (i : s.Idx)
    (h : (cmpf .olt (Host.absf x) b : IVec s 1) i = 1#1) : IsR (x i) := by
  refine IsR.of_abs_lt ?_
  have e : (cmpf .olt (Host.absf x) b : IVec s 1) i = BitVec.ofBool (decide (max (x i) (-(x i)) < b i)) := rfl
  rw [e, hb] at h
  by_contra hn
  rw [decide_eq_false hn] at h
  exact absurd h (by decide)

/-- The bound of the masks is the top of the extended reals. -/
theorem top_at {s : Shape} (h : (⟨0, ![]⟩ : Shape).BroadcastsInDim s (![] : Fin 0 → Fin s.rank)) (i : s.Idx) :
    (broadcastInDim s ![] h (constant (F := Ideal) ⟨0, ![]⟩ .f32 0x7F800000#32) : FVec Ideal s .f32) i = (⊤ : EReal) := by
  pointwise []
  simp [Ideal.ofBits, Ideal.ieee]

/-- The precondition says that every entry of every argument is a real number. -/
theorem isR_args (x0 : FVec Ideal Cert.KernelIdeal.S4352x8192 .f32) (x1 : FVec Ideal Cert.KernelIdeal.S3x2048 .f32)
    (x2 : FVec Ideal Cert.KernelIdeal.S2048 .f32) (x3 : FVec Ideal Cert.KernelIdeal.S2048x1024 .f32)
    (x4 : FVec Ideal Cert.KernelIdeal.S4352x1024 .f32)
    (h : (Cert.Pre_all_finite.fn (F := Ideal) x0 x1 x2 x3 x4).1 = (fun _ => 1#1)
      ∧ (Cert.Pre_all_finite.fn (F := Ideal) x0 x1 x2 x3 x4).2.1 = (fun _ => 1#1)
      ∧ (Cert.Pre_all_finite.fn (F := Ideal) x0 x1 x2 x3 x4).2.2.1 = (fun _ => 1#1)
      ∧ (Cert.Pre_all_finite.fn (F := Ideal) x0 x1 x2 x3 x4).2.2.2.1 = (fun _ => 1#1)
      ∧ (Cert.Pre_all_finite.fn (F := Ideal) x0 x1 x2 x3 x4).2.2.2.2 = (fun _ => 1#1)) :
    (∀ i, IsR (x0 i)) ∧ (∀ i, IsR (x1 i)) ∧ (∀ i, IsR (x2 i)) ∧ (∀ i, IsR (x3 i)) ∧ (∀ i, IsR (x4 i)) :=
  ⟨fun i => isR_of_mask x0 _ (top_at _) i (congrFun h.1 i), fun i => isR_of_mask x1 _ (top_at _) i (congrFun h.2.1 i),
    fun i => isR_of_mask x2 _ (top_at _) i (congrFun h.2.2.1 i), fun i => isR_of_mask x3 _ (top_at _) i (congrFun h.2.2.2.1 i),
    fun i => isR_of_mask x4 _ (top_at _) i (congrFun h.2.2.2.2 i)⟩

/-- The reference runs, keeps its arguments, and leaves every counter at zero. -/
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- Both runs end with the gradients of the projection, of the taps and of the offset. -/
theorem algebraic : Cert.algebraic_KernelIdeal_ReferenceIdeal_pre_all_finite := by
  intro m g m' g' hpre hagree
  refine ⟨fun c => (fun j => dp (Dh m c) (Pp m c) (Wo m c) (Ww m c) (Bb m c) (j 0).val (j 1).val),
    fun c => (fun j => dw (Dh m c) (Pp m c) (Wo m c) (j 0).val (j 1).val),
    fun c => (fun j => db (Dh m c) (Pp m c) (Wo m c) (j 1).val), ?_, ?_⟩
  · refine (θ_run Cert.KernelIdeal.defs _ _).mono (fun r h c => ?_) (Cert.KernelIdeal.Value.run_blocks (F := Ideal) m g)
    obtain ⟨e0, e1, e2, e⟩ := h c
    exact ⟨e0.trans (final_dp m c), e1.trans (final_dw m c), e2.trans (final_db m c), e⟩
  · refine (θ_run Cert.ReferenceIdeal.defs _ _).mono (fun r h c => ?_) (Cert.ReferenceIdeal.Value.run (F := Ideal) m' g')
    obtain ⟨e0, e1, e2, e⟩ := h c
    obtain ⟨a0, a1, a2, a3, a4⟩ := hagree c
    obtain ⟨r0, r1, r2, r3, r4⟩ := isR_args _ _ _ _ _ (hpre c)
    refine ⟨e0.trans ?_, e1.trans ?_, e2.trans ?_, e⟩
    · rw [Cert.ReferenceIdeal.Read.val_main_v87_eq, a0, a1, a2, a3, a4]
      funext j
      rw [show j = ix2 (j 0) (j 1) from by idx_ext]
      exact Ref.dp_at _ _ _ _ _ r0 r1 r2 r3 r4 (j 0) (j 1)
    · rw [Cert.ReferenceIdeal.Read.val_main_v83_eq, a0, a3, a4]
      funext j
      rw [show j = ix2 (j 0) (j 1) from by idx_ext]
      exact Ref.dw_at _ _ _ (j 0) (j 1)
    · rw [Cert.ReferenceIdeal.Read.val_main_v88_eq, a0, a3, a4]
      funext j
      rw [show j = ix2 0 (j 1) from by idx_ext]
      exact Ref.db_at _ _ _ (j 1)

end Cert.Conv

end
-- ==== Proof.Tiles.lean ====
/-
  Reading arrays by coordinates: small facts that every product's proof uses.
-/
module

public import proofs.«01_k».proof.Proof.Mats

@[expose] public section

noncomputable section

namespace Cert.Mats

open Idealize.ShloMosaic

/-- An element of an array is the matrix's at its index's two coordinates. -/
theorem of_idx2 {m n : ℕ} (A : (⟨2, ![m, n]⟩ : Shape).Idx → EReal) (i : (⟨2, ![m, n]⟩ : Shape).Idx) {r c : ℕ}
    (hr : (i 0).val = r) (hc : (i 1).val = c) : A i = at2 A r c := by
  subst hr hc
  rw [at2_eq A _ _ (i 0).isLt (i 1).isLt]
  congr 1
  idx_ext

/-- The product of the transpose of the first matrix and the second, over `n` rows. -/
def tn (n : ℕ) (a g : Mat) : Mat := fun r c => ∑ k : Fin n, a k r * g k c

/-- Rows added to the sum. -/
theorem tn_add (n k : ℕ) (a g : Mat) (r c : ℕ) :
    tn (n + k) a g r c = tn n a g r c + ∑ q : Fin k, a (n + q) r * g (n + q) c := Fin.sum_univ_add _

/-- The product of two matrices, over `n` inner places. -/
def nn (n : ℕ) (a w : Mat) : Mat := fun r c => ∑ k : Fin n, a r k * w k c

/-- The product of the first matrix and the transpose of the second, over `n` columns. -/
def nt (n : ℕ) (a w : Mat) : Mat := fun r c => ∑ k : Fin n, a r k * w c k

/-- Columns added to the sum. -/
theorem nt_add (n k : ℕ) (a w : Mat) (r c : ℕ) :
    nt (n + k) a w r c = nt n a w r c + ∑ q : Fin k, a r (n + q) * w c (n + q) := Fin.sum_univ_add _

theorem hz2 : (![0, 0] : Fin 2 → Nat) = fun _ => 0 := funext fun a => by fin_cases a <;> rfl
theorem hz3 : (![0, 0, 0] : Fin 3 → Nat) = fun _ => 0 := funext fun a => by fin_cases a <;> rfl

end Cert.Mats

end
-- ==== Proof.Norm.lean ====
/-
  The normalisation's backward pass, in natural-number coordinates.

  A row `h r` is divided by the root of its mean square and multiplied by the gain. Its backward pass takes the
  gradient `d` of the result to the gradients of the row and of the gain.
-/
module

public import proofs.«01_k».proof.Proof.Tiles

@[expose] public section

noncomputable section

namespace Cert.Norm

open Idealize.ShloMosaic Cert.Mats

/-- The zero that starts a host's sum. -/
theorem zero_bits : (FloatOps.ofBits .f32 0x00000000#32 : Ideal .f32) = (0 : EReal) := by
  show Ideal.ofBits .f32 0x00000000#32 = 0
  simp [Ideal.ofBits, Ideal.ieee]

/-- The mean square of a row, with the small offset. -/
def ms (h : Mat) (r : ℕ) : EReal :=
  Ideal.div (∑ k : Fin 1024, h r k * h r k) (Ideal.ofBits .f32 0x44800000#32) + Ideal.ofBits .f32 0x358637BD#32

/-- The row's factor. -/
def inv (h : Mat) (r : ℕ) : EReal := Ideal.rsqrt (ms h r)

/-- The gradient that reaches the row's mean. -/
def dms (h g d : Mat) (r : ℕ) : EReal :=
  Ideal.div ((∑ k : Fin 1024, h r k * (d r k * g 0 k)) * (Ideal.ofBits .f32 0xBF000000#32 * Ideal.div (inv h r) (ms h r)))
    (Ideal.ofBits .f32 0x44800000#32)

/-- The gradient of the row. -/
def dh (h g d : Mat) (r e : ℕ) : EReal :=
  d r e * g 0 e * inv h r + h r e * dms h g d r + dms h g d r * h r e

/-- One row's part of the gradient of the gain. -/
def dgRow (h d : Mat) (e r : ℕ) : EReal := h r e * inv h r * d r e

/-- The gradient of the gain. -/
def dg (h d : Mat) (e : ℕ) : EReal := ∑ r ∈ Finset.range 4352, dgRow h d e r

/-- Inside a run the point before is in the same run. -/
theorem pred_mod_div {n K : ℕ} (h : n % K ≠ 0) : (n - 1) % K + 1 = n % K ∧ (n - 1) / K = n / K := by
  rcases Nat.eq_zero_or_pos K with rfl | hK
  · refine ⟨?_, by rw [Nat.div_zero, Nat.div_zero]⟩
    rw [Nat.mod_zero] at h
    rw [Nat.mod_zero, Nat.mod_zero]
    omega
  have e : n - 1 = K * (n / K) + (n % K - 1) := by have := Nat.div_add_mod n K; omega
  have hl : n % K - 1 < K := by have := Nat.mod_lt n hK; omega
  rw [e, Nat.mul_add_mod, Nat.mod_eq_of_lt hl, Nat.mul_add_div hK, Nat.div_eq_of_lt hl]
  omega

/-- A product accumulated over the points of a run: `K` points to a block of rows, `w` columns at a point. The first point of a
    run starts the sum, the next ones add to it; `L` bounds the points it is followed over. -/
theorem nt_run {N K L w : ℕ} (v : (n : ℕ) → n < N → EReal) (a b : Mat) (row : ℕ → ℕ) (e : ℕ)
    (start : ∀ n h, n % K = 0 → v n h = ∑ k : Fin w, a (row (n / K)) (w * (n % K) + k) * b e (w * (n % K) + k))
    (next : ∀ n h, n % K ≠ 0 → n % K < L → v n h = v (n - 1) (Nat.lt_of_le_of_lt (Nat.sub_le _ _) h)
      + ∑ k : Fin w, a (row (n / K)) (w * (n % K) + k) * b e (w * (n % K) + k)) :
    ∀ n h, n % K < L → v n h = nt (w * (n % K + 1)) a b (row (n / K)) e := by
  intro n
  induction n using Nat.strong_induction_on with
  | _ n ih =>
    intro h hn
    by_cases h0 : n % K = 0
    · rw [start n h h0, h0]
      unfold nt
      simp only [Nat.mul_zero, Nat.zero_add]
      rw [Nat.mul_one]
    · obtain ⟨hm, hd⟩ := pred_mod_div h0
      rw [next n h h0 hn, ih (n - 1) (by have := Nat.mod_le n K; omega) _ (by omega), hm, hd, Nat.mul_succ w (n % K), nt_add]

/-- A sum accumulated over the runs' last points, from the first run on: `K` points to a run, `b` terms at its last point. -/
theorem gain_run {N K b : ℕ} (hK : 0 < K) (v : (n : ℕ) → n < N → EReal) (f : ℕ → EReal)
    (start : ∀ n h, n % K = K - 1 → n < K → v n h = ∑ r : Fin b, f (b * (n / K) + r))
    (next : ∀ n h, n % K = K - 1 → ¬n < K → v n h = v (n - 1) (Nat.lt_of_le_of_lt (Nat.sub_le _ _) h)
      + ∑ r : Fin b, f (b * (n / K) + r))
    (keep : ∀ n h, n % K ≠ K - 1 → v n h = v (n - 1) (Nat.lt_of_le_of_lt (Nat.sub_le _ _) h)) :
    ∀ n h, K - 1 ≤ n → v n h = ∑ r ∈ Finset.range (b * ((n + 1) / K)), f r := by
  intro n
  induction n using Nat.strong_induction_on with
  | _ n ih =>
    intro h hn
    by_cases hl : n % K = K - 1
    · have hs : (n + 1) / K = n / K + 1 := by
        rw [← Nat.div_add_mod n K, hl, show K * (n / K) + (K - 1) + 1 = K * (n / K + 1) by rw [Nat.mul_succ]; omega,
          Nat.mul_div_cancel_left _ hK, Nat.mul_add_div hK, Nat.div_eq_of_lt (by omega : K - 1 < K), Nat.add_zero]
      by_cases hf : n < K
      · rw [start n h hl hf, hs, Nat.div_eq_of_lt hf, Nat.zero_add, Nat.mul_one, Finset.sum_range]
        simp only [Nat.mul_zero, Nat.zero_add]
      · have hp : (n - 1 + 1) / K = n / K := by rw [show n - 1 + 1 = n by omega]
        rw [next n h hl hf, ih (n - 1) (by omega) _ (by omega), hp, hs, Nat.mul_succ, Finset.sum_range_add, Finset.sum_range (n := b)]
    · have hs : (n + 1) / K = n / K := by
        have := Nat.mod_lt n hK
        rw [Nat.succ_div, if_neg, Nat.add_zero]
        intro hd
        have := Nat.mod_eq_zero_of_dvd hd
        rw [Nat.add_mod] at this
        by_cases h1 : K = 1
        · omega
        · rw [Nat.mod_eq_of_lt (show 1 < K by omega), Nat.mod_eq_of_lt (show n % K + 1 < K by omega)] at this
          omega
      have hn' : K - 1 ≠ n := fun e => hl (by rw [← e, Nat.mod_eq_of_lt (by omega)])
      have hp : (n - 1 + 1) / K = n / K := by rw [show n - 1 + 1 = n by omega]
      rw [keep n h hl, ih (n - 1) (by omega) _ (by omega), hp, hs]

end Cert.Norm

end
-- ==== Proof.NormBack.lean ====
/-
  The lines of the reference's normalisation that come after the product with the transposed weights, read over any
  array in that product's place: the three layers' references differ in the product alone.
-/
module

public import proofs.«01_k».proof.Proof.Norm
public import proofs.«01_k».proof.Proof.Gen.RNormGrad1Ideal.Run
public import proofs.«01_k».proof.Proof.Gen.RNormGrad1Ideal.Read
public import Idealize.ShloMosaic.Lib.Pipeline.ValueKit

@[expose] public section

set_option maxRecDepth 16384

noncomputable section

namespace Cert.NormBack

open Cert.RNormGrad1Ideal Cert.RNormGrad1Ideal.Gen Cert.RNormGrad1Ideal.Read Idealize.ShloMosaic Idealize.ShloMosaic.TcCoe
  Cert.Mats Cert.Norm

variable (x0 : Vec Ideal S4352x1024 .f32) (x1 : Vec Ideal S1024 .f32) (d x4 : Vec Ideal S4352x1024 .f32)
  {D : Mat} (hd : ∀ (r : Fin 4352) (e : Fin 1024), d (ix2 r e) = D r e)

theorem ref_ms (r : Fin 4352) : val_main_v6 x0 (ix2 r 0) = ms (at2 x0) r := by
  rw [val_main_v6_apply, val_main_v4_apply, val_main_v2_apply, val_main_v1_apply, val_main_v3_apply, val_main_v5_apply]
  refine congrArg₂ (· + ·) (congrArg₂ Ideal.div ((congrArg (· + _) zero_bits).trans ((zero_add _).trans ?_)) rfl) rfl
  refine Finset.sum_congr rfl fun k _ => ?_
  rw [val_main_v0_apply, of_idx2 x0 _ (r := r) (c := k) rfl rfl]
  rfl

theorem ref_inv (r : Fin 4352) : val_main_v7 x0 (ix2 r 0) = inv (at2 x0) r :=
  congrArg Ideal.rsqrt (ref_ms x0 r)

theorem scaled_at (r : Fin 4352) (e : Fin 1024) : val_main_v12 x0 (ix2 r e) = at2 x0 r e * inv (at2 x0) r := by
  rw [val_main_v12_apply, val_main_v11_apply]
  exact congrArg₂ (· * ·) (of_ix2 x0 r e) ((congrArg (val_main_v7 x0) (by idx_ext)).trans (ref_inv x0 r))

/-- The host's sum of each row. -/
def sumCols (y : FVec Ideal S4352x1024 .f32) : FVec Ideal S4352 .f32 :=
  Host.reduceAdd y (val_main_cst_5 (F := Ideal)) reducesTo_S4352x1024_S4352_d1 h_S_

theorem sumCols_at (y : FVec Ideal S4352x1024 .f32) (r : Fin 4352) : sumCols y (ix1 r) = ∑ k : Fin 1024, y (ix2 r k) := by
  unfold sumCols
  simp only [Host.reduceAdd, Ideal.hostReduceAdd_def]
  rw [Ideal.hostReduceAdd_single reducesTo_S4352x1024_S4352_d1 (by decide)]
  refine (congrArg (· + _) zero_bits).trans ((zero_add _).trans (Finset.sum_congr rfl fun k _ => congrArg y ?_))
  exact funext fun a => Fin.ext (by match a with | ⟨0, _⟩ => rfl | ⟨1, _⟩ => rfl)

/-- The host's sum of each column. -/
def sumRows (y : FVec Ideal S4352x1024 .f32) : FVec Ideal S1024 .f32 :=
  Host.reduceAdd y (val_main_cst_3 (F := Ideal)) reducesTo_S4352x1024_S1024_d0 h_S_

theorem sumRows_at (y : FVec Ideal S4352x1024 .f32) (e : Fin 1024) : sumRows y (ix1 e) = ∑ k : Fin 4352, y (ix2 k e) := by
  unfold sumRows
  simp only [Host.reduceAdd, Ideal.hostReduceAdd_def]
  rw [Ideal.hostReduceAdd_single reducesTo_S4352x1024_S1024_d0 (by decide)]
  refine (congrArg (· + _) zero_bits).trans ((zero_add _).trans (Finset.sum_congr rfl fun k _ => congrArg y ?_))
  exact funext fun a => Fin.ext (by match a with | ⟨0, _⟩ => rfl | ⟨1, _⟩ => rfl)

/-- A sum along an axis of one is its one term. -/
def oneCol (y : FVec Ideal S4352x1 .f32) : FVec Ideal S4352 .f32 :=
  Host.reduceAdd y (val_main_cst_7 (F := Ideal)) reducesTo_S4352x1_S4352_d1 h_S_

theorem oneCol_at (y : FVec Ideal S4352x1 .f32) (r : Fin 4352) : oneCol y (ix1 r) = y (ix2 r 0) := by
  unfold oneCol
  simp only [Host.reduceAdd, Ideal.hostReduceAdd_def]
  rw [Ideal.hostReduceAdd_single reducesTo_S4352x1_S4352_d1 (by decide)]
  refine (congrArg (· + _) zero_bits).trans ((zero_add _).trans ((Fin.sum_univ_one _).trans (congrArg y ?_)))
  exact funext fun a => Fin.ext (by match a with | ⟨0, _⟩ => rfl | ⟨1, _⟩ => rfl)

def oneRow (y : FVec Ideal S1x1024 .f32) : FVec Ideal S1024 .f32 :=
  Host.reduceAdd y (val_main_cst_4 (F := Ideal)) reducesTo_S1x1024_S1024_d0 h_S_

theorem oneRow_at (y : FVec Ideal S1x1024 .f32) (e : Fin 1024) : oneRow y (ix1 e) = y (ix2 0 e) := by
  unfold oneRow
  simp only [Host.reduceAdd, Ideal.hostReduceAdd_def]
  rw [Ideal.hostReduceAdd_single reducesTo_S1x1024_S1024_d0 (by decide)]
  refine (congrArg (· + _) zero_bits).trans ((zero_add _).trans ((Fin.sum_univ_one _).trans (congrArg y ?_)))
  exact funext fun a => Fin.ext (by match a with | ⟨0, _⟩ => rfl | ⟨1, _⟩ => rfl)

/-- A row of numbers as an array of one row. -/
def asRow (y : FVec Ideal S1024 .f32) : FVec Ideal S1x1024 .f32 := shapeCast S1x1024 y shapeCasts_S1024_S1x1024

theorem asRow_at (y : FVec Ideal S1024 .f32) (e : Fin 1024) : asRow y (ix2 0 e) = y (ix1 e) :=
  shapeCast_apply y shapeCasts_S1024_S1x1024 (ix2 0 e) (ix1 e) (by
    rewrite [Shape.rowMajor_val_one, Shape.rowMajor_val_two]; show e.val = 0 * 1024 + e.val; omega)

/-- A column of numbers as an array of one column. -/
def asCol (y : FVec Ideal S4352 .f32) : FVec Ideal S4352x1 .f32 := shapeCast S4352x1 y shapeCasts_S4352_S4352x1

theorem asCol_at (y : FVec Ideal S4352 .f32) (r : Fin 4352) : asCol y (ix2 r 0) = y (ix1 r) :=
  shapeCast_apply y shapeCasts_S4352_S4352x1 (ix2 r 0) (ix1 r) (by
    rewrite [Shape.rowMajor_val_one, Shape.rowMajor_val_two]; show r.val = r.val * 1 + 0; omega)

/-- `d` times the gain. -/
def gained : Vec Ideal S4352x1024 .f32 := mulf d (val_main_v22 x1)

include hd in
theorem gained_at (r : Fin 4352) (e : Fin 1024) : gained x1 d (ix2 r e) = D r e * at1 x1 0 e := by
  show d (ix2 r e) * val_main_v22 x1 (ix2 r e) = _
  rw [val_main_v22_apply, val_main_v13_apply, hd, ← of_ix1 x1]
  exact congrArg (_ * x1 ·) (by idx_ext)

/-- The gradient that reaches the mean, a number for each row. -/
def mean : FVec Ideal S4352x1 .f32 :=
  Host.divf (mulf (asCol (sumCols (mulf x0 (gained x1 d)))) (val_main_v10 x0)) (val_main_v31 (F := Ideal))

include hd in
theorem mean_at (r : Fin 4352) : mean x0 x1 d (ix2 r 0) = dms (at2 x0) (at1 x1) D r := by
  refine congrArg₂ Ideal.div (congrArg₂ (· * ·) ((asCol_at _ r).trans ((sumCols_at _ r).trans ?_)) ?_) ?_
  · exact Finset.sum_congr rfl fun k _ => congrArg₂ (· * ·) (of_ix2 x0 r k) (gained_at x1 d hd r k)
  · rw [val_main_v10_apply, val_main_v8_apply, val_main_v9_apply, ref_ms, ref_inv]
    rfl
  · rw [val_main_v31_apply]
    rfl

/-- That number along its row. -/
def meanRow : FVec Ideal S4352x1024 .f32 :=
  broadcastInDim S4352x1024 ![0] bcast_S4352_S4352x1024_0 (oneCol (mean x0 x1 d))

include hd in
theorem meanRow_at (r : Fin 4352) (e : Fin 1024) : meanRow x0 x1 d (ix2 r e) = dms (at2 x0) (at1 x1) D r := by
  refine (broadcastInDim_apply _ bcast_S4352_S4352x1024_0 (oneCol (mean x0 x1 d)) (ix2 r e) (ix1 r) fun a => ?_).trans
    ((oneCol_at _ r).trans (mean_at x0 x1 d hd r))
  match a with
  | ⟨0, _⟩ => rfl

/-- The gradient of the rows through the normalisation. -/
def back : FVec Ideal S4352x1024 .f32 :=
  addf (addf (mulf (gained x1 d) (val_main_v28 x0)) (mulf x0 (meanRow x0 x1 d))) (mulf (meanRow x0 x1 d) x0)

include hd in
theorem back_at (r : Fin 4352) (e : Fin 1024) : back x0 x1 d (ix2 r e) = dh (at2 x0) (at1 x1) D r e := by
  refine congrArg₂ (· + ·) (congrArg₂ (· + ·) (congrArg₂ (· * ·) (gained_at x1 d hd r e) ?_)
    (congrArg₂ (· * ·) (of_ix2 x0 r e) (meanRow_at x0 x1 d hd r e))) (congrArg₂ (· * ·) (meanRow_at x0 x1 d hd r e) (of_ix2 x0 r e))
  rw [val_main_v28_apply]
  exact (congrArg (val_main_v7 x0) (by idx_ext)).trans (ref_inv x0 r)

/-- The gradient of the rows, with the residual's. -/
def rows : Vec Ideal S4352x1024 .f32 := addf x4 (back x0 x1 d)

include hd in
theorem rows_at (r : Fin 4352) (e : Fin 1024) :
    rows x0 x1 d x4 (ix2 r e) = at2 x4 r e + dh (at2 x0) (at1 x1) D r e :=
  congrArg₂ (· + ·) (of_ix2 x4 r e) (back_at x0 x1 d hd r e)

/-- The gradient of the gain. -/
def gain : FVec Ideal S1x1024 .f32 := asRow (oneRow (asRow (sumRows (mulf (val_main_v12 x0) d))))

include hd in
theorem gain_at (e : Fin 1024) : gain x0 d (ix2 0 e) = dg (at2 x0) D e := by
  refine (asRow_at _ e).trans ((oneRow_at _ e).trans ((asRow_at _ e).trans ((sumRows_at _ e).trans ?_)))
  unfold dg
  rw [Finset.sum_range]
  exact Finset.sum_congr rfl fun r _ => congrArg₂ (· * ·) (scaled_at x0 r e) (hd r e)

end Cert.NormBack

end
-- ==== Proof.NormGrad1.lean ====
/-
  The gradient of layer 1's normalised rows and, in the same call, of the rows before the normalisation and of its gain:
  the product with the transposed weights is accumulated over eight blocks of columns, and the last of them closes
  with the normalisation's backward pass.
-/
module

public import proofs.«01_k».proof.Defs
public import proofs.«01_k».proof.Proof.NormBack
public import proofs.«01_k».proof.Proof.Gen.NormGrad1Ideal.Value
public import proofs.«01_k».proof.Proof.Gen.RNormGrad1Ideal.Run
public import proofs.«01_k».proof.Proof.Gen.RNormGrad1Ideal.Read
public import Idealize.ShloMosaic.Lib.Pipeline.ValueKit
public import Idealize.ShloMosaic.Lib.Claim

@[expose] public section

set_option maxRecDepth 16384

noncomputable section

namespace Cert.NormGrad1Value

open Cert.NormGrad1Ideal Cert.NormGrad1Ideal.Gen Idealize.ShloMosaic Idealize.ShloMosaic.TcCoe Idealize.SL.Sem Cert.Mats Cert.Norm

/-! ## The body's payloads -/

theorem part (x0 : Vec Ideal S1088x1024 .bf16) (x1 : Vec Ideal S1x1024x1024 .bf16) (r : Fin 1088) (e : Fin 1024) :
    k0_pay1 x0 x1 (ix2 r e) = ∑ k : Fin 1024, x0 (ix2 r k) * x1 (ix3 0 e k) := by
  pointwise [k0_pay1]

theorem part_on (x0 : Vec Ideal S1088x1024 .bf16) (x1 : Vec Ideal S1x1024x1024 .bf16) (x2 : Vec Ideal S1088x1024 .f32)
    (r : Fin 1088) (e : Fin 1024) :
    k0_pay2 x0 x1 x2 (ix2 r e) = x2 (ix2 r e) + ∑ k : Fin 1024, x0 (ix2 r k) * x1 (ix3 0 e k) := by
  pointwise [k0_pay2, k0_pay1]

/-- The rows' gradient from blocks that hold rows `b` onwards of the matrices. -/
theorem row_end {H G D O : Mat} {b : ℕ} {h : Vec Ideal S1088x1024 .f32} {g : Vec Ideal S1x1024 .f32}
    {d o : Vec Ideal S1088x1024 .f32} (hh : ∀ (r : Fin 1088) (k : Fin 1024), h (ix2 r k) = H (b + r) k)
    (hg : ∀ k : Fin 1024, g (ix2 0 k) = G 0 k) (hd : ∀ (r : Fin 1088) (k : Fin 1024), d (ix2 r k) = D (b + r) k)
    (ho : ∀ (r : Fin 1088) (k : Fin 1024), o (ix2 r k) = O (b + r) k) (r : Fin 1088) (e : Fin 1024) :
    k0_pay8 h g d o (ix2 r e) = O (b + r) e + dh H G D (b + r) e := by
  pointwise [k0_pay8, k0_pay6, k0_pay5, k0_pay4]
  simp only [hh, hg, hd, ho, Fin.sum_univ_one]
  rfl

/-- The gain's gradient from the same blocks. -/
theorem gain_end {H D : Mat} {b : ℕ} {h d : Vec Ideal S1088x1024 .f32}
    (hh : ∀ (r : Fin 1088) (k : Fin 1024), h (ix2 r k) = H (b + r) k)
    (hd : ∀ (r : Fin 1088) (k : Fin 1024), d (ix2 r k) = D (b + r) k) (e : Fin 1024) :
    k0_pay7 h d (ix2 0 e) = ∑ r : Fin 1088, dgRow H D e (b + r) := by
  pointwise [k0_pay7, k0_pay6, k0_pay5, k0_pay4]
  simp only [hh, hd]
  rfl

theorem gain_on (x0 : FVec Ideal S1x1024 .f32) (x1 : Vec Ideal S1x1024 .f32) (e : Fin 1024) :
    k0_pay3 x0 x1 (ix2 0 e) = x1 (ix2 0 e) + x0 (ix2 0 e) := by
  pointwise [k0_pay3]

/-! ## The blocks at a grid point -/

variable (m : (ℓ : Loc nD τ sig) → Buf (Elt Ideal) ℓ)

abbrev H (c : Dev nD) : Mat := at2 (m := 4352) (n := 1024) (m ((c : Thread nD τ).loc main_arg0))
abbrev Gn (c : Dev nD) : Mat := at1 (n := 1024) (m ((c : Thread nD τ).loc main_arg1))
abbrev W (c : Dev nD) : Mat := at2 (m := 1024) (n := 8192) (m ((c : Thread nD τ).loc main_arg2))
abbrev Dp (c : Dev nD) : Mat := at2 (m := 4352) (n := 8192) (m ((c : Thread nD τ).loc main_arg3))
abbrev Dh (c : Dev nD) : Mat := at2 (m := 4352) (n := 1024) (m ((c : Thread nD τ).loc main_arg4))

/-- The gradient of the normalised rows. -/
abbrev Dn (c : Dev nD) : Mat := nt 8192 (Dp m c) (W m c)

theorem idx0 (t : Fin cfg0.N) : win0_0.index t = ![t.val / 8, t.val % 8] :=
  (by decide +kernel : ∀ t : Fin grid0.N, win0_0.index t = ![t.val / 8, t.val % 8]) t
theorem idx1 (t : Fin cfg0.N) : win0_1.index t = ![t.val % 8 / 2, 0, t.val % 2] :=
  (by decide +kernel : ∀ t : Fin grid0.N, win0_1.index t = ![t.val % 8 / 2, 0, t.val % 2]) t
theorem idx2 (t : Fin cfg0.N) : win0_2.index t = ![t.val / 8, 0] :=
  (by decide +kernel : ∀ t : Fin grid0.N, win0_2.index t = ![t.val / 8, 0]) t
theorem idx3 (t : Fin cfg0.N) : win0_3.index t = ![0, 0] :=
  (by decide +kernel : ∀ t : Fin grid0.N, win0_3.index t = ![0, 0]) t
theorem idx4 (t : Fin cfg0.N) : win0_4.index t = ![t.val / 8, 0] :=
  (by decide +kernel : ∀ t : Fin grid0.N, win0_4.index t = ![t.val / 8, 0]) t
theorem idx5 (t : Fin cfg0.N) : win0_5.index t = ![t.val / 8, 0] :=
  (by decide +kernel : ∀ t : Fin grid0.N, win0_5.index t = ![t.val / 8, 0]) t
theorem idx6 (t : Fin cfg0.N) : win0_6.index t = ![0, 0] :=
  (by decide +kernel : ∀ t : Fin grid0.N, win0_6.index t = ![0, 0]) t

theorem tile0 (c : Dev nD) (t : Fin cfg0.N) (r : Fin 1088) (k : Fin 1024) :
    iblk m c 0 t (ix2 r k) = Dp m c (1088 * (t.val / 8) + r) (1024 * (t.val % 8) + k) := by
  have ht : t.val < 32 := t.isLt
  refine Eq.trans ?_ (at2_eq _ _ _ (by omega) (by omega)).symm
  blk_ext [iblk, V_main_arg3, idx0]

theorem tile1 (c : Dev nD) (t : Fin cfg0.N) (e : Fin 1024) (k : Fin 1024) :
    iblk m c 1 t (ix3 0 e k) = W m c e (1024 * (t.val % 8) + k) := by
  have ht : t.val < 32 := t.isLt
  refine Eq.trans ?_ (at2_eq _ _ _ (by omega) (by omega)).symm
  blk_ext! [iblk, idx1]

theorem tile2 (c : Dev nD) (t : Fin cfg0.N) (r : Fin 1088) (k : Fin 1024) :
    iblk m c 2 t (ix2 r k) = H m c (1088 * (t.val / 8) + r) k := by
  have ht : t.val < 32 := t.isLt
  refine Eq.trans ?_ (at2_eq _ _ _ (by omega) (by omega)).symm
  blk_ext [iblk, V_main_arg0, idx2]

theorem tile3 (c : Dev nD) (t : Fin cfg0.N) (k : Fin 1024) : iblk m c 3 t (ix2 0 k) = Gn m c 0 k := by
  refine Eq.trans ?_ (at1_eq _ _ _ (by omega)).symm
  blk_ext! [iblk, idx3]

theorem tile4 (c : Dev nD) (t : Fin cfg0.N) (r : Fin 1088) (k : Fin 1024) :
    iblk m c 4 t (ix2 r k) = Dh m c (1088 * (t.val / 8) + r) k := by
  have ht : t.val < 32 := t.isLt
  refine Eq.trans ?_ (at2_eq _ _ _ (by omega) (by omega)).symm
  blk_ext [iblk, V_main_arg4, idx4]

/-! ## What the outputs' windows hold after a point -/

/-- The product so far, while the row block's columns are not all in. -/
theorem left_part (c : Dev nD) (r : Fin 1088) (e : Fin 1024) : ∀ (n : ℕ) (h : n < cfg0.N), n % 8 < 7 →
    (outsAt0 m c n h).1 (ix2 r e) = nt (1024 * (n % 8 + 1)) (Dp m c) (W m c) (1088 * (n / 8) + r) e := by
  refine nt_run (fun n h => (outsAt0 m c n h).1 (ix2 r e)) (Dp m c) (W m c) (fun q => 1088 * q + r) e
    (fun n h h0 => ?_) (fun n h h0 hn => ?_)
  · have hA := outsAt0_A m c ⟨n, h⟩ h0 (by simp only []; omega) (by simp only []; omega)
    dsimp only at hA
    rw [hA]
    dsimp only
    unfold out0_A_5
    rw [View.read_writes_eq_canon _ _ _ (cover0_A_5 c _ _ _ _ _ _ _ _ _ _ _ _ _ _ _ _ _ _ _ _ _ _ _)]
    unfold kernelRun0_A
    dsimp only
    rw [View.canon_unit_zero hz2]
    simp only [View.readAt_eq_ld, (hs0_0 ⟨n, h⟩).read_unread, (hs0_1 ⟨n, h⟩).read_unread,
      View.ld_unit_zero (S := S1088x1024) hz2, View.ld_unit_zero (S := S1x1024x1024) hz3]
    rw [part]
    exact Finset.sum_congr rfl fun k _ => by rw [tile0, tile1]
  · have hB := outsAt0_B m c ⟨n, h⟩ h0 (by simp only []; omega) (by simp only []; omega)
    dsimp only at hB
    rw [hB]
    dsimp only
    unfold out0_B_5
    rw [View.read_writes_eq_canon _ _ _ (cover0_B_5 c _ _ _ _ _ _ _ _ _ _ _ _ _ _ _ _ _ _ _ _ _ _ _ _)]
    unfold kernelRun0_B
    dsimp only
    rw [View.canon_unit_zero hz2]
    simp only [View.readAt_eq_ld, (hs0_0 ⟨n, h⟩).read_unread, (hs0_1 ⟨n, h⟩).read_unread, (hs0_5 ⟨n, h⟩).read_unread,
      View.ld_unit_zero (S := S1088x1024) hz2, View.ld_unit_zero (S := S1x1024x1024) hz3]
    rw [part_on]
    exact congrArg (_ + ·) (Finset.sum_congr rfl fun k _ => by rw [tile0, tile1])

/-- The row block's whole product, as the last of its points forms it. -/
theorem whole (c : Dev nD) (t : Fin cfg0.N) (h : t.val % 8 = 7) (r : Fin 1088) (e : Fin 1024) :
    k0_pay2 (iblk m c 0 t) (iblk m c 1 t) (outsAt0 m c (t.val - 1) (Nat.lt_of_le_of_lt (Nat.sub_le _ _) t.isLt)).1 (ix2 r e)
      = Dn m c (1088 * (t.val / 8) + r) e := by
  rw [part_on, left_part m c r e (t.val - 1) _ (by omega), show (t.val - 1) % 8 + 1 = 7 by omega,
    show (t.val - 1) / 8 = t.val / 8 by omega]
  unfold Dn
  rw [show (8192 : ℕ) = 1024 * 7 + 1024 from rfl, nt_add]
  congr 1
  exact Finset.sum_congr rfl fun k _ => by rw [tile0, tile1, h]

/-- The rows' gradient, after the last of a row block's points. -/
theorem left_rows (c : Dev nD) (t : Fin cfg0.N) (h : t.val % 8 = 7) (r : Fin 1088) (e : Fin 1024) :
    (outsAt0 m c t.val t.isLt).1 (ix2 r e)
      = Dh m c (1088 * (t.val / 8) + r) e + dh (H m c) (Gn m c) (Dn m c) (1088 * (t.val / 8) + r) e := by
  by_cases h8 : t.val < 8
  · rw [outsAt0_C m c t (by omega) (by omega) h h8 (by omega)]
    dsimp only
    unfold out0_C_5
    rw [View.read_writes_eq_canon _ _ _ (cover0_C_5 c _ _ _ _ _ _ _ _ _ _ _ _ _ _ _ _ _ _ _ _ _ _ _ _ _ _)]
    unfold kernelRun0_C
    dsimp only
    sl_unfold_words
    rw [View.canon_cons_unit_zero (S := S1088x1024) hz2, View.readCov_unit_zero (S := S1088x1024) _ hz2]
    simp only [View.readAt_eq_ld, (hs0_0 t).read_unread, (hs0_1 t).read_unread, (hs0_2 t).read_unread, (hs0_3 t).read_unread,
      (hs0_4 t).read_unread, (hs0_5 t).read_unread,
      View.ld_unit_zero (S := S1088x1024) hz2, View.ld_unit_zero (S := S1x1024) hz2, View.ld_unit_zero (S := S1x1024x1024) hz3]
    exact row_end (tile2 m c t) (tile3 m c t) (whole m c t h) (tile4 m c t) r e
  · rw [outsAt0_D m c t (by omega) (by omega) h h8 (by omega)]
    dsimp only
    unfold out0_D_5
    rw [View.read_writes_eq_canon _ _ _ (cover0_D_5 c _ _ _ _ _ _ _ _ _ _ _ _ _ _ _ _ _ _ _ _ _ _ _ _ _ _ _)]
    unfold kernelRun0_D
    dsimp only
    sl_unfold_words
    rw [View.canon_cons_unit_zero (S := S1088x1024) hz2, View.readCov_unit_zero (S := S1088x1024) _ hz2]
    simp only [View.readAt_eq_ld, (hs0_0 t).read_unread, (hs0_1 t).read_unread, (hs0_2 t).read_unread, (hs0_3 t).read_unread,
      (hs0_4 t).read_unread, (hs0_5 t).read_unread,
      View.ld_unit_zero (S := S1088x1024) hz2, View.ld_unit_zero (S := S1x1024) hz2, View.ld_unit_zero (S := S1x1024x1024) hz3]
    exact row_end (tile2 m c t) (tile3 m c t) (whole m c t h) (tile4 m c t) r e

/-- The gain's gradient: the sum over the row blocks that are done. -/
theorem left_gain (c : Dev nD) (e : Fin 1024) : ∀ (n : ℕ) (h : n < cfg0.N), 7 ≤ n →
    (outsAt0 m c n h).2 (ix2 0 e) = ∑ r ∈ Finset.range (1088 * ((n + 1) / 8)), dgRow (H m c) (Dn m c) e r := by
  refine gain_run (K := 8) (by omega) (fun n h => (outsAt0 m c n h).2 (ix2 0 e)) (dgRow (H m c) (Dn m c) e)
    (fun n h h7 h8 => ?_) (fun n h h7 h8 => ?_) (fun n h h7 => ?_)
  · have hC := outsAt0_C m c ⟨n, h⟩ (by simp only []; omega) (by simp only []; omega) h7 h8 (by simp only []; omega)
    dsimp only at hC
    rw [hC]
    dsimp only
    unfold out0_C_6
    rw [View.read_writes_eq_canon _ _ _ (cover0_C_6 c _ _ _ _ _ _ _ _ _ _ _ _ _ _ _ _ _ _ _ _ _ _ _ _ _ _)]
    unfold kernelRun0_C
    dsimp only
    sl_unfold_words
    rw [View.canon_unit_zero hz2, View.readCov_unit_zero (S := S1088x1024) _ hz2]
    simp only [View.readAt_eq_ld, (hs0_0 ⟨n, h⟩).read_unread, (hs0_1 ⟨n, h⟩).read_unread, (hs0_2 ⟨n, h⟩).read_unread,
      (hs0_5 ⟨n, h⟩).read_unread, View.ld_unit_zero (S := S1088x1024) hz2, View.ld_unit_zero (S := S1x1024x1024) hz3]
    exact gain_end (tile2 m c ⟨n, h⟩) (whole m c ⟨n, h⟩ h7) e
  · have hD := outsAt0_D m c ⟨n, h⟩ (by simp only []; omega) (by simp only []; omega) h7 h8 (by simp only []; omega)
    dsimp only at hD
    rw [hD]
    dsimp only
    unfold out0_D_6
    rw [View.read_writes_eq_canon _ _ _ (cover0_D_6 c _ _ _ _ _ _ _ _ _ _ _ _ _ _ _ _ _ _ _ _ _ _ _ _ _ _ _)]
    unfold kernelRun0_D
    dsimp only
    sl_unfold_words
    rw [View.canon_unit_zero hz2, View.readCov_unit_zero (S := S1088x1024) _ hz2]
    simp only [View.readAt_eq_ld, (hs0_0 ⟨n, h⟩).read_unread, (hs0_1 ⟨n, h⟩).read_unread, (hs0_2 ⟨n, h⟩).read_unread,
      (hs0_5 ⟨n, h⟩).read_unread, (hs0_6 ⟨n, h⟩).read_unread, View.ld_unit_zero (S := S1088x1024) hz2,
      View.ld_unit_zero (S := S1x1024) hz2, View.ld_unit_zero (S := S1x1024x1024) hz3]
    rw [gain_on, gain_end (tile2 m c ⟨n, h⟩) (whole m c ⟨n, h⟩ h7)]
  · by_cases h0 : n % 8 = 0
    · have hA := outsAt0_A m c ⟨n, h⟩ h0 (by simp only []; omega) (by simp only []; omega)
      dsimp only at hA
      rw [hA]
      rfl
    · have hB := outsAt0_B m c ⟨n, h⟩ h0 (by simp only []; omega) (by simp only []; omega)
      dsimp only at hB
      rw [hB]
      rfl

/-! ## The arrays after the run -/

theorem final_rows (c : Dev nD) : (dats m 0 c).arrAt 5 cfg0.N
    = (fun j => Dh m c (j 0).val (j 1).val + dh (H m c) (Gn m c) (Dn m c) (j 0).val (j 1).val : S4352x1024.Idx → EReal) := by
  refine (dats m 0 c).arrAt_eq_of_covers 5 _ (by decide +kernel) fun t hf y => ?_
  blk_simp
  rw [after0_5, show y = ix2 (y 0) (y 1) from by idx_ext]
  refine (left_rows m c t ((flush0_5 t).mp hf) (y 0) (y 1)).trans ?_
  blk_simp [idx5]
  simp only [Nat.mul_comm]

/-- The grid's last point. -/
def last : Fin cfg0.N := ⟨31, by rw [show cfg0.N = 32 from N_0]; omega⟩

theorem final_gain (c : Dev nD) : (dats m 0 c).arrAt 6 cfg0.N
    = (fun j => dg (H m c) (Dn m c) (j 1).val : S1x1024.Idx → EReal) := by
  refine (dats m 0 c).arrAt_eq_of_after_last 6 last (by decide +kernel) _ fun j => ?_
  blk_simp
  rw [after0_6, show j = ix2 0 (j 1) from by idx_ext]
  exact left_gain m c (j 1) 31 last.isLt (by omega)

/-! ## The reference -/

section Reference

open Cert.RNormGrad1Ideal.Read

variable (x0 : Vec Ideal Cert.RNormGrad1Ideal.S4352x1024 .f32) (x1 : Vec Ideal Cert.RNormGrad1Ideal.S1024 .f32)
  (x2 : Vec Ideal Cert.RNormGrad1Ideal.S1024x8192 .f32) (x3 : Vec Ideal Cert.RNormGrad1Ideal.S4352x8192 .bf16)
  (x4 : Vec Ideal Cert.RNormGrad1Ideal.S4352x1024 .f32)

/-- The product with the transposed weights. -/
theorem ref_dn (r : Fin 4352) (e : Fin 1024) : val_main_v18 x2 x3 (ix2 r e) = nt 8192 (at2 x3) (at2 x2) r e := by
  rw [val_main_v18_apply]
  refine Finset.sum_congr rfl fun k _ => ?_
  rw [of_idx2 (val_main_v17 x3) _ (r := r) (c := k) rfl rfl, of_idx2 x2 _ (r := e) (c := k) rfl rfl]
  rfl

theorem ref_rows (r : Fin 4352) (e : Fin 1024) : val_main_v39 x0 x1 x2 x3 x4 (ix2 r e)
    = at2 x4 r e + dh (at2 x0) (at1 x1) (nt 8192 (at2 x3) (at2 x2)) r e :=
  NormBack.rows_at x0 x1 (val_main_v18 x2 x3) x4 (ref_dn x2 x3) r e

theorem ref_gain (e : Fin 1024) : val_main_v40 x0 x2 x3 (ix2 0 e) = dg (at2 x0) (nt 8192 (at2 x3) (at2 x2)) e :=
  NormBack.gain_at x0 (val_main_v18 x2 x3) (ref_dn x2 x3) e

end Reference

/-! ## The claims -/

theorem frame_reference : Cert.quiescent_RNormGrad1Ideal := fun m g _ =>
  (θ_run Cert.RNormGrad1Ideal.defs _ _).mono (fun r h => ⟨fun c => (h c).2.2, sem_eq_zero_of_no_sems (by decide) r.2⟩)
    (Cert.RNormGrad1Ideal.Value.run (F := Ideal) m g)

theorem algebraic : Cert.algebraic_NormGrad1Ideal_RNormGrad1Ideal := by
  intro m g m' g' _ hagree
  refine ⟨fun c => (fun j => Dh m c (j 0).val (j 1).val + dh (H m c) (Gn m c) (Dn m c) (j 0).val (j 1).val),
    fun c => (fun j => dg (H m c) (Dn m c) (j 1).val), ?_, ?_⟩
  · refine (θ_run Cert.NormGrad1Ideal.defs _ _).mono (fun r h c => ?_) (Cert.NormGrad1Ideal.Value.run_blocks (F := Ideal) m g)
    obtain ⟨e0, e1, e⟩ := h c
    exact ⟨e0.trans (final_rows m c), e1.trans (final_gain m c), e⟩
  · refine (θ_run Cert.RNormGrad1Ideal.defs _ _).mono (fun r h c => ?_) (Cert.RNormGrad1Ideal.Value.run (F := Ideal) m' g')
    obtain ⟨e0, e1, e⟩ := h c
    obtain ⟨a0, a1, a2, a3, a4⟩ := hagree c
    refine ⟨e0.trans ?_, e1.trans ?_, e⟩
    · rw [Cert.RNormGrad1Ideal.Read.val_main_v39_eq, a0, a1, a2, a3, a4]
      funext j
      rw [show j = ix2 (j 0) (j 1) from by idx_ext]
      exact ref_rows _ _ _ _ _ (j 0) (j 1)
    · rw [Cert.RNormGrad1Ideal.Read.val_main_v40_eq, a0, a2, a3]
      funext j
      rw [show j = ix2 0 (j 1) from by idx_ext]
      exact ref_gain _ _ _ (j 1)

end Cert.NormGrad1Value

end
-- ==== Proof.NormGrad2.lean ====
/-
  The gradient of the pooling layer's normalised rows and, in the same call, of the rows before the normalisation and of its gain:
  the product with the transposed weights is accumulated over four blocks of columns, and the last of them closes
  with the normalisation's backward pass.
-/
module

public import proofs.«01_k».proof.Defs
public import proofs.«01_k».proof.Proof.NormGrad1
public import proofs.«01_k».proof.Proof.Gen.NormGrad2Ideal.Value
public import proofs.«01_k».proof.Proof.Gen.RNormGrad2Ideal.Run
public import proofs.«01_k».proof.Proof.Gen.RNormGrad2Ideal.Read
public import Idealize.ShloMosaic.Lib.Pipeline.ValueKit
public import Idealize.ShloMosaic.Lib.Claim

@[expose] public section

set_option maxRecDepth 16384

noncomputable section

namespace Cert.NormGrad2Value

open Cert.NormGrad2Ideal Cert.NormGrad2Ideal.Gen Idealize.ShloMosaic Idealize.ShloMosaic.TcCoe Idealize.SL.Sem Cert.Mats Cert.Norm

/-! ## The body's payloads -/

theorem part (x0 : Vec Ideal S1088x1024 .bf16) (x1 : Vec Ideal S1x1024x1024 .bf16) (r : Fin 1088) (e : Fin 1024) :
    k0_pay1 x0 x1 (ix2 r e) = ∑ k : Fin 1024, x0 (ix2 r k) * x1 (ix3 0 e k) :=
  NormGrad1Value.part x0 x1 r e

theorem part_on (x0 : Vec Ideal S1088x1024 .bf16) (x1 : Vec Ideal S1x1024x1024 .bf16) (x2 : Vec Ideal S1088x1024 .f32)
    (r : Fin 1088) (e : Fin 1024) :
    k0_pay2 x0 x1 x2 (ix2 r e) = x2 (ix2 r e) + ∑ k : Fin 1024, x0 (ix2 r k) * x1 (ix3 0 e k) :=
  NormGrad1Value.part_on x0 x1 x2 r e

/-- The rows' gradient from blocks that hold rows `b` onwards of the matrices. -/
theorem row_end {H G D O : Mat} {b : ℕ} {h : Vec Ideal S1088x1024 .f32} {g : Vec Ideal S1x1024 .f32}
    {d o : Vec Ideal S1088x1024 .f32} (hh : ∀ (r : Fin 1088) (k : Fin 1024), h (ix2 r k) = H (b + r) k)
    (hg : ∀ k : Fin 1024, g (ix2 0 k) = G 0 k) (hd : ∀ (r : Fin 1088) (k : Fin 1024), d (ix2 r k) = D (b + r) k)
    (ho : ∀ (r : Fin 1088) (k : Fin 1024), o (ix2 r k) = O (b + r) k) (r : Fin 1088) (e : Fin 1024) :
    k0_pay8 h g d o (ix2 r e) = O (b + r) e + dh H G D (b + r) e :=
  NormGrad1Value.row_end hh hg hd ho r e

/-- The gain's gradient from the same blocks. -/
theorem gain_end {H D : Mat} {b : ℕ} {h d : Vec Ideal S1088x1024 .f32}
    (hh : ∀ (r : Fin 1088) (k : Fin 1024), h (ix2 r k) = H (b + r) k)
    (hd : ∀ (r : Fin 1088) (k : Fin 1024), d (ix2 r k) = D (b + r) k) (e : Fin 1024) :
    k0_pay7 h d (ix2 0 e) = ∑ r : Fin 1088, dgRow H D e (b + r) :=
  NormGrad1Value.gain_end hh hd e

theorem gain_on (x0 : FVec Ideal S1x1024 .f32) (x1 : Vec Ideal S1x1024 .f32) (e : Fin 1024) :
    k0_pay3 x0 x1 (ix2 0 e) = x1 (ix2 0 e) + x0 (ix2 0 e) :=
  NormGrad1Value.gain_on x0 x1 e

/-! ## The blocks at a grid point -/

variable (m : (ℓ : Loc nD τ sig) → Buf (Elt Ideal) ℓ)

abbrev H (c : Dev nD) : Mat := at2 (m := 4352) (n := 1024) (m ((c : Thread nD τ).loc main_arg0))
abbrev Gn (c : Dev nD) : Mat := at1 (n := 1024) (m ((c : Thread nD τ).loc main_arg1))
abbrev W (c : Dev nD) : Mat := at2 (m := 1024) (n := 4096) (m ((c : Thread nD τ).loc main_arg2))
abbrev Dp (c : Dev nD) : Mat := at2 (m := 4352) (n := 4096) (m ((c : Thread nD τ).loc main_arg3))
abbrev Dh (c : Dev nD) : Mat := at2 (m := 4352) (n := 1024) (m ((c : Thread nD τ).loc main_arg4))

/-- The gradient of the normalised rows. -/
abbrev Dn (c : Dev nD) : Mat := nt 4096 (Dp m c) (W m c)

theorem idx0 (t : Fin cfg0.N) : win0_0.index t = ![t.val / 4, t.val % 4] :=
  (by decide +kernel : ∀ t : Fin grid0.N, win0_0.index t = ![t.val / 4, t.val % 4]) t
theorem idx1 (t : Fin cfg0.N) : win0_1.index t = ![t.val % 4, 0, 0] :=
  (by decide +kernel : ∀ t : Fin grid0.N, win0_1.index t = ![t.val % 4, 0, 0]) t
theorem idx2 (t : Fin cfg0.N) : win0_2.index t = ![t.val / 4, 0] :=
  (by decide +kernel : ∀ t : Fin grid0.N, win0_2.index t = ![t.val / 4, 0]) t
theorem idx3 (t : Fin cfg0.N) : win0_3.index t = ![0, 0] :=
  (by decide +kernel : ∀ t : Fin grid0.N, win0_3.index t = ![0, 0]) t
theorem idx4 (t : Fin cfg0.N) : win0_4.index t = ![t.val / 4, 0] :=
  (by decide +kernel : ∀ t : Fin grid0.N, win0_4.index t = ![t.val / 4, 0]) t
theorem idx5 (t : Fin cfg0.N) : win0_5.index t = ![t.val / 4, 0] :=
  (by decide +kernel : ∀ t : Fin grid0.N, win0_5.index t = ![t.val / 4, 0]) t
theorem idx6 (t : Fin cfg0.N) : win0_6.index t = ![0, 0] :=
  (by decide +kernel : ∀ t : Fin grid0.N, win0_6.index t = ![0, 0]) t

theorem tile0 (c : Dev nD) (t : Fin cfg0.N) (r : Fin 1088) (k : Fin 1024) :
    iblk m c 0 t (ix2 r k) = Dp m c (1088 * (t.val / 4) + r) (1024 * (t.val % 4) + k) := by
  have ht : t.val < 16 := t.isLt
  refine Eq.trans ?_ (at2_eq _ _ _ (by omega) (by omega)).symm
  blk_ext [iblk, V_main_arg3, idx0]

theorem tile1 (c : Dev nD) (t : Fin cfg0.N) (e : Fin 1024) (k : Fin 1024) :
    iblk m c 1 t (ix3 0 e k) = W m c e (1024 * (t.val % 4) + k) := by
  have ht : t.val < 16 := t.isLt
  refine Eq.trans ?_ (at2_eq _ _ _ (by omega) (by omega)).symm
  blk_ext! [iblk, idx1]

theorem tile2 (c : Dev nD) (t : Fin cfg0.N) (r : Fin 1088) (k : Fin 1024) :
    iblk m c 2 t (ix2 r k) = H m c (1088 * (t.val / 4) + r) k := by
  have ht : t.val < 16 := t.isLt
  refine Eq.trans ?_ (at2_eq _ _ _ (by omega) (by omega)).symm
  blk_ext [iblk, V_main_arg0, idx2]

theorem tile3 (c : Dev nD) (t : Fin cfg0.N) (k : Fin 1024) : iblk m c 3 t (ix2 0 k) = Gn m c 0 k := by
  refine Eq.trans ?_ (at1_eq _ _ _ (by omega)).symm
  blk_ext! [iblk, idx3]

theorem tile4 (c : Dev nD) (t : Fin cfg0.N) (r : Fin 1088) (k : Fin 1024) :
    iblk m c 4 t (ix2 r k) = Dh m c (1088 * (t.val / 4) + r) k := by
  have ht : t.val < 16 := t.isLt
  refine Eq.trans ?_ (at2_eq _ _ _ (by omega) (by omega)).symm
  blk_ext [iblk, V_main_arg4, idx4]

/-! ## What the outputs' windows hold after a point -/

/-- The product so far, while the row block's columns are not all in. -/
theorem left_part (c : Dev nD) (r : Fin 1088) (e : Fin 1024) : ∀ (n : ℕ) (h : n < cfg0.N), n % 4 < 3 →
    (outsAt0 m c n h).1 (ix2 r e) = nt (1024 * (n % 4 + 1)) (Dp m c) (W m c) (1088 * (n / 4) + r) e := by
  refine nt_run (fun n h => (outsAt0 m c n h).1 (ix2 r e)) (Dp m c) (W m c) (fun q => 1088 * q + r) e
    (fun n h h0 => ?_) (fun n h h0 hn => ?_)
  · have hA := outsAt0_A m c ⟨n, h⟩ h0 (by simp only []; omega) (by simp only []; omega)
    dsimp only at hA
    rw [hA]
    dsimp only
    unfold out0_A_5
    rw [View.read_writes_eq_canon _ _ _ (cover0_A_5 c _ _ _ _ _ _ _ _ _ _ _ _ _ _ _ _ _ _ _ _ _ _ _)]
    unfold kernelRun0_A
    dsimp only
    rw [View.canon_unit_zero hz2]
    simp only [View.readAt_eq_ld, (hs0_0 ⟨n, h⟩).read_unread, (hs0_1 ⟨n, h⟩).read_unread,
      View.ld_unit_zero (S := S1088x1024) hz2, View.ld_unit_zero (S := S1x1024x1024) hz3]
    rw [part]
    exact Finset.sum_congr rfl fun k _ => by rw [tile0, tile1]
  · have hB := outsAt0_B m c ⟨n, h⟩ h0 (by simp only []; omega) (by simp only []; omega)
    dsimp only at hB
    rw [hB]
    dsimp only
    unfold out0_B_5
    rw [View.read_writes_eq_canon _ _ _ (cover0_B_5 c _ _ _ _ _ _ _ _ _ _ _ _ _ _ _ _ _ _ _ _ _ _ _ _)]
    unfold kernelRun0_B
    dsimp only
    rw [View.canon_unit_zero hz2]
    simp only [View.readAt_eq_ld, (hs0_0 ⟨n, h⟩).read_unread, (hs0_1 ⟨n, h⟩).read_unread, (hs0_5 ⟨n, h⟩).read_unread,
      View.ld_unit_zero (S := S1088x1024) hz2, View.ld_unit_zero (S := S1x1024x1024) hz3]
    rw [part_on]
    exact congrArg (_ + ·) (Finset.sum_congr rfl fun k _ => by rw [tile0, tile1])

/-- The row block's whole product, as the last of its points forms it. -/
theorem whole (c : Dev nD) (t : Fin cfg0.N) (h : t.val % 4 = 3) (r : Fin 1088) (e : Fin 1024) :
    k0_pay2 (iblk m c 0 t) (iblk m c 1 t) (outsAt0 m c (t.val - 1) (Nat.lt_of_le_of_lt (Nat.sub_le _ _) t.isLt)).1 (ix2 r e)
      = Dn m c (1088 * (t.val / 4) + r) e := by
  rw [part_on, left_part m c r e (t.val - 1) _ (by omega), show (t.val - 1) % 4 + 1 = 3 by omega,
    show (t.val - 1) / 4 = t.val / 4 by omega]
  unfold Dn
  rw [show (4096 : ℕ) = 1024 * 3 + 1024 from rfl, nt_add]
  congr 1
  exact Finset.sum_congr rfl fun k _ => by rw [tile0, tile1, h]

/-- The rows' gradient, after the last of a row block's points. -/
theorem left_rows (c : Dev nD) (t : Fin cfg0.N) (h : t.val % 4 = 3) (r : Fin 1088) (e : Fin 1024) :
    (outsAt0 m c t.val t.isLt).1 (ix2 r e)
      = Dh m c (1088 * (t.val / 4) + r) e + dh (H m c) (Gn m c) (Dn m c) (1088 * (t.val / 4) + r) e := by
  by_cases h4 : t.val < 4
  · rw [outsAt0_C m c t (by omega) (by omega) h h4 (by omega)]
    dsimp only
    unfold out0_C_5
    rw [View.read_writes_eq_canon _ _ _ (cover0_C_5 c _ _ _ _ _ _ _ _ _ _ _ _ _ _ _ _ _ _ _ _ _ _ _ _ _ _)]
    unfold kernelRun0_C
    dsimp only
    sl_unfold_words
    rw [View.canon_cons_unit_zero (S := S1088x1024) hz2, View.readCov_unit_zero (S := S1088x1024) _ hz2]
    simp only [View.readAt_eq_ld, (hs0_0 t).read_unread, (hs0_1 t).read_unread, (hs0_2 t).read_unread, (hs0_3 t).read_unread,
      (hs0_4 t).read_unread, (hs0_5 t).read_unread,
      View.ld_unit_zero (S := S1088x1024) hz2, View.ld_unit_zero (S := S1x1024) hz2, View.ld_unit_zero (S := S1x1024x1024) hz3]
    exact row_end (tile2 m c t) (tile3 m c t) (whole m c t h) (tile4 m c t) r e
  · rw [outsAt0_D m c t (by omega) (by omega) h h4 (by omega)]
    dsimp only
    unfold out0_D_5
    rw [View.read_writes_eq_canon _ _ _ (cover0_D_5 c _ _ _ _ _ _ _ _ _ _ _ _ _ _ _ _ _ _ _ _ _ _ _ _ _ _ _)]
    unfold kernelRun0_D
    dsimp only
    sl_unfold_words
    rw [View.canon_cons_unit_zero (S := S1088x1024) hz2, View.readCov_unit_zero (S := S1088x1024) _ hz2]
    simp only [View.readAt_eq_ld, (hs0_0 t).read_unread, (hs0_1 t).read_unread, (hs0_2 t).read_unread, (hs0_3 t).read_unread,
      (hs0_4 t).read_unread, (hs0_5 t).read_unread,
      View.ld_unit_zero (S := S1088x1024) hz2, View.ld_unit_zero (S := S1x1024) hz2, View.ld_unit_zero (S := S1x1024x1024) hz3]
    exact row_end (tile2 m c t) (tile3 m c t) (whole m c t h) (tile4 m c t) r e

/-- The gain's gradient: the sum over the row blocks that are done. -/
theorem left_gain (c : Dev nD) (e : Fin 1024) : ∀ (n : ℕ) (h : n < cfg0.N), 3 ≤ n →
    (outsAt0 m c n h).2 (ix2 0 e) = ∑ r ∈ Finset.range (1088 * ((n + 1) / 4)), dgRow (H m c) (Dn m c) e r := by
  refine gain_run (K := 4) (by omega) (fun n h => (outsAt0 m c n h).2 (ix2 0 e)) (dgRow (H m c) (Dn m c) e)
    (fun n h h3 h4 => ?_) (fun n h h3 h4 => ?_) (fun n h h3 => ?_)
  · have hC := outsAt0_C m c ⟨n, h⟩ (by simp only []; omega) (by simp only []; omega) h3 h4 (by simp only []; omega)
    dsimp only at hC
    rw [hC]
    dsimp only
    unfold out0_C_6
    rw [View.read_writes_eq_canon _ _ _ (cover0_C_6 c _ _ _ _ _ _ _ _ _ _ _ _ _ _ _ _ _ _ _ _ _ _ _ _ _ _)]
    unfold kernelRun0_C
    dsimp only
    sl_unfold_words
    rw [View.canon_unit_zero hz2, View.readCov_unit_zero (S := S1088x1024) _ hz2]
    simp only [View.readAt_eq_ld, (hs0_0 ⟨n, h⟩).read_unread, (hs0_1 ⟨n, h⟩).read_unread, (hs0_2 ⟨n, h⟩).read_unread,
      (hs0_5 ⟨n, h⟩).read_unread, View.ld_unit_zero (S := S1088x1024) hz2, View.ld_unit_zero (S := S1x1024x1024) hz3]
    exact gain_end (tile2 m c ⟨n, h⟩) (whole m c ⟨n, h⟩ h3) e
  · have hD := outsAt0_D m c ⟨n, h⟩ (by simp only []; omega) (by simp only []; omega) h3 h4 (by simp only []; omega)
    dsimp only at hD
    rw [hD]
    dsimp only
    unfold out0_D_6
    rw [View.read_writes_eq_canon _ _ _ (cover0_D_6 c _ _ _ _ _ _ _ _ _ _ _ _ _ _ _ _ _ _ _ _ _ _ _ _ _ _ _)]
    unfold kernelRun0_D
    dsimp only
    sl_unfold_words
    rw [View.canon_unit_zero hz2, View.readCov_unit_zero (S := S1088x1024) _ hz2]
    simp only [View.readAt_eq_ld, (hs0_0 ⟨n, h⟩).read_unread, (hs0_1 ⟨n, h⟩).read_unread, (hs0_2 ⟨n, h⟩).read_unread,
      (hs0_5 ⟨n, h⟩).read_unread, (hs0_6 ⟨n, h⟩).read_unread, View.ld_unit_zero (S := S1088x1024) hz2,
      View.ld_unit_zero (S := S1x1024) hz2, View.ld_unit_zero (S := S1x1024x1024) hz3]
    rw [gain_on, gain_end (tile2 m c ⟨n, h⟩) (whole m c ⟨n, h⟩ h3)]
  · by_cases h0 : n % 4 = 0
    · have hA := outsAt0_A m c ⟨n, h⟩ h0 (by simp only []; omega) (by simp only []; omega)
      dsimp only at hA
      rw [hA]
      rfl
    · have hB := outsAt0_B m c ⟨n, h⟩ h0 (by simp only []; omega) (by simp only []; omega)
      dsimp only at hB
      rw [hB]
      rfl

/-! ## The arrays after the run -/

theorem final_rows (c : Dev nD) : (dats m 0 c).arrAt 5 cfg0.N
    = (fun j => Dh m c (j 0).val (j 1).val + dh (H m c) (Gn m c) (Dn m c) (j 0).val (j 1).val : S4352x1024.Idx → EReal) := by
  refine (dats m 0 c).arrAt_eq_of_covers 5 _ (by decide +kernel) fun t hf y => ?_
  blk_simp
  rw [after0_5, show y = ix2 (y 0) (y 1) from by idx_ext]
  refine (left_rows m c t ((flush0_5 t).mp hf) (y 0) (y 1)).trans ?_
  blk_simp [idx5]
  simp only [Nat.mul_comm]

/-- The grid's last point. -/
def last : Fin cfg0.N := ⟨15, by rw [show cfg0.N = 16 from N_0]; omega⟩

theorem final_gain (c : Dev nD) : (dats m 0 c).arrAt 6 cfg0.N
    = (fun j => dg (H m c) (Dn m c) (j 1).val : S1x1024.Idx → EReal) := by
  refine (dats m 0 c).arrAt_eq_of_after_last 6 last (by decide +kernel) _ fun j => ?_
  blk_simp
  rw [after0_6, show j = ix2 0 (j 1) from by idx_ext]
  exact left_gain m c (j 1) 15 last.isLt (by omega)

/-! ## The reference -/

section Reference

open Cert.RNormGrad2Ideal.Read

variable (x0 : Vec Ideal Cert.RNormGrad2Ideal.S4352x1024 .f32) (x1 : Vec Ideal Cert.RNormGrad2Ideal.S1024 .f32)
  (x2 : Vec Ideal Cert.RNormGrad2Ideal.S1024x4096 .f32) (x3 : Vec Ideal Cert.RNormGrad2Ideal.S4352x4096 .bf16)
  (x4 : Vec Ideal Cert.RNormGrad2Ideal.S4352x1024 .f32)

/-- The product with the transposed weights. -/
theorem ref_dn (r : Fin 4352) (e : Fin 1024) : val_main_v18 x2 x3 (ix2 r e) = nt 4096 (at2 x3) (at2 x2) r e := by
  rw [val_main_v18_apply]
  refine Finset.sum_congr rfl fun k _ => ?_
  rw [of_idx2 (val_main_v17 x3) _ (r := r) (c := k) rfl rfl, of_idx2 x2 _ (r := e) (c := k) rfl rfl]
  rfl

theorem ref_rows (r : Fin 4352) (e : Fin 1024) : val_main_v39 x0 x1 x2 x3 x4 (ix2 r e)
    = at2 x4 r e + dh (at2 x0) (at1 x1) (nt 4096 (at2 x3) (at2 x2)) r e :=
  NormBack.rows_at x0 x1 (val_main_v18 x2 x3) x4 (ref_dn x2 x3) r e

theorem ref_gain (e : Fin 1024) : val_main_v40 x0 x2 x3 (ix2 0 e) = dg (at2 x0) (nt 4096 (at2 x3) (at2 x2)) e :=
  NormBack.gain_at x0 (val_main_v18 x2 x3) (ref_dn x2 x3) e

end Reference

/-! ## The claims -/

theorem frame_reference : Cert.quiescent_RNormGrad2Ideal := fun m g _ =>
  (θ_run Cert.RNormGrad2Ideal.defs _ _).mono (fun r h => ⟨fun c => (h c).2.2, sem_eq_zero_of_no_sems (by decide) r.2⟩)
    (Cert.RNormGrad2Ideal.Value.run (F := Ideal) m g)

theorem algebraic : Cert.algebraic_NormGrad2Ideal_RNormGrad2Ideal := by
  intro m g m' g' _ hagree
  refine ⟨fun c => (fun j => Dh m c (j 0).val (j 1).val + dh (H m c) (Gn m c) (Dn m c) (j 0).val (j 1).val),
    fun c => (fun j => dg (H m c) (Dn m c) (j 1).val), ?_, ?_⟩
  · refine (θ_run Cert.NormGrad2Ideal.defs _ _).mono (fun r h c => ?_) (Cert.NormGrad2Ideal.Value.run_blocks (F := Ideal) m g)
    obtain ⟨e0, e1, e⟩ := h c
    exact ⟨e0.trans (final_rows m c), e1.trans (final_gain m c), e⟩
  · refine (θ_run Cert.RNormGrad2Ideal.defs _ _).mono (fun r h c => ?_) (Cert.RNormGrad2Ideal.Value.run (F := Ideal) m' g')
    obtain ⟨e0, e1, e⟩ := h c
    obtain ⟨a0, a1, a2, a3, a4⟩ := hagree c
    refine ⟨e0.trans ?_, e1.trans ?_, e⟩
    · rw [Cert.RNormGrad2Ideal.Read.val_main_v39_eq, a0, a1, a2, a3, a4]
      funext j
      rw [show j = ix2 (j 0) (j 1) from by idx_ext]
      exact ref_rows _ _ _ _ _ (j 0) (j 1)
    · rw [Cert.RNormGrad2Ideal.Read.val_main_v40_eq, a0, a2, a3]
      funext j
      rw [show j = ix2 0 (j 1) from by idx_ext]
      exact ref_gain _ _ _ (j 1)

end Cert.NormGrad2Value

end
-- ==== Proof.NormGrad3.lean ====
/-
  The gradient of a diagonal recurrence layer's normalised rows and, in the same call, of the rows before the normalisation and of its gain:
  the product with the transposed weights is accumulated over four blocks of columns, and the last of them closes
  with the normalisation's backward pass.
-/
module

public import proofs.«01_k».proof.Defs
public import proofs.«01_k».proof.Proof.NormGrad1
public import proofs.«01_k».proof.Proof.Gen.NormGrad3Ideal.Value
public import proofs.«01_k».proof.Proof.Gen.RNormGrad3Ideal.Run
public import proofs.«01_k».proof.Proof.Gen.RNormGrad3Ideal.Read
public import Idealize.ShloMosaic.Lib.Pipeline.ValueKit
public import Idealize.ShloMosaic.Lib.Claim

@[expose] public section

set_option maxRecDepth 16384

noncomputable section

namespace Cert.NormGrad3Value

open Cert.NormGrad3Ideal Cert.NormGrad3Ideal.Gen Idealize.ShloMosaic Idealize.ShloMosaic.TcCoe Idealize.SL.Sem Cert.Mats Cert.Norm

/-! ## The body's payloads -/

theorem part (x0 : Vec Ideal S1088x512 .bf16) (x1 : Vec Ideal S1x1024x512 .bf16) (r : Fin 1088) (e : Fin 1024) :
    k0_pay1 x0 x1 (ix2 r e) = ∑ k : Fin 512, x0 (ix2 r k) * x1 (ix3 0 e k) := by
  pointwise [k0_pay1]

theorem part_on (x0 : Vec Ideal S1088x512 .bf16) (x1 : Vec Ideal S1x1024x512 .bf16) (x2 : Vec Ideal S1088x1024 .f32)
    (r : Fin 1088) (e : Fin 1024) :
    k0_pay2 x0 x1 x2 (ix2 r e) = x2 (ix2 r e) + ∑ k : Fin 512, x0 (ix2 r k) * x1 (ix3 0 e k) := by
  pointwise [k0_pay2, k0_pay1]

/-- The rows' gradient from blocks that hold rows `b` onwards of the matrices. -/
theorem row_end {H G D O : Mat} {b : ℕ} {h : Vec Ideal S1088x1024 .f32} {g : Vec Ideal S1x1024 .f32}
    {d o : Vec Ideal S1088x1024 .f32} (hh : ∀ (r : Fin 1088) (k : Fin 1024), h (ix2 r k) = H (b + r) k)
    (hg : ∀ k : Fin 1024, g (ix2 0 k) = G 0 k) (hd : ∀ (r : Fin 1088) (k : Fin 1024), d (ix2 r k) = D (b + r) k)
    (ho : ∀ (r : Fin 1088) (k : Fin 1024), o (ix2 r k) = O (b + r) k) (r : Fin 1088) (e : Fin 1024) :
    k0_pay8 h g d o (ix2 r e) = O (b + r) e + dh H G D (b + r) e :=
  NormGrad1Value.row_end hh hg hd ho r e

/-- The gain's gradient from the same blocks. -/
theorem gain_end {H D : Mat} {b : ℕ} {h d : Vec Ideal S1088x1024 .f32}
    (hh : ∀ (r : Fin 1088) (k : Fin 1024), h (ix2 r k) = H (b + r) k)
    (hd : ∀ (r : Fin 1088) (k : Fin 1024), d (ix2 r k) = D (b + r) k) (e : Fin 1024) :
    k0_pay7 h d (ix2 0 e) = ∑ r : Fin 1088, dgRow H D e (b + r) :=
  NormGrad1Value.gain_end hh hd e

theorem gain_on (x0 : FVec Ideal S1x1024 .f32) (x1 : Vec Ideal S1x1024 .f32) (e : Fin 1024) :
    k0_pay3 x0 x1 (ix2 0 e) = x1 (ix2 0 e) + x0 (ix2 0 e) :=
  NormGrad1Value.gain_on x0 x1 e

/-! ## The blocks at a grid point -/

variable (m : (ℓ : Loc nD τ sig) → Buf (Elt Ideal) ℓ)

abbrev H (c : Dev nD) : Mat := at2 (m := 4352) (n := 1024) (m ((c : Thread nD τ).loc main_arg0))
abbrev Gn (c : Dev nD) : Mat := at1 (n := 1024) (m ((c : Thread nD τ).loc main_arg1))
abbrev W (c : Dev nD) : Mat := at2 (m := 1024) (n := 2048) (m ((c : Thread nD τ).loc main_arg2))
abbrev Dp (c : Dev nD) : Mat := at2 (m := 4352) (n := 2048) (m ((c : Thread nD τ).loc main_arg3))
abbrev Dh (c : Dev nD) : Mat := at2 (m := 4352) (n := 1024) (m ((c : Thread nD τ).loc main_arg4))

/-- The gradient of the normalised rows. -/
abbrev Dn (c : Dev nD) : Mat := nt 2048 (Dp m c) (W m c)

theorem idx0 (t : Fin cfg0.N) : win0_0.index t = ![t.val / 4, t.val % 4] :=
  (by decide +kernel : ∀ t : Fin grid0.N, win0_0.index t = ![t.val / 4, t.val % 4]) t
theorem idx1 (t : Fin cfg0.N) : win0_1.index t = ![t.val % 4, 0, 0] :=
  (by decide +kernel : ∀ t : Fin grid0.N, win0_1.index t = ![t.val % 4, 0, 0]) t
theorem idx2 (t : Fin cfg0.N) : win0_2.index t = ![t.val / 4, 0] :=
  (by decide +kernel : ∀ t : Fin grid0.N, win0_2.index t = ![t.val / 4, 0]) t
theorem idx3 (t : Fin cfg0.N) : win0_3.index t = ![0, 0] :=
  (by decide +kernel : ∀ t : Fin grid0.N, win0_3.index t = ![0, 0]) t
theorem idx4 (t : Fin cfg0.N) : win0_4.index t = ![t.val / 4, 0] :=
  (by decide +kernel : ∀ t : Fin grid0.N, win0_4.index t = ![t.val / 4, 0]) t
theorem idx5 (t : Fin cfg0.N) : win0_5.index t = ![t.val / 4, 0] :=
  (by decide +kernel : ∀ t : Fin grid0.N, win0_5.index t = ![t.val / 4, 0]) t
theorem idx6 (t : Fin cfg0.N) : win0_6.index t = ![0, 0] :=
  (by decide +kernel : ∀ t : Fin grid0.N, win0_6.index t = ![0, 0]) t

theorem tile0 (c : Dev nD) (t : Fin cfg0.N) (r : Fin 1088) (k : Fin 512) :
    iblk m c 0 t (ix2 r k) = Dp m c (1088 * (t.val / 4) + r) (512 * (t.val % 4) + k) := by
  have ht : t.val < 16 := t.isLt
  refine Eq.trans ?_ (at2_eq _ _ _ (by omega) (by omega)).symm
  blk_ext [iblk, V_main_arg3, idx0]

theorem tile1 (c : Dev nD) (t : Fin cfg0.N) (e : Fin 1024) (k : Fin 512) :
    iblk m c 1 t (ix3 0 e k) = W m c e (512 * (t.val % 4) + k) := by
  have ht : t.val < 16 := t.isLt
  refine Eq.trans ?_ (at2_eq _ _ _ (by omega) (by omega)).symm
  blk_ext! [iblk, idx1]

theorem tile2 (c : Dev nD) (t : Fin cfg0.N) (r : Fin 1088) (k : Fin 1024) :
    iblk m c 2 t (ix2 r k) = H m c (1088 * (t.val / 4) + r) k := by
  have ht : t.val < 16 := t.isLt
  refine Eq.trans ?_ (at2_eq _ _ _ (by omega) (by omega)).symm
  blk_ext [iblk, V_main_arg0, idx2]

theorem tile3 (c : Dev nD) (t : Fin cfg0.N) (k : Fin 1024) : iblk m c 3 t (ix2 0 k) = Gn m c 0 k := by
  refine Eq.trans ?_ (at1_eq _ _ _ (by omega)).symm
  blk_ext! [iblk, idx3]

theorem tile4 (c : Dev nD) (t : Fin cfg0.N) (r : Fin 1088) (k : Fin 1024) :
    iblk m c 4 t (ix2 r k) = Dh m c (1088 * (t.val / 4) + r) k := by
  have ht : t.val < 16 := t.isLt
  refine Eq.trans ?_ (at2_eq _ _ _ (by omega) (by omega)).symm
  blk_ext [iblk, V_main_arg4, idx4]

/-! ## What the outputs' windows hold after a point -/

/-- The product so far, while the row block's columns are not all in. -/
theorem left_part (c : Dev nD) (r : Fin 1088) (e : Fin 1024) : ∀ (n : ℕ) (h : n < cfg0.N), n % 4 < 3 →
    (outsAt0 m c n h).1 (ix2 r e) = nt (512 * (n % 4 + 1)) (Dp m c) (W m c) (1088 * (n / 4) + r) e := by
  refine nt_run (fun n h => (outsAt0 m c n h).1 (ix2 r e)) (Dp m c) (W m c) (fun q => 1088 * q + r) e
    (fun n h h0 => ?_) (fun n h h0 hn => ?_)
  · have hA := outsAt0_A m c ⟨n, h⟩ h0 (by simp only []; omega) (by simp only []; omega)
    dsimp only at hA
    rw [hA]
    dsimp only
    unfold out0_A_5
    rw [View.read_writes_eq_canon _ _ _ (cover0_A_5 c _ _ _ _ _ _ _ _ _ _ _ _ _ _ _ _ _ _ _ _ _ _ _)]
    unfold kernelRun0_A
    dsimp only
    rw [View.canon_unit_zero hz2]
    simp only [View.readAt_eq_ld, (hs0_0 ⟨n, h⟩).read_unread, (hs0_1 ⟨n, h⟩).read_unread,
      View.ld_unit_zero (S := S1088x1024) hz2, View.ld_unit_zero (S := S1088x512) hz2, View.ld_unit_zero (S := S1x1024x512) hz3]
    rw [part]
    exact Finset.sum_congr rfl fun k _ => by rw [tile0, tile1]
  · have hB := outsAt0_B m c ⟨n, h⟩ h0 (by simp only []; omega) (by simp only []; omega)
    dsimp only at hB
    rw [hB]
    dsimp only
    unfold out0_B_5
    rw [View.read_writes_eq_canon _ _ _ (cover0_B_5 c _ _ _ _ _ _ _ _ _ _ _ _ _ _ _ _ _ _ _ _ _ _ _ _)]
    unfold kernelRun0_B
    dsimp only
    rw [View.canon_unit_zero hz2]
    simp only [View.readAt_eq_ld, (hs0_0 ⟨n, h⟩).read_unread, (hs0_1 ⟨n, h⟩).read_unread, (hs0_5 ⟨n, h⟩).read_unread,
      View.ld_unit_zero (S := S1088x1024) hz2, View.ld_unit_zero (S := S1088x512) hz2, View.ld_unit_zero (S := S1x1024x512) hz3]
    rw [part_on]
    exact congrArg (_ + ·) (Finset.sum_congr rfl fun k _ => by rw [tile0, tile1])

/-- The row block's whole product, as the last of its points forms it. -/
theorem whole (c : Dev nD) (t : Fin cfg0.N) (h : t.val % 4 = 3) (r : Fin 1088) (e : Fin 1024) :
    k0_pay2 (iblk m c 0 t) (iblk m c 1 t) (outsAt0 m c (t.val - 1) (Nat.lt_of_le_of_lt (Nat.sub_le _ _) t.isLt)).1 (ix2 r e)
      = Dn m c (1088 * (t.val / 4) + r) e := by
  rw [part_on, left_part m c r e (t.val - 1) _ (by omega), show (t.val - 1) % 4 + 1 = 3 by omega,
    show (t.val - 1) / 4 = t.val / 4 by omega]
  unfold Dn
  rw [show (2048 : ℕ) = 512 * 3 + 512 from rfl, nt_add]
  congr 1
  exact Finset.sum_congr rfl fun k _ => by rw [tile0, tile1, h]

/-- The rows' gradient, after the last of a row block's points. -/
theorem left_rows (c : Dev nD) (t : Fin cfg0.N) (h : t.val % 4 = 3) (r : Fin 1088) (e : Fin 1024) :
    (outsAt0 m c t.val t.isLt).1 (ix2 r e)
      = Dh m c (1088 * (t.val / 4) + r) e + dh (H m c) (Gn m c) (Dn m c) (1088 * (t.val / 4) + r) e := by
  by_cases h4 : t.val < 4
  · rw [outsAt0_C m c t (by omega) (by omega) h h4 (by omega)]
    dsimp only
    unfold out0_C_5
    rw [View.read_writes_eq_canon _ _ _ (cover0_C_5 c _ _ _ _ _ _ _ _ _ _ _ _ _ _ _ _ _ _ _ _ _ _ _ _ _ _)]
    unfold kernelRun0_C
    dsimp only
    sl_unfold_words
    rw [View.canon_cons_unit_zero (S := S1088x1024) hz2, View.readCov_unit_zero (S := S1088x1024) _ hz2]
    simp only [View.readAt_eq_ld, (hs0_0 t).read_unread, (hs0_1 t).read_unread, (hs0_2 t).read_unread, (hs0_3 t).read_unread,
      (hs0_4 t).read_unread, (hs0_5 t).read_unread,
      View.ld_unit_zero (S := S1088x1024) hz2, View.ld_unit_zero (S := S1088x512) hz2, View.ld_unit_zero (S := S1x1024) hz2, View.ld_unit_zero (S := S1x1024x512) hz3]
    exact row_end (tile2 m c t) (tile3 m c t) (whole m c t h) (tile4 m c t) r e
  · rw [outsAt0_D m c t (by omega) (by omega) h h4 (by omega)]
    dsimp only
    unfold out0_D_5
    rw [View.read_writes_eq_canon _ _ _ (cover0_D_5 c _ _ _ _ _ _ _ _ _ _ _ _ _ _ _ _ _ _ _ _ _ _ _ _ _ _ _)]
    unfold kernelRun0_D
    dsimp only
    sl_unfold_words
    rw [View.canon_cons_unit_zero (S := S1088x1024) hz2, View.readCov_unit_zero (S := S1088x1024) _ hz2]
    simp only [View.readAt_eq_ld, (hs0_0 t).read_unread, (hs0_1 t).read_unread, (hs0_2 t).read_unread, (hs0_3 t).read_unread,
      (hs0_4 t).read_unread, (hs0_5 t).read_unread,
      View.ld_unit_zero (S := S1088x1024) hz2, View.ld_unit_zero (S := S1088x512) hz2, View.ld_unit_zero (S := S1x1024) hz2, View.ld_unit_zero (S := S1x1024x512) hz3]
    exact row_end (tile2 m c t) (tile3 m c t) (whole m c t h) (tile4 m c t) r e

/-- The gain's gradient: the sum over the row blocks that are done. -/
theorem left_gain (c : Dev nD) (e : Fin 1024) : ∀ (n : ℕ) (h : n < cfg0.N), 3 ≤ n →
    (outsAt0 m c n h).2 (ix2 0 e) = ∑ r ∈ Finset.range (1088 * ((n + 1) / 4)), dgRow (H m c) (Dn m c) e r := by
  refine gain_run (K := 4) (by omega) (fun n h => (outsAt0 m c n h).2 (ix2 0 e)) (dgRow (H m c) (Dn m c) e)
    (fun n h h3 h4 => ?_) (fun n h h3 h4 => ?_) (fun n h h3 => ?_)
  · have hC := outsAt0_C m c ⟨n, h⟩ (by simp only []; omega) (by simp only []; omega) h3 h4 (by simp only []; omega)
    dsimp only at hC
    rw [hC]
    dsimp only
    unfold out0_C_6
    rw [View.read_writes_eq_canon _ _ _ (cover0_C_6 c _ _ _ _ _ _ _ _ _ _ _ _ _ _ _ _ _ _ _ _ _ _ _ _ _ _)]
    unfold kernelRun0_C
    dsimp only
    sl_unfold_words
    rw [View.canon_unit_zero hz2, View.readCov_unit_zero (S := S1088x1024) _ hz2]
    simp only [View.readAt_eq_ld, (hs0_0 ⟨n, h⟩).read_unread, (hs0_1 ⟨n, h⟩).read_unread, (hs0_2 ⟨n, h⟩).read_unread,
      (hs0_5 ⟨n, h⟩).read_unread, View.ld_unit_zero (S := S1088x1024) hz2, View.ld_unit_zero (S := S1088x512) hz2, View.ld_unit_zero (S := S1x1024x512) hz3]
    exact gain_end (tile2 m c ⟨n, h⟩) (whole m c ⟨n, h⟩ h3) e
  · have hD := outsAt0_D m c ⟨n, h⟩ (by simp only []; omega) (by simp only []; omega) h3 h4 (by simp only []; omega)
    dsimp only at hD
    rw [hD]
    dsimp only
    unfold out0_D_6
    rw [View.read_writes_eq_canon _ _ _ (cover0_D_6 c _ _ _ _ _ _ _ _ _ _ _ _ _ _ _ _ _ _ _ _ _ _ _ _ _ _ _)]
    unfold kernelRun0_D
    dsimp only
    sl_unfold_words
    rw [View.canon_unit_zero hz2, View.readCov_unit_zero (S := S1088x1024) _ hz2]
    simp only [View.readAt_eq_ld, (hs0_0 ⟨n, h⟩).read_unread, (hs0_1 ⟨n, h⟩).read_unread, (hs0_2 ⟨n, h⟩).read_unread,
      (hs0_5 ⟨n, h⟩).read_unread, (hs0_6 ⟨n, h⟩).read_unread, View.ld_unit_zero (S := S1088x1024) hz2, View.ld_unit_zero (S := S1088x512) hz2,
      View.ld_unit_zero (S := S1x1024) hz2, View.ld_unit_zero (S := S1x1024x512) hz3]
    rw [gain_on, gain_end (tile2 m c ⟨n, h⟩) (whole m c ⟨n, h⟩ h3)]
  · by_cases h0 : n % 4 = 0
    · have hA := outsAt0_A m c ⟨n, h⟩ h0 (by simp only []; omega) (by simp only []; omega)
      dsimp only at hA
      rw [hA]
      rfl
    · have hB := outsAt0_B m c ⟨n, h⟩ h0 (by simp only []; omega) (by simp only []; omega)
      dsimp only at hB
      rw [hB]
      rfl

/-! ## The arrays after the run -/

theorem final_rows (c : Dev nD) : (dats m 0 c).arrAt 5 cfg0.N
    = (fun j => Dh m c (j 0).val (j 1).val + dh (H m c) (Gn m c) (Dn m c) (j 0).val (j 1).val : S4352x1024.Idx → EReal) := by
  refine (dats m 0 c).arrAt_eq_of_covers 5 _ (by decide +kernel) fun t hf y => ?_
  blk_simp
  rw [after0_5, show y = ix2 (y 0) (y 1) from by idx_ext]
  refine (left_rows m c t ((flush0_5 t).mp hf) (y 0) (y 1)).trans ?_
  blk_simp [idx5]
  simp only [Nat.mul_comm]

/-- The grid's last point. -/
def last : Fin cfg0.N := ⟨15, by rw [show cfg0.N = 16 from N_0]; omega⟩

theorem final_gain (c : Dev nD) : (dats m 0 c).arrAt 6 cfg0.N
    = (fun j => dg (H m c) (Dn m c) (j 1).val : S1x1024.Idx → EReal) := by
  refine (dats m 0 c).arrAt_eq_of_after_last 6 last (by decide +kernel) _ fun j => ?_
  blk_simp
  rw [after0_6, show j = ix2 0 (j 1) from by idx_ext]
  exact left_gain m c (j 1) 15 last.isLt (by omega)

/-! ## The reference -/

section Reference

open Cert.RNormGrad3Ideal.Read

variable (x0 : Vec Ideal Cert.RNormGrad3Ideal.S4352x1024 .f32) (x1 : Vec Ideal Cert.RNormGrad3Ideal.S1024 .f32)
  (x2 : Vec Ideal Cert.RNormGrad3Ideal.S1024x2048 .f32) (x3 : Vec Ideal Cert.RNormGrad3Ideal.S4352x2048 .bf16)
  (x4 : Vec Ideal Cert.RNormGrad3Ideal.S4352x1024 .f32)

/-- The product with the transposed weights. -/
theorem ref_dn (r : Fin 4352) (e : Fin 1024) : val_main_v18 x2 x3 (ix2 r e) = nt 2048 (at2 x3) (at2 x2) r e := by
  rw [val_main_v18_apply]
  refine Finset.sum_congr rfl fun k _ => ?_
  rw [of_idx2 (val_main_v17 x3) _ (r := r) (c := k) rfl rfl, of_idx2 x2 _ (r := e) (c := k) rfl rfl]
  rfl

theorem ref_rows (r : Fin 4352) (e : Fin 1024) : val_main_v39 x0 x1 x2 x3 x4 (ix2 r e)
    = at2 x4 r e + dh (at2 x0) (at1 x1) (nt 2048 (at2 x3) (at2 x2)) r e :=
  NormBack.rows_at x0 x1 (val_main_v18 x2 x3) x4 (ref_dn x2 x3) r e

theorem ref_gain (e : Fin 1024) : val_main_v40 x0 x2 x3 (ix2 0 e) = dg (at2 x0) (nt 2048 (at2 x3) (at2 x2)) e :=
  NormBack.gain_at x0 (val_main_v18 x2 x3) (ref_dn x2 x3) e

end Reference

/-! ## The claims -/

theorem frame_reference : Cert.quiescent_RNormGrad3Ideal := fun m g _ =>
  (θ_run Cert.RNormGrad3Ideal.defs _ _).mono (fun r h => ⟨fun c => (h c).2.2, sem_eq_zero_of_no_sems (by decide) r.2⟩)
    (Cert.RNormGrad3Ideal.Value.run (F := Ideal) m g)

theorem algebraic : Cert.algebraic_NormGrad3Ideal_RNormGrad3Ideal := by
  intro m g m' g' _ hagree
  refine ⟨fun c => (fun j => Dh m c (j 0).val (j 1).val + dh (H m c) (Gn m c) (Dn m c) (j 0).val (j 1).val),
    fun c => (fun j => dg (H m c) (Dn m c) (j 1).val), ?_, ?_⟩
  · refine (θ_run Cert.NormGrad3Ideal.defs _ _).mono (fun r h c => ?_) (Cert.NormGrad3Ideal.Value.run_blocks (F := Ideal) m g)
    obtain ⟨e0, e1, e⟩ := h c
    exact ⟨e0.trans (final_rows m c), e1.trans (final_gain m c), e⟩
  · refine (θ_run Cert.RNormGrad3Ideal.defs _ _).mono (fun r h c => ?_) (Cert.RNormGrad3Ideal.Value.run (F := Ideal) m' g')
    obtain ⟨e0, e1, e⟩ := h c
    obtain ⟨a0, a1, a2, a3, a4⟩ := hagree c
    refine ⟨e0.trans ?_, e1.trans ?_, e⟩
    · rw [Cert.RNormGrad3Ideal.Read.val_main_v39_eq, a0, a1, a2, a3, a4]
      funext j
      rw [show j = ix2 (j 0) (j 1) from by idx_ext]
      exact ref_rows _ _ _ _ _ (j 0) (j 1)
    · rw [Cert.RNormGrad3Ideal.Read.val_main_v40_eq, a0, a2, a3]
      funext j
      rw [show j = ix2 0 (j 1) from by idx_ext]
      exact ref_gain _ _ _ (j 1)

end Cert.NormGrad3Value

end
-- ==== Proof.InGrad1.lean ====
/-
  The gradient of layer 1's input weights: the product of the transposed normalised rows and the incoming gradient.
-/
module

public import proofs.«01_k».proof.Defs
public import proofs.«01_k».proof.Proof.Tiles
public import proofs.«01_k».proof.Proof.Gen.InGrad1Ideal.Value
public import proofs.«01_k».proof.Proof.Gen.RInGrad1Ideal.Run
public import proofs.«01_k».proof.Proof.Gen.RInGrad1Ideal.Read
public import Idealize.ShloMosaic.Lib.Pipeline.ValueKit
public import Idealize.ShloMosaic.Lib.Claim

@[expose] public section

set_option maxRecDepth 16384

noncomputable section

namespace Cert.InGrad1Value

open Cert.InGrad1Ideal Cert.InGrad1Ideal.Gen Idealize.ShloMosaic Idealize.ShloMosaic.TcCoe Idealize.SL.Sem Cert.Mats

variable (m : (ℓ : Loc nD τ sig) → Buf (Elt Ideal) ℓ)

abbrev A (c : Dev nD) : Mat := at2 (m := 4352) (n := 1024) (m ((c : Thread nD τ).loc main_arg0))
abbrev G (c : Dev nD) : Mat := at2 (m := 4352) (n := 8192) (m ((c : Thread nD τ).loc main_arg1))

theorem idx0 (t : Fin cfg0.N) : win0_0.index t = ![0, 0] :=
  (by decide +kernel : ∀ t : Fin grid0.N, win0_0.index t = ![0, 0]) t
theorem idx1 (t : Fin cfg0.N) : win0_1.index t = ![0, t.val] :=
  (by decide +kernel : ∀ t : Fin grid0.N, win0_1.index t = ![0, t.val]) t
theorem idx2 (t : Fin cfg0.N) : win0_2.index t = ![t.val / 4, 0, t.val % 4] :=
  (by decide +kernel : ∀ t : Fin grid0.N, win0_2.index t = ![t.val / 4, 0, t.val % 4]) t

theorem tile0 (c : Dev nD) (t : Fin cfg0.N) (r : Fin 4352) (k : Fin 1024) :
    iblk m c 0 t (ix2 r k) = A m c r k := by
  refine Eq.trans ?_ (at2_eq _ _ _ (by omega) (by omega)).symm
  blk_ext [iblk, V_main_arg0, idx0]

theorem tile1 (c : Dev nD) (t : Fin cfg0.N) (r : Fin 4352) (k : Fin 512) :
    iblk m c 1 t (ix2 r k) = G m c r (512 * t.val + k) := by
  have ht : t.val < 16 := t.isLt
  refine Eq.trans ?_ (at2_eq _ _ _ (by omega) (by omega)).symm
  blk_ext [iblk, V_main_arg1, idx1]

theorem part (x0 : Vec Ideal S4352x1024 .bf16) (x1 : Vec Ideal S4352x512 .bf16) (r : Fin 1024) (e : Fin 512) :
    k0_pay2 x0 x1 (ix3 0 r e) = ∑ k : Fin 4352, x0 (ix2 k r) * x1 (ix2 k e) := by
  pointwise [k0_pay2, k0_pay1]

theorem left (c : Dev nD) (t : Fin cfg0.N) (r : Fin 1024) (e : Fin 512) :
    outsAt0 m c t (ix3 0 r e) = tn 4352 (A m c) (G m c) r (512 * t.val + e) := by
  unfold outsAt0 out0_A_2
  rw [View.read_writes_eq_canon _ _ _ (cover0_A_2 c _ _ _ _ _ _ _ _ _ _ _)]
  unfold kernelRun0_A
  dsimp only
  rw [View.canon_unit_zero hz3]
  simp only [View.readAt_eq_ld, (hs0_0 t).read_unread, (hs0_1 t).read_unread, View.ld_unit_zero (S := S4352x1024) hz2,
    View.ld_unit_zero (S := S4352x512) hz2]
  rw [part]
  exact Finset.sum_congr rfl fun k _ => by rw [tile0, tile1]

theorem final (c : Dev nD) : (dats m 0 c).arrAt 2 cfg0.N
    = (fun j => tn 4352 (A m c) (G m c) (j 1).val (2048 * (j 0).val + (j 2).val) : S4x1024x2048.Idx → EReal) := by
  refine (dats m 0 c).arrAt_eq_of_covers 2 _ (by decide +kernel) fun t hf y => ?_
  blk_simp
  rw [after0_2, show y = ix3 0 (y 1) (y 2) from by idx_ext]
  refine (left m c t (y 1) (y 2)).trans ?_
  blk_simp [idx2]
  rw [show 512 * t.val + (y 2).val = 2048 * (t.val / 4) + (t.val % 4 * 512 + (y 2).val) by omega]

open Cert.RInGrad1Ideal.Read in
/-- The derivative with respect to the weights, by the chip that holds the columns. -/
theorem reference (x0 : Vec Ideal Cert.RInGrad1Ideal.S4352x1024 .bf16) (x1 : Vec Ideal Cert.RInGrad1Ideal.S4352x8192 .bf16)
    (s : Fin 4) (r : Fin 1024) (e : Fin 2048) :
    val_main_v7 x0 x1 (ix3 s r e) = tn 4352 (at2 x0) (at2 x1) r (2048 * s + e) := by
  rw [val_main_v7_apply, val_main_v6_apply, val_main_v5_apply, val_main_v4_apply]
  refine Finset.sum_congr rfl fun k _ => ?_
  rw [mul_comm, of_idx2 (val_main_v0 x0) _ (r := k) (c := r) rfl ?_, of_idx2 (val_main_v1 x1) _ (r := k) (c := 2048 * s + e) rfl ?_]
  · rfl
  · show ((r.val * 4 + s.val) * 2048 + e.val) % 8192 = _
    omega
  · show ((r.val * 4 + s.val) * 2048 + e.val) / 8192 = _
    omega

theorem frame_reference : Cert.quiescent_RInGrad1Ideal := fun m g _ =>
  (θ_run Cert.RInGrad1Ideal.defs _ _).mono (fun r h => ⟨fun c => (h c).2, sem_eq_zero_of_no_sems (by decide) r.2⟩)
    (Cert.RInGrad1Ideal.Value.run (F := Ideal) m g)

theorem algebraic : Cert.algebraic_InGrad1Ideal_RInGrad1Ideal := by
  intro m g m' g' _ hagree
  refine ⟨fun c => (fun j => tn 4352 (A m c) (G m c) (j 1).val (2048 * (j 0).val + (j 2).val)), ?_, ?_⟩
  · refine (θ_run Cert.InGrad1Ideal.defs _ _).mono (fun r h c => ?_) (Cert.InGrad1Ideal.Value.run_blocks (F := Ideal) m g)
    obtain ⟨e0, e⟩ := h c
    exact ⟨e0.trans (final m c), e⟩
  · refine (θ_run Cert.RInGrad1Ideal.defs _ _).mono (fun r h c => ?_) (Cert.RInGrad1Ideal.Value.run (F := Ideal) m' g')
    obtain ⟨e0, e⟩ := h c
    obtain ⟨a0, a1⟩ := hagree c
    refine ⟨e0.trans ?_, e⟩
    rw [Cert.RInGrad1Ideal.Read.val_main_v7_eq, a0, a1]
    funext j
    rw [show j = ix3 (j 0) (j 1) (j 2) from by idx_ext]
    exact reference _ _ (j 0) (j 1) (j 2)

end Cert.InGrad1Value

end
-- ==== Proof.InGrad2.lean ====
/-
  The gradient of layer 2's input weights: the product of the transposed normalised rows and the incoming gradient.
-/
module

public import proofs.«01_k».proof.Defs
public import proofs.«01_k».proof.Proof.InGrad1
public import proofs.«01_k».proof.Proof.Gen.InGrad2Ideal.Value
public import proofs.«01_k».proof.Proof.Gen.RInGrad2Ideal.Run
public import proofs.«01_k».proof.Proof.Gen.RInGrad2Ideal.Read
public import Idealize.ShloMosaic.Lib.Pipeline.ValueKit
public import Idealize.ShloMosaic.Lib.Claim

@[expose] public section

set_option maxRecDepth 16384

noncomputable section

namespace Cert.InGrad2Value

open Cert.InGrad2Ideal Cert.InGrad2Ideal.Gen Idealize.ShloMosaic Idealize.ShloMosaic.TcCoe Idealize.SL.Sem Cert.Mats

variable (m : (ℓ : Loc nD τ sig) → Buf (Elt Ideal) ℓ)

abbrev A (c : Dev nD) : Mat := at2 (m := 4352) (n := 1024) (m ((c : Thread nD τ).loc main_arg0))
abbrev G (c : Dev nD) : Mat := at2 (m := 4352) (n := 4096) (m ((c : Thread nD τ).loc main_arg1))

theorem idx0 (t : Fin cfg0.N) : win0_0.index t = ![0, 0] :=
  (by decide +kernel : ∀ t : Fin grid0.N, win0_0.index t = ![0, 0]) t
theorem idx1 (t : Fin cfg0.N) : win0_1.index t = ![0, t.val] :=
  (by decide +kernel : ∀ t : Fin grid0.N, win0_1.index t = ![0, t.val]) t
theorem idx2 (t : Fin cfg0.N) : win0_2.index t = ![t.val / 2, 0, t.val % 2] :=
  (by decide +kernel : ∀ t : Fin grid0.N, win0_2.index t = ![t.val / 2, 0, t.val % 2]) t

theorem tile0 (c : Dev nD) (t : Fin cfg0.N) (r : Fin 4352) (k : Fin 1024) :
    iblk m c 0 t (ix2 r k) = A m c r k := by
  refine Eq.trans ?_ (at2_eq _ _ _ (by omega) (by omega)).symm
  blk_ext [iblk, V_main_arg0, idx0]

theorem tile1 (c : Dev nD) (t : Fin cfg0.N) (r : Fin 4352) (k : Fin 512) :
    iblk m c 1 t (ix2 r k) = G m c r (512 * t.val + k) := by
  have ht : t.val < 8 := t.isLt
  refine Eq.trans ?_ (at2_eq _ _ _ (by omega) (by omega)).symm
  blk_ext [iblk, V_main_arg1, idx1]

theorem part (x0 : Vec Ideal S4352x1024 .bf16) (x1 : Vec Ideal S4352x512 .bf16) (r : Fin 1024) (e : Fin 512) :
    k0_pay2 x0 x1 (ix3 0 r e) = ∑ k : Fin 4352, x0 (ix2 k r) * x1 (ix2 k e) :=
  InGrad1Value.part x0 x1 r e

theorem left (c : Dev nD) (t : Fin cfg0.N) (r : Fin 1024) (e : Fin 512) :
    outsAt0 m c t (ix3 0 r e) = tn 4352 (A m c) (G m c) r (512 * t.val + e) := by
  unfold outsAt0 out0_A_2
  rw [View.read_writes_eq_canon _ _ _ (cover0_A_2 c _ _ _ _ _ _ _ _ _ _ _)]
  unfold kernelRun0_A
  dsimp only
  rw [View.canon_unit_zero hz3]
  simp only [View.readAt_eq_ld, (hs0_0 t).read_unread, (hs0_1 t).read_unread, View.ld_unit_zero (S := S4352x1024) hz2,
    View.ld_unit_zero (S := S4352x512) hz2]
  rw [part]
  exact Finset.sum_congr rfl fun k _ => by rw [tile0, tile1]

theorem final (c : Dev nD) : (dats m 0 c).arrAt 2 cfg0.N
    = (fun j => tn 4352 (A m c) (G m c) (j 1).val (1024 * (j 0).val + (j 2).val) : S4x1024x1024.Idx → EReal) := by
  refine (dats m 0 c).arrAt_eq_of_covers 2 _ (by decide +kernel) fun t hf y => ?_
  blk_simp
  rw [after0_2, show y = ix3 0 (y 1) (y 2) from by idx_ext]
  refine (left m c t (y 1) (y 2)).trans ?_
  blk_simp [idx2]
  rw [show 512 * t.val + (y 2).val = 1024 * (t.val / 2) + (t.val % 2 * 512 + (y 2).val) by omega]

open Cert.RInGrad2Ideal.Read in
/-- The derivative with respect to the weights, by the chip that holds the columns. -/
theorem reference (x0 : Vec Ideal Cert.RInGrad2Ideal.S4352x1024 .bf16) (x1 : Vec Ideal Cert.RInGrad2Ideal.S4352x4096 .bf16)
    (s : Fin 4) (r : Fin 1024) (e : Fin 1024) :
    val_main_v7 x0 x1 (ix3 s r e) = tn 4352 (at2 x0) (at2 x1) r (1024 * s + e) := by
  rw [val_main_v7_apply, val_main_v6_apply, val_main_v5_apply, val_main_v4_apply]
  refine Finset.sum_congr rfl fun k _ => ?_
  rw [mul_comm, of_idx2 (val_main_v0 x0) _ (r := k) (c := r) rfl ?_, of_idx2 (val_main_v1 x1) _ (r := k) (c := 1024 * s + e) rfl ?_]
  · rfl
  · show ((r.val * 4 + s.val) * 1024 + e.val) % 4096 = _
    omega
  · show ((r.val * 4 + s.val) * 1024 + e.val) / 4096 = _
    omega

theorem frame_reference : Cert.quiescent_RInGrad2Ideal := fun m g _ =>
  (θ_run Cert.RInGrad2Ideal.defs _ _).mono (fun r h => ⟨fun c => (h c).2, sem_eq_zero_of_no_sems (by decide) r.2⟩)
    (Cert.RInGrad2Ideal.Value.run (F := Ideal) m g)

theorem algebraic : Cert.algebraic_InGrad2Ideal_RInGrad2Ideal := by
  intro m g m' g' _ hagree
  refine ⟨fun c => (fun j => tn 4352 (A m c) (G m c) (j 1).val (1024 * (j 0).val + (j 2).val)), ?_, ?_⟩
  · refine (θ_run Cert.InGrad2Ideal.defs _ _).mono (fun r h c => ?_) (Cert.InGrad2Ideal.Value.run_blocks (F := Ideal) m g)
    obtain ⟨e0, e⟩ := h c
    exact ⟨e0.trans (final m c), e⟩
  · refine (θ_run Cert.RInGrad2Ideal.defs _ _).mono (fun r h c => ?_) (Cert.RInGrad2Ideal.Value.run (F := Ideal) m' g')
    obtain ⟨e0, e⟩ := h c
    obtain ⟨a0, a1⟩ := hagree c
    refine ⟨e0.trans ?_, e⟩
    rw [Cert.RInGrad2Ideal.Read.val_main_v7_eq, a0, a1]
    funext j
    rw [show j = ix3 (j 0) (j 1) (j 2) from by idx_ext]
    exact reference _ _ (j 0) (j 1) (j 2)

end Cert.InGrad2Value

end
-- ==== Proof.InGrad3.lean ====
/-
  The gradient of the input weights of layers 0 and 3: the product of the transposed normalised rows and the incoming gradient.
-/
module

public import proofs.«01_k».proof.Defs
public import proofs.«01_k».proof.Proof.InGrad1
public import proofs.«01_k».proof.Proof.Gen.InGrad3Ideal.Value
public import proofs.«01_k».proof.Proof.Gen.RInGrad3Ideal.Run
public import proofs.«01_k».proof.Proof.Gen.RInGrad3Ideal.Read
public import Idealize.ShloMosaic.Lib.Pipeline.ValueKit
public import Idealize.ShloMosaic.Lib.Claim

@[expose] public section

set_option maxRecDepth 16384

noncomputable section

namespace Cert.InGrad3Value

open Cert.InGrad3Ideal Cert.InGrad3Ideal.Gen Idealize.ShloMosaic Idealize.ShloMosaic.TcCoe Idealize.SL.Sem Cert.Mats

variable (m : (ℓ : Loc nD τ sig) → Buf (Elt Ideal) ℓ)

abbrev A (c : Dev nD) : Mat := at2 (m := 4352) (n := 1024) (m ((c : Thread nD τ).loc main_arg0))
abbrev G (c : Dev nD) : Mat := at2 (m := 4352) (n := 2048) (m ((c : Thread nD τ).loc main_arg1))

theorem idx0 (t : Fin cfg0.N) : win0_0.index t = ![0, 0] :=
  (by decide +kernel : ∀ t : Fin grid0.N, win0_0.index t = ![0, 0]) t
theorem idx1 (t : Fin cfg0.N) : win0_1.index t = ![0, t.val] :=
  (by decide +kernel : ∀ t : Fin grid0.N, win0_1.index t = ![0, t.val]) t
theorem idx2 (t : Fin cfg0.N) : win0_2.index t = ![t.val, 0, 0] :=
  (by decide +kernel : ∀ t : Fin grid0.N, win0_2.index t = ![t.val, 0, 0]) t

theorem tile0 (c : Dev nD) (t : Fin cfg0.N) (r : Fin 4352) (k : Fin 1024) :
    iblk m c 0 t (ix2 r k) = A m c r k := by
  refine Eq.trans ?_ (at2_eq _ _ _ (by omega) (by omega)).symm
  blk_ext [iblk, V_main_arg0, idx0]

theorem tile1 (c : Dev nD) (t : Fin cfg0.N) (r : Fin 4352) (k : Fin 512) :
    iblk m c 1 t (ix2 r k) = G m c r (512 * t.val + k) := by
  have ht : t.val < 4 := t.isLt
  refine Eq.trans ?_ (at2_eq _ _ _ (by omega) (by omega)).symm
  blk_ext [iblk, V_main_arg1, idx1]

theorem part (x0 : Vec Ideal S4352x1024 .bf16) (x1 : Vec Ideal S4352x512 .bf16) (r : Fin 1024) (e : Fin 512) :
    k0_pay2 x0 x1 (ix3 0 r e) = ∑ k : Fin 4352, x0 (ix2 k r) * x1 (ix2 k e) :=
  InGrad1Value.part x0 x1 r e

theorem left (c : Dev nD) (t : Fin cfg0.N) (r : Fin 1024) (e : Fin 512) :
    outsAt0 m c t (ix3 0 r e) = tn 4352 (A m c) (G m c) r (512 * t.val + e) := by
  unfold outsAt0 out0_A_2
  rw [View.read_writes_eq_canon _ _ _ (cover0_A_2 c _ _ _ _ _ _ _ _ _ _ _)]
  unfold kernelRun0_A
  dsimp only
  rw [View.canon_unit_zero hz3]
  simp only [View.readAt_eq_ld, (hs0_0 t).read_unread, (hs0_1 t).read_unread, View.ld_unit_zero (S := S4352x1024) hz2,
    View.ld_unit_zero (S := S4352x512) hz2]
  rw [part]
  exact Finset.sum_congr rfl fun k _ => by rw [tile0, tile1]

theorem final (c : Dev nD) : (dats m 0 c).arrAt 2 cfg0.N
    = (fun j => tn 4352 (A m c) (G m c) (j 1).val (512 * (j 0).val + (j 2).val) : S4x1024x512.Idx → EReal) := by
  refine (dats m 0 c).arrAt_eq_of_covers 2 _ (by decide +kernel) fun t hf y => ?_
  blk_simp
  rw [after0_2, show y = ix3 0 (y 1) (y 2) from by idx_ext]
  refine (left m c t (y 1) (y 2)).trans ?_
  blk_simp [idx2]

open Cert.RInGrad3Ideal.Read in
/-- The derivative with respect to the weights, by the chip that holds the columns. -/
theorem reference (x0 : Vec Ideal Cert.RInGrad3Ideal.S4352x1024 .bf16) (x1 : Vec Ideal Cert.RInGrad3Ideal.S4352x2048 .bf16)
    (s : Fin 4) (r : Fin 1024) (e : Fin 512) :
    val_main_v7 x0 x1 (ix3 s r e) = tn 4352 (at2 x0) (at2 x1) r (512 * s + e) := by
  rw [val_main_v7_apply, val_main_v6_apply, val_main_v5_apply, val_main_v4_apply]
  refine Finset.sum_congr rfl fun k _ => ?_
  rw [mul_comm, of_idx2 (val_main_v0 x0) _ (r := k) (c := r) rfl ?_, of_idx2 (val_main_v1 x1) _ (r := k) (c := 512 * s + e) rfl ?_]
  · rfl
  · show ((r.val * 4 + s.val) * 512 + e.val) % 2048 = _
    omega
  · show ((r.val * 4 + s.val) * 512 + e.val) / 2048 = _
    omega

theorem frame_reference : Cert.quiescent_RInGrad3Ideal := fun m g _ =>
  (θ_run Cert.RInGrad3Ideal.defs _ _).mono (fun r h => ⟨fun c => (h c).2, sem_eq_zero_of_no_sems (by decide) r.2⟩)
    (Cert.RInGrad3Ideal.Value.run (F := Ideal) m g)

theorem algebraic : Cert.algebraic_InGrad3Ideal_RInGrad3Ideal := by
  intro m g m' g' _ hagree
  refine ⟨fun c => (fun j => tn 4352 (A m c) (G m c) (j 1).val (512 * (j 0).val + (j 2).val)), ?_, ?_⟩
  · refine (θ_run Cert.InGrad3Ideal.defs _ _).mono (fun r h c => ?_) (Cert.InGrad3Ideal.Value.run_blocks (F := Ideal) m g)
    obtain ⟨e0, e⟩ := h c
    exact ⟨e0.trans (final m c), e⟩
  · refine (θ_run Cert.RInGrad3Ideal.defs _ _).mono (fun r h c => ?_) (Cert.RInGrad3Ideal.Value.run (F := Ideal) m' g')
    obtain ⟨e0, e⟩ := h c
    obtain ⟨a0, a1⟩ := hagree c
    refine ⟨e0.trans ?_, e⟩
    rw [Cert.RInGrad3Ideal.Read.val_main_v7_eq, a0, a1]
    funext j
    rw [show j = ix3 (j 0) (j 1) (j 2) from by idx_ext]
    exact reference _ _ (j 0) (j 1) (j 2)

end Cert.InGrad3Value

end
-- ==== Proof.OutGrad1.lean ====
/-
  The gradient of layer 1's output weights: the product of the transposed mixer output and the incoming gradient,
  accumulated over two blocks of rows.
-/
module

public import proofs.«01_k».proof.Defs
public import proofs.«01_k».proof.Proof.Tiles
public import proofs.«01_k».proof.Proof.Gen.OutGrad1Ideal.Value
public import proofs.«01_k».proof.Proof.Gen.ROutGrad1Ideal.Run
public import proofs.«01_k».proof.Proof.Gen.ROutGrad1Ideal.Read
public import Idealize.ShloMosaic.Lib.Pipeline.ValueKit
public import Idealize.ShloMosaic.Lib.Claim

@[expose] public section

set_option maxRecDepth 16384

noncomputable section

namespace Cert.OutGrad1Value

open Cert.OutGrad1Ideal Cert.OutGrad1Ideal.Gen Idealize.ShloMosaic Idealize.ShloMosaic.TcCoe Idealize.SL.Sem Cert.Mats

variable (m : (ℓ : Loc nD τ sig) → Buf (Elt Ideal) ℓ)

abbrev A (c : Dev nD) : Mat := at2 (m := 4352) (n := 2048) (m ((c : Thread nD τ).loc main_arg0))
abbrev G (c : Dev nD) : Mat := at2 (m := 4352) (n := 1024) (m ((c : Thread nD τ).loc main_arg1))

theorem idx0 (t : Fin cfg0.N) : win0_0.index t = ![t.val % 2, t.val / 4] :=
  (by decide +kernel : ∀ t : Fin grid0.N, win0_0.index t = ![t.val % 2, t.val / 4]) t
theorem idx1 (t : Fin cfg0.N) : win0_1.index t = ![t.val % 2, t.val / 2 % 2] :=
  (by decide +kernel : ∀ t : Fin grid0.N, win0_1.index t = ![t.val % 2, t.val / 2 % 2]) t
theorem idx2 (t : Fin cfg0.N) : win0_2.index t = ![0, t.val / 4, t.val / 2 % 2] :=
  (by decide +kernel : ∀ t : Fin grid0.N, win0_2.index t = ![0, t.val / 4, t.val / 2 % 2]) t

theorem tile0 (c : Dev nD) (t : Fin cfg0.N) (r : Fin 2176) (k : Fin 1024) :
    iblk m c 0 t (ix2 r k) = A m c (2176 * (t.val % 2) + r) (1024 * (t.val / 4) + k) := by
  have ht : t.val < 8 := t.isLt
  refine Eq.trans ?_ (at2_eq _ _ _ (by omega) (by omega)).symm
  blk_ext [iblk, V_main_arg0, idx0]

theorem tile1 (c : Dev nD) (t : Fin cfg0.N) (r : Fin 2176) (k : Fin 512) :
    iblk m c 1 t (ix2 r k) = G m c (2176 * (t.val % 2) + r) (512 * (t.val / 2 % 2) + k) := by
  have ht : t.val < 8 := t.isLt
  refine Eq.trans ?_ (at2_eq _ _ _ (by omega) (by omega)).symm
  blk_ext [iblk, V_main_arg1, idx1]

theorem part (x0 : Vec Ideal S2176x1024 .bf16) (x1 : Vec Ideal S2176x512 .f32) (r : Fin 1024) (e : Fin 512) :
    k0_pay2 x0 x1 (ix3 0 r e) = ∑ k : Fin 2176, x0 (ix2 k r) * x1 (ix2 k e) := by
  pointwise [k0_pay2, k0_pay1]

theorem part_on (x0 : Vec Ideal S2176x1024 .bf16) (x1 : Vec Ideal S2176x512 .f32) (x2 : Vec Ideal S1x1024x512 .f32)
    (r : Fin 1024) (e : Fin 512) :
    k0_pay3 x0 x1 x2 (ix3 0 r e) = x2 (ix3 0 r e) + ∑ k : Fin 2176, x0 (ix2 k r) * x1 (ix2 k e) := by
  pointwise [k0_pay3, k0_pay1]

/-- A point of the first block of rows starts the sum. -/
theorem left_first (c : Dev nD) (t : Fin cfg0.N) (h : t.val % 2 = 0) (r : Fin 1024) (e : Fin 512) :
    outsAt0 m c t.val t.isLt (ix3 0 r e)
      = tn 2176 (A m c) (G m c) (1024 * (t.val / 4) + r) (512 * (t.val / 2 % 2) + e) := by
  rw [outsAt0_A m c t h (by omega)]
  unfold out0_A_2
  rw [View.read_writes_eq_canon _ _ _ (cover0_A_2 c _ _ _ _ _ _ _ _ _ _ _)]
  unfold kernelRun0_A
  dsimp only
  rw [View.canon_unit_zero hz3]
  simp only [View.readAt_eq_ld, (hs0_0 t).read_unread, (hs0_1 t).read_unread, View.ld_unit_zero (S := S2176x1024) hz2,
    View.ld_unit_zero (S := S2176x512) hz2]
  rw [part]
  exact Finset.sum_congr rfl fun k _ => by rw [tile0, tile1, h, Nat.mul_zero, Nat.zero_add]

/-- A point of the second block of rows ends it. -/
theorem left_last (c : Dev nD) (t : Fin cfg0.N) (h : t.val % 2 = 1) (r : Fin 1024) (e : Fin 512) :
    outsAt0 m c t.val t.isLt (ix3 0 r e)
      = tn 4352 (A m c) (G m c) (1024 * (t.val / 4) + r) (512 * (t.val / 2 % 2) + e) := by
  rw [outsAt0_B m c t (by omega) h]
  unfold out0_B_2
  rw [View.read_writes_eq_canon _ _ _ (cover0_B_2 c _ _ _ _ _ _ _ _ _ _ _ _)]
  unfold kernelRun0_B
  dsimp only
  rw [View.canon_unit_zero hz3]
  simp only [View.readAt_eq_ld, (hs0_0 t).read_unread, (hs0_1 t).read_unread, (hs0_2 t).read_unread,
    View.ld_unit_zero (S := S2176x1024) hz2, View.ld_unit_zero (S := S2176x512) hz2,
    View.ld_unit_zero (S := S1x1024x512) hz3]
  rw [part_on]
  have ht : t.val < 8 := t.isLt
  have before := left_first m c ⟨t.val - 1, by omega⟩ (by simp only []; omega) r e
  simp only [show (t.val - 1) / 4 = t.val / 4 by omega, show (t.val - 1) / 2 % 2 = t.val / 2 % 2 by omega] at before
  rw [before, show (4352 : ℕ) = 2176 + 2176 from rfl, tn_add]
  congr 1
  exact Finset.sum_congr rfl fun k _ => by rw [tile0, tile1, h, Nat.mul_one]

theorem final (c : Dev nD) : (dats m 0 c).arrAt 2 cfg0.N
    = (fun j => tn 4352 (A m c) (G m c) (j 1).val (j 2).val : S1x2048x1024.Idx → EReal) := by
  refine (dats m 0 c).arrAt_eq_of_covers 2 _ (by decide +kernel) fun t hf y => ?_
  blk_simp
  rw [after0_2, show y = ix3 0 (y 1) (y 2) from by idx_ext]
  refine (left_last m c t ((flush0_2 t).mp hf) (y 1) (y 2)).trans ?_
  blk_simp [idx2]
  simp only [Nat.mul_comm]

open Cert.ROutGrad1Ideal.Read in
/-- The derivative with respect to the weights. -/
theorem reference (x0 : Vec Ideal Cert.ROutGrad1Ideal.S4352x2048 .bf16) (x1 : Vec Ideal Cert.ROutGrad1Ideal.S4352x1024 .f32)
    (r : Fin 2048) (e : Fin 1024) :
    val_main_v5 x0 x1 (ix3 0 r e) = tn 4352 (at2 x0) (at2 x1) r e := by
  rw [val_main_v5_apply, val_main_v4_apply, val_main_v3_apply]
  refine Finset.sum_congr rfl fun k _ => ?_
  rw [mul_comm, of_idx2 (val_main_v0 x0) _ (r := k) (c := r) rfl rfl, of_idx2 x1 _ (r := k) (c := e) rfl rfl]
  rfl

theorem frame_reference : Cert.quiescent_ROutGrad1Ideal := fun m g _ =>
  (θ_run Cert.ROutGrad1Ideal.defs _ _).mono (fun r h => ⟨fun c => (h c).2, sem_eq_zero_of_no_sems (by decide) r.2⟩)
    (Cert.ROutGrad1Ideal.Value.run (F := Ideal) m g)

theorem algebraic : Cert.algebraic_OutGrad1Ideal_ROutGrad1Ideal := by
  intro m g m' g' _ hagree
  refine ⟨fun c => (fun j => tn 4352 (A m c) (G m c) (j 1).val (j 2).val), ?_, ?_⟩
  · refine (θ_run Cert.OutGrad1Ideal.defs _ _).mono (fun r h c => ?_) (Cert.OutGrad1Ideal.Value.run_blocks (F := Ideal) m g)
    obtain ⟨e0, e⟩ := h c
    exact ⟨e0.trans (final m c), e⟩
  · refine (θ_run Cert.ROutGrad1Ideal.defs _ _).mono (fun r h c => ?_) (Cert.ROutGrad1Ideal.Value.run (F := Ideal) m' g')
    obtain ⟨e0, e⟩ := h c
    obtain ⟨a0, a1⟩ := hagree c
    refine ⟨e0.trans ?_, e⟩
    rw [Cert.ROutGrad1Ideal.Read.val_main_v5_eq, a0, a1]
    funext j
    rw [show j = ix3 0 (j 1) (j 2) from by idx_ext]
    exact reference _ _ (j 1) (j 2)

end Cert.OutGrad1Value

end
-- ==== Proof.OutGrad3.lean ====
/-
  The gradient of a diagonal recurrence layer's output weights: the product of the transposed mixer output and the incoming gradient,
  accumulated over two blocks of rows.
-/
module

public import proofs.«01_k».proof.Defs
public import proofs.«01_k».proof.Proof.OutGrad1
public import proofs.«01_k».proof.Proof.Gen.OutGrad3Ideal.Value
public import proofs.«01_k».proof.Proof.Gen.ROutGrad3Ideal.Run
public import proofs.«01_k».proof.Proof.Gen.ROutGrad3Ideal.Read
public import Idealize.ShloMosaic.Lib.Pipeline.ValueKit
public import Idealize.ShloMosaic.Lib.Claim

@[expose] public section

set_option maxRecDepth 16384

noncomputable section

namespace Cert.OutGrad3Value

open Cert.OutGrad3Ideal Cert.OutGrad3Ideal.Gen Idealize.ShloMosaic Idealize.ShloMosaic.TcCoe Idealize.SL.Sem Cert.Mats

variable (m : (ℓ : Loc nD τ sig) → Buf (Elt Ideal) ℓ)

abbrev A (c : Dev nD) : Mat := at2 (m := 4352) (n := 1024) (m ((c : Thread nD τ).loc main_arg0))
abbrev G (c : Dev nD) : Mat := at2 (m := 4352) (n := 1024) (m ((c : Thread nD τ).loc main_arg1))

theorem idx0 (t : Fin cfg0.N) : win0_0.index t = ![t.val % 2, 0] :=
  (by decide +kernel : ∀ t : Fin grid0.N, win0_0.index t = ![t.val % 2, 0]) t
theorem idx1 (t : Fin cfg0.N) : win0_1.index t = ![t.val % 2, t.val / 2] :=
  (by decide +kernel : ∀ t : Fin grid0.N, win0_1.index t = ![t.val % 2, t.val / 2]) t
theorem idx2 (t : Fin cfg0.N) : win0_2.index t = ![0, 0, t.val / 2] :=
  (by decide +kernel : ∀ t : Fin grid0.N, win0_2.index t = ![0, 0, t.val / 2]) t

theorem tile0 (c : Dev nD) (t : Fin cfg0.N) (r : Fin 2176) (k : Fin 1024) :
    iblk m c 0 t (ix2 r k) = A m c (2176 * (t.val % 2) + r) k := by
  have ht : t.val < 4 := t.isLt
  refine Eq.trans ?_ (at2_eq _ _ _ (by omega) (by omega)).symm
  blk_ext [iblk, V_main_arg0, idx0]

theorem tile1 (c : Dev nD) (t : Fin cfg0.N) (r : Fin 2176) (k : Fin 512) :
    iblk m c 1 t (ix2 r k) = G m c (2176 * (t.val % 2) + r) (512 * (t.val / 2) + k) := by
  have ht : t.val < 4 := t.isLt
  refine Eq.trans ?_ (at2_eq _ _ _ (by omega) (by omega)).symm
  blk_ext [iblk, V_main_arg1, idx1]

theorem part (x0 : Vec Ideal S2176x1024 .bf16) (x1 : Vec Ideal S2176x512 .f32) (r : Fin 1024) (e : Fin 512) :
    k0_pay2 x0 x1 (ix3 0 r e) = ∑ k : Fin 2176, x0 (ix2 k r) * x1 (ix2 k e) :=
  OutGrad1Value.part x0 x1 r e

theorem part_on (x0 : Vec Ideal S2176x1024 .bf16) (x1 : Vec Ideal S2176x512 .f32) (x2 : Vec Ideal S1x1024x512 .f32)
    (r : Fin 1024) (e : Fin 512) :
    k0_pay3 x0 x1 x2 (ix3 0 r e) = x2 (ix3 0 r e) + ∑ k : Fin 2176, x0 (ix2 k r) * x1 (ix2 k e) :=
  OutGrad1Value.part_on x0 x1 x2 r e

/-- A point of the first block of rows starts the sum. -/
theorem left_first (c : Dev nD) (t : Fin cfg0.N) (h : t.val % 2 = 0) (r : Fin 1024) (e : Fin 512) :
    outsAt0 m c t.val t.isLt (ix3 0 r e)
      = tn 2176 (A m c) (G m c) r (512 * (t.val / 2) + e) := by
  rw [outsAt0_A m c t h (by omega)]
  unfold out0_A_2
  rw [View.read_writes_eq_canon _ _ _ (cover0_A_2 c _ _ _ _ _ _ _ _ _ _ _)]
  unfold kernelRun0_A
  dsimp only
  rw [View.canon_unit_zero hz3]
  simp only [View.readAt_eq_ld, (hs0_0 t).read_unread, (hs0_1 t).read_unread, View.ld_unit_zero (S := S2176x1024) hz2,
    View.ld_unit_zero (S := S2176x512) hz2]
  rw [part]
  exact Finset.sum_congr rfl fun k _ => by rw [tile0, tile1, h, Nat.mul_zero, Nat.zero_add]

/-- A point of the second block of rows ends it. -/
theorem left_last (c : Dev nD) (t : Fin cfg0.N) (h : t.val % 2 = 1) (r : Fin 1024) (e : Fin 512) :
    outsAt0 m c t.val t.isLt (ix3 0 r e)
      = tn 4352 (A m c) (G m c) r (512 * (t.val / 2) + e) := by
  rw [outsAt0_B m c t (by omega) h]
  unfold out0_B_2
  rw [View.read_writes_eq_canon _ _ _ (cover0_B_2 c _ _ _ _ _ _ _ _ _ _ _ _)]
  unfold kernelRun0_B
  dsimp only
  rw [View.canon_unit_zero hz3]
  simp only [View.readAt_eq_ld, (hs0_0 t).read_unread, (hs0_1 t).read_unread, (hs0_2 t).read_unread,
    View.ld_unit_zero (S := S2176x1024) hz2, View.ld_unit_zero (S := S2176x512) hz2,
    View.ld_unit_zero (S := S1x1024x512) hz3]
  rw [part_on]
  have ht : t.val < 4 := t.isLt
  have before := left_first m c ⟨t.val - 1, by omega⟩ (by simp only []; omega) r e
  simp only [show (t.val - 1) / 2 = t.val / 2 by omega] at before
  rw [before, show (4352 : ℕ) = 2176 + 2176 from rfl, tn_add]
  congr 1
  exact Finset.sum_congr rfl fun k _ => by rw [tile0, tile1, h, Nat.mul_one]

theorem final (c : Dev nD) : (dats m 0 c).arrAt 2 cfg0.N
    = (fun j => tn 4352 (A m c) (G m c) (j 1).val (j 2).val : S1x1024x1024.Idx → EReal) := by
  refine (dats m 0 c).arrAt_eq_of_covers 2 _ (by decide +kernel) fun t hf y => ?_
  blk_simp
  rw [after0_2, show y = ix3 0 (y 1) (y 2) from by idx_ext]
  refine (left_last m c t ((flush0_2 t).mp hf) (y 1) (y 2)).trans ?_
  blk_simp [idx2]
  simp only [Nat.mul_comm]

open Cert.ROutGrad3Ideal.Read in
/-- The derivative with respect to the weights. -/
theorem reference (x0 : Vec Ideal Cert.ROutGrad3Ideal.S4352x1024 .bf16) (x1 : Vec Ideal Cert.ROutGrad3Ideal.S4352x1024 .f32)
    (r e : Fin 1024) :
    val_main_v5 x0 x1 (ix3 0 r e) = tn 4352 (at2 x0) (at2 x1) r e := by
  rw [val_main_v5_apply, val_main_v4_apply, val_main_v3_apply]
  refine Finset.sum_congr rfl fun k _ => ?_
  rw [mul_comm, of_idx2 (val_main_v0 x0) _ (r := k) (c := r) rfl rfl, of_idx2 x1 _ (r := k) (c := e) rfl rfl]
  rfl

theorem frame_reference : Cert.quiescent_ROutGrad3Ideal := fun m g _ =>
  (θ_run Cert.ROutGrad3Ideal.defs _ _).mono (fun r h => ⟨fun c => (h c).2, sem_eq_zero_of_no_sems (by decide) r.2⟩)
    (Cert.ROutGrad3Ideal.Value.run (F := Ideal) m g)

theorem algebraic : Cert.algebraic_OutGrad3Ideal_ROutGrad3Ideal := by
  intro m g m' g' _ hagree
  refine ⟨fun c => (fun j => tn 4352 (A m c) (G m c) (j 1).val (j 2).val), ?_, ?_⟩
  · refine (θ_run Cert.OutGrad3Ideal.defs _ _).mono (fun r h c => ?_) (Cert.OutGrad3Ideal.Value.run_blocks (F := Ideal) m g)
    obtain ⟨e0, e⟩ := h c
    exact ⟨e0.trans (final m c), e⟩
  · refine (θ_run Cert.ROutGrad3Ideal.defs _ _).mono (fun r h c => ?_) (Cert.ROutGrad3Ideal.Value.run (F := Ideal) m' g')
    obtain ⟨e0, e⟩ := h c
    obtain ⟨a0, a1⟩ := hagree c
    refine ⟨e0.trans ?_, e⟩
    rw [Cert.ROutGrad3Ideal.Read.val_main_v5_eq, a0, a1]
    funext j
    rw [show j = ix3 0 (j 1) (j 2) from by idx_ext]
    exact reference _ _ (j 1) (j 2)

end Cert.OutGrad3Value

end
-- ==== Proof.GluGrad3.lean ====
/-
  The gradient of the weights of the diagonal recurrence layer's gate: the product of the transposed recurrence output and the incoming gradient.
-/
module

public import proofs.«01_k».proof.Defs
public import proofs.«01_k».proof.Proof.Tiles
public import proofs.«01_k».proof.Proof.Gen.GluGrad3Ideal.Value
public import proofs.«01_k».proof.Proof.Gen.RGluGrad3Ideal.Run
public import proofs.«01_k».proof.Proof.Gen.RGluGrad3Ideal.Read
public import Idealize.ShloMosaic.Lib.Pipeline.ValueKit
public import Idealize.ShloMosaic.Lib.Claim

@[expose] public section

set_option maxRecDepth 16384

noncomputable section

namespace Cert.GluGrad3Value

open Cert.GluGrad3Ideal Cert.GluGrad3Ideal.Gen Idealize.ShloMosaic Idealize.ShloMosaic.TcCoe Idealize.SL.Sem Cert.Mats

variable (m : (ℓ : Loc nD τ sig) → Buf (Elt Ideal) ℓ)

abbrev A (c : Dev nD) : Mat := at2 (m := 4352) (n := 1024) (m ((c : Thread nD τ).loc main_arg0))
abbrev G (c : Dev nD) : Mat := at2 (m := 4352) (n := 1024) (m ((c : Thread nD τ).loc main_arg1))

theorem idx0 (t : Fin cfg0.N) : win0_0.index t = ![0, 0] :=
  (by decide +kernel : ∀ t : Fin grid0.N, win0_0.index t = ![0, 0]) t
theorem idx1 (t : Fin cfg0.N) : win0_1.index t = ![0, t.val] :=
  (by decide +kernel : ∀ t : Fin grid0.N, win0_1.index t = ![0, t.val]) t
theorem idx2 (t : Fin cfg0.N) : win0_2.index t = ![0, 0, t.val] :=
  (by decide +kernel : ∀ t : Fin grid0.N, win0_2.index t = ![0, 0, t.val]) t

theorem tile0 (c : Dev nD) (t : Fin cfg0.N) (r : Fin 4352) (k : Fin 1024) :
    iblk m c 0 t (ix2 r k) = A m c r k := by
  refine Eq.trans ?_ (at2_eq _ _ _ (by omega) (by omega)).symm
  blk_ext [iblk, V_main_arg0, idx0]

theorem tile1 (c : Dev nD) (t : Fin cfg0.N) (r : Fin 4352) (k : Fin 512) :
    iblk m c 1 t (ix2 r k) = G m c r (512 * t.val + k) := by
  have ht : t.val < 2 := t.isLt
  refine Eq.trans ?_ (at2_eq _ _ _ (by omega) (by omega)).symm
  blk_ext [iblk, V_main_arg1, idx1]

theorem part (x0 : Vec Ideal S4352x1024 .bf16) (x1 : Vec Ideal S4352x512 .bf16) (r : Fin 1024) (e : Fin 512) :
    k0_pay2 x0 x1 (ix3 0 r e) = ∑ k : Fin 4352, x0 (ix2 k r) * x1 (ix2 k e) := by
  pointwise [k0_pay2, k0_pay1]

theorem left (c : Dev nD) (t : Fin cfg0.N) (r : Fin 1024) (e : Fin 512) :
    outsAt0 m c t (ix3 0 r e) = tn 4352 (A m c) (G m c) r (512 * t.val + e) := by
  unfold outsAt0 out0_A_2
  rw [View.read_writes_eq_canon _ _ _ (cover0_A_2 c _ _ _ _ _ _ _ _ _ _ _)]
  unfold kernelRun0_A
  dsimp only
  rw [View.canon_unit_zero hz3]
  simp only [View.readAt_eq_ld, (hs0_0 t).read_unread, (hs0_1 t).read_unread, View.ld_unit_zero (S := S4352x1024) hz2,
    View.ld_unit_zero (S := S4352x512) hz2]
  rw [part]
  exact Finset.sum_congr rfl fun k _ => by rw [tile0, tile1]

theorem final (c : Dev nD) : (dats m 0 c).arrAt 2 cfg0.N
    = (fun j => tn 4352 (A m c) (G m c) (j 1).val ((j 2).val) : S1x1024x1024.Idx → EReal) := by
  refine (dats m 0 c).arrAt_eq_of_covers 2 _ (by decide +kernel) fun t hf y => ?_
  blk_simp
  rw [after0_2, show y = ix3 0 (y 1) (y 2) from by idx_ext]
  refine (left m c t (y 1) (y 2)).trans ?_
  blk_simp [idx2]
  simp only [Nat.mul_comm]

open Cert.RGluGrad3Ideal.Read in
/-- The derivative with respect to the weights. -/
theorem reference (x0 x1 : Vec Ideal Cert.RGluGrad3Ideal.S4352x1024 .bf16) (r e : Fin 1024) :
    val_main_v6 x0 x1 (ix3 0 r e) = tn 4352 (at2 x0) (at2 x1) r e := by
  rw [val_main_v6_apply, val_main_v5_apply, val_main_v4_apply]
  refine Finset.sum_congr rfl fun k _ => ?_
  rw [mul_comm, of_idx2 (val_main_v0 x0) _ (r := k) (c := r) rfl rfl, of_idx2 (val_main_v1 x1) _ (r := k) (c := e) rfl rfl]
  rfl

theorem frame_reference : Cert.quiescent_RGluGrad3Ideal := fun m g _ =>
  (θ_run Cert.RGluGrad3Ideal.defs _ _).mono (fun r h => ⟨fun c => (h c).2, sem_eq_zero_of_no_sems (by decide) r.2⟩)
    (Cert.RGluGrad3Ideal.Value.run (F := Ideal) m g)

theorem algebraic : Cert.algebraic_GluGrad3Ideal_RGluGrad3Ideal := by
  intro m g m' g' _ hagree
  refine ⟨fun c => (fun j => tn 4352 (A m c) (G m c) (j 1).val ((j 2).val)), ?_, ?_⟩
  · refine (θ_run Cert.GluGrad3Ideal.defs _ _).mono (fun r h c => ?_) (Cert.GluGrad3Ideal.Value.run_blocks (F := Ideal) m g)
    obtain ⟨e0, e⟩ := h c
    exact ⟨e0.trans (final m c), e⟩
  · refine (θ_run Cert.RGluGrad3Ideal.defs _ _).mono (fun r h c => ?_) (Cert.RGluGrad3Ideal.Value.run (F := Ideal) m' g')
    obtain ⟨e0, e⟩ := h c
    obtain ⟨a0, a1⟩ := hagree c
    refine ⟨e0.trans ?_, e⟩
    rw [Cert.RGluGrad3Ideal.Read.val_main_v6_eq, a0, a1]
    funext j
    rw [show j = ix3 0 (j 1) (j 2) from by idx_ext]
    exact reference _ _ (j 1) (j 2)

end Cert.GluGrad3Value

end
-- ==== Proof.Out1.lean ====
/-
  The output of layer 1: the product of the mixer's output and the output weights, added to the layer's input.
-/
module

public import proofs.«01_k».proof.Defs
public import proofs.«01_k».proof.Proof.Tiles
public import proofs.«01_k».proof.Proof.Gen.Out1Ideal.Value
public import proofs.«01_k».proof.Proof.Gen.ROut1Ideal.Run
public import proofs.«01_k».proof.Proof.Gen.ROut1Ideal.Read
public import Idealize.ShloMosaic.Lib.Pipeline.ValueKit
public import Idealize.ShloMosaic.Lib.Claim

@[expose] public section

set_option maxRecDepth 16384

noncomputable section

namespace Cert.Out1Value

open Cert.Out1Ideal Cert.Out1Ideal.Gen Idealize.ShloMosaic Idealize.ShloMosaic.TcCoe Idealize.SL.Sem Cert.Mats

variable (m : (ℓ : Loc nD τ sig) → Buf (Elt Ideal) ℓ)

abbrev A (c : Dev nD) : Mat := at2 (m := 4352) (n := 2048) (m ((c : Thread nD τ).loc main_arg0))
abbrev W (c : Dev nD) : Mat := at2 (m := 2048) (n := 1024) (m ((c : Thread nD τ).loc main_arg1))
abbrev H (c : Dev nD) : Mat := at2 (m := 4352) (n := 1024) (m ((c : Thread nD τ).loc main_arg2))

theorem idx0 (t : Fin cfg0.N) : win0_0.index t = ![t.val, 0] :=
  (by decide +kernel : ∀ t : Fin grid0.N, win0_0.index t = ![t.val, 0]) t
theorem idx1 (t : Fin cfg0.N) : win0_1.index t = ![0, 0, 0] :=
  (by decide +kernel : ∀ t : Fin grid0.N, win0_1.index t = ![0, 0, 0]) t
theorem idx2 (t : Fin cfg0.N) : win0_2.index t = ![t.val, 0] :=
  (by decide +kernel : ∀ t : Fin grid0.N, win0_2.index t = ![t.val, 0]) t
theorem idx3 (t : Fin cfg0.N) : win0_3.index t = ![t.val, 0] :=
  (by decide +kernel : ∀ t : Fin grid0.N, win0_3.index t = ![t.val, 0]) t

theorem tile0 (c : Dev nD) (t : Fin cfg0.N) (r : Fin 1088) (k : Fin 2048) :
    iblk m c 0 t (ix2 r k) = A m c (1088 * t.val + r) k := by
  have ht : t.val < 4 := t.isLt
  refine Eq.trans ?_ (at2_eq _ _ _ (by omega) (by omega)).symm
  blk_ext [iblk, V_main_arg0, idx0]

theorem tile1 (c : Dev nD) (t : Fin cfg0.N) (r : Fin 2048) (k : Fin 1024) :
    iblk m c 1 t (ix3 0 r k) = W m c r k := by
  refine Eq.trans ?_ (at2_eq _ _ _ (by omega) (by omega)).symm
  blk_ext! [iblk, idx1]

theorem tile2 (c : Dev nD) (t : Fin cfg0.N) (r : Fin 1088) (k : Fin 1024) :
    iblk m c 2 t (ix2 r k) = H m c (1088 * t.val + r) k := by
  have ht : t.val < 4 := t.isLt
  refine Eq.trans ?_ (at2_eq _ _ _ (by omega) (by omega)).symm
  blk_ext [iblk, V_main_arg2, idx2]

theorem part (x0 : Vec Ideal S1088x2048 .bf16) (x1 : Vec Ideal S1x2048x1024 .bf16) (x2 : Vec Ideal S1088x1024 .f32)
    (r : Fin 1088) (e : Fin 1024) :
    k0_pay1 x0 x1 x2 (ix2 r e) = (∑ k : Fin 2048, x0 (ix2 r k) * x1 (ix3 0 k e)) + x2 (ix2 r e) := by
  pointwise [k0_pay1]

theorem left (c : Dev nD) (t : Fin cfg0.N) (r : Fin 1088) (e : Fin 1024) :
    out0_3 (iblk m c 0 t) (iblk m c 1 t) (iblk m c 2 t) (ix2 r e)
      = H m c (1088 * t.val + r) e + nn 2048 (A m c) (W m c) (1088 * t.val + r) e := by
  unfold out0_3
  rw [View.canon_unit_zero (S := S1088x1024) hz2]
  simp only [View.ld_unit_zero (S := S1088x2048) hz2, View.ld_unit_zero (S := S1x2048x1024) hz3,
    View.ld_unit_zero (S := S1088x1024) hz2]
  rw [part, add_comm, tile2]
  congr 1
  exact Finset.sum_congr rfl fun k _ => by rw [tile0, tile1]

theorem final (c : Dev nD) : (dats m 0 c).arrAt 3 cfg0.N
    = (fun j => H m c (j 0).val (j 1).val + nn 2048 (A m c) (W m c) (j 0).val (j 1).val : S4352x1024.Idx → EReal) := by
  refine (dats m 0 c).arrAt_eq_of_covers 3 _ (by decide +kernel) fun t hf y => ?_
  blk_simp
  rw [after0_3, show y = ix2 (y 0) (y 1) from by idx_ext]
  refine (left m c t (y 0) (y 1)).trans ?_
  blk_simp [idx3]
  simp only [Nat.mul_comm]

open Cert.ROut1Ideal.Read in
/-- The forward line. -/
theorem reference (x0 : Vec Ideal Cert.ROut1Ideal.S4352x2048 .bf16) (x1 : Vec Ideal Cert.ROut1Ideal.S2048x1024 .f32)
    (x2 : Vec Ideal Cert.ROut1Ideal.S4352x1024 .f32) (r : Fin 4352) (e : Fin 1024) :
    val_main_v2 x0 x1 x2 (ix2 r e) = at2 x2 r e + nn 2048 (at2 x0) (at2 x1) r e := by
  rw [val_main_v2_apply, val_main_v1_apply, of_idx2 x2 _ (r := r) (c := e) rfl rfl]
  refine congrArg (at2 x2 r e + ·) (Finset.sum_congr rfl fun k _ => ?_)
  rw [of_idx2 (val_main_v0 x0) _ (r := r) (c := k) rfl rfl, of_idx2 x1 _ (r := k) (c := e) rfl rfl]
  rfl

theorem frame_reference : Cert.quiescent_ROut1Ideal := fun m g _ =>
  (θ_run Cert.ROut1Ideal.defs _ _).mono (fun r h => ⟨fun c => (h c).2, sem_eq_zero_of_no_sems (by decide) r.2⟩)
    (Cert.ROut1Ideal.Value.run (F := Ideal) m g)

theorem algebraic : Cert.algebraic_Out1Ideal_ROut1Ideal := by
  intro m g m' g' _ hagree
  refine ⟨fun c => (fun j => H m c (j 0).val (j 1).val + nn 2048 (A m c) (W m c) (j 0).val (j 1).val), ?_, ?_⟩
  · refine (θ_run Cert.Out1Ideal.defs _ _).mono (fun r h c => ?_) (Cert.Out1Ideal.Value.run_blocks (F := Ideal) m g)
    obtain ⟨e0, e⟩ := h c
    exact ⟨e0.trans (final m c), e⟩
  · refine (θ_run Cert.ROut1Ideal.defs _ _).mono (fun r h c => ?_) (Cert.ROut1Ideal.Value.run (F := Ideal) m' g')
    obtain ⟨e0, e⟩ := h c
    obtain ⟨a0, a1, a2⟩ := hagree c
    refine ⟨e0.trans ?_, e⟩
    rw [Cert.ROut1Ideal.Read.val_main_v2_eq, a0, a1, a2]
    funext j
    rw [show j = ix2 (j 0) (j 1) from by idx_ext]
    exact reference _ _ _ (j 0) (j 1)

end Cert.Out1Value

end
-- ==== Proof.Out3.lean ====
/-
  The output of a diagonal recurrence layer: the product of the mixer's output and the output weights, added to the layer's input.
-/
module

public import proofs.«01_k».proof.Defs
public import proofs.«01_k».proof.Proof.Tiles
public import proofs.«01_k».proof.Proof.Gen.Out3Ideal.Value
public import proofs.«01_k».proof.Proof.Gen.ROut3Ideal.Run
public import proofs.«01_k».proof.Proof.Gen.ROut3Ideal.Read
public import Idealize.ShloMosaic.Lib.Pipeline.ValueKit
public import Idealize.ShloMosaic.Lib.Claim

@[expose] public section

set_option maxRecDepth 16384

noncomputable section

namespace Cert.Out3Value

open Cert.Out3Ideal Cert.Out3Ideal.Gen Idealize.ShloMosaic Idealize.ShloMosaic.TcCoe Idealize.SL.Sem Cert.Mats

variable (m : (ℓ : Loc nD τ sig) → Buf (Elt Ideal) ℓ)

abbrev A (c : Dev nD) : Mat := at2 (m := 4352) (n := 1024) (m ((c : Thread nD τ).loc main_arg0))
abbrev W (c : Dev nD) : Mat := at2 (m := 1024) (n := 1024) (m ((c : Thread nD τ).loc main_arg1))
abbrev H (c : Dev nD) : Mat := at2 (m := 4352) (n := 1024) (m ((c : Thread nD τ).loc main_arg2))

theorem idx0 (t : Fin cfg0.N) : win0_0.index t = ![t.val, 0] :=
  (by decide +kernel : ∀ t : Fin grid0.N, win0_0.index t = ![t.val, 0]) t
theorem idx1 (t : Fin cfg0.N) : win0_1.index t = ![0, 0, 0] :=
  (by decide +kernel : ∀ t : Fin grid0.N, win0_1.index t = ![0, 0, 0]) t
theorem idx2 (t : Fin cfg0.N) : win0_2.index t = ![t.val, 0] :=
  (by decide +kernel : ∀ t : Fin grid0.N, win0_2.index t = ![t.val, 0]) t
theorem idx3 (t : Fin cfg0.N) : win0_3.index t = ![t.val, 0] :=
  (by decide +kernel : ∀ t : Fin grid0.N, win0_3.index t = ![t.val, 0]) t

theorem tile0 (c : Dev nD) (t : Fin cfg0.N) (r : Fin 1088) (k : Fin 1024) :
    iblk m c 0 t (ix2 r k) = A m c (1088 * t.val + r) k := by
  have ht : t.val < 4 := t.isLt
  refine Eq.trans ?_ (at2_eq _ _ _ (by omega) (by omega)).symm
  blk_ext [iblk, V_main_arg0, idx0]

theorem tile1 (c : Dev nD) (t : Fin cfg0.N) (r : Fin 1024) (k : Fin 1024) :
    iblk m c 1 t (ix3 0 r k) = W m c r k := by
  refine Eq.trans ?_ (at2_eq _ _ _ (by omega) (by omega)).symm
  blk_ext! [iblk, idx1]

theorem tile2 (c : Dev nD) (t : Fin cfg0.N) (r : Fin 1088) (k : Fin 1024) :
    iblk m c 2 t (ix2 r k) = H m c (1088 * t.val + r) k := by
  have ht : t.val < 4 := t.isLt
  refine Eq.trans ?_ (at2_eq _ _ _ (by omega) (by omega)).symm
  blk_ext [iblk, V_main_arg2, idx2]

theorem part (x0 : Vec Ideal S1088x1024 .bf16) (x1 : Vec Ideal S1x1024x1024 .bf16) (x2 : Vec Ideal S1088x1024 .f32)
    (r : Fin 1088) (e : Fin 1024) :
    k0_pay1 x0 x1 x2 (ix2 r e) = (∑ k : Fin 1024, x0 (ix2 r k) * x1 (ix3 0 k e)) + x2 (ix2 r e) := by
  pointwise [k0_pay1]

theorem left (c : Dev nD) (t : Fin cfg0.N) (r : Fin 1088) (e : Fin 1024) :
    out0_3 (iblk m c 0 t) (iblk m c 1 t) (iblk m c 2 t) (ix2 r e)
      = H m c (1088 * t.val + r) e + nn 1024 (A m c) (W m c) (1088 * t.val + r) e := by
  unfold out0_3
  rw [View.canon_unit_zero (S := S1088x1024) hz2]
  simp only [View.ld_unit_zero (S := S1088x1024) hz2, View.ld_unit_zero (S := S1x1024x1024) hz3]
  rw [part, add_comm, tile2]
  congr 1
  exact Finset.sum_congr rfl fun k _ => by rw [tile0, tile1]

theorem final (c : Dev nD) : (dats m 0 c).arrAt 3 cfg0.N
    = (fun j => H m c (j 0).val (j 1).val + nn 1024 (A m c) (W m c) (j 0).val (j 1).val : S4352x1024.Idx → EReal) := by
  refine (dats m 0 c).arrAt_eq_of_covers 3 _ (by decide +kernel) fun t hf y => ?_
  blk_simp
  rw [after0_3, show y = ix2 (y 0) (y 1) from by idx_ext]
  refine (left m c t (y 0) (y 1)).trans ?_
  blk_simp [idx3]
  simp only [Nat.mul_comm]

open Cert.ROut3Ideal.Read in
/-- The forward line. -/
theorem reference (x0 : Vec Ideal Cert.ROut3Ideal.S4352x1024 .bf16) (x1 : Vec Ideal Cert.ROut3Ideal.S1024x1024 .f32)
    (x2 : Vec Ideal Cert.ROut3Ideal.S4352x1024 .f32) (r : Fin 4352) (e : Fin 1024) :
    val_main_v2 x0 x1 x2 (ix2 r e) = at2 x2 r e + nn 1024 (at2 x0) (at2 x1) r e := by
  rw [val_main_v2_apply, val_main_v1_apply, of_idx2 x2 _ (r := r) (c := e) rfl rfl]
  refine congrArg (at2 x2 r e + ·) (Finset.sum_congr rfl fun k _ => ?_)
  rw [of_idx2 (val_main_v0 x0) _ (r := r) (c := k) rfl rfl, of_idx2 x1 _ (r := k) (c := e) rfl rfl]
  rfl

theorem frame_reference : Cert.quiescent_ROut3Ideal := fun m g _ =>
  (θ_run Cert.ROut3Ideal.defs _ _).mono (fun r h => ⟨fun c => (h c).2, sem_eq_zero_of_no_sems (by decide) r.2⟩)
    (Cert.ROut3Ideal.Value.run (F := Ideal) m g)

theorem algebraic : Cert.algebraic_Out3Ideal_ROut3Ideal := by
  intro m g m' g' _ hagree
  refine ⟨fun c => (fun j => H m c (j 0).val (j 1).val + nn 1024 (A m c) (W m c) (j 0).val (j 1).val), ?_, ?_⟩
  · refine (θ_run Cert.Out3Ideal.defs _ _).mono (fun r h c => ?_) (Cert.Out3Ideal.Value.run_blocks (F := Ideal) m g)
    obtain ⟨e0, e⟩ := h c
    exact ⟨e0.trans (final m c), e⟩
  · refine (θ_run Cert.ROut3Ideal.defs _ _).mono (fun r h c => ?_) (Cert.ROut3Ideal.Value.run (F := Ideal) m' g')
    obtain ⟨e0, e⟩ := h c
    obtain ⟨a0, a1, a2⟩ := hagree c
    refine ⟨e0.trans ?_, e⟩
    rw [Cert.ROut3Ideal.Read.val_main_v2_eq, a0, a1, a2]
    funext j
    rw [show j = ix2 (j 0) (j 1) from by idx_ext]
    exact reference _ _ _ (j 0) (j 1)

end Cert.Out3Value

end
-- ==== Proof.YgGrad3.lean ====
/-
  The gradient of the gate's input in layers 0 and 3: the product of the gate's gradient and the transposed weights.
-/
module

public import proofs.«01_k».proof.Defs
public import proofs.«01_k».proof.Proof.Tiles
public import proofs.«01_k».proof.Proof.Gen.YgGrad3Ideal.Value
public import proofs.«01_k».proof.Proof.Gen.RYgGrad3Ideal.Run
public import proofs.«01_k».proof.Proof.Gen.RYgGrad3Ideal.Read
public import Idealize.ShloMosaic.Lib.Pipeline.ValueKit
public import Idealize.ShloMosaic.Lib.Claim

@[expose] public section

set_option maxRecDepth 16384

noncomputable section

namespace Cert.YgGrad3Value

open Cert.YgGrad3Ideal Cert.YgGrad3Ideal.Gen Idealize.ShloMosaic Idealize.ShloMosaic.TcCoe Idealize.SL.Sem Cert.Mats

variable (m : (ℓ : Loc nD τ sig) → Buf (Elt Ideal) ℓ)

abbrev W (c : Dev nD) : Mat := at2 (m := 1024) (n := 1024) (m ((c : Thread nD τ).loc main_arg0))
abbrev G (c : Dev nD) : Mat := at2 (m := 4352) (n := 1024) (m ((c : Thread nD τ).loc main_arg1))

theorem idx0 (t : Fin cfg0.N) : win0_0.index t = ![t.val, 0] :=
  (by decide +kernel : ∀ t : Fin grid0.N, win0_0.index t = ![t.val, 0]) t
theorem idx1 (t : Fin cfg0.N) : win0_1.index t = ![0, 0, 0] :=
  (by decide +kernel : ∀ t : Fin grid0.N, win0_1.index t = ![0, 0, 0]) t
theorem idx2 (t : Fin cfg0.N) : win0_2.index t = ![t.val, 0] :=
  (by decide +kernel : ∀ t : Fin grid0.N, win0_2.index t = ![t.val, 0]) t

theorem tile0 (c : Dev nD) (t : Fin cfg0.N) (r : Fin 2176) (k : Fin 1024) :
    iblk m c 0 t (ix2 r k) = G m c (2176 * t.val + r) k := by
  have ht : t.val < 2 := t.isLt
  refine Eq.trans ?_ (at2_eq _ _ _ (by omega) (by omega)).symm
  blk_ext [iblk, V_main_arg1, idx0]

theorem tile1 (c : Dev nD) (t : Fin cfg0.N) (r : Fin 1024) (k : Fin 1024) :
    iblk m c 1 t (ix3 0 r k) = W m c r k := by
  refine Eq.trans ?_ (at2_eq _ _ _ (by omega) (by omega)).symm
  blk_ext! [iblk, idx1]

theorem part (x0 : Vec Ideal S2176x1024 .bf16) (x1 : Vec Ideal S1x1024x1024 .bf16) (r : Fin 2176) (e : Fin 1024) :
    k0_pay1 x0 x1 (ix2 r e) = ∑ k : Fin 1024, x0 (ix2 r k) * x1 (ix3 0 e k) := by
  pointwise [k0_pay1]

theorem left (c : Dev nD) (t : Fin cfg0.N) (r : Fin 2176) (e : Fin 1024) :
    outsAt0 m c t (ix2 r e) = nt 1024 (G m c) (W m c) (2176 * t.val + r) e := by
  unfold outsAt0 out0_A_2
  rw [View.read_writes_eq_canon _ _ _ (cover0_A_2 c _ _ _ _ _ _ _ _ _ _ _)]
  unfold kernelRun0_A
  dsimp only
  rw [View.canon_unit_zero hz2]
  simp only [View.readAt_eq_ld, (hs0_0 t).read_unread, (hs0_1 t).read_unread, View.ld_unit_zero (S := S2176x1024) hz2,
    View.ld_unit_zero (S := S1x1024x1024) hz3]
  rw [part]
  exact Finset.sum_congr rfl fun k _ => by rw [tile0, tile1]

theorem final (c : Dev nD) : (dats m 0 c).arrAt 2 cfg0.N
    = (fun j => nt 1024 (G m c) (W m c) (j 0).val (j 1).val : S4352x1024.Idx → EReal) := by
  refine (dats m 0 c).arrAt_eq_of_covers 2 _ (by decide +kernel) fun t hf y => ?_
  blk_simp
  rw [after0_2, show y = ix2 (y 0) (y 1) from by idx_ext]
  refine (left m c t (y 0) (y 1)).trans ?_
  blk_simp [idx2]
  simp only [Nat.mul_comm]

open Cert.RYgGrad3Ideal.Read in
/-- The derivative with respect to the product's first factor. -/
theorem reference (x0 : Vec Ideal Cert.RYgGrad3Ideal.S1024x1024 .f32) (x1 : Vec Ideal Cert.RYgGrad3Ideal.S4352x1024 .bf16)
    (r : Fin 4352) (e : Fin 1024) : val_main_v3 x0 x1 (ix2 r e) = nt 1024 (at2 x1) (at2 x0) r e := by
  rw [val_main_v3_apply]
  refine Finset.sum_congr rfl fun k _ => ?_
  rw [of_idx2 (val_main_v0 x1) _ (r := r) (c := k) rfl rfl, of_idx2 x0 _ (r := e) (c := k) rfl rfl]
  rfl

theorem frame_reference : Cert.quiescent_RYgGrad3Ideal := fun m g _ =>
  (θ_run Cert.RYgGrad3Ideal.defs _ _).mono (fun r h => ⟨fun c => (h c).2, sem_eq_zero_of_no_sems (by decide) r.2⟩)
    (Cert.RYgGrad3Ideal.Value.run (F := Ideal) m g)

theorem algebraic : Cert.algebraic_YgGrad3Ideal_RYgGrad3Ideal := by
  intro m g m' g' _ hagree
  refine ⟨fun c => (fun j => nt 1024 (G m c) (W m c) (j 0).val (j 1).val), ?_, ?_⟩
  · refine (θ_run Cert.YgGrad3Ideal.defs _ _).mono (fun r h c => ?_) (Cert.YgGrad3Ideal.Value.run_blocks (F := Ideal) m g)
    obtain ⟨e0, e⟩ := h c
    exact ⟨e0.trans (final m c), e⟩
  · refine (θ_run Cert.RYgGrad3Ideal.defs _ _).mono (fun r h c => ?_) (Cert.RYgGrad3Ideal.Value.run (F := Ideal) m' g')
    obtain ⟨e0, e⟩ := h c
    obtain ⟨a0, a1⟩ := hagree c
    refine ⟨e0.trans ?_, e⟩
    rw [Cert.RYgGrad3Ideal.Read.val_main_v3_eq, a0, a1]
    funext j
    rw [show j = ix2 (j 0) (j 1) from by idx_ext]
    exact reference _ _ (j 0) (j 1)

end Cert.YgGrad3Value

end
-- ==== Proof.RowsOnce.lean ====
/-
  A body that fills one output's block with rows at the first of a run of points and, at every point of the run, multiplies
  those rows into another output's block: its run from any memory, for any signature and any two payloads. Each program that
  normalises its rows once per block of rows applies it.
-/
module

public import proofs.«01_k».proof.Proof.Tiles
public import Idealize.ShloMosaic.Lib.Pipeline.FrameBody
public import Idealize.ShloMosaic.Lib.Pipeline.ValueKit
public import Idealize.ShloMosaic.Lib.Pipeline.TableIdle
public import Idealize.ShloMosaic.Lib.Tactic
public import Idealize.ShloMosaic.Lib.Exec

@[expose] public section

set_option maxRecDepth 16384

noncomputable section

namespace Cert.RowsOnce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Mats

/-- One store of a whole block, read back. -/
theorem stored {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩), View.canon_unit_zero h]

abbrev SR : Shape := ⟨2, ![1088, 1024]⟩
abbrev SG : Shape := ⟨2, ![1, 1024]⟩
abbrev SW (n : ℕ) : Shape := ⟨3, ![1, 1024, n]⟩
abbrev SO (n : ℕ) : Shape := ⟨2, ![1088, n]⟩

section

variable {nD : ℕ} {τ : Topo} {sig : RefSig} {F : FTy → Type} [FloatOps F] {Λ : Labels} {n : ℕ}

abbrev rR (h : ∀ a, (![0, 0] : Fin 2 → Nat) a + SR.size a ≤ SR.size a) : Rect SR := Rect.unit (s := SR) ![0, 0] SR.size h
abbrev rG (h : ∀ a, (![0, 0] : Fin 2 → Nat) a + SG.size a ≤ SG.size a) : Rect SG := Rect.unit (s := SG) ![0, 0] SG.size h
abbrev rW (h : ∀ a, (![0, 0, 0] : Fin 3 → Nat) a + (SW n).size a ≤ (SW n).size a) : Rect (SW n) :=
  Rect.unit (s := SW n) ![0, 0, 0] (SW n).size h
abbrev rO (h : ∀ a, (![0, 0] : Fin 2 → Nat) a + (SO n).size a ≤ (SO n).size a) : Rect (SO n) :=
  Rect.unit (s := SO n) ![0, 0] (SO n).size h

variable (a0 : Memref sig .tc .vmem SR .f32) (a1 : Memref sig .tc .vmem SG .f32) (a2 : Memref sig .tc .vmem (SW n) .bf16)
  (a3 : Memref sig .tc .vmem (SO n) .f32) (a4 : Memref sig .tc .vmem SR .bf16)
  (w0 : a0.IsWhole) (w1 : a1.IsWhole) (w2 : a2.IsWhole) (w3 : a3.IsWhole) (w4 : a4.IsWhole)
  {bR : ∀ a, (![0, 0] : Fin 2 → Nat) a + SR.size a ≤ SR.size a} {bG : ∀ a, (![0, 0] : Fin 2 → Nat) a + SG.size a ≤ SG.size a}
  {bW : ∀ a, (![0, 0, 0] : Fin 3 → Nat) a + (SW n).size a ≤ (SW n).size a}
  {bO : ∀ a, (![0, 0] : Fin 2 → Nat) a + (SO n).size a ≤ (SO n).size a}
  (l0 : a0.view.LoadsAt (rR bR).toLoadRect) (l1 : a1.view.LoadsAt (rG bG).toLoadRect) (l2 : a2.view.LoadsAt (rW bW).toLoadRect)
  (l3 : a3.view.LoadsAt (rO bO).toLoadRect) (l4 : a4.view.LoadsAt (rR bR).toLoadRect)
  (s3 : (a3.access (rO bO)).Stores Finset.univ) (s4 : (a4.access (rR bR)).Stores Finset.univ)
  (P : Vec F SR .f32 → Vec F SG .f32 → Vec F SR .bf16) (Q : Vec F SR .bf16 → Vec F (SW n) .bf16 → Vec F (SO n) .f32)
  (first : Prop) [Decidable first]

/-- The body: at a run's first point the rows, then at every point their product. -/
def body : Prog (TpuEff nD τ sig (Elt F) Λ .tc) PUnit := do
  if _h : first then do
    let x ← Prog.lift (.load a0 (rR bR).toLoadRect l0)
    let g ← Prog.lift (.load a1 (rG bG).toLoadRect l1)
    let _y ← Prog.lift (.load a4 (rR bR).toLoadRect l4)
    Prog.lift (.store a4 (rR bR) (P x g) Finset.univ s4 (.inl rfl))
    pure ⟨⟩
  else do
    pure ⟨⟩
  let y ← Prog.lift (.load a4 (rR bR).toLoadRect l4)
  let w ← Prog.lift (.load a2 (rW bW).toLoadRect l2)
  let _o ← Prog.lift (.load a3 (rO bO).toLoadRect l3)
  Prog.lift (.store a3 (rO bO) (Q y w) Finset.univ s3 (.inl rfl))
  pure ⟨⟩

variable (defs : Defs nD τ sig (Elt F) Λ) {U : Type} [URA U]

include w0 w1 w2 in
/-- A run's first point: the rows are stored, and the product of what was stored. -/
theorem body_first (c : Dev nD) (hc : first) (x0 : Vec F SR .f32) (x1 : Vec F SG .f32) (x2 : Vec F (SW n) .bf16)
    (E : Set ℕ) (K : PUnit → sProp (MT nD τ sig Unit (Elt F) ℕ U ℕ)) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare (Q (P x0 x1) x2) ∗ owns (c : Thread nD τ) a4 fullShare (P x0 x1)) -∗ K ⟨⟩))
      ⊢ wp frame (wpE defs Variants.none c none) E (body a0 a1 a2 a3 a4 l0 l1 l2 l3 l4 s3 s4 P Q first) K := by
  unfold body
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := w0.eq_unread hf0; obtain rfl := w1.eq_unread hf1; obtain rfl := w2.eq_unread hf2
  sl_exec (disch := sl_exact hc)
  sl_step
  iapply Hk
  isplitl [H0]
  · iexists _; isplitr; · ipureintro; exact w0.read_unread _
    iexact H0
  isplitl [H1]
  · iexists _; isplitr; · ipureintro; exact w1.read_unread _
    iexact H1
  isplitl [H2]
  · iexists _; isplitr; · ipureintro; exact w2.read_unread _
    iexact H2
  isplitl [H3]
  · iexists _; isplitr
    swap; · iexact H3
    ipureintro
    sl_unfold_words
    rw [stored _ _ hz2, View.readCov_unit_zero (S := SR) _ hz2]
    simp only [View.readAt_eq_ld, w0.read_unread, w1.read_unread, w2.read_unread, View.ld_unit_zero (S := SR) hz2,
      View.ld_unit_zero (S := SG) hz2, View.ld_unit_zero (S := SW n) hz3]
  · iexists _; isplitr
    swap; · iexact H4
    ipureintro
    sl_unfold_words
    rw [stored _ _ hz2]
    simp only [View.readAt_eq_ld, w0.read_unread, w1.read_unread, View.ld_unit_zero (S := SR) hz2, View.ld_unit_zero (S := SG) hz2]

include w2 w4 in
/-- A run's other points: the product of the rows the block already holds. -/
theorem body_next (c : Dev nD) (hc : ¬first) (x2 : Vec F (SW n) .bf16) (y : Vec F SR .bf16)
    (E : Set ℕ) (K : PUnit → sProp (MT nD τ sig Unit (Elt F) ℕ U ℕ)) :
    iprop(owns (c : Thread nD τ) a2 fullShare x2 ∗ (∃ d, owns (c : Thread nD τ) a3 fullShare d) ∗ owns (c : Thread nD τ) a4 fullShare y
        ∗ (iprop(owns (c : Thread nD τ) a2 fullShare x2 ∗ owns (c : Thread nD τ) a3 fullShare (Q y x2)
            ∗ owns (c : Thread nD τ) a4 fullShare y) -∗ K ⟨⟩))
      ⊢ wp frame (wpE defs Variants.none c none) E (body a0 a1 a2 a3 a4 l0 l1 l2 l3 l4 s3 s4 P Q first) K := by
  unfold body
  unfold owns
  iintro ⟨⟨%f2, %hf2, H2⟩, ⟨%d3, %f3, -, H3⟩, ⟨%f4, %hf4, H4⟩, Hk⟩
  obtain rfl := w2.eq_unread hf2; obtain rfl := w4.eq_unread hf4
  sl_exec (disch := sl_exact hc)
  sl_step
  iapply Hk
  isplitl [H2]
  · iexists _; isplitr; · ipureintro; exact w2.read_unread _
    iexact H2
  isplitl [H3]
  · iexists _; isplitr
    swap; · iexact H3
    ipureintro
    try sl_unfold_words
    rw [stored _ _ hz2]
    simp only [View.readAt_eq_ld, w2.read_unread, w4.read_unread, View.ld_unit_zero (S := SR) hz2,
      View.ld_unit_zero (S := SW n) hz3]
  · iexists _; isplitr; · ipureintro; exact w4.read_unread _
    iexact H4

include w0 w1 w2 w4 in
/-- The body at any point, between what the point finds and what it leaves: `y` the rows of the point's run. -/
theorem point (c : Dev nD) {D0 D1 D2 D3 D4 : Type} (x0 : Vec F SR .f32) (x1 : Vec F SG .f32) (x2 : Vec F (SW n) .bf16)
    (y : Vec F SR .bf16) (b3 : D3 → Vec F (SO n) .f32) (b4 : D4 → Vec F SR .bf16) (hf : first → y = P x0 x1)
    (hk : ¬first → ∀ d, b4 d = y) (A B L : sProp (MT nD τ sig Unit (Elt F) ℕ U ℕ))
    (hL : owns (c : Thread nD τ) a4 fullShare y ⊢ L) (E : Set ℕ) :
    iprop(A ∗ B ∗ (∃ _d : D0, owns (c : Thread nD τ) a0 fullShare x0) ∗ (∃ _d : D1, owns (c : Thread nD τ) a1 fullShare x1)
        ∗ (∃ _d : D2, owns (c : Thread nD τ) a2 fullShare x2) ∗ (∃ d, owns (c : Thread nD τ) a3 fullShare (b3 d))
        ∗ (∃ d, owns (c : Thread nD τ) a4 fullShare (b4 d)))
      ⊢ wp frame (wpE defs Variants.none c none) E (body a0 a1 a2 a3 a4 l0 l1 l2 l3 l4 s3 s4 P Q first) (fun _ =>
        iprop(A ∗ B ∗ owns (c : Thread nD τ) a0 fullShare x0 ∗ owns (c : Thread nD τ) a1 fullShare x1
          ∗ owns (c : Thread nD τ) a2 fullShare x2 ∗ owns (c : Thread nD τ) a3 fullShare (Q y x2) ∗ L)) := by
  by_cases h : first
  · obtain rfl := hf h
    iintro ⟨HA, HB, ⟨%d0, H0⟩, ⟨%d1, H1⟩, ⟨%d2, H2⟩, ⟨%d3, H3⟩, ⟨%d4, H4⟩⟩
    iapply (body_first a0 a1 a2 a3 a4 w0 w1 w2 l0 l1 l2 l3 l4 s3 s4 P Q first defs c h x0 x1 x2 E _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HA]; · iexact HA
    isplitl [HB]; · iexact HB
    isplitl [H0]; · iexact H0
    isplitl [H1]; · iexact H1
    isplitl [H2]; · iexact H2
    isplitl [H3]; · iexact H3
    iapply hL
    iexact H4
  · simp only [hk h]
    iintro ⟨HA, HB, ⟨%d0, H0⟩, ⟨%d1, H1⟩, ⟨%d2, H2⟩, ⟨%d3, H3⟩, ⟨%d4, H4⟩⟩
    iapply (body_next a0 a1 a2 a3 a4 w2 w4 l0 l1 l2 l3 l4 s3 s4 P Q first defs c h x2 y E _)
    isplitl [H2]; · iexact H2
    isplitl [H3]; · iexists _; iexact H3
    isplitl [H4]; · iexact H4
    iintro ⟨H2, H3, H4⟩
    isplitl [HA]; · iexact HA
    isplitl [HB]; · iexact HB
    isplitl [H0]; · iexact H0
    isplitl [H1]; · iexact H1
    isplitl [H2]; · iexact H2
    isplitl [H3]; · iexact H3
    iapply hL
    iexact H4

end

/-! ## An output's block kept at the points that do not write it -/

section

variable {nD : ℕ} {τ : Topo} {sig : RefSig} {F : FTy → Type} [FloatOps F] {Λ : Labels} {U : Type} [URA U]
  {cfg : Pipeline.Cfg sig Λ} {c : Dev nD} (dat : Dat τ (Elt F) Unit ℕ U ℕ cfg c) (w : Fin cfg.W)

/-- What the block holds before a point that keeps it. -/
theorem kept (hw : (cfg.win w).isOut = true) (hclip : ∀ (i : cfg.grid.Coords) a, (cfg.win w).clip i a = none)
    (keep : ∀ t : Fin cfg.N, cfg.idle w (cfg.grid.coords t) = true → dat.after w t = dat.after w ⟨t.val - 1, by omega⟩)
    (held : ∀ t : Fin cfg.N, cfg.idle w (cfg.grid.coords t) = true → cfg.fresh w t.val = false)
    (t : Fin cfg.N) (hi : cfg.idle w (cfg.grid.coords t) = true) (d) : dat.before w t d = dat.after w t := by
  rw [Dat.before_out_traj dat w hw hclip (fun t _ hi _ => keep t hi) t.val t rfl d,
    if_neg (by rw [held t hi]; exact Bool.false_ne_true)]
  exact (keep t hi).symm

/-- The block as the point leaves it, written there or kept. -/
theorem leaves (t : Fin cfg.N) (hk : cfg.idle w (cfg.grid.coords t) = true → ∀ d, dat.before w t d = dat.after w t) :
    owns (c : Thread nD τ) ((cfg.win w).stage (cfg.slots t w)) fullShare (dat.after w t) ⊢ dat.leavesExact w t := by
  unfold Dat.leavesExact
  cases hi : cfg.idle w (cfg.grid.coords t)
  · exact .rfl
  · cases (cfg.win w).flush t
    · dsimp only
      simp only [hk hi]
      iintro H
      iexists (dat.after w t); iexact H
    · exact .rfl

end

end Cert.RowsOnce

end
-- ==== Proof.In1.lean ====
/-
  The input product of layer 1: the rows are normalised once per block of rows, at its first block of columns, and the
  normalised rows stay in the output's buffer for the other blocks of columns. The body's run is `RowsOnce.point`.
-/
module

public import proofs.«01_k».proof.Defs
public import proofs.«01_k».proof.Proof.NormGrad1
public import proofs.«01_k».proof.Proof.RowsOnce
public import proofs.«01_k».proof.Proof.Gen.In1
public import proofs.«01_k».proof.Proof.Gen.In1Ideal.Skeleton
public import proofs.«01_k».proof.Proof.Gen.In1Ideal.Frame
public import proofs.«01_k».proof.Proof.Gen.RIn1Ideal.Run
public import proofs.«01_k».proof.Proof.Gen.RIn1Ideal.Read
public import Idealize.ShloMosaic.Lib.Pipeline.ValueKit
public import Idealize.ShloMosaic.Lib.Claim

@[expose] public section

set_option maxRecDepth 16384

noncomputable section

namespace Cert.In1Value

open Cert.In1Ideal Cert.In1Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Mats Cert.Norm

/-! ## The run of the body, for any values -/

section Run

variable {F : FTy → Type} [FloatOps F]

variable (m : (ℓ : Loc nD τ sig) → Buf (Elt F) ℓ) (ρ : Dev nD → PrngReg)

/-- The body is the shared one, over this call's payloads. -/
theorem body_eq (i : grid0.Coords)
    (a0 : Memref sig .tc .vmem S1088x1024 .f32) (w0 : a0.IsWhole) (a1 : Memref sig .tc .vmem S1x1024 .f32) (w1 : a1.IsWhole)
    (a2 : Memref sig .tc .vmem S1x1024x1024 .bf16) (w2 : a2.IsWhole) (a3 : Memref sig .tc .vmem S1088x1024 .f32) (w3 : a3.IsWhole)
    (a4 : Memref sig .tc .vmem S1088x1024 .bf16) (w4 : a4.IsWhole) :
    cc0_in (F := F) i a0 w0 a1 w1 a2 w2 a3 w3 a4 w4
      = RowsOnce.body (bR := inb_S1088x1024_S1088x1024_0_0) (bG := inb_S1x1024_S1x1024_0_0)
          (bW := inb_S1x1024x1024_S1x1024x1024_0_0_0) (bO := inb_S1088x1024_S1088x1024_0_0) a0 a1 a2 a3 a4
          (View.loadsAt_vmem h_S1088x1024) (View.loadsAt_vmem h_S1x1024) (View.loadsAt_vmem h_S1x1024x1024)
          (View.loadsAt_vmem h_S1088x1024) (View.loadsAt_vmem h_S1088x1024) (View.stores_vmem_bits_univ h_S1088x1024 rfl)
          (View.stores_vmem h_S1088x1024 (w4.storeExact_slice rfl _ packedbf16_S1088x1024_S1088x1024_0_0) (fun _ => rfl))
          k0_pay1 k0_pay2 (k0_cond1 i = 1#1) := rfl

/-- The first point of a point's block of rows. -/
def fst (t : Fin cfg0.N) : Fin cfg0.N := ⟨t.val / 8 * 8, by have := t.isLt; omega⟩

theorem fst_of (t : Fin cfg0.N) (h : t.val % 8 = 0) : fst t = t := Fin.ext (by show t.val / 8 * 8 = t.val; omega)

/-- The normalised rows of a point's block of rows. -/
def rows (c : Dev nD) (t : Fin cfg0.N) : Vec F S1088x1024 .bf16 := k0_pay1 (iblk m c 0 (fst t)) (iblk m c 1 (fst t))

theorem rows_pred (c : Dev nD) (t : Fin cfg0.N) (h : t.val % 8 ≠ 0) : rows m c t = rows m c ⟨t.val - 1, by omega⟩ := by
  unfold rows
  rw [show fst t = fst ⟨t.val - 1, by omega⟩ from Fin.ext (by show t.val / 8 * 8 = (t.val - 1) / 8 * 8; omega)]

/-- The region's arrays as it finds them, and what the body leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (rows m c t) (iblk m c 2 t)
    | ⟨4, _⟩ => rows m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay2 (rows m c t) (iblk m c 2 t) := by dsimp only [dats]
theorem after4 (c : Dev nD) (t : Fin cfg0.N) : (dats m 0 c).after 4 t = rows m c t := by dsimp only [dats]

theorem cond (t : Fin cfg0.N) : k0_cond1 (grid0.coords t) = 1#1 ↔ t.val % 8 = 0 :=
  (by decide +kernel : ∀ t : Fin grid0.N, k0_cond1 (grid0.coords t) = 1#1 ↔ t.val % 8 = 0) t
theorem idle_iff (t : Fin cfg0.N) : cfg0.idle 4 (grid0.coords t) = true ↔ t.val % 8 ≠ 0 :=
  (by decide +kernel : ∀ t : Fin cfg0.N, cfg0.idle 4 (grid0.coords t) = true ↔ t.val % 8 ≠ 0) t
theorem held (t : Fin cfg0.N) : t.val % 8 ≠ 0 → cfg0.fresh 4 t.val = false :=
  (by decide +kernel : ∀ t : Fin cfg0.N, t.val % 8 ≠ 0 → cfg0.fresh 4 t.val = false) t

theorem keep (c : Dev nD) (t : Fin cfg0.N) (hi : cfg0.idle 4 (cfg0.grid.coords t) = true) :
    (dats m 0 c).after 4 t = (dats m 0 c).after 4 ⟨t.val - 1, by omega⟩ := by
  rw [after4, after4]; exact rows_pred m c t ((idle_iff t).mp hi)

theorem before4 (c : Dev nD) (t : Fin cfg0.N) (hi : cfg0.idle 4 (cfg0.grid.coords t) = true) (d) :
    (dats m 0 c).before 4 t d = (dats m 0 c).after 4 t :=
  RowsOnce.kept _ 4 rfl (fun _ _ => rfl) (keep m c) (fun t hi => held t ((idle_iff t).mp hi)) t hi d

/-- The body at any point. -/
theorem sound (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t)) := by
  unfold bodyAt0
  simp only [before0_0_of m (dats m 0 c) (A_eq m c 0) (after0 m c), before0_1_of m (dats m 0 c) (A_eq m c 1) (after1 m c),
    before0_2_of m (dats m 0 c) (A_eq m c 2) (after2 m c), body_eq]
  exact RowsOnce.point _ _ _ _ _ (hstage0_0 ((cfg0.slots t 0).cast nbuf0_0)) (hstage0_1 ((cfg0.slots t 1).cast nbuf0_1))
    (hstage0_2 ((cfg0.slots t 2).cast nbuf0_2)) (hstage0_4 ((cfg0.slots t 4).cast nbuf0_4)) _ _ _ _ _ _ _ k0_pay1 k0_pay2 _ defs₀ c
    (iblk m c 0 t) (iblk m c 1 t) (iblk m c 2 t) (rows m c t) _ _ (fun h => by unfold rows; rw [fst_of t ((cond t).mp h)])
    (fun h d => (before4 m c t ((idle_iff t).mpr fun e => h ((cond t).mpr e)) d).trans (after4 m c t)) _ _ _
    (RowsOnce.leaves (dats m 0 c) 4 t (before4 m c t)) _

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- The region runs, and leaves the arrays as the proof data say. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_frame : θ_run defs (onTc (τ := τ) (main (F := F))) (s₀ m ρ) (Pipeline.FramePost cfgs (dats m) 0 (V m)) :=
  (θ_run defs _ _).mono (fun _ h => h.1) (run_quiescent m ρ)

theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_frame m ρ)) ((θ_run defs _ _).mono (fun _ h => h.2) (run_quiescent m ρ))

end Run

/-- The two printings of the call have one body table. -/
theorem bodies_same {F : FTy → Type} [FloatOps F] : Cert.In1.defs₀ (F := F) = Cert.In1Ideal.defs₀ (F := F) :=
  congrArg Defs.onTc (funext fun l => funext fun a => match l, a with
    | 0, (_, _) => rfl)

theorem defs_same {F : FTy → Type} [FloatOps F] : Cert.In1.defs (F := F) = Cert.In1Ideal.defs (F := F) :=
  congrArg (Pipeline.defs Cert.In1Ideal.pcfgs) bodies_same

theorem frame_kernel : Cert.quiescent_In1 := fun m ρ _ => by
  rw [defs_same]
  exact frame_any (F := Bits) m ρ

theorem frame_ideal : Cert.quiescent_In1Ideal := fun m ρ _ => frame_any (F := Ideal) m ρ

theorem frame_reference : Cert.quiescent_RIn1Ideal := fun m g _ =>
  (θ_run Cert.RIn1Ideal.defs _ _).mono (fun r h => ⟨fun c => (h c).2.2, sem_eq_zero_of_no_sems (by decide) r.2⟩)
    (Cert.RIn1Ideal.Value.run (F := Ideal) m g)

/-! ## The values -/

/-- The normalised rows, times the gain. -/
def normed (h g : Mat) : Mat := fun r e => h r e * inv h r * g 0 e

/-- The normalised rows from blocks that hold rows `b` onwards. -/
theorem pay_rows {H G : Mat} {b : ℕ} {h : Vec Ideal S1088x1024 .f32} {g : Vec Ideal S1x1024 .f32}
    (hh : ∀ (r : Fin 1088) (k : Fin 1024), h (ix2 r k) = H (b + r) k) (hg : ∀ k : Fin 1024, g (ix2 0 k) = G 0 k)
    (r : Fin 1088) (e : Fin 1024) : k0_pay1 h g (ix2 r e) = normed H G (b + r) e := by
  have e1 : k0_pay1 h g (ix2 r e) = h (ix2 r e) * Ideal.rsqrt (Ideal.div (∑ k : Fin 1024, h (ix2 r k) * h (ix2 r k))
      (Ideal.ofBits .f32 0x44800000#32) + Ideal.ofBits .f32 0x358637BD#32) * g (ix2 0 e) := by pointwise [k0_pay1]
  rw [e1, hh, hg]
  simp only [hh]
  rfl

theorem pay_product (y : Vec Ideal S1088x1024 .bf16) (x : Vec Ideal S1x1024x1024 .bf16) (r : Fin 1088) (e : Fin 1024) :
    k0_pay2 y x (ix2 r e) = ∑ k : Fin 1024, y (ix2 r k) * x (ix3 0 k e) := by
  pointwise [k0_pay2]

variable (m : (ℓ : Loc nD τ sig) → Buf (Elt Ideal) ℓ)

abbrev H (c : Dev nD) : Mat := at2 (m := 4352) (n := 1024) (m ((c : Thread nD τ).loc main_arg0))
abbrev G (c : Dev nD) : Mat := at1 (n := 1024) (m ((c : Thread nD τ).loc main_arg1))
abbrev W (c : Dev nD) : Mat := at2 (m := 1024) (n := 8192) (m ((c : Thread nD τ).loc main_arg2))

theorem idx0 (t : Fin cfg0.N) : win0_0.index t = ![t.val / 8, 0] :=
  (by decide +kernel : ∀ t : Fin grid0.N, win0_0.index t = ![t.val / 8, 0]) t
theorem idx1 (t : Fin cfg0.N) : win0_1.index t = ![0, 0] :=
  (by decide +kernel : ∀ t : Fin grid0.N, win0_1.index t = ![0, 0]) t
theorem idx2 (t : Fin cfg0.N) : win0_2.index t = ![t.val % 8 / 2, 0, t.val % 2] :=
  (by decide +kernel : ∀ t : Fin grid0.N, win0_2.index t = ![t.val % 8 / 2, 0, t.val % 2]) t
theorem idx3 (t : Fin cfg0.N) : win0_3.index t = ![t.val / 8, t.val % 8] :=
  (by decide +kernel : ∀ t : Fin grid0.N, win0_3.index t = ![t.val / 8, t.val % 8]) t
theorem idx4 (t : Fin cfg0.N) : win0_4.index t = ![t.val / 8, 0] :=
  (by decide +kernel : ∀ t : Fin grid0.N, win0_4.index t = ![t.val / 8, 0]) t

theorem tile0 (c : Dev nD) (t : Fin cfg0.N) (r : Fin 1088) (k : Fin 1024) :
    iblk m c 0 t (ix2 r k) = H m c (1088 * (t.val / 8) + r) k := by
  have ht : t.val < 32 := t.isLt
  refine Eq.trans ?_ (at2_eq _ _ _ (by omega) (by omega)).symm
  blk_ext [iblk, V_main_arg0, idx0]

theorem tile1 (c : Dev nD) (t : Fin cfg0.N) (k : Fin 1024) : iblk m c 1 t (ix2 0 k) = G m c 0 k := by
  refine Eq.trans ?_ (at1_eq _ _ _ (by omega)).symm
  blk_ext! [iblk, idx1]

theorem tile2 (c : Dev nD) (t : Fin cfg0.N) (k e : Fin 1024) :
    iblk m c 2 t (ix3 0 k e) = W m c k (1024 * (t.val % 8) + e) := by
  have ht : t.val < 32 := t.isLt
  refine Eq.trans ?_ (at2_eq _ _ _ (by omega) (by omega)).symm
  blk_ext! [iblk, idx2]

theorem left4 (c : Dev nD) (t : Fin cfg0.N) (r : Fin 1088) (e : Fin 1024) :
    rows m c t (ix2 r e) = normed (H m c) (G m c) (1088 * (t.val / 8) + r) e := by
  unfold rows
  refine (pay_rows (tile0 m c (fst t)) (tile1 m c (fst t)) r e).trans ?_
  rw [show (fst t).val / 8 = t.val / 8 from by show t.val / 8 * 8 / 8 = t.val / 8; omega]

theorem left3 (c : Dev nD) (t : Fin cfg0.N) (r : Fin 1088) (e : Fin 1024) :
    k0_pay2 (rows m c t) (iblk m c 2 t) (ix2 r e)
      = nn 1024 (normed (H m c) (G m c)) (W m c) (1088 * (t.val / 8) + r) (1024 * (t.val % 8) + e) := by
  rw [pay_product]
  exact Finset.sum_congr rfl fun k _ => by rw [left4, tile2]

theorem final3 (c : Dev nD) : (dats m 0 c).arrAt 3 cfg0.N
    = (fun j => nn 1024 (normed (H m c) (G m c)) (W m c) (j 0).val (j 1).val : S4352x8192.Idx → EReal) := by
  refine (dats m 0 c).arrAt_eq_of_covers 3 _ (by decide +kernel) fun t hf y => ?_
  blk_simp
  rw [after3, show y = ix2 (y 0) (y 1) from by idx_ext]
  refine (left3 m c t (y 0) (y 1)).trans ?_
  blk_simp [idx3]
  simp only [Nat.mul_comm]

theorem final4 (c : Dev nD) : (dats m 0 c).arrAt 4 cfg0.N
    = (fun j => normed (H m c) (G m c) (j 0).val (j 1).val : S4352x1024.Idx → EReal) := by
  refine (dats m 0 c).arrAt_eq_of_covers 4 _ (by decide +kernel) fun t hf y => ?_
  blk_simp
  rw [after4, show y = ix2 (y 0) (y 1) from by idx_ext]
  refine (left4 m c t (y 0) (y 1)).trans ?_
  blk_simp [idx4]
  simp only [Nat.mul_comm]

open Cert.RIn1Ideal.Read in
/-- The forward line of the normalised rows. -/
theorem ref_rows (x0 : Vec Ideal Cert.RIn1Ideal.S4352x1024 .f32) (x1 : Vec Ideal Cert.RIn1Ideal.S1024 .f32)
    (r : Fin 4352) (e : Fin 1024) : val_main_v12 x0 x1 (ix2 r e) = normed (at2 x0) (at1 x1) r e := by
  rw [val_main_v12_apply, val_main_v9_apply, val_main_v8_apply, val_main_v11_apply, val_main_v10_apply]
  exact congrArg₂ (· * ·) (congrArg₂ (· * ·) (of_ix2 x0 r e)
    ((congrArg (val_main_v7 x0) (by idx_ext)).trans (NormBack.ref_inv x0 r)))
    ((congrArg x1 (by idx_ext)).trans (of_ix1 x1 e))

open Cert.RIn1Ideal.Read in
theorem reference (x0 : Vec Ideal Cert.RIn1Ideal.S4352x1024 .f32) (x1 : Vec Ideal Cert.RIn1Ideal.S1024 .f32)
    (x2 : Vec Ideal Cert.RIn1Ideal.S1024x8192 .f32) (r : Fin 4352) (e : Fin 8192) :
    val_main_v13 x0 x1 x2 (ix2 r e) = nn 1024 (normed (at2 x0) (at1 x1)) (at2 x2) r e := by
  rw [val_main_v13_apply]
  refine Finset.sum_congr rfl fun k _ => ?_
  exact congrArg₂ (· * ·) ((congrArg (val_main_v12 x0 x1) (by idx_ext)).trans (ref_rows x0 x1 r k))
    ((congrArg x2 (by idx_ext)).trans (of_ix2 x2 k e))

theorem algebraic : Cert.algebraic_In1Ideal_RIn1Ideal := by
  intro m g m' g' _ hagree
  refine ⟨fun c => (fun j => nn 1024 (normed (H m c) (G m c)) (W m c) (j 0).val (j 1).val),
    fun c => (fun j => normed (H m c) (G m c) (j 0).val (j 1).val), ?_, ?_⟩
  · refine (θ_run Cert.In1Ideal.defs _ _).mono (fun r h c => ?_)
      (θ_run_and (run_frame (F := Ideal) m g) (frame_any (F := Ideal) m g))
    exact ⟨((h.1 c).1 3).trans (final3 m c), ((h.1 c).1 4).trans (final4 m c), h.2.1 c⟩
  · refine (θ_run Cert.RIn1Ideal.defs _ _).mono (fun r h c => ?_) (Cert.RIn1Ideal.Value.run (F := Ideal) m' g')
    obtain ⟨e0, e1, e⟩ := h c
    obtain ⟨a0, a1, a2⟩ := hagree c
    refine ⟨e0.trans ?_, e1.trans ?_, e⟩
    · rw [Cert.RIn1Ideal.Read.val_main_v13_eq, a0, a1, a2]
      funext j
      rw [show j = ix2 (j 0) (j 1) from by idx_ext]
      exact reference _ _ _ (j 0) (j 1)
    · rw [Cert.RIn1Ideal.Read.val_main_v14_eq, a0, a1]
      funext j
      rw [show j = ix2 (j 0) (j 1) from by idx_ext]
      exact ref_rows _ _ (j 0) (j 1)

end Cert.In1Value

end
-- ==== Proof.In2.lean ====
/-
  The input product of the pooling layer: the rows are normalised at the first of the four blocks of columns.
  The body's run is `RowsOnce.point`, and the payloads are those of layer 1's call.
-/
module

public import proofs.«01_k».proof.Defs
public import proofs.«01_k».proof.Proof.In1
public import proofs.«01_k».proof.Proof.Gen.In2
public import proofs.«01_k».proof.Proof.Gen.In2Ideal.Skeleton
public import proofs.«01_k».proof.Proof.Gen.In2Ideal.Frame
public import proofs.«01_k».proof.Proof.Gen.RIn2Ideal.Run
public import proofs.«01_k».proof.Proof.Gen.RIn2Ideal.Read

@[expose] public section

set_option maxRecDepth 16384

noncomputable section

namespace Cert.In2Value

open Cert.In2Ideal Cert.In2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Mats Cert.Norm
open Cert.In1Value (normed)

section Run

variable {F : FTy → Type} [FloatOps F]

variable (m : (ℓ : Loc nD τ sig) → Buf (Elt F) ℓ) (ρ : Dev nD → PrngReg)

theorem body_eq (i : grid0.Coords)
    (a0 : Memref sig .tc .vmem S1088x1024 .f32) (w0 : a0.IsWhole) (a1 : Memref sig .tc .vmem S1x1024 .f32) (w1 : a1.IsWhole)
    (a2 : Memref sig .tc .vmem S1x1024x1024 .bf16) (w2 : a2.IsWhole) (a3 : Memref sig .tc .vmem S1088x1024 .f32) (w3 : a3.IsWhole)
    (a4 : Memref sig .tc .vmem S1088x1024 .bf16) (w4 : a4.IsWhole) :
    cc0_in (F := F) i a0 w0 a1 w1 a2 w2 a3 w3 a4 w4
      = RowsOnce.body (bR := inb_S1088x1024_S1088x1024_0_0) (bG := inb_S1x1024_S1x1024_0_0)
          (bW := inb_S1x1024x1024_S1x1024x1024_0_0_0) (bO := inb_S1088x1024_S1088x1024_0_0) a0 a1 a2 a3 a4
          (View.loadsAt_vmem h_S1088x1024) (View.loadsAt_vmem h_S1x1024) (View.loadsAt_vmem h_S1x1024x1024)
          (View.loadsAt_vmem h_S1088x1024) (View.loadsAt_vmem h_S1088x1024) (View.stores_vmem_bits_univ h_S1088x1024 rfl)
          (View.stores_vmem h_S1088x1024 (w4.storeExact_slice rfl _ packedbf16_S1088x1024_S1088x1024_0_0) (fun _ => rfl))
          k0_pay1 k0_pay2 (k0_cond1 i = 1#1) := rfl

/-- The first point of a point's block of rows. -/
def fst (t : Fin cfg0.N) : Fin cfg0.N := ⟨t.val / 4 * 4, by have := t.isLt; omega⟩

/-- The normalised rows of a point's block of rows. -/
def rows (c : Dev nD) (t : Fin cfg0.N) : Vec F S1088x1024 .bf16 := k0_pay1 (iblk m c 0 (fst t)) (iblk m c 1 (fst t))

theorem rows_of (c : Dev nD) {t u : Fin cfg0.N} (h : t.val / 4 = u.val / 4) : rows m c t = rows m c u := by
  unfold rows
  rw [show fst t = fst u from Fin.ext (congrArg (· * 4) h)]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (rows m c t) (iblk m c 2 t)
    | ⟨4, _⟩ => rows m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay2 (rows m c t) (iblk m c 2 t) := by dsimp only [dats]
theorem after4 (c : Dev nD) (t : Fin cfg0.N) : (dats m 0 c).after 4 t = rows m c t := by dsimp only [dats]

/-- Which points fill the rows' block, which keep it, and that it is not a new block where it is kept. -/
theorem points (t : Fin cfg0.N) : (k0_cond1 (grid0.coords t) = 1#1 ↔ t.val % 4 = 0)
    ∧ (cfg0.idle 4 (grid0.coords t) = true ↔ t.val % 4 ≠ 0) ∧ (t.val % 4 ≠ 0 → cfg0.fresh 4 t.val = false) :=
  (by decide +kernel : ∀ t : Fin cfg0.N, (k0_cond1 (grid0.coords t) = 1#1 ↔ t.val % 4 = 0)
    ∧ (cfg0.idle 4 (grid0.coords t) = true ↔ t.val % 4 ≠ 0) ∧ (t.val % 4 ≠ 0 → cfg0.fresh 4 t.val = false)) t

theorem before4 (c : Dev nD) (t : Fin cfg0.N) (hi : cfg0.idle 4 (cfg0.grid.coords t) = true) (d) :
    (dats m 0 c).before 4 t d = (dats m 0 c).after 4 t :=
  RowsOnce.kept _ 4 rfl (fun _ _ => rfl)
    (fun t hi => by
      have h := (points t).2.1.mp hi
      rw [after4, after4]; exact rows_of m c (by show t.val / 4 = (t.val - 1) / 4; omega))
    (fun t hi => (points t).2.2 ((points t).2.1.mp hi)) t hi d

theorem row (t : Fin cfg0.N) : defs₀ (F := F) .tc cfg0.body (cfg0.bodyArgs t (cfg0.slots t)) = bodyAt0 t := by
  unfold defs₀; rw [Defs.onTc_tc]

theorem sound (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t)) := by
  unfold bodyAt0
  simp only [before0_0_of m (dats m 0 c) (A_eq m c 0) (after0 m c), before0_1_of m (dats m 0 c) (A_eq m c 1) (after1 m c),
    before0_2_of m (dats m 0 c) (A_eq m c 2) (after2 m c), body_eq]
  exact RowsOnce.point _ _ _ _ _ (hstage0_0 ((cfg0.slots t 0).cast nbuf0_0)) (hstage0_1 ((cfg0.slots t 1).cast nbuf0_1))
    (hstage0_2 ((cfg0.slots t 2).cast nbuf0_2)) (hstage0_4 ((cfg0.slots t 4).cast nbuf0_4)) _ _ _ _ _ _ _ k0_pay1 k0_pay2 _ defs₀ c
    (iblk m c 0 t) (iblk m c 1 t) (iblk m c 2 t) (rows m c t) _ _
    (fun h => by
      have h := (points t).1.mp h
      unfold rows; rw [show fst t = t from Fin.ext (by show t.val / 4 * 4 = t.val; omega)])
    (fun h d => (before4 m c t ((points t).2.1.mpr fun e => h ((points t).1.mpr e)) d).trans (after4 m c t)) _ _ _
    (RowsOnce.leaves (dats m 0 c) 4 t (before4 m c t)) _

theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_frame : θ_run defs (onTc (τ := τ) (main (F := F))) (s₀ m ρ) (Pipeline.FramePost cfgs (dats m) 0 (V m)) :=
  (θ_run defs _ _).mono (fun _ h => h.1) (run_quiescent m ρ)

theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_frame m ρ)) ((θ_run defs _ _).mono (fun _ h => h.2) (run_quiescent m ρ))

end Run

theorem bodies_same {F : FTy → Type} [FloatOps F] : Cert.In2.defs₀ (F := F) = Cert.In2Ideal.defs₀ (F := F) :=
  congrArg Defs.onTc (funext fun l => funext fun a => match l, a with
    | 0, (_, _) => rfl)

theorem defs_same {F : FTy → Type} [FloatOps F] : Cert.In2.defs (F := F) = Cert.In2Ideal.defs (F := F) :=
  congrArg (Pipeline.defs Cert.In2Ideal.pcfgs) bodies_same

theorem frame_kernel : Cert.quiescent_In2 := fun m ρ _ => by
  rw [defs_same]
  exact frame_any (F := Bits) m ρ

theorem frame_ideal : Cert.quiescent_In2Ideal := fun m ρ _ => frame_any (F := Ideal) m ρ

theorem frame_reference : Cert.quiescent_RIn2Ideal := fun m g _ =>
  (θ_run Cert.RIn2Ideal.defs _ _).mono (fun r h => ⟨fun c => (h c).2.2, sem_eq_zero_of_no_sems (by decide) r.2⟩)
    (Cert.RIn2Ideal.Value.run (F := Ideal) m g)

/-! ## The values -/

variable (m : (ℓ : Loc nD τ sig) → Buf (Elt Ideal) ℓ)

abbrev H (c : Dev nD) : Mat := at2 (m := 4352) (n := 1024) (m ((c : Thread nD τ).loc main_arg0))
abbrev G (c : Dev nD) : Mat := at1 (n := 1024) (m ((c : Thread nD τ).loc main_arg1))
abbrev W (c : Dev nD) : Mat := at2 (m := 1024) (n := 4096) (m ((c : Thread nD τ).loc main_arg2))

theorem idx0 (t : Fin cfg0.N) : win0_0.index t = ![t.val / 4, 0] :=
  (by decide +kernel : ∀ t : Fin grid0.N, win0_0.index t = ![t.val / 4, 0]) t
theorem idx1 (t : Fin cfg0.N) : win0_1.index t = ![0, 0] :=
  (by decide +kernel : ∀ t : Fin grid0.N, win0_1.index t = ![0, 0]) t
theorem idx2 (t : Fin cfg0.N) : win0_2.index t = ![t.val % 4, 0, 0] :=
  (by decide +kernel : ∀ t : Fin grid0.N, win0_2.index t = ![t.val % 4, 0, 0]) t
theorem idx3 (t : Fin cfg0.N) : win0_3.index t = ![t.val / 4, t.val % 4] :=
  (by decide +kernel : ∀ t : Fin grid0.N, win0_3.index t = ![t.val / 4, t.val % 4]) t
theorem idx4 (t : Fin cfg0.N) : win0_4.index t = ![t.val / 4, 0] :=
  (by decide +kernel : ∀ t : Fin grid0.N, win0_4.index t = ![t.val / 4, 0]) t

theorem tile0 (c : Dev nD) (t : Fin cfg0.N) (r : Fin 1088) (k : Fin 1024) :
    iblk m c 0 t (ix2 r k) = H m c (1088 * (t.val / 4) + r) k := by
  have ht : t.val < 16 := t.isLt
  refine Eq.trans ?_ (at2_eq _ _ _ (by omega) (by omega)).symm
  blk_ext [iblk, V_main_arg0, idx0]

theorem tile1 (c : Dev nD) (t : Fin cfg0.N) (k : Fin 1024) : iblk m c 1 t (ix2 0 k) = G m c 0 k := by
  refine Eq.trans ?_ (at1_eq _ _ _ (by omega)).symm
  blk_ext! [iblk, idx1]

theorem tile2 (c : Dev nD) (t : Fin cfg0.N) (k e : Fin 1024) :
    iblk m c 2 t (ix3 0 k e) = W m c k (1024 * (t.val % 4) + e) := by
  have ht : t.val < 16 := t.isLt
  refine Eq.trans ?_ (at2_eq _ _ _ (by omega) (by omega)).symm
  blk_ext! [iblk, idx2]

theorem left4 (c : Dev nD) (t : Fin cfg0.N) (r : Fin 1088) (e : Fin 1024) :
    rows m c t (ix2 r e) = normed (H m c) (G m c) (1088 * (t.val / 4) + r) e := by
  unfold rows
  refine (In1Value.pay_rows (tile0 m c (fst t)) (tile1 m c (fst t)) r e).trans ?_
  rw [show (fst t).val / 4 = t.val / 4 from by show t.val / 4 * 4 / 4 = t.val / 4; omega]

theorem left3 (c : Dev nD) (t : Fin cfg0.N) (r : Fin 1088) (e : Fin 1024) :
    k0_pay2 (rows m c t) (iblk m c 2 t) (ix2 r e)
      = nn 1024 (normed (H m c) (G m c)) (W m c) (1088 * (t.val / 4) + r) (1024 * (t.val % 4) + e) :=
  (In1Value.pay_product _ _ r e).trans (Finset.sum_congr rfl fun k _ => by rw [left4, tile2])

theorem final3 (c : Dev nD) : (dats m 0 c).arrAt 3 cfg0.N
    = (fun j => nn 1024 (normed (H m c) (G m c)) (W m c) (j 0).val (j 1).val : S4352x4096.Idx → EReal) := by
  refine (dats m 0 c).arrAt_eq_of_covers 3 _ (by decide +kernel) fun t hf y => ?_
  blk_simp
  rw [after3, show y = ix2 (y 0) (y 1) from by idx_ext]
  refine (left3 m c t (y 0) (y 1)).trans ?_
  blk_simp [idx3]
  simp only [Nat.mul_comm]

theorem final4 (c : Dev nD) : (dats m 0 c).arrAt 4 cfg0.N
    = (fun j => normed (H m c) (G m c) (j 0).val (j 1).val : S4352x1024.Idx → EReal) := by
  refine (dats m 0 c).arrAt_eq_of_covers 4 _ (by decide +kernel) fun t hf y => ?_
  blk_simp
  rw [after4, show y = ix2 (y 0) (y 1) from by idx_ext]
  refine (left4 m c t (y 0) (y 1)).trans ?_
  blk_simp [idx4]
  simp only [Nat.mul_comm]

open Cert.RIn2Ideal.Read in
theorem reference (x0 : Vec Ideal Cert.RIn2Ideal.S4352x1024 .f32) (x1 : Vec Ideal Cert.RIn2Ideal.S1024 .f32)
    (x2 : Vec Ideal Cert.RIn2Ideal.S1024x4096 .f32) (r : Fin 4352) (e : Fin 4096) :
    val_main_v13 x0 x1 x2 (ix2 r e) = nn 1024 (normed (at2 x0) (at1 x1)) (at2 x2) r e := by
  rw [val_main_v13_apply]
  exact Finset.sum_congr rfl fun k _ =>
    congrArg₂ (· * ·) ((congrArg (val_main_v12 x0 x1) (by idx_ext)).trans (In1Value.ref_rows x0 x1 r k))
      ((congrArg x2 (by idx_ext)).trans (of_ix2 x2 k e))

theorem algebraic : Cert.algebraic_In2Ideal_RIn2Ideal := by
  intro m g m' g' _ hagree
  refine ⟨fun c => (fun j => nn 1024 (normed (H m c) (G m c)) (W m c) (j 0).val (j 1).val),
    fun c => (fun j => normed (H m c) (G m c) (j 0).val (j 1).val), ?_, ?_⟩
  · refine (θ_run Cert.In2Ideal.defs _ _).mono (fun r h c => ?_)
      (θ_run_and (run_frame (F := Ideal) m g) (frame_any (F := Ideal) m g))
    exact ⟨((h.1 c).1 3).trans (final3 m c), ((h.1 c).1 4).trans (final4 m c), h.2.1 c⟩
  · refine (θ_run Cert.RIn2Ideal.defs _ _).mono (fun r h c => ?_) (Cert.RIn2Ideal.Value.run (F := Ideal) m' g')
    obtain ⟨e0, e1, e⟩ := h c
    obtain ⟨a0, a1, a2⟩ := hagree c
    refine ⟨e0.trans ?_, e1.trans ?_, e⟩
    · rw [Cert.RIn2Ideal.Read.val_main_v13_eq, a0, a1, a2]
      funext j
      rw [show j = ix2 (j 0) (j 1) from by idx_ext]
      exact reference _ _ _ (j 0) (j 1)
    · rw [Cert.RIn2Ideal.Read.val_main_v14_eq, a0, a1]
      funext j
      rw [show j = ix2 (j 0) (j 1) from by idx_ext]
      exact In1Value.ref_rows _ _ (j 0) (j 1)

end Cert.In2Value

end
-- ==== Proof.In3.lean ====
/-
  The input product of layers 0 and 3: blocks of 512 columns, the rows normalised at the first of the four. The body's run
  is `RowsOnce.point`; the rows' payload is that of layer 1's call, the product's is narrower.
-/
module

public import proofs.«01_k».proof.Defs
public import proofs.«01_k».proof.Proof.In1
public import proofs.«01_k».proof.Proof.Gen.In3
public import proofs.«01_k».proof.Proof.Gen.In3Ideal.Skeleton
public import proofs.«01_k».proof.Proof.Gen.In3Ideal.Frame
public import proofs.«01_k».proof.Proof.Gen.RIn3Ideal.Run
public import proofs.«01_k».proof.Proof.Gen.RIn3Ideal.Read

@[expose] public section

set_option maxRecDepth 16384

noncomputable section

namespace Cert.In3Value

open Cert.In3Ideal Cert.In3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Mats Cert.Norm
open Cert.In1Value (normed)

section Run

variable {F : FTy → Type} [FloatOps F]

variable (m : (ℓ : Loc nD τ sig) → Buf (Elt F) ℓ) (ρ : Dev nD → PrngReg)

theorem body_eq (i : grid0.Coords)
    (a0 : Memref sig .tc .vmem S1088x1024 .f32) (w0 : a0.IsWhole) (a1 : Memref sig .tc .vmem S1x1024 .f32) (w1 : a1.IsWhole)
    (a2 : Memref sig .tc .vmem S1x1024x512 .bf16) (w2 : a2.IsWhole) (a3 : Memref sig .tc .vmem S1088x512 .f32) (w3 : a3.IsWhole)
    (a4 : Memref sig .tc .vmem S1088x1024 .bf16) (w4 : a4.IsWhole) :
    cc0_in (F := F) i a0 w0 a1 w1 a2 w2 a3 w3 a4 w4
      = RowsOnce.body (bR := inb_S1088x1024_S1088x1024_0_0) (bG := inb_S1x1024_S1x1024_0_0)
          (bW := inb_S1x1024x512_S1x1024x512_0_0_0) (bO := inb_S1088x512_S1088x512_0_0) a0 a1 a2 a3 a4
          (View.loadsAt_vmem h_S1088x1024) (View.loadsAt_vmem h_S1x1024) (View.loadsAt_vmem h_S1x1024x512)
          (View.loadsAt_vmem h_S1088x512) (View.loadsAt_vmem h_S1088x1024) (View.stores_vmem_bits_univ h_S1088x512 rfl)
          (View.stores_vmem h_S1088x1024 (w4.storeExact_slice rfl _ packedbf16_S1088x1024_S1088x1024_0_0) (fun _ => rfl))
          k0_pay1 k0_pay2 (k0_cond1 i = 1#1) := rfl

/-- The first point of a point's block of rows. -/
def fst (t : Fin cfg0.N) : Fin cfg0.N := ⟨t.val / 4 * 4, by have := t.isLt; omega⟩

/-- The normalised rows of a point's block of rows. -/
def rows (c : Dev nD) (t : Fin cfg0.N) : Vec F S1088x1024 .bf16 := k0_pay1 (iblk m c 0 (fst t)) (iblk m c 1 (fst t))

theorem rows_of (c : Dev nD) {t u : Fin cfg0.N} (h : t.val / 4 = u.val / 4) : rows m c t = rows m c u := by
  unfold rows
  rw [show fst t = fst u from Fin.ext (congrArg (· * 4) h)]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (rows m c t) (iblk m c 2 t)
    | ⟨4, _⟩ => rows m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay2 (rows m c t) (iblk m c 2 t) := by dsimp only [dats]
theorem after4 (c : Dev nD) (t : Fin cfg0.N) : (dats m 0 c).after 4 t = rows m c t := by dsimp only [dats]

/-- Which points fill the rows' block, which keep it, and that it is not a new block where it is kept. -/
theorem points (t : Fin cfg0.N) : (k0_cond1 (grid0.coords t) = 1#1 ↔ t.val % 4 = 0)
    ∧ (cfg0.idle 4 (grid0.coords t) = true ↔ t.val % 4 ≠ 0) ∧ (t.val % 4 ≠ 0 → cfg0.fresh 4 t.val = false) :=
  (by decide +kernel : ∀ t : Fin cfg0.N, (k0_cond1 (grid0.coords t) = 1#1 ↔ t.val % 4 = 0)
    ∧ (cfg0.idle 4 (grid0.coords t) = true ↔ t.val % 4 ≠ 0) ∧ (t.val % 4 ≠ 0 → cfg0.fresh 4 t.val = false)) t

theorem before4 (c : Dev nD) (t : Fin cfg0.N) (hi : cfg0.idle 4 (cfg0.grid.coords t) = true) (d) :
    (dats m 0 c).before 4 t d = (dats m 0 c).after 4 t :=
  RowsOnce.kept _ 4 rfl (fun _ _ => rfl)
    (fun t hi => by
      have h := (points t).2.1.mp hi
      rw [after4, after4]; exact rows_of m c (by show t.val / 4 = (t.val - 1) / 4; omega))
    (fun t hi => (points t).2.2 ((points t).2.1.mp hi)) t hi d

theorem row (t : Fin cfg0.N) : defs₀ (F := F) .tc cfg0.body (cfg0.bodyArgs t (cfg0.slots t)) = bodyAt0 t := by
  unfold defs₀; rw [Defs.onTc_tc]

theorem sound (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t)) := by
  unfold bodyAt0
  simp only [before0_0_of m (dats m 0 c) (A_eq m c 0) (after0 m c), before0_1_of m (dats m 0 c) (A_eq m c 1) (after1 m c),
    before0_2_of m (dats m 0 c) (A_eq m c 2) (after2 m c), body_eq]
  exact RowsOnce.point _ _ _ _ _ (hstage0_0 ((cfg0.slots t 0).cast nbuf0_0)) (hstage0_1 ((cfg0.slots t 1).cast nbuf0_1))
    (hstage0_2 ((cfg0.slots t 2).cast nbuf0_2)) (hstage0_4 ((cfg0.slots t 4).cast nbuf0_4)) _ _ _ _ _ _ _ k0_pay1 k0_pay2 _ defs₀ c
    (iblk m c 0 t) (iblk m c 1 t) (iblk m c 2 t) (rows m c t) _ _
    (fun h => by
      have h := (points t).1.mp h
      unfold rows; rw [show fst t = t from Fin.ext (by show t.val / 4 * 4 = t.val; omega)])
    (fun h d => (before4 m c t ((points t).2.1.mpr fun e => h ((points t).1.mpr e)) d).trans (after4 m c t)) _ _ _
    (RowsOnce.leaves (dats m 0 c) 4 t (before4 m c t)) _

theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_frame : θ_run defs (onTc (τ := τ) (main (F := F))) (s₀ m ρ) (Pipeline.FramePost cfgs (dats m) 0 (V m)) :=
  (θ_run defs _ _).mono (fun _ h => h.1) (run_quiescent m ρ)

theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_frame m ρ)) ((θ_run defs _ _).mono (fun _ h => h.2) (run_quiescent m ρ))

end Run

theorem bodies_same {F : FTy → Type} [FloatOps F] : Cert.In3.defs₀ (F := F) = Cert.In3Ideal.defs₀ (F := F) :=
  congrArg Defs.onTc (funext fun l => funext fun a => match l, a with
    | 0, (_, _) => rfl)

theorem defs_same {F : FTy → Type} [FloatOps F] : Cert.In3.defs (F := F) = Cert.In3Ideal.defs (F := F) :=
  congrArg (Pipeline.defs Cert.In3Ideal.pcfgs) bodies_same

theorem frame_kernel : Cert.quiescent_In3 := fun m ρ _ => by
  rw [defs_same]
  exact frame_any (F := Bits) m ρ

theorem frame_ideal : Cert.quiescent_In3Ideal := fun m ρ _ => frame_any (F := Ideal) m ρ

theorem frame_reference : Cert.quiescent_RIn3Ideal := fun m g _ =>
  (θ_run Cert.RIn3Ideal.defs _ _).mono (fun r h => ⟨fun c => (h c).2.2, sem_eq_zero_of_no_sems (by decide) r.2⟩)
    (Cert.RIn3Ideal.Value.run (F := Ideal) m g)

/-! ## The values -/

theorem pay_product (y : Vec Ideal S1088x1024 .bf16) (x : Vec Ideal S1x1024x512 .bf16) (r : Fin 1088) (e : Fin 512) :
    k0_pay2 y x (ix2 r e) = ∑ k : Fin 1024, y (ix2 r k) * x (ix3 0 k e) := by
  pointwise [k0_pay2]

variable (m : (ℓ : Loc nD τ sig) → Buf (Elt Ideal) ℓ)

abbrev H (c : Dev nD) : Mat := at2 (m := 4352) (n := 1024) (m ((c : Thread nD τ).loc main_arg0))
abbrev G (c : Dev nD) : Mat := at1 (n := 1024) (m ((c : Thread nD τ).loc main_arg1))
abbrev W (c : Dev nD) : Mat := at2 (m := 1024) (n := 2048) (m ((c : Thread nD τ).loc main_arg2))

theorem idx0 (t : Fin cfg0.N) : win0_0.index t = ![t.val / 4, 0] :=
  (by decide +kernel : ∀ t : Fin grid0.N, win0_0.index t = ![t.val / 4, 0]) t
theorem idx1 (t : Fin cfg0.N) : win0_1.index t = ![0, 0] :=
  (by decide +kernel : ∀ t : Fin grid0.N, win0_1.index t = ![0, 0]) t
theorem idx2 (t : Fin cfg0.N) : win0_2.index t = ![t.val % 4, 0, 0] :=
  (by decide +kernel : ∀ t : Fin grid0.N, win0_2.index t = ![t.val % 4, 0, 0]) t
theorem idx3 (t : Fin cfg0.N) : win0_3.index t = ![t.val / 4, t.val % 4] :=
  (by decide +kernel : ∀ t : Fin grid0.N, win0_3.index t = ![t.val / 4, t.val % 4]) t
theorem idx4 (t : Fin cfg0.N) : win0_4.index t = ![t.val / 4, 0] :=
  (by decide +kernel : ∀ t : Fin grid0.N, win0_4.index t = ![t.val / 4, 0]) t

theorem tile0 (c : Dev nD) (t : Fin cfg0.N) (r : Fin 1088) (k : Fin 1024) :
    iblk m c 0 t (ix2 r k) = H m c (1088 * (t.val / 4) + r) k := by
  have ht : t.val < 16 := t.isLt
  refine Eq.trans ?_ (at2_eq _ _ _ (by omega) (by omega)).symm
  blk_ext [iblk, V_main_arg0, idx0]

theorem tile1 (c : Dev nD) (t : Fin cfg0.N) (k : Fin 1024) : iblk m c 1 t (ix2 0 k) = G m c 0 k := by
  refine Eq.trans ?_ (at1_eq _ _ _ (by omega)).symm
  blk_ext! [iblk, idx1]

theorem tile2 (c : Dev nD) (t : Fin cfg0.N) (k : Fin 1024) (e : Fin 512) :
    iblk m c 2 t (ix3 0 k e) = W m c k (512 * (t.val % 4) + e) := by
  have ht : t.val < 16 := t.isLt
  refine Eq.trans ?_ (at2_eq _ _ _ (by omega) (by omega)).symm
  blk_ext! [iblk, idx2]

theorem left4 (c : Dev nD) (t : Fin cfg0.N) (r : Fin 1088) (e : Fin 1024) :
    rows m c t (ix2 r e) = normed (H m c) (G m c) (1088 * (t.val / 4) + r) e := by
  unfold rows
  refine (In1Value.pay_rows (tile0 m c (fst t)) (tile1 m c (fst t)) r e).trans ?_
  rw [show (fst t).val / 4 = t.val / 4 from by show t.val / 4 * 4 / 4 = t.val / 4; omega]

theorem left3 (c : Dev nD) (t : Fin cfg0.N) (r : Fin 1088) (e : Fin 512) :
    k0_pay2 (rows m c t) (iblk m c 2 t) (ix2 r e)
      = nn 1024 (normed (H m c) (G m c)) (W m c) (1088 * (t.val / 4) + r) (512 * (t.val % 4) + e) :=
  (pay_product _ _ r e).trans (Finset.sum_congr rfl fun k _ => by rw [left4, tile2])

theorem final3 (c : Dev nD) : (dats m 0 c).arrAt 3 cfg0.N
    = (fun j => nn 1024 (normed (H m c) (G m c)) (W m c) (j 0).val (j 1).val : S4352x2048.Idx → EReal) := by
  refine (dats m 0 c).arrAt_eq_of_covers 3 _ (by decide +kernel) fun t hf y => ?_
  blk_simp
  rw [after3, show y = ix2 (y 0) (y 1) from by idx_ext]
  refine (left3 m c t (y 0) (y 1)).trans ?_
  blk_simp [idx3]
  simp only [Nat.mul_comm]

theorem final4 (c : Dev nD) : (dats m 0 c).arrAt 4 cfg0.N
    = (fun j => normed (H m c) (G m c) (j 0).val (j 1).val : S4352x1024.Idx → EReal) := by
  refine (dats m 0 c).arrAt_eq_of_covers 4 _ (by decide +kernel) fun t hf y => ?_
  blk_simp
  rw [after4, show y = ix2 (y 0) (y 1) from by idx_ext]
  refine (left4 m c t (y 0) (y 1)).trans ?_
  blk_simp [idx4]
  simp only [Nat.mul_comm]

open Cert.RIn3Ideal.Read in
theorem reference (x0 : Vec Ideal Cert.RIn3Ideal.S4352x1024 .f32) (x1 : Vec Ideal Cert.RIn3Ideal.S1024 .f32)
    (x2 : Vec Ideal Cert.RIn3Ideal.S1024x2048 .f32) (r : Fin 4352) (e : Fin 2048) :
    val_main_v13 x0 x1 x2 (ix2 r e) = nn 1024 (normed (at2 x0) (at1 x1)) (at2 x2) r e := by
  rw [val_main_v13_apply]
  exact Finset.sum_congr rfl fun k _ =>
    congrArg₂ (· * ·) ((congrArg (val_main_v12 x0 x1) (by idx_ext)).trans (In1Value.ref_rows x0 x1 r k))
      ((congrArg x2 (by idx_ext)).trans (of_ix2 x2 k e))

theorem algebraic : Cert.algebraic_In3Ideal_RIn3Ideal := by
  intro m g m' g' _ hagree
  refine ⟨fun c => (fun j => nn 1024 (normed (H m c) (G m c)) (W m c) (j 0).val (j 1).val),
    fun c => (fun j => normed (H m c) (G m c) (j 0).val (j 1).val), ?_, ?_⟩
  · refine (θ_run Cert.In3Ideal.defs _ _).mono (fun r h c => ?_)
      (θ_run_and (run_frame (F := Ideal) m g) (frame_any (F := Ideal) m g))
    exact ⟨((h.1 c).1 3).trans (final3 m c), ((h.1 c).1 4).trans (final4 m c), h.2.1 c⟩
  · refine (θ_run Cert.RIn3Ideal.defs _ _).mono (fun r h c => ?_) (Cert.RIn3Ideal.Value.run (F := Ideal) m' g')
    obtain ⟨e0, e1, e⟩ := h c
    obtain ⟨a0, a1, a2⟩ := hagree c
    refine ⟨e0.trans ?_, e1.trans ?_, e⟩
    · rw [Cert.RIn3Ideal.Read.val_main_v13_eq, a0, a1, a2]
      funext j
      rw [show j = ix2 (j 0) (j 1) from by idx_ext]
      exact reference _ _ _ (j 0) (j 1)
    · rw [Cert.RIn3Ideal.Read.val_main_v14_eq, a0, a1]
      funext j
      rw [show j = ix2 (j 0) (j 1) from by idx_ext]
      exact In1Value.ref_rows _ _ (j 0) (j 1)

end Cert.In3Value

end
-- ==== Proof.Groups.lean ====
/-
  Matrices by group: a three-dimensional array read at natural numbers, and the products of the grouped layer.
-/
module

public import proofs.«01_k».proof.Proof.Norm

@[expose] public section

noncomputable section

namespace Cert.Mats

open Idealize.ShloMosaic Cert.Norm

/-- A three-dimensional array as a matrix for each group, zero outside. -/
def at3 {g m n : ℕ} (A : (⟨3, ![g, m, n]⟩ : Shape).Idx → EReal) : ℕ → Mat := fun s r c =>
  if h : s < g ∧ r < m ∧ c < n then A (ix3 ⟨s, h.1⟩ ⟨r, h.2.1⟩ ⟨c, h.2.2⟩) else 0

theorem at3_eq {g m n : ℕ} (A : (⟨3, ![g, m, n]⟩ : Shape).Idx → EReal) (s r c : ℕ) (hs : s < g) (hr : r < m) (hc : c < n) :
    at3 A s r c = A (ix3 ⟨s, hs⟩ ⟨r, hr⟩ ⟨c, hc⟩) := dif_pos ⟨hs, hr, hc⟩

theorem of_idx3 {g m n : ℕ} (A : (⟨3, ![g, m, n]⟩ : Shape).Idx → EReal) (i : (⟨3, ![g, m, n]⟩ : Shape).Idx) {s r c : ℕ}
    (hs : (i 0).val = s) (hr : (i 1).val = r) (hc : (i 2).val = c) : A i = at3 A s r c := by
  subst hs hr hc
  rw [at3_eq A _ _ _ (i 0).isLt (i 1).isLt (i 2).isLt]
  congr 1
  idx_ext

/-- The columns of a matrix that belong to a group of 512. -/
def part512 (a : Mat) (g : ℕ) : Mat := fun r k => a r (512 * g + k)

/-- A sum accumulated over the points of a run: `K` points to a run, `w` terms at a point; a run has its own terms. -/
theorem sum_run {N K w : ℕ} (v : (n : ℕ) → n < N → EReal) (f : ℕ → ℕ → EReal)
    (start : ∀ n h, n % K = 0 → v n h = ∑ k : Fin w, f (n / K) (w * (n % K) + k))
    (next : ∀ n h, n % K ≠ 0 → v n h = v (n - 1) (Nat.lt_of_le_of_lt (Nat.sub_le _ _) h)
      + ∑ k : Fin w, f (n / K) (w * (n % K) + k)) :
    ∀ n h, v n h = ∑ k : Fin (w * (n % K + 1)), f (n / K) k := by
  intro n
  induction n using Nat.strong_induction_on with
  | _ n ih =>
    intro h
    by_cases h0 : n % K = 0
    · rw [start n h h0, h0]
      simp only [Nat.mul_zero, Nat.zero_add]
      rw [Nat.mul_one]
    · obtain ⟨hm, hd⟩ := pred_mod_div h0
      rw [next n h h0, ih (n - 1) (by have := Nat.mod_le n K; omega) _, hm, hd, Nat.mul_succ w (n % K)]
      exact (Fin.sum_univ_add (fun k : Fin (w * (n % K) + w) => f (n / K) k)).symm

/-- A transposed product accumulated in the same way; a run has its own two matrices. -/
theorem tn_run {N K w : ℕ} (v : (n : ℕ) → n < N → EReal) (a b : ℕ → Mat) (r c : ℕ)
    (start : ∀ n h, n % K = 0 → v n h = ∑ k : Fin w, a (n / K) (w * (n % K) + k) r * b (n / K) (w * (n % K) + k) c)
    (next : ∀ n h, n % K ≠ 0 → v n h = v (n - 1) (Nat.lt_of_le_of_lt (Nat.sub_le _ _) h)
      + ∑ k : Fin w, a (n / K) (w * (n % K) + k) r * b (n / K) (w * (n % K) + k) c) :
    ∀ n h, v n h = tn (w * (n % K + 1)) (a (n / K)) (b (n / K)) r c :=
  sum_run v (fun g k => a g k r * b g k c) start next

theorem hz4 : (![0, 0, 0, 0] : Fin 4 → Nat) = fun _ => 0 := funext fun a => by fin_cases a <;> rfl

end Cert.Mats

end
-- ==== Proof.MixedGrad2.lean ====
/-
  The gradient of the grouped product's left operand: in each group of columns, the product of the incoming gradient
  and the group's transposed weights.
-/
module

public import proofs.«01_k».proof.Defs
public import proofs.«01_k».proof.Proof.Groups
public import proofs.«01_k».proof.Proof.Gen.MixedGrad2Ideal.Value
public import proofs.«01_k».proof.Proof.Gen.RMixedGrad2Ideal.Run
public import proofs.«01_k».proof.Proof.Gen.RMixedGrad2Ideal.Read
public import Idealize.ShloMosaic.Lib.Pipeline.ValueKit
public import Idealize.ShloMosaic.Lib.Claim

@[expose] public section

set_option maxRecDepth 16384

noncomputable section

namespace Cert.MixedGrad2Value

open Cert.MixedGrad2Ideal Cert.MixedGrad2Ideal.Gen Idealize.ShloMosaic Idealize.ShloMosaic.TcCoe Idealize.SL.Sem Cert.Mats

variable (m : (ℓ : Loc nD τ sig) → Buf (Elt Ideal) ℓ)

abbrev W (c : Dev nD) : ℕ → Mat := at3 (g := 4) (m := 512) (n := 512) (m ((c : Thread nD τ).loc main_arg0))
abbrev G (c : Dev nD) : Mat := at2 (m := 4352) (n := 2048) (m ((c : Thread nD τ).loc main_arg1))

theorem idx0 (t : Fin cfg0.N) : win0_0.index t = ![t.val / 4, t.val % 4] :=
  (by decide +kernel : ∀ t : Fin grid0.N, win0_0.index t = ![t.val / 4, t.val % 4]) t
theorem idx1 (t : Fin cfg0.N) : win0_1.index t = ![0, t.val % 4, 0, 0] :=
  (by decide +kernel : ∀ t : Fin grid0.N, win0_1.index t = ![0, t.val % 4, 0, 0]) t
theorem idx2 (t : Fin cfg0.N) : win0_2.index t = ![t.val / 4, t.val % 4] :=
  (by decide +kernel : ∀ t : Fin grid0.N, win0_2.index t = ![t.val / 4, t.val % 4]) t

theorem tile0 (c : Dev nD) (t : Fin cfg0.N) (r : Fin 1088) (k : Fin 512) :
    iblk m c 0 t (ix2 r k) = part512 (G m c) (t.val % 4) (1088 * (t.val / 4) + r) k := by
  have ht : t.val < 16 := t.isLt
  refine Eq.trans ?_ (at2_eq _ _ _ (by omega) (by omega)).symm
  blk_ext [iblk, V_main_arg1, idx0]

/-- The group's weights, in the order of the chips that hold their rows. -/
theorem tile1 (c : Dev nD) (t : Fin cfg0.N) (s : Fin 4) (q : Fin 128) (k : Fin 512) :
    iblk m c 1 t (ix4 s 0 q k) = W m c (t.val % 4) (128 * s + q) k := by
  have ht : t.val < 16 := t.isLt
  refine Eq.trans ?_ (at3_eq _ _ _ _ (by omega) (by omega) (by omega)).symm
  blk_ext! [iblk, idx1]

theorem part (x0 : Vec Ideal S4x1x128x512 .bf16) (x1 : Vec Ideal S1088x512 .bf16) (r : Fin 1088) (e : Fin 512) :
    k0_pay1 x0 x1 (ix2 r e) = ∑ k : Fin 512, x1 (ix2 r k) * x0 (ix4 ⟨e.val / 128, by omega⟩ 0 ⟨e.val % 128, by omega⟩ k) := by
  pointwise [k0_pay1]

theorem left (c : Dev nD) (t : Fin cfg0.N) (r : Fin 1088) (e : Fin 512) :
    out0_2 (iblk m c 0 t) (iblk m c 1 t) (ix2 r e)
      = nt 512 (part512 (G m c) (t.val % 4)) (W m c (t.val % 4)) (1088 * (t.val / 4) + r) e := by
  unfold out0_2
  rw [View.canon_unit_zero (S := S1088x512) hz2]
  simp only [View.ld_unit_zero (S := S4x1x128x512) hz4, View.ld_unit_zero (S := S1088x512) hz2]
  rw [part]
  refine Finset.sum_congr rfl fun k _ => ?_
  rw [tile0, tile1]
  simp only [Nat.div_add_mod]

theorem final (c : Dev nD) : (dats m 0 c).arrAt 2 cfg0.N
    = (fun j => nt 512 (part512 (G m c) ((j 1).val / 512)) (W m c ((j 1).val / 512)) (j 0).val ((j 1).val % 512)
        : S4352x2048.Idx → EReal) := by
  refine (dats m 0 c).arrAt_eq_of_covers 2 _ (by decide +kernel) fun t hf y => ?_
  blk_simp
  rw [after0_2, show y = ix2 (y 0) (y 1) from by idx_ext]
  refine (left m c t (y 0) (y 1)).trans ?_
  blk_simp [idx2]
  have h1 : (y 1).val < 512 := (y 1).isLt
  rw [show (t.val % 4 * 512 + (y 1).val) / 512 = t.val % 4 by omega, show (t.val % 4 * 512 + (y 1).val) % 512 = (y 1).val by omega]
  simp only [Nat.mul_comm]

open Cert.RMixedGrad2Ideal.Read in
/-- The derivative with respect to the left operand. -/
theorem reference (x0 : Vec Ideal Cert.RMixedGrad2Ideal.S4x512x512 .f32) (x1 : Vec Ideal Cert.RMixedGrad2Ideal.S4352x2048 .bf16)
    (r : Fin 4352) (e : Fin 2048) :
    val_main_v8 x0 x1 (ix2 r e) = nt 512 (part512 (at2 x1) (e / 512)) (at3 x0 (e / 512)) r (e % 512) := by
  rw [val_main_v8_apply, val_main_v7_apply, val_main_v6_apply]
  refine Finset.sum_congr rfl fun k _ => ?_
  rw [val_main_v5_apply, val_main_v1_apply, of_idx2 (val_main_v0 x1) _ (r := r) (c := 512 * (e / 512) + k) ?_ ?_,
    of_idx3 x0 _ (s := e / 512) (r := e % 512) (c := k) ?_ ?_ rfl]
  · rfl
  all_goals
    have he := e.isLt
    simp only [ix2]
    omega

theorem frame_reference : Cert.quiescent_RMixedGrad2Ideal := fun m g _ =>
  (θ_run Cert.RMixedGrad2Ideal.defs _ _).mono (fun r h => ⟨fun c => (h c).2, sem_eq_zero_of_no_sems (by decide) r.2⟩)
    (Cert.RMixedGrad2Ideal.Value.run (F := Ideal) m g)

theorem algebraic : Cert.algebraic_MixedGrad2Ideal_RMixedGrad2Ideal := by
  intro m g m' g' _ hagree
  refine ⟨fun c => (fun j => nt 512 (part512 (G m c) ((j 1).val / 512)) (W m c ((j 1).val / 512)) (j 0).val ((j 1).val % 512)), ?_, ?_⟩
  · refine (θ_run Cert.MixedGrad2Ideal.defs _ _).mono (fun r h c => ?_) (Cert.MixedGrad2Ideal.Value.run_blocks (F := Ideal) m g)
    obtain ⟨e0, e⟩ := h c
    exact ⟨e0.trans (final m c), e⟩
  · refine (θ_run Cert.RMixedGrad2Ideal.defs _ _).mono (fun r h c => ?_) (Cert.RMixedGrad2Ideal.Value.run (F := Ideal) m' g')
    obtain ⟨e0, e⟩ := h c
    obtain ⟨a0, a1⟩ := hagree c
    refine ⟨e0.trans ?_, e⟩
    rw [Cert.RMixedGrad2Ideal.Read.val_main_v8_eq, a0, a1]
    funext j
    rw [show j = ix2 (j 0) (j 1) from by idx_ext]
    exact reference _ _ (j 0) (j 1)

end Cert.MixedGrad2Value

end
-- ==== Proof.GrpGrad2.lean ====
/-
  The gradient of the grouped product's weights: in each group, the product of the transposed left operand's columns and
  the incoming gradient's, accumulated over four blocks of rows and kept in the order of the chips.
-/
module

public import proofs.«01_k».proof.Defs
public import proofs.«01_k».proof.Proof.Groups
public import proofs.«01_k».proof.Proof.Gen.GrpGrad2Ideal.Value
public import proofs.«01_k».proof.Proof.Gen.RGrpGrad2Ideal.Run
public import proofs.«01_k».proof.Proof.Gen.RGrpGrad2Ideal.Read
public import Idealize.ShloMosaic.Lib.Pipeline.ValueKit
public import Idealize.ShloMosaic.Lib.Claim

@[expose] public section

set_option maxRecDepth 16384

noncomputable section

namespace Cert.GrpGrad2Value

open Cert.GrpGrad2Ideal Cert.GrpGrad2Ideal.Gen Idealize.ShloMosaic Idealize.ShloMosaic.TcCoe Idealize.SL.Sem Cert.Mats

variable (m : (ℓ : Loc nD τ sig) → Buf (Elt Ideal) ℓ)

abbrev A (c : Dev nD) : ℕ → Mat := part512 (at2 (m := 4352) (n := 2048) (m ((c : Thread nD τ).loc main_arg0)))
abbrev G (c : Dev nD) : ℕ → Mat := part512 (at2 (m := 4352) (n := 2048) (m ((c : Thread nD τ).loc main_arg1)))

theorem idx0 (t : Fin cfg0.N) : win0_0.index t = ![t.val % 4, t.val / 4] :=
  (by decide +kernel : ∀ t : Fin grid0.N, win0_0.index t = ![t.val % 4, t.val / 4]) t
theorem idx1 (t : Fin cfg0.N) : win0_1.index t = ![t.val % 4, t.val / 4] :=
  (by decide +kernel : ∀ t : Fin grid0.N, win0_1.index t = ![t.val % 4, t.val / 4]) t
theorem idx2 (t : Fin cfg0.N) : win0_2.index t = ![0, t.val / 4, 0, 0] :=
  (by decide +kernel : ∀ t : Fin grid0.N, win0_2.index t = ![0, t.val / 4, 0, 0]) t

theorem tile0 (c : Dev nD) (t : Fin cfg0.N) (r : Fin 1088) (k : Fin 512) :
    iblk m c 0 t (ix2 r k) = A m c (t.val / 4) (1088 * (t.val % 4) + r) k := by
  have ht : t.val < 16 := t.isLt
  refine Eq.trans ?_ (at2_eq _ _ _ (by omega) (by omega)).symm
  blk_ext [iblk, V_main_arg0, idx0]

theorem tile1 (c : Dev nD) (t : Fin cfg0.N) (r : Fin 1088) (k : Fin 512) :
    iblk m c 1 t (ix2 r k) = G m c (t.val / 4) (1088 * (t.val % 4) + r) k := by
  have ht : t.val < 16 := t.isLt
  refine Eq.trans ?_ (at2_eq _ _ _ (by omega) (by omega)).symm
  blk_ext [iblk, V_main_arg1, idx1]

theorem part (x0 x1 : Vec Ideal S1088x512 .bf16) (s : Fin 4) (q : Fin 128) (e : Fin 512) :
    k0_pay2 x0 x1 (ix4 s 0 q e) = ∑ k : Fin 1088, x0 (ix2 k ⟨s * 128 + q, by omega⟩) * x1 (ix2 k e) := by
  pointwise [k0_pay2, k0_pay1]

theorem part_on (x0 x1 : Vec Ideal S1088x512 .bf16) (x2 : Vec Ideal S4x1x128x512 .f32) (s : Fin 4) (q : Fin 128) (e : Fin 512) :
    k0_pay3 x0 x1 x2 (ix4 s 0 q e)
      = x2 (ix4 s 0 q e) + ∑ k : Fin 1088, x0 (ix2 k ⟨s * 128 + q, by omega⟩) * x1 (ix2 k e) := by
  pointwise [k0_pay3, k0_pay1]

/-- A group's first block of rows starts the sum. -/
theorem start (c : Dev nD) (t : Fin cfg0.N) (h : t.val % 4 = 0) (s : Fin 4) (q : Fin 128) (e : Fin 512) :
    outsAt0 m c t.val t.isLt (ix4 s 0 q e) = ∑ k : Fin 1088,
      A m c (t.val / 4) (1088 * (t.val % 4) + k) (128 * s + q) * G m c (t.val / 4) (1088 * (t.val % 4) + k) e := by
  rw [outsAt0_A m c t h (by omega)]
  unfold out0_A_2
  rw [View.read_writes_eq_canon _ _ _ (cover0_A_2 c _ _ _ _ _ _ _ _ _ _ _)]
  unfold kernelRun0_A
  dsimp only
  rw [View.canon_unit_zero hz4]
  simp only [View.readAt_eq_ld, (hs0_0 t).read_unread, (hs0_1 t).read_unread, View.ld_unit_zero (S := S1088x512) hz2]
  rw [part]
  exact Finset.sum_congr rfl fun k _ => by rw [tile0, tile1]; simp only [Nat.mul_comm s.val]

/-- The next ones add to it. -/
theorem next (c : Dev nD) (t : Fin cfg0.N) (h : t.val % 4 ≠ 0) (s : Fin 4) (q : Fin 128) (e : Fin 512) :
    outsAt0 m c t.val t.isLt (ix4 s 0 q e)
      = outsAt0 m c (t.val - 1) (Nat.lt_of_le_of_lt (Nat.sub_le _ _) t.isLt) (ix4 s 0 q e) + ∑ k : Fin 1088,
        A m c (t.val / 4) (1088 * (t.val % 4) + k) (128 * s + q) * G m c (t.val / 4) (1088 * (t.val % 4) + k) e := by
  rw [outsAt0_B m c t h (by omega)]
  unfold out0_B_2
  rw [View.read_writes_eq_canon _ _ _ (cover0_B_2 c _ _ _ _ _ _ _ _ _ _ _ _)]
  unfold kernelRun0_B
  dsimp only
  rw [View.canon_unit_zero hz4]
  simp only [View.readAt_eq_ld, (hs0_0 t).read_unread, (hs0_1 t).read_unread, (hs0_2 t).read_unread,
    View.ld_unit_zero (S := S1088x512) hz2, View.ld_unit_zero (S := S4x1x128x512) hz4]
  rw [part_on]
  congr 1
  exact Finset.sum_congr rfl fun k _ => by rw [tile0, tile1]; simp only [Nat.mul_comm s.val]

/-- A group's last block of rows ends it. -/
theorem left (c : Dev nD) (t : Fin cfg0.N) (h : t.val % 4 = 3) (s : Fin 4) (q : Fin 128) (e : Fin 512) :
    outsAt0 m c t.val t.isLt (ix4 s 0 q e) = tn 4352 (A m c (t.val / 4)) (G m c (t.val / 4)) (128 * s + q) e := by
  have run := tn_run (K := 4) (w := 1088) (fun n hn => outsAt0 m c n hn (ix4 s 0 q e)) (A m c) (G m c) (128 * s + q) e
    (fun n hn h0 => start m c ⟨n, hn⟩ h0 s q e) (fun n hn h0 => next m c ⟨n, hn⟩ h0 s q e) t.val t.isLt
  rw [h] at run
  exact run

theorem final (c : Dev nD) : (dats m 0 c).arrAt 2 cfg0.N
    = (fun j => tn 4352 (A m c (j 1).val) (G m c (j 1).val) (128 * (j 0).val + (j 2).val) (j 3).val
        : S4x4x128x512.Idx → EReal) := by
  refine (dats m 0 c).arrAt_eq_of_covers 2 _ (by decide +kernel) fun t hf y => ?_
  blk_simp
  rw [after0_2, show y = ix4 (y 0) 0 (y 2) (y 3) from by idx_ext]
  refine (left m c t ((flush0_2 t).mp hf) (y 0) (y 2) (y 3)).trans ?_
  blk_simp [idx2]

open Cert.RGrpGrad2Ideal.Read in
/-- The derivative with respect to the weights. -/
theorem reference (x0 x1 : Vec Ideal Cert.RGrpGrad2Ideal.S4352x2048 .bf16) (s g : Fin 4) (q : Fin 128) (e : Fin 512) :
    val_main_v11 x0 x1 (ix4 s g q e) = tn 4352 (part512 (at2 x0) g) (part512 (at2 x1) g) (128 * s + q) e := by
  have place : (((g.val * 4 + s) * 128 + q) * 512 + e) / 262144 = g ∧ (((g.val * 4 + s) * 128 + q) * 512 + e) / 512 % 512 = 128 * s + q
      ∧ (((g.val * 4 + s) * 128 + q) * 512 + e) % 512 = e := by omega
  rw [val_main_v11_apply, val_main_v10_apply, val_main_v9_apply, val_main_v8_apply]
  refine Finset.sum_congr rfl fun k _ => ?_
  rw [mul_comm, val_main_v7_apply, val_main_v6_apply, val_main_v2_apply,
    of_idx2 (val_main_v1 x0) _ (r := k) (c := 512 * g + (128 * s + q)) ?_ ?_,
    of_idx2 (val_main_v5 x1) _ (r := k) (c := 512 * g + e) ?_ ?_]
  · rfl
  all_goals
    have he := e.isLt
    have hq := q.isLt
    have hs := s.isLt
    have hg := g.isLt
    simp only [ix4, place]
    omega

theorem frame_reference : Cert.quiescent_RGrpGrad2Ideal := fun m g _ =>
  (θ_run Cert.RGrpGrad2Ideal.defs _ _).mono (fun r h => ⟨fun c => (h c).2, sem_eq_zero_of_no_sems (by decide) r.2⟩)
    (Cert.RGrpGrad2Ideal.Value.run (F := Ideal) m g)

theorem algebraic : Cert.algebraic_GrpGrad2Ideal_RGrpGrad2Ideal := by
  intro m g m' g' _ hagree
  refine ⟨fun c => (fun j => tn 4352 (A m c (j 1).val) (G m c (j 1).val) (128 * (j 0).val + (j 2).val) (j 3).val), ?_, ?_⟩
  · refine (θ_run Cert.GrpGrad2Ideal.defs _ _).mono (fun r h c => ?_) (Cert.GrpGrad2Ideal.Value.run_blocks (F := Ideal) m g)
    obtain ⟨e0, e⟩ := h c
    exact ⟨e0.trans (final m c), e⟩
  · refine (θ_run Cert.RGrpGrad2Ideal.defs _ _).mono (fun r h c => ?_) (Cert.RGrpGrad2Ideal.Value.run (F := Ideal) m' g')
    obtain ⟨e0, e⟩ := h c
    obtain ⟨a0, a1⟩ := hagree c
    refine ⟨e0.trans ?_, e⟩
    rw [Cert.RGrpGrad2Ideal.Read.val_main_v11_eq, a0, a1]
    funext j
    rw [show j = ix4 (j 0) (j 1) (j 2) (j 3) from by idx_ext]
    exact reference _ _ (j 0) (j 1) (j 2) (j 3)

end Cert.GrpGrad2Value

end
-- ==== Proof.Grp2.lean ====
/-
  The pooling's grouped product and its gate: in each group of columns the product with the group's weights and the bias,
  and its multiple by the scale and the silu of the right half of the projection.
-/
module

public import proofs.«01_k».proof.Defs
public import proofs.«01_k».proof.Proof.Groups
public import proofs.«01_k».proof.Proof.Gen.Grp2Ideal.Value
public import proofs.«01_k».proof.Proof.Gen.RGrp2Ideal.Run
public import proofs.«01_k».proof.Proof.Gen.RGrp2Ideal.Read
public import Idealize.ShloMosaic.Lib.Pipeline.ValueKit
public import Idealize.ShloMosaic.Lib.Claim

@[expose] public section

set_option maxRecDepth 16384

noncomputable section

namespace Cert.Grp2Value

open Cert.Grp2Ideal Cert.Grp2Ideal.Gen Idealize.ShloMosaic Idealize.ShloMosaic.TcCoe Idealize.SL.Sem Cert.Mats

/-- The grouped product with its bias. -/
def grp (a : Mat) (w : ℕ → Mat) (b : Mat) : Mat := fun r c =>
  nn 512 (part512 a (c / 512)) (w (c / 512)) r (c % 512) + b (c / 512) (c % 512)

/-- The product times the scale and the silu of the projection's right half. -/
def gated (a : Mat) (w : ℕ → Mat) (b p s : Mat) : Mat := fun r c =>
  grp a w b r c * s 0 c * (p r (2048 + c) * Ideal.logistic (p r (2048 + c)))

/-- A column of a group. -/
theorem grp_at (a : Mat) (w : ℕ → Mat) (b : Mat) (g r e : ℕ) (he : e < 512) :
    grp a w b r (512 * g + e) = (∑ k : Fin 512, part512 a g r k * w g k e) + b g e := by
  unfold grp
  rw [show (512 * g + e) / 512 = g by omega, show (512 * g + e) % 512 = e by omega]
  rfl

variable (m : (ℓ : Loc nD τ sig) → Buf (Elt Ideal) ℓ)

abbrev A (c : Dev nD) : Mat := at2 (m := 4352) (n := 2048) (m ((c : Thread nD τ).loc main_arg0))
abbrev W (c : Dev nD) : ℕ → Mat := at3 (g := 4) (m := 512) (n := 512) (m ((c : Thread nD τ).loc main_arg1))
abbrev B (c : Dev nD) : Mat := at2 (m := 4) (n := 512) (m ((c : Thread nD τ).loc main_arg2))
abbrev P (c : Dev nD) : Mat := at2 (m := 4352) (n := 4096) (m ((c : Thread nD τ).loc main_arg3))
abbrev S (c : Dev nD) : Mat := at1 (n := 2048) (m ((c : Thread nD τ).loc main_arg4))

theorem idx0 (t : Fin cfg0.N) : win0_0.index t = ![t.val / 4, t.val % 4] :=
  (by decide +kernel : ∀ t : Fin grid0.N, win0_0.index t = ![t.val / 4, t.val % 4]) t
theorem idx1 (t : Fin cfg0.N) : win0_1.index t = ![0, t.val % 4, 0, 0] :=
  (by decide +kernel : ∀ t : Fin grid0.N, win0_1.index t = ![0, t.val % 4, 0, 0]) t
theorem idx2 (t : Fin cfg0.N) : win0_2.index t = ![0, t.val % 4] :=
  (by decide +kernel : ∀ t : Fin grid0.N, win0_2.index t = ![0, t.val % 4]) t
theorem idx3 (t : Fin cfg0.N) : win0_3.index t = ![t.val / 4, 4 + t.val % 4] :=
  (by decide +kernel : ∀ t : Fin grid0.N, win0_3.index t = ![t.val / 4, 4 + t.val % 4]) t
theorem idx4 (t : Fin cfg0.N) : win0_4.index t = ![0, t.val % 4] :=
  (by decide +kernel : ∀ t : Fin grid0.N, win0_4.index t = ![0, t.val % 4]) t
theorem idx5 (t : Fin cfg0.N) : win0_5.index t = ![t.val / 4, t.val % 4] :=
  (by decide +kernel : ∀ t : Fin grid0.N, win0_5.index t = ![t.val / 4, t.val % 4]) t
theorem idx6 (t : Fin cfg0.N) : win0_6.index t = ![t.val / 4, t.val % 4] :=
  (by decide +kernel : ∀ t : Fin grid0.N, win0_6.index t = ![t.val / 4, t.val % 4]) t

theorem tile0 (c : Dev nD) (t : Fin cfg0.N) (r : Fin 1088) (k : Fin 512) :
    iblk m c 0 t (ix2 r k) = part512 (A m c) (t.val % 4) (1088 * (t.val / 4) + r) k := by
  have ht : t.val < 16 := t.isLt
  refine Eq.trans ?_ (at2_eq _ _ _ (by omega) (by omega)).symm
  blk_ext [iblk, V_main_arg0, idx0]

/-- The group's weights, in the order of the chips that hold their rows. -/
theorem tile1 (c : Dev nD) (t : Fin cfg0.N) (s : Fin 4) (q : Fin 128) (k : Fin 512) :
    iblk m c 1 t (ix4 s 0 q k) = W m c (t.val % 4) (128 * s + q) k := by
  have ht : t.val < 16 := t.isLt
  refine Eq.trans ?_ (at3_eq _ _ _ _ (by omega) (by omega) (by omega)).symm
  blk_ext! [iblk, idx1]

theorem tile2 (c : Dev nD) (t : Fin cfg0.N) (k : Fin 512) : iblk m c 2 t (ix2 0 k) = B m c (t.val % 4) k := by
  have ht : t.val < 16 := t.isLt
  refine Eq.trans ?_ (at2_eq _ _ _ (by omega) (by omega)).symm
  blk_ext! [iblk, idx2]

theorem tile3 (c : Dev nD) (t : Fin cfg0.N) (r : Fin 1088) (k : Fin 512) :
    iblk m c 3 t (ix2 r k) = P m c (1088 * (t.val / 4) + r) (2048 + (512 * (t.val % 4) + k)) := by
  have ht : t.val < 16 := t.isLt
  refine Eq.trans ?_ (at2_eq _ _ _ (by omega) (by omega)).symm
  blk_ext [iblk, V_main_arg3, idx3]

theorem tile4 (c : Dev nD) (t : Fin cfg0.N) (k : Fin 512) : iblk m c 4 t (ix2 0 k) = S m c 0 (512 * (t.val % 4) + k) := by
  have ht : t.val < 16 := t.isLt
  refine Eq.trans ?_ (at1_eq _ _ _ (by omega)).symm
  blk_ext! [iblk, idx4]

theorem part (x0 : Vec Ideal S4x1x128x512 .bf16) (x1 : Vec Ideal S1088x512 .bf16) (x2 : Vec Ideal S1x512 .f32)
    (r : Fin 1088) (e : Fin 512) :
    k0_pay1 x0 x1 x2 (ix2 r e) = (∑ k : Fin 512, x1 (ix2 r k) * x0 (ix4 ⟨k.val / 128, by omega⟩ 0 ⟨k.val % 128, by omega⟩ e))
      + x2 (ix2 0 e) := by
  pointwise [k0_pay1]

theorem part_gate (x0 : Vec Ideal S4x1x128x512 .bf16) (x1 : Vec Ideal S1088x512 .bf16) (x2 : Vec Ideal S1x512 .f32)
    (x3 : Vec Ideal S1088x512 .f32) (x4 : Vec Ideal S1x512 .f32) (r : Fin 1088) (e : Fin 512) :
    k0_pay2 x0 x1 x2 x3 x4 (ix2 r e)
      = k0_pay1 x0 x1 x2 (ix2 r e) * x4 (ix2 0 e) * (x3 (ix2 r e) * Ideal.logistic (x3 (ix2 r e))) := by
  pointwise [k0_pay2, k0_pay1]

theorem prod (c : Dev nD) (t : Fin cfg0.N) (r : Fin 1088) (e : Fin 512) :
    k0_pay1 (iblk m c 1 t) (iblk m c 0 t) (iblk m c 2 t) (ix2 r e)
      = grp (A m c) (W m c) (B m c) (1088 * (t.val / 4) + r) (512 * (t.val % 4) + e) := by
  rw [part, grp_at _ _ _ _ _ _ e.isLt, tile2]
  congr 1
  refine Finset.sum_congr rfl fun k _ => ?_
  rw [tile0, tile1]
  simp only [Nat.div_add_mod]

theorem left5 (c : Dev nD) (t : Fin cfg0.N) (r : Fin 1088) (e : Fin 512) :
    out0_5 (iblk m c 0 t) (iblk m c 1 t) (iblk m c 2 t) (iblk m c 3 t) (iblk m c 4 t) (ix2 r e)
      = grp (A m c) (W m c) (B m c) (1088 * (t.val / 4) + r) (512 * (t.val % 4) + e) := by
  unfold out0_5
  rw [View.canon_unit_zero (S := S1088x512) hz2]
  simp only [View.ld_unit_zero (S := S4x1x128x512) hz4, View.ld_unit_zero (S := S1088x512) hz2,
    View.ld_unit_zero (S := S1x512) hz2]
  exact prod m c t r e

theorem left6 (c : Dev nD) (t : Fin cfg0.N) (r : Fin 1088) (e : Fin 512) :
    out0_6 (iblk m c 0 t) (iblk m c 1 t) (iblk m c 2 t) (iblk m c 3 t) (iblk m c 4 t) (ix2 r e)
      = gated (A m c) (W m c) (B m c) (P m c) (S m c) (1088 * (t.val / 4) + r) (512 * (t.val % 4) + e) := by
  unfold out0_6
  rw [View.canon_unit_zero (S := S1088x512) hz2]
  simp only [View.ld_unit_zero (S := S4x1x128x512) hz4, View.ld_unit_zero (S := S1088x512) hz2,
    View.ld_unit_zero (S := S1x512) hz2]
  rw [part_gate, prod, tile3, tile4]
  rfl

theorem final5 (c : Dev nD) : (dats m 0 c).arrAt 5 cfg0.N
    = (fun j => grp (A m c) (W m c) (B m c) (j 0).val (j 1).val : S4352x2048.Idx → EReal) := by
  refine (dats m 0 c).arrAt_eq_of_covers 5 _ (by decide +kernel) fun t hf y => ?_
  blk_simp
  rw [after0_5, show y = ix2 (y 0) (y 1) from by idx_ext]
  refine (left5 m c t (y 0) (y 1)).trans ?_
  blk_simp [idx5]
  simp only [Nat.mul_comm]

theorem final6 (c : Dev nD) : (dats m 0 c).arrAt 6 cfg0.N
    = (fun j => gated (A m c) (W m c) (B m c) (P m c) (S m c) (j 0).val (j 1).val : S4352x2048.Idx → EReal) := by
  refine (dats m 0 c).arrAt_eq_of_covers 6 _ (by decide +kernel) fun t hf y => ?_
  blk_simp
  rw [after0_6, show y = ix2 (y 0) (y 1) from by idx_ext]
  refine (left6 m c t (y 0) (y 1)).trans ?_
  blk_simp [idx6]
  simp only [Nat.mul_comm]

section
open Cert.RGrp2Ideal Cert.RGrp2Ideal.Read

variable (x0 : Vec Ideal Cert.RGrp2Ideal.S4352x2048 .bf16) (x1 : Vec Ideal Cert.RGrp2Ideal.S4x512x512 .f32)
  (x2 : Vec Ideal Cert.RGrp2Ideal.S4x512 .f32) (x3 : Vec Ideal Cert.RGrp2Ideal.S4352x4096 .f32)
  (x4 : Vec Ideal Cert.RGrp2Ideal.S2048 .f32)

/-- The product in the reference. -/
theorem reference_grp (r : Fin 4352) (e : Fin 2048) :
    val_main_v9 x0 x1 x2 (ix2 r e) = grp (at2 x0) (at3 x1) (at2 x2) r e := by
  have he := e.isLt
  rw [val_main_v9_apply, val_main_v8_apply, val_main_v7_apply, val_main_v6_apply, val_main_v5_apply, val_main_v4_apply]
  refine congrArg₂ (· + ·) (Finset.sum_congr rfl fun k _ => ?_) (of_idx2 x2 _ ?_ ?_)
  · rw [mul_comm, val_main_v3_apply, of_idx2 (val_main_v2 x0) _ (r := r) (c := 512 * (e / 512) + k) ?_ ?_,
      of_idx3 x1 _ (s := e / 512) (r := k) (c := e % 512) ?_ rfl ?_]
    · rfl
    all_goals
      simp only [ix2]
      omega
  all_goals
    simp only [ix2]
    omega

/-- The gated product in the reference. -/
theorem reference_gated (r : Fin 4352) (e : Fin 2048) :
    val_main_v15 x0 x1 x2 x3 x4 (ix2 r e) = gated (at2 x0) (at3 x1) (at2 x2) (at2 x3) (at1 x4) r e := by
  have z : val_main_v1 x3 (ix2 r e) = at2 x3 r (2048 + e) := (val_main_v1_apply x3 _).trans (of_idx2 x3 _ rfl rfl)
  have l : val_main_call0_v5 x3 (ix2 r e) = Ideal.logistic (at2 x3 r (2048 + e)) := by
    rw [val_main_call0_v5_apply, val_main_call0_v4_apply, val_main_call0_cst_0_apply, val_main_call0_v3_apply,
      val_main_call0_v2_apply, val_main_call0_cst_apply, val_main_call0_v1_apply, val_main_call0_v0_apply, z]
    pointwise []
    rfl
  rw [val_main_v15_apply, val_main_v14_apply, val_main_v13_apply, l, z, val_main_v12_apply, reference_grp, val_main_v11_apply,
    val_main_v10_apply]
  exact congrArg (fun a => _ * a * _) ((congrArg x4 (by idx_ext)).trans (of_ix1 x4 e))

end

theorem frame_reference : Cert.quiescent_RGrp2Ideal := fun m g _ =>
  (θ_run Cert.RGrp2Ideal.defs _ _).mono (fun r h => ⟨fun c => (h c).2.2, sem_eq_zero_of_no_sems (by decide) r.2⟩)
    (Cert.RGrp2Ideal.Value.run (F := Ideal) m g)

theorem algebraic : Cert.algebraic_Grp2Ideal_RGrp2Ideal := by
  intro m g m' g' _ hagree
  refine ⟨fun c => (fun j => grp (A m c) (W m c) (B m c) (j 0).val (j 1).val),
    fun c => (fun j => gated (A m c) (W m c) (B m c) (P m c) (S m c) (j 0).val (j 1).val), ?_, ?_⟩
  · refine (θ_run Cert.Grp2Ideal.defs _ _).mono (fun r h c => ?_) (Cert.Grp2Ideal.Value.run_blocks (F := Ideal) m g)
    obtain ⟨e5, e6, e⟩ := h c
    exact ⟨e5.trans (final5 m c), e6.trans (final6 m c), e⟩
  · refine (θ_run Cert.RGrp2Ideal.defs _ _).mono (fun r h c => ?_) (Cert.RGrp2Ideal.Value.run (F := Ideal) m' g')
    obtain ⟨e5, e6, e⟩ := h c
    obtain ⟨a0, a1, a2, a3, a4⟩ := hagree c
    refine ⟨e5.trans ?_, e6.trans ?_, e⟩
    · rw [Cert.RGrp2Ideal.Read.val_main_v9_eq, a0, a1, a2]
      funext j
      rw [show j = ix2 (j 0) (j 1) from by idx_ext]
      exact reference_grp _ _ _ (j 0) (j 1)
    · rw [Cert.RGrp2Ideal.Read.val_main_v15_eq, a0, a1, a2, a3, a4]
      funext j
      rw [show j = ix2 (j 0) (j 1) from by idx_ext]
      exact reference_gated _ _ _ _ _ (j 0) (j 1)

end Cert.Grp2Value

end
-- ==== Proof.Gates.lean ====
/-
  The activations of the gates and their derivatives.
-/
module

public import proofs.«01_k».proof.Proof.Mats

@[expose] public section

noncomputable section

namespace Cert.Mats

open Idealize.ShloMosaic

/-- The silu. -/
def silu (z : EReal) : EReal := z * Ideal.logistic z

/-- The silu's derivative at `z` times a gradient. -/
def siluBack (g z : EReal) : EReal :=
  g * Ideal.logistic z + z * g * (Ideal.logistic z * (1 - Ideal.logistic z))

/-- The hyperbolic tangent in the gelu. -/
def tang (x : EReal) : EReal :=
  Ideal.tanh (Ideal.ofBits FTy.f32 0x3F4C422A#32 * (x + Ideal.ofBits FTy.f32 0x3D372713#32 * (x * x * x)))

/-- The factor of the gelu. -/
def geluFactor (x : EReal) : EReal := Ideal.ofBits FTy.f32 0x3F000000#32 * (1 + tang x)

/-- The gelu in its tangent form. -/
def gelu (x : EReal) : EReal := x * geluFactor x

/-- The part of a gradient that goes back into the gelu's tangent. -/
def tangBack (g x : EReal) : EReal :=
  Ideal.ofBits FTy.f32 0x3F4C422A#32 * (Ideal.ofBits FTy.f32 0x3F000000#32 * (x * g) * ((1 + tang x) * (1 - tang x)))

/-- The gelu's derivative at `x` times a gradient. -/
def geluBack (g x : EReal) : EReal :=
  g * geluFactor x + tangBack g x
    + Ideal.ofBits FTy.f32 0x3D372713#32 * tangBack g x * (Ideal.ofBits FTy.f32 0x40400000#32 * (x * x))

end Cert.Mats

end
-- ==== Proof.Glu3.lean ====
/-
  The gated unit of layer 3: the product of the gelu and the weights with its bias, and the gelu times the sigmoid of that
  product and the silu of the right half of the projection.
-/
module

public import proofs.«01_k».proof.Defs
public import proofs.«01_k».proof.Proof.Tiles
public import proofs.«01_k».proof.Proof.Gates
public import proofs.«01_k».proof.Proof.Gen.Glu3Ideal.Value
public import proofs.«01_k».proof.Proof.Gen.RGlu3Ideal.Run
public import proofs.«01_k».proof.Proof.Gen.RGlu3Ideal.Read
public import Idealize.ShloMosaic.Lib.Pipeline.ValueKit
public import Idealize.ShloMosaic.Lib.Claim

@[expose] public section

set_option maxRecDepth 16384

noncomputable section

namespace Cert.Glu3Value

open Cert.Glu3Ideal Cert.Glu3Ideal.Gen Idealize.ShloMosaic Idealize.ShloMosaic.TcCoe Idealize.SL.Sem Cert.Mats

/-- The product of the gelu and the weights, with its bias. -/
def lin (y w b : Mat) : Mat := fun r c => nn 1024 (fun r c => gelu (y r c)) w r c + b 0 c

/-- The gelu times the sigmoid of the product and the silu of the projection's right half. -/
def gated (y w b z : Mat) : Mat := fun r c =>
  gelu (y r c) * Ideal.logistic (lin y w b r c) * silu (z r (1024 + c))

variable (m : (ℓ : Loc nD τ sig) → Buf (Elt Ideal) ℓ)

abbrev Y (c : Dev nD) : Mat := at2 (m := 4352) (n := 1024) (m ((c : Thread nD τ).loc main_arg0))
abbrev W (c : Dev nD) : Mat := at2 (m := 1024) (n := 1024) (m ((c : Thread nD τ).loc main_arg1))
abbrev B (c : Dev nD) : Mat := at1 (n := 1024) (m ((c : Thread nD τ).loc main_arg2))
abbrev Z (c : Dev nD) : Mat := at2 (m := 4352) (n := 2048) (m ((c : Thread nD τ).loc main_arg3))

theorem idx0 (t : Fin cfg0.N) : win0_0.index t = ![t.val, 0] :=
  (by decide +kernel : ∀ t : Fin grid0.N, win0_0.index t = ![t.val, 0]) t
theorem idx1 (t : Fin cfg0.N) : win0_1.index t = ![0, 0, 0] :=
  (by decide +kernel : ∀ t : Fin grid0.N, win0_1.index t = ![0, 0, 0]) t
theorem idx2 (t : Fin cfg0.N) : win0_2.index t = ![0, 0] :=
  (by decide +kernel : ∀ t : Fin grid0.N, win0_2.index t = ![0, 0]) t
theorem idx3 (t : Fin cfg0.N) : win0_3.index t = ![t.val, 0] :=
  (by decide +kernel : ∀ t : Fin grid0.N, win0_3.index t = ![t.val, 0]) t
theorem idx4 (t : Fin cfg0.N) : win0_4.index t = ![t.val, 1] :=
  (by decide +kernel : ∀ t : Fin grid0.N, win0_4.index t = ![t.val, 1]) t
theorem idx5 (t : Fin cfg0.N) : win0_5.index t = ![t.val, 0] :=
  (by decide +kernel : ∀ t : Fin grid0.N, win0_5.index t = ![t.val, 0]) t
theorem idx6 (t : Fin cfg0.N) : win0_6.index t = ![t.val, 0] :=
  (by decide +kernel : ∀ t : Fin grid0.N, win0_6.index t = ![t.val, 0]) t

/-- The product's left operand is the gelu taken before the call. -/
theorem tile0 (c : Dev nD) (t : Fin cfg0.N) (r : Fin 1088) (k : Fin 1024) :
    iblk m c 0 t (ix2 r k) = gelu (Y m c (1088 * t.val + r) k) := by
  have ht : t.val < 4 := t.isLt
  refine Eq.trans ?_ (congrArg gelu (at2_eq _ _ _ (by omega) (by omega)).symm)
  unfold gelu geluFactor tang
  blk_simp [iblk]
  entry_read
  pointwise
  blk_point [idx0]

theorem tile1 (c : Dev nD) (t : Fin cfg0.N) (r : Fin 1024) (k : Fin 1024) : iblk m c 1 t (ix3 0 r k) = W m c r k := by
  refine Eq.trans ?_ (at2_eq _ _ _ (by omega) (by omega)).symm
  blk_ext! [iblk, idx1]

theorem tile2 (c : Dev nD) (t : Fin cfg0.N) (k : Fin 1024) : iblk m c 2 t (ix2 0 k) = B m c 0 k := by
  refine Eq.trans ?_ (at1_eq _ _ _ (by omega)).symm
  blk_ext! [iblk, idx2]

theorem tile3 (c : Dev nD) (t : Fin cfg0.N) (r : Fin 1088) (k : Fin 1024) :
    iblk m c 3 t (ix2 r k) = Y m c (1088 * t.val + r) k := by
  have ht : t.val < 4 := t.isLt
  refine Eq.trans ?_ (at2_eq _ _ _ (by omega) (by omega)).symm
  blk_ext [iblk, V_main_arg0, idx3]

theorem tile4 (c : Dev nD) (t : Fin cfg0.N) (r : Fin 1088) (k : Fin 1024) :
    iblk m c 4 t (ix2 r k) = Z m c (1088 * t.val + r) (1024 + k) := by
  have ht : t.val < 4 := t.isLt
  refine Eq.trans ?_ (at2_eq _ _ _ (by omega) (by omega)).symm
  blk_ext [iblk, V_main_arg3, idx4]

theorem part (x0 : Vec Ideal S1088x1024 .bf16) (x1 : Vec Ideal S1x1024x1024 .bf16) (x2 : Vec Ideal S1x1024 .f32)
    (r : Fin 1088) (e : Fin 1024) :
    k0_pay1 x0 x1 x2 (ix2 r e) = (∑ k : Fin 1024, x0 (ix2 r k) * x1 (ix3 0 k e)) + x2 (ix2 0 e) := by
  pointwise [k0_pay1]

/-- The kernel's gelu multiplies the cube the other way around. -/
theorem part_gate (x0 : Vec Ideal S1088x1024 .bf16) (x1 : Vec Ideal S1x1024x1024 .bf16) (x2 : Vec Ideal S1x1024 .f32)
    (x3 x4 : Vec Ideal S1088x1024 .f32) (r : Fin 1088) (e : Fin 1024) :
    k0_pay2 x0 x1 x2 x3 x4 (ix2 r e)
      = gelu (x3 (ix2 r e)) * Ideal.logistic (k0_pay1 x0 x1 x2 (ix2 r e)) * silu (x4 (ix2 r e)) := by
  pointwise [k0_pay2]
  rw [mul_comm (x3 (ix2 r e)) (x3 (ix2 r e) * x3 (ix2 r e))]
  rfl

theorem prod (c : Dev nD) (t : Fin cfg0.N) (r : Fin 1088) (e : Fin 1024) :
    k0_pay1 (iblk m c 0 t) (iblk m c 1 t) (iblk m c 2 t) (ix2 r e) = lin (Y m c) (W m c) (B m c) (1088 * t.val + r) e := by
  rw [part, tile2]
  exact congrArg (· + _) (Finset.sum_congr rfl fun k _ => by rw [tile0, tile1])

theorem left5 (c : Dev nD) (t : Fin cfg0.N) (r : Fin 1088) (e : Fin 1024) :
    out0_5 (iblk m c 0 t) (iblk m c 1 t) (iblk m c 2 t) (iblk m c 3 t) (iblk m c 4 t) (ix2 r e)
      = lin (Y m c) (W m c) (B m c) (1088 * t.val + r) e := by
  unfold out0_5
  rw [View.canon_unit_zero (S := S1088x1024) hz2]
  simp only [View.ld_unit_zero (S := S1x1024x1024) hz3, View.ld_unit_zero (S := S1088x1024) hz2,
    View.ld_unit_zero (S := S1x1024) hz2]
  exact prod m c t r e

theorem left6 (c : Dev nD) (t : Fin cfg0.N) (r : Fin 1088) (e : Fin 1024) :
    out0_6 (iblk m c 0 t) (iblk m c 1 t) (iblk m c 2 t) (iblk m c 3 t) (iblk m c 4 t) (ix2 r e)
      = gated (Y m c) (W m c) (B m c) (Z m c) (1088 * t.val + r) e := by
  unfold out0_6
  rw [View.canon_unit_zero (S := S1088x1024) hz2]
  simp only [View.ld_unit_zero (S := S1x1024x1024) hz3, View.ld_unit_zero (S := S1088x1024) hz2,
    View.ld_unit_zero (S := S1x1024) hz2]
  rw [part_gate, prod, tile3, tile4]
  rfl

theorem final5 (c : Dev nD) : (dats m 0 c).arrAt 5 cfg0.N
    = (fun j => lin (Y m c) (W m c) (B m c) (j 0).val (j 1).val : S4352x1024.Idx → EReal) := by
  refine (dats m 0 c).arrAt_eq_of_covers 5 _ (by decide +kernel) fun t hf y => ?_
  blk_simp
  rw [after0_5, show y = ix2 (y 0) (y 1) from by idx_ext]
  refine (left5 m c t (y 0) (y 1)).trans ?_
  blk_simp [idx5]
  simp only [Nat.mul_comm]

theorem final6 (c : Dev nD) : (dats m 0 c).arrAt 6 cfg0.N
    = (fun j => gated (Y m c) (W m c) (B m c) (Z m c) (j 0).val (j 1).val : S4352x1024.Idx → EReal) := by
  refine (dats m 0 c).arrAt_eq_of_covers 6 _ (by decide +kernel) fun t hf y => ?_
  blk_simp
  rw [after0_6, show y = ix2 (y 0) (y 1) from by idx_ext]
  refine (left6 m c t (y 0) (y 1)).trans ?_
  blk_simp [idx6]
  simp only [Nat.mul_comm]

section
open Cert.RGlu3Ideal Cert.RGlu3Ideal.Read

variable (x0 : Vec Ideal Cert.RGlu3Ideal.S4352x1024 .f32) (x1 : Vec Ideal Cert.RGlu3Ideal.S1024x1024 .f32)
  (x2 : Vec Ideal Cert.RGlu3Ideal.S1024 .f32) (x3 : Vec Ideal Cert.RGlu3Ideal.S4352x2048 .f32)

theorem reference_gelu (r : Fin 4352) (e : Fin 1024) : val_main_v14 x0 (ix2 r e) = gelu (at2 x0 r e) := by
  pointwise [val_main_v14, val_main_v13, val_main_v12, val_main_v11, val_main_v10, val_main_v9, val_main_v8, val_main_v7,
    val_main_v6, val_main_v5, val_main_v4, val_main_v3, val_main_v2, val_main_cst, val_main_cst_0, val_main_cst_1,
    val_main_cst_2]
  rw [of_ix2 x0]
  rfl

/-- The product in the reference. -/
theorem reference_lin (r : Fin 4352) (e : Fin 1024) :
    val_main_v18 x0 x1 x2 (ix2 r e) = lin (at2 x0) (at2 x1) (at1 x2) r e := by
  rw [val_main_v18_apply, val_main_v17_apply, val_main_v16_apply, val_main_v15_apply]
  refine congrArg₂ (· + ·) (Finset.sum_congr rfl fun k _ => ?_) ((congrArg x2 (by idx_ext)).trans (of_ix1 x2 e))
  exact congrArg₂ (· * ·) ((congrArg (val_main_v14 x0) (by idx_ext)).trans (reference_gelu x0 r k)) (of_idx2 x1 _ rfl rfl)

/-- The gated value in the reference. -/
theorem reference_gated (r : Fin 4352) (e : Fin 1024) :
    val_main_v28 x0 x1 x2 x3 (ix2 r e) = gated (at2 x0) (at2 x1) (at1 x2) (at2 x3) r e := by
  have z : val_main_v1 x3 (ix2 r e) = at2 x3 r (1024 + e) := (val_main_v1_apply x3 _).trans (of_idx2 x3 _ rfl rfl)
  have l : val_main_call0_v5 x3 (ix2 r e) = Ideal.logistic (at2 x3 r (1024 + e)) := by
    rw [val_main_call0_v5_apply, val_main_call0_v4_apply, val_main_call0_cst_0_apply, val_main_call0_v3_apply,
      val_main_call0_v2_apply, val_main_call0_cst_apply, val_main_call0_v1_apply, val_main_call0_v0_apply, z]
    pointwise []
    rfl
  have q : val_main_v24 x0 x1 x2 (ix2 r e) = Ideal.logistic (lin (at2 x0) (at2 x1) (at1 x2) r e) := by
    rw [val_main_v24_apply, val_main_v23_apply, val_main_cst_4_apply, val_main_v22_apply, val_main_v21_apply,
      val_main_cst_3_apply, val_main_v20_apply, val_main_v19_apply, reference_lin]
    pointwise []
    rfl
  rw [val_main_v28_apply, val_main_v27_apply, val_main_v26_apply, val_main_v25_apply, l, z, q, reference_gelu]
  rfl

end

theorem frame_reference : Cert.quiescent_RGlu3Ideal := fun m g _ =>
  (θ_run Cert.RGlu3Ideal.defs _ _).mono (fun r h => ⟨fun c => (h c).2.2, sem_eq_zero_of_no_sems (by decide) r.2⟩)
    (Cert.RGlu3Ideal.Value.run (F := Ideal) m g)

theorem algebraic : Cert.algebraic_Glu3Ideal_RGlu3Ideal := by
  intro m g m' g' _ hagree
  refine ⟨fun c => (fun j => lin (Y m c) (W m c) (B m c) (j 0).val (j 1).val),
    fun c => (fun j => gated (Y m c) (W m c) (B m c) (Z m c) (j 0).val (j 1).val), ?_, ?_⟩
  · refine (θ_run Cert.Glu3Ideal.defs _ _).mono (fun r h c => ?_) (Cert.Glu3Ideal.Value.run_blocks (F := Ideal) m g)
    obtain ⟨e5, e6, e⟩ := h c
    exact ⟨e5.trans (final5 m c), e6.trans (final6 m c), e⟩
  · refine (θ_run Cert.RGlu3Ideal.defs _ _).mono (fun r h c => ?_) (Cert.RGlu3Ideal.Value.run (F := Ideal) m' g')
    obtain ⟨e5, e6, e⟩ := h c
    obtain ⟨a0, a1, a2, a3⟩ := hagree c
    refine ⟨e5.trans ?_, e6.trans ?_, e⟩
    · rw [Cert.RGlu3Ideal.Read.val_main_v18_eq, a0, a1, a2]
      funext j
      rw [show j = ix2 (j 0) (j 1) from by idx_ext]
      exact reference_lin _ _ _ (j 0) (j 1)
    · rw [Cert.RGlu3Ideal.Read.val_main_v28_eq, a0, a1, a2, a3]
      funext j
      rw [show j = ix2 (j 0) (j 1) from by idx_ext]
      exact reference_gated _ _ _ _ (j 0) (j 1)

end Cert.Glu3Value

end
-- ==== Proof.PoolGate2.lean ====
/-
  The gradient of the pooling's gate: the incoming gradient times the transpose of the output weights, taken back through
  the scale and the silu of the right half of the projection, with the scale's gradient and the bias's summed over four
  blocks of rows.
-/
module

public import proofs.«01_k».proof.Defs
public import proofs.«01_k».proof.Proof.Groups
public import proofs.«01_k».proof.Proof.Gates
public import proofs.«01_k».proof.Proof.Gen.PoolGate2Ideal.Run
public import proofs.«01_k».proof.Proof.Gen.PoolGate2Ideal.Read
public import proofs.«01_k».proof.Proof.Gen.RPoolGate2Ideal.Run
public import proofs.«01_k».proof.Proof.Gen.RPoolGate2Ideal.Read
public import Idealize.ShloMosaic.Lib.Pipeline.ValueKit
public import Idealize.ShloMosaic.Lib.Claim

@[expose] public section

set_option maxRecDepth 16384

noncomputable section

namespace Cert.PoolGate2Value

open Cert.PoolGate2Ideal Cert.PoolGate2Ideal.Gen Idealize.ShloMosaic Idealize.ShloMosaic.TcCoe Idealize.SL.Sem Cert.Mats

/-- The incoming gradient through the silu of the projection's right half. -/
def through (h w p : Mat) : Mat := fun r c =>
  nt 1024 h w r c * silu (p r (2048 + c))

/-- The gradient of the pooled value. -/
def gradO (h w p s : Mat) : Mat := fun r c => through h w p r c * s 0 c

/-- The gradient of the projection's right half. -/
def gradZ (h w o p s : Mat) : Mat := fun r c => siluBack (o r c * s 0 c * nt 1024 h w r c) (p r (2048 + c))

/-- The gradient of the scale. -/
def gradS (h w o p : Mat) : ℕ → EReal := fun c => tn 4352 o (through h w p) c c

/-- The gradient of the bias. -/
def gradB (h w p s : Mat) : ℕ → EReal := fun c => tn 4352 (through h w p) (fun _ => s 0) c c

variable (m : (ℓ : Loc nD τ sig) → Buf (Elt Ideal) ℓ)

abbrev O (c : Dev nD) : Mat := at2 (m := 4352) (n := 2048) (m ((c : Thread nD τ).loc main_arg0))
abbrev P (c : Dev nD) : Mat := at2 (m := 4352) (n := 4096) (m ((c : Thread nD τ).loc main_arg1))
abbrev S (c : Dev nD) : Mat := at1 (n := 2048) (m ((c : Thread nD τ).loc main_arg2))
abbrev W (c : Dev nD) : Mat := at2 (m := 2048) (n := 1024) (m ((c : Thread nD τ).loc main_arg3))
abbrev H (c : Dev nD) : Mat := at2 (m := 4352) (n := 1024) (m ((c : Thread nD τ).loc main_arg4))

theorem idx0 (t : Fin cfg0.N) : win0_0.index t = ![t.val % 4, 0] :=
  (by decide +kernel : ∀ t : Fin grid0.N, win0_0.index t = ![t.val % 4, 0]) t
theorem idx1 (t : Fin cfg0.N) : win0_1.index t = ![0, t.val / 4, 0] :=
  (by decide +kernel : ∀ t : Fin grid0.N, win0_1.index t = ![0, t.val / 4, 0]) t
theorem idx2 (t : Fin cfg0.N) : win0_2.index t = ![t.val % 4, t.val / 4] :=
  (by decide +kernel : ∀ t : Fin grid0.N, win0_2.index t = ![t.val % 4, t.val / 4]) t
theorem idx3 (t : Fin cfg0.N) : win0_3.index t = ![t.val % 4, 2 + t.val / 4] :=
  (by decide +kernel : ∀ t : Fin grid0.N, win0_3.index t = ![t.val % 4, 2 + t.val / 4]) t
theorem idx4 (t : Fin cfg0.N) : win0_4.index t = ![0, t.val / 4] :=
  (by decide +kernel : ∀ t : Fin grid0.N, win0_4.index t = ![0, t.val / 4]) t
theorem idx5 (t : Fin cfg0.N) : win0_5.index t = ![t.val % 4, t.val / 4] :=
  (by decide +kernel : ∀ t : Fin grid0.N, win0_5.index t = ![t.val % 4, t.val / 4]) t
theorem idx6 (t : Fin cfg0.N) : win0_6.index t = ![t.val % 4, 2 + t.val / 4] :=
  (by decide +kernel : ∀ t : Fin grid0.N, win0_6.index t = ![t.val % 4, 2 + t.val / 4]) t
theorem idx7 (t : Fin cfg0.N) : win0_7.index t = ![0, t.val / 4] :=
  (by decide +kernel : ∀ t : Fin grid0.N, win0_7.index t = ![0, t.val / 4]) t
theorem idx8 (t : Fin cfg0.N) : win0_8.index t = ![0, t.val / 4] :=
  (by decide +kernel : ∀ t : Fin grid0.N, win0_8.index t = ![0, t.val / 4]) t

theorem V_v1 (c : Dev nD) : V m c main_v1 = broadcastInDim S1x2048x1024 ![1, 2] bcast_S2048x1024_S1x2048x1024_1_2
    (truncf (F := Ideal) .bf16 (m ((c : Thread nD τ).loc main_arg3)) bitsLt_bf16_f32) := by
  show StableHlo.after (List.flatten [hostOps0]) _ _ = _
  simp only [hostOps0, List.flatten_cons, List.flatten_nil, List.append_nil, List.cons_append, List.nil_append]
  after_results

theorem V_v2 (c : Dev nD) :
    V m c main_v2 = shapeCast S1x2048 (m ((c : Thread nD τ).loc main_arg2)) shapeCasts_S2048_S1x2048 := by
  show StableHlo.after (List.flatten [hostOps0]) _ _ = _
  simp only [hostOps0, List.flatten_cons, List.flatten_nil, List.append_nil, List.cons_append, List.nil_append]
  after_results
  rfl

theorem tile0 (c : Dev nD) (t : Fin cfg0.N) (r : Fin 1088) (k : Fin 1024) :
    iblk m c 0 t (ix2 r k) = H m c (1088 * (t.val % 4) + r) k := by
  have ht : t.val < 8 := t.isLt
  refine Eq.trans ?_ (at2_eq _ _ _ (by omega) (by omega)).symm
  blk_ext [iblk, V_main_arg4, idx0]

theorem tile1 (c : Dev nD) (t : Fin cfg0.N) (e : Fin 1024) (k : Fin 1024) :
    iblk m c 1 t (ix3 0 e k) = W m c (1024 * (t.val / 4) + e) k := by
  have ht : t.val < 8 := t.isLt
  refine Eq.trans ?_ (at2_eq _ _ _ (by omega) (by omega)).symm
  refine (congrFun (V_v1 m c) ((win0_1.blk t).view.emb (ix3 0 e k))).trans ?_
  pointwise
  blk_ext [idx1]

theorem tile2 (c : Dev nD) (t : Fin cfg0.N) (r : Fin 1088) (e : Fin 1024) :
    iblk m c 2 t (ix2 r e) = O m c (1088 * (t.val % 4) + r) (1024 * (t.val / 4) + e) := by
  have ht : t.val < 8 := t.isLt
  refine Eq.trans ?_ (at2_eq _ _ _ (by omega) (by omega)).symm
  blk_ext [iblk, V_main_arg0, idx2]

theorem tile3 (c : Dev nD) (t : Fin cfg0.N) (r : Fin 1088) (e : Fin 1024) :
    iblk m c 3 t (ix2 r e) = P m c (1088 * (t.val % 4) + r) (2048 + (1024 * (t.val / 4) + e)) := by
  have ht : t.val < 8 := t.isLt
  refine Eq.trans ?_ (at2_eq _ _ _ (by omega) (by omega)).symm
  blk_ext [iblk, V_main_arg1, idx3]

theorem tile4 (c : Dev nD) (t : Fin cfg0.N) (e : Fin 1024) : iblk m c 4 t (ix2 0 e) = S m c 0 (1024 * (t.val / 4) + e) := by
  have ht : t.val < 8 := t.isLt
  refine Eq.trans ?_ (at1_eq _ _ _ (by omega)).symm
  refine (congrFun (V_v2 m c) ((win0_4.blk t).view.emb (ix2 0 e))).trans ?_
  pointwise
  blk_ext [idx4]

theorem part (x0 : Vec Ideal S1088x1024 .f32) (x1 : Vec Ideal S1x1024x1024 .bf16) (r : Fin 1088) (e : Fin 1024) :
    k0_pay3 x0 x1 (ix2 r e) = ∑ k : Fin 1024, x0 (ix2 r k) * x1 (ix3 0 e k) := by
  pointwise [k0_pay3]

theorem part_through (x0 : Vec Ideal S1088x1024 .f32) (x1 : Vec Ideal S1x1024x1024 .bf16) (x3 : Vec Ideal S1088x1024 .f32)
    (r : Fin 1088) (e : Fin 1024) :
    k0_pay6 x0 x1 x3 (ix2 r e) = k0_pay3 x0 x1 (ix2 r e) * silu (x3 (ix2 r e)) := by
  pointwise [k0_pay6, k0_pay5, silu]

theorem part_o (x0 : Vec Ideal S1088x1024 .f32) (x1 : Vec Ideal S1x1024x1024 .bf16) (x3 : Vec Ideal S1088x1024 .f32)
    (x4 : Vec Ideal S1x1024 .f32) (r : Fin 1088) (e : Fin 1024) :
    k0_pay9 x0 x1 x3 x4 (ix2 r e) = k0_pay6 x0 x1 x3 (ix2 r e) * x4 (ix2 0 e) := by
  pointwise [k0_pay9, k0_pay8, k0_pay4]

theorem part_z (x0 : Vec Ideal S1088x1024 .f32) (x1 : Vec Ideal S1x1024x1024 .bf16) (x2 x3 : Vec Ideal S1088x1024 .f32)
    (x4 : Vec Ideal S1x1024 .f32) (r : Fin 1088) (e : Fin 1024) :
    k0_pay10 x0 x1 x2 x3 x4 (ix2 r e)
      = siluBack (x2 (ix2 r e) * x4 (ix2 0 e) * k0_pay3 x0 x1 (ix2 r e)) (x3 (ix2 r e)) := by
  pointwise [k0_pay10, k0_pay5, k0_pay4, siluBack]

theorem part_s (x0 : Vec Ideal S1088x1024 .f32) (x1 : Vec Ideal S1x1024x1024 .bf16) (x2 x3 : Vec Ideal S1088x1024 .f32)
    (e : Fin 1024) :
    k0_pay7 x0 x1 x2 x3 (ix2 0 e) = ∑ r : Fin 1088, x2 (ix2 r e) * k0_pay6 x0 x1 x3 (ix2 r e) := by
  pointwise [k0_pay7]

theorem part_b (x0 : Vec Ideal S1088x1024 .f32) (x1 : Vec Ideal S1x1024x1024 .bf16) (x3 : Vec Ideal S1088x1024 .f32)
    (x4 : Vec Ideal S1x1024 .f32) (e : Fin 1024) :
    k0_pay11 x0 x1 x3 x4 (ix2 0 e) = ∑ r : Fin 1088, k0_pay6 x0 x1 x3 (ix2 r e) * x4 (ix2 0 e) := by
  pointwise [k0_pay11, k0_pay8, k0_pay4]

theorem part_s_on (x y : Vec Ideal S1x1024 .f32) (e : Fin 1024) : k0_pay1 x y (ix2 0 e) = y (ix2 0 e) + x (ix2 0 e) := by
  pointwise [k0_pay1]

theorem part_b_on (x y : Vec Ideal S1x1024 .f32) (e : Fin 1024) : k0_pay2 x y (ix2 0 e) = y (ix2 0 e) + x (ix2 0 e) := by
  pointwise [k0_pay2]

section
variable (c : Dev nD) (t : Fin cfg0.N)

theorem prod (r : Fin 1088) (e : Fin 1024) : k0_pay3 (iblk m c 0 t) (iblk m c 1 t) (ix2 r e)
    = nt 1024 (H m c) (W m c) (1088 * (t.val % 4) + r) (1024 * (t.val / 4) + e) := by
  rw [part]
  exact Finset.sum_congr rfl fun k _ => by rw [tile0, tile1]

theorem prod_through (r : Fin 1088) (e : Fin 1024) : k0_pay6 (iblk m c 0 t) (iblk m c 1 t) (iblk m c 3 t) (ix2 r e)
    = through (H m c) (W m c) (P m c) (1088 * (t.val % 4) + r) (1024 * (t.val / 4) + e) := by
  rw [part_through, prod, tile3]
  rfl

theorem left5 (r : Fin 1088) (e : Fin 1024) : (outsAt0 m c t.val t.isLt).1 (ix2 r e)
    = gradO (H m c) (W m c) (P m c) (S m c) (1088 * (t.val % 4) + r) (1024 * (t.val / 4) + e) := by
  have main : k0_pay9 (iblk m c 0 t) (iblk m c 1 t) (iblk m c 3 t) (iblk m c 4 t) (ix2 r e)
      = gradO (H m c) (W m c) (P m c) (S m c) (1088 * (t.val % 4) + r) (1024 * (t.val / 4) + e) := by
    rw [part_o, prod_through, tile4]
    rfl
  by_cases h : t.val % 4 = 0
  · rw [outsAt0_A m c t h (by omega)]
    dsimp only
    unfold out0_A_5
    rw [View.read_writes_eq_canon _ _ _ (cover0_A_5 c _ _ _ _ _ _ _ _ _ _ _ _ _ _ _ _ _ _ _ _ _ _ _ _ _ _)]
    unfold kernelRun0_A
    dsimp only
    rw [View.canon_unit_zero hz2]
    simp only [View.readAt_eq_ld, (hs0_0 t).read_unread, (hs0_1 t).read_unread, (hs0_3 t).read_unread, (hs0_4 t).read_unread,
      View.ld_unit_zero (S := S1088x1024) hz2, View.ld_unit_zero (S := S1x1024) hz2, View.ld_unit_zero (S := S1x1024x1024) hz3]
    exact main
  · rw [outsAt0_B m c t h (by omega)]
    dsimp only
    unfold out0_B_5
    rw [View.read_writes_eq_canon _ _ _ (cover0_B_5 c _ _ _ _ _ _ _ _ _ _ _ _ _ _ _ _ _ _ _ _ _ _ _ _ _ _ _ _)]
    unfold kernelRun0_B
    dsimp only
    rw [View.canon_unit_zero hz2]
    simp only [View.readAt_eq_ld, (hs0_0 t).read_unread, (hs0_1 t).read_unread, (hs0_3 t).read_unread, (hs0_4 t).read_unread,
      View.ld_unit_zero (S := S1088x1024) hz2, View.ld_unit_zero (S := S1x1024) hz2, View.ld_unit_zero (S := S1x1024x1024) hz3]
    exact main

theorem left6 (r : Fin 1088) (e : Fin 1024) : (outsAt0 m c t.val t.isLt).2.1 (ix2 r e)
    = gradZ (H m c) (W m c) (O m c) (P m c) (S m c) (1088 * (t.val % 4) + r) (1024 * (t.val / 4) + e) := by
  have main : k0_pay10 (iblk m c 0 t) (iblk m c 1 t) (iblk m c 2 t) (iblk m c 3 t) (iblk m c 4 t) (ix2 r e)
      = gradZ (H m c) (W m c) (O m c) (P m c) (S m c) (1088 * (t.val % 4) + r) (1024 * (t.val / 4) + e) := by
    rw [part_z, prod, tile2, tile3, tile4]
    rfl
  by_cases h : t.val % 4 = 0
  · rw [outsAt0_A m c t h (by omega)]
    dsimp only
    unfold out0_A_6
    rw [View.read_writes_eq_canon _ _ _ (cover0_A_6 c _ _ _ _ _ _ _ _ _ _ _ _ _ _ _ _ _ _ _ _ _ _ _ _ _ _)]
    unfold kernelRun0_A
    dsimp only
    rw [View.canon_unit_zero hz2]
    simp only [View.readAt_eq_ld, (hs0_0 t).read_unread, (hs0_1 t).read_unread, (hs0_2 t).read_unread, (hs0_3 t).read_unread,
      (hs0_4 t).read_unread, View.ld_unit_zero (S := S1088x1024) hz2, View.ld_unit_zero (S := S1x1024) hz2,
      View.ld_unit_zero (S := S1x1024x1024) hz3]
    exact main
  · rw [outsAt0_B m c t h (by omega)]
    dsimp only
    unfold out0_B_6
    rw [View.read_writes_eq_canon _ _ _ (cover0_B_6 c _ _ _ _ _ _ _ _ _ _ _ _ _ _ _ _ _ _ _ _ _ _ _ _ _ _ _ _)]
    unfold kernelRun0_B
    dsimp only
    rw [View.canon_unit_zero hz2]
    simp only [View.readAt_eq_ld, (hs0_0 t).read_unread, (hs0_1 t).read_unread, (hs0_2 t).read_unread, (hs0_3 t).read_unread,
      (hs0_4 t).read_unread, View.ld_unit_zero (S := S1088x1024) hz2, View.ld_unit_zero (S := S1x1024) hz2,
      View.ld_unit_zero (S := S1x1024x1024) hz3]
    exact main

/-- A block of rows' share of the scale's gradient. -/
theorem share_s (e : Fin 1024) : k0_pay7 (iblk m c 0 t) (iblk m c 1 t) (iblk m c 2 t) (iblk m c 3 t) (ix2 0 e)
    = ∑ k : Fin 1088, O m c (1088 * (t.val % 4) + k) (1024 * (t.val / 4) + e)
      * through (H m c) (W m c) (P m c) (1088 * (t.val % 4) + k) (1024 * (t.val / 4) + e) := by
  rw [part_s]
  exact Finset.sum_congr rfl fun k _ => by rw [prod_through, tile2]

/-- A block of rows' share of the bias's gradient. -/
theorem share_b (e : Fin 1024) : k0_pay11 (iblk m c 0 t) (iblk m c 1 t) (iblk m c 3 t) (iblk m c 4 t) (ix2 0 e)
    = ∑ k : Fin 1088, through (H m c) (W m c) (P m c) (1088 * (t.val % 4) + k) (1024 * (t.val / 4) + e)
      * S m c 0 (1024 * (t.val / 4) + e) := by
  rw [part_b]
  exact Finset.sum_congr rfl fun k _ => by rw [prod_through, tile4]

/-- The first block of rows starts the scale's gradient. -/
theorem start_s (h : t.val % 4 = 0) (e : Fin 1024) : (outsAt0 m c t.val t.isLt).2.2.1 (ix2 0 e)
    = k0_pay7 (iblk m c 0 t) (iblk m c 1 t) (iblk m c 2 t) (iblk m c 3 t) (ix2 0 e) := by
  rw [outsAt0_A m c t h (by omega)]
  dsimp only
  unfold out0_A_7
  rw [View.read_writes_eq_canon _ _ _ (cover0_A_7 c _ _ _ _ _ _ _ _ _ _ _ _ _ _ _ _ _ _ _ _ _ _ _ _ _ _)]
  unfold kernelRun0_A
  dsimp only
  sl_unfold_words
  rw [View.canon_unit_zero hz2]
  simp only [View.readAt_eq_ld, (hs0_0 t).read_unread, (hs0_1 t).read_unread, (hs0_2 t).read_unread, (hs0_3 t).read_unread,
    View.ld_unit_zero (S := S1088x1024) hz2, View.ld_unit_zero (S := S1x1024x1024) hz3]

/-- The next ones add to it. -/
theorem next_s (h : t.val % 4 ≠ 0) (e : Fin 1024) : (outsAt0 m c t.val t.isLt).2.2.1 (ix2 0 e)
    = (outsAt0 m c (t.val - 1) (Nat.lt_of_le_of_lt (Nat.sub_le _ _) t.isLt)).2.2.1 (ix2 0 e)
      + k0_pay7 (iblk m c 0 t) (iblk m c 1 t) (iblk m c 2 t) (iblk m c 3 t) (ix2 0 e) := by
  rw [outsAt0_B m c t h (by omega)]
  dsimp only
  unfold out0_B_7
  rw [View.read_writes_eq_canon _ _ _ (cover0_B_7 c _ _ _ _ _ _ _ _ _ _ _ _ _ _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (hs0_2 t).read_unread, (hs0_3 t).read_unread,
    (hs0_7 t).read_unread, View.ld_unit_zero (S := S1088x1024) hz2, View.ld_unit_zero (S := S1x1024) hz2,
    View.ld_unit_zero (S := S1x1024x1024) hz3]
  rw [part_s_on]

/-- The first block of rows starts the bias's gradient. -/
theorem start_b (h : t.val % 4 = 0) (e : Fin 1024) : (outsAt0 m c t.val t.isLt).2.2.2 (ix2 0 e)
    = k0_pay11 (iblk m c 0 t) (iblk m c 1 t) (iblk m c 3 t) (iblk m c 4 t) (ix2 0 e) := by
  rw [outsAt0_A m c t h (by omega)]
  dsimp only
  unfold out0_A_8
  rw [View.read_writes_eq_canon _ _ _ (cover0_A_8 c _ _ _ _ _ _ _ _ _ _ _ _ _ _ _ _ _ _ _ _ _ _ _ _ _ _)]
  unfold kernelRun0_A
  dsimp only
  sl_unfold_words
  rw [View.canon_unit_zero hz2]
  simp only [View.readAt_eq_ld, (hs0_0 t).read_unread, (hs0_1 t).read_unread, (hs0_3 t).read_unread, (hs0_4 t).read_unread,
    View.ld_unit_zero (S := S1088x1024) hz2, View.ld_unit_zero (S := S1x1024) hz2, View.ld_unit_zero (S := S1x1024x1024) hz3]

/-- The next ones add to it. -/
theorem next_b (h : t.val % 4 ≠ 0) (e : Fin 1024) : (outsAt0 m c t.val t.isLt).2.2.2 (ix2 0 e)
    = (outsAt0 m c (t.val - 1) (Nat.lt_of_le_of_lt (Nat.sub_le _ _) t.isLt)).2.2.2 (ix2 0 e)
      + k0_pay11 (iblk m c 0 t) (iblk m c 1 t) (iblk m c 3 t) (iblk m c 4 t) (ix2 0 e) := by
  rw [outsAt0_B m c t h (by omega)]
  dsimp only
  unfold out0_B_8
  rw [View.read_writes_eq_canon _ _ _ (cover0_B_8 c _ _ _ _ _ _ _ _ _ _ _ _ _ _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (hs0_3 t).read_unread, (hs0_4 t).read_unread,
    (hs0_8 t).read_unread, View.ld_unit_zero (S := S1088x1024) hz2, View.ld_unit_zero (S := S1x1024) hz2,
    View.ld_unit_zero (S := S1x1024x1024) hz3]
  rw [part_b_on]

end

/-- The last block of rows ends the scale's gradient. -/
theorem left7 (c : Dev nD) (t : Fin cfg0.N) (h : t.val % 4 = 3) (e : Fin 1024) : (outsAt0 m c t.val t.isLt).2.2.1 (ix2 0 e)
    = gradS (H m c) (W m c) (O m c) (P m c) (1024 * (t.val / 4) + e) := by
  have run := tn_run (K := 4) (w := 1088) (fun n hn => (outsAt0 m c n hn).2.2.1 (ix2 0 e))
    (fun j r _ => O m c r (1024 * j + e)) (fun j r _ => through (H m c) (W m c) (P m c) r (1024 * j + e)) 0 0
    (fun n hn h0 => (start_s m c ⟨n, hn⟩ h0 e).trans (share_s m c ⟨n, hn⟩ e))
    (fun n hn h0 => (next_s m c ⟨n, hn⟩ h0 e).trans (congrArg (_ + ·) (share_s m c ⟨n, hn⟩ e))) t.val t.isLt
  rw [h] at run
  exact run

/-- The last block of rows ends the bias's gradient. -/
theorem left8 (c : Dev nD) (t : Fin cfg0.N) (h : t.val % 4 = 3) (e : Fin 1024) : (outsAt0 m c t.val t.isLt).2.2.2 (ix2 0 e)
    = gradB (H m c) (W m c) (P m c) (S m c) (1024 * (t.val / 4) + e) := by
  have run := tn_run (K := 4) (w := 1088) (fun n hn => (outsAt0 m c n hn).2.2.2 (ix2 0 e))
    (fun j r _ => through (H m c) (W m c) (P m c) r (1024 * j + e)) (fun j _ _ => S m c 0 (1024 * j + e)) 0 0
    (fun n hn h0 => (start_b m c ⟨n, hn⟩ h0 e).trans (share_b m c ⟨n, hn⟩ e))
    (fun n hn h0 => (next_b m c ⟨n, hn⟩ h0 e).trans (congrArg (_ + ·) (share_b m c ⟨n, hn⟩ e))) t.val t.isLt
  rw [h] at run
  exact run

theorem final5 (c : Dev nD) : (dats m 0 c).arrAt 5 cfg0.N
    = (fun j => gradO (H m c) (W m c) (P m c) (S m c) (j 0).val (j 1).val : S4352x2048.Idx → EReal) := by
  refine (dats m 0 c).arrAt_eq_of_covers 5 _ (by decide +kernel) fun t hf y => ?_
  blk_simp
  rw [after0_5, show y = ix2 (y 0) (y 1) from by idx_ext]
  refine (left5 m c t (y 0) (y 1)).trans ?_
  blk_simp [idx5]
  simp only [Nat.mul_comm]

/-- The right half of the array that the projection's gradient is written into. -/
theorem final6 (c : Dev nD) (i : S4352x4096.Idx) (h : 2048 ≤ (i 1).val) : (dats m 0 c).arrAt 6 cfg0.N i
    = gradZ (H m c) (W m c) (O m c) (P m c) (S m c) (i 0).val ((i 1).val - 2048) := by
  refine (dats m 0 c).arrAt_forall_of_coversWhere 6
    (fun i v => 2048 ≤ (i 1).val → v = gradZ (H m c) (W m c) (O m c) (P m c) (S m c) (i 0).val ((i 1).val - 2048))
    (fun β => 2 ≤ β 1) (by decide +kernel) (fun t hf y hy => ?_) (fun j hj hy => ?_) i (Memref.isWhole_whole _) h
  · blk_simp
    rw [after0_6, show y = ix2 (y 0) (y 1) from by idx_ext]
    refine (left6 m c t (y 0) (y 1)).trans ?_
    blk_simp [idx6]
    congr 1 <;> omega
  · exfalso
    blk_simp [Pipeline.Window.cell_apply] at hj hy
    omega

theorem final7 (c : Dev nD) : (dats m 0 c).arrAt 7 cfg0.N
    = (fun j => gradS (H m c) (W m c) (O m c) (P m c) (j 1).val : S1x2048.Idx → EReal) := by
  refine (dats m 0 c).arrAt_eq_of_covers 7 _ (by decide +kernel) fun t hf y => ?_
  blk_simp
  rw [after0_7, show y = ix2 0 (y 1) from by idx_ext]
  refine (left7 m c t ((flush0_7 t).mp hf) (y 1)).trans ?_
  blk_simp [idx7]
  simp only [Nat.mul_comm]

theorem final8 (c : Dev nD) : (dats m 0 c).arrAt 8 cfg0.N
    = (fun j => gradB (H m c) (W m c) (P m c) (S m c) (j 1).val : S1x2048.Idx → EReal) := by
  refine (dats m 0 c).arrAt_eq_of_covers 8 _ (by decide +kernel) fun t hf y => ?_
  blk_simp
  rw [after0_8, show y = ix2 0 (y 1) from by idx_ext]
  refine (left8 m c t ((flush0_8 t).mp hf) (y 1)).trans ?_
  blk_simp [idx8]
  simp only [Nat.mul_comm]

section
open Cert.RPoolGate2Ideal Cert.RPoolGate2Ideal.Read

variable (x0 : Vec Ideal Cert.RPoolGate2Ideal.S4352x2048 .f32) (x1 : Vec Ideal Cert.RPoolGate2Ideal.S4352x4096 .f32)
  (x2 : Vec Ideal Cert.RPoolGate2Ideal.S2048 .f32) (x3 : Vec Ideal Cert.RPoolGate2Ideal.S2048x1024 .f32)
  (x4 : Vec Ideal Cert.RPoolGate2Ideal.S4352x1024 .f32)

theorem reference_prod (r : Fin 4352) (e : Fin 2048) : val_main_v8 x3 x4 (ix2 r e) = nt 1024 (at2 x4) (at2 x3) r e :=
  (val_main_v8_apply x3 x4 _).trans (Finset.sum_congr rfl fun _ _ =>
    congrArg₂ (· * ·) (of_idx2 x4 _ rfl rfl) (of_idx2 x3 _ rfl rfl))

theorem reference_right (r : Fin 4352) (e : Fin 2048) : val_main_v1 x1 (ix2 r e) = at2 x1 r (2048 + e) :=
  (val_main_v1_apply x1 _).trans (of_idx2 x1 _ rfl rfl)

theorem reference_logistic (r : Fin 4352) (e : Fin 2048) :
    val_main_v5_2 x1 (ix2 r e) = Ideal.logistic (at2 x1 r (2048 + e)) := by
  rw [val_main_v5_2_apply, val_main_call0_v4_apply, val_main_call0_cst_0_apply, val_main_call0_v3_apply,
    val_main_call0_v2_apply, val_main_call0_cst_apply, val_main_call0_v1_apply, val_main_call0_v0_apply, reference_right]
  pointwise []
  rfl

theorem reference_through (r : Fin 4352) (e : Fin 2048) :
    val_main_v10 x1 x3 x4 (ix2 r e) = through (at2 x4) (at2 x3) (at2 x1) r e := by
  rw [val_main_v10_apply, val_main_v5_0_apply, reference_prod, reference_right, reference_logistic]
  rfl

theorem reference_scale (r : Fin 4352) (e : Fin 2048) : val_main_v3 x2 (ix2 r e) = at1 x2 0 e := by
  rw [val_main_v3_apply, val_main_v2_apply]
  exact (congrArg x2 (by idx_ext)).trans (of_ix1 x2 e)

theorem reference_v16 (r : Fin 4352) (e : Fin 2048) :
    val_main_v16 x1 x2 x3 x4 (ix2 r e) = gradO (at2 x4) (at2 x3) (at2 x1) (at1 x2) r e := by
  rw [val_main_v16_apply, reference_through]
  exact congrArg (_ * ·) (reference_scale x2 r e)

/-- The pooled value's gradient in the reference. -/
theorem reference_o (r : Fin 4352) (e : Fin 2048) :
    val_main_v18 x1 x2 x3 x4 (ix2 r e) = gradO (at2 x4) (at2 x3) (at2 x1) (at1 x2) r e := by
  rw [val_main_v18_apply, reference_v16]
  rfl

/-- The projection's right half's gradient in the reference. -/
theorem reference_z (r : Fin 4352) (e : Fin 2048) :
    val_main_v19 x0 x1 x2 x3 x4 (ix2 r e) = gradZ (at2 x4) (at2 x3) (at2 x0) (at2 x1) (at1 x2) r e := by
  rw [val_main_v19_apply, val_main_v11_apply, val_main_call1_v1_apply, val_main_call1_v2_apply, val_main_call1_v0_apply,
    val_main_v5_1_apply, val_main_call0_v7_apply, val_main_call0_v6_apply, val_main_call0_cst_1_apply, val_main_v9_apply,
    val_main_v4_apply, reference_prod, reference_right, reference_logistic, reference_scale, of_ix2 x0]
  pointwise [gradZ, siluBack]

/-- The scale's gradient in the reference. -/
theorem reference_s (e : Fin 2048) :
    val_main_v20 x0 x1 x3 x4 (ix2 0 e) = gradS (at2 x4) (at2 x3) (at2 x0) (at2 x1) e := by
  rw [val_main_v20_apply, val_main_v17_apply, Fin.sum_univ_one, val_main_v14_apply, val_main_v13_apply]
  refine (congrArg (· + _) Cert.Norm.zero_bits).trans ((zero_add _).trans ?_)
  refine (congrArg (· + _) Cert.Norm.zero_bits).trans ((zero_add _).trans ?_)
  unfold gradS tn
  refine Finset.sum_congr rfl fun k _ => ?_
  refine (congrArg (val_main_v12 x0 x1 x3 x4) (show _ = ix2 k e from by idx_ext)).trans ?_
  rw [val_main_v12_apply, reference_through, of_ix2 x0]
  rfl

/-- The bias's gradient in the reference. -/
theorem reference_b (e : Fin 2048) :
    val_main_v22 x1 x2 x3 x4 (ix2 0 e) = gradB (at2 x4) (at2 x3) (at2 x1) (at1 x2) e := by
  rw [val_main_v22_apply, val_main_v21_apply]
  refine (congrArg (· + _) Cert.Norm.zero_bits).trans ((zero_add _).trans ?_)
  unfold gradB tn
  refine Finset.sum_congr rfl fun k _ => ?_
  exact (congrArg (val_main_v16 x1 x2 x3 x4) (show _ = ix2 k e from by idx_ext)).trans (reference_v16 x1 x2 x3 x4 k e)

end

theorem frame_reference : Cert.quiescent_RPoolGate2Ideal := fun m g _ =>
  (θ_run Cert.RPoolGate2Ideal.defs _ _).mono (fun r h => ⟨fun c => (h c).2.2.2.2, sem_eq_zero_of_no_sems (by decide) r.2⟩)
    (Cert.RPoolGate2Ideal.Value.run (F := Ideal) m g)

theorem algebraic : Cert.algebraic_PoolGate2Ideal_RPoolGate2Ideal := by
  intro m g m' g' _ hagree
  refine ⟨fun c => (fun j => gradO (H m c) (W m c) (P m c) (S m c) (j 0).val (j 1).val),
    fun c => (fun j => gradZ (H m c) (W m c) (O m c) (P m c) (S m c) (j 0).val (j 1).val),
    fun c => (fun j => gradS (H m c) (W m c) (O m c) (P m c) (j 1).val),
    fun c => (fun j => gradB (H m c) (W m c) (P m c) (S m c) (j 1).val), ?_, ?_⟩
  · refine (θ_run Cert.PoolGate2Ideal.defs _ _).mono (fun r h c => ?_) (Cert.PoolGate2Ideal.Value.run (F := Ideal) m g)
    obtain ⟨e5, e6, e7, e8, e⟩ := h c
    refine ⟨e5.trans (final5 m c), e6.trans (funext fun j => ?_), e7.trans (final7 m c), e8.trans (final8 m c), e⟩
    refine (Cert.PoolGate2Ideal.Read.val_main_v4_apply _ j).trans ?_
    refine (final6 m c _ (Nat.le_add_right 2048 _)).trans ?_
    exact congrArg _ (Nat.add_sub_cancel_left 2048 _)
  · refine (θ_run Cert.RPoolGate2Ideal.defs _ _).mono (fun r h c => ?_) (Cert.RPoolGate2Ideal.Value.run (F := Ideal) m' g')
    obtain ⟨e5, e6, e7, e8, e⟩ := h c
    obtain ⟨a0, a1, a2, a3, a4⟩ := hagree c
    refine ⟨e5.trans ?_, e6.trans ?_, e7.trans ?_, e8.trans ?_, e⟩
    · rw [Cert.RPoolGate2Ideal.Read.val_main_v18_eq, a1, a2, a3, a4]
      funext j
      rw [show j = ix2 (j 0) (j 1) from by idx_ext]
      exact reference_o _ _ _ _ (j 0) (j 1)
    · rw [Cert.RPoolGate2Ideal.Read.val_main_v19_eq, a0, a1, a2, a3, a4]
      funext j
      rw [show j = ix2 (j 0) (j 1) from by idx_ext]
      exact reference_z _ _ _ _ _ (j 0) (j 1)
    · rw [Cert.RPoolGate2Ideal.Read.val_main_v20_eq, a0, a1, a3, a4]
      funext j
      rw [show j = ix2 0 (j 1) from by idx_ext]
      exact reference_s _ _ _ _ (j 1)
    · rw [Cert.RPoolGate2Ideal.Read.val_main_v22_eq, a1, a2, a3, a4]
      funext j
      rw [show j = ix2 0 (j 1) from by idx_ext]
      exact reference_b _ _ _ _ (j 1)

end Cert.PoolGate2Value

end
-- ==== Proof.GateGrad3.lean ====
/-
  The gradient of the gates of the state space layer: the incoming gradient times the transpose of the output weights,
  taken back through the silu of the projection's right half, the logistic gate and the gelu, with the gradient of the
  logistic gate's bias summed over eight blocks of rows.
-/
module

public import proofs.«01_k».proof.Defs
public import proofs.«01_k».proof.Proof.Groups
public import proofs.«01_k».proof.Proof.Gates
public import proofs.«01_k».proof.Proof.Gen.GateGrad3Ideal.Run
public import proofs.«01_k».proof.Proof.Gen.GateGrad3Ideal.Read
public import proofs.«01_k».proof.Proof.Gen.RGateGrad3Ideal.Run
public import proofs.«01_k».proof.Proof.Gen.RGateGrad3Ideal.Read
public import Idealize.ShloMosaic.Lib.Pipeline.ValueKit
public import Idealize.ShloMosaic.Lib.Claim

@[expose] public section

set_option maxRecDepth 16384

noncomputable section

namespace Cert.GateGrad3Value

open Cert.GateGrad3Ideal Cert.GateGrad3Ideal.Gen Idealize.ShloMosaic Idealize.ShloMosaic.TcCoe Idealize.SL.Sem Cert.Mats

/-- The incoming gradient through the silu of the projection's right half. -/
def through (h w u : Mat) : Mat := fun r c => nt 1024 h w r c * silu (u r (1024 + c))

/-- The gradient of the gelu's operand. -/
def gradY (y q u w h : Mat) : Mat := fun r c => geluBack (through h w u r c * Ideal.logistic (q r c)) (y r c)

/-- The gradient of the logistic's operand. -/
def gradQ (y q u w h : Mat) : Mat := fun r c =>
  gelu (y r c) * through h w u r c * (Ideal.logistic (q r c) * (1 - Ideal.logistic (q r c)))

/-- The gradient of the projection's right half. -/
def gradZ (y q u w h : Mat) : Mat := fun r c =>
  siluBack (gelu (y r c) * Ideal.logistic (q r c) * nt 1024 h w r c) (u r (1024 + c))

/-- The gradient of the logistic's bias. -/
def gradB (y q u w h : Mat) : ℕ → EReal := fun c => ∑ k : Fin 4352, gradQ y q u w h k c

variable (m : (ℓ : Loc nD τ sig) → Buf (Elt Ideal) ℓ)

abbrev Y (c : Dev nD) : Mat := at2 (m := 4352) (n := 1024) (m ((c : Thread nD τ).loc main_arg0))
abbrev Q (c : Dev nD) : Mat := at2 (m := 4352) (n := 1024) (m ((c : Thread nD τ).loc main_arg1))
abbrev U (c : Dev nD) : Mat := at2 (m := 4352) (n := 2048) (m ((c : Thread nD τ).loc main_arg2))
abbrev W (c : Dev nD) : Mat := at2 (m := 1024) (n := 1024) (m ((c : Thread nD τ).loc main_arg3))
abbrev H (c : Dev nD) : Mat := at2 (m := 4352) (n := 1024) (m ((c : Thread nD τ).loc main_arg4))

theorem idx0 (t : Fin cfg0.N) : win0_0.index t = ![t.val % 8, 0] :=
  (by decide +kernel : ∀ t : Fin grid0.N, win0_0.index t = ![t.val % 8, 0]) t
theorem idx1 (t : Fin cfg0.N) : win0_1.index t = ![0, 0, 0] :=
  (by decide +kernel : ∀ t : Fin grid0.N, win0_1.index t = ![0, 0, 0]) t
theorem idx2 (t : Fin cfg0.N) : win0_2.index t = ![t.val % 8, 0] :=
  (by decide +kernel : ∀ t : Fin grid0.N, win0_2.index t = ![t.val % 8, 0]) t
theorem idx3 (t : Fin cfg0.N) : win0_3.index t = ![t.val % 8, 0] :=
  (by decide +kernel : ∀ t : Fin grid0.N, win0_3.index t = ![t.val % 8, 0]) t
theorem idx4 (t : Fin cfg0.N) : win0_4.index t = ![t.val % 8, 1] :=
  (by decide +kernel : ∀ t : Fin grid0.N, win0_4.index t = ![t.val % 8, 1]) t
theorem idx5 (t : Fin cfg0.N) : win0_5.index t = ![t.val % 8, 0] :=
  (by decide +kernel : ∀ t : Fin grid0.N, win0_5.index t = ![t.val % 8, 0]) t
theorem idx6 (t : Fin cfg0.N) : win0_6.index t = ![t.val % 8, 0] :=
  (by decide +kernel : ∀ t : Fin grid0.N, win0_6.index t = ![t.val % 8, 0]) t
theorem idx7 (t : Fin cfg0.N) : win0_7.index t = ![t.val % 8, 1] :=
  (by decide +kernel : ∀ t : Fin grid0.N, win0_7.index t = ![t.val % 8, 1]) t
theorem idx8 (t : Fin cfg0.N) : win0_8.index t = ![0, 0] :=
  (by decide +kernel : ∀ t : Fin grid0.N, win0_8.index t = ![0, 0]) t

theorem V_v1 (c : Dev nD) : V m c main_v1 = broadcastInDim S1x1024x1024 ![1, 2] bcast_S1024x1024_S1x1024x1024_1_2
    (truncf (F := Ideal) .bf16 (m ((c : Thread nD τ).loc main_arg3)) bitsLt_bf16_f32) := by
  show StableHlo.after (List.flatten [hostOps0]) _ _ = _
  simp only [hostOps0, List.flatten_cons, List.flatten_nil, List.append_nil, List.cons_append, List.nil_append]
  after_results

section
variable (c : Dev nD) (t : Fin cfg0.N)

theorem tile0 (r : Fin 544) (k : Fin 1024) : iblk m c 0 t (ix2 r k) = H m c (544 * (t.val % 8) + r) k := by
  refine Eq.trans ?_ (at2_eq _ _ _ (by omega) (by omega)).symm
  blk_ext [iblk, V_main_arg4, idx0]

theorem tile1 (e : Fin 1024) (k : Fin 1024) : iblk m c 1 t (ix3 0 e k) = W m c e k := by
  refine Eq.trans ?_ (at2_eq _ _ _ (by omega) (by omega)).symm
  refine (congrFun (V_v1 m c) ((win0_1.blk t).view.emb (ix3 0 e k))).trans ?_
  pointwise
  blk_ext [idx1]

theorem tile2 (r : Fin 544) (e : Fin 1024) : iblk m c 2 t (ix2 r e) = Y m c (544 * (t.val % 8) + r) e := by
  refine Eq.trans ?_ (at2_eq _ _ _ (by omega) (by omega)).symm
  blk_ext [iblk, V_main_arg0, idx2]

theorem tile3 (r : Fin 544) (e : Fin 1024) : iblk m c 3 t (ix2 r e) = Q m c (544 * (t.val % 8) + r) e := by
  refine Eq.trans ?_ (at2_eq _ _ _ (by omega) (by omega)).symm
  blk_ext [iblk, V_main_arg1, idx3]

theorem tile4 (r : Fin 544) (e : Fin 1024) : iblk m c 4 t (ix2 r e) = U m c (544 * (t.val % 8) + r) (1024 + e) := by
  refine Eq.trans ?_ (at2_eq _ _ _ (by omega) (by omega)).symm
  blk_ext [iblk, V_main_arg2, idx4]

end

section
variable (x0 : Vec Ideal S544x1024 .f32) (x1 : Vec Ideal S1x1024x1024 .bf16) (x2 x3 x4 : Vec Ideal S544x1024 .f32)
  (r : Fin 544) (e : Fin 1024)

theorem part : k0_pay8 x0 x1 (ix2 r e) = ∑ k : Fin 1024, x0 (ix2 r k) * x1 (ix3 0 e k) := by
  pointwise [k0_pay8]

theorem part_tang : k0_pay10 x2 (ix2 r e) = tang (x2 (ix2 r e)) := by
  pointwise [k0_pay10]
  rw [mul_comm (x2 (ix2 r e)) (x2 (ix2 r e) * x2 (ix2 r e))]
  rfl

theorem part_factor : k0_pay12 x2 (ix2 r e) = geluFactor (x2 (ix2 r e)) := by
  rw [geluFactor, ← part_tang]
  pointwise [k0_pay12]

theorem part_gelu : k0_pay13 x2 (ix2 r e) = gelu (x2 (ix2 r e)) := by
  rw [gelu, ← part_factor]
  pointwise [k0_pay13]

theorem part_slope : k0_pay11 x2 (ix2 r e) = (1 + tang (x2 (ix2 r e))) * (1 - tang (x2 (ix2 r e))) := by
  rw [← part_tang]
  pointwise [k0_pay11]

theorem part_square : k0_pay9 x2 (ix2 r e) = Ideal.ofBits FTy.f32 0x40400000#32 * (x2 (ix2 r e) * x2 (ix2 r e)) := by
  pointwise [k0_pay9]

theorem part_through (y : FVec Ideal S544x1024 .f32) :
    k0_pay1 y x4 (k0_pay17 x4) (ix2 r e) = y (ix2 r e) * silu (x4 (ix2 r e)) := by
  pointwise [k0_pay1, k0_pay17, silu]

theorem part_y (y : FVec Ideal S544x1024 .f32) :
    k0_pay3 y x2 x4 (k0_pay9 x2) (k0_pay11 x2) (k0_pay12 x2) (k0_pay14 x3) (k0_pay17 x4) (ix2 r e)
      = geluBack (y (ix2 r e) * silu (x4 (ix2 r e)) * Ideal.logistic (x3 (ix2 r e))) (x2 (ix2 r e)) := by
  rw [geluBack, tangBack, ← part_square, ← part_slope, ← part_factor, ← part_through]
  pointwise [k0_pay3, k0_pay14]

theorem part_q (y : FVec Ideal S544x1024 .f32) :
    k0_pay2 y x4 (k0_pay13 x2) (k0_pay15 x3) (k0_pay17 x4) (ix2 r e)
      = gelu (x2 (ix2 r e)) * (y (ix2 r e) * silu (x4 (ix2 r e)))
        * (Ideal.logistic (x3 (ix2 r e)) * (1 - Ideal.logistic (x3 (ix2 r e)))) := by
  rw [← part_gelu, ← part_through]
  pointwise [k0_pay2, k0_pay15, k0_pay14]

theorem part_q_out (y a b d : FVec Ideal S544x1024 .f32) :
    k0_pay4 y x4 a b d (ix2 r e) = k0_pay2 y x4 a b d (ix2 r e) := by
  pointwise [k0_pay4]

theorem part_z (y : FVec Ideal S544x1024 .f32) :
    k0_pay5 y x4 (k0_pay16 x2 x3) (k0_pay17 x4) (k0_pay18 x4) (ix2 r e)
      = siluBack (gelu (x2 (ix2 r e)) * Ideal.logistic (x3 (ix2 r e)) * y (ix2 r e)) (x4 (ix2 r e)) := by
  rw [← part_gelu]
  pointwise [k0_pay5, k0_pay16, k0_pay14, k0_pay17, k0_pay18, siluBack]

theorem part_b (y a b d : FVec Ideal S544x1024 .f32) :
    k0_pay6 y x4 a b d (ix2 0 e) = ∑ r : Fin 544, k0_pay2 y x4 a b d (ix2 r e) := by
  pointwise [k0_pay6]

theorem part_b_on (y a b d : FVec Ideal S544x1024 .f32) (x : Vec Ideal S1x1024 .f32) :
    k0_pay7 y x4 a b d x (ix2 0 e) = x (ix2 0 e) + k0_pay6 y x4 a b d (ix2 0 e) := by
  pointwise [k0_pay7]

end

section
variable (c : Dev nD) (t : Fin cfg0.N)

theorem prod (r : Fin 544) (e : Fin 1024) :
    k0_pay8 (iblk m c 0 t) (iblk m c 1 t) (ix2 r e) = nt 1024 (H m c) (W m c) (544 * (t.val % 8) + r) e := by
  rw [part]
  exact Finset.sum_congr rfl fun k _ => by rw [tile0, tile1]

theorem prod_q (r : Fin 544) (e : Fin 1024) :
    k0_pay2 (k0_pay8 (iblk m c 0 t) (iblk m c 1 t)) (iblk m c 4 t) (k0_pay13 (iblk m c 2 t)) (k0_pay15 (iblk m c 3 t))
        (k0_pay17 (iblk m c 4 t)) (ix2 r e)
      = gradQ (Y m c) (Q m c) (U m c) (W m c) (H m c) (544 * (t.val % 8) + r) e := by
  rw [part_q, prod, tile2, tile3, tile4]
  rfl

theorem left5 (r : Fin 544) (e : Fin 1024) : (outsAt0 m c t.val t.isLt).1 (ix2 r e)
    = gradY (Y m c) (Q m c) (U m c) (W m c) (H m c) (544 * (t.val % 8) + r) e := by
  have main := part_y (iblk m c 2 t) (iblk m c 3 t) (iblk m c 4 t) r e (k0_pay8 (iblk m c 0 t) (iblk m c 1 t))
  rw [prod, tile2, tile3, tile4] at main
  have ht : t.val < 8 := t.isLt
  by_cases h : t.val % 8 = 0
  · rw [outsAt0_A m c t h (by omega)]
    dsimp only
    unfold out0_A_5
    rw [View.read_writes_eq_canon _ _ _ (cover0_A_5 c _ _ _ _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread,
      (hs0_4 t).read_unread, View.ld_unit_zero (S := S544x1024) hz2, View.ld_unit_zero (S := S1x1024x1024) hz3]
    exact main
  · rw [outsAt0_B m c t h (by omega)]
    dsimp only
    unfold out0_B_5
    rw [View.read_writes_eq_canon _ _ _ (cover0_B_5 c _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread,
      (hs0_4 t).read_unread, View.ld_unit_zero (S := S544x1024) hz2, View.ld_unit_zero (S := S1x1024x1024) hz3]
    exact main

theorem left6 (r : Fin 544) (e : Fin 1024) : (outsAt0 m c t.val t.isLt).2.1 (ix2 r e)
    = gradQ (Y m c) (Q m c) (U m c) (W m c) (H m c) (544 * (t.val % 8) + r) e := by
  have main := (part_q_out (iblk m c 4 t) r e (k0_pay8 (iblk m c 0 t) (iblk m c 1 t)) (k0_pay13 (iblk m c 2 t))
    (k0_pay15 (iblk m c 3 t)) (k0_pay17 (iblk m c 4 t))).trans (prod_q m c t r e)
  have ht : t.val < 8 := t.isLt
  by_cases h : t.val % 8 = 0
  · rw [outsAt0_A m c t h (by omega)]
    dsimp only
    unfold out0_A_6
    rw [View.read_writes_eq_canon _ _ _ (cover0_A_6 c _ _ _ _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread,
      (hs0_4 t).read_unread, View.ld_unit_zero (S := S544x1024) hz2, View.ld_unit_zero (S := S1x1024x1024) hz3]
    exact main
  · rw [outsAt0_B m c t h (by omega)]
    dsimp only
    unfold out0_B_6
    rw [View.read_writes_eq_canon _ _ _ (cover0_B_6 c _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread,
      (hs0_4 t).read_unread, View.ld_unit_zero (S := S544x1024) hz2, View.ld_unit_zero (S := S1x1024x1024) hz3]
    exact main

theorem left7 (r : Fin 544) (e : Fin 1024) : (outsAt0 m c t.val t.isLt).2.2.1 (ix2 r e)
    = gradZ (Y m c) (Q m c) (U m c) (W m c) (H m c) (544 * (t.val % 8) + r) e := by
  have main := part_z (iblk m c 2 t) (iblk m c 3 t) (iblk m c 4 t) r e (k0_pay8 (iblk m c 0 t) (iblk m c 1 t))
  rw [prod, tile2, tile3, tile4] at main
  have ht : t.val < 8 := t.isLt
  by_cases h : t.val % 8 = 0
  · rw [outsAt0_A m c t h (by omega)]
    dsimp only
    unfold out0_A_7
    rw [View.read_writes_eq_canon _ _ _ (cover0_A_7 c _ _ _ _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread,
      (hs0_4 t).read_unread, View.ld_unit_zero (S := S544x1024) hz2, View.ld_unit_zero (S := S1x1024x1024) hz3]
    exact main
  · rw [outsAt0_B m c t h (by omega)]
    dsimp only
    unfold out0_B_7
    rw [View.read_writes_eq_canon _ _ _ (cover0_B_7 c _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread,
      (hs0_4 t).read_unread, View.ld_unit_zero (S := S544x1024) hz2, View.ld_unit_zero (S := S1x1024x1024) hz3]
    exact main

/-- A block of rows' share of the bias's gradient. -/
theorem share (e : Fin 1024) :
    k0_pay6 (k0_pay8 (iblk m c 0 t) (iblk m c 1 t)) (iblk m c 4 t) (k0_pay13 (iblk m c 2 t)) (k0_pay15 (iblk m c 3 t))
        (k0_pay17 (iblk m c 4 t)) (ix2 0 e)
      = ∑ k : Fin 544, gradQ (Y m c) (Q m c) (U m c) (W m c) (H m c) (544 * (t.val % 8) + k) e := by
  rw [part_b]
  exact Finset.sum_congr rfl fun k _ => prod_q m c t k e

/-- The first block of rows starts the bias's gradient. -/
theorem start (h : t.val % 8 = 0) (e : Fin 1024) : (outsAt0 m c t.val t.isLt).2.2.2 (ix2 0 e)
    = ∑ k : Fin 544, gradQ (Y m c) (Q m c) (U m c) (W m c) (H m c) (544 * (t.val % 8) + k) e := by
  have ht : t.val < 8 := t.isLt
  rw [← share, outsAt0_A m c t h (by omega)]
  dsimp only
  unfold out0_A_8
  rw [View.read_writes_eq_canon _ _ _ (cover0_A_8 c _ _ _ _ _ _ _ _ _ _ _ _ _ _ _ _ _ _ _ _ _ _ _ _ _ _)]
  unfold kernelRun0_A
  dsimp only
  sl_unfold_words
  rw [View.canon_unit_zero hz2]
  simp only [View.readAt_eq_ld, (hs0_0 t).read_unread, (hs0_1 t).read_unread, (hs0_2 t).read_unread, (hs0_3 t).read_unread,
    (hs0_4 t).read_unread, View.ld_unit_zero (S := S544x1024) hz2, View.ld_unit_zero (S := S1x1024x1024) hz3]

/-- The next ones add to it. -/
theorem next (h : t.val % 8 ≠ 0) (e : Fin 1024) : (outsAt0 m c t.val t.isLt).2.2.2 (ix2 0 e)
    = (outsAt0 m c (t.val - 1) (Nat.lt_of_le_of_lt (Nat.sub_le _ _) t.isLt)).2.2.2 (ix2 0 e)
      + ∑ k : Fin 544, gradQ (Y m c) (Q m c) (U m c) (W m c) (H m c) (544 * (t.val % 8) + k) e := by
  rw [← share, outsAt0_B m c t h (by omega)]
  dsimp only
  unfold out0_B_8
  rw [View.read_writes_eq_canon _ _ _ (cover0_B_8 c _ _ _ _ _ _ _ _ _ _ _ _ _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (hs0_2 t).read_unread, (hs0_3 t).read_unread,
    (hs0_4 t).read_unread, (hs0_8 t).read_unread, View.ld_unit_zero (S := S544x1024) hz2,
    View.ld_unit_zero (S := S1x1024) hz2, View.ld_unit_zero (S := S1x1024x1024) hz3]
  rw [part_b_on]

/-- The last block of rows ends the bias's gradient. -/
theorem left8 (h : t.val % 8 = 7) (e : Fin 1024) : (outsAt0 m c t.val t.isLt).2.2.2 (ix2 0 e)
    = gradB (Y m c) (Q m c) (U m c) (W m c) (H m c) e := by
  have run := sum_run (K := 8) (w := 544) (fun n hn => (outsAt0 m c n hn).2.2.2 (ix2 0 e))
    (fun _ k => gradQ (Y m c) (Q m c) (U m c) (W m c) (H m c) k e)
    (fun n hn h0 => start m c ⟨n, hn⟩ h0 e) (fun n hn h0 => next m c ⟨n, hn⟩ h0 e) t.val t.isLt
  rw [h] at run
  exact run

end

theorem final5 (c : Dev nD) : (dats m 0 c).arrAt 5 cfg0.N
    = (fun j => gradY (Y m c) (Q m c) (U m c) (W m c) (H m c) (j 0).val (j 1).val : S4352x1024.Idx → EReal) := by
  refine (dats m 0 c).arrAt_eq_of_covers 5 _ (by decide +kernel) fun t hf y => ?_
  blk_simp
  rw [after0_5, show y = ix2 (y 0) (y 1) from by idx_ext]
  refine (left5 m c t (y 0) (y 1)).trans ?_
  blk_simp [idx5]
  simp only [Nat.mul_comm]

theorem final6 (c : Dev nD) : (dats m 0 c).arrAt 6 cfg0.N
    = (fun j => gradQ (Y m c) (Q m c) (U m c) (W m c) (H m c) (j 0).val (j 1).val : S4352x1024.Idx → EReal) := by
  refine (dats m 0 c).arrAt_eq_of_covers 6 _ (by decide +kernel) fun t hf y => ?_
  blk_simp
  rw [after0_6, show y = ix2 (y 0) (y 1) from by idx_ext]
  refine (left6 m c t (y 0) (y 1)).trans ?_
  blk_simp [idx6]
  simp only [Nat.mul_comm]

/-- The right half of the array that the projection's gradient is written into. -/
theorem final7 (c : Dev nD) (i : S4352x2048.Idx) (h : 1024 ≤ (i 1).val) : (dats m 0 c).arrAt 7 cfg0.N i
    = gradZ (Y m c) (Q m c) (U m c) (W m c) (H m c) (i 0).val ((i 1).val - 1024) := by
  refine (dats m 0 c).arrAt_forall_of_coversWhere 7
    (fun i v => 1024 ≤ (i 1).val → v = gradZ (Y m c) (Q m c) (U m c) (W m c) (H m c) (i 0).val ((i 1).val - 1024))
    (fun β => 1 ≤ β 1) (by decide +kernel) (fun t hf y hy => ?_) (fun j hj hy => ?_) i (Memref.isWhole_whole _) h
  · blk_simp
    rw [after0_7, show y = ix2 (y 0) (y 1) from by idx_ext]
    refine (left7 m c t (y 0) (y 1)).trans ?_
    blk_simp [idx7]
    congr 1 <;> omega
  · exfalso
    blk_simp [Pipeline.Window.cell_apply] at hj hy
    omega

theorem final8 (c : Dev nD) : (dats m 0 c).arrAt 8 cfg0.N
    = (fun j => gradB (Y m c) (Q m c) (U m c) (W m c) (H m c) (j 1).val : S1x1024.Idx → EReal) := by
  refine (dats m 0 c).arrAt_eq_of_covers 8 _ (by decide +kernel) fun t hf y => ?_
  blk_simp
  rw [after0_8, show y = ix2 0 (y 1) from by idx_ext]
  refine (left8 m c t ((flush0_8 t).mp hf) (y 1)).trans ?_
  blk_simp [idx8]

section
open Cert.RGateGrad3Ideal Cert.RGateGrad3Ideal.Read

variable (x0 x1 : Vec Ideal Cert.RGateGrad3Ideal.S4352x1024 .f32) (x2 : Vec Ideal Cert.RGateGrad3Ideal.S4352x2048 .f32)
  (x3 : Vec Ideal Cert.RGateGrad3Ideal.S1024x1024 .f32) (x4 : Vec Ideal Cert.RGateGrad3Ideal.S4352x1024 .f32)
  (r : Fin 4352) (e : Fin 1024)

theorem reference_prod : val_main_v36 x3 x4 (ix2 r e) = nt 1024 (at2 x4) (at2 x3) r e :=
  (val_main_v36_apply x3 x4 _).trans (Finset.sum_congr rfl fun _ _ =>
    congrArg₂ (· * ·) (of_idx2 x4 _ rfl rfl) (of_idx2 x3 _ rfl rfl))

theorem reference_right : val_main_v1 x2 (ix2 r e) = at2 x2 r (1024 + e) :=
  (val_main_v1_apply x2 _).trans (of_idx2 x2 _ rfl rfl)

theorem reference_logistic_z : val_main_v33_2 x2 (ix2 r e) = Ideal.logistic (at2 x2 r (1024 + e)) := by
  rw [val_main_v33_2_apply, val_main_call0_v4_apply, val_main_call0_cst_0_apply, val_main_call0_v3_apply,
    val_main_call0_v2_apply, val_main_call0_cst_apply, val_main_call0_v1_apply, val_main_call0_v0_apply, reference_right]
  pointwise []
  rfl

theorem reference_logistic_q : val_main_v28 x1 (ix2 r e) = Ideal.logistic (at2 x1 r e) := by
  rw [val_main_v28_apply, val_main_v27_apply, val_main_cst_7_apply, val_main_v26_apply, val_main_v25_apply,
    val_main_cst_6_apply, val_main_v24_apply, val_main_v23_apply, of_ix2 x1]
  pointwise []
  rfl

theorem reference_slope_q :
    val_main_v31 x1 (ix2 r e) = Ideal.logistic (at2 x1 r e) * (1 - Ideal.logistic (at2 x1 r e)) := by
  rw [val_main_v31_apply, val_main_v30_apply, val_main_v29_apply, val_main_cst_8_apply, reference_logistic_q]
  pointwise []

theorem reference_tang : val_main_v12 x0 (ix2 r e) = tang (at2 x0 r e) := by
  rw [val_main_v12_apply, val_main_v11_apply, val_main_v10_apply, val_main_cst_1_apply, val_main_v9_apply, val_main_v8_apply,
    val_main_v7_apply, val_main_cst_0_apply, val_main_v3_apply, val_main_v2_apply, of_ix2 x0]
  rfl

theorem reference_factor : val_main_v21 x0 (ix2 r e) = geluFactor (at2 x0 r e) := by
  rw [val_main_v21_apply, val_main_v20_apply, val_main_cst_5_apply, val_main_v19_apply, val_main_v18_apply,
    val_main_cst_4_apply, reference_tang]
  pointwise [geluFactor]

theorem reference_gelu : val_main_v22 x0 (ix2 r e) = gelu (at2 x0 r e) := by
  rw [val_main_v22_apply, reference_factor, of_ix2 x0]
  rfl

theorem reference_slope : val_main_v17 x0 (ix2 r e) = (1 + tang (at2 x0 r e)) * (1 - tang (at2 x0 r e)) := by
  rw [val_main_v17_apply, val_main_v14_apply, val_main_v13_apply, val_main_cst_2_apply, val_main_v16_apply,
    val_main_v15_apply, val_main_cst_3_apply, reference_tang]
  pointwise []

theorem reference_square :
    val_main_v6 x0 (ix2 r e) = Ideal.ofBits FTy.f32 0x40400000#32 * (at2 x0 r e * at2 x0 r e) := by
  rw [val_main_v6_apply, val_main_v5_apply, val_main_cst_apply, val_main_v4_apply, of_ix2 x0]
  rfl

theorem reference_through : val_main_v38 x2 x3 x4 (ix2 r e) = through (at2 x4) (at2 x3) (at2 x2) r e := by
  rw [val_main_v38_apply, val_main_v33_0_apply, reference_prod, reference_right, reference_logistic_z]
  rfl

theorem reference_back : val_main_v41 x1 x2 x3 x4 (ix2 r e)
    = through (at2 x4) (at2 x3) (at2 x2) r e * Ideal.logistic (at2 x1 r e) := by
  rw [val_main_v41_apply, reference_through, reference_logistic_q]
  rfl

theorem reference_tang_back : val_main_v49 x0 x1 x2 x3 x4 (ix2 r e)
    = tangBack (through (at2 x4) (at2 x3) (at2 x2) r e * Ideal.logistic (at2 x1 r e)) (at2 x0 r e) := by
  rw [val_main_v49_apply, val_main_v48_apply, val_main_cst_10_apply, val_main_v47_apply, val_main_v46_apply,
    val_main_v45_apply, val_main_cst_9_apply, val_main_v43_apply, reference_back, reference_slope, of_ix2 x0]
  rfl

/-- The gradient of the gelu's operand in the reference. -/
theorem reference_y : val_main_v54 x0 x1 x2 x3 x4 (ix2 r e)
    = gradY (at2 x0) (at2 x1) (at2 x2) (at2 x3) (at2 x4) r e := by
  rw [val_main_v54_apply, val_main_v53_apply, val_main_v52_apply, val_main_v51_apply, val_main_cst_11_apply,
    val_main_v50_apply, val_main_v44_apply, reference_tang_back, reference_back, reference_factor, reference_square]
  rfl

theorem reference_v42 : val_main_v42 x0 x1 x2 x3 x4 (ix2 r e)
    = gradQ (at2 x0) (at2 x1) (at2 x2) (at2 x3) (at2 x4) r e := by
  rw [val_main_v42_apply, val_main_v40_apply, reference_gelu, reference_through, reference_slope_q]
  rfl

/-- The gradient of the logistic's operand in the reference. -/
theorem reference_q : val_main_v55 x0 x1 x2 x3 x4 (ix2 r e)
    = gradQ (at2 x0) (at2 x1) (at2 x2) (at2 x3) (at2 x4) r e := by
  rw [val_main_v55_apply, reference_v42]
  rfl

/-- The gradient of the projection's right half in the reference. -/
theorem reference_z : val_main_v56 x0 x1 x2 x3 x4 (ix2 r e)
    = gradZ (at2 x0) (at2 x1) (at2 x2) (at2 x3) (at2 x4) r e := by
  rw [val_main_v56_apply, val_main_v39_apply, val_main_call1_v1_apply, val_main_call1_v2_apply, val_main_call1_v0_apply,
    val_main_v33_1_apply, val_main_call0_v7_apply, val_main_call0_v6_apply, val_main_call0_cst_1_apply, val_main_v37_apply,
    val_main_v32_apply, reference_prod, reference_right, reference_logistic_z, reference_gelu, reference_logistic_q]
  pointwise [gradZ, siluBack]

/-- The gradient of the logistic's bias in the reference. -/
theorem reference_b : val_main_v58 x0 x1 x2 x3 x4 (ix2 0 e)
    = gradB (at2 x0) (at2 x1) (at2 x2) (at2 x3) (at2 x4) e := by
  rw [val_main_v58_apply, val_main_v57_apply]
  refine (congrArg (· + _) Cert.Norm.zero_bits).trans ((zero_add _).trans ?_)
  unfold gradB
  refine Finset.sum_congr rfl fun k _ => ?_
  exact (congrArg (val_main_v42 x0 x1 x2 x3 x4) (show _ = ix2 k e from by idx_ext)).trans (reference_v42 x0 x1 x2 x3 x4 k e)

end

theorem frame_reference : Cert.quiescent_RGateGrad3Ideal := fun m g _ =>
  (θ_run Cert.RGateGrad3Ideal.defs _ _).mono (fun r h => ⟨fun c => (h c).2.2.2.2, sem_eq_zero_of_no_sems (by decide) r.2⟩)
    (Cert.RGateGrad3Ideal.Value.run (F := Ideal) m g)

theorem algebraic : Cert.algebraic_GateGrad3Ideal_RGateGrad3Ideal := by
  intro m g m' g' _ hagree
  refine ⟨fun c => (fun j => gradY (Y m c) (Q m c) (U m c) (W m c) (H m c) (j 0).val (j 1).val),
    fun c => (fun j => gradQ (Y m c) (Q m c) (U m c) (W m c) (H m c) (j 0).val (j 1).val),
    fun c => (fun j => gradZ (Y m c) (Q m c) (U m c) (W m c) (H m c) (j 0).val (j 1).val),
    fun c => (fun j => gradB (Y m c) (Q m c) (U m c) (W m c) (H m c) (j 1).val), ?_, ?_⟩
  · refine (θ_run Cert.GateGrad3Ideal.defs _ _).mono (fun r h c => ?_) (Cert.GateGrad3Ideal.Value.run (F := Ideal) m g)
    obtain ⟨e5, e6, e7, e8, e⟩ := h c
    refine ⟨e5.trans (final5 m c), e6.trans (final6 m c), e7.trans (funext fun j => ?_), e8.trans (final8 m c), e⟩
    refine (Cert.GateGrad3Ideal.Read.val_main_v3_apply _ j).trans ?_
    refine (final7 m c _ (Nat.le_add_right 1024 _)).trans ?_
    exact congrArg _ (Nat.add_sub_cancel_left 1024 _)
  · refine (θ_run Cert.RGateGrad3Ideal.defs _ _).mono (fun r h c => ?_) (Cert.RGateGrad3Ideal.Value.run (F := Ideal) m' g')
    obtain ⟨e5, e6, e7, e8, e⟩ := h c
    obtain ⟨a0, a1, a2, a3, a4⟩ := hagree c
    refine ⟨e5.trans ?_, e6.trans ?_, e7.trans ?_, e8.trans ?_, e⟩
    · rw [Cert.RGateGrad3Ideal.Read.val_main_v54_eq, a0, a1, a2, a3, a4]
      funext j
      rw [show j = ix2 (j 0) (j 1) from by idx_ext]
      exact reference_y _ _ _ _ _ (j 0) (j 1)
    · rw [Cert.RGateGrad3Ideal.Read.val_main_v55_eq, a0, a1, a2, a3, a4]
      funext j
      rw [show j = ix2 (j 0) (j 1) from by idx_ext]
      exact reference_q _ _ _ _ _ (j 0) (j 1)
    · rw [Cert.RGateGrad3Ideal.Read.val_main_v56_eq, a0, a1, a2, a3, a4]
      funext j
      rw [show j = ix2 (j 0) (j 1) from by idx_ext]
      exact reference_z _ _ _ _ _ (j 0) (j 1)
    · rw [Cert.RGateGrad3Ideal.Read.val_main_v58_eq, a0, a1, a2, a3, a4]
      funext j
      rw [show j = ix2 0 (j 1) from by idx_ext]
      exact reference_b _ _ _ _ _ (j 1)

end Cert.GateGrad3Value

end
-- ==== Proof.Conv1.lean ====
/-
  The short convolution's forward call: the gate's factor of `p`, times the convolution of three taps, times the
  gate's silu.
-/
module

public import proofs.«01_k».proof.Defs
public import proofs.«01_k».proof.Proof.Blocks
public import proofs.«01_k».proof.Proof.Tiles
public import proofs.«01_k».proof.Proof.Gen.Conv1Ideal.Value
public import proofs.«01_k».proof.Proof.Gen.RConv1Ideal.Run
public import proofs.«01_k».proof.Proof.Gen.RConv1Ideal.Read
public import Idealize.ShloMosaic.Lib.Pipeline.ValueKit
public import Idealize.ShloMosaic.Lib.Claim

@[expose] public section

set_option maxRecDepth 16384

noncomputable section

namespace Cert.Conv1Value

open Cert.Conv1Ideal Cert.Conv1Ideal.Gen Idealize.ShloMosaic Idealize.ShloMosaic.TcCoe Idealize.SL.Sem Cert.Mats
open Cert.Conv (hc late conv sz)

/-- The forward call's result. -/
def gated (p w b : Mat) (r e : ℕ) : EReal := p r e * conv p w b r e * sz p r e

variable (m : (ℓ : Loc nD τ sig) → Buf (Elt Ideal) ℓ)

abbrev P (c : Dev nD) : Mat := at2 (m := 4352) (n := 8192) (m ((c : Thread nD τ).loc main_arg0))
abbrev W (c : Dev nD) : Mat := at2 (m := 3) (n := 2048) (m ((c : Thread nD τ).loc main_arg1))
abbrev B (c : Dev nD) : Mat := at1 (n := 2048) (m ((c : Thread nD τ).loc main_arg2))

theorem coord (t : Fin cfg0.N) : (grid0.coords t 0).val = t.val :=
  (by decide +kernel : ∀ t : Fin grid0.N, (grid0.coords t 0).val = t.val) t
theorem idx0 (t : Fin cfg0.N) : win0_0.index t = ![t.val, 0] :=
  (by decide +kernel : ∀ t : Fin grid0.N, win0_0.index t = ![t.val, 0]) t
theorem idx1 (t : Fin cfg0.N) : win0_1.index t = ![t.val * 34 - 1, 1] :=
  (by decide +kernel : ∀ t : Fin grid0.N, win0_1.index t = ![t.val * 34 - 1, 1]) t
theorem idx2 (t : Fin cfg0.N) : win0_2.index t = ![t.val * 34 - 1, 2] :=
  (by decide +kernel : ∀ t : Fin grid0.N, win0_2.index t = ![t.val * 34 - 1, 2]) t
theorem idx3 (t : Fin cfg0.N) : win0_3.index t = ![0, 0] :=
  (by decide +kernel : ∀ t : Fin grid0.N, win0_3.index t = ![0, 0]) t
theorem idx4 (t : Fin cfg0.N) : win0_4.index t = ![0, 0] :=
  (by decide +kernel : ∀ t : Fin grid0.N, win0_4.index t = ![0, 0]) t
theorem idx5 (t : Fin cfg0.N) : win0_5.index t = ![t.val, 0] :=
  (by decide +kernel : ∀ t : Fin grid0.N, win0_5.index t = ![t.val, 0]) t

theorem tile0 (c : Dev nD) (t : Fin cfg0.N) (r : Fin 272) (k : Fin 8192) :
    iblk m c 0 t (ix2 r k) = P m c (272 * t.val + r) k := by
  have ht : t.val < 16 := t.isLt
  refine Eq.trans ?_ (at2_eq _ _ _ (by omega) (by omega)).symm
  blk_ext [iblk, V_main_arg0, idx0]

/-- The eight rows above, in the columns of the convolution's first factor. -/
theorem tile1 (c : Dev nD) (t : Fin cfg0.N) (h0 : 0 < t.val) (r : Fin 8) (k : Fin 2048) :
    iblk m c 1 t (ix2 r k) = P m c (272 * t.val - 8 + r) (2048 + k) := by
  have ht : t.val < 16 := t.isLt
  refine Eq.trans ?_ (at2_eq _ _ _ (by omega) (by omega)).symm
  blk_ext [iblk, V_main_arg0, idx1]

/-- The eight rows above, in the columns of its second factor. -/
theorem tile2 (c : Dev nD) (t : Fin cfg0.N) (h0 : 0 < t.val) (r : Fin 8) (k : Fin 2048) :
    iblk m c 2 t (ix2 r k) = P m c (272 * t.val - 8 + r) (4096 + k) := by
  have ht : t.val < 16 := t.isLt
  refine Eq.trans ?_ (at2_eq _ _ _ (by omega) (by omega)).symm
  blk_ext [iblk, V_main_arg0, idx2]

theorem tile3 (c : Dev nD) (t : Fin cfg0.N) (r : Fin 3) (k : Fin 2048) : iblk m c 3 t (ix2 r k) = W m c r k := by
  refine Eq.trans ?_ (at2_eq _ _ _ (by omega) (by omega)).symm
  blk_ext [iblk, V_main_arg1, idx3]

theorem tile4 (c : Dev nD) (t : Fin cfg0.N) (k : Fin 2048) : iblk m c 4 t (ix2 0 k) = B m c 0 k := by
  refine Eq.trans ?_ (at1_eq _ _ _ (by omega)).symm
  blk_ext! [iblk, idx4]

/-- The rows above and the block's own rows, at the row `k` before row `r` of the block. -/
theorem above {p : Mat} {t : ℕ} (ht : t < 16) (k r e : ℕ) (hk : k ≤ 2) (hr : r < 272) (j : ℕ) (hj : j = r + 8 - k)
    (x : j < 8 → EReal) (y : ¬ j < 8 → EReal) (hx : ∀ h, 0 < t → x h = hc p (272 * t - 8 + j) e)
    (hy : ∀ h, y h = hc p (272 * t + (j - 8)) e) :
    (if h : j < 8 then Scalar.select (Scalar.cmpi CmpIPredicate.sgt (BitVec.ofNat 32 t) 0#32) (x h) 0 else y h)
      = late p k (272 * t + r) e := by
  rw [late]
  split
  · rename_i h
    rw [Cert.Conv.sgt_zero ht]
    by_cases h0 : 0 < t
    · rw [if_pos h0, if_pos (by omega), hx h h0, show 272 * t - 8 + j = 272 * t + r - k by omega]
    · rw [if_neg h0, if_neg (by omega)]
  · rename_i h
    rw [if_pos (by omega), hy h, show 272 * t + (j - 8) = 272 * t + r - k by omega]

theorem part {p w b : Mat} {t : ℕ} (ht : t < 16) (i : grid0.Coords) (hi : (i 0).val = t)
    (v0 v1 v2 v3 : Vec Ideal S272x2048 .f32) (v6 v7 : Vec Ideal S8x2048 .f32) (v12 : Vec Ideal S3x2048 .f32)
    (v28 : Vec Ideal S1x2048 .f32)
    (h0 : ∀ (r : Fin 272) (e : Fin 2048), v0 (ix2 r e) = p (272 * t + r) e)
    (h1 : ∀ (r : Fin 272) (e : Fin 2048), v1 (ix2 r e) = p (272 * t + r) (2048 + e))
    (h2 : ∀ (r : Fin 272) (e : Fin 2048), v2 (ix2 r e) = p (272 * t + r) (4096 + e))
    (h3 : ∀ (r : Fin 272) (e : Fin 2048), v3 (ix2 r e) = p (272 * t + r) (6144 + e))
    (h6 : 0 < t → ∀ (r : Fin 8) (e : Fin 2048), v6 (ix2 r e) = p (272 * t - 8 + r) (2048 + e))
    (h7 : 0 < t → ∀ (r : Fin 8) (e : Fin 2048), v7 (ix2 r e) = p (272 * t - 8 + r) (4096 + e))
    (h12 : ∀ (r : Fin 3) (e : Fin 2048), v12 (ix2 r e) = w r e)
    (h28 : ∀ e : Fin 2048, v28 (ix2 0 e) = b 0 e) (r : Fin 272) (e : Fin 2048) :
    k0_pay1 i v0 v1 v2 v3 v6 v7 v12 v28 (ix2 r e) = gated p w b (272 * t + r) e := by
  pointwise [k0_pay1]
  rw [hi, above (p := p) ht 2 r e (by omega) r.isLt _ (by omega) _ _ ?_ ?_,
    above (p := p) ht 1 r e (by omega) r.isLt _ (by omega) _ _ ?_ ?_]
  · simp only [h0, h1, h2, h3, h12, h28, gated, conv, sz, hc]
    rfl
  all_goals
    intros
    simp only [h1, h2, hc]
    try rw [h6 (by assumption), h7 (by assumption)]

theorem left (c : Dev nD) (t : Fin cfg0.N) (r : Fin 272) (e : Fin 2048) :
    out0_5 (grid0.coords t) (iblk m c 0 t) (iblk m c 1 t) (iblk m c 2 t) (iblk m c 3 t) (iblk m c 4 t) (ix2 r e)
      = gated (P m c) (W m c) (B m c) (272 * t.val + r) e := by
  unfold out0_5
  rw [View.canon_unit_zero (S := S272x2048) hz2]
  simp only [View.ld_unit_zero (S := S8x2048) hz2, View.ld_unit_zero (S := S3x2048) hz2, View.ld_unit_zero (S := S1x2048) hz2]
  refine part t.isLt _ (coord t) _ _ _ _ _ _ _ _ ?_ ?_ ?_ ?_ (fun h0 => tile1 m c t h0) (fun h0 => tile2 m c t h0)
    (tile3 m c t) (tile4 m c t) r e
  all_goals
    intro r e
    refine (Cert.Conv.ld2 _ _ _ _ r e (by omega) (by omega)).trans ((tile0 m c t _ _).trans ?_)
    simp only [Nat.zero_add]

theorem final (c : Dev nD) : (dats m 0 c).arrAt 5 cfg0.N
    = (fun j => gated (P m c) (W m c) (B m c) (j 0).val (j 1).val : S4352x2048.Idx → EReal) := by
  refine (dats m 0 c).arrAt_eq_of_covers 5 _ (by decide +kernel) fun t hf y => ?_
  blk_simp
  rw [after0_5, show y = ix2 (y 0) (y 1) from by idx_ext]
  refine (left m c t (y 0) (y 1)).trans ?_
  blk_simp [idx5]
  simp only [Nat.mul_comm]

section
open Cert.RConv1Ideal.Read

variable (x0 : Vec Ideal Cert.RConv1Ideal.S4352x8192 .f32) (x1 : Vec Ideal Cert.RConv1Ideal.S3x2048 .f32)
  (x2 : Vec Ideal Cert.RConv1Ideal.S2048 .f32)

theorem hc_at (r : Fin 4352) (e : Fin 2048) : val_main_v4 (F := Ideal) x0 (ix2 r e) = hc (at2 x0) r e := by
  pointwise [val_main_v4, val_main_v1, val_main_v2]
  simp only [of_ix2 x0, hc]

theorem late2_at (r : Fin 4352) (e : Fin 2048) : val_main_v10 (F := Ideal) x0 (ix2 r e) = late (at2 x0) 2 r e := by
  pointwise [val_main_v10, val_main_v8, val_main_cst, val_main_v9]
  simp only [hc_at, late]
  split <;> rename_i h
  · rw [if_neg (by omega)]
  · rw [if_pos (by omega)]

theorem late1_at (r : Fin 4352) (e : Fin 2048) : val_main_v19 (F := Ideal) x0 (ix2 r e) = late (at2 x0) 1 r e := by
  pointwise [val_main_v19, val_main_v17, val_main_cst_0, val_main_v18]
  simp only [hc_at, late]
  split <;> rename_i h
  · rw [if_neg (by omega)]
  · rw [if_pos (by omega)]

theorem reference (r : Fin 4352) (e : Fin 2048) :
    val_main_v36 (F := Ideal) x0 x1 x2 (ix2 r e) = gated (at2 x0) (at2 x1) (at1 x2) r e := by
  rw [val_main_v36_apply]
  pointwise [val_main_v35, val_main_v33, val_main_v0, val_main_v32, val_main_v29, val_main_v23, val_main_v13, val_main_v12,
    val_main_v11, val_main_v6, val_main_v5, val_main_v22, val_main_v21, val_main_v20, val_main_v15, val_main_v14, val_main_v28,
    val_main_v27, val_main_v26, val_main_v25, val_main_v24, val_main_v31, val_main_v30, val_main_v34, val_main_call0_v5,
    val_main_call0_v4, val_main_call0_cst_0, val_main_call0_v3, val_main_call0_v2, val_main_call0_cst, val_main_call0_v1,
    val_main_call0_v0, val_main_v3]
  simp only [hc_at, late1_at, late2_at, gated, conv, sz, of_ix2 x0, of_ix2 x1, of_ix1 x2, Ideal.logistic]
  rfl

end

theorem frame_reference : Cert.quiescent_RConv1Ideal := fun m g _ =>
  (θ_run Cert.RConv1Ideal.defs _ _).mono (fun r h => ⟨fun c => (h c).2, sem_eq_zero_of_no_sems (by decide) r.2⟩)
    (Cert.RConv1Ideal.Value.run (F := Ideal) m g)

theorem algebraic : Cert.algebraic_Conv1Ideal_RConv1Ideal := by
  intro m g m' g' _ hagree
  refine ⟨fun c => (fun j => gated (P m c) (W m c) (B m c) (j 0).val (j 1).val), ?_, ?_⟩
  · refine (θ_run Cert.Conv1Ideal.defs _ _).mono (fun r h c => ?_) (Cert.Conv1Ideal.Value.run_blocks (F := Ideal) m g)
    obtain ⟨e0, e⟩ := h c
    exact ⟨e0.trans (final m c), e⟩
  · refine (θ_run Cert.RConv1Ideal.defs _ _).mono (fun r h c => ?_) (Cert.RConv1Ideal.Value.run (F := Ideal) m' g')
    obtain ⟨e0, e⟩ := h c
    obtain ⟨a0, a1, a2⟩ := hagree c
    refine ⟨e0.trans ?_, e⟩
    rw [Cert.RConv1Ideal.Read.val_main_v36_eq, a0, a1, a2]
    funext j
    rw [show j = ix2 (j 0) (j 1) from by idx_ext]
    exact reference _ _ _ (j 0) (j 1)

end Cert.Conv1Value

end
-- ==== Proof.Windows.lean ====
/-
  Sums over a window of rows: by doubling, as the kernels form them, and as differences of running sums, as the
  references do.
-/
module

public import proofs.«01_k».proof.Proof.Reals
public import proofs.«01_k».proof.Proof.Spec
public import proofs.«01_k».proof.Proof.Groups
public import Idealize.ShloMosaic.Lib.Pointwise
public import Idealize.ShloMosaic.Lib.KernelVsHost

@[expose] public section

set_option maxRecDepth 16384

noncomputable section

namespace Cert.Windows

open Idealize.ShloMosaic Cert.Mats
open Cert.Conv (rows)

/-- The sum over a window of `w` rows that ends at a row, zero before the sequence begins. -/
def back (u : Mat) (w r e : ℕ) : EReal := ∑ q ∈ Finset.range w, if q ≤ r then u (r - q) e else 0

/-- The sum over a window of `w` rows that begins at a row, zero past the sequence's end. -/
def ahead (u : Mat) (w r e : ℕ) : EReal := ∑ q ∈ Finset.range w, if r + q < rows then u (r + q) e else 0

/-- The window of a column: each group of 512 has its own. -/
def width (e : ℕ) : ℕ := 2 ^ (e / 512 + 1)

/-- The number of rows that the window ending at a row holds. -/
def held (w r : ℕ) : EReal := min ((r : ℝ) + 1 : ℝ) (w : ℝ)

/-- The windowed mean less the entry itself. -/
def pooled (u : Mat) (r e : ℕ) : EReal := Ideal.div (back u (width e) r e) (held (width e) r) - u r e

/-- A row's gradient, divided among the rows of its window. -/
def share (g : Mat) (r e : ℕ) : EReal := Ideal.div (g r e) (held (width e) r)

/-- The gradient of the rows that the windowed means are of. -/
def spread (g : Mat) (r e : ℕ) : EReal := ahead (share g) (width e) r e - g r e

/-- A sum over `d` entries upwards, with that sum `d` rows up added: over `2 d` entries. -/
theorem doubled {m n : ℕ} (x : FVec Ideal ⟨2, ![m, n]⟩ .f32) (b : BitVec 32) (h : (⟨2, ![m, n]⟩ : Shape).Rotates 0 none)
    (X : ℕ → EReal) (e : Fin n) (d : ℕ) (hb : b.toNat = d) (hd : d < m)
    (hx : ∀ j : Fin m, d ≤ (j : ℕ) + 1 → x (ix2 j e) = ∑ q ∈ Finset.range d, X (j - q)) (j : Fin m) (hj : 2 * d ≤ (j : ℕ) + 1)
    (h1 : 0 < d) : addf x (dynamicRotate 0 b none x h) (ix2 j e) = ∑ q ∈ Finset.range (2 * d), X (j - q) := by
  have hjm := j.isLt
  refine (congrArg (x (ix2 j e) + ·) (dynamicRotate_apply 0 b x h (ix2 j e) (ix2 ⟨j - d, by omega⟩ e) ?_)).trans ?_
  · intro a
    fin_cases a
    · refine Eq.trans ?_ (if_pos rfl).symm
      show (j : ℕ) - d = ((j : ℕ) + m - b.toNat % m) % m
      rw [hb, Nat.mod_eq_of_lt hd, show (j : ℕ) + m - d = (j - d) + m by omega, Nat.add_mod_right,
        Nat.mod_eq_of_lt (by omega)]
    · rfl
  · rw [hx j (by omega), hx ⟨j - d, by omega⟩ (by show d ≤ (j : ℕ) - d + 1; omega), two_mul, Finset.sum_range_add]
    simp only [Nat.sub_sub]

/-- A sum over `d` entries downwards, with that sum `d` rows down added: over `2 d` entries. -/
theorem doubled_down {m n : ℕ} (x : FVec Ideal ⟨2, ![m, n]⟩ .f32) (b : BitVec 32)
    (h : (⟨2, ![m, n]⟩ : Shape).Rotates 0 none) (X : ℕ → EReal) (e : Fin n) (d : ℕ) (hb : b.toNat = m - d) (h1 : 0 < d)
    (hx : ∀ j : Fin m, (j : ℕ) + d ≤ m → x (ix2 j e) = ∑ q ∈ Finset.range d, X (j + q)) (j : Fin m)
    (hj : (j : ℕ) + 2 * d ≤ m) :
    addf x (dynamicRotate 0 b none x h) (ix2 j e) = ∑ q ∈ Finset.range (2 * d), X (j + q) := by
  have hjm := j.isLt
  refine (congrArg (x (ix2 j e) + ·) (dynamicRotate_apply 0 b x h (ix2 j e) (ix2 ⟨j + d, by omega⟩ e) ?_)).trans ?_
  · intro a
    fin_cases a
    · refine Eq.trans ?_ (if_pos rfl).symm
      show (j : ℕ) + d = ((j : ℕ) + m - b.toNat % m) % m
      rw [hb, Nat.mod_eq_of_lt (show m - d < m by omega), show (j : ℕ) + m - (m - d) = j + d by omega,
        Nat.mod_eq_of_lt (by omega)]
    · rfl
  · rw [hx j (by omega), hx ⟨j + d, by omega⟩ (by show (j : ℕ) + d + d ≤ m; omega), two_mul, Finset.sum_range_add]
    simp only [Nat.add_assoc]

/-- Sums upwards doubled `k` times: over `2 ^ k` rows. -/
def doubles {m n : ℕ} (h : (⟨2, ![m, n]⟩ : Shape).Rotates 0 none) (x : FVec Ideal ⟨2, ![m, n]⟩ .f32) :
    ℕ → FVec Ideal ⟨2, ![m, n]⟩ .f32
  | 0 => x
  | k + 1 => addf (doubles h x k) (dynamicRotate 0 (BitVec.ofNat 32 (2 ^ k)) none (doubles h x k) h)

/-- Sums downwards doubled `k` times: over `2 ^ k` rows. -/
def doubles_down {m n : ℕ} (h : (⟨2, ![m, n]⟩ : Shape).Rotates 0 none) (x : FVec Ideal ⟨2, ![m, n]⟩ .f32) :
    ℕ → FVec Ideal ⟨2, ![m, n]⟩ .f32
  | 0 => x
  | k + 1 => addf (doubles_down h x k) (dynamicRotate 0 (BitVec.ofNat 32 (m - 2 ^ k)) none (doubles_down h x k) h)

theorem doubles_at {m n : ℕ} (h : (⟨2, ![m, n]⟩ : Shape).Rotates 0 none) (x : FVec Ideal ⟨2, ![m, n]⟩ .f32)
    (hm : m < 2 ^ 32) (e : Fin n) (k : ℕ) (j : Fin m) (hj : 2 ^ k ≤ (j : ℕ) + 1) :
    doubles h x k (ix2 j e) = ∑ q ∈ Finset.range (2 ^ k), at2 x (j - q) e := by
  induction k generalizing j with
  | zero => simp [doubles, at2_eq x _ _ j.isLt e.isLt]
  | succ k ih =>
    have hjm := j.isLt
    have hp : 0 < 2 ^ k := Nat.two_pow_pos k
    rw [pow_succ, Nat.mul_comm] at hj ⊢
    refine doubled _ _ h (fun i => at2 x i e) e (2 ^ k) ?_ (by omega) ih j hj hp
    rw [BitVec.toNat_ofNat, Nat.mod_eq_of_lt (by omega)]

theorem doubles_down_at {m n : ℕ} (h : (⟨2, ![m, n]⟩ : Shape).Rotates 0 none) (x : FVec Ideal ⟨2, ![m, n]⟩ .f32)
    (hm : m < 2 ^ 32) (e : Fin n) (k : ℕ) (j : Fin m) (hj : (j : ℕ) + 2 ^ k ≤ m) :
    doubles_down h x k (ix2 j e) = ∑ q ∈ Finset.range (2 ^ k), at2 x (j + q) e := by
  induction k generalizing j with
  | zero => simp [doubles_down, at2_eq x _ _ j.isLt e.isLt]
  | succ k ih =>
    have hjm := j.isLt
    have hp : 0 < 2 ^ k := Nat.two_pow_pos k
    rw [pow_succ, Nat.mul_comm] at hj ⊢
    refine doubled_down _ _ h (fun i => at2 x i e) e (2 ^ k) ?_ hp ih j hj
    rw [BitVec.toNat_ofNat, Nat.mod_eq_of_lt (by omega)]

theorem foldl_add {ι : Type} (l : List ι) (g : ι → EReal) (v : EReal) :
    l.foldl (fun a k => a + g k) v = v + (l.map g).sum := by
  induction l generalizing v with
  | nil => simp
  | cons a l ih => simp [ih, add_assoc]

/-- A window sum over the first axis, `n` rows long, that begins `lo` rows up. -/
theorem window_sum {n a b lo hi : ℕ} (x : (⟨3, ![n, a, b]⟩ : Shape).Idx → EReal) (v : EReal) (hv : v = 0)
    (h : (⟨3, ![n, a, b]⟩ : Shape).ReduceWindows (![n, 1, 1] : Fin 3 → ℕ) ![1, 1, 1] ![lo, 0, 0] ![hi, 0, 0] ⟨3, ![n, a, b]⟩)
    (r : Fin n) (p : Fin a) (c : Fin b) :
    Ideal.hostReduceWindowAdd (![n, 1, 1] : Fin 3 → ℕ) ![1, 1, 1] ![lo, 0, 0] ![hi, 0, 0] h x v (ix3 r p c)
      = ∑ k ∈ Finset.range n, if lo ≤ r + k then at3 x (r + k - lo) p c else 0 := by
  subst hv
  unfold Ideal.hostReduceWindowAdd Host.reduceWindow
  refine (foldl_add _ _ _).trans ?_
  rw [zero_add, ← Fin.sum_univ_def, Finset.sum_range]
  symm
  refine Fintype.sum_bijective (fun k : Fin n => (⟨3, ![n, 1, 1]⟩ : Shape).rowMajor (ix3 k 0 0)) ⟨?_, ?_⟩ _ _ ?_
  · intro k k' e
    exact congrFun ((⟨3, ![n, 1, 1]⟩ : Shape).rowMajor.injective e) 0
  · intro y
    refine ⟨((⟨3, ![n, 1, 1]⟩ : Shape).rowMajor.symm y) 0, ?_⟩
    dsimp only
    rw [Equiv.apply_eq_iff_eq_symm_apply]
    funext d
    fin_cases d
    · rfl
    · exact Subsingleton.elim (α := Fin 1) _ _
    · exact Subsingleton.elim (α := Fin 1) _ _
  · intro k
    dsimp only
    let y0 : (⟨3, ![n, 1, 1]⟩ : Shape).Idx :=
      (⟨3, ![n, 1, 1]⟩ : Shape).rowMajor.symm ((⟨3, ![n, 1, 1]⟩ : Shape).rowMajor (ix3 k 0 0))
    have e0 : y0 = ix3 k 0 0 := Equiv.symm_apply_apply _ _
    have k0 : (y0 0 : ℕ) = k := by
      rw [e0]
      rfl
    have k1 : (y0 1 : ℕ) = 0 := by
      rw [e0]
      rfl
    have k2 : (y0 2 : ℕ) = 0 := by
      rw [e0]
      rfl
    have hr := r.isLt
    have hp := p.isLt
    have hc := c.isLt
    split
    · rename_i hlo
      by_cases hin : (r : ℕ) + k - lo < n
      · rw [at3_eq x _ _ _ hin hp hc, dif_pos]
        · congr 1
          funext d
          apply Fin.ext
          fin_cases d
          · show (r : ℕ) + k - lo = r * 1 + (y0 0 : ℕ) - lo
            omega
          · show (p : ℕ) = p * 1 + (y0 1 : ℕ) - 0
            omega
          · show (c : ℕ) = c * 1 + (y0 2 : ℕ) - 0
            omega
        · intro d
          fin_cases d
          · show lo ≤ (r : ℕ) * 1 + y0 0 ∧ (r : ℕ) * 1 + y0 0 - lo < n
            omega
          · show 0 ≤ (p : ℕ) * 1 + y0 1 ∧ (p : ℕ) * 1 + y0 1 - 0 < a
            omega
          · show 0 ≤ (c : ℕ) * 1 + y0 2 ∧ (c : ℕ) * 1 + y0 2 - 0 < b
            omega
      · rw [at3, dif_neg (by omega), dif_neg]
        intro hd
        have h0 := hd 0
        have h0' : lo ≤ (r : ℕ) * 1 + y0 0 ∧ (r : ℕ) * 1 + y0 0 - lo < n := h0
        omega
    · rename_i hlo
      rw [dif_neg]
      intro hd
      have h0 := hd 0
      have h0' : lo ≤ (r : ℕ) * 1 + y0 0 ∧ (r : ℕ) * 1 + y0 0 - lo < n := h0
      omega

/-- A row's position, counted from one, as the kernels form it. -/
theorem rows_at (t o r : ℕ) (h : 272 * t + o + r + 1 < 2 ^ 31) :
    (FloatOps.sitofp .f32 (IntOp.addi (Scalar.addi (Scalar.addi (Scalar.muli (BitVec.ofNat 32 t) 272#32) (BitVec.ofNat 32 o)) 1#32)
      (BitVec.ofNat 32 r)) : Ideal .f32) = (((272 * t + o + r : ℕ) : ℝ) + 1 : ℝ) := by
  have e : IntOp.addi (Scalar.addi (Scalar.addi (Scalar.muli (BitVec.ofNat 32 t) 272#32) (BitVec.ofNat 32 o)) 1#32) (BitVec.ofNat 32 r)
      = BitVec.ofNat 32 (272 * t + o + r + 1) := by
    apply BitVec.eq_of_toNat_eq
    show ((BitVec.ofNat 32 t * 272#32 + BitVec.ofNat 32 o + 1#32) + BitVec.ofNat 32 r).toNat = _
    simp only [BitVec.toNat_add, BitVec.toNat_mul, BitVec.toNat_ofNat]
    omega
  rw [e]
  show (((BitVec.ofNat 32 (272 * t + o + r + 1)).toInt : ℝ) : EReal) = _
  rw [BitVec.toInt_eq_toNat_of_lt (by rw [BitVec.toNat_ofNat]; omega), BitVec.toNat_ofNat, Nat.mod_eq_of_lt (by omega)]
  push_cast
  rfl

/-- A row's position, counted from zero and as the references form it. -/
theorem row_at (r : ℕ) (h : r < 2 ^ 31) : (FloatOps.sitofp .f32 (BitVec.ofNat 32 r) : Ideal .f32) = ((r : ℝ) : EReal) := by
  show (((BitVec.ofNat 32 r).toInt : ℝ) : EReal) = _
  rw [BitVec.toInt_eq_toNat_of_lt (by rw [BitVec.toNat_ofNat]; omega), BitVec.toNat_ofNat, Nat.mod_eq_of_lt (by omega)]
  rfl

theorem held_ref (w r : ℕ) (h : r < 2 ^ 31) :
    min (1 + (FloatOps.sitofp .f32 (BitVec.ofNat 32 r) : Ideal .f32)) ((w : ℝ) : EReal) = held w r := by
  rw [row_at r h, held, add_comm, EReal.coe_add, EReal.coe_one]

theorem bits_2 : Ideal.ofBits FTy.f32 0x40000000#32 = ((2 : ℕ) : ℝ) := by
  norm_num [Ideal.ofBits, Ideal.ieee, Nat.shiftRight_eq_div_pow, BitVec.extractLsb']
theorem bits_4 : Ideal.ofBits FTy.f32 0x40800000#32 = ((4 : ℕ) : ℝ) := by
  norm_num [Ideal.ofBits, Ideal.ieee, Nat.shiftRight_eq_div_pow, BitVec.extractLsb']
theorem bits_8 : Ideal.ofBits FTy.f32 0x41000000#32 = ((8 : ℕ) : ℝ) := by
  norm_num [Ideal.ofBits, Ideal.ieee, Nat.shiftRight_eq_div_pow, BitVec.extractLsb']
theorem bits_16 : Ideal.ofBits FTy.f32 0x41800000#32 = ((16 : ℕ) : ℝ) := by
  norm_num [Ideal.ofBits, Ideal.ieee, Nat.shiftRight_eq_div_pow, BitVec.extractLsb']

/-- The running sum: the window that ends at the row. -/
theorem running {n : ℕ} (f : ℕ → EReal) (r : ℕ) (hr : r < n) :
    (∑ k ∈ Finset.range n, if n - 1 ≤ r + k then f (r + k - (n - 1)) else 0) = ∑ i ∈ Finset.range (r + 1), f i := by
  rw [← Finset.sum_filter]
  refine Finset.sum_nbij' (fun k => r + k - (n - 1)) (fun i => i + (n - 1) - r) ?_ ?_ ?_ ?_ ?_
  all_goals
    intro k hk
    simp only [Finset.mem_filter, Finset.mem_range] at hk ⊢
  · omega
  · omega
  · omega
  · omega

/-- The difference of two running sums is the window's sum. -/
theorem lagged (f : ℕ → EReal) (hf : ∀ i, IsR (f i)) (w r : ℕ) :
    (∑ i ∈ Finset.range (r + 1), f i) - (if w ≤ r then ∑ i ∈ Finset.range (r - w + 1), f i else 0)
      = ∑ q ∈ Finset.range w, if q ≤ r then f (r - q) else 0 := by
  split
  · rename_i h
    obtain ⟨a, ha⟩ : IsR (∑ i ∈ Finset.range (r - w + 1), f i) := IsR.sum _ _ fun i _ => hf i
    obtain ⟨b, hb⟩ : IsR (∑ q ∈ Finset.range w, f (r - w + 1 + q)) := IsR.sum _ _ fun i _ => hf _
    rw [show r + 1 = (r - w + 1) + w by omega, Finset.sum_range_add, ha, hb, ← EReal.coe_add, ← EReal.coe_sub,
      add_sub_cancel_left, ← hb, ← Finset.sum_range_reflect]
    refine Finset.sum_congr rfl fun q hq => ?_
    have := Finset.mem_range.1 hq
    rw [if_pos (by omega), show r - w + 1 + (w - 1 - q) = r - q by omega]
  · rename_i h
    rw [sub_zero, ← Finset.sum_filter, ← Finset.sum_range_reflect]
    refine (Finset.sum_congr (Finset.ext fun q => ?_) fun q hq => ?_)
    · simp only [Finset.mem_filter, Finset.mem_range]
      omega
    · rw [Nat.add_sub_cancel]

/-- The differences of entries `w` apart, summed from a row on: the window's sum. -/
theorem summed (f : ℕ → EReal) (hf : ∀ i, IsR (f i)) (w r n : ℕ) :
    (∑ k ∈ Finset.range n, (f (r + k) + -f (r + k + w))) + ∑ q ∈ Finset.range w, f (r + n + q)
      = ∑ q ∈ Finset.range w, f (r + q) := by
  induction n with
  | zero => simp
  | succ n ih =>
    rw [← ih, Finset.sum_range_succ, add_assoc, add_assoc]
    congr 1
    have e : (∑ q ∈ Finset.range w, f (r + n + q)) + f (r + n + w) = f (r + n) + ∑ q ∈ Finset.range w, f (r + (n + 1) + q) := by
      rw [← Finset.sum_range_succ (fun q => f (r + n + q)), Finset.sum_range_succ', add_comm]
      congr 1
      exact Finset.sum_congr rfl fun q _ => congrArg f (by omega)
    obtain ⟨a, ha⟩ := hf (r + n + w)
    rw [add_left_comm, ← e, ha, add_comm, add_assoc, ← EReal.coe_neg, ← EReal.coe_add, add_neg_cancel, EReal.coe_zero, add_zero]

end Cert.Windows

end
-- ==== Proof.Pool2.lean ====
/-
  The pooling's windowed means, forward.
-/
module

public import proofs.«01_k».proof.Defs
public import proofs.«01_k».proof.Proof.Windows
public import proofs.«01_k».proof.Proof.Strips
public import proofs.«01_k».proof.Proof.Tiles
public import proofs.«01_k».proof.Proof.ConvClaim
public import proofs.«01_k».proof.Proof.Gen.Pool2.Frame
public import proofs.«01_k».proof.Proof.Gen.Pool2Ideal.Frame
public import proofs.«01_k».proof.Proof.Gen.Pool2Ideal.Value
public import proofs.«01_k».proof.Proof.Gen.RPool2Ideal
public import proofs.«01_k».proof.Proof.Gen.RPool2Ideal.Run
public import proofs.«01_k».proof.Proof.Gen.RPool2Ideal.Read
public import proofs.«01_k».proof.Proof.Gen.Pre_projection_finite

public import Idealize.ShloMosaic.Lib.Pipeline.ValueKit
public import Idealize.ShloMosaic.Lib.Claim

@[expose] public section

set_option maxRecDepth 16384

noncomputable section

namespace Cert.Pool2Value

open Cert.Pool2Ideal Cert.Pool2Ideal.Gen Idealize.ShloMosaic Idealize.ShloMosaic.TcCoe Idealize.SL.Sem Cert.Mats
open Cert.Windows

/-- A strip of the doubled sums, past the sixteen rows above the block. -/
theorem strip (v : FVec Ideal S288x2048 .f32) (o k : ℕ) (hk : k ≤ 4) (hr : S288x512.Rotates 0 none)
    (hs : S288x2048.Slices ![0, o] S288x512) (hs' : S288x512.Slices ![16, 0] S272x512) (r : Fin 272) (e : Fin 512)
    (ho : o + 512 ≤ 2048) :
    extractStridedSlice S272x512 ![16, 0] (doubles (m := 288) (n := 512) hr (extractStridedSlice S288x512 ![0, o] v hs) k) hs'
        (ix2 r e)
      = ∑ q ∈ Finset.range (2 ^ k), at2 (m := 288) (n := 2048) v (16 + r - q) (o + e) := by
  have hk' : 2 ^ k ≤ 2 ^ 4 := Nat.pow_le_pow_right (by omega) hk
  refine (extractStridedSlice_apply ![16, 0] _ hs' (ix2 r e) (ix2 ⟨16 + r, by omega⟩ e) ?_).trans ?_
  · intro d
    fin_cases d
    · rfl
    · exact (Nat.zero_add _).symm
  · rw [doubles_at hr _ (by omega) e k _ (by show 2 ^ k ≤ 16 + (r : ℕ) + 1; omega)]
    refine Finset.sum_congr rfl fun q _ => ?_
    rw [at2_eq _ _ _ (by show 16 + (r : ℕ) - q < 288; omega) e.isLt, at2_eq v _ _ (by show 16 + (r : ℕ) - q < 288; omega) (by omega)]
    refine extractStridedSlice_apply (s := S288x2048) (t := S288x512) ![0, o] v hs _ _ ?_
    intro d
    fin_cases d
    · exact (Nat.zero_add _).symm
    · rfl

section
variable {u : Mat} {i : grid0.Coords} {v0 : Vec Ideal S272x2048 .f32} {v2 : Vec Ideal S16x2048 .f32}
  (h0 : ∀ (r : Fin 272) (c : Fin 2048), v0 (ix2 r c) = u (272 * (i 0).val + r) c)
  (h2 : 0 < (i 0).val → ∀ (r : Fin 16) (c : Fin 2048), v2 (ix2 r c) = u (272 * (i 0).val - 16 + r) c)
include h0 h2

/-- The block with the sixteen rows above it: the sequence's own rows. -/
theorem above (r q c : ℕ) (hr : r < 272) (hq : q < 16) (hc : c < 2048) :
    at2 (m := 288) (n := 2048) (k0_pay2 i v0 v2) (16 + r - q) c
      = if q ≤ 272 * (i 0).val + r then u (272 * (i 0).val + r - q) c else 0 := by
  have hi : (i 0).val < 16 := (i 0).isLt
  rw [at2_eq _ _ _ (by omega) hc]
  pointwise [k0_pay2]
  split
  · rename_i h
    rw [Cert.Conv.sgt_zero hi]
    by_cases ht : 0 < (i 0).val
    · rw [if_pos ht, if_pos (by omega), h2 ht, show 272 * (i 0).val - 16 + (16 + r - q) = 272 * (i 0).val + r - q by omega]
    · rw [if_neg ht, if_neg (by omega)]
  · rename_i h
    refine Eq.trans ?_ (if_pos (by omega)).symm
    exact (h0 ⟨16 + r - q - 16, by omega⟩ ⟨c, hc⟩).trans
      (congrArg (u · c) (show 272 * (i 0).val + (16 + r - q - 16) = 272 * (i 0).val + r - q by omega))

theorem windowed (w r c : ℕ) (hw : w ≤ 16) (hr : r < 272) (hc : c < 2048) :
    ∑ q ∈ Finset.range w, at2 (m := 288) (n := 2048) (k0_pay2 i v0 v2) (16 + r - q) c = back u w (272 * (i 0).val + r) c :=
  Finset.sum_congr rfl fun q hq => above h0 h2 r q c hr (by have := Finset.mem_range.1 hq; omega) hc

/-- One group's strip, from its sums, its counts and its own entries. -/
theorem part (k r c : ℕ) (e : Fin 512) (hk : c = 512 * k + e) (hk4 : k < 4) (hr : r < 272) (x : EReal)
    (hx : x = v0 (ix2 ⟨r, hr⟩ ⟨c, by omega⟩)) :
    Ideal.div (∑ q ∈ Finset.range (2 ^ (k + 1)), at2 (m := 288) (n := 2048) (k0_pay2 i v0 v2) (16 + r - q) c)
        (held (2 ^ (k + 1)) (272 * (i 0).val + r)) - x
      = pooled u (272 * (i 0).val + r) c := by
  have hw : 2 ^ (k + 1) ≤ 2 ^ 4 := Nat.pow_le_pow_right (by omega) (by omega)
  rw [windowed h0 h2 _ r c hw hr (by omega), pooled, width, show c / 512 = k by omega, hx, h0]

theorem pay3_at (r : Fin 272) (e : Fin 512) : k0_pay3 i v0 v2 (ix2 r e) = pooled u (272 * (i 0).val + r) e := by
  have hi : (i 0).val < 16 := (i 0).isLt
  refine Eq.trans (show _ = Ideal.div (extractStridedSlice S272x512 ![16, 0] (doubles (m := 288) (n := 512) _
    (extractStridedSlice S288x512 ![0, 0] (k0_pay2 i v0 v2) _) 1) _ (ix2 r e)) (min _ _) - _ from rfl) ?_
  rw [strip _ _ _ (by omega) _ _ _ _ _ (by omega)]
  pointwise []
  refine Eq.trans ?_ (part h0 h2 0 r e e (by omega) (by omega) r.isLt _ rfl)
  rw [rows_at _ 0 _ (by omega), bits_2, held]
  rfl

theorem pay7_at (r : Fin 272) (e : Fin 512) :
    k0_pay7 v0 (k0_pay4 i v0 v2) (k0_pay5 (F := Ideal) i) (k0_pay6 (F := Ideal)) (ix2 r e)
      = pooled u (272 * (i 0).val + r) (512 + e) := by
  have hi : (i 0).val < 16 := (i 0).isLt
  have h4 : k0_pay4 i v0 v2 (ix2 r e) = _ := strip (k0_pay2 i v0 v2) 512 2 (by omega) rotates_S288x512_d0
    slices_S288x2048_o0_512_S288x512 slices_S288x512_o16_0_S272x512 r e (by omega)
  pointwise [k0_pay7, k0_pay5, k0_pay6]
  refine Eq.trans ?_ (part h0 h2 1 r (512 + e) e (by omega) (by omega) r.isLt _ rfl)
  rw [h4, rows_at _ 0 _ (by omega), bits_4, held]
  rfl

theorem pay8_at (r : Fin 272) (e : Fin 512) :
    k0_pay8 (BitVec.ofNat 32 (i 0).val) v0 (k0_pay2 i v0 v2) (ix2 r e) = pooled u (272 * (i 0).val + r) (1024 + e) := by
  have hi : (i 0).val < 16 := (i 0).isLt
  refine Eq.trans (show _ = Ideal.div (extractStridedSlice S272x512 ![16, 0] (doubles (m := 288) (n := 512) _
    (extractStridedSlice S288x512 ![0, 1024] (k0_pay2 i v0 v2) _) 3) _ (ix2 r e)) (min _ _) - _ from rfl) ?_
  rw [strip _ _ _ (by omega) _ _ _ _ _ (by omega)]
  pointwise []
  refine Eq.trans ?_ (part h0 h2 2 r (1024 + e) e (by omega) (by omega) r.isLt _ rfl)
  rw [rows_at _ 0 _ (by omega), bits_8, held]
  rfl

theorem pay1_at (r : Fin 272) (e : Fin 512) :
    k0_pay1 v0 (k0_pay9 (k0_pay2 i v0 v2)) (Scalar.muli (BitVec.ofNat 32 (i 0).val) 272#32) 0#32 (ix2 r e)
      = pooled u (272 * (i 0).val + r) (1536 + e) := by
  have hi : (i 0).val < 16 := (i 0).isLt
  have h9 : k0_pay9 (k0_pay2 i v0 v2) (ix2 r e) = _ := strip (k0_pay2 i v0 v2) 1536 4 (by omega) rotates_S288x512_d0
    slices_S288x2048_o0_1536_S288x512 slices_S288x512_o16_0_S272x512 r e (by omega)
  pointwise [k0_pay1]
  refine Eq.trans ?_ (part h0 h2 3 r (1536 + e) e (by omega) (by omega) r.isLt _ rfl)
  rw [h9, rows_at _ 0 _ (by omega), bits_16, held]
  rfl

theorem out_at (r : Fin 272) (c : Fin 2048) : out0_2 i v0 v2 (ix2 r c) = pooled u (272 * (i 0).val + r) c := by
  unfold out0_2
  have e0 : View.ld v0 r0_0 = v0 := View.ld_unit_zero (S := S272x2048) hz2 _ _
  have e1 : View.ld v2 r0_1 = v2 := View.ld_unit_zero (S := S16x2048) hz2 _ _
  have e2 : k0_pay10 i v0 v2 = k0_pay2 i v0 v2 := by
    unfold k0_pay10
    rw [e0, e1]
  rw [e0, e1, e2]
  refine View.canon_eq_of_allAt _ _ _ (cover0_2 _ _ _ _ _) ?_
  refine View.allAt_cons_unit _ _ _ _ _ (Cert.Conv.tile2 1536 _ _ r c fun e he => ?_) ?_
  · rw [he]
    exact pay1_at h0 h2 r e
  refine View.allAt_cons_unit _ _ _ _ _ (Cert.Conv.tile2 1024 _ _ r c fun e he => ?_) ?_
  · rw [he]
    exact pay8_at h0 h2 r e
  refine View.allAt_cons_unit _ _ _ _ _ (Cert.Conv.tile2 512 _ _ r c fun e he => ?_) ?_
  · rw [he]
    exact pay7_at h0 h2 r e
  refine View.allAt_cons_unit _ _ _ _ _ (Cert.Conv.tile2 0 _ _ r c fun e he => ?_) (View.allAt_nil _ _)
  rw [he, Nat.zero_add]
  exact pay3_at h0 h2 r e

end

variable (m : (ℓ : Loc nD τ sig) → Buf (Elt Ideal) ℓ)

abbrev P (c : Dev nD) : Mat := at2 (m := 4352) (n := 4096) (m ((c : Thread nD τ).loc main_arg0))

theorem coord (t : Fin cfg0.N) : (grid0.coords t 0).val = t.val :=
  (by decide +kernel : ∀ t : Fin grid0.N, (grid0.coords t 0).val = t.val) t
theorem idx0 (t : Fin cfg0.N) : win0_0.index t = ![t.val, 0] :=
  (by decide +kernel : ∀ t : Fin grid0.N, win0_0.index t = ![t.val, 0]) t
theorem idx1 (t : Fin cfg0.N) : win0_1.index t = ![t.val * 17 - 1, 0] :=
  (by decide +kernel : ∀ t : Fin grid0.N, win0_1.index t = ![t.val * 17 - 1, 0]) t
theorem idx2 (t : Fin cfg0.N) : win0_2.index t = ![t.val, 0] :=
  (by decide +kernel : ∀ t : Fin grid0.N, win0_2.index t = ![t.val, 0]) t

theorem block0 (c : Dev nD) (t : Fin cfg0.N) (r : Fin 272) (k : Fin 2048) :
    iblk m c 0 t (ix2 r k) = P m c (272 * t.val + r) k := by
  have ht : t.val < 16 := t.isLt
  refine Eq.trans ?_ (at2_eq _ _ _ (by omega) (by omega)).symm
  blk_ext [iblk, V_main_arg0, idx0]

/-- The sixteen rows above. -/
theorem block1 (c : Dev nD) (t : Fin cfg0.N) (h0 : 0 < t.val) (r : Fin 16) (k : Fin 2048) :
    iblk m c 1 t (ix2 r k) = P m c (272 * t.val - 16 + r) k := by
  have ht : t.val < 16 := t.isLt
  refine Eq.trans ?_ (at2_eq _ _ _ (by omega) (by omega)).symm
  blk_ext [iblk, V_main_arg0, idx1]

theorem left (c : Dev nD) (t : Fin cfg0.N) (r : Fin 272) (e : Fin 2048) :
    out0_2 (grid0.coords t) (iblk m c 0 t) (iblk m c 1 t) (ix2 r e) = pooled (P m c) (272 * t.val + r) e := by
  have ht := coord t
  rw [← ht]
  refine out_at ?_ ?_ r e
  · rw [ht]
    exact block0 m c t
  · rw [ht]
    exact block1 m c t

theorem final (c : Dev nD) : (dats m 0 c).arrAt 2 cfg0.N
    = (fun j => pooled (P m c) (j 0).val (j 1).val : S4352x2048.Idx → EReal) := by
  refine (dats m 0 c).arrAt_eq_of_covers 2 _ (by decide +kernel) fun t hf y => ?_
  blk_simp
  rw [after0_2, show y = ix2 (y 0) (y 1) from by idx_ext]
  refine (left m c t (y 0) (y 1)).trans ?_
  blk_simp [idx2]
  simp only [Nat.mul_comm]

section
open Cert.RPool2Ideal.Read

variable (x0 : Vec Ideal Cert.RPool2Ideal.S4352x4096 .f32)

theorem group_at (r : Fin 4352) (k : Fin 4) (e : Fin 512) :
    val_main_v2 (F := Ideal) x0 (ix3 r k e) = at2 (m := 4352) (n := 4096) x0 r (512 * k + e) := by
  pointwise [val_main_v2, val_main_v0]
  rw [of_ix2 x0, Nat.mul_comm 512]

theorem sums_at (r : Fin 4352) (k : Fin 4) (e : Fin 512) :
    val_main_v3 (F := Ideal) x0 (ix3 r k e) = ∑ i ∈ Finset.range (r + 1), at2 (m := 4352) (n := 4096) x0 i (512 * k + e) := by
  unfold val_main_v3 Host.reduceWindowAdd
  rw [Ideal.hostReduceWindowAdd_def]
  refine (window_sum (val_main_v2 x0) _ ?_ _ r k e).trans ?_
  · exact Cert.Norm.zero_bits
  · refine (running (n := 4352) (fun i => at3 (val_main_v2 (F := Ideal) x0) i k e) r r.isLt).trans ?_
    refine Finset.sum_congr rfl fun i hi => ?_
    have := Finset.mem_range.1 hi
    exact (at3_eq _ _ _ _ (by omega) k.isLt e.isLt).trans (group_at x0 ⟨i, by omega⟩ k e)

/-- The windowed mean of a group, as a difference of running sums. -/
theorem mean_at (hu : ∀ i c, c < 2048 → IsR (at2 (m := 4352) (n := 4096) x0 i c)) (r : Fin 4352) (k : Fin 4) (e : Fin 512) (w c : ℕ)
    (hw : w = 2 ^ (k.val + 1)) (hc : c = 512 * k + e) (x : (r : ℕ) < w → EReal) (hx : ∀ h, x h = 0) :
    Ideal.div (val_main_v3 (F := Ideal) x0 (ix3 r k e)
        - if h : (r : ℕ) < w then x h else val_main_v3 (F := Ideal) x0 (ix3 ⟨(r : ℕ) - w, by omega⟩ k e)) (held w r)
        - val_main_v2 (F := Ideal) x0 (ix3 r k e)
      = pooled (at2 x0) r c := by
  have he := e.isLt
  have hk := k.isLt
  have hy : (if h : (r : ℕ) < w then x h else val_main_v3 (F := Ideal) x0 (ix3 ⟨(r : ℕ) - w, by omega⟩ k e))
      = if w ≤ (r : ℕ) then ∑ i ∈ Finset.range ((r : ℕ) - w + 1), at2 (m := 4352) (n := 4096) x0 i c else 0 := by
    split <;> rename_i h
    · rw [if_neg (by omega), hx]
    · rw [if_pos (by omega), sums_at, hc]
  rw [hy, sums_at, group_at, ← hc, lagged (fun i => at2 (m := 4352) (n := 4096) x0 i c) (fun i => hu i c (by omega)), pooled,
    width, show c / 512 = k by omega, ← hw, back]

section
variable (hu : ∀ i c, c < 2048 → IsR (at2 (m := 4352) (n := 4096) x0 i c)) (r : Fin 4352) (e : Fin 512)
include hu

theorem group0 : val_main_v21 (F := Ideal) x0 (ix2 r e) = pooled (at2 x0) r e := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_cst, val_main_cst_0, val_main_cst_1]
  rw [bits_2, held_ref _ _ (by omega)]
  exact mean_at x0 hu r 0 e 2 e rfl (Nat.zero_add _).symm _ fun _ => rfl

theorem group1 : val_main_v35 (F := Ideal) x0 (ix2 r e) = pooled (at2 x0) r (512 + e) := by
  pointwise [val_main_v35, val_main_v34, val_main_v33, val_main_v32, val_main_v31, val_main_v30, val_main_v29, val_main_v28,
    val_main_v27, val_main_v26, val_main_v25, val_main_v24, val_main_v23, val_main_v22, val_main_v7, val_main_v6, val_main_v5,
    val_main_v4, val_main_cst, val_main_cst_2, val_main_cst_3]
  rw [bits_4, held_ref _ _ (by omega)]
  exact mean_at x0 hu r 1 e 4 (512 + e) rfl rfl _ fun _ => rfl

theorem group2 : val_main_v49 (F := Ideal) x0 (ix2 r e) = pooled (at2 x0) r (1024 + e) := by
  pointwise [val_main_v49, val_main_v48, val_main_v47, val_main_v46, val_main_v45, val_main_v44, val_main_v43, val_main_v42,
    val_main_v41, val_main_v40, val_main_v39, val_main_v38, val_main_v37, val_main_v36, val_main_v7, val_main_v6, val_main_v5,
    val_main_v4, val_main_cst, val_main_cst_4, val_main_cst_5]
  rw [bits_8, held_ref _ _ (by omega)]
  exact mean_at x0 hu r 2 e 8 (1024 + e) rfl rfl _ fun _ => rfl

theorem group3 : val_main_v63 (F := Ideal) x0 (ix2 r e) = pooled (at2 x0) r (1536 + e) := by
  pointwise [val_main_v63, val_main_v62, val_main_v61, val_main_v60, val_main_v59, val_main_v58, val_main_v57, val_main_v56,
    val_main_v55, val_main_v54, val_main_v53, val_main_v52, val_main_v51, val_main_v50, val_main_v7, val_main_v6, val_main_v5,
    val_main_v4, val_main_cst, val_main_cst_6, val_main_cst_7]
  rw [bits_16, held_ref _ _ (by omega)]
  exact mean_at x0 hu r 3 e 16 (1536 + e) rfl rfl _ fun _ => rfl

theorem reference (c : Fin 2048) : val_main_v65 (F := Ideal) x0 (ix2 r c) = pooled (at2 x0) r c := by
  pointwise [val_main_v65, val_main_v64]
  split
  · exact group0 x0 hu r _
  split
  · exact (group1 x0 hu r _).trans (congrArg (pooled (at2 x0) r) (show 512 + ((c : ℕ) - 512) = c by omega))
  split
  · exact (group2 x0 hu r _).trans (congrArg (pooled (at2 x0) r) (show 1024 + ((c : ℕ) - 512 - 512) = c by omega))
  · exact (group3 x0 hu r _).trans (congrArg (pooled (at2 x0) r) (show 1536 + ((c : ℕ) - 512 - 512 - 512) = c by omega))

end

/-- The precondition says that every entry of the left half is a real number. -/
theorem isR_left (h : Cert.Pre_projection_finite.fn (F := Ideal) x0 = fun _ => 1#1) (i c : ℕ) (hc : c < 2048) :
    IsR (at2 (m := 4352) (n := 4096) x0 i c) := by
  by_cases hi : i < 4352
  · rw [at2_eq _ _ _ hi (by omega)]
    have e := Cert.Conv.isR_of_mask _ _ (Cert.Conv.top_at _) (ix2 ⟨i, hi⟩ ⟨c, hc⟩) (congrFun h (ix2 ⟨i, hi⟩ ⟨c, hc⟩))
    refine Eq.mp (congrArg IsR ?_) e
    exact extractStridedSlice_apply (s := Cert.Pre_projection_finite.S4352x4096) (t := Cert.Pre_projection_finite.S4352x2048)
      ![0, 0] x0 _ (ix2 ⟨i, hi⟩ ⟨c, hc⟩) (ix2 ⟨i, hi⟩ ⟨c, by omega⟩) fun d => by
        fin_cases d
        · exact (Nat.zero_add _).symm
        · exact (Nat.zero_add _).symm
  · rw [at2, dif_neg (by omega)]
    exact IsR.zero

end

theorem frame_reference : Cert.quiescent_RPool2Ideal := fun m g _ =>
  (θ_run Cert.RPool2Ideal.defs _ _).mono (fun r h => ⟨fun c => (h c).2, sem_eq_zero_of_no_sems (by decide) r.2⟩)
    (Cert.RPool2Ideal.Value.run (F := Ideal) m g)

theorem algebraic : Cert.algebraic_Pool2Ideal_RPool2Ideal_pre_projection_finite := by
  intro m g m' g' hpre hagree
  refine ⟨fun c => (fun j => pooled (P m c) (j 0).val (j 1).val), ?_, ?_⟩
  · refine (θ_run Cert.Pool2Ideal.defs _ _).mono (fun r h c => ?_) (Cert.Pool2Ideal.Value.run_blocks (F := Ideal) m g)
    obtain ⟨e0, e⟩ := h c
    exact ⟨e0.trans (final m c), e⟩
  · refine (θ_run Cert.RPool2Ideal.defs _ _).mono (fun r h c => ?_) (Cert.RPool2Ideal.Value.run (F := Ideal) m' g')
    obtain ⟨e0, e⟩ := h c
    refine ⟨e0.trans ?_, e⟩
    rw [Cert.RPool2Ideal.Read.val_main_v65_eq, hagree c]
    funext j
    rw [show j = ix2 (j 0) (j 1) from by idx_ext]
    exact reference _ (isR_left _ (hpre c)) (j 0) (j 1)

end Cert.Pool2Value

end
-- ==== Proof.PoolGrad2.lean ====
/-
  The pooling's windowed means, backward: the gradient is written into the left half of the projection's gradient.
-/
module

public import proofs.«01_k».proof.Defs
public import proofs.«01_k».proof.Proof.Windows
public import proofs.«01_k».proof.Proof.Strips
public import proofs.«01_k».proof.Proof.Tiles
public import proofs.«01_k».proof.Proof.ConvClaim
public import proofs.«01_k».proof.Proof.Gen.PoolGrad2.Frame
public import proofs.«01_k».proof.Proof.Gen.PoolGrad2Ideal.Frame
public import proofs.«01_k».proof.Proof.Gen.PoolGrad2Ideal.Value
public import proofs.«01_k».proof.Proof.Gen.RPoolGrad2Ideal
public import proofs.«01_k».proof.Proof.Gen.RPoolGrad2Ideal.Run
public import proofs.«01_k».proof.Proof.Gen.RPoolGrad2Ideal.Read
public import proofs.«01_k».proof.Proof.Gen.Pre_gradient_finite

public import Idealize.ShloMosaic.Lib.Pipeline.ValueKit
public import Idealize.ShloMosaic.Lib.Claim

@[expose] public section

set_option maxRecDepth 16384

noncomputable section

namespace Cert.PoolGrad2Value

open Cert.PoolGrad2Ideal Cert.PoolGrad2Ideal.Gen Idealize.ShloMosaic Idealize.ShloMosaic.TcCoe Idealize.SL.Sem Cert.Mats
open Cert.Windows
open Cert.Conv (rows)

/-- A row's share, and zero past the sequence's end. -/
def upto (g : Mat) (c i : ℕ) : EReal := if i < rows then share g i c else 0

/-- A strip of the doubled sums of two parts put one above the other. -/
theorem strip (X : ℕ → EReal) (a : FVec Ideal S272x512 .f32) (b : FVec Ideal S16x512 .f32) (k : ℕ) (hk : k ≤ 4)
    (hc : Shape.Concatenates [S272x512, S16x512] S288x512 0) (hr : S288x512.Rotates 0 none) (hs : S288x512.Slices ![0, 0] S272x512)
    (e : Fin 512) (ha : ∀ r : Fin 272, a (ix2 r e) = X r) (hb : ∀ r : Fin 16, b (ix2 r e) = X (272 + r)) (r : Fin 272) :
    extractStridedSlice S272x512 ![0, 0] (doubles_down (m := 288) (n := 512) hr
        (concatenate S288x512 0 [⟨S272x512, a⟩, ⟨S16x512, b⟩] hc) k) hs (ix2 r e)
      = ∑ q ∈ Finset.range (2 ^ k), X (r + q) := by
  have hk' : 2 ^ k ≤ 2 ^ 4 := Nat.pow_le_pow_right (by omega) hk
  have hre := r.isLt
  refine (extractStridedSlice_apply ![0, 0] _ hs (ix2 r e) (ix2 ⟨r, by omega⟩ e) ?_).trans ?_
  · intro d
    fin_cases d
    · exact (Nat.zero_add _).symm
    · exact (Nat.zero_add _).symm
  · rw [doubles_down_at hr _ (by omega) e k _ (by show (r : ℕ) + 2 ^ k ≤ 288; omega)]
    refine Finset.sum_congr rfl fun q hq => ?_
    have := Finset.mem_range.1 hq
    rw [at2_eq _ _ _ (by show (r : ℕ) + q < 288; omega) e.isLt]
    pointwise []
    split
    · exact ha _
    · rename_i h
      have h' : ¬ (r : ℕ) + q < 272 := h
      exact (hb _).trans (congrArg X (show 272 + ((r : ℕ) + q - 272) = r + q by omega))

/-- The number of rows of a window is a positive real number. -/
theorem held_real (k r : ℕ) : ∃ b : ℝ, 0 < b ∧ held (2 ^ k) r = (b : EReal) := by
  have hk : 0 < 2 ^ k := Nat.two_pow_pos k
  refine ⟨min ((r : ℝ) + 1) ((2 ^ k : ℕ) : ℝ), lt_min (by positivity) (by exact_mod_cast hk), ?_⟩
  exact (EReal.coe_strictMono.monotone.map_min).symm

theorem div_held {x : EReal} (hx : IsR x) (k r : ℕ) : IsR (Ideal.div x (held (2 ^ k) r)) := by
  obtain ⟨b, hb, e⟩ := held_real k r
  obtain ⟨a, rfl⟩ := hx
  rw [e, Ideal.div, if_neg (by exact_mod_cast hb.ne')]
  exact ⟨a * b⁻¹, by rw [EReal.coe_mul, EReal.coe_inv]⟩

theorem zero_div_held (k r : ℕ) : Ideal.div 0 (held (2 ^ k) r) = 0 := by
  obtain ⟨b, hb, e⟩ := held_real k r
  rw [e, Ideal.div, if_neg (by exact_mod_cast hb.ne'), zero_mul]

section
variable {g : Mat} {i : grid0.Coords} {v0 : Vec Ideal S272x2048 .f32} {v2 : Vec Ideal S16x2048 .f32}
  (h0 : ∀ (r : Fin 272) (c : Fin 2048), v0 (ix2 r c) = g (272 * (i 0).val + r) c)
  (h2 : (i 0).val < 15 → ∀ (r : Fin 16) (c : Fin 2048), v2 (ix2 r c) = g (272 * ((i 0).val + 1) + r) c)

include h0 in
/-- The block's own rows' shares. -/
theorem own (k r c : ℕ) (e : Fin 512) (hk : c = 512 * k + e) (hk4 : k < 4) (hr : r < 272) (x : EReal)
    (hx : x = v0 (ix2 ⟨r, hr⟩ ⟨c, by omega⟩)) :
    Ideal.div x (held (2 ^ (k + 1)) (272 * (i 0).val + 0 + r)) = upto g c (272 * (i 0).val + r) := by
  have hi : (i 0).val < 16 := (i 0).isLt
  rw [upto, if_pos (show _ < 4352 by omega), share, width, show c / 512 = k by omega, hx, h0]
  rfl

include h2 in
/-- The shares of the sixteen rows below the block. -/
theorem below (k r c : ℕ) (e : Fin 512) (hk : c = 512 * k + e) (hk4 : k < 4) (hr : r < 16) (x : EReal)
    (hx : x = k0_pay2 i v2 (ix2 ⟨r, hr⟩ ⟨c, by omega⟩)) :
    Ideal.div x (held (2 ^ (k + 1)) (272 * (i 0).val + 272 + r)) = upto g c (272 * (i 0).val + (272 + r)) := by
  have hi : (i 0).val < 16 := (i 0).isLt
  have hx' : x = if (i 0).val < 15 then v2 (ix2 ⟨r, hr⟩ ⟨c, by omega⟩) else 0 := by
    rw [hx]
    pointwise [k0_pay2]
    rw [Cert.Conv.slt_last hi]
  rw [hx', upto]
  by_cases h : (i 0).val < 15
  · rw [if_pos h, if_pos (show _ < 4352 by omega), h2 h, share, width, show c / 512 = k by omega, Nat.mul_add, Nat.mul_one, Nat.add_assoc]
  · rw [if_neg h, if_neg (show ¬ _ < 4352 by omega), zero_div_held]

include h0 in
/-- One group's strip, from its sums and its own entries. -/
theorem part (k r c : ℕ) (e : Fin 512) (hk : c = 512 * k + e) (hk4 : k < 4) (hr : r < 272) (x y : EReal)
    (hx : x = v0 (ix2 ⟨r, hr⟩ ⟨c, by omega⟩))
    (hy : y = ∑ q ∈ Finset.range (2 ^ (k + 1)), upto g c (272 * (i 0).val + (r + q))) :
    y - x = spread g (272 * (i 0).val + r) c := by
  rw [hy, hx, h0, spread, width, show c / 512 = k by omega, ahead]
  simp only [upto, Nat.add_assoc]

include h0 h2

theorem pay3_at (r : Fin 272) (e : Fin 512) : k0_pay3 i v0 v2 (ix2 r e) = spread g (272 * (i 0).val + r) e := by
  have hi : (i 0).val < 16 := (i 0).isLt
  refine Eq.trans (show _ = extractStridedSlice S272x512 ![0, 0] (doubles_down (m := 288) (n := 512) _
    (concatenate S288x512 0 [⟨S272x512, _⟩, ⟨S16x512, _⟩] _) 1) _ (ix2 r e) - _ from rfl) ?_
  refine part h0 0 r e e (by omega) (by omega) r.isLt _ _ ?_
    (strip (fun j => upto g e (272 * (i 0).val + j)) _ _ 1 (by omega) _ _ _ e ?_ ?_ r)
  · pointwise []
  · intro r'
    pointwise []
    rw [rows_at _ 0 _ (by omega), bits_2]
    exact own h0 0 r' e e (by omega) (by omega) r'.isLt _ rfl
  · intro r'
    pointwise []
    rw [rows_at _ 272 _ (by omega), bits_2]
    exact below h2 0 r' e e (by omega) (by omega) r'.isLt _ rfl

theorem pay5_at (r : Fin 272) (e : Fin 512) :
    k0_pay5 (BitVec.ofNat 32 (i 0).val) v0 (k0_pay2 i v2) (k0_pay4 v0) (Scalar.muli (BitVec.ofNat 32 (i 0).val) 272#32) 0#32 (ix2 r e)
      = spread g (272 * (i 0).val + r) (512 + e) := by
  have hi : (i 0).val < 16 := (i 0).isLt
  refine Eq.trans (show _ = extractStridedSlice S272x512 ![0, 0] (doubles_down (m := 288) (n := 512) _
    (concatenate S288x512 0 [⟨S272x512, _⟩, ⟨S16x512, _⟩] _) 2) _ (ix2 r e) - _ from rfl) ?_
  refine part h0 1 r (512 + e) e (by omega) (by omega) r.isLt _ _ ?_
    (strip (fun j => upto g (512 + e) (272 * (i 0).val + j)) _ _ 2 (by omega) _ _ _ e ?_ ?_ r)
  · pointwise []
  · intro r'
    pointwise [k0_pay4]
    rw [rows_at _ 0 _ (by omega), bits_4]
    exact own h0 1 r' (512 + e) e (by omega) (by omega) r'.isLt _ rfl
  · intro r'
    pointwise []
    rw [rows_at _ 272 _ (by omega), bits_4]
    exact below h2 1 r' (512 + e) e (by omega) (by omega) r'.isLt _ rfl

theorem pay8_at (r : Fin 272) (e : Fin 512) :
    k0_pay8 (BitVec.ofNat 32 (i 0).val) v0 (k0_pay6 (BitVec.ofNat 32 (i 0).val) v0) (k0_pay7 (k0_pay2 i v2)) (ix2 r e)
      = spread g (272 * (i 0).val + r) (1024 + e) := by
  have hi : (i 0).val < 16 := (i 0).isLt
  refine Eq.trans (show _ = extractStridedSlice S272x512 ![0, 0] (doubles_down (m := 288) (n := 512) _
    (concatenate S288x512 0 [⟨S272x512, _⟩, ⟨S16x512, _⟩] _) 3) _ (ix2 r e) - _ from rfl) ?_
  refine part h0 2 r (1024 + e) e (by omega) (by omega) r.isLt _ _ ?_
    (strip (fun j => upto g (1024 + e) (272 * (i 0).val + j)) _ _ 3 (by omega) _ _ _ e ?_ ?_ r)
  · pointwise []
  · intro r'
    pointwise [k0_pay6]
    rw [rows_at _ 0 _ (by omega), bits_8]
    exact own h0 2 r' (1024 + e) e (by omega) (by omega) r'.isLt _ rfl
  · intro r'
    pointwise [k0_pay7]
    rw [rows_at _ 272 _ (by omega), bits_8]
    exact below h2 2 r' (1024 + e) e (by omega) (by omega) r'.isLt _ rfl

theorem pay1_at (r : Fin 272) (e : Fin 512) :
    k0_pay1 v0 (k0_pay9 (BitVec.ofNat 32 (i 0).val) v0) (k0_pay10 (k0_pay2 i v2)) (k0_pay11 (F := Ideal) (BitVec.ofNat 32 (i 0).val))
        (ix2 r e)
      = spread g (272 * (i 0).val + r) (1536 + e) := by
  have hi : (i 0).val < 16 := (i 0).isLt
  refine Eq.trans (show _ = extractStridedSlice S272x512 ![0, 0] (doubles_down (m := 288) (n := 512) _
    (concatenate S288x512 0 [⟨S272x512, _⟩, ⟨S16x512, _⟩] _) 4) _ (ix2 r e) - _ from rfl) ?_
  refine part h0 3 r (1536 + e) e (by omega) (by omega) r.isLt _ _ ?_
    (strip (fun j => upto g (1536 + e) (272 * (i 0).val + j)) _ _ 4 (by omega) _ _ _ e ?_ ?_ r)
  · pointwise []
  · intro r'
    pointwise [k0_pay9]
    rw [rows_at _ 0 _ (by omega), bits_16]
    exact own h0 3 r' (1536 + e) e (by omega) (by omega) r'.isLt _ rfl
  · intro r'
    pointwise [k0_pay10, k0_pay11]
    rw [rows_at _ 272 _ (by omega), bits_16]
    exact below h2 3 r' (1536 + e) e (by omega) (by omega) r'.isLt _ rfl

end

variable (m : (ℓ : Loc nD τ sig) → Buf (Elt Ideal) ℓ)

/-- The mixed rows' gradient, as a matrix. -/
abbrev G (c : Dev nD) : Mat := at2 (m := 4352) (n := 2048) (m ((c : Thread nD τ).loc main_arg0))

theorem coord (t : Fin cfg0.N) : (grid0.coords t 0).val = t.val :=
  (by decide +kernel : ∀ t : Fin grid0.N, (grid0.coords t 0).val = t.val) t
theorem idx0 (t : Fin cfg0.N) : win0_0.index t = ![t.val, 0] :=
  (by decide +kernel : ∀ t : Fin grid0.N, win0_0.index t = ![t.val, 0]) t
theorem idx1 (t : Fin cfg0.N) : win0_1.index t = ![min ((t.val + 1) * 17) 271, 0] :=
  (by decide +kernel : ∀ t : Fin grid0.N, win0_1.index t = ![min ((t.val + 1) * 17) 271, 0]) t
theorem idx2 (t : Fin cfg0.N) : win0_2.index t = ![t.val, 0] :=
  (by decide +kernel : ∀ t : Fin grid0.N, win0_2.index t = ![t.val, 0]) t

theorem block0 (c : Dev nD) (t : Fin cfg0.N) (r : Fin 272) (k : Fin 2048) :
    iblk m c 0 t (ix2 r k) = G m c (272 * t.val + r) k := by
  have ht : t.val < 16 := t.isLt
  refine Eq.trans ?_ (at2_eq _ _ _ (by omega) (by omega)).symm
  blk_ext [iblk, V_main_arg0, idx0]

/-- The sixteen rows below. -/
theorem block1 (c : Dev nD) (t : Fin cfg0.N) (h : t.val < 15) (r : Fin 16) (k : Fin 2048) :
    iblk m c 1 t (ix2 r k) = G m c (272 * (t.val + 1) + r) k := by
  refine Eq.trans ?_ (at2_eq _ _ _ (by omega) (by omega)).symm
  blk_ext [iblk, V_main_arg0, idx1]

theorem left (c : Dev nD) (t : Fin cfg0.N) (r : Fin 272) (e : Fin 2048) :
    outsAt0 m c t (ix2 r e) = spread (G m c) (272 * t.val + r) e := by
  have ht := coord t
  have h0 : ∀ (r : Fin 272) (k : Fin 2048), iblk m c 0 t (ix2 r k) = G m c (272 * (grid0.coords t 0).val + r) k := by
    rw [ht]
    exact block0 m c t
  have h2 : (grid0.coords t 0).val < 15 → ∀ (r : Fin 16) (k : Fin 2048), iblk m c 1 t (ix2 r k)
      = G m c (272 * ((grid0.coords t 0).val + 1) + r) k := by
    rw [ht]
    exact block1 m c t
  rw [← ht]
  unfold outsAt0 out0_A_2
  rw [View.read_writes_eq_canon _ _ _ (cover0_A_2 c _ _ _ _ _ _ _ _ _)]
  refine View.canon_eq_of_allAt _ _ _ (cover0_A_2 c _ _ _ _ _ _ _ _ _ _) ?_
  unfold kernelRun0_A
  dsimp only
  sl_unfold_words
  simp only [View.readAt_eq_ld, (hs0_0 t).read_unread, (hs0_1 t).read_unread, View.ld_unit_zero (S := S272x2048) hz2,
    View.ld_unit_zero (S := S16x2048) hz2]
  refine View.allAt_cons_unit _ _ _ _ _ (Cert.Conv.tile2 1536 _ _ r e fun k he => ?_) ?_
  · rw [he]
    exact pay1_at h0 h2 r k
  refine View.allAt_cons_unit _ _ _ _ _ (Cert.Conv.tile2 1024 _ _ r e fun k he => ?_) ?_
  · rw [he]
    exact pay8_at h0 h2 r k
  refine View.allAt_cons_unit _ _ _ _ _ (Cert.Conv.tile2 512 _ _ r e fun k he => ?_) ?_
  · rw [he]
    exact pay5_at h0 h2 r k
  refine View.allAt_cons_unit _ _ _ _ _ (Cert.Conv.tile2 0 _ _ r e fun k he => ?_) (View.allAt_nil _ _)
  rw [he, Nat.zero_add]
  exact pay3_at h0 h2 r k

/-- The left half of the joined gradient. -/
theorem final_left (c : Dev nD) (i : S4352x4096.Idx) (h : (i 1).val < 2048) : (dats m 0 c).arrAt 2 cfg0.N i
    = spread (G m c) (i 0).val (i 1).val := by
  refine (dats m 0 c).arrAt_forall_of_coversWhere 2
    (fun i v => (i 1).val < 2048 → v = spread (G m c) (i 0).val (i 1).val)
    (fun β => β 1 < 1) (by decide +kernel) (fun t hf y hy => ?_) (fun j hj hy => ?_) i (Memref.isWhole_whole _) h
  · blk_simp
    rw [after0_2, show y = ix2 (y 0) (y 1) from by idx_ext]
    refine (left m c t (y 0) (y 1)).trans ?_
    blk_simp [idx2]
    simp only [Nat.mul_comm]
  · exfalso
    blk_simp [Pipeline.Window.cell_apply] at hj hy
    omega

theorem V_v0 (c : Dev nD) : V m c main_v0 = m ((c : Thread nD τ).loc main_arg1) := by
  show StableHlo.after (List.flatten [hostOps0]) _ _ = _
  simp only [hostOps0, List.flatten_cons, List.flatten_nil, List.append_nil, List.cons_append, List.nil_append]
  after_results
  rfl

/-- The right half is as it came. -/
theorem final_right (c : Dev nD) (i : S4352x4096.Idx) (h : ¬ (i 1).val < 2048) : (dats m 0 c).arrAt 2 cfg0.N i
    = m ((c : Thread nD τ).loc main_arg1) i := by
  refine (Cert.PoolGrad2Ideal.Value.entry2 m c i fun t hf hi => ?_).trans (congrFun (V_v0 m c) i)
  obtain ⟨y, rfl⟩ := View.exists_emb_of_mem_set _ hi
  blk_simp [idx2] at h
  have hy : (y 1 : ℕ) < 2048 := (y 1).isLt
  omega

section
open Cert.RPoolGrad2Ideal.Read

variable (x0 : Vec Ideal Cert.RPoolGrad2Ideal.S4352x2048 .f32) (r : Fin 4352)

theorem shared (i c : ℕ) (hi : i < 4352) (hc : c < 2048) (w : ℕ) (hw : width c = w) :
    Ideal.div (x0 (ix2 ⟨i, hi⟩ ⟨c, hc⟩)) (min (1 + (FloatOps.sitofp .f32 (BitVec.ofNat 32 i) : Ideal .f32)) ((w : ℝ) : EReal))
      = share (at2 (m := 4352) (n := 2048) x0) i c := by
  rw [held_ref _ _ (by omega), share, hw, at2_eq _ _ _ hi hc]

/-- A row's share, less that of the row past its window. -/
theorem less (c w n : ℕ) (hn : n + w = 4352) (a : EReal) (b : (r : ℕ) < n → EReal)
    (ha : a = share (at2 (m := 4352) (n := 2048) x0) r c)
    (hb : ∀ h, b h = share (at2 (m := 4352) (n := 2048) x0) (w + r) c) :
    (a + if h : (r : ℕ) < n then -b h else 0) = upto (at2 x0) c r + -upto (at2 x0) c (r + w) := by
  have hr := r.isLt
  rw [upto, if_pos hr, upto, ha]
  by_cases h : (r : ℕ) < n
  · rw [dif_pos h, if_pos (show _ < 4352 by omega), hb, Nat.add_comm w]
  · rw [dif_neg h, if_neg (show ¬ _ < 4352 by omega), neg_zero]

section
variable (e : Fin 512)

theorem less0 : val_main_v72 (F := Ideal) x0 (ix2 r e) = upto (at2 x0) e r + -upto (at2 x0) e (r + 2) := by
  have hw : width e = 2 := by rw [width, show (e : ℕ) / 512 = 0 by omega]; rfl
  pointwise [val_main_v72, val_main_v71, val_main_v70, val_main_v68, val_main_v67, val_main_v66, val_main_v18, val_main_v8,
    val_main_v7, val_main_v5, val_main_v4, val_main_v3, val_main_v2, val_main_cst, val_main_cst_1, val_main_cst_18]
  rw [bits_2]
  exact less x0 r e 2 4350 rfl _ _ (shared x0 _ _ _ _ 2 hw) fun _ => shared x0 _ _ _ _ 2 hw

theorem less1 : val_main_v58 (F := Ideal) x0 (ix2 r e) = upto (at2 x0) (512 + e) r + -upto (at2 x0) (512 + e) (r + 4) := by
  have hw : width (512 + e) = 4 := by rw [width, show (512 + (e : ℕ)) / 512 = 1 by omega]; rfl
  pointwise [val_main_v58, val_main_v57, val_main_v56, val_main_v54, val_main_v53, val_main_v52, val_main_v19, val_main_v11,
    val_main_v10, val_main_v5, val_main_v4, val_main_v3, val_main_v2, val_main_cst, val_main_cst_3, val_main_cst_15]
  rw [bits_4]
  exact less x0 r (512 + e) 4 4348 rfl _ _ (shared x0 _ _ _ _ 4 hw) fun _ => shared x0 _ _ _ _ 4 hw

theorem less2 : val_main_v44 (F := Ideal) x0 (ix2 r e) = upto (at2 x0) (1024 + e) r + -upto (at2 x0) (1024 + e) (r + 8) := by
  have hw : width (1024 + e) = 8 := by rw [width, show (1024 + (e : ℕ)) / 512 = 2 by omega]; rfl
  pointwise [val_main_v44, val_main_v43, val_main_v42, val_main_v40, val_main_v39, val_main_v38, val_main_v20, val_main_v14,
    val_main_v13, val_main_v5, val_main_v4, val_main_v3, val_main_v2, val_main_cst, val_main_cst_5, val_main_cst_12]
  rw [bits_8]
  exact less x0 r (1024 + e) 8 4344 rfl _ _ (shared x0 _ _ _ _ 8 hw) fun _ => shared x0 _ _ _ _ 8 hw

theorem less3 : val_main_v31 (F := Ideal) x0 (ix2 r e) = upto (at2 x0) (1536 + e) r + -upto (at2 x0) (1536 + e) (r + 16) := by
  have hw : width (1536 + e) = 16 := by rw [width, show (1536 + (e : ℕ)) / 512 = 3 by omega]; rfl
  pointwise [val_main_v31, val_main_v30, val_main_v29, val_main_v27, val_main_v26, val_main_v25, val_main_v21, val_main_v17,
    val_main_v16, val_main_v5, val_main_v4, val_main_v3, val_main_v2, val_main_cst, val_main_cst_7, val_main_cst_9]
  rw [bits_16]
  exact less x0 r (1536 + e) 16 4336 rfl _ _ (shared x0 _ _ _ _ 16 hw) fun _ => shared x0 _ _ _ _ 16 hw

theorem differences (k : Fin 4) : val_main_v75 (F := Ideal) x0 (ix3 r k e)
    = upto (at2 x0) (512 * k + e) r + -upto (at2 x0) (512 * k + e) (r + 2 ^ (k.val + 1)) := by
  fin_cases k <;> pointwise [val_main_v75, val_main_v74, val_main_v73, val_main_v61, val_main_v60, val_main_v59, val_main_v47,
    val_main_v46, val_main_v45, val_main_v33, val_main_v32, val_main_cst_10, val_main_cst_13, val_main_cst_16, val_main_cst_19]
  · exact less0 x0 r e
  · exact less1 x0 r e
  · exact less2 x0 r e
  · exact less3 x0 r e

theorem negated (k : Fin 4) : val_main_v65 (F := Ideal) x0 (ix3 r k e) = -at2 (m := 4352) (n := 2048) x0 r (512 * k + e) := by
  fin_cases k <;> pointwise [val_main_v65, val_main_v64, val_main_v63, val_main_v62, val_main_v18, val_main_v51, val_main_v50,
    val_main_v49, val_main_v48, val_main_v19, val_main_v37, val_main_v36, val_main_v35, val_main_v34, val_main_v20, val_main_v24,
    val_main_v23, val_main_v22, val_main_v21, val_main_cst_8, val_main_cst_11, val_main_cst_14, val_main_cst_17]
  all_goals exact congrArg (- ·) (at2_eq x0 _ _ _ _).symm

end

variable (hg : ∀ i c, IsR (at2 (m := 4352) (n := 2048) x0 i c))
include hg

/-- The running sums of the differences, from the last row up. -/
theorem sums_at (k : Fin 4) (e : Fin 512) : val_main_v76 (F := Ideal) x0 (ix3 r k e)
    = ∑ q ∈ Finset.range (2 ^ (k.val + 1)), upto (at2 (m := 4352) (n := 2048) x0) (512 * k + e) (r + q) := by
  have hf : ∀ i, IsR (upto (at2 (m := 4352) (n := 2048) x0) (512 * k + e) i) := fun i => by
    unfold upto
    split
    · exact div_held (hg _ _) _ _
    · exact IsR.zero
  unfold val_main_v76 Host.reduceWindowAdd
  rw [Ideal.hostReduceWindowAdd_def]
  refine (window_sum (val_main_v75 x0) _ ?_ _ r k e).trans ?_
  · exact Cert.Norm.zero_bits
  · rw [← summed _ hf _ r 4352, Finset.sum_eq_zero (s := Finset.range (2 ^ (k.val + 1)))
      fun q _ => by rw [upto, if_neg (show ¬ _ < 4352 by omega)], add_zero]
    refine Finset.sum_congr rfl fun i _ => ?_
    rw [if_pos (Nat.zero_le _), Nat.sub_zero]
    by_cases h : (r : ℕ) + i < 4352
    · rw [at3_eq _ _ _ _ h k.isLt e.isLt]
      exact differences x0 ⟨r + i, h⟩ e k
    · rw [at3, dif_neg (by omega), upto, if_neg (show ¬ _ < 4352 from h), upto,
        if_neg (show ¬ _ < 4352 from fun h' => h (lt_of_le_of_lt (Nat.le_add_right _ _) h')), neg_zero, add_zero]

theorem reference (c : Fin 2048) : val_main_v79 (F := Ideal) x0 (ix2 r c) = spread (at2 x0) r c := by
  pointwise [val_main_v79, val_main_v78, val_main_v77]
  rw [negated, sums_at _ _ hg, add_comm, ← sub_eq_add_neg, spread, ahead, width]
  have e : 512 * ((c : ℕ) / 512) + (c : ℕ) % 512 = c := Nat.div_add_mod _ _
  simp only [e, upto]

end

/-- The precondition says that every entry is a real number. -/
theorem isR_all (x0 : Vec Ideal Cert.RPoolGrad2Ideal.S4352x2048 .f32) (x1 : Vec Ideal Cert.RPoolGrad2Ideal.S4352x4096 .bf16)
    (h : Cert.Pre_gradient_finite.fn (F := Ideal) x0 x1 = fun _ => 1#1) (i c : ℕ) : IsR (at2 (m := 4352) (n := 2048) x0 i c) := by
  unfold at2
  split
  · exact Cert.Conv.isR_of_mask _ _ (Cert.Conv.top_at _) _ (congrFun h _)
  · exact IsR.zero

theorem frame_reference : Cert.quiescent_RPoolGrad2Ideal := fun m g _ =>
  (θ_run Cert.RPoolGrad2Ideal.defs _ _).mono (fun r h => ⟨fun c => (h c).2, sem_eq_zero_of_no_sems (by decide) r.2⟩)
    (Cert.RPoolGrad2Ideal.Value.run (F := Ideal) m g)

theorem algebraic : Cert.algebraic_PoolGrad2Ideal_RPoolGrad2Ideal_pre_gradient_finite := by
  intro m g m' g' hpre hagree
  refine ⟨fun c => (dats m 0 c).arrAt 2 cfg0.N, Cert.PoolGrad2Ideal.Value.run_blocks (F := Ideal) m g, ?_⟩
  refine (θ_run Cert.RPoolGrad2Ideal.defs _ _).mono (fun r h c => ?_) (Cert.RPoolGrad2Ideal.Value.run (F := Ideal) m' g')
  obtain ⟨e0, e⟩ := h c
  obtain ⟨a0, a1⟩ := hagree c
  refine ⟨e0.trans ?_, e⟩
  rw [Cert.RPoolGrad2Ideal.Read.val_main_v80_eq, a0, a1]
  funext j
  rw [show j = ix2 (j 0) (j 1) from by idx_ext]
  pointwise [Cert.RPoolGrad2Ideal.Read.val_main_v80]
  split
  · rename_i hj
    exact (reference _ _ (isR_all _ _ (hpre c)) ⟨_, hj⟩).trans (final_left m c j hj).symm
  · rename_i hj
    refine Eq.trans ?_ (final_right m c j hj).symm
    pointwise [Cert.RPoolGrad2Ideal.Read.val_main_v1]
    refine congrArg _ (funext fun d => Fin.ext ?_)
    fin_cases d
    · rfl
    · exact Nat.add_sub_cancel' (Nat.not_lt.1 hj)

end Cert.PoolGrad2Value

end
-- ==== Proof.Adamw.lean ====
/-
  One step of the optimiser at an entry, and what each side of a claim forms of it.
-/
module

public import Idealize.ShloMosaic.Lib.Claim
public import Idealize.ShloMosaic.Lib.Pipeline.ValueKit

@[expose] public section

noncomputable section

namespace Cert.Adamw

open Idealize.ShloMosaic

abbrev lit (b : BitVec 32) : EReal := Scalar.ofBits (F := Ideal) .f32 b

/-- The first moment, from the gradient and the moment before. -/
def mean (g m : EReal) : EReal := lit 0x3F666666#32 * m + lit 0x3DCCCCCD#32 * g

/-- The second moment. -/
def spread (g v : EReal) : EReal := lit 0x3F7FBE77#32 * v + lit 0x3A83126F#32 * (g * g)

/-- The weight's change. -/
def change (w g m v : EReal) : EReal :=
  lit 0xBA83126F#32 * (Ideal.div (Ideal.div (mean g m) (lit 0x3F26BD02#32))
    (Ideal.sqrt (Ideal.div (spread g v) (lit 0x3C231ACC#32)) + lit 0x322BCC77#32) + lit 0x3C23D70A#32 * w)

section
variable {S : Shape}

abbrev Arr (S : Shape) : Type := S.Idx → EReal

abbrev means (g m : Arr S) : Arr S := fun i => mean (g i) (m i)
abbrev spreads (g v : Arr S) : Arr S := fun i => spread (g i) (v i)
abbrev changes (w g m v : Arr S) : Arr S := fun i => change (w i) (g i) (m i) (v i)

end

end Cert.Adamw

end
-- ==== Proof.AdamwIn.lean ====
/-
  The optimiser's step on the first layer's input weights.
-/
module

public import proofs.«01_k».proof.Defs
public import proofs.«01_k».proof.Proof.Adamw
public import proofs.«01_k».proof.Proof.Gen.AdamwInIdeal.Value
public import proofs.«01_k».proof.Proof.Gen.RAdamwInIdeal.Run
public import proofs.«01_k».proof.Proof.Gen.RAdamwInIdeal.Read

@[expose] public section

noncomputable section

namespace Cert.AdamwInValue

open Cert.AdamwInIdeal Cert.AdamwInIdeal.Gen Idealize.ShloMosaic Idealize.ShloMosaic.TcCoe Idealize.SL.Sem
open Cert.Adamw

theorem frame_reference : Cert.quiescent_RAdamwInIdeal := fun m g _ =>
  (θ_run Cert.RAdamwInIdeal.defs _ _).mono (fun r h => ⟨fun c => (h c).2.2.2, sem_eq_zero_of_no_sems (by decide) r.2⟩)
    (Cert.RAdamwInIdeal.Value.run (F := Ideal) m g)

theorem algebraic : Cert.algebraic_AdamwInIdeal_RAdamwInIdeal := by
  intro m g m' g' _ hagree
  refine ⟨fun c => changes (m ((c : Thread nD τ).loc main_arg0)) (m ((c : Thread nD τ).loc main_arg1))
      (m ((c : Thread nD τ).loc main_arg2)) (m ((c : Thread nD τ).loc main_arg3)),
    fun c => means (m ((c : Thread nD τ).loc main_arg1)) (m ((c : Thread nD τ).loc main_arg2)),
    fun c => spreads (m ((c : Thread nD τ).loc main_arg1)) (m ((c : Thread nD τ).loc main_arg3)), ?_, ?_⟩
  · exact Cert.AdamwInIdeal.Value.run (F := Ideal) m g
  · refine (θ_run Cert.RAdamwInIdeal.defs _ _).mono (fun r h c => ?_) (Cert.RAdamwInIdeal.Value.run (F := Ideal) m' g')
    obtain ⟨e0, e1, e2, e⟩ := h c
    obtain ⟨a0, a1, a2, a3⟩ := hagree c
    refine ⟨e0.trans ?_, e1.trans ?_, e2.trans ?_, e⟩
    · rw [a0, a1, a2, a3]
      rfl
    · rw [a1, a2]
      rfl
    · rw [a1, a3]
      rfl

end Cert.AdamwInValue

end
-- ==== Proof.Loss.lean ====
/-
  The loss head: the final normalisation, the squared error against the target over the rows that are neither meta
  tokens nor padding, and the backward pass through the normalisation, with the gain's gradient and the squared error's
  columns summed over sixteen blocks of rows.
-/
module

public import proofs.«01_k».proof.Defs
public import proofs.«01_k».proof.Proof.NormBack
public import proofs.«01_k».proof.Proof.Gen.LossIdeal.Value
public import proofs.«01_k».proof.Proof.Gen.RLossIdeal.Run
public import proofs.«01_k».proof.Proof.Gen.RLossIdeal.Read
public import Idealize.ShloMosaic.Lib.Pipeline.ValueKit
public import Idealize.ShloMosaic.Lib.KernelVsHost
public import Idealize.ShloMosaic.Lib.Claim

@[expose] public section

set_option maxRecDepth 16384

noncomputable section

namespace Cert.LossValue

open Cert.LossIdeal Cert.LossIdeal.Gen Idealize.ShloMosaic Idealize.ShloMosaic.TcCoe Idealize.SL.Sem Cert.Mats Cert.Norm

/-- The error: the normalised row less its target, on the rows that have one. -/
def err (h g t : Mat) : Mat := fun r e =>
  if 16 ≤ r ∧ r < 4112 then h r e * inv h r * g 0 e - t (r - 16) e else 0

/-- The gradient that reaches the normalised rows. -/
def grad (h g t : Mat) : Mat := fun r e => Ideal.div (err h g t r e) (Ideal.ofBits .f32 0x44800000#32)

/-- One row's squared error at a column. -/
def sqRow (h g t : Mat) (e r : ℕ) : EReal := err h g t r e * err h g t r e

/-! ## The body's payloads -/

/-- The body's test for a row that has a target. -/
theorem held {t r : ℕ} (ht : t < 16) (hr : r < 272) {α : Type} (x y : α) :
    Scalar.select (Scalar.andi (Scalar.cmpi CmpIPredicate.sge (BitVec.ofNat 32 t * 272#32 + BitVec.ofNat 32 r) 16#32)
      (Scalar.cmpi CmpIPredicate.slt (BitVec.ofNat 32 t * 272#32 + BitVec.ofNat 32 r) 4112#32)) x y
      = if 16 ≤ 272 * t + r ∧ 272 * t + r < 4112 then x else y := by
  have e : BitVec.ofNat 32 t * 272#32 + BitVec.ofNat 32 r = BitVec.ofNat 32 (272 * t + r) := by
    apply BitVec.eq_of_toNat_eq
    simp only [BitVec.toNat_add, BitVec.toNat_mul, BitVec.toNat_ofNat]
    omega
  rw [e]
  have hn : 272 * t + r < 4352 := by omega
  generalize 272 * t + r = n at hn
  have i : (BitVec.ofNat 32 n).toInt = (n : ℤ) := by
    rw [BitVec.toInt_eq_toNat_of_lt (by rw [BitVec.toNat_ofNat]; omega), BitVec.toNat_ofNat]
    omega
  have a : Scalar.cmpi CmpIPredicate.sge (BitVec.ofNat 32 n) 16#32 = BitVec.ofBool (decide (16 ≤ n)) := by
    refine congrArg BitVec.ofBool ?_
    show decide ((16 : ℤ) ≤ (BitVec.ofNat 32 n).toInt) = _
    rw [i]
    exact decide_eq_decide.mpr (by omega)
  have b : Scalar.cmpi CmpIPredicate.slt (BitVec.ofNat 32 n) 4112#32 = BitVec.ofBool (decide (n < 4112)) := by
    refine congrArg BitVec.ofBool ?_
    show decide ((BitVec.ofNat 32 n).toInt < (4112 : ℤ)) = _
    rw [i]
    exact decide_eq_decide.mpr (by omega)
  rw [a, b]
  by_cases h1 : 16 ≤ n <;> by_cases h2 : n < 4112 <;> simp [h1, h2, Scalar.select, Scalar.andi, IntOp.andi]

section
variable {H G T : Mat} {t : ℕ} (ht : t < 16) (i : grid0.Coords) (hi : (i 0).val = t) {h x : Vec Ideal S272x1024 .f32}
  {g : Vec Ideal S1x1024 .f32} (hh : ∀ (r : Fin 272) (k : Fin 1024), h (ix2 r k) = H (272 * t + r) k)
  (hg : ∀ k : Fin 1024, g (ix2 0 k) = G 0 k)
  (hx : ∀ (r : Fin 272) (k : Fin 1024), 16 ≤ 272 * t + r.val ∧ 272 * t + r.val < 4112 → x (ix2 r k) = T (272 * t + r - 16) k)

include ht hi hh hg hx

theorem err_end (r : Fin 272) (e : Fin 1024) : k0_pay10 i h g x (ix2 r e) = err H G T (272 * t + r) e := by
  pointwise [k0_pay10, k0_pay9, k0_pay7, k0_pay6, k0_pay5]
  rw [hi]
  refine (held ht r.isLt _ _).trans ?_
  unfold err
  split
  · rename_i hr
    simp only [hh, hg, hx r e hr]
    rfl
  · rfl

theorem grad_end (r : Fin 272) (e : Fin 1024) : k0_pay11 i h g x (ix2 r e) = grad H G T (272 * t + r) e := by
  pointwise [k0_pay11]
  rw [err_end ht i hi hh hg hx]
  rfl

theorem sq_end (e : Fin 1024) : k0_pay2 (k0_pay10 i h g x) (ix2 0 e) = ∑ r : Fin 272, sqRow H G T e (272 * t + r) := by
  pointwise [k0_pay2]
  simp only [err_end ht i hi hh hg hx]
  rfl

theorem gain_end (e : Fin 1024) : k0_pay12 i h g x (ix2 0 e) = ∑ r : Fin 272, dgRow H (grad H G T) e (272 * t + r) := by
  pointwise [k0_pay12, k0_pay9, k0_pay7, k0_pay6]
  simp only [grad_end ht i hi hh hg hx, hh]
  rfl

theorem row_end (r : Fin 272) (e : Fin 1024) :
    k0_pay1 h (k0_pay7 h) (k0_pay8 h) (k0_pay13 i h g x) (k0_pay14 i h g x) (ix2 r e) = dh H G (grad H G T) (272 * t + r) e := by
  pointwise [k0_pay1, k0_pay14, k0_pay13, k0_pay8, k0_pay7, k0_pay6, k0_pay5]
  simp only [grad_end ht i hi hh hg hx, hh, hg, Fin.sum_univ_one]
  rfl

end

theorem gain_on (x : FVec Ideal S1x1024 .f32) (y : Vec Ideal S1x1024 .f32) (e : Fin 1024) :
    k0_pay3 x y (ix2 0 e) = y (ix2 0 e) + x (ix2 0 e) := by
  pointwise [k0_pay3]

theorem sq_on (x : FVec Ideal S272x1024 .f32) (y : Vec Ideal S1x1024 .f32) (e : Fin 1024) :
    k0_pay4 x y (ix2 0 e) = y (ix2 0 e) + k0_pay2 x (ix2 0 e) := by
  pointwise [k0_pay4]

/-! ## The blocks at a grid point -/

variable (m : (ℓ : Loc nD τ sig) → Buf (Elt Ideal) ℓ)

abbrev H (c : Dev nD) : Mat := at2 (m := 4352) (n := 1024) (m ((c : Thread nD τ).loc main_arg0))
abbrev Gn (c : Dev nD) : Mat := at1 (n := 1024) (m ((c : Thread nD τ).loc main_arg1))
abbrev T (c : Dev nD) : Mat := at2 (m := 4096) (n := 1024) (m ((c : Thread nD τ).loc main_arg2))

theorem coord (t : Fin cfg0.N) : (grid0.coords t 0).val = t.val :=
  (by decide +kernel : ∀ t : Fin grid0.N, (grid0.coords t 0).val = t.val) t
theorem idx0 (t : Fin cfg0.N) : win0_0.index t = ![t.val, 0] :=
  (by decide +kernel : ∀ t : Fin grid0.N, win0_0.index t = ![t.val, 0]) t
theorem idx1 (t : Fin cfg0.N) : win0_1.index t = ![t.val, 0] :=
  (by decide +kernel : ∀ t : Fin grid0.N, win0_1.index t = ![t.val, 0]) t
theorem idx2 (t : Fin cfg0.N) : win0_2.index t = ![0, 0] :=
  (by decide +kernel : ∀ t : Fin grid0.N, win0_2.index t = ![0, 0]) t
theorem idx3 (t : Fin cfg0.N) : win0_3.index t = ![t.val, 0] :=
  (by decide +kernel : ∀ t : Fin grid0.N, win0_3.index t = ![t.val, 0]) t

theorem tile0 (c : Dev nD) (t : Fin cfg0.N) (r : Fin 272) (k : Fin 1024) :
    iblk m c 0 t (ix2 r k) = H m c (272 * t.val + r) k := by
  have ht : t.val < 16 := t.isLt
  refine Eq.trans ?_ (at2_eq _ _ _ (by omega) (by omega)).symm
  blk_ext [iblk, V_main_arg0, idx0]

theorem V_v2 (c : Dev nD) : V m c main_v2 = concatenate S4352x1024 0
    [⟨S16x1024, broadcastInDim S16x1024 ![] bcast_S_S16x1024 (constant (F := Ideal) S_ .f32 0x00000000#32)⟩,
      ⟨S4096x1024, m ((c : Thread nD τ).loc main_arg2)⟩,
      ⟨S240x1024, broadcastInDim S240x1024 ![] bcast_S_S240x1024 (constant (F := Ideal) S_ .f32 0x00000000#32)⟩]
    concatenates_S16x1024_S4096x1024_S240x1024_S4352x1024_d0 := by
  show StableHlo.after hostOps0 _ _ = _
  simp only [hostOps0]
  after_results
  rfl

/-- The padded target's rows. -/
theorem padded (x : S16x1024.Idx → EReal) (y : S4096x1024.Idx → EReal) (z : S240x1024.Idx → EReal) (j : S4352x1024.Idx)
    (r : Fin 4096) (k : Fin 1024) (hr : 16 + r.val = (j 0).val) (hk : k.val = (j 1).val) :
    concatenate S4352x1024 0 [⟨S16x1024, x⟩, ⟨S4096x1024, y⟩, ⟨S240x1024, z⟩]
      concatenates_S16x1024_S4096x1024_S240x1024_S4352x1024_d0 j = y (ix2 r k) :=
  concatenate_apply_piece (t := S4352x1024) 0 [⟨S16x1024, x⟩, ⟨S4096x1024, y⟩, ⟨S240x1024, z⟩]
    concatenates_S16x1024_S4096x1024_S240x1024_S4352x1024_d0 j 1 (by simp) S4096x1024 y rfl rfl 16 (by simp)
    (ix2 r k) (fun b hb => match b with
      | ⟨0, _⟩ => absurd rfl hb
      | ⟨1, _⟩ => hk) hr

theorem tile1 (c : Dev nD) (t : Fin cfg0.N) (r : Fin 272) (k : Fin 1024)
    (h : 16 ≤ 272 * t.val + r.val ∧ 272 * t.val + r.val < 4112) :
    iblk m c 1 t (ix2 r k) = T m c (272 * t.val + r - 16) k := by
  refine Eq.trans ?_ (at2_eq _ _ _ (by omega) k.isLt).symm
  refine (congrFun (V_v2 m c) ((win0_1.blk t).view.emb (ix2 r k))).trans ?_
  refine padded _ _ _ _ _ _ ?_ ?_
  · blk_simp [idx1]
    dsimp only
    omega
  · blk_simp [idx1]

theorem tile2 (c : Dev nD) (t : Fin cfg0.N) (k : Fin 1024) : iblk m c 2 t (ix2 0 k) = Gn m c 0 k := by
  refine Eq.trans ?_ (at1_eq _ _ _ (by omega)).symm
  blk_ext! [iblk, idx2]

/-! ## What the outputs' windows hold after a point -/

/-- The gradient of the rows, a block at a time. -/
theorem left_rows (c : Dev nD) (t : Fin cfg0.N) (r : Fin 272) (e : Fin 1024) : (outsAt0 m c t.val t.isLt).1 (ix2 r e)
    = dh (H m c) (Gn m c) (grad (H m c) (Gn m c) (T m c)) (272 * t.val + r) e := by
  have main := row_end (T := T m c) t.isLt (grid0.coords t) (coord t) (tile0 m c t) (tile2 m c t) (tile1 m c t) r e
  by_cases h : t.val % 16 = 0
  · have ht : t.val < 16 := t.isLt
    rw [outsAt0_A m c t h (by omega)]
    dsimp only
    unfold out0_A_3
    rw [View.read_writes_eq_canon _ _ _ (cover0_A_3 c _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread,
      View.ld_unit_zero (S := S272x1024) hz2, View.ld_unit_zero (S := S1x1024) hz2]
    exact main
  · rw [outsAt0_B m c t h (by omega)]
    dsimp only
    unfold out0_B_3
    rw [View.read_writes_eq_canon _ _ _ (cover0_B_3 c _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread,
      View.ld_unit_zero (S := S272x1024) hz2, View.ld_unit_zero (S := S1x1024) hz2]
    exact main

/-- The gain's gradient: the sum over the blocks of rows so far. -/
theorem left_gain (c : Dev nD) (e : Fin 1024) (n : ℕ) (h : n < cfg0.N) : (outsAt0 m c n h).2.1 (ix2 0 e)
    = ∑ r ∈ Finset.range (272 * ((n + 1) / 1)), dgRow (H m c) (grad (H m c) (Gn m c) (T m c)) e r := by
  refine gain_run (K := 1) (by omega) (fun n h => (outsAt0 m c n h).2.1 (ix2 0 e))
    (dgRow (H m c) (grad (H m c) (Gn m c) (T m c)) e) (fun n h _ h1 => ?_) (fun n h _ h1 => ?_) (fun n h h1 => ?_) n h (by omega)
  · have main := gain_end (T := T m c) h (grid0.coords ⟨n, h⟩) (coord ⟨n, h⟩) (tile0 m c ⟨n, h⟩) (tile2 m c ⟨n, h⟩) (tile1 m c ⟨n, h⟩) e
    have hA := outsAt0_A m c ⟨n, h⟩ (by simp only []; omega) (by simp only []; omega)
    dsimp only at hA
    rw [hA, Nat.div_one]
    dsimp only
    unfold out0_A_4
    rw [View.read_writes_eq_canon _ _ _ (cover0_A_4 c _ _ _ _ _ _ _ _ _ _ _ _ _ _ _ _ _ _)]
    unfold kernelRun0_A
    dsimp only
    sl_unfold_words
    rw [View.canon_unit_zero hz2]
    simp only [View.readAt_eq_ld, (hs0_0 ⟨n, h⟩).read_unread, (hs0_1 ⟨n, h⟩).read_unread, (hs0_2 ⟨n, h⟩).read_unread,
      View.ld_unit_zero (S := S272x1024) hz2, View.ld_unit_zero (S := S1x1024) hz2]
    exact main
  · have h16 : n < 16 := h
    have main := gain_end (T := T m c) h (grid0.coords ⟨n, h⟩) (coord ⟨n, h⟩) (tile0 m c ⟨n, h⟩) (tile2 m c ⟨n, h⟩) (tile1 m c ⟨n, h⟩) e
    have hB := outsAt0_B m c ⟨n, h⟩ (by simp only []; omega) (by simp only []; omega)
    dsimp only at hB
    rw [hB, Nat.div_one]
    dsimp only
    unfold out0_B_4
    rw [View.read_writes_eq_canon _ _ _ (cover0_B_4 c _ _ _ _ _ _ _ _ _ _ _ _ _ _ _ _ _ _ _ _)]
    unfold kernelRun0_B
    dsimp only
    sl_unfold_words
    rw [View.canon_unit_zero hz2]
    simp only [View.readAt_eq_ld, (hs0_0 ⟨n, h⟩).read_unread, (hs0_1 ⟨n, h⟩).read_unread, (hs0_2 ⟨n, h⟩).read_unread,
      (hs0_4 ⟨n, h⟩).read_unread, View.ld_unit_zero (S := S272x1024) hz2, View.ld_unit_zero (S := S1x1024) hz2]
    rw [gain_on]
    exact congrArg (_ + ·) main
  · omega

/-- The squared error: the sum over the blocks of rows so far. -/
theorem left_sq (c : Dev nD) (e : Fin 1024) (n : ℕ) (h : n < cfg0.N) : (outsAt0 m c n h).2.2 (ix2 0 e)
    = ∑ r ∈ Finset.range (272 * ((n + 1) / 1)), sqRow (H m c) (Gn m c) (T m c) e r := by
  refine gain_run (K := 1) (by omega) (fun n h => (outsAt0 m c n h).2.2 (ix2 0 e))
    (sqRow (H m c) (Gn m c) (T m c) e) (fun n h _ h1 => ?_) (fun n h _ h1 => ?_) (fun n h h1 => ?_) n h (by omega)
  · have main := sq_end (T := T m c) h (grid0.coords ⟨n, h⟩) (coord ⟨n, h⟩) (tile0 m c ⟨n, h⟩) (tile2 m c ⟨n, h⟩) (tile1 m c ⟨n, h⟩) e
    have hA := outsAt0_A m c ⟨n, h⟩ (by simp only []; omega) (by simp only []; omega)
    dsimp only at hA
    rw [hA, Nat.div_one]
    dsimp only
    unfold out0_A_5
    rw [View.read_writes_eq_canon _ _ _ (cover0_A_5 c _ _ _ _ _ _ _ _ _ _ _ _ _ _ _ _ _ _)]
    unfold kernelRun0_A
    dsimp only
    sl_unfold_words
    rw [View.canon_unit_zero hz2]
    simp only [View.readAt_eq_ld, (hs0_0 ⟨n, h⟩).read_unread, (hs0_1 ⟨n, h⟩).read_unread, (hs0_2 ⟨n, h⟩).read_unread,
      View.ld_unit_zero (S := S272x1024) hz2, View.ld_unit_zero (S := S1x1024) hz2]
    exact main
  · have h16 : n < 16 := h
    have main := sq_end (T := T m c) h (grid0.coords ⟨n, h⟩) (coord ⟨n, h⟩) (tile0 m c ⟨n, h⟩) (tile2 m c ⟨n, h⟩) (tile1 m c ⟨n, h⟩) e
    have hB := outsAt0_B m c ⟨n, h⟩ (by simp only []; omega) (by simp only []; omega)
    dsimp only at hB
    rw [hB, Nat.div_one]
    dsimp only
    unfold out0_B_5
    rw [View.read_writes_eq_canon _ _ _ (cover0_B_5 c _ _ _ _ _ _ _ _ _ _ _ _ _ _ _ _ _ _ _ _)]
    unfold kernelRun0_B
    dsimp only
    sl_unfold_words
    rw [View.canon_unit_zero hz2]
    simp only [View.readAt_eq_ld, (hs0_0 ⟨n, h⟩).read_unread, (hs0_1 ⟨n, h⟩).read_unread, (hs0_2 ⟨n, h⟩).read_unread,
      (hs0_5 ⟨n, h⟩).read_unread, View.ld_unit_zero (S := S272x1024) hz2, View.ld_unit_zero (S := S1x1024) hz2]
    rw [sq_on]
    exact congrArg (_ + ·) main
  · omega

/-! ## The arrays after the run -/

theorem final_rows (c : Dev nD) : (dats m 0 c).arrAt 3 cfg0.N
    = (fun j => dh (H m c) (Gn m c) (grad (H m c) (Gn m c) (T m c)) (j 0).val (j 1).val : S4352x1024.Idx → EReal) := by
  refine (dats m 0 c).arrAt_eq_of_covers 3 _ (by decide +kernel) fun t hf y => ?_
  blk_simp
  rw [after0_3, show y = ix2 (y 0) (y 1) from by idx_ext]
  refine (left_rows m c t (y 0) (y 1)).trans ?_
  blk_simp [idx3]
  simp only [Nat.mul_comm]

/-- The grid's last point. -/
def last : Fin cfg0.N := ⟨15, by rw [show cfg0.N = 16 from N_0]; omega⟩

theorem final_gain (c : Dev nD) : (dats m 0 c).arrAt 4 cfg0.N
    = (fun j => dg (H m c) (grad (H m c) (Gn m c) (T m c)) (j 1).val : S1x1024.Idx → EReal) := by
  refine (dats m 0 c).arrAt_eq_of_after_last 4 last (by decide +kernel) _ fun j => ?_
  blk_simp
  rw [after0_4, show j = ix2 0 (j 1) from by idx_ext]
  exact left_gain m c (j 1) 15 last.isLt

theorem final_sq (c : Dev nD) : (dats m 0 c).arrAt 5 cfg0.N
    = (fun j => ∑ r ∈ Finset.range 4352, sqRow (H m c) (Gn m c) (T m c) (j 1).val r : S1x1024.Idx → EReal) := by
  refine (dats m 0 c).arrAt_eq_of_after_last 5 last (by decide +kernel) _ fun j => ?_
  blk_simp
  rw [after0_5, show j = ix2 0 (j 1) from by idx_ext]
  exact left_sq m c (j 1) 15 last.isLt

/-! ## The reference -/

theorem bits_half : Ideal.ofBits FTy.f32 0x3F000000#32 = ((2⁻¹ : ℝ) : EReal) := by
  norm_num [Ideal.ofBits, Ideal.ieee, Nat.shiftRight_eq_div_pow, BitVec.extractLsb']
theorem bits_one : Ideal.ofBits FTy.f32 0x3F800000#32 = ((1 : ℝ) : EReal) := by
  norm_num [Ideal.ofBits, Ideal.ieee, Nat.shiftRight_eq_div_pow, BitVec.extractLsb']
theorem bits_two : Ideal.ofBits FTy.f32 0x40000000#32 = ((2 : ℝ) : EReal) := by
  norm_num [Ideal.ofBits, Ideal.ieee, Nat.shiftRight_eq_div_pow, BitVec.extractLsb']
theorem bits_width : Ideal.ofBits FTy.f32 0x44800000#32 = ((1024 : ℝ) : EReal) := by
  norm_num [Ideal.ofBits, Ideal.ieee, Nat.shiftRight_eq_div_pow, BitVec.extractLsb']

theorem div_width (x : EReal) : Ideal.div x (Ideal.ofBits FTy.f32 0x44800000#32) = x * ((1024⁻¹ : ℝ) : EReal) := by
  rw [bits_width, Ideal.div, if_neg (by exact_mod_cast (by norm_num : (1024 : ℝ) ≠ 0)), EReal.coe_inv]

/-- Half the gradient of a square, spread over the width, is the error over the width. -/
theorem half_square (x : EReal) :
    Ideal.div (Ideal.ofBits FTy.f32 0x3F000000#32 * Ideal.ofBits FTy.f32 0x3F800000#32) (Ideal.ofBits FTy.f32 0x44800000#32)
      * (Ideal.ofBits FTy.f32 0x40000000#32 * x) = Ideal.div x (Ideal.ofBits FTy.f32 0x44800000#32) := by
  rw [div_width, div_width, bits_half, bits_one, bits_two, ← mul_assoc, ← EReal.coe_mul, ← EReal.coe_mul, ← EReal.coe_mul,
    mul_comm x]
  norm_num

section Reference

open Cert.RLossIdeal.Read

variable (x0 : Vec Ideal Cert.RLossIdeal.S4352x1024 .f32) (x1 : Vec Ideal Cert.RLossIdeal.S1024 .f32)
  (x2 : Vec Ideal Cert.RLossIdeal.S4096x1024 .f32)

theorem ref_err (r : Fin 4096) (e : Fin 1024) :
    val_main_v17 x0 x1 x2 (ix2 r e) = err (at2 x0) (at1 x1) (at2 x2) (16 + r) e := by
  have hr : 16 + r.val < 4352 := by omega
  unfold err
  rw [if_pos (by omega), val_main_v17_apply, val_main_v16_apply, val_main_v15_apply, val_main_v14_apply, val_main_v13_apply,
    Nat.add_sub_cancel_left]
  refine congrArg₂ (· - ·) (congrArg₂ (· * ·) ?_ ?_) (of_ix2 x2 r e)
  · exact (congrArg (val_main_v12 x0) (by idx_ext)).trans (NormBack.scaled_at x0 ⟨16 + r.val, hr⟩ e)
  · exact (congrArg x1 (by idx_ext)).trans (of_ix1 x1 e)

/-- The gradient that reaches the rows with a target. -/
theorem ref_grad (r : Fin 4096) (e : Fin 1024) :
    val_main_v31 x0 x1 x2 (ix2 r e) = grad (at2 x0) (at1 x1) (at2 x2) (16 + r) e := by
  rw [val_main_v31_apply, val_main_v30_apply, val_main_v29_apply, val_main_v28_apply, val_main_v27_apply, val_main_v26_apply,
    val_main_v20_apply, val_main_v19_apply, ref_err]
  exact half_square _

/-- The gradient that reaches the normalised rows. -/
theorem ref_padded (r : Fin 4352) (e : Fin 1024) :
    val_main_v32 x0 x1 x2 (ix2 r e) = grad (at2 x0) (at1 x1) (at2 x2) r e := by
  unfold val_main_v32
  by_cases h : 16 ≤ r.val ∧ r.val < 4112
  · refine (pad_apply_of_inside _ _ _ _ _ _ _ _ (ix2 (⟨r.val - 16, by omega⟩ : Fin 4096) e) fun a => ?_).trans
      ((ref_grad x0 x1 x2 ⟨r.val - 16, by omega⟩ e).trans ?_)
    · match a with
      | ⟨0, _⟩ => show r.val = 16 + (r.val - 16) * (0 + 1); omega
      | ⟨1, _⟩ => show e.val = 0 + e.val * (0 + 1); omega
    · show grad _ _ _ (16 + (r.val - 16)) _ = _
      rw [show 16 + (r.val - 16) = r.val by omega]
  · refine (pad_apply_of_not_inside _ _ _ _ _ _ _ _ 0 ?_).trans ?_
    · show ¬(16 ≤ r.val ∧ (r.val - 16) % (0 + 1) = 0 ∧ (r.val - 16) / (0 + 1) < 4096)
      omega
    · unfold grad err
      rw [if_neg h, div_width, zero_mul]
      exact zero_bits

theorem ref_rows (r : Fin 4352) (e : Fin 1024) : val_main_v52 x0 x1 x2 (ix2 r e)
    = dh (at2 x0) (at1 x1) (grad (at2 x0) (at1 x1) (at2 x2)) r e :=
  NormBack.back_at x0 x1 (val_main_v32 x0 x1 x2) (ref_padded x0 x1 x2) r e

theorem ref_gain (e : Fin 1024) : val_main_v53 x0 x1 x2 (ix2 0 e) = dg (at2 x0) (grad (at2 x0) (at1 x1) (at2 x2)) e :=
  NormBack.gain_at x0 (val_main_v32 x0 x1 x2) (ref_padded x0 x1 x2) e

/-- Only the rows with a target add to the sum. -/
theorem sum_held (h g t : Mat) (e : ℕ) :
    ∑ r ∈ Finset.range 4352, sqRow h g t e r = ∑ r ∈ Finset.range 4096, sqRow h g t e (16 + r) := by
  have out : ∀ r, ¬(16 ≤ r ∧ r < 4112) → sqRow h g t e r = 0 := fun r hr => by rw [sqRow, err, if_neg hr, zero_mul]
  rw [show (4352 : ℕ) = 16 + 4336 from rfl, Finset.sum_range_add, show (4336 : ℕ) = 4096 + 240 from rfl, Finset.sum_range_add,
    Finset.sum_eq_zero (s := Finset.range 16) fun r hr => out r (by rw [Finset.mem_range] at hr; omega),
    Finset.sum_eq_zero (s := Finset.range 240) fun r hr => out (16 + (4096 + r)) (by omega), zero_add, add_zero]

theorem ref_sq (e : Fin 1024) : val_main_v55 x0 x1 x2 (ix2 0 e)
    = ∑ r ∈ Finset.range 4352, sqRow (at2 x0) (at1 x1) (at2 x2) e r := by
  rw [val_main_v55_apply, val_main_v54_apply, sum_held, Finset.sum_range]
  refine (congrArg (· + _) zero_bits).trans ((zero_add _).trans (Finset.sum_congr rfl fun r _ => ?_))
  rw [val_main_v18_apply, show idx_main_v54 (idx_main_v55 (ix2 0 e)) r = ix2 r e from by idx_ext, ref_err]
  rfl

end Reference

/-! ## The claims -/

theorem frame_reference : Cert.quiescent_RLossIdeal := fun m g _ =>
  (θ_run Cert.RLossIdeal.defs _ _).mono (fun r h => ⟨fun c => (h c).2.2.2, sem_eq_zero_of_no_sems (by decide) r.2⟩)
    (Cert.RLossIdeal.Value.run (F := Ideal) m g)

theorem algebraic : Cert.algebraic_LossIdeal_RLossIdeal := by
  intro m g m' g' _ hagree
  refine ⟨fun c => (fun j => dh (H m c) (Gn m c) (grad (H m c) (Gn m c) (T m c)) (j 0).val (j 1).val),
    fun c => (fun j => dg (H m c) (grad (H m c) (Gn m c) (T m c)) (j 1).val),
    fun c => (fun j => ∑ r ∈ Finset.range 4352, sqRow (H m c) (Gn m c) (T m c) (j 1).val r : S1x1024.Idx → EReal), ?_, ?_⟩
  · refine (θ_run Cert.LossIdeal.defs _ _).mono (fun r h c => ?_) (Cert.LossIdeal.Value.run_blocks (F := Ideal) m g)
    obtain ⟨e0, e1, e2, e⟩ := h c
    exact ⟨e0.trans (final_rows m c), e1.trans (final_gain m c), e2.trans (final_sq m c), e⟩
  · refine (θ_run Cert.RLossIdeal.defs _ _).mono (fun r h c => ?_) (Cert.RLossIdeal.Value.run (F := Ideal) m' g')
    obtain ⟨e0, e1, e2, e⟩ := h c
    obtain ⟨a0, a1, a2⟩ := hagree c
    refine ⟨e0.trans ?_, e1.trans ?_, e2.trans ?_, e⟩
    · rw [Cert.RLossIdeal.Read.val_main_v52_eq, a0, a1, a2]
      funext j
      rw [show j = ix2 (j 0) (j 1) from by idx_ext]
      exact ref_rows _ _ _ (j 0) (j 1)
    · rw [Cert.RLossIdeal.Read.val_main_v53_eq, a0, a1, a2]
      funext j
      rw [show j = ix2 0 (j 1) from by idx_ext]
      exact ref_gain _ _ _ (j 1)
    · rw [Cert.RLossIdeal.Read.val_main_v55_eq, a0, a1, a2]
      funext j
      rw [show j = ix2 0 (j 1) from by idx_ext]
      exact ref_sq _ _ _ (j 1)

end Cert.LossValue

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_all_finite
public import proofs.«01_k».proof.Proof.Gen.NormGrad1.Frame
public import proofs.«01_k».proof.Proof.Gen.NormGrad1Ideal.Frame
public import proofs.«01_k».proof.Proof.Gen.NormGrad1Ideal.Value
public import proofs.«01_k».proof.Proof.Gen.RNormGrad1Ideal
public import proofs.«01_k».proof.Proof.Gen.RNormGrad1Ideal.Run
public import proofs.«01_k».proof.Proof.Gen.RNormGrad1Ideal.Read
public import proofs.«01_k».proof.Proof.Gen.NormGrad2.Frame
public import proofs.«01_k».proof.Proof.Gen.NormGrad2Ideal.Frame
public import proofs.«01_k».proof.Proof.Gen.NormGrad2Ideal.Value
public import proofs.«01_k».proof.Proof.Gen.RNormGrad2Ideal
public import proofs.«01_k».proof.Proof.Gen.RNormGrad2Ideal.Run
public import proofs.«01_k».proof.Proof.Gen.RNormGrad2Ideal.Read
public import proofs.«01_k».proof.Proof.Gen.NormGrad3.Frame
public import proofs.«01_k».proof.Proof.Gen.NormGrad3Ideal.Frame
public import proofs.«01_k».proof.Proof.Gen.NormGrad3Ideal.Value
public import proofs.«01_k».proof.Proof.Gen.RNormGrad3Ideal
public import proofs.«01_k».proof.Proof.Gen.RNormGrad3Ideal.Run
public import proofs.«01_k».proof.Proof.Gen.RNormGrad3Ideal.Read
public import proofs.«01_k».proof.Proof.Gen.InGrad1.Frame
public import proofs.«01_k».proof.Proof.Gen.InGrad1Ideal.Frame
public import proofs.«01_k».proof.Proof.Gen.InGrad1Ideal.Value
public import proofs.«01_k».proof.Proof.Gen.RInGrad1Ideal
public import proofs.«01_k».proof.Proof.Gen.RInGrad1Ideal.Run
public import proofs.«01_k».proof.Proof.Gen.RInGrad1Ideal.Read
public import proofs.«01_k».proof.Proof.Gen.InGrad2.Frame
public import proofs.«01_k».proof.Proof.Gen.InGrad2Ideal.Frame
public import proofs.«01_k».proof.Proof.Gen.InGrad2Ideal.Value
public import proofs.«01_k».proof.Proof.Gen.RInGrad2Ideal
public import proofs.«01_k».proof.Proof.Gen.RInGrad2Ideal.Run
public import proofs.«01_k».proof.Proof.Gen.RInGrad2Ideal.Read
public import proofs.«01_k».proof.Proof.Gen.InGrad3.Frame
public import proofs.«01_k».proof.Proof.Gen.InGrad3Ideal.Frame
public import proofs.«01_k».proof.Proof.Gen.InGrad3Ideal.Value
public import proofs.«01_k».proof.Proof.Gen.RInGrad3Ideal
public import proofs.«01_k».proof.Proof.Gen.RInGrad3Ideal.Run
public import proofs.«01_k».proof.Proof.Gen.RInGrad3Ideal.Read
public import proofs.«01_k».proof.Proof.Gen.OutGrad1.Frame
public import proofs.«01_k».proof.Proof.Gen.OutGrad1Ideal.Frame
public import proofs.«01_k».proof.Proof.Gen.OutGrad1Ideal.Value
public import proofs.«01_k».proof.Proof.Gen.ROutGrad1Ideal
public import proofs.«01_k».proof.Proof.Gen.ROutGrad1Ideal.Run
public import proofs.«01_k».proof.Proof.Gen.ROutGrad1Ideal.Read
public import proofs.«01_k».proof.Proof.Gen.OutGrad3.Frame
public import proofs.«01_k».proof.Proof.Gen.OutGrad3Ideal.Frame
public import proofs.«01_k».proof.Proof.Gen.OutGrad3Ideal.Value
public import proofs.«01_k».proof.Proof.Gen.ROutGrad3Ideal
public import proofs.«01_k».proof.Proof.Gen.ROutGrad3Ideal.Run
public import proofs.«01_k».proof.Proof.Gen.ROutGrad3Ideal.Read
public import proofs.«01_k».proof.Proof.Gen.GluGrad3.Frame
public import proofs.«01_k».proof.Proof.Gen.GluGrad3Ideal.Frame
public import proofs.«01_k».proof.Proof.Gen.GluGrad3Ideal.Value
public import proofs.«01_k».proof.Proof.Gen.RGluGrad3Ideal
public import proofs.«01_k».proof.Proof.Gen.RGluGrad3Ideal.Run
public import proofs.«01_k».proof.Proof.Gen.RGluGrad3Ideal.Read
public import proofs.«01_k».proof.Proof.Gen.Out1.Frame
public import proofs.«01_k».proof.Proof.Gen.Out1Ideal.Frame
public import proofs.«01_k».proof.Proof.Gen.Out1Ideal.Value
public import proofs.«01_k».proof.Proof.Gen.ROut1Ideal
public import proofs.«01_k».proof.Proof.Gen.ROut1Ideal.Run
public import proofs.«01_k».proof.Proof.Gen.ROut1Ideal.Read
public import proofs.«01_k».proof.Proof.Gen.Out3.Frame
public import proofs.«01_k».proof.Proof.Gen.Out3Ideal.Frame
public import proofs.«01_k».proof.Proof.Gen.Out3Ideal.Value
public import proofs.«01_k».proof.Proof.Gen.ROut3Ideal
public import proofs.«01_k».proof.Proof.Gen.ROut3Ideal.Run
public import proofs.«01_k».proof.Proof.Gen.ROut3Ideal.Read
public import proofs.«01_k».proof.Proof.Gen.YgGrad3.Frame
public import proofs.«01_k».proof.Proof.Gen.YgGrad3Ideal.Frame
public import proofs.«01_k».proof.Proof.Gen.YgGrad3Ideal.Value
public import proofs.«01_k».proof.Proof.Gen.RYgGrad3Ideal
public import proofs.«01_k».proof.Proof.Gen.RYgGrad3Ideal.Run
public import proofs.«01_k».proof.Proof.Gen.RYgGrad3Ideal.Read
public import proofs.«01_k».proof.Proof.Gen.In1
public import proofs.«01_k».proof.Proof.Gen.In1Ideal.Frame
public import proofs.«01_k».proof.Proof.Gen.RIn1Ideal
public import proofs.«01_k».proof.Proof.Gen.RIn1Ideal.Run
public import proofs.«01_k».proof.Proof.Gen.RIn1Ideal.Read
public import proofs.«01_k».proof.Proof.Gen.In2
public import proofs.«01_k».proof.Proof.Gen.In2Ideal.Frame
public import proofs.«01_k».proof.Proof.Gen.RIn2Ideal
public import proofs.«01_k».proof.Proof.Gen.RIn2Ideal.Run
public import proofs.«01_k».proof.Proof.Gen.RIn2Ideal.Read
public import proofs.«01_k».proof.Proof.Gen.In3
public import proofs.«01_k».proof.Proof.Gen.In3Ideal.Frame
public import proofs.«01_k».proof.Proof.Gen.RIn3Ideal
public import proofs.«01_k».proof.Proof.Gen.RIn3Ideal.Run
public import proofs.«01_k».proof.Proof.Gen.RIn3Ideal.Read
public import proofs.«01_k».proof.Proof.Gen.MixedGrad2.Frame
public import proofs.«01_k».proof.Proof.Gen.MixedGrad2Ideal.Frame
public import proofs.«01_k».proof.Proof.Gen.MixedGrad2Ideal.Value
public import proofs.«01_k».proof.Proof.Gen.RMixedGrad2Ideal
public import proofs.«01_k».proof.Proof.Gen.RMixedGrad2Ideal.Run
public import proofs.«01_k».proof.Proof.Gen.RMixedGrad2Ideal.Read
public import proofs.«01_k».proof.Proof.Gen.GrpGrad2.Frame
public import proofs.«01_k».proof.Proof.Gen.GrpGrad2Ideal.Frame
public import proofs.«01_k».proof.Proof.Gen.GrpGrad2Ideal.Value
public import proofs.«01_k».proof.Proof.Gen.RGrpGrad2Ideal
public import proofs.«01_k».proof.Proof.Gen.RGrpGrad2Ideal.Run
public import proofs.«01_k».proof.Proof.Gen.RGrpGrad2Ideal.Read
public import proofs.«01_k».proof.Proof.Gen.Grp2.Frame
public import proofs.«01_k».proof.Proof.Gen.Grp2Ideal.Frame
public import proofs.«01_k».proof.Proof.Gen.Grp2Ideal.Value
public import proofs.«01_k».proof.Proof.Gen.RGrp2Ideal
public import proofs.«01_k».proof.Proof.Gen.RGrp2Ideal.Run
public import proofs.«01_k».proof.Proof.Gen.RGrp2Ideal.Read
public import proofs.«01_k».proof.Proof.Gen.Glu3.Frame
public import proofs.«01_k».proof.Proof.Gen.Glu3Ideal.Frame
public import proofs.«01_k».proof.Proof.Gen.Glu3Ideal.Value
public import proofs.«01_k».proof.Proof.Gen.RGlu3Ideal
public import proofs.«01_k».proof.Proof.Gen.RGlu3Ideal.Run
public import proofs.«01_k».proof.Proof.Gen.RGlu3Ideal.Read
public import proofs.«01_k».proof.Proof.Gen.PoolGate2.Frame
public import proofs.«01_k».proof.Proof.Gen.PoolGate2Ideal.Frame
public import proofs.«01_k».proof.Proof.Gen.PoolGate2Ideal.Run
public import proofs.«01_k».proof.Proof.Gen.PoolGate2Ideal.Read
public import proofs.«01_k».proof.Proof.Gen.RPoolGate2Ideal
public import proofs.«01_k».proof.Proof.Gen.RPoolGate2Ideal.Run
public import proofs.«01_k».proof.Proof.Gen.RPoolGate2Ideal.Read
public import proofs.«01_k».proof.Proof.Gen.GateGrad3.Frame
public import proofs.«01_k».proof.Proof.Gen.GateGrad3Ideal.Frame
public import proofs.«01_k».proof.Proof.Gen.GateGrad3Ideal.Run
public import proofs.«01_k».proof.Proof.Gen.GateGrad3Ideal.Read
public import proofs.«01_k».proof.Proof.Gen.RGateGrad3Ideal
public import proofs.«01_k».proof.Proof.Gen.RGateGrad3Ideal.Run
public import proofs.«01_k».proof.Proof.Gen.RGateGrad3Ideal.Read
public import proofs.«01_k».proof.Proof.Gen.Conv1.Frame
public import proofs.«01_k».proof.Proof.Gen.Conv1Ideal.Frame
public import proofs.«01_k».proof.Proof.Gen.Conv1Ideal.Value
public import proofs.«01_k».proof.Proof.Gen.RConv1Ideal
public import proofs.«01_k».proof.Proof.Gen.RConv1Ideal.Run
public import proofs.«01_k».proof.Proof.Gen.RConv1Ideal.Read
public import proofs.«01_k».proof.Proof.Gen.Pool2.Frame
public import proofs.«01_k».proof.Proof.Gen.Pool2Ideal.Frame
public import proofs.«01_k».proof.Proof.Gen.Pool2Ideal.Value
public import proofs.«01_k».proof.Proof.Gen.RPool2Ideal
public import proofs.«01_k».proof.Proof.Gen.RPool2Ideal.Run
public import proofs.«01_k».proof.Proof.Gen.RPool2Ideal.Read
public import proofs.«01_k».proof.Proof.Gen.Pre_projection_finite
public import proofs.«01_k».proof.Proof.Gen.PoolGrad2.Frame
public import proofs.«01_k».proof.Proof.Gen.PoolGrad2Ideal.Frame
public import proofs.«01_k».proof.Proof.Gen.PoolGrad2Ideal.Value
public import proofs.«01_k».proof.Proof.Gen.RPoolGrad2Ideal
public import proofs.«01_k».proof.Proof.Gen.RPoolGrad2Ideal.Run
public import proofs.«01_k».proof.Proof.Gen.RPoolGrad2Ideal.Read
public import proofs.«01_k».proof.Proof.Gen.AdamwIn.Frame
public import proofs.«01_k».proof.Proof.Gen.AdamwInIdeal.Frame
public import proofs.«01_k».proof.Proof.Gen.AdamwInIdeal.Value
public import proofs.«01_k».proof.Proof.Gen.RAdamwInIdeal
public import proofs.«01_k».proof.Proof.Gen.RAdamwInIdeal.Run
public import proofs.«01_k».proof.Proof.Gen.RAdamwInIdeal.Read
public import proofs.«01_k».proof.Proof.Gen.Loss.Frame
public import proofs.«01_k».proof.Proof.Gen.LossIdeal.Frame
public import proofs.«01_k».proof.Proof.Gen.LossIdeal.Value
public import proofs.«01_k».proof.Proof.Gen.RLossIdeal
public import proofs.«01_k».proof.Proof.Gen.RLossIdeal.Run
public import proofs.«01_k».proof.Proof.Gen.RLossIdeal.Read
public import proofs.«01_k».proof.Proof.Gen.Pre_gradient_finite
public import proofs.«01_k».proof.Proof.ConvClaim
public import proofs.«01_k».proof.Proof.NormGrad1
public import proofs.«01_k».proof.Proof.NormGrad2
public import proofs.«01_k».proof.Proof.NormGrad3
public import proofs.«01_k».proof.Proof.InGrad1
public import proofs.«01_k».proof.Proof.InGrad2
public import proofs.«01_k».proof.Proof.InGrad3
public import proofs.«01_k».proof.Proof.OutGrad1
public import proofs.«01_k».proof.Proof.OutGrad3
public import proofs.«01_k».proof.Proof.GluGrad3
public import proofs.«01_k».proof.Proof.Out1
public import proofs.«01_k».proof.Proof.Out3
public import proofs.«01_k».proof.Proof.YgGrad3
public import proofs.«01_k».proof.Proof.In1
public import proofs.«01_k».proof.Proof.In2
public import proofs.«01_k».proof.Proof.In3
public import proofs.«01_k».proof.Proof.MixedGrad2
public import proofs.«01_k».proof.Proof.GrpGrad2
public import proofs.«01_k».proof.Proof.Grp2
public import proofs.«01_k».proof.Proof.Glu3
public import proofs.«01_k».proof.Proof.PoolGate2
public import proofs.«01_k».proof.Proof.GateGrad3
public import proofs.«01_k».proof.Proof.Conv1
public import proofs.«01_k».proof.Proof.Pool2
public import proofs.«01_k».proof.Proof.PoolGrad2
public import proofs.«01_k».proof.Proof.AdamwIn
public import proofs.«01_k».proof.Proof.Loss
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.NormGrad1.Gen.facts, Cert.NormGrad1Ideal.Gen.facts, Cert.RNormGrad1Ideal.Gen.facts,
    Cert.NormGrad2.Gen.facts, Cert.NormGrad2Ideal.Gen.facts, Cert.RNormGrad2Ideal.Gen.facts,
    Cert.NormGrad3.Gen.facts, Cert.NormGrad3Ideal.Gen.facts, Cert.RNormGrad3Ideal.Gen.facts,
    Cert.InGrad1.Gen.facts, Cert.InGrad1Ideal.Gen.facts, Cert.RInGrad1Ideal.Gen.facts,
    Cert.InGrad2.Gen.facts, Cert.InGrad2Ideal.Gen.facts, Cert.RInGrad2Ideal.Gen.facts,
    Cert.InGrad3.Gen.facts, Cert.InGrad3Ideal.Gen.facts, Cert.RInGrad3Ideal.Gen.facts,
    Cert.OutGrad1.Gen.facts, Cert.OutGrad1Ideal.Gen.facts, Cert.ROutGrad1Ideal.Gen.facts,
    Cert.OutGrad3.Gen.facts, Cert.OutGrad3Ideal.Gen.facts, Cert.ROutGrad3Ideal.Gen.facts,
    Cert.GluGrad3.Gen.facts, Cert.GluGrad3Ideal.Gen.facts, Cert.RGluGrad3Ideal.Gen.facts,
    Cert.Out1.Gen.facts, Cert.Out1Ideal.Gen.facts, Cert.ROut1Ideal.Gen.facts,
    Cert.Out3.Gen.facts, Cert.Out3Ideal.Gen.facts, Cert.ROut3Ideal.Gen.facts,
    Cert.YgGrad3.Gen.facts, Cert.YgGrad3Ideal.Gen.facts, Cert.RYgGrad3Ideal.Gen.facts,
    Cert.In1.Gen.facts, Cert.In1Ideal.Gen.facts, Cert.RIn1Ideal.Gen.facts,
    Cert.In2.Gen.facts, Cert.In2Ideal.Gen.facts, Cert.RIn2Ideal.Gen.facts,
    Cert.In3.Gen.facts, Cert.In3Ideal.Gen.facts, Cert.RIn3Ideal.Gen.facts,
    Cert.MixedGrad2.Gen.facts, Cert.MixedGrad2Ideal.Gen.facts, Cert.RMixedGrad2Ideal.Gen.facts,
    Cert.GrpGrad2.Gen.facts, Cert.GrpGrad2Ideal.Gen.facts, Cert.RGrpGrad2Ideal.Gen.facts,
    Cert.Grp2.Gen.facts, Cert.Grp2Ideal.Gen.facts, Cert.RGrp2Ideal.Gen.facts,
    Cert.Glu3.Gen.facts, Cert.Glu3Ideal.Gen.facts, Cert.RGlu3Ideal.Gen.facts,
    Cert.PoolGate2.Gen.facts, Cert.PoolGate2Ideal.Gen.facts, Cert.RPoolGate2Ideal.Gen.facts,
    Cert.GateGrad3.Gen.facts, Cert.GateGrad3Ideal.Gen.facts, Cert.RGateGrad3Ideal.Gen.facts,
    Cert.Conv1.Gen.facts, Cert.Conv1Ideal.Gen.facts, Cert.RConv1Ideal.Gen.facts,
    Cert.Pool2.Gen.facts, Cert.Pool2Ideal.Gen.facts, Cert.RPool2Ideal.Gen.facts,
    Cert.PoolGrad2.Gen.facts, Cert.PoolGrad2Ideal.Gen.facts, Cert.RPoolGrad2Ideal.Gen.facts,
    Cert.AdamwIn.Gen.facts, Cert.AdamwInIdeal.Gen.facts, Cert.RAdamwInIdeal.Gen.facts,
    Cert.Loss.Gen.facts, Cert.LossIdeal.Gen.facts, Cert.RLossIdeal.Gen.facts,
    Cert.Pre_all_finite.Gen.facts, Cert.Pre_projection_finite.Gen.facts, Cert.Pre_gradient_finite.Gen.facts,
    fun m ρ _ => Cert.Kernel.Gen.frame m ρ, fun m ρ _ => Cert.KernelIdeal.Gen.frame m ρ,
    fun m ρ _ => Cert.KernelIdeal.Gen.frame m ρ, Cert.Conv.frame_reference,
    fun m ρ _ => Cert.Conv.frame_reference m ρ trivial,
    fun m ρ _ => Cert.NormGrad1.Gen.frame m ρ, fun m ρ _ => Cert.NormGrad1Ideal.Gen.frame m ρ, Cert.NormGrad1Value.frame_reference,
    fun m ρ _ => Cert.NormGrad2.Gen.frame m ρ, fun m ρ _ => Cert.NormGrad2Ideal.Gen.frame m ρ, Cert.NormGrad2Value.frame_reference,
    fun m ρ _ => Cert.NormGrad3.Gen.frame m ρ, fun m ρ _ => Cert.NormGrad3Ideal.Gen.frame m ρ, Cert.NormGrad3Value.frame_reference,
    fun m ρ _ => Cert.InGrad1.Gen.frame m ρ, fun m ρ _ => Cert.InGrad1Ideal.Gen.frame m ρ, Cert.InGrad1Value.frame_reference,
    fun m ρ _ => Cert.InGrad2.Gen.frame m ρ, fun m ρ _ => Cert.InGrad2Ideal.Gen.frame m ρ, Cert.InGrad2Value.frame_reference,
    fun m ρ _ => Cert.InGrad3.Gen.frame m ρ, fun m ρ _ => Cert.InGrad3Ideal.Gen.frame m ρ, Cert.InGrad3Value.frame_reference,
    fun m ρ _ => Cert.OutGrad1.Gen.frame m ρ, fun m ρ _ => Cert.OutGrad1Ideal.Gen.frame m ρ, Cert.OutGrad1Value.frame_reference,
    fun m ρ _ => Cert.OutGrad3.Gen.frame m ρ, fun m ρ _ => Cert.OutGrad3Ideal.Gen.frame m ρ, Cert.OutGrad3Value.frame_reference,
    fun m ρ _ => Cert.GluGrad3.Gen.frame m ρ, fun m ρ _ => Cert.GluGrad3Ideal.Gen.frame m ρ, Cert.GluGrad3Value.frame_reference,
    fun m ρ _ => Cert.Out1.Gen.frame m ρ, fun m ρ _ => Cert.Out1Ideal.Gen.frame m ρ, Cert.Out1Value.frame_reference,
    fun m ρ _ => Cert.Out3.Gen.frame m ρ, fun m ρ _ => Cert.Out3Ideal.Gen.frame m ρ, Cert.Out3Value.frame_reference,
    fun m ρ _ => Cert.YgGrad3.Gen.frame m ρ, fun m ρ _ => Cert.YgGrad3Ideal.Gen.frame m ρ, Cert.YgGrad3Value.frame_reference,
    Cert.In1Value.frame_kernel, Cert.In1Value.frame_ideal, Cert.In1Value.frame_reference,
    Cert.In2Value.frame_kernel, Cert.In2Value.frame_ideal, Cert.In2Value.frame_reference,
    Cert.In3Value.frame_kernel, Cert.In3Value.frame_ideal, Cert.In3Value.frame_reference,
    fun m ρ _ => Cert.MixedGrad2.Gen.frame m ρ, fun m ρ _ => Cert.MixedGrad2Ideal.Gen.frame m ρ, Cert.MixedGrad2Value.frame_reference,
    fun m ρ _ => Cert.GrpGrad2.Gen.frame m ρ, fun m ρ _ => Cert.GrpGrad2Ideal.Gen.frame m ρ, Cert.GrpGrad2Value.frame_reference,
    fun m ρ _ => Cert.Grp2.Gen.frame m ρ, fun m ρ _ => Cert.Grp2Ideal.Gen.frame m ρ, Cert.Grp2Value.frame_reference,
    fun m ρ _ => Cert.Glu3.Gen.frame m ρ, fun m ρ _ => Cert.Glu3Ideal.Gen.frame m ρ, Cert.Glu3Value.frame_reference,
    fun m ρ _ => Cert.PoolGate2.Gen.frame m ρ, fun m ρ _ => Cert.PoolGate2Ideal.Gen.frame m ρ, Cert.PoolGate2Value.frame_reference,
    fun m ρ _ => Cert.GateGrad3.Gen.frame m ρ, fun m ρ _ => Cert.GateGrad3Ideal.Gen.frame m ρ, Cert.GateGrad3Value.frame_reference,
    fun m ρ _ => Cert.Conv1.Gen.frame m ρ, fun m ρ _ => Cert.Conv1Ideal.Gen.frame m ρ, Cert.Conv1Value.frame_reference,
    fun m ρ _ => Cert.Pool2.Gen.frame m ρ, fun m ρ _ => Cert.Pool2Ideal.Gen.frame m ρ,
    fun m ρ _ => Cert.Pool2Ideal.Gen.frame m ρ, Cert.Pool2Value.frame_reference,
    fun m ρ _ => Cert.Pool2Value.frame_reference m ρ trivial,
    fun m ρ _ => Cert.PoolGrad2.Gen.frame m ρ, fun m ρ _ => Cert.PoolGrad2Ideal.Gen.frame m ρ,
    fun m ρ _ => Cert.PoolGrad2Ideal.Gen.frame m ρ, Cert.PoolGrad2Value.frame_reference,
    fun m ρ _ => Cert.PoolGrad2Value.frame_reference m ρ trivial,
    fun m ρ _ => Cert.AdamwIn.Gen.frame m ρ, fun m ρ _ => Cert.AdamwInIdeal.Gen.frame m ρ, Cert.AdamwInValue.frame_reference,
    fun m ρ _ => Cert.Loss.Gen.frame m ρ, fun m ρ _ => Cert.LossIdeal.Gen.frame m ρ, Cert.LossValue.frame_reference,
    trivial, Cert.Conv.algebraic,
    trivial, Cert.NormGrad1Value.algebraic,
    trivial, Cert.NormGrad2Value.algebraic,
    trivial, Cert.NormGrad3Value.algebraic,
    trivial, Cert.InGrad1Value.algebraic,
    trivial, Cert.InGrad2Value.algebraic,
    trivial, Cert.InGrad3Value.algebraic,
    trivial, Cert.OutGrad1Value.algebraic,
    trivial, Cert.OutGrad3Value.algebraic,
    trivial, Cert.GluGrad3Value.algebraic,
    trivial, Cert.Out1Value.algebraic,
    trivial, Cert.Out3Value.algebraic,
    trivial, Cert.YgGrad3Value.algebraic,
    trivial, Cert.In1Value.algebraic,
    trivial, Cert.In2Value.algebraic,
    trivial, Cert.In3Value.algebraic,
    trivial, Cert.MixedGrad2Value.algebraic,
    trivial, Cert.GrpGrad2Value.algebraic,
    trivial, Cert.Grp2Value.algebraic,
    trivial, Cert.Glu3Value.algebraic,
    trivial, Cert.PoolGate2Value.algebraic,
    trivial, Cert.GateGrad3Value.algebraic,
    trivial, Cert.Conv1Value.algebraic,
    trivial, Cert.Pool2Value.algebraic,
    trivial, Cert.PoolGrad2Value.algebraic,
    trivial, Cert.AdamwInValue.algebraic,
    trivial, Cert.LossValue.algebraic⟩

end Cert.Proof

end
